-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16 : Shape := ⟨1, ![16]⟩
abbrev S4x5 : Shape := ⟨2, ![4, 5]⟩
abbrev S_ : Shape := ⟨0, ![]⟩
abbrev S1 : Shape := ⟨1, ![1]⟩
abbrev S10 : Shape := ⟨1, ![10]⟩
abbrev S10x1 : Shape := ⟨2, ![10, 1]⟩
abbrev S1x5 : Shape := ⟨2, ![1, 5]⟩
abbrev S5 : Shape := ⟨1, ![5]⟩
abbrev S5x1 : Shape := ⟨2, ![5, 1]⟩
abbrev S30 : Shape := ⟨1, ![30]⟩
abbrev S10x128x4096 : Shape := ⟨3, ![10, 128, 4096]⟩
abbrev S5x128x4096 : Shape := ⟨3, ![5, 128, 4096]⟩
abbrev S2 : Shape := ⟨1, ![2]⟩
abbrev S2x128x4096 : Shape := ⟨3, ![2, 128, 4096]⟩
abbrev S16x8x128 : Shape := ⟨3, ![16, 8, 128]⟩
abbrev S1x128x4096 : Shape := ⟨3, ![1, 128, 4096]⟩
abbrev S128x4096 : Shape := ⟨2, ![128, 4096]⟩
abbrev S256x512 : Shape := ⟨2, ![256, 512]⟩
abbrev S1x256x512 : Shape := ⟨3, ![1, 256, 512]⟩
abbrev S1x1x1 : Shape := ⟨3, ![1, 1, 1]⟩
abbrev S128x512 : Shape := ⟨2, ![128, 512]⟩
abbrev S1x128x512 : Shape := ⟨3, ![1, 128, 512]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 281
  | .vmem => 7
  | .smem => 1
  | _ => 0

abbrev hbmTy0_0 (i : Nat) : BufTy := match i % 128 with
  | 0 => ⟨S256x4096, .f32⟩
  | 1 => ⟨S4096x512, .f32⟩
  | 2 => ⟨S16, .i32⟩
  | 3 => ⟨S16, .i32⟩
  | 4 => ⟨S16, .i32⟩
  | 5 => ⟨S16, .i32⟩
  | 6 => ⟨S4x5, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i1⟩
  | 33 => ⟨S_, .i32⟩
  | 34 => ⟨S_, .i1⟩
  | 35 => ⟨S_, .i1⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i1⟩
  | 59 => ⟨S_, .i32⟩
  | 60 => ⟨S_, .i1⟩
  | 61 => ⟨S_, .i1⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S_, .i32⟩
  | 72 => ⟨S10, .i32⟩
  | 73 => ⟨S_, .i32⟩
  | 74 => ⟨S_, .i32⟩
  | 75 => ⟨S_, .i32⟩
  | 76 => ⟨S_, .i32⟩
  | 77 => ⟨S10, .i32⟩
  | 78 => ⟨S10, .i32⟩
  | 79 => ⟨S10, .i32⟩
  | 80 => ⟨S_, .i32⟩
  | 81 => ⟨S10, .i32⟩
  | 82 => ⟨S10, .i1⟩
  | 83 => ⟨S10, .i32⟩
  | 84 => ⟨S10, .i32⟩
  | 85 => ⟨S_, .i32⟩
  | 86 => ⟨S10, .i32⟩
  | 87 => ⟨S10, .i1⟩
  | 88 => ⟨S10, .i1⟩
  | 89 => ⟨S_, .i32⟩
  | 90 => ⟨S10, .i32⟩
  | 91 => ⟨S10, .i32⟩
  | 92 => ⟨S10, .i32⟩
  | 93 => ⟨S10, .i32⟩
  | 94 => ⟨S10, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S10, .i32⟩
  | 102 => ⟨S10, .i32⟩
  | 103 => ⟨S_, .i32⟩
  | 104 => ⟨S10, .i32⟩
  | 105 => ⟨S10, .i1⟩
  | 106 => ⟨S_, .i32⟩
  | 107 => ⟨S10, .i32⟩
  | 108 => ⟨S10, .i1⟩
  | 109 => ⟨S_, .i32⟩
  | 110 => ⟨S_, .i1⟩
  | 111 => ⟨S10, .i1⟩
  | 112 => ⟨S10, .i1⟩
  | 113 => ⟨S10, .i1⟩
  | 114 => ⟨S10, .i32⟩
  | 115 => ⟨S10, .i32⟩
  | 116 => ⟨S10, .i32⟩
  | 117 => ⟨S_, .i32⟩
  | 118 => ⟨S10, .i32⟩
  | 119 => ⟨S10, .i1⟩
  | 120 => ⟨S_, .i32⟩
  | 121 => ⟨S10, .i32⟩
  | 122 => ⟨S10, .i32⟩
  | 123 => ⟨S10, .i32⟩
  | 124 => ⟨S10x1, .i32⟩
  | 125 => ⟨S10, .i32⟩
  | 126 => ⟨S_, .i32⟩
  | 127 => ⟨S_, .i32⟩
  | _ => ⟨S256x4096, .f32⟩

abbrev hbmTy0_1 (i : Nat) : BufTy := match i % 128 with
  | 0 => ⟨S_, .i32⟩
  | 1 => ⟨S_, .i32⟩
  | 2 => ⟨S10, .i32⟩
  | 3 => ⟨S10, .i32⟩
  | 4 => ⟨S10, .i32⟩
  | 5 => ⟨S_, .i32⟩
  | 6 => ⟨S10, .i32⟩
  | 7 => ⟨S10, .i1⟩
  | 8 => ⟨S10, .i32⟩
  | 9 => ⟨S10, .i32⟩
  | 10 => ⟨S_, .i32⟩
  | 11 => ⟨S10, .i32⟩
  | 12 => ⟨S10, .i1⟩
  | 13 => ⟨S10, .i1⟩
  | 14 => ⟨S_, .i32⟩
  | 15 => ⟨S10, .i32⟩
  | 16 => ⟨S10, .i32⟩
  | 17 => ⟨S10, .i32⟩
  | 18 => ⟨S10, .i32⟩
  | 19 => ⟨S10, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S10, .i32⟩
  | 27 => ⟨S10, .i32⟩
  | 28 => ⟨S_, .i32⟩
  | 29 => ⟨S10, .i32⟩
  | 30 => ⟨S10, .i1⟩
  | 31 => ⟨S_, .i32⟩
  | 32 => ⟨S10, .i32⟩
  | 33 => ⟨S10, .i1⟩
  | 34 => ⟨S_, .i32⟩
  | 35 => ⟨S_, .i1⟩
  | 36 => ⟨S10, .i1⟩
  | 37 => ⟨S10, .i1⟩
  | 38 => ⟨S10, .i1⟩
  | 39 => ⟨S10, .i32⟩
  | 40 => ⟨S10, .i32⟩
  | 41 => ⟨S10, .i32⟩
  | 42 => ⟨S_, .i32⟩
  | 43 => ⟨S10, .i32⟩
  | 44 => ⟨S10, .i1⟩
  | 45 => ⟨S_, .i32⟩
  | 46 => ⟨S10, .i32⟩
  | 47 => ⟨S10, .i32⟩
  | 48 => ⟨S10, .i32⟩
  | 49 => ⟨S10x1, .i32⟩
  | 50 => ⟨S10, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i1⟩
  | 62 => ⟨S_, .i32⟩
  | 63 => ⟨S_, .i1⟩
  | 64 => ⟨S_, .i1⟩
  | 65 => ⟨S_, .i1⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S1, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S1, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S1, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x5, .i32⟩
  | 110 => ⟨S5, .i32⟩
  | 111 => ⟨S5, .i32⟩
  | 112 => ⟨S5, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S5, .i32⟩
  | 120 => ⟨S5, .i32⟩
  | 121 => ⟨S_, .i32⟩
  | 122 => ⟨S5, .i32⟩
  | 123 => ⟨S5, .i1⟩
  | 124 => ⟨S_, .i32⟩
  | 125 => ⟨S5, .i32⟩
  | 126 => ⟨S5, .i1⟩
  | 127 => ⟨S_, .i32⟩
  | _ => ⟨S256x4096, .f32⟩

abbrev hbmTy0_2 (i : Nat) : BufTy := match i % 128 with
  | 0 => ⟨S_, .i1⟩
  | 1 => ⟨S5, .i1⟩
  | 2 => ⟨S5, .i1⟩
  | 3 => ⟨S5, .i1⟩
  | 4 => ⟨S5, .i32⟩
  | 5 => ⟨S5, .i32⟩
  | 6 => ⟨S5, .i32⟩
  | 7 => ⟨S_, .i32⟩
  | 8 => ⟨S5, .i32⟩
  | 9 => ⟨S5, .i1⟩
  | 10 => ⟨S_, .i32⟩
  | 11 => ⟨S5, .i32⟩
  | 12 => ⟨S5, .i32⟩
  | 13 => ⟨S5, .i32⟩
  | 14 => ⟨S5x1, .i32⟩
  | 15 => ⟨S5, .i32⟩
  | 16 => ⟨S1, .i32⟩
  | 17 => ⟨S1, .i32⟩
  | 18 => ⟨S1, .i32⟩
  | 19 => ⟨S1, .i32⟩
  | 20 => ⟨S1, .i32⟩
  | 21 => ⟨S30, .i32⟩
  | 22 => ⟨S4096x512, .f32⟩
  | 23 => ⟨S10x128x4096, .f32⟩
  | 24 => ⟨S10x128x4096, .f32⟩
  | _ => ⟨S256x4096, .f32⟩

abbrev hbmTy (i : Nat) : BufTy := match i / 128 with
  | 0 => hbmTy0_0 i
  | 1 => hbmTy0_1 i
  | 2 => hbmTy0_2 i
  | _ => ⟨S256x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S4096x512, .f32⟩
  | .local _ .vmem, ⟨2, _⟩ => ⟨S4096x512, .f32⟩
  | .local _ .vmem, ⟨3, _⟩ => ⟨S5x128x4096, .f32⟩
  | .local _ .vmem, ⟨4, _⟩ => ⟨S5x128x4096, .f32⟩
  | .local _ .vmem, ⟨5, _⟩ => ⟨S2x128x4096, .f32⟩
  | .local _ .vmem, ⟨6, _⟩ => ⟨S16x8x128, .f32⟩
  | .local _ .smem, ⟨0, _⟩ => ⟨S30, .i32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 3 77 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_6 : Ref sig .tc := ⟨.hbm, 13, rfl⟩
abbrev main_v5 : Ref sig .tc := ⟨.hbm, 14, rfl⟩
abbrev main_c_7 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_c_9 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_c_1 : Ref sig .tc := ⟨.hbm, 29, rfl⟩
abbrev main_call0_v4 : Ref sig .tc := ⟨.hbm, 30, rfl⟩
abbrev main_call0_c_2 : Ref sig .tc := ⟨.hbm, 31, rfl⟩
abbrev main_call0_v5 : Ref sig .tc := ⟨.hbm, 32, rfl⟩
abbrev main_call0_c_3 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_v11 : Ref sig .tc := ⟨.hbm, 38, rfl⟩
abbrev main_c_10 : Ref sig .tc := ⟨.hbm, 39, rfl⟩
abbrev main_v12 : Ref sig .tc := ⟨.hbm, 40, rfl⟩
abbrev main_c_11 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_12 : Ref sig .tc := ⟨.hbm, 46, rfl⟩
abbrev main_v17 : Ref sig .tc := ⟨.hbm, 47, rfl⟩
abbrev main_c_13 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_v4 : Ref sig .tc := ⟨.hbm, 56, rfl⟩
abbrev main_call1_c_2 : Ref sig .tc := ⟨.hbm, 57, rfl⟩
abbrev main_call1_v5 : Ref sig .tc := ⟨.hbm, 58, rfl⟩
abbrev main_call1_c_3 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_v18 : Ref sig .tc := ⟨.hbm, 64, rfl⟩
abbrev main_c_14 : Ref sig .tc := ⟨.hbm, 65, rfl⟩
abbrev main_v19 : Ref sig .tc := ⟨.hbm, 66, rfl⟩
abbrev main_c_15 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_16 : Ref sig .tc := ⟨.hbm, 73, rfl⟩
abbrev main_v25 : Ref sig .tc := ⟨.hbm, 74, rfl⟩
abbrev main_c_17 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_c_18 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_1 : Ref sig .tc := ⟨.hbm, 103, rfl⟩
abbrev main_call3_v5 : Ref sig .tc := ⟨.hbm, 104, rfl⟩
abbrev main_call3_v6 : Ref sig .tc := ⟨.hbm, 105, rfl⟩
abbrev main_call3_c_2 : Ref sig .tc := ⟨.hbm, 106, rfl⟩
abbrev main_call3_v7 : Ref sig .tc := ⟨.hbm, 107, rfl⟩
abbrev main_call3_v8 : Ref sig .tc := ⟨.hbm, 108, rfl⟩
abbrev main_call3_c_3 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_v29 : Ref sig .tc := ⟨.hbm, 116, rfl⟩
abbrev main_c_19 : Ref sig .tc := ⟨.hbm, 117, rfl⟩
abbrev main_v30 : Ref sig .tc := ⟨.hbm, 118, rfl⟩
abbrev main_v31 : Ref sig .tc := ⟨.hbm, 119, rfl⟩
abbrev main_c_20 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_c_21 : Ref sig .tc := ⟨.hbm, 126, rfl⟩
abbrev main_v37 : Ref sig .tc := ⟨.hbm, 127, rfl⟩
abbrev main_c_22 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_c_23 : Ref sig .tc := ⟨.hbm, 148, rfl⟩
abbrev main_call5_v0 : Ref sig .tc := ⟨.hbm, 149, rfl⟩
abbrev main_call5_c : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_c_1 : Ref sig .tc := ⟨.hbm, 156, rfl⟩
abbrev main_call5_v5 : Ref sig .tc := ⟨.hbm, 157, rfl⟩
abbrev main_call5_v6 : Ref sig .tc := ⟨.hbm, 158, rfl⟩
abbrev main_call5_c_2 : Ref sig .tc := ⟨.hbm, 159, rfl⟩
abbrev main_call5_v7 : Ref sig .tc := ⟨.hbm, 160, rfl⟩
abbrev main_call5_v8 : Ref sig .tc := ⟨.hbm, 161, rfl⟩
abbrev main_call5_c_3 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_v41 : Ref sig .tc := ⟨.hbm, 169, rfl⟩
abbrev main_c_24 : Ref sig .tc := ⟨.hbm, 170, rfl⟩
abbrev main_v42 : Ref sig .tc := ⟨.hbm, 171, rfl⟩
abbrev main_v43 : Ref sig .tc := ⟨.hbm, 172, rfl⟩
abbrev main_c_25 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_c_26 : Ref sig .tc := ⟨.hbm, 179, rfl⟩
abbrev main_call6_v0 : Ref sig .tc := ⟨.hbm, 180, rfl⟩
abbrev main_call6_c : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_c_1 : Ref sig .tc := ⟨.hbm, 186, rfl⟩
abbrev main_call6_v4 : Ref sig .tc := ⟨.hbm, 187, rfl⟩
abbrev main_call6_c_2 : Ref sig .tc := ⟨.hbm, 188, rfl⟩
abbrev main_call6_v5 : Ref sig .tc := ⟨.hbm, 189, rfl⟩
abbrev main_call6_c_3 : Ref sig .tc := ⟨.hbm, 190, rfl⟩
abbrev main_call6_v6 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_v49 : Ref sig .tc := ⟨.hbm, 195, rfl⟩
abbrev main_c_27 : Ref sig .tc := ⟨.hbm, 196, rfl⟩
abbrev main_v50 : Ref sig .tc := ⟨.hbm, 197, rfl⟩
abbrev main_c_28 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_c_29 : Ref sig .tc := ⟨.hbm, 203, rfl⟩
abbrev main_v55 : Ref sig .tc := ⟨.hbm, 204, rfl⟩
abbrev main_c_30 : Ref sig .tc := ⟨.hbm, 205, rfl⟩
abbrev main_v56 : Ref sig .tc := ⟨.hbm, 206, rfl⟩
abbrev main_v57 : Ref sig .tc := ⟨.hbm, 207, rfl⟩
abbrev main_v58 : Ref sig .tc := ⟨.hbm, 208, rfl⟩
abbrev main_v59 : Ref sig .tc := ⟨.hbm, 209, rfl⟩
abbrev main_c_31 : Ref sig .tc := ⟨.hbm, 210, rfl⟩
abbrev main_v60 : Ref sig .tc := ⟨.hbm, 211, rfl⟩
abbrev main_c_32 : Ref sig .tc := ⟨.hbm, 212, rfl⟩
abbrev main_v61 : Ref sig .tc := ⟨.hbm, 213, rfl⟩
abbrev main_v62 : Ref sig .tc := ⟨.hbm, 214, rfl⟩
abbrev main_v63 : Ref sig .tc := ⟨.hbm, 215, rfl⟩
abbrev main_v64 : Ref sig .tc := ⟨.hbm, 216, rfl⟩
abbrev main_c_33 : Ref sig .tc := ⟨.hbm, 217, rfl⟩
abbrev main_v65 : Ref sig .tc := ⟨.hbm, 218, rfl⟩
abbrev main_c_34 : Ref sig .tc := ⟨.hbm, 219, rfl⟩
abbrev main_v66 : Ref sig .tc := ⟨.hbm, 220, rfl⟩
abbrev main_v67 : Ref sig .tc := ⟨.hbm, 221, rfl⟩
abbrev main_v68 : Ref sig .tc := ⟨.hbm, 222, rfl⟩
abbrev main_v69 : Ref sig .tc := ⟨.hbm, 223, rfl⟩
abbrev main_c_35 : Ref sig .tc := ⟨.hbm, 224, rfl⟩
abbrev main_v70 : Ref sig .tc := ⟨.hbm, 225, rfl⟩
abbrev main_c_36 : Ref sig .tc := ⟨.hbm, 226, rfl⟩
abbrev main_v71 : Ref sig .tc := ⟨.hbm, 227, rfl⟩
abbrev main_v72 : Ref sig .tc := ⟨.hbm, 228, rfl⟩
abbrev main_c_37 : Ref sig .tc := ⟨.hbm, 229, rfl⟩
abbrev main_c_38 : Ref sig .tc := ⟨.hbm, 230, rfl⟩
abbrev main_v73 : Ref sig .tc := ⟨.hbm, 231, rfl⟩
abbrev main_c_39 : Ref sig .tc := ⟨.hbm, 232, rfl⟩
abbrev main_c_40 : Ref sig .tc := ⟨.hbm, 233, rfl⟩
abbrev main_v74 : Ref sig .tc := ⟨.hbm, 234, rfl⟩
abbrev main_c_41 : Ref sig .tc := ⟨.hbm, 235, rfl⟩
abbrev main_v75 : Ref sig .tc := ⟨.hbm, 236, rfl⟩
abbrev main_v76 : Ref sig .tc := ⟨.hbm, 237, rfl⟩
abbrev main_v77 : Ref sig .tc := ⟨.hbm, 238, rfl⟩
abbrev main_v78 : Ref sig .tc := ⟨.hbm, 239, rfl⟩
abbrev main_v79 : Ref sig .tc := ⟨.hbm, 240, rfl⟩
abbrev main_c_42 : Ref sig .tc := ⟨.hbm, 241, rfl⟩
abbrev main_call7_v0 : Ref sig .tc := ⟨.hbm, 242, rfl⟩
abbrev main_call7_c : Ref sig .tc := ⟨.hbm, 243, rfl⟩
abbrev main_call7_v1 : Ref sig .tc := ⟨.hbm, 244, rfl⟩
abbrev main_call7_c_0 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_call7_c_1 : Ref sig .tc := ⟨.hbm, 249, rfl⟩
abbrev main_call7_v5 : Ref sig .tc := ⟨.hbm, 250, rfl⟩
abbrev main_call7_v6 : Ref sig .tc := ⟨.hbm, 251, rfl⟩
abbrev main_call7_c_2 : Ref sig .tc := ⟨.hbm, 252, rfl⟩
abbrev main_call7_v7 : Ref sig .tc := ⟨.hbm, 253, rfl⟩
abbrev main_call7_v8 : Ref sig .tc := ⟨.hbm, 254, rfl⟩
abbrev main_call7_c_3 : Ref sig .tc := ⟨.hbm, 255, rfl⟩
abbrev main_call7_v9 : Ref sig .tc := ⟨.hbm, 256, rfl⟩
abbrev main_call7_v10 : Ref sig .tc := ⟨.hbm, 257, rfl⟩
abbrev main_call7_v11 : Ref sig .tc := ⟨.hbm, 258, rfl⟩
abbrev main_call7_v12 : Ref sig .tc := ⟨.hbm, 259, rfl⟩
abbrev main_call7_v13 : Ref sig .tc := ⟨.hbm, 260, rfl⟩
abbrev main_call7_v14 : Ref sig .tc := ⟨.hbm, 261, rfl⟩
abbrev main_v80 : Ref sig .tc := ⟨.hbm, 262, rfl⟩
abbrev main_c_43 : Ref sig .tc := ⟨.hbm, 263, rfl⟩
abbrev main_v81 : Ref sig .tc := ⟨.hbm, 264, rfl⟩
abbrev main_v82 : Ref sig .tc := ⟨.hbm, 265, rfl⟩
abbrev main_c_44 : Ref sig .tc := ⟨.hbm, 266, rfl⟩
abbrev main_v83 : Ref sig .tc := ⟨.hbm, 267, rfl⟩
abbrev main_v84 : Ref sig .tc := ⟨.hbm, 268, rfl⟩
abbrev main_v85 : Ref sig .tc := ⟨.hbm, 269, rfl⟩
abbrev main_v86 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_v93 : Ref sig .tc := ⟨.hbm, 277, rfl⟩
abbrev main_v94_0 : Ref sig .tc := ⟨.hbm, 278, rfl⟩
abbrev main_v94_1 : Ref sig .tc := ⟨.hbm, 279, rfl⟩
abbrev main_v94_2 : Ref sig .tc := ⟨.hbm, 280, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch10 : Ref sig .tc := ⟨.vmem, 5, rfl⟩
abbrev cc0_scratch11 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (v0 : BitVec 32) : Nat :=
  v0.toNat

def k0_dev2 (v1 : BitVec 32) : Nat :=
  v1.toNat

def k0_dev3 (v2 : BitVec 32) : Nat :=
  v2.toNat

def k0_chk3 (v2 : BitVec 32) : Prop :=
  ((k0_dev3 v2) < nD)
theorem k0_dev3_lt : ∀ (v2 : BitVec 32) (k0_hw3 : k0_chk3 v2), (k0_dev3 v2) < nD := fun v2 k0_hw3 => k0_hw3

def k0_dev4 (v3 : BitVec 32) : Nat :=
  v3.toNat

def k0_chk4 (v3 : BitVec 32) : Prop :=
  ((k0_dev4 v3) < nD)
theorem k0_dev4_lt : ∀ (v3 : BitVec 32) (k0_hw4 : k0_chk4 v3), (k0_dev4 v3) < nD := fun v3 k0_hw4 => k0_hw4

def k0_dev5 (v0 : BitVec 32) : Nat :=
  v0.toNat
def k0_dev6 (v0 : BitVec 32) : Nat :=
  v0.toNat
def k0_dev7 (v1 : BitVec 32) : Nat :=
  v1.toNat
def k0_dev8 (v1 : BitVec 32) : Nat :=
  v1.toNat
def k0_dev9 (v2 : BitVec 32) : Nat :=
  v2.toNat
def k0_cond1 (v4 : BitVec 32) : BitVec 1 :=
  let c0_i32_30 : BitVec 32 := 0#32
  let v37 : BitVec 1 := Scalar.cmpi .eq v4 c0_i32_30
  let v38 : BitVec 32 := Scalar.extui v37
  let c0_i32_39 : BitVec 32 := 0#32
  let v39 : BitVec 1 := Scalar.cmpi .ne v38 c0_i32_39
  v39

def k0_dev10 (v2 : BitVec 32) : Nat :=
  v2.toNat
def k0_dev11 (v2 : BitVec 32) : Nat :=
  v2.toNat
def k0_cond2 (v4 : BitVec 32) : BitVec 1 :=
  let c3_i32 : BitVec 32 := 3#32
  let v40 : BitVec 1 := Scalar.cmpi .eq v4 c3_i32
  let v41 : BitVec 32 := Scalar.extui v40
  let c0_i32_48 : BitVec 32 := 0#32
  let v42 : BitVec 1 := Scalar.cmpi .ne v41 c0_i32_48
  v42

def k0_dev12 (v2 : BitVec 32) : Nat :=
  v2.toNat
def k0_off1 (d5 : Dev nD) : Fin 2 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c256_i32 : BitVec 32 := 256#32
  let v50 : BitVec 32 := Scalar.muli v7 c256_i32
  let v51 : Index := Scalar.indexCast v50
  let c0_54 : Index := 0#32
  ![v51.toNat, 0]
def k0_dev13 (v0 : BitVec 32) : Nat :=
  v0.toNat
def k0_dev14 (v1 : BitVec 32) : Nat :=
  v1.toNat
def k0_off2 (v95 : BitVec 32) : Fin 2 → Nat :=
  let c256_i32_106 : BitVec 32 := 256#32
  let v98 : BitVec 32 := Scalar.muli v95 c256_i32_106
  let c0_i32_107 : BitVec 32 := 0#32
  let v99 : BitVec 32 := Scalar.addi v98 c0_i32_107
  let v105 : Index := Scalar.indexCast v99
  let c0_112 : Index := 0#32
  ![v105.toNat, 0]

def k0_chk6 (v95 : BitVec 32) : Prop :=
  (∀ a, (k0_off2 v95) a + S128x512.size a ≤ S4096x512.size a)
theorem k0_off2_inb : ∀ (v95 : BitVec 32) (k0_hw6 : k0_chk6 v95), ∀ a, (k0_off2 v95) a + S128x512.size a ≤ S4096x512.size a := fun v95 k0_hw6 => k0_hw6

def k0_off3 (v112 : BitVec 32) : Fin 2 → Nat :=
  let c256_i32_117 : BitVec 32 := 256#32
  let v115 : BitVec 32 := Scalar.muli v112 c256_i32_117
  let c128_i32_118 : BitVec 32 := 128#32
  let v116 : BitVec 32 := Scalar.addi v115 c128_i32_118
  let v122 : Index := Scalar.indexCast v116
  let c0_123 : Index := 0#32
  ![v122.toNat, 0]

def k0_chk7 (v112 : BitVec 32) : Prop :=
  (∀ a, (k0_off3 v112) a + S128x512.size a ≤ S4096x512.size a)
theorem k0_off3_inb : ∀ (v112 : BitVec 32) (k0_hw7 : k0_chk7 v112), ∀ a, (k0_off3 v112) a + S128x512.size a ≤ S4096x512.size a := fun v112 k0_hw7 => k0_hw7

def k0_dev15 (v0 : BitVec 32) : Nat :=
  v0.toNat
def k0_dev16 (v1 : BitVec 32) : Nat :=
  v1.toNat
def k0_dev17 (v2 : BitVec 32) : Nat :=
  v2.toNat
def k0_cond3 (v4 : BitVec 32) : BitVec 1 :=
  let c0_i32_173 : BitVec 32 := 0#32
  let v167 : BitVec 1 := Scalar.cmpi .eq v4 c0_i32_173
  let v168 : BitVec 32 := Scalar.extui v167
  let c0_i32_193 : BitVec 32 := 0#32
  let v169 : BitVec 1 := Scalar.cmpi .ne v168 c0_i32_193
  v169

def k0_dev18 (v2 : BitVec 32) : Nat :=
  v2.toNat
def k0_dev19 (v2 : BitVec 32) : Nat :=
  v2.toNat
def k0_dev20 (v2 : BitVec 32) : Nat :=
  v2.toNat
def k0_dev21 (v2 : BitVec 32) : Nat :=
  v2.toNat
def k0_cond4 (v4 : BitVec 32) : BitVec 1 :=
  let c1_i32_194 : BitVec 32 := 1#32
  let v170 : BitVec 1 := Scalar.cmpi .eq v4 c1_i32_194
  let v171 : BitVec 32 := Scalar.extui v170
  let c0_i32_205 : BitVec 32 := 0#32
  let v172 : BitVec 1 := Scalar.cmpi .ne v171 c0_i32_205
  v172

def k0_dev22 (v2 : BitVec 32) : Nat :=
  v2.toNat
def k0_dev23 (v2 : BitVec 32) : Nat :=
  v2.toNat
def k0_cond5 (v4 : BitVec 32) : BitVec 1 :=
  let c2_i32_206 : BitVec 32 := 2#32
  let v173 : BitVec 1 := Scalar.cmpi .eq v4 c2_i32_206
  let v174 : BitVec 32 := Scalar.extui v173
  let c0_i32_217 : BitVec 32 := 0#32
  let v175 : BitVec 1 := Scalar.cmpi .ne v174 c0_i32_217
  v175

def k0_dev24 (v2 : BitVec 32) : Nat :=
  v2.toNat
def k0_dev25 (v2 : BitVec 32) : Nat :=
  v2.toNat
def k0_cond6 (v4 : BitVec 32) : BitVec 1 :=
  let c3_i32_218 : BitVec 32 := 3#32
  let v176 : BitVec 1 := Scalar.cmpi .eq v4 c3_i32_218
  let v177 : BitVec 32 := Scalar.extui v176
  let c0_i32_239 : BitVec 32 := 0#32
  let v178 : BitVec 1 := Scalar.cmpi .ne v177 c0_i32_239
  v178

def k0_dev26 (v2 : BitVec 32) : Nat :=
  v2.toNat
def k0_dev27 (v2 : BitVec 32) : Nat :=
  v2.toNat
def k0_dev28 (v2 : BitVec 32) : Nat :=
  v2.toNat
def k0_off4 (v179 : BitVec 32) : Fin 2 → Nat :=
  let c256_i32_243 : BitVec 32 := 256#32
  let v182 : BitVec 32 := Scalar.muli v179 c256_i32_243
  let c128_i32_244 : BitVec 32 := 128#32
  let v183 : BitVec 32 := Scalar.addi v182 c128_i32_244
  let v189 : Index := Scalar.indexCast v183
  let c0_249 : Index := 0#32
  ![v189.toNat, 0]

def k0_chk8 (v179 : BitVec 32) : Prop :=
  (∀ a, (k0_off4 v179) a + S128x512.size a ≤ S4096x512.size a)
theorem k0_off4_inb : ∀ (v179 : BitVec 32) (k0_hw8 : k0_chk8 v179), ∀ a, (k0_off4 v179) a + S128x512.size a ≤ S4096x512.size a := fun v179 k0_hw8 => k0_hw8

def k0_off5 (v196 : BitVec 32) : Fin 2 → Nat :=
  let c256_i32_254 : BitVec 32 := 256#32
  let v199 : BitVec 32 := Scalar.muli v196 c256_i32_254
  let c0_i32_255 : BitVec 32 := 0#32
  let v200 : BitVec 32 := Scalar.addi v199 c0_i32_255
  let v206 : Index := Scalar.indexCast v200
  let c0_260 : Index := 0#32
  ![v206.toNat, 0]

def k0_chk9 (v196 : BitVec 32) : Prop :=
  (∀ a, (k0_off5 v196) a + S128x512.size a ≤ S4096x512.size a)
theorem k0_off5_inb : ∀ (v196 : BitVec 32) (k0_hw9 : k0_chk9 v196), ∀ a, (k0_off5 v196) a + S128x512.size a ≤ S4096x512.size a := fun v196 k0_hw9 => k0_hw9

def k0_dev29 (v1 : BitVec 32) : Nat :=
  v1.toNat
def k0_dev30 (v0 : BitVec 32) : Nat :=
  v0.toNat
def k0_dev31 (v0 : BitVec 32) : Nat :=
  v0.toNat
def k0_dev32 (v1 : BitVec 32) : Nat :=
  v1.toNat
def k0_off6 (v257 : BitVec 32) : Fin 2 → Nat :=
  let c256_i32_319 : BitVec 32 := 256#32
  let v260 : BitVec 32 := Scalar.muli v257 c256_i32_319
  let c0_i32_320 : BitVec 32 := 0#32
  let v261 : BitVec 32 := Scalar.addi v260 c0_i32_320
  let v267 : Index := Scalar.indexCast v261
  let c0_325 : Index := 0#32
  ![v267.toNat, 0]

def k0_chk10 (v257 : BitVec 32) : Prop :=
  (∀ a, (k0_off6 v257) a + S128x512.size a ≤ S4096x512.size a)
theorem k0_off6_inb : ∀ (v257 : BitVec 32) (k0_hw10 : k0_chk10 v257), ∀ a, (k0_off6 v257) a + S128x512.size a ≤ S4096x512.size a := fun v257 k0_hw10 => k0_hw10

def k0_off7 (v274 : BitVec 32) : Fin 2 → Nat :=
  let c256_i32_330 : BitVec 32 := 256#32
  let v277 : BitVec 32 := Scalar.muli v274 c256_i32_330
  let c128_i32_331 : BitVec 32 := 128#32
  let v278 : BitVec 32 := Scalar.addi v277 c128_i32_331
  let v284 : Index := Scalar.indexCast v278
  let c0_336 : Index := 0#32
  ![v284.toNat, 0]

def k0_chk11 (v274 : BitVec 32) : Prop :=
  (∀ a, (k0_off7 v274) a + S128x512.size a ≤ S4096x512.size a)
theorem k0_off7_inb : ∀ (v274 : BitVec 32) (k0_hw11 : k0_chk11 v274), ∀ a, (k0_off7 v274) a + S128x512.size a ≤ S4096x512.size a := fun v274 k0_hw11 => k0_hw11

def k0_dev33 (v1 : BitVec 32) : Nat :=
  v1.toNat
def k0_dev34 (v0 : BitVec 32) : Nat :=
  v0.toNat
def k0_dev35 (v0 : BitVec 32) : Nat :=
  v0.toNat
def k0_dev36 (v1 : BitVec 32) : Nat :=
  v1.toNat
def k0_dev37 (v3 : BitVec 32) : Nat :=
  v3.toNat
def k0_cond7 (v4 : BitVec 32) : BitVec 1 :=
  let c0_i32_398 : BitVec 32 := 0#32
  let v339 : BitVec 1 := Scalar.cmpi .eq v4 c0_i32_398
  let v340 : BitVec 32 := Scalar.extui v339
  let c0_i32_407 : BitVec 32 := 0#32
  let v341 : BitVec 1 := Scalar.cmpi .ne v340 c0_i32_407
  v341

def k0_dev38 (v3 : BitVec 32) : Nat :=
  v3.toNat
def k0_dev39 (v2 : BitVec 32) : Nat :=
  v2.toNat
def k0_cond8 (v4 : BitVec 32) : BitVec 1 :=
  let c1_i32_408 : BitVec 32 := 1#32
  let v342 : BitVec 1 := Scalar.cmpi .eq v4 c1_i32_408
  let v343 : BitVec 32 := Scalar.extui v342
  let c0_i32_419 : BitVec 32 := 0#32
  let v344 : BitVec 1 := Scalar.cmpi .ne v343 c0_i32_419
  v344

def k0_dev40 (v2 : BitVec 32) : Nat :=
  v2.toNat
def k0_dev41 (v2 : BitVec 32) : Nat :=
  v2.toNat
def k0_cond9 (v4 : BitVec 32) : BitVec 1 :=
  let c2_i32_420 : BitVec 32 := 2#32
  let v345 : BitVec 1 := Scalar.cmpi .eq v4 c2_i32_420
  let v346 : BitVec 32 := Scalar.extui v345
  let c0_i32_431 : BitVec 32 := 0#32
  let v347 : BitVec 1 := Scalar.cmpi .ne v346 c0_i32_431
  v347

def k0_dev42 (v2 : BitVec 32) : Nat :=
  v2.toNat
def k0_dev43 (v3 : BitVec 32) : Nat :=
  v3.toNat
def k0_cond10 (v4 : BitVec 32) : BitVec 1 :=
  let c3_i32_432 : BitVec 32 := 3#32
  let v348 : BitVec 1 := Scalar.cmpi .eq v4 c3_i32_432
  let v349 : BitVec 32 := Scalar.extui v348
  let c0_i32_443 : BitVec 32 := 0#32
  let v350 : BitVec 1 := Scalar.cmpi .ne v349 c0_i32_443
  v350

def k0_dev44 (v3 : BitVec 32) : Nat :=
  v3.toNat
def k0_off8 (v351 : BitVec 32) : Fin 2 → Nat :=
  let c256_i32_447 : BitVec 32 := 256#32
  let v354 : BitVec 32 := Scalar.muli v351 c256_i32_447
  let c128_i32_448 : BitVec 32 := 128#32
  let v355 : BitVec 32 := Scalar.addi v354 c128_i32_448
  let v361 : Index := Scalar.indexCast v355
  let c0_453 : Index := 0#32
  ![v361.toNat, 0]

def k0_chk12 (v351 : BitVec 32) : Prop :=
  (∀ a, (k0_off8 v351) a + S128x512.size a ≤ S4096x512.size a)
theorem k0_off8_inb : ∀ (v351 : BitVec 32) (k0_hw12 : k0_chk12 v351), ∀ a, (k0_off8 v351) a + S128x512.size a ≤ S4096x512.size a := fun v351 k0_hw12 => k0_hw12

def k0_off9 (v368 : BitVec 32) : Fin 2 → Nat :=
  let c256_i32_458 : BitVec 32 := 256#32
  let v371 : BitVec 32 := Scalar.muli v368 c256_i32_458
  let c0_i32_459 : BitVec 32 := 0#32
  let v372 : BitVec 32 := Scalar.addi v371 c0_i32_459
  let v378 : Index := Scalar.indexCast v372
  let c0_464 : Index := 0#32
  ![v378.toNat, 0]

def k0_chk13 (v368 : BitVec 32) : Prop :=
  (∀ a, (k0_off9 v368) a + S128x512.size a ≤ S4096x512.size a)
theorem k0_off9_inb : ∀ (v368 : BitVec 32) (k0_hw13 : k0_chk13 v368), ∀ a, (k0_off9 v368) a + S128x512.size a ≤ S4096x512.size a := fun v368 k0_hw13 => k0_hw13

def k0_dev45 (v1 : BitVec 32) : Nat :=
  v1.toNat
def k0_dev46 (v0 : BitVec 32) : Nat :=
  v0.toNat
def k0_dev47 (v0 : BitVec 32) : Nat :=
  v0.toNat
def k0_dev48 (v1 : BitVec 32) : Nat :=
  v1.toNat
def k0_off10 (v447 : BitVec 32) : Fin 2 → Nat :=
  let c256_i32_549 : BitVec 32 := 256#32
  let v450 : BitVec 32 := Scalar.muli v447 c256_i32_549
  let c0_i32_550 : BitVec 32 := 0#32
  let v451 : BitVec 32 := Scalar.addi v450 c0_i32_550
  let v457 : Index := Scalar.indexCast v451
  let c0_555 : Index := 0#32
  ![v457.toNat, 0]

def k0_chk14 (v447 : BitVec 32) : Prop :=
  (∀ a, (k0_off10 v447) a + S128x512.size a ≤ S4096x512.size a)
theorem k0_off10_inb : ∀ (v447 : BitVec 32) (k0_hw14 : k0_chk14 v447), ∀ a, (k0_off10 v447) a + S128x512.size a ≤ S4096x512.size a := fun v447 k0_hw14 => k0_hw14

def k0_off11 (v464 : BitVec 32) : Fin 2 → Nat :=
  let c256_i32_560 : BitVec 32 := 256#32
  let v467 : BitVec 32 := Scalar.muli v464 c256_i32_560
  let c0_i32_561 : BitVec 32 := 0#32
  let v468 : BitVec 32 := Scalar.addi v467 c0_i32_561
  let v474 : Index := Scalar.indexCast v468
  let c0_566 : Index := 0#32
  ![v474.toNat, 0]

def k0_chk15 (v464 : BitVec 32) : Prop :=
  (∀ a, (k0_off11 v464) a + S128x512.size a ≤ S4096x512.size a)
theorem k0_off11_inb : ∀ (v464 : BitVec 32) (k0_hw15 : k0_chk15 v464), ∀ a, (k0_off11 v464) a + S128x512.size a ≤ S4096x512.size a := fun v464 k0_hw15 => k0_hw15

def k0_off12 (v481 : BitVec 32) : Fin 2 → Nat :=
  let c256_i32_571 : BitVec 32 := 256#32
  let v484 : BitVec 32 := Scalar.muli v481 c256_i32_571
  let c128_i32_572 : BitVec 32 := 128#32
  let v485 : BitVec 32 := Scalar.addi v484 c128_i32_572
  let v491 : Index := Scalar.indexCast v485
  let c0_577 : Index := 0#32
  ![v491.toNat, 0]

def k0_chk16 (v481 : BitVec 32) : Prop :=
  (∀ a, (k0_off12 v481) a + S128x512.size a ≤ S4096x512.size a)
theorem k0_off12_inb : ∀ (v481 : BitVec 32) (k0_hw16 : k0_chk16 v481), ∀ a, (k0_off12 v481) a + S128x512.size a ≤ S4096x512.size a := fun v481 k0_hw16 => k0_hw16

def k0_dev49 (v1 : BitVec 32) : Nat :=
  v1.toNat
def k0_dev50 (v0 : BitVec 32) : Nat :=
  v0.toNat
def k0_dev51 (v0 : BitVec 32) : Nat :=
  v0.toNat
def k0_dev52 (v1 : BitVec 32) : Nat :=
  v1.toNat
def k0_dev53 (v3 : BitVec 32) : Nat :=
  v3.toNat
def k0_cond11 (v4 : BitVec 32) : BitVec 1 :=
  let c0_i32_639 : BitVec 32 := 0#32
  let v546 : BitVec 1 := Scalar.cmpi .eq v4 c0_i32_639
  let v547 : BitVec 32 := Scalar.extui v546
  let c0_i32_648 : BitVec 32 := 0#32
  let v548 : BitVec 1 := Scalar.cmpi .ne v547 c0_i32_648
  v548

def k0_dev54 (v3 : BitVec 32) : Nat :=
  v3.toNat
def k0_dev55 (v2 : BitVec 32) : Nat :=
  v2.toNat
def k0_cond12 (v4 : BitVec 32) : BitVec 1 :=
  let c1_i32_649 : BitVec 32 := 1#32
  let v549 : BitVec 1 := Scalar.cmpi .eq v4 c1_i32_649
  let v550 : BitVec 32 := Scalar.extui v549
  let c0_i32_670 : BitVec 32 := 0#32
  let v551 : BitVec 1 := Scalar.cmpi .ne v550 c0_i32_670
  v551

def k0_dev56 (v2 : BitVec 32) : Nat :=
  v2.toNat
def k0_dev57 (v3 : BitVec 32) : Nat :=
  v3.toNat
def k0_dev58 (v3 : BitVec 32) : Nat :=
  v3.toNat
def k0_dev59 (v2 : BitVec 32) : Nat :=
  v2.toNat
def k0_cond13 (v4 : BitVec 32) : BitVec 1 :=
  let c2_i32_671 : BitVec 32 := 2#32
  let v552 : BitVec 1 := Scalar.cmpi .eq v4 c2_i32_671
  let v553 : BitVec 32 := Scalar.extui v552
  let c0_i32_692 : BitVec 32 := 0#32
  let v554 : BitVec 1 := Scalar.cmpi .ne v553 c0_i32_692
  v554

def k0_dev60 (v2 : BitVec 32) : Nat :=
  v2.toNat
def k0_dev61 (v3 : BitVec 32) : Nat :=
  v3.toNat
def k0_dev62 (v3 : BitVec 32) : Nat :=
  v3.toNat
def k0_dev63 (v3 : BitVec 32) : Nat :=
  v3.toNat
def k0_cond14 (v4 : BitVec 32) : BitVec 1 :=
  let c3_i32_693 : BitVec 32 := 3#32
  let v555 : BitVec 1 := Scalar.cmpi .eq v4 c3_i32_693
  let v556 : BitVec 32 := Scalar.extui v555
  let c0_i32_704 : BitVec 32 := 0#32
  let v557 : BitVec 1 := Scalar.cmpi .ne v556 c0_i32_704
  v557

def k0_dev64 (v3 : BitVec 32) : Nat :=
  v3.toNat
def k0_off13 (v572 : BitVec 32) : Fin 2 → Nat :=
  let c256_i32_729 : BitVec 32 := 256#32
  let v575 : BitVec 32 := Scalar.muli v572 c256_i32_729
  let c128_i32_730 : BitVec 32 := 128#32
  let v576 : BitVec 32 := Scalar.addi v575 c128_i32_730
  let v582 : Index := Scalar.indexCast v576
  let c0_735 : Index := 0#32
  ![v582.toNat, 0]

def k0_chk17 (v572 : BitVec 32) : Prop :=
  (∀ a, (k0_off13 v572) a + S128x512.size a ≤ S4096x512.size a)
theorem k0_off13_inb : ∀ (v572 : BitVec 32) (k0_hw17 : k0_chk17 v572), ∀ a, (k0_off13 v572) a + S128x512.size a ≤ S4096x512.size a := fun v572 k0_hw17 => k0_hw17

def k0_off14 (v589 : BitVec 32) : Fin 2 → Nat :=
  let c256_i32_740 : BitVec 32 := 256#32
  let v592 : BitVec 32 := Scalar.muli v589 c256_i32_740
  let c128_i32_741 : BitVec 32 := 128#32
  let v593 : BitVec 32 := Scalar.addi v592 c128_i32_741
  let v599 : Index := Scalar.indexCast v593
  let c0_746 : Index := 0#32
  ![v599.toNat, 0]

def k0_chk18 (v589 : BitVec 32) : Prop :=
  (∀ a, (k0_off14 v589) a + S128x512.size a ≤ S4096x512.size a)
theorem k0_off14_inb : ∀ (v589 : BitVec 32) (k0_hw18 : k0_chk18 v589), ∀ a, (k0_off14 v589) a + S128x512.size a ≤ S4096x512.size a := fun v589 k0_hw18 => k0_hw18

def k0_off15 (v606 : BitVec 32) : Fin 2 → Nat :=
  let c256_i32_751 : BitVec 32 := 256#32
  let v609 : BitVec 32 := Scalar.muli v606 c256_i32_751
  let c0_i32_752 : BitVec 32 := 0#32
  let v610 : BitVec 32 := Scalar.addi v609 c0_i32_752
  let v616 : Index := Scalar.indexCast v610
  let c0_757 : Index := 0#32
  ![v616.toNat, 0]

def k0_chk19 (v606 : BitVec 32) : Prop :=
  (∀ a, (k0_off15 v606) a + S128x512.size a ≤ S4096x512.size a)
theorem k0_off15_inb : ∀ (v606 : BitVec 32) (k0_hw19 : k0_chk19 v606), ∀ a, (k0_off15 v606) a + S128x512.size a ≤ S4096x512.size a := fun v606 k0_hw19 => k0_hw19

def k0_dev65 (v1 : BitVec 32) : Nat :=
  v1.toNat
def k0_dev66 (v0 : BitVec 32) : Nat :=
  v0.toNat
def k0_dev67 (v0 : BitVec 32) : Nat :=
  v0.toNat
def k0_dev68 (v1 : BitVec 32) : Nat :=
  v1.toNat
def k0_off16 (v685 : BitVec 32) : Fin 2 → Nat :=
  let c256_i32_842 : BitVec 32 := 256#32
  let v688 : BitVec 32 := Scalar.muli v685 c256_i32_842
  let c0_i32_843 : BitVec 32 := 0#32
  let v689 : BitVec 32 := Scalar.addi v688 c0_i32_843
  let v695 : Index := Scalar.indexCast v689
  let c0_848 : Index := 0#32
  ![v695.toNat, 0]

def k0_chk20 (v685 : BitVec 32) : Prop :=
  (∀ a, (k0_off16 v685) a + S128x512.size a ≤ S4096x512.size a)
theorem k0_off16_inb : ∀ (v685 : BitVec 32) (k0_hw20 : k0_chk20 v685), ∀ a, (k0_off16 v685) a + S128x512.size a ≤ S4096x512.size a := fun v685 k0_hw20 => k0_hw20

def k0_off17 (v702 : BitVec 32) : Fin 2 → Nat :=
  let c256_i32_853 : BitVec 32 := 256#32
  let v705 : BitVec 32 := Scalar.muli v702 c256_i32_853
  let c0_i32_854 : BitVec 32 := 0#32
  let v706 : BitVec 32 := Scalar.addi v705 c0_i32_854
  let v712 : Index := Scalar.indexCast v706
  let c0_859 : Index := 0#32
  ![v712.toNat, 0]

def k0_chk21 (v702 : BitVec 32) : Prop :=
  (∀ a, (k0_off17 v702) a + S128x512.size a ≤ S4096x512.size a)
theorem k0_off17_inb : ∀ (v702 : BitVec 32) (k0_hw21 : k0_chk21 v702), ∀ a, (k0_off17 v702) a + S128x512.size a ≤ S4096x512.size a := fun v702 k0_hw21 => k0_hw21

def k0_off18 (v719 : BitVec 32) : Fin 2 → Nat :=
  let c256_i32_864 : BitVec 32 := 256#32
  let v722 : BitVec 32 := Scalar.muli v719 c256_i32_864
  let c128_i32_865 : BitVec 32 := 128#32
  let v723 : BitVec 32 := Scalar.addi v722 c128_i32_865
  let v729 : Index := Scalar.indexCast v723
  let c0_870 : Index := 0#32
  ![v729.toNat, 0]

def k0_chk22 (v719 : BitVec 32) : Prop :=
  (∀ a, (k0_off18 v719) a + S128x512.size a ≤ S4096x512.size a)
theorem k0_off18_inb : ∀ (v719 : BitVec 32) (k0_hw22 : k0_chk22 v719), ∀ a, (k0_off18 v719) a + S128x512.size a ≤ S4096x512.size a := fun v719 k0_hw22 => k0_hw22

def k0_dev69 (v0 : BitVec 32) : Nat :=
  v0.toNat

def k0_chk1 (v0 : BitVec 32) : Prop :=
  ((k0_dev1 v0) < nD) ∧
  ((k0_dev5 v0) < nD) ∧
  ((k0_dev6 v0) < nD) ∧
  ((k0_dev13 v0) < nD) ∧
  ((k0_dev15 v0) < nD) ∧
  ((k0_dev30 v0) < nD) ∧
  ((k0_dev31 v0) < nD) ∧
  ((k0_dev34 v0) < nD) ∧
  ((k0_dev35 v0) < nD) ∧
  ((k0_dev46 v0) < nD) ∧
  ((k0_dev47 v0) < nD) ∧
  ((k0_dev50 v0) < nD) ∧
  ((k0_dev51 v0) < nD) ∧
  ((k0_dev66 v0) < nD) ∧
  ((k0_dev67 v0) < nD) ∧
  ((k0_dev69 v0) < nD)
theorem k0_dev1_lt : ∀ (v0 : BitVec 32) (k0_hw1 : k0_chk1 v0), (k0_dev1 v0) < nD := fun v0 k0_hw1 => k0_hw1.1
theorem k0_dev5_lt : ∀ (v0 : BitVec 32) (k0_hw1 : k0_chk1 v0), (k0_dev5 v0) < nD := fun v0 k0_hw1 => k0_hw1.2.1
theorem k0_dev6_lt : ∀ (v0 : BitVec 32) (k0_hw1 : k0_chk1 v0), (k0_dev6 v0) < nD := fun v0 k0_hw1 => k0_hw1.2.2.1
theorem k0_dev13_lt : ∀ (v0 : BitVec 32) (k0_hw1 : k0_chk1 v0), (k0_dev13 v0) < nD := fun v0 k0_hw1 => k0_hw1.2.2.2.1
theorem k0_dev15_lt : ∀ (v0 : BitVec 32) (k0_hw1 : k0_chk1 v0), (k0_dev15 v0) < nD := fun v0 k0_hw1 => k0_hw1.2.2.2.2.1
theorem k0_dev30_lt : ∀ (v0 : BitVec 32) (k0_hw1 : k0_chk1 v0), (k0_dev30 v0) < nD := fun v0 k0_hw1 => k0_hw1.2.2.2.2.2.1
theorem k0_dev31_lt : ∀ (v0 : BitVec 32) (k0_hw1 : k0_chk1 v0), (k0_dev31 v0) < nD := fun v0 k0_hw1 => k0_hw1.2.2.2.2.2.2.1
theorem k0_dev34_lt : ∀ (v0 : BitVec 32) (k0_hw1 : k0_chk1 v0), (k0_dev34 v0) < nD := fun v0 k0_hw1 => k0_hw1.2.2.2.2.2.2.2.1
theorem k0_dev35_lt : ∀ (v0 : BitVec 32) (k0_hw1 : k0_chk1 v0), (k0_dev35 v0) < nD := fun v0 k0_hw1 => k0_hw1.2.2.2.2.2.2.2.2.1
theorem k0_dev46_lt : ∀ (v0 : BitVec 32) (k0_hw1 : k0_chk1 v0), (k0_dev46 v0) < nD := fun v0 k0_hw1 => k0_hw1.2.2.2.2.2.2.2.2.2.1
theorem k0_dev47_lt : ∀ (v0 : BitVec 32) (k0_hw1 : k0_chk1 v0), (k0_dev47 v0) < nD := fun v0 k0_hw1 => k0_hw1.2.2.2.2.2.2.2.2.2.2.1
theorem k0_dev50_lt : ∀ (v0 : BitVec 32) (k0_hw1 : k0_chk1 v0), (k0_dev50 v0) < nD := fun v0 k0_hw1 => k0_hw1.2.2.2.2.2.2.2.2.2.2.2.1
theorem k0_dev51_lt : ∀ (v0 : BitVec 32) (k0_hw1 : k0_chk1 v0), (k0_dev51 v0) < nD := fun v0 k0_hw1 => k0_hw1.2.2.2.2.2.2.2.2.2.2.2.2.1
theorem k0_dev66_lt : ∀ (v0 : BitVec 32) (k0_hw1 : k0_chk1 v0), (k0_dev66 v0) < nD := fun v0 k0_hw1 => k0_hw1.2.2.2.2.2.2.2.2.2.2.2.2.2.1
theorem k0_dev67_lt : ∀ (v0 : BitVec 32) (k0_hw1 : k0_chk1 v0), (k0_dev67 v0) < nD := fun v0 k0_hw1 => k0_hw1.2.2.2.2.2.2.2.2.2.2.2.2.2.2.1
theorem k0_dev69_lt : ∀ (v0 : BitVec 32) (k0_hw1 : k0_chk1 v0), (k0_dev69 v0) < nD := fun v0 k0_hw1 => k0_hw1.2.2.2.2.2.2.2.2.2.2.2.2.2.2.2

def k0_dev70 (v1 : BitVec 32) : Nat :=
  v1.toNat

def k0_chk2 (v1 : BitVec 32) : Prop :=
  ((k0_dev2 v1) < nD) ∧
  ((k0_dev7 v1) < nD) ∧
  ((k0_dev8 v1) < nD) ∧
  ((k0_dev14 v1) < nD) ∧
  ((k0_dev16 v1) < nD) ∧
  ((k0_dev29 v1) < nD) ∧
  ((k0_dev32 v1) < nD) ∧
  ((k0_dev33 v1) < nD) ∧
  ((k0_dev36 v1) < nD) ∧
  ((k0_dev45 v1) < nD) ∧
  ((k0_dev48 v1) < nD) ∧
  ((k0_dev49 v1) < nD) ∧
  ((k0_dev52 v1) < nD) ∧
  ((k0_dev65 v1) < nD) ∧
  ((k0_dev68 v1) < nD) ∧
  ((k0_dev70 v1) < nD)
theorem k0_dev2_lt : ∀ (v1 : BitVec 32) (k0_hw2 : k0_chk2 v1), (k0_dev2 v1) < nD := fun v1 k0_hw2 => k0_hw2.1
theorem k0_dev7_lt : ∀ (v1 : BitVec 32) (k0_hw2 : k0_chk2 v1), (k0_dev7 v1) < nD := fun v1 k0_hw2 => k0_hw2.2.1
theorem k0_dev8_lt : ∀ (v1 : BitVec 32) (k0_hw2 : k0_chk2 v1), (k0_dev8 v1) < nD := fun v1 k0_hw2 => k0_hw2.2.2.1
theorem k0_dev14_lt : ∀ (v1 : BitVec 32) (k0_hw2 : k0_chk2 v1), (k0_dev14 v1) < nD := fun v1 k0_hw2 => k0_hw2.2.2.2.1
theorem k0_dev16_lt : ∀ (v1 : BitVec 32) (k0_hw2 : k0_chk2 v1), (k0_dev16 v1) < nD := fun v1 k0_hw2 => k0_hw2.2.2.2.2.1
theorem k0_dev29_lt : ∀ (v1 : BitVec 32) (k0_hw2 : k0_chk2 v1), (k0_dev29 v1) < nD := fun v1 k0_hw2 => k0_hw2.2.2.2.2.2.1
theorem k0_dev32_lt : ∀ (v1 : BitVec 32) (k0_hw2 : k0_chk2 v1), (k0_dev32 v1) < nD := fun v1 k0_hw2 => k0_hw2.2.2.2.2.2.2.1
theorem k0_dev33_lt : ∀ (v1 : BitVec 32) (k0_hw2 : k0_chk2 v1), (k0_dev33 v1) < nD := fun v1 k0_hw2 => k0_hw2.2.2.2.2.2.2.2.1
theorem k0_dev36_lt : ∀ (v1 : BitVec 32) (k0_hw2 : k0_chk2 v1), (k0_dev36 v1) < nD := fun v1 k0_hw2 => k0_hw2.2.2.2.2.2.2.2.2.1
theorem k0_dev45_lt : ∀ (v1 : BitVec 32) (k0_hw2 : k0_chk2 v1), (k0_dev45 v1) < nD := fun v1 k0_hw2 => k0_hw2.2.2.2.2.2.2.2.2.2.1
theorem k0_dev48_lt : ∀ (v1 : BitVec 32) (k0_hw2 : k0_chk2 v1), (k0_dev48 v1) < nD := fun v1 k0_hw2 => k0_hw2.2.2.2.2.2.2.2.2.2.2.1
theorem k0_dev49_lt : ∀ (v1 : BitVec 32) (k0_hw2 : k0_chk2 v1), (k0_dev49 v1) < nD := fun v1 k0_hw2 => k0_hw2.2.2.2.2.2.2.2.2.2.2.2.1
theorem k0_dev52_lt : ∀ (v1 : BitVec 32) (k0_hw2 : k0_chk2 v1), (k0_dev52 v1) < nD := fun v1 k0_hw2 => k0_hw2.2.2.2.2.2.2.2.2.2.2.2.2.1
theorem k0_dev65_lt : ∀ (v1 : BitVec 32) (k0_hw2 : k0_chk2 v1), (k0_dev65 v1) < nD := fun v1 k0_hw2 => k0_hw2.2.2.2.2.2.2.2.2.2.2.2.2.2.1
theorem k0_dev68_lt : ∀ (v1 : BitVec 32) (k0_hw2 : k0_chk2 v1), (k0_dev68 v1) < nD := fun v1 k0_hw2 => k0_hw2.2.2.2.2.2.2.2.2.2.2.2.2.2.2.1
theorem k0_dev70_lt : ∀ (v1 : BitVec 32) (k0_hw2 : k0_chk2 v1), (k0_dev70 v1) < nD := fun v1 k0_hw2 => k0_hw2.2.2.2.2.2.2.2.2.2.2.2.2.2.2.2

def k0_dev71 (v3 : BitVec 32) : Nat :=
  v3.toNat
def k0_cond15 (v4 : BitVec 32) : BitVec 1 :=
  let c1_i32_928 : BitVec 32 := 1#32
  let v780 : BitVec 1 := Scalar.cmpi .eq v4 c1_i32_928
  let v781 : BitVec 32 := Scalar.extui v780
  let c0_i32_939 : BitVec 32 := 0#32
  let v782 : BitVec 1 := Scalar.cmpi .ne v781 c0_i32_939
  v782

def k0_dev72 (v3 : BitVec 32) : Nat :=
  v3.toNat
def k0_dev73 (v3 : BitVec 32) : Nat :=
  v3.toNat
def k0_cond16 (v4 : BitVec 32) : BitVec 1 :=
  let c2_i32_940 : BitVec 32 := 2#32
  let v783 : BitVec 1 := Scalar.cmpi .eq v4 c2_i32_940
  let v784 : BitVec 32 := Scalar.extui v783
  let c0_i32_951 : BitVec 32 := 0#32
  let v785 : BitVec 1 := Scalar.cmpi .ne v784 c0_i32_951
  v785

def k0_dev74 (v3 : BitVec 32) : Nat :=
  v3.toNat

def k0_chk5_0 (v2 : BitVec 32) (v3 : BitVec 32) (v4 : BitVec 32) : Prop :=
  (∀ (k0_h1 : k0_cond1 v4 = 1#1), (k0_dev9 v2) < nD) ∧
  (∀ (k0_h1 : k0_cond1 v4 = 1#1), (k0_dev10 v2) < nD) ∧
  (∀ (k0_h2 : k0_cond2 v4 = 1#1), (k0_dev11 v2) < nD) ∧
  (∀ (k0_h2 : k0_cond2 v4 = 1#1), (k0_dev12 v2) < nD) ∧
  (∀ (k0_h3 : k0_cond3 v4 = 1#1), (k0_dev17 v2) < nD) ∧
  (∀ (k0_h3 : k0_cond3 v4 = 1#1), (k0_dev18 v2) < nD) ∧
  (∀ (k0_h3 : k0_cond3 v4 = 1#1), (k0_dev19 v2) < nD) ∧
  (∀ (k0_h3 : k0_cond3 v4 = 1#1), (k0_dev20 v2) < nD) ∧
  (∀ (k0_h4 : k0_cond4 v4 = 1#1), (k0_dev21 v2) < nD) ∧
  (∀ (k0_h4 : k0_cond4 v4 = 1#1), (k0_dev22 v2) < nD) ∧
  (∀ (k0_h5 : k0_cond5 v4 = 1#1), (k0_dev23 v2) < nD) ∧
  (∀ (k0_h5 : k0_cond5 v4 = 1#1), (k0_dev24 v2) < nD) ∧
  (∀ (k0_h6 : k0_cond6 v4 = 1#1), (k0_dev25 v2) < nD) ∧
  (∀ (k0_h6 : k0_cond6 v4 = 1#1), (k0_dev26 v2) < nD) ∧
  (∀ (k0_h6 : k0_cond6 v4 = 1#1), (k0_dev27 v2) < nD) ∧
  (∀ (k0_h6 : k0_cond6 v4 = 1#1), (k0_dev28 v2) < nD) ∧
  (∀ (k0_h7 : k0_cond7 v4 = 1#1), (k0_dev37 v3) < nD) ∧
  (∀ (k0_h7 : k0_cond7 v4 = 1#1), (k0_dev38 v3) < nD) ∧
  (∀ (k0_h8 : k0_cond8 v4 = 1#1), (k0_dev39 v2) < nD) ∧
  (∀ (k0_h8 : k0_cond8 v4 = 1#1), (k0_dev40 v2) < nD) ∧
  (∀ (k0_h9 : k0_cond9 v4 = 1#1), (k0_dev41 v2) < nD) ∧
  (∀ (k0_h9 : k0_cond9 v4 = 1#1), (k0_dev42 v2) < nD) ∧
  (∀ (k0_h10 : k0_cond10 v4 = 1#1), (k0_dev43 v3) < nD) ∧
  (∀ (k0_h10 : k0_cond10 v4 = 1#1), (k0_dev44 v3) < nD) ∧
  (∀ (k0_h11 : k0_cond11 v4 = 1#1), (k0_dev53 v3) < nD) ∧
  (∀ (k0_h11 : k0_cond11 v4 = 1#1), (k0_dev54 v3) < nD) ∧
  (∀ (k0_h12 : k0_cond12 v4 = 1#1), (k0_dev55 v2) < nD) ∧
  (∀ (k0_h12 : k0_cond12 v4 = 1#1), (k0_dev56 v2) < nD) ∧
  (∀ (k0_h12 : k0_cond12 v4 = 1#1), (k0_dev57 v3) < nD) ∧
  (∀ (k0_h12 : k0_cond12 v4 = 1#1), (k0_dev58 v3) < nD) ∧
  (∀ (k0_h13 : k0_cond13 v4 = 1#1), (k0_dev59 v2) < nD) ∧
  (∀ (k0_h13 : k0_cond13 v4 = 1#1), (k0_dev60 v2) < nD)
def k0_chk5_1 (v2 : BitVec 32) (v3 : BitVec 32) (v4 : BitVec 32) : Prop :=
  (∀ (k0_h13 : k0_cond13 v4 = 1#1), (k0_dev61 v3) < nD) ∧
  (∀ (k0_h13 : k0_cond13 v4 = 1#1), (k0_dev62 v3) < nD) ∧
  (∀ (k0_h14 : k0_cond14 v4 = 1#1), (k0_dev63 v3) < nD) ∧
  (∀ (k0_h14 : k0_cond14 v4 = 1#1), (k0_dev64 v3) < nD) ∧
  (∀ (k0_h15 : k0_cond15 v4 = 1#1), (k0_dev71 v3) < nD) ∧
  (∀ (k0_h15 : k0_cond15 v4 = 1#1), (k0_dev72 v3) < nD) ∧
  (∀ (k0_h16 : k0_cond16 v4 = 1#1), (k0_dev73 v3) < nD) ∧
  (∀ (k0_h16 : k0_cond16 v4 = 1#1), (k0_dev74 v3) < nD)
def k0_chk5 (v2 : BitVec 32) (v3 : BitVec 32) (v4 : BitVec 32) : Prop :=
  k0_chk5_0 v2 v3 v4 ∧
  k0_chk5_1 v2 v3 v4
theorem k0_dev9_lt : ∀ (v2 : BitVec 32) (v3 : BitVec 32) (v4 : BitVec 32) (k0_hw5 : k0_chk5 v2 v3 v4), ∀ (k0_h1 : k0_cond1 v4 = 1#1), (k0_dev9 v2) < nD := fun v2 v3 v4 k0_hw5 k0_h1 => k0_hw5.1.1 k0_h1
theorem k0_dev10_lt : ∀ (v2 : BitVec 32) (v3 : BitVec 32) (v4 : BitVec 32) (k0_hw5 : k0_chk5 v2 v3 v4), ∀ (k0_h1 : k0_cond1 v4 = 1#1), (k0_dev10 v2) < nD := fun v2 v3 v4 k0_hw5 k0_h1 => k0_hw5.1.2.1 k0_h1
theorem k0_dev11_lt : ∀ (v2 : BitVec 32) (v3 : BitVec 32) (v4 : BitVec 32) (k0_hw5 : k0_chk5 v2 v3 v4), ∀ (k0_h2 : k0_cond2 v4 = 1#1), (k0_dev11 v2) < nD := fun v2 v3 v4 k0_hw5 k0_h2 => k0_hw5.1.2.2.1 k0_h2
theorem k0_dev12_lt : ∀ (v2 : BitVec 32) (v3 : BitVec 32) (v4 : BitVec 32) (k0_hw5 : k0_chk5 v2 v3 v4), ∀ (k0_h2 : k0_cond2 v4 = 1#1), (k0_dev12 v2) < nD := fun v2 v3 v4 k0_hw5 k0_h2 => k0_hw5.1.2.2.2.1 k0_h2
theorem k0_dev17_lt : ∀ (v2 : BitVec 32) (v3 : BitVec 32) (v4 : BitVec 32) (k0_hw5 : k0_chk5 v2 v3 v4), ∀ (k0_h3 : k0_cond3 v4 = 1#1), (k0_dev17 v2) < nD := fun v2 v3 v4 k0_hw5 k0_h3 => k0_hw5.1.2.2.2.2.1 k0_h3
theorem k0_dev18_lt : ∀ (v2 : BitVec 32) (v3 : BitVec 32) (v4 : BitVec 32) (k0_hw5 : k0_chk5 v2 v3 v4), ∀ (k0_h3 : k0_cond3 v4 = 1#1), (k0_dev18 v2) < nD := fun v2 v3 v4 k0_hw5 k0_h3 => k0_hw5.1.2.2.2.2.2.1 k0_h3
theorem k0_dev19_lt : ∀ (v2 : BitVec 32) (v3 : BitVec 32) (v4 : BitVec 32) (k0_hw5 : k0_chk5 v2 v3 v4), ∀ (k0_h3 : k0_cond3 v4 = 1#1), (k0_dev19 v2) < nD := fun v2 v3 v4 k0_hw5 k0_h3 => k0_hw5.1.2.2.2.2.2.2.1 k0_h3
theorem k0_dev20_lt : ∀ (v2 : BitVec 32) (v3 : BitVec 32) (v4 : BitVec 32) (k0_hw5 : k0_chk5 v2 v3 v4), ∀ (k0_h3 : k0_cond3 v4 = 1#1), (k0_dev20 v2) < nD := fun v2 v3 v4 k0_hw5 k0_h3 => k0_hw5.1.2.2.2.2.2.2.2.1 k0_h3
theorem k0_dev21_lt : ∀ (v2 : BitVec 32) (v3 : BitVec 32) (v4 : BitVec 32) (k0_hw5 : k0_chk5 v2 v3 v4), ∀ (k0_h4 : k0_cond4 v4 = 1#1), (k0_dev21 v2) < nD := fun v2 v3 v4 k0_hw5 k0_h4 => k0_hw5.1.2.2.2.2.2.2.2.2.1 k0_h4
theorem k0_dev22_lt : ∀ (v2 : BitVec 32) (v3 : BitVec 32) (v4 : BitVec 32) (k0_hw5 : k0_chk5 v2 v3 v4), ∀ (k0_h4 : k0_cond4 v4 = 1#1), (k0_dev22 v2) < nD := fun v2 v3 v4 k0_hw5 k0_h4 => k0_hw5.1.2.2.2.2.2.2.2.2.2.1 k0_h4
theorem k0_dev23_lt : ∀ (v2 : BitVec 32) (v3 : BitVec 32) (v4 : BitVec 32) (k0_hw5 : k0_chk5 v2 v3 v4), ∀ (k0_h5 : k0_cond5 v4 = 1#1), (k0_dev23 v2) < nD := fun v2 v3 v4 k0_hw5 k0_h5 => k0_hw5.1.2.2.2.2.2.2.2.2.2.2.1 k0_h5
theorem k0_dev24_lt : ∀ (v2 : BitVec 32) (v3 : BitVec 32) (v4 : BitVec 32) (k0_hw5 : k0_chk5 v2 v3 v4), ∀ (k0_h5 : k0_cond5 v4 = 1#1), (k0_dev24 v2) < nD := fun v2 v3 v4 k0_hw5 k0_h5 => k0_hw5.1.2.2.2.2.2.2.2.2.2.2.2.1 k0_h5
theorem k0_dev25_lt : ∀ (v2 : BitVec 32) (v3 : BitVec 32) (v4 : BitVec 32) (k0_hw5 : k0_chk5 v2 v3 v4), ∀ (k0_h6 : k0_cond6 v4 = 1#1), (k0_dev25 v2) < nD := fun v2 v3 v4 k0_hw5 k0_h6 => k0_hw5.1.2.2.2.2.2.2.2.2.2.2.2.2.1 k0_h6
theorem k0_dev26_lt : ∀ (v2 : BitVec 32) (v3 : BitVec 32) (v4 : BitVec 32) (k0_hw5 : k0_chk5 v2 v3 v4), ∀ (k0_h6 : k0_cond6 v4 = 1#1), (k0_dev26 v2) < nD := fun v2 v3 v4 k0_hw5 k0_h6 => k0_hw5.1.2.2.2.2.2.2.2.2.2.2.2.2.2.1 k0_h6
theorem k0_dev27_lt : ∀ (v2 : BitVec 32) (v3 : BitVec 32) (v4 : BitVec 32) (k0_hw5 : k0_chk5 v2 v3 v4), ∀ (k0_h6 : k0_cond6 v4 = 1#1), (k0_dev27 v2) < nD := fun v2 v3 v4 k0_hw5 k0_h6 => k0_hw5.1.2.2.2.2.2.2.2.2.2.2.2.2.2.2.1 k0_h6
theorem k0_dev28_lt : ∀ (v2 : BitVec 32) (v3 : BitVec 32) (v4 : BitVec 32) (k0_hw5 : k0_chk5 v2 v3 v4), ∀ (k0_h6 : k0_cond6 v4 = 1#1), (k0_dev28 v2) < nD := fun v2 v3 v4 k0_hw5 k0_h6 => k0_hw5.1.2.2.2.2.2.2.2.2.2.2.2.2.2.2.2.1 k0_h6
theorem k0_dev37_lt : ∀ (v2 : BitVec 32) (v3 : BitVec 32) (v4 : BitVec 32) (k0_hw5 : k0_chk5 v2 v3 v4), ∀ (k0_h7 : k0_cond7 v4 = 1#1), (k0_dev37 v3) < nD := fun v2 v3 v4 k0_hw5 k0_h7 => k0_hw5.1.2.2.2.2.2.2.2.2.2.2.2.2.2.2.2.2.1 k0_h7
theorem k0_dev38_lt : ∀ (v2 : BitVec 32) (v3 : BitVec 32) (v4 : BitVec 32) (k0_hw5 : k0_chk5 v2 v3 v4), ∀ (k0_h7 : k0_cond7 v4 = 1#1), (k0_dev38 v3) < nD := fun v2 v3 v4 k0_hw5 k0_h7 => k0_hw5.1.2.2.2.2.2.2.2.2.2.2.2.2.2.2.2.2.2.1 k0_h7
theorem k0_dev39_lt : ∀ (v2 : BitVec 32) (v3 : BitVec 32) (v4 : BitVec 32) (k0_hw5 : k0_chk5 v2 v3 v4), ∀ (k0_h8 : k0_cond8 v4 = 1#1), (k0_dev39 v2) < nD := fun v2 v3 v4 k0_hw5 k0_h8 => k0_hw5.1.2.2.2.2.2.2.2.2.2.2.2.2.2.2.2.2.2.2.1 k0_h8
theorem k0_dev40_lt : ∀ (v2 : BitVec 32) (v3 : BitVec 32) (v4 : BitVec 32) (k0_hw5 : k0_chk5 v2 v3 v4), ∀ (k0_h8 : k0_cond8 v4 = 1#1), (k0_dev40 v2) < nD := fun v2 v3 v4 k0_hw5 k0_h8 => k0_hw5.1.2.2.2.2.2.2.2.2.2.2.2.2.2.2.2.2.2.2.2.1 k0_h8
theorem k0_dev41_lt : ∀ (v2 : BitVec 32) (v3 : BitVec 32) (v4 : BitVec 32) (k0_hw5 : k0_chk5 v2 v3 v4), ∀ (k0_h9 : k0_cond9 v4 = 1#1), (k0_dev41 v2) < nD := fun v2 v3 v4 k0_hw5 k0_h9 => k0_hw5.1.2.2.2.2.2.2.2.2.2.2.2.2.2.2.2.2.2.2.2.2.1 k0_h9
theorem k0_dev42_lt : ∀ (v2 : BitVec 32) (v3 : BitVec 32) (v4 : BitVec 32) (k0_hw5 : k0_chk5 v2 v3 v4), ∀ (k0_h9 : k0_cond9 v4 = 1#1), (k0_dev42 v2) < nD := fun v2 v3 v4 k0_hw5 k0_h9 => k0_hw5.1.2.2.2.2.2.2.2.2.2.2.2.2.2.2.2.2.2.2.2.2.2.1 k0_h9
theorem k0_dev43_lt : ∀ (v2 : BitVec 32) (v3 : BitVec 32) (v4 : BitVec 32) (k0_hw5 : k0_chk5 v2 v3 v4), ∀ (k0_h10 : k0_cond10 v4 = 1#1), (k0_dev43 v3) < nD := fun v2 v3 v4 k0_hw5 k0_h10 => k0_hw5.1.2.2.2.2.2.2.2.2.2.2.2.2.2.2.2.2.2.2.2.2.2.2.1 k0_h10
theorem k0_dev44_lt : ∀ (v2 : BitVec 32) (v3 : BitVec 32) (v4 : BitVec 32) (k0_hw5 : k0_chk5 v2 v3 v4), ∀ (k0_h10 : k0_cond10 v4 = 1#1), (k0_dev44 v3) < nD := fun v2 v3 v4 k0_hw5 k0_h10 => k0_hw5.1.2.2.2.2.2.2.2.2.2.2.2.2.2.2.2.2.2.2.2.2.2.2.2.1 k0_h10
theorem k0_dev53_lt : ∀ (v2 : BitVec 32) (v3 : BitVec 32) (v4 : BitVec 32) (k0_hw5 : k0_chk5 v2 v3 v4), ∀ (k0_h11 : k0_cond11 v4 = 1#1), (k0_dev53 v3) < nD := fun v2 v3 v4 k0_hw5 k0_h11 => k0_hw5.1.2.2.2.2.2.2.2.2.2.2.2.2.2.2.2.2.2.2.2.2.2.2.2.2.1 k0_h11
theorem k0_dev54_lt : ∀ (v2 : BitVec 32) (v3 : BitVec 32) (v4 : BitVec 32) (k0_hw5 : k0_chk5 v2 v3 v4), ∀ (k0_h11 : k0_cond11 v4 = 1#1), (k0_dev54 v3) < nD := fun v2 v3 v4 k0_hw5 k0_h11 => k0_hw5.1.2.2.2.2.2.2.2.2.2.2.2.2.2.2.2.2.2.2.2.2.2.2.2.2.2.1 k0_h11
theorem k0_dev55_lt : ∀ (v2 : BitVec 32) (v3 : BitVec 32) (v4 : BitVec 32) (k0_hw5 : k0_chk5 v2 v3 v4), ∀ (k0_h12 : k0_cond12 v4 = 1#1), (k0_dev55 v2) < nD := fun v2 v3 v4 k0_hw5 k0_h12 => k0_hw5.1.2.2.2.2.2.2.2.2.2.2.2.2.2.2.2.2.2.2.2.2.2.2.2.2.2.2.1 k0_h12
theorem k0_dev56_lt : ∀ (v2 : BitVec 32) (v3 : BitVec 32) (v4 : BitVec 32) (k0_hw5 : k0_chk5 v2 v3 v4), ∀ (k0_h12 : k0_cond12 v4 = 1#1), (k0_dev56 v2) < nD := fun v2 v3 v4 k0_hw5 k0_h12 => k0_hw5.1.2.2.2.2.2.2.2.2.2.2.2.2.2.2.2.2.2.2.2.2.2.2.2.2.2.2.2.1 k0_h12
theorem k0_dev57_lt : ∀ (v2 : BitVec 32) (v3 : BitVec 32) (v4 : BitVec 32) (k0_hw5 : k0_chk5 v2 v3 v4), ∀ (k0_h12 : k0_cond12 v4 = 1#1), (k0_dev57 v3) < nD := fun v2 v3 v4 k0_hw5 k0_h12 => k0_hw5.1.2.2.2.2.2.2.2.2.2.2.2.2.2.2.2.2.2.2.2.2.2.2.2.2.2.2.2.2.1 k0_h12
theorem k0_dev58_lt : ∀ (v2 : BitVec 32) (v3 : BitVec 32) (v4 : BitVec 32) (k0_hw5 : k0_chk5 v2 v3 v4), ∀ (k0_h12 : k0_cond12 v4 = 1#1), (k0_dev58 v3) < nD := fun v2 v3 v4 k0_hw5 k0_h12 => k0_hw5.1.2.2.2.2.2.2.2.2.2.2.2.2.2.2.2.2.2.2.2.2.2.2.2.2.2.2.2.2.2.1 k0_h12
theorem k0_dev59_lt : ∀ (v2 : BitVec 32) (v3 : BitVec 32) (v4 : BitVec 32) (k0_hw5 : k0_chk5 v2 v3 v4), ∀ (k0_h13 : k0_cond13 v4 = 1#1), (k0_dev59 v2) < nD := fun v2 v3 v4 k0_hw5 k0_h13 => k0_hw5.1.2.2.2.2.2.2.2.2.2.2.2.2.2.2.2.2.2.2.2.2.2.2.2.2.2.2.2.2.2.2.1 k0_h13
theorem k0_dev60_lt : ∀ (v2 : BitVec 32) (v3 : BitVec 32) (v4 : BitVec 32) (k0_hw5 : k0_chk5 v2 v3 v4), ∀ (k0_h13 : k0_cond13 v4 = 1#1), (k0_dev60 v2) < nD := fun v2 v3 v4 k0_hw5 k0_h13 => k0_hw5.1.2.2.2.2.2.2.2.2.2.2.2.2.2.2.2.2.2.2.2.2.2.2.2.2.2.2.2.2.2.2.2 k0_h13
theorem k0_dev61_lt : ∀ (v2 : BitVec 32) (v3 : BitVec 32) (v4 : BitVec 32) (k0_hw5 : k0_chk5 v2 v3 v4), ∀ (k0_h13 : k0_cond13 v4 = 1#1), (k0_dev61 v3) < nD := fun v2 v3 v4 k0_hw5 k0_h13 => k0_hw5.2.1 k0_h13
theorem k0_dev62_lt : ∀ (v2 : BitVec 32) (v3 : BitVec 32) (v4 : BitVec 32) (k0_hw5 : k0_chk5 v2 v3 v4), ∀ (k0_h13 : k0_cond13 v4 = 1#1), (k0_dev62 v3) < nD := fun v2 v3 v4 k0_hw5 k0_h13 => k0_hw5.2.2.1 k0_h13
theorem k0_dev63_lt : ∀ (v2 : BitVec 32) (v3 : BitVec 32) (v4 : BitVec 32) (k0_hw5 : k0_chk5 v2 v3 v4), ∀ (k0_h14 : k0_cond14 v4 = 1#1), (k0_dev63 v3) < nD := fun v2 v3 v4 k0_hw5 k0_h14 => k0_hw5.2.2.2.1 k0_h14
theorem k0_dev64_lt : ∀ (v2 : BitVec 32) (v3 : BitVec 32) (v4 : BitVec 32) (k0_hw5 : k0_chk5 v2 v3 v4), ∀ (k0_h14 : k0_cond14 v4 = 1#1), (k0_dev64 v3) < nD := fun v2 v3 v4 k0_hw5 k0_h14 => k0_hw5.2.2.2.2.1 k0_h14
theorem k0_dev71_lt : ∀ (v2 : BitVec 32) (v3 : BitVec 32) (v4 : BitVec 32) (k0_hw5 : k0_chk5 v2 v3 v4), ∀ (k0_h15 : k0_cond15 v4 = 1#1), (k0_dev71 v3) < nD := fun v2 v3 v4 k0_hw5 k0_h15 => k0_hw5.2.2.2.2.2.1 k0_h15
theorem k0_dev72_lt : ∀ (v2 : BitVec 32) (v3 : BitVec 32) (v4 : BitVec 32) (k0_hw5 : k0_chk5 v2 v3 v4), ∀ (k0_h15 : k0_cond15 v4 = 1#1), (k0_dev72 v3) < nD := fun v2 v3 v4 k0_hw5 k0_h15 => k0_hw5.2.2.2.2.2.2.1 k0_h15
theorem k0_dev73_lt : ∀ (v2 : BitVec 32) (v3 : BitVec 32) (v4 : BitVec 32) (k0_hw5 : k0_chk5 v2 v3 v4), ∀ (k0_h16 : k0_cond16 v4 = 1#1), (k0_dev73 v3) < nD := fun v2 v3 v4 k0_hw5 k0_h16 => k0_hw5.2.2.2.2.2.2.2.1 k0_h16
theorem k0_dev74_lt : ∀ (v2 : BitVec 32) (v3 : BitVec 32) (v4 : BitVec 32) (k0_hw5 : k0_chk5 v2 v3 v4), ∀ (k0_h16 : k0_cond16 v4 = 1#1), (k0_dev74 v3) < nD := fun v2 v3 v4 k0_hw5 k0_h16 => k0_hw5.2.2.2.2.2.2.2.2 k0_h16

def k0_off19 (v800 : BitVec 32) : Fin 2 → Nat :=
  let c256_i32_976 : BitVec 32 := 256#32
  let v803 : BitVec 32 := Scalar.muli v800 c256_i32_976
  let c128_i32_977 : BitVec 32 := 128#32
  let v804 : BitVec 32 := Scalar.addi v803 c128_i32_977
  let v810 : Index := Scalar.indexCast v804
  let c0_982 : Index := 0#32
  ![v810.toNat, 0]

def k0_chk23 (v800 : BitVec 32) : Prop :=
  (∀ a, (k0_off19 v800) a + S128x512.size a ≤ S4096x512.size a)
theorem k0_off19_inb : ∀ (v800 : BitVec 32) (k0_hw23 : k0_chk23 v800), ∀ a, (k0_off19 v800) a + S128x512.size a ≤ S4096x512.size a := fun v800 k0_hw23 => k0_hw23

def k0_off20 (v817 : BitVec 32) : Fin 2 → Nat :=
  let c256_i32_987 : BitVec 32 := 256#32
  let v820 : BitVec 32 := Scalar.muli v817 c256_i32_987
  let c128_i32_988 : BitVec 32 := 128#32
  let v821 : BitVec 32 := Scalar.addi v820 c128_i32_988
  let v827 : Index := Scalar.indexCast v821
  let c0_993 : Index := 0#32
  ![v827.toNat, 0]

def k0_chk24 (v817 : BitVec 32) : Prop :=
  (∀ a, (k0_off20 v817) a + S128x512.size a ≤ S4096x512.size a)
theorem k0_off20_inb : ∀ (v817 : BitVec 32) (k0_hw24 : k0_chk24 v817), ∀ a, (k0_off20 v817) a + S128x512.size a ≤ S4096x512.size a := fun v817 k0_hw24 => k0_hw24

def k0_off21 (v834 : BitVec 32) : Fin 2 → Nat :=
  let c256_i32_998 : BitVec 32 := 256#32
  let v837 : BitVec 32 := Scalar.muli v834 c256_i32_998
  let c0_i32_999 : BitVec 32 := 0#32
  let v838 : BitVec 32 := Scalar.addi v837 c0_i32_999
  let v844 : Index := Scalar.indexCast v838
  let c0_1004 : Index := 0#32
  ![v844.toNat, 0]

def k0_chk25 (v834 : BitVec 32) : Prop :=
  (∀ a, (k0_off21 v834) a + S128x512.size a ≤ S4096x512.size a)
theorem k0_off21_inb : ∀ (v834 : BitVec 32) (k0_hw25 : k0_chk25 v834), ∀ a, (k0_off21 v834) a + S128x512.size a ≤ S4096x512.size a := fun v834 k0_hw25 => k0_hw25

def k0_off22 (v889 : BitVec 32) : Fin 2 → Nat :=
  let c256_i32_1063 : BitVec 32 := 256#32
  let v892 : BitVec 32 := Scalar.muli v889 c256_i32_1063
  let c0_i32_1064 : BitVec 32 := 0#32
  let v893 : BitVec 32 := Scalar.addi v892 c0_i32_1064
  let v899 : Index := Scalar.indexCast v893
  let c0_1069 : Index := 0#32
  ![v899.toNat, 0]

def k0_chk26 (v889 : BitVec 32) : Prop :=
  (∀ a, (k0_off22 v889) a + S128x512.size a ≤ S4096x512.size a)
theorem k0_off22_inb : ∀ (v889 : BitVec 32) (k0_hw26 : k0_chk26 v889), ∀ a, (k0_off22 v889) a + S128x512.size a ≤ S4096x512.size a := fun v889 k0_hw26 => k0_hw26

def k0_off23 (v906 : BitVec 32) : Fin 2 → Nat :=
  let c256_i32_1074 : BitVec 32 := 256#32
  let v909 : BitVec 32 := Scalar.muli v906 c256_i32_1074
  let c0_i32_1075 : BitVec 32 := 0#32
  let v910 : BitVec 32 := Scalar.addi v909 c0_i32_1075
  let v916 : Index := Scalar.indexCast v910
  let c0_1080 : Index := 0#32
  ![v916.toNat, 0]

def k0_chk27 (v906 : BitVec 32) : Prop :=
  (∀ a, (k0_off23 v906) a + S128x512.size a ≤ S4096x512.size a)
theorem k0_off23_inb : ∀ (v906 : BitVec 32) (k0_hw27 : k0_chk27 v906), ∀ a, (k0_off23 v906) a + S128x512.size a ≤ S4096x512.size a := fun v906 k0_hw27 => k0_hw27

def k0_off24 (v923 : BitVec 32) : Fin 2 → Nat :=
  let c256_i32_1085 : BitVec 32 := 256#32
  let v926 : BitVec 32 := Scalar.muli v923 c256_i32_1085
  let c128_i32_1086 : BitVec 32 := 128#32
  let v927 : BitVec 32 := Scalar.addi v926 c128_i32_1086
  let v933 : Index := Scalar.indexCast v927
  let c0_1091 : Index := 0#32
  ![v933.toNat, 0]

def k0_chk28 (v923 : BitVec 32) : Prop :=
  (∀ a, (k0_off24 v923) a + S128x512.size a ≤ S4096x512.size a)
theorem k0_off24_inb : ∀ (v923 : BitVec 32) (k0_hw28 : k0_chk28 v923), ∀ a, (k0_off24 v923) a + S128x512.size a ≤ S4096x512.size a := fun v923 k0_hw28 => k0_hw28

def k0_off25 (v978 : BitVec 32) : Fin 2 → Nat :=
  let c256_i32_1151 : BitVec 32 := 256#32
  let v981 : BitVec 32 := Scalar.muli v978 c256_i32_1151
  let c128_i32_1152 : BitVec 32 := 128#32
  let v982 : BitVec 32 := Scalar.addi v981 c128_i32_1152
  let v988 : Index := Scalar.indexCast v982
  let c0_1157 : Index := 0#32
  ![v988.toNat, 0]

def k0_chk29 (v978 : BitVec 32) : Prop :=
  (∀ a, (k0_off25 v978) a + S128x512.size a ≤ S4096x512.size a)
theorem k0_off25_inb : ∀ (v978 : BitVec 32) (k0_hw29 : k0_chk29 v978), ∀ a, (k0_off25 v978) a + S128x512.size a ≤ S4096x512.size a := fun v978 k0_hw29 => k0_hw29

def k0_off26 (v995 : BitVec 32) : Fin 2 → Nat :=
  let c256_i32_1162 : BitVec 32 := 256#32
  let v998 : BitVec 32 := Scalar.muli v995 c256_i32_1162
  let c128_i32_1163 : BitVec 32 := 128#32
  let v999 : BitVec 32 := Scalar.addi v998 c128_i32_1163
  let v1005 : Index := Scalar.indexCast v999
  let c0_1168 : Index := 0#32
  ![v1005.toNat, 0]

def k0_chk30 (v995 : BitVec 32) : Prop :=
  (∀ a, (k0_off26 v995) a + S128x512.size a ≤ S4096x512.size a)
theorem k0_off26_inb : ∀ (v995 : BitVec 32) (k0_hw30 : k0_chk30 v995), ∀ a, (k0_off26 v995) a + S128x512.size a ≤ S4096x512.size a := fun v995 k0_hw30 => k0_hw30

def k0_off27 (v1012 : BitVec 32) : Fin 2 → Nat :=
  let c256_i32_1173 : BitVec 32 := 256#32
  let v1015 : BitVec 32 := Scalar.muli v1012 c256_i32_1173
  let c0_i32_1174 : BitVec 32 := 0#32
  let v1016 : BitVec 32 := Scalar.addi v1015 c0_i32_1174
  let v1022 : Index := Scalar.indexCast v1016
  let c0_1179 : Index := 0#32
  ![v1022.toNat, 0]

def k0_chk31 (v1012 : BitVec 32) : Prop :=
  (∀ a, (k0_off27 v1012) a + S128x512.size a ≤ S4096x512.size a)
theorem k0_off27_inb : ∀ (v1012 : BitVec 32) (k0_hw31 : k0_chk31 v1012), ∀ a, (k0_off27 v1012) a + S128x512.size a ≤ S4096x512.size a := fun v1012 k0_hw31 => k0_hw31

def k0_off28 (v1043 : BitVec 32) : Fin 2 → Nat :=
  let c256_i32_1204 : BitVec 32 := 256#32
  let v1046 : BitVec 32 := Scalar.muli v1043 c256_i32_1204
  let c0_i32_1205 : BitVec 32 := 0#32
  let v1047 : BitVec 32 := Scalar.addi v1046 c0_i32_1205
  let v1053 : Index := Scalar.indexCast v1047
  let c0_1210 : Index := 0#32
  ![v1053.toNat, 0]

def k0_chk32 (v1043 : BitVec 32) : Prop :=
  (∀ a, (k0_off28 v1043) a + S128x512.size a ≤ S4096x512.size a)
theorem k0_off28_inb : ∀ (v1043 : BitVec 32) (k0_hw32 : k0_chk32 v1043), ∀ a, (k0_off28 v1043) a + S128x512.size a ≤ S4096x512.size a := fun v1043 k0_hw32 => k0_hw32

def k0_off29 (v1074 : BitVec 32) : Fin 2 → Nat :=
  let c256_i32_1236 : BitVec 32 := 256#32
  let v1077 : BitVec 32 := Scalar.muli v1074 c256_i32_1236
  let c128_i32_1237 : BitVec 32 := 128#32
  let v1078 : BitVec 32 := Scalar.addi v1077 c128_i32_1237
  let v1084 : Index := Scalar.indexCast v1078
  let c0_1242 : Index := 0#32
  ![v1084.toNat, 0]

def k0_chk33 (v1074 : BitVec 32) : Prop :=
  (∀ a, (k0_off29 v1074) a + S128x512.size a ≤ S4096x512.size a)
theorem k0_off29_inb : ∀ (v1074 : BitVec 32) (k0_hw33 : k0_chk33 v1074), ∀ a, (k0_off29 v1074) a + S128x512.size a ≤ S4096x512.size a := fun v1074 k0_hw33 => k0_hw33

def k0_off30 (v1105 : BitVec 32) : Fin 2 → Nat :=
  let c256_i32_1267 : BitVec 32 := 256#32
  let v1108 : BitVec 32 := Scalar.muli v1105 c256_i32_1267
  let c0_i32_1268 : BitVec 32 := 0#32
  let v1109 : BitVec 32 := Scalar.addi v1108 c0_i32_1268
  let v1115 : Index := Scalar.indexCast v1109
  let c0_1273 : Index := 0#32
  ![v1115.toNat, 0]

def k0_chk34 (v1105 : BitVec 32) : Prop :=
  (∀ a, (k0_off30 v1105) a + S128x512.size a ≤ S4096x512.size a)
theorem k0_off30_inb : ∀ (v1105 : BitVec 32) (k0_hw34 : k0_chk34 v1105), ∀ a, (k0_off30 v1105) a + S128x512.size a ≤ S4096x512.size a := fun v1105 k0_hw34 => k0_hw34

def k0_off31 (v1136 : BitVec 32) : Fin 2 → Nat :=
  let c256_i32_1299 : BitVec 32 := 256#32
  let v1139 : BitVec 32 := Scalar.muli v1136 c256_i32_1299
  let c128_i32_1300 : BitVec 32 := 128#32
  let v1140 : BitVec 32 := Scalar.addi v1139 c128_i32_1300
  let v1146 : Index := Scalar.indexCast v1140
  let c0_1305 : Index := 0#32
  ![v1146.toNat, 0]

def k0_chk35 (v1136 : BitVec 32) : Prop :=
  (∀ a, (k0_off31 v1136) a + S128x512.size a ≤ S4096x512.size a)
theorem k0_off31_inb : ∀ (v1136 : BitVec 32) (k0_hw35 : k0_chk35 v1136), ∀ a, (k0_off31 v1136) a + S128x512.size a ≤ S4096x512.size a := fun v1136 k0_hw35 => k0_hw35

def k0_off32 (d5 : Dev nD) : Fin 3 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let v1215 : Index := Scalar.indexCast v7
  let c0_1398 : Index := 0#32
  let c0_1399 : Index := 0#32
  ![v1215.toNat, 0, 0]
def k0_off33 (d5 : Dev nD) (c1_i32_1400 : BitVec 32) : Fin 1 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let v1219 : BitVec 32 := Scalar.addi v7 c1_i32_1400
  let c16_i32_1401 : BitVec 32 := 16#32
  let c0_i32_1402 : BitVec 32 := 0#32
  let v1220 : BitVec 1 := Scalar.cmpi .eq c16_i32_1401 c0_i32_1402
  let c1_i32_1403 : BitVec 32 := 1#32
  let v1221 : BitVec 32 := Scalar.select v1220 c1_i32_1403 c16_i32_1401
  let v1222 : BitVec 32 := Scalar.remsi v1219 v1221
  let c0_i32_1405 : BitVec 32 := 0#32
  let v1224 : BitVec 1 := Scalar.cmpi .slt v1222 c0_i32_1405
  let c0_i32_1406 : BitVec 32 := 0#32
  let v1225 : BitVec 1 := Scalar.cmpi .slt v1221 c0_i32_1406
  let v1226 : BitVec 1 := Scalar.xori v1224 v1225
  let c0_i32_1404 : BitVec 32 := 0#32
  let v1223 : BitVec 1 := Scalar.cmpi .ne v1222 c0_i32_1404
  let v1227 : BitVec 1 := Scalar.andi v1226 v1223
  let v1228 : BitVec 32 := Scalar.addi v1222 v1221
  let v1229 : BitVec 32 := Scalar.select v1227 v1228 v1222
  ![v1229.toNat]
def k0_off34 (d5 : Dev nD) : Fin 1 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  ![v7.toNat]
def k0_off35 (d5 : Dev nD) : Fin 3 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c0_i32_1407 : BitVec 32 := 0#32
  let c0_i32_1408 : BitVec 32 := 0#32
  ![v7.toNat, 0, 0]
def k0_dev75 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c1_i32_1400 : BitVec 32 := 1#32
  let v1219 : BitVec 32 := Scalar.addi v7 c1_i32_1400
  let c16_i32_1401 : BitVec 32 := 16#32
  let c0_i32_1402 : BitVec 32 := 0#32
  let v1220 : BitVec 1 := Scalar.cmpi .eq c16_i32_1401 c0_i32_1402
  let c1_i32_1403 : BitVec 32 := 1#32
  let v1221 : BitVec 32 := Scalar.select v1220 c1_i32_1403 c16_i32_1401
  let v1222 : BitVec 32 := Scalar.remsi v1219 v1221
  let c0_i32_1405 : BitVec 32 := 0#32
  let v1224 : BitVec 1 := Scalar.cmpi .slt v1222 c0_i32_1405
  let c0_i32_1406 : BitVec 32 := 0#32
  let v1225 : BitVec 1 := Scalar.cmpi .slt v1221 c0_i32_1406
  let v1226 : BitVec 1 := Scalar.xori v1224 v1225
  let c0_i32_1404 : BitVec 32 := 0#32
  let v1223 : BitVec 1 := Scalar.cmpi .ne v1222 c0_i32_1404
  let v1227 : BitVec 1 := Scalar.andi v1226 v1223
  let v1228 : BitVec 32 := Scalar.addi v1222 v1221
  let v1229 : BitVec 32 := Scalar.select v1227 v1228 v1222
  v1229.toNat
def k0_dev76 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c2_i32_1411 : BitVec 32 := 2#32
  let v1238 : BitVec 32 := Scalar.addi v7 c2_i32_1411
  let c16_i32_1412 : BitVec 32 := 16#32
  let c0_i32_1413 : BitVec 32 := 0#32
  let v1239 : BitVec 1 := Scalar.cmpi .eq c16_i32_1412 c0_i32_1413
  let c1_i32_1414 : BitVec 32 := 1#32
  let v1240 : BitVec 32 := Scalar.select v1239 c1_i32_1414 c16_i32_1412
  let v1241 : BitVec 32 := Scalar.remsi v1238 v1240
  let c0_i32_1416 : BitVec 32 := 0#32
  let v1243 : BitVec 1 := Scalar.cmpi .slt v1241 c0_i32_1416
  let c0_i32_1417 : BitVec 32 := 0#32
  let v1244 : BitVec 1 := Scalar.cmpi .slt v1240 c0_i32_1417
  let v1245 : BitVec 1 := Scalar.xori v1243 v1244
  let c0_i32_1415 : BitVec 32 := 0#32
  let v1242 : BitVec 1 := Scalar.cmpi .ne v1241 c0_i32_1415
  let v1246 : BitVec 1 := Scalar.andi v1245 v1242
  let v1247 : BitVec 32 := Scalar.addi v1241 v1240
  let v1248 : BitVec 32 := Scalar.select v1246 v1247 v1241
  v1248.toNat
def k0_dev77 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c3_i32_1422 : BitVec 32 := 3#32
  let v1257 : BitVec 32 := Scalar.addi v7 c3_i32_1422
  let c16_i32_1423 : BitVec 32 := 16#32
  let c0_i32_1424 : BitVec 32 := 0#32
  let v1258 : BitVec 1 := Scalar.cmpi .eq c16_i32_1423 c0_i32_1424
  let c1_i32_1425 : BitVec 32 := 1#32
  let v1259 : BitVec 32 := Scalar.select v1258 c1_i32_1425 c16_i32_1423
  let v1260 : BitVec 32 := Scalar.remsi v1257 v1259
  let c0_i32_1427 : BitVec 32 := 0#32
  let v1262 : BitVec 1 := Scalar.cmpi .slt v1260 c0_i32_1427
  let c0_i32_1428 : BitVec 32 := 0#32
  let v1263 : BitVec 1 := Scalar.cmpi .slt v1259 c0_i32_1428
  let v1264 : BitVec 1 := Scalar.xori v1262 v1263
  let c0_i32_1426 : BitVec 32 := 0#32
  let v1261 : BitVec 1 := Scalar.cmpi .ne v1260 c0_i32_1426
  let v1265 : BitVec 1 := Scalar.andi v1264 v1261
  let v1266 : BitVec 32 := Scalar.addi v1260 v1259
  let v1267 : BitVec 32 := Scalar.select v1265 v1266 v1260
  v1267.toNat
def k0_dev78 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c4_i32_1433 : BitVec 32 := 4#32
  let v1276 : BitVec 32 := Scalar.addi v7 c4_i32_1433
  let c16_i32_1434 : BitVec 32 := 16#32
  let c0_i32_1435 : BitVec 32 := 0#32
  let v1277 : BitVec 1 := Scalar.cmpi .eq c16_i32_1434 c0_i32_1435
  let c1_i32_1436 : BitVec 32 := 1#32
  let v1278 : BitVec 32 := Scalar.select v1277 c1_i32_1436 c16_i32_1434
  let v1279 : BitVec 32 := Scalar.remsi v1276 v1278
  let c0_i32_1438 : BitVec 32 := 0#32
  let v1281 : BitVec 1 := Scalar.cmpi .slt v1279 c0_i32_1438
  let c0_i32_1439 : BitVec 32 := 0#32
  let v1282 : BitVec 1 := Scalar.cmpi .slt v1278 c0_i32_1439
  let v1283 : BitVec 1 := Scalar.xori v1281 v1282
  let c0_i32_1437 : BitVec 32 := 0#32
  let v1280 : BitVec 1 := Scalar.cmpi .ne v1279 c0_i32_1437
  let v1284 : BitVec 1 := Scalar.andi v1283 v1280
  let v1285 : BitVec 32 := Scalar.addi v1279 v1278
  let v1286 : BitVec 32 := Scalar.select v1284 v1285 v1279
  v1286.toNat
def k0_dev79 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c5_i32_1444 : BitVec 32 := 5#32
  let v1295 : BitVec 32 := Scalar.addi v7 c5_i32_1444
  let c16_i32_1445 : BitVec 32 := 16#32
  let c0_i32_1446 : BitVec 32 := 0#32
  let v1296 : BitVec 1 := Scalar.cmpi .eq c16_i32_1445 c0_i32_1446
  let c1_i32_1447 : BitVec 32 := 1#32
  let v1297 : BitVec 32 := Scalar.select v1296 c1_i32_1447 c16_i32_1445
  let v1298 : BitVec 32 := Scalar.remsi v1295 v1297
  let c0_i32_1449 : BitVec 32 := 0#32
  let v1300 : BitVec 1 := Scalar.cmpi .slt v1298 c0_i32_1449
  let c0_i32_1450 : BitVec 32 := 0#32
  let v1301 : BitVec 1 := Scalar.cmpi .slt v1297 c0_i32_1450
  let v1302 : BitVec 1 := Scalar.xori v1300 v1301
  let c0_i32_1448 : BitVec 32 := 0#32
  let v1299 : BitVec 1 := Scalar.cmpi .ne v1298 c0_i32_1448
  let v1303 : BitVec 1 := Scalar.andi v1302 v1299
  let v1304 : BitVec 32 := Scalar.addi v1298 v1297
  let v1305 : BitVec 32 := Scalar.select v1303 v1304 v1298
  v1305.toNat
def k0_dev80 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c6_i32_1455 : BitVec 32 := 6#32
  let v1314 : BitVec 32 := Scalar.addi v7 c6_i32_1455
  let c16_i32_1456 : BitVec 32 := 16#32
  let c0_i32_1457 : BitVec 32 := 0#32
  let v1315 : BitVec 1 := Scalar.cmpi .eq c16_i32_1456 c0_i32_1457
  let c1_i32_1458 : BitVec 32 := 1#32
  let v1316 : BitVec 32 := Scalar.select v1315 c1_i32_1458 c16_i32_1456
  let v1317 : BitVec 32 := Scalar.remsi v1314 v1316
  let c0_i32_1460 : BitVec 32 := 0#32
  let v1319 : BitVec 1 := Scalar.cmpi .slt v1317 c0_i32_1460
  let c0_i32_1461 : BitVec 32 := 0#32
  let v1320 : BitVec 1 := Scalar.cmpi .slt v1316 c0_i32_1461
  let v1321 : BitVec 1 := Scalar.xori v1319 v1320
  let c0_i32_1459 : BitVec 32 := 0#32
  let v1318 : BitVec 1 := Scalar.cmpi .ne v1317 c0_i32_1459
  let v1322 : BitVec 1 := Scalar.andi v1321 v1318
  let v1323 : BitVec 32 := Scalar.addi v1317 v1316
  let v1324 : BitVec 32 := Scalar.select v1322 v1323 v1317
  v1324.toNat
def k0_dev81 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c7_i32_1466 : BitVec 32 := 7#32
  let v1333 : BitVec 32 := Scalar.addi v7 c7_i32_1466
  let c16_i32_1467 : BitVec 32 := 16#32
  let c0_i32_1468 : BitVec 32 := 0#32
  let v1334 : BitVec 1 := Scalar.cmpi .eq c16_i32_1467 c0_i32_1468
  let c1_i32_1469 : BitVec 32 := 1#32
  let v1335 : BitVec 32 := Scalar.select v1334 c1_i32_1469 c16_i32_1467
  let v1336 : BitVec 32 := Scalar.remsi v1333 v1335
  let c0_i32_1471 : BitVec 32 := 0#32
  let v1338 : BitVec 1 := Scalar.cmpi .slt v1336 c0_i32_1471
  let c0_i32_1472 : BitVec 32 := 0#32
  let v1339 : BitVec 1 := Scalar.cmpi .slt v1335 c0_i32_1472
  let v1340 : BitVec 1 := Scalar.xori v1338 v1339
  let c0_i32_1470 : BitVec 32 := 0#32
  let v1337 : BitVec 1 := Scalar.cmpi .ne v1336 c0_i32_1470
  let v1341 : BitVec 1 := Scalar.andi v1340 v1337
  let v1342 : BitVec 32 := Scalar.addi v1336 v1335
  let v1343 : BitVec 32 := Scalar.select v1341 v1342 v1336
  v1343.toNat
def k0_dev82 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c8_i32_1477 : BitVec 32 := 8#32
  let v1352 : BitVec 32 := Scalar.addi v7 c8_i32_1477
  let c16_i32_1478 : BitVec 32 := 16#32
  let c0_i32_1479 : BitVec 32 := 0#32
  let v1353 : BitVec 1 := Scalar.cmpi .eq c16_i32_1478 c0_i32_1479
  let c1_i32_1480 : BitVec 32 := 1#32
  let v1354 : BitVec 32 := Scalar.select v1353 c1_i32_1480 c16_i32_1478
  let v1355 : BitVec 32 := Scalar.remsi v1352 v1354
  let c0_i32_1482 : BitVec 32 := 0#32
  let v1357 : BitVec 1 := Scalar.cmpi .slt v1355 c0_i32_1482
  let c0_i32_1483 : BitVec 32 := 0#32
  let v1358 : BitVec 1 := Scalar.cmpi .slt v1354 c0_i32_1483
  let v1359 : BitVec 1 := Scalar.xori v1357 v1358
  let c0_i32_1481 : BitVec 32 := 0#32
  let v1356 : BitVec 1 := Scalar.cmpi .ne v1355 c0_i32_1481
  let v1360 : BitVec 1 := Scalar.andi v1359 v1356
  let v1361 : BitVec 32 := Scalar.addi v1355 v1354
  let v1362 : BitVec 32 := Scalar.select v1360 v1361 v1355
  v1362.toNat
def k0_dev83 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c9_i32_1488 : BitVec 32 := 9#32
  let v1371 : BitVec 32 := Scalar.addi v7 c9_i32_1488
  let c16_i32_1489 : BitVec 32 := 16#32
  let c0_i32_1490 : BitVec 32 := 0#32
  let v1372 : BitVec 1 := Scalar.cmpi .eq c16_i32_1489 c0_i32_1490
  let c1_i32_1491 : BitVec 32 := 1#32
  let v1373 : BitVec 32 := Scalar.select v1372 c1_i32_1491 c16_i32_1489
  let v1374 : BitVec 32 := Scalar.remsi v1371 v1373
  let c0_i32_1493 : BitVec 32 := 0#32
  let v1376 : BitVec 1 := Scalar.cmpi .slt v1374 c0_i32_1493
  let c0_i32_1494 : BitVec 32 := 0#32
  let v1377 : BitVec 1 := Scalar.cmpi .slt v1373 c0_i32_1494
  let v1378 : BitVec 1 := Scalar.xori v1376 v1377
  let c0_i32_1492 : BitVec 32 := 0#32
  let v1375 : BitVec 1 := Scalar.cmpi .ne v1374 c0_i32_1492
  let v1379 : BitVec 1 := Scalar.andi v1378 v1375
  let v1380 : BitVec 32 := Scalar.addi v1374 v1373
  let v1381 : BitVec 32 := Scalar.select v1379 v1380 v1374
  v1381.toNat
def k0_dev84 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c10_i32 : BitVec 32 := 10#32
  let v1390 : BitVec 32 := Scalar.addi v7 c10_i32
  let c16_i32_1499 : BitVec 32 := 16#32
  let c0_i32_1500 : BitVec 32 := 0#32
  let v1391 : BitVec 1 := Scalar.cmpi .eq c16_i32_1499 c0_i32_1500
  let c1_i32_1501 : BitVec 32 := 1#32
  let v1392 : BitVec 32 := Scalar.select v1391 c1_i32_1501 c16_i32_1499
  let v1393 : BitVec 32 := Scalar.remsi v1390 v1392
  let c0_i32_1503 : BitVec 32 := 0#32
  let v1395 : BitVec 1 := Scalar.cmpi .slt v1393 c0_i32_1503
  let c0_i32_1504 : BitVec 32 := 0#32
  let v1396 : BitVec 1 := Scalar.cmpi .slt v1392 c0_i32_1504
  let v1397 : BitVec 1 := Scalar.xori v1395 v1396
  let c0_i32_1502 : BitVec 32 := 0#32
  let v1394 : BitVec 1 := Scalar.cmpi .ne v1393 c0_i32_1502
  let v1398 : BitVec 1 := Scalar.andi v1397 v1394
  let v1399 : BitVec 32 := Scalar.addi v1393 v1392
  let v1400 : BitVec 32 := Scalar.select v1398 v1399 v1393
  v1400.toNat
def k0_dev85 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c11_i32 : BitVec 32 := 11#32
  let v1409 : BitVec 32 := Scalar.addi v7 c11_i32
  let c16_i32_1509 : BitVec 32 := 16#32
  let c0_i32_1510 : BitVec 32 := 0#32
  let v1410 : BitVec 1 := Scalar.cmpi .eq c16_i32_1509 c0_i32_1510
  let c1_i32_1511 : BitVec 32 := 1#32
  let v1411 : BitVec 32 := Scalar.select v1410 c1_i32_1511 c16_i32_1509
  let v1412 : BitVec 32 := Scalar.remsi v1409 v1411
  let c0_i32_1513 : BitVec 32 := 0#32
  let v1414 : BitVec 1 := Scalar.cmpi .slt v1412 c0_i32_1513
  let c0_i32_1514 : BitVec 32 := 0#32
  let v1415 : BitVec 1 := Scalar.cmpi .slt v1411 c0_i32_1514
  let v1416 : BitVec 1 := Scalar.xori v1414 v1415
  let c0_i32_1512 : BitVec 32 := 0#32
  let v1413 : BitVec 1 := Scalar.cmpi .ne v1412 c0_i32_1512
  let v1417 : BitVec 1 := Scalar.andi v1416 v1413
  let v1418 : BitVec 32 := Scalar.addi v1412 v1411
  let v1419 : BitVec 32 := Scalar.select v1417 v1418 v1412
  v1419.toNat
def k0_dev86 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c12_i32 : BitVec 32 := 12#32
  let v1428 : BitVec 32 := Scalar.addi v7 c12_i32
  let c16_i32_1519 : BitVec 32 := 16#32
  let c0_i32_1520 : BitVec 32 := 0#32
  let v1429 : BitVec 1 := Scalar.cmpi .eq c16_i32_1519 c0_i32_1520
  let c1_i32_1521 : BitVec 32 := 1#32
  let v1430 : BitVec 32 := Scalar.select v1429 c1_i32_1521 c16_i32_1519
  let v1431 : BitVec 32 := Scalar.remsi v1428 v1430
  let c0_i32_1523 : BitVec 32 := 0#32
  let v1433 : BitVec 1 := Scalar.cmpi .slt v1431 c0_i32_1523
  let c0_i32_1524 : BitVec 32 := 0#32
  let v1434 : BitVec 1 := Scalar.cmpi .slt v1430 c0_i32_1524
  let v1435 : BitVec 1 := Scalar.xori v1433 v1434
  let c0_i32_1522 : BitVec 32 := 0#32
  let v1432 : BitVec 1 := Scalar.cmpi .ne v1431 c0_i32_1522
  let v1436 : BitVec 1 := Scalar.andi v1435 v1432
  let v1437 : BitVec 32 := Scalar.addi v1431 v1430
  let v1438 : BitVec 32 := Scalar.select v1436 v1437 v1431
  v1438.toNat
def k0_dev87 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c13_i32 : BitVec 32 := 13#32
  let v1447 : BitVec 32 := Scalar.addi v7 c13_i32
  let c16_i32_1529 : BitVec 32 := 16#32
  let c0_i32_1530 : BitVec 32 := 0#32
  let v1448 : BitVec 1 := Scalar.cmpi .eq c16_i32_1529 c0_i32_1530
  let c1_i32_1531 : BitVec 32 := 1#32
  let v1449 : BitVec 32 := Scalar.select v1448 c1_i32_1531 c16_i32_1529
  let v1450 : BitVec 32 := Scalar.remsi v1447 v1449
  let c0_i32_1533 : BitVec 32 := 0#32
  let v1452 : BitVec 1 := Scalar.cmpi .slt v1450 c0_i32_1533
  let c0_i32_1534 : BitVec 32 := 0#32
  let v1453 : BitVec 1 := Scalar.cmpi .slt v1449 c0_i32_1534
  let v1454 : BitVec 1 := Scalar.xori v1452 v1453
  let c0_i32_1532 : BitVec 32 := 0#32
  let v1451 : BitVec 1 := Scalar.cmpi .ne v1450 c0_i32_1532
  let v1455 : BitVec 1 := Scalar.andi v1454 v1451
  let v1456 : BitVec 32 := Scalar.addi v1450 v1449
  let v1457 : BitVec 32 := Scalar.select v1455 v1456 v1450
  v1457.toNat
def k0_dev88 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c14_i32 : BitVec 32 := 14#32
  let v1466 : BitVec 32 := Scalar.addi v7 c14_i32
  let c16_i32_1539 : BitVec 32 := 16#32
  let c0_i32_1540 : BitVec 32 := 0#32
  let v1467 : BitVec 1 := Scalar.cmpi .eq c16_i32_1539 c0_i32_1540
  let c1_i32_1541 : BitVec 32 := 1#32
  let v1468 : BitVec 32 := Scalar.select v1467 c1_i32_1541 c16_i32_1539
  let v1469 : BitVec 32 := Scalar.remsi v1466 v1468
  let c0_i32_1543 : BitVec 32 := 0#32
  let v1471 : BitVec 1 := Scalar.cmpi .slt v1469 c0_i32_1543
  let c0_i32_1544 : BitVec 32 := 0#32
  let v1472 : BitVec 1 := Scalar.cmpi .slt v1468 c0_i32_1544
  let v1473 : BitVec 1 := Scalar.xori v1471 v1472
  let c0_i32_1542 : BitVec 32 := 0#32
  let v1470 : BitVec 1 := Scalar.cmpi .ne v1469 c0_i32_1542
  let v1474 : BitVec 1 := Scalar.andi v1473 v1470
  let v1475 : BitVec 32 := Scalar.addi v1469 v1468
  let v1476 : BitVec 32 := Scalar.select v1474 v1475 v1469
  v1476.toNat
def k0_dev89 (d5 : Dev nD) : Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let c15_i32 : BitVec 32 := 15#32
  let v1485 : BitVec 32 := Scalar.addi v7 c15_i32
  let c16_i32_1549 : BitVec 32 := 16#32
  let c0_i32_1550 : BitVec 32 := 0#32
  let v1486 : BitVec 1 := Scalar.cmpi .eq c16_i32_1549 c0_i32_1550
  let c1_i32_1551 : BitVec 32 := 1#32
  let v1487 : BitVec 32 := Scalar.select v1486 c1_i32_1551 c16_i32_1549
  let v1488 : BitVec 32 := Scalar.remsi v1485 v1487
  let c0_i32_1553 : BitVec 32 := 0#32
  let v1490 : BitVec 1 := Scalar.cmpi .slt v1488 c0_i32_1553
  let c0_i32_1554 : BitVec 32 := 0#32
  let v1491 : BitVec 1 := Scalar.cmpi .slt v1487 c0_i32_1554
  let v1492 : BitVec 1 := Scalar.xori v1490 v1491
  let c0_i32_1552 : BitVec 32 := 0#32
  let v1489 : BitVec 1 := Scalar.cmpi .ne v1488 c0_i32_1552
  let v1493 : BitVec 1 := Scalar.andi v1492 v1489
  let v1494 : BitVec 32 := Scalar.addi v1488 v1487
  let v1495 : BitVec 32 := Scalar.select v1493 v1494 v1488
  v1495.toNat
def k0_off36 (d5 : Dev nD) (c1_i32_1559 : BitVec 32) : Fin 3 → Nat :=
  let v5 : BitVec 32 := Dev.word d5
  let c1_i32 : BitVec 32 := 1#32
  let v6 : BitVec 32 := Scalar.divsi v5 c1_i32
  let c16_i32 : BitVec 32 := 16#32
  let v7 : BitVec 32 := Scalar.remsi v6 c16_i32
  let v1504 : BitVec 32 := Scalar.addi v7 c1_i32_1559
  let c16_i32_1560 : BitVec 32 := 16#32
  let c0_i32_1561 : BitVec 32 := 0#32
  let v1505 : BitVec 1 := Scalar.cmpi .eq c16_i32_1560 c0_i32_1561
  let c1_i32_1562 : BitVec 32 := 1#32
  let v1506 : BitVec 32 := Scalar.select v1505 c1_i32_1562 c16_i32_1560
  let v1507 : BitVec 32 := Scalar.remsi v1504 v1506
  let c0_i32_1564 : BitVec 32 := 0#32
  let v1509 : BitVec 1 := Scalar.cmpi .slt v1507 c0_i32_1564
  let c0_i32_1565 : BitVec 32 := 0#32
  let v1510 : BitVec 1 := Scalar.cmpi .slt v1506 c0_i32_1565
  let v1511 : BitVec 1 := Scalar.xori v1509 v1510
  let c0_i32_1563 : BitVec 32 := 0#32
  let v1508 : BitVec 1 := Scalar.cmpi .ne v1507 c0_i32_1563
  let v1512 : BitVec 1 := Scalar.andi v1511 v1508
  let v1513 : BitVec 32 := Scalar.addi v1507 v1506
  let v1514 : BitVec 32 := Scalar.select v1512 v1513 v1507
  let c0_i32_1566 : BitVec 32 := 0#32
  let c0_i32_1567 : BitVec 32 := 0#32
  ![v1514.toNat, 0, 0]
abbrev stage0_0 : Fin 1 → Memref sig .tc .smem S30 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 11
  | .vmem => 2
  | .smem => 1
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S4096x8192, .f32⟩
  | .local _ .vmem, ⟨0, _⟩ => ⟨S4096x8192, .f32⟩
  | .local _ .vmem, ⟨1, _⟩ => ⟨S4096x8192, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Proto.lean ====
module

public import proofs.«01_k».proof.Defs
public import Idealize.ShloMosaic.PureOps.Ideal
public import proofs.«01_k».proof.Proof.Gen.Kernel.Skeleton
public import proofs.«01_k».proof.Proof.Gen.Kernel.Launch
public import proofs.«01_k».proof.Proof.Gen.Kernel.Regions
public import Idealize.ShloMosaic.Lib.Pipeline.RegionTalk
public import Idealize.ShloMosaic.Lib.Release
public import Idealize.ShloMosaic.Lib.MemrefSat
public import Idealize.ShloMosaic.Lib.Transfers
public import Idealize.ShloMosaic.Lib.Pipeline.Kit
public import Idealize.ShloMosaic.Lib.Tactic

@[expose] public section

noncomputable section

/-!
The cross-device protocol: the kinds of semaphore cell each device has, the device each message goes to, what each
landing hands over, and what every device owes at the start.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The kinds of cell: the barrier, the two credit counters, the ring's landing and read-out cells (by direction and
    slot), the relays' and the maximum exchange's. -/
inductive Kd
  | bar | cr (d : Bool) | recv (d : Bool) (s : Fin 5) | send (d : Bool) (s : Fin 5)
  | rrecv (t : Fin 10) | rsend (t : Fin 10) | arecv (o : Fin 16) | asend (o : Fin 16)
  deriving DecidableEq, Fintype

/-- The machine's semaphore of a kind. -/
def semOf : Kd → SemLoc sig
  | .bar => .reg (⟨2, by decide⟩ : Fin 3)
  | .cr false => .reg (⟨0, by decide⟩ : Fin 3)
  | .cr true => .reg (⟨1, by decide⟩ : Fin 3)
  | .send false s => .dma (⟨4 + s.val, by omega⟩ : Fin 77)
  | .recv false s => .dma (⟨9 + s.val, by omega⟩ : Fin 77)
  | .send true s => .dma (⟨14 + s.val, by omega⟩ : Fin 77)
  | .recv true s => .dma (⟨19 + s.val, by omega⟩ : Fin 77)
  | .rsend t => .dma (⟨24 + t.val, by omega⟩ : Fin 77)
  | .rrecv t => .dma (⟨34 + t.val, by omega⟩ : Fin 77)
  | .asend o => .dma (⟨45 + o.val, by omega⟩ : Fin 77)
  | .arecv o => .dma (⟨61 + o.val, by omega⟩ : Fin 77)

/-- Cut a number down to one below `n`. -/
abbrev fm (n k : ℕ) (h : 0 < n := by decide) : Fin n := ⟨k % n, Nat.mod_lt _ h⟩

/-- The kind of a machine semaphore; the staging and local-copy semaphores have none. -/
def kdOf : SemLoc sig → Option Kd
  | .reg s => if s.val = 2 then some .bar else some (.cr (s.val == 1))
  | .dma s =>
    if s.val < 4 then none else if s.val < 9 then some (.send false (fm 5 (s.val - 4)))
    else if s.val < 14 then some (.recv false (fm 5 (s.val - 9)))
    else if s.val < 19 then some (.send true (fm 5 (s.val - 14)))
    else if s.val < 24 then some (.recv true (fm 5 (s.val - 19)))
    else if s.val < 34 then some (.rsend (fm 10 (s.val - 24)))
    else if s.val < 44 then some (.rrecv (fm 10 (s.val - 34)))
    else if s.val < 45 then none
    else if s.val < 61 then some (.asend (fm 16 (s.val - 45)))
    else some (.arecv (fm 16 (s.val - 61)))

theorem kdOf_semOf : ∀ k : Kd, kdOf (semOf k) = some k := by decide

theorem semOf_inj : Function.Injective semOf := fun a b h =>
  Option.some.inj ((kdOf_semOf a).symm.trans ((congrArg kdOf h).trans (kdOf_semOf b)))

/-! ## Devices -/

/-- Device `c` moved on by `k`. -/
abbrev adv (c : Dev nD) (k : ℕ) : Dev nD := ⟨(c.val + k) % 16, Nat.mod_lt _ (by decide)⟩
abbrev nxt (c : Dev nD) : Dev nD := adv c 1
abbrev prv (c : Dev nD) : Dev nD := adv c 15

def paL : Fin 16 → ℕ := ![7, 6, 13, 12, 11, 10, 1, 0, 15, 14, 5, 4, 3, 2, 9, 8]
def pbL : Fin 16 → ℕ := ![7, 14, 5, 12, 11, 2, 9, 0, 15, 6, 13, 4, 3, 10, 1, 8]
/-- The first relay partner. -/
def pa (c : Dev nD) : Dev nD := ⟨paL c % 16, Nat.mod_lt _ (by decide)⟩
/-- The second relay partner. -/
def pb (c : Dev nD) : Dev nD := ⟨pbL c % 16, Nat.mod_lt _ (by decide)⟩
/-- The place of a device in its group of four. -/
abbrev cls (c : Dev nD) : Fin 4 := fm 4 c.val

def offL : Fin 4 → Fin 5 → ℕ := ![![7, 6, 8, 9, 10], ![6, 7, 8, 10, 9], ![10, 9, 8, 6, 7], ![9, 10, 8, 7, 6]]

/-- The partner of relay `t`. -/
def rmate (c : Dev nD) (t : ℕ) : Dev nD := if t < 6 then pa c else pb c

/-- Where the ring messages of direction `d` go, and where they come from. -/
def rto (c : Dev nD) (d : Bool) : Dev nD := if d then prv c else nxt c
def rfrom (c : Dev nD) (d : Bool) : Dev nD := if d then nxt c else prv c

theorem rfrom_rto : ∀ (c : Dev nD) (d : Bool), rfrom (rto c d) d = c := by decide
theorem rto_rfrom : ∀ (c : Dev nD) (d : Bool), rto (rfrom c d) d = c := by decide
theorem rmate_rmate (t : ℕ) : ∀ (c : Dev nD), rmate (rmate c t) t = c := by
  unfold rmate; split <;> decide

/-- The block that ring message `j` of direction `d` brings to `p`, and its half. -/
def org (p : Dev nD) (d : Bool) (j : ℕ) : Dev nD := if d then adv p (1 + j / 2) else adv p (15 * (1 + j / 2))
def hf (d : Bool) (j : ℕ) : Fin 2 := if d then fm 2 (1 + j) else fm 2 j
/-- The block that relay `t` brings to `p`; its half is `t % 2`. -/
def rorg (p : Dev nD) (t : ℕ) : Dev nD := adv p (offL (cls p) (fm 5 (t / 2)))

theorem org_succ : ∀ (p : Dev nD) (d : Bool) (j : Fin 8), org (rto p d) d (j.val + 2) = org p d j.val := by decide
theorem hf_succ (d : Bool) (j : ℕ) : hf d (j + 2) = hf d j := by
  cases d <;> (refine Fin.ext ?_; simp only [hf, Bool.false_eq_true, if_true, if_false]; omega)
theorem org_first : ∀ (p : Dev nD) (d : Bool) (j : Fin 2), org (rto p d) d j.val = p := by decide

/-! ## The resource algebra -/

abbrev UC : Type := URounds (GSem nD τ sig) ℕ
abbrev UK : Type := Release.USlots (Dev nD × Kd)
abbrev UU : Type := UR sig nD τ × (UC × (UK × ExclCount.Counters))

variable {F : FTy → Type} [FloatOps F]

local notation "𝕄" => MT nD τ sig ℕ (Elt F) ℕ UU ℕ

abbrev EP : Emb (UR sig nD τ) (MT nD τ sig ℕ (Elt F) ℕ UU ℕ) := embL
/-- The rounds of the protocol's cells, -/
def ER : Emb UC (MT nD τ sig ℕ (Elt F) ℕ UU ℕ) := (Emb.inl : Emb UC (UC × (UK × ExclCount.Counters))).trans embR
/-- the slots' release counts, -/
def ES : Emb UK (MT nD τ sig ℕ (Elt F) ℕ UU ℕ) :=
  ((Emb.inl : Emb UK (UK × ExclCount.Counters)).trans (Emb.inr : Emb (UK × ExclCount.Counters) (UC × (UK × ExclCount.Counters)))).trans embR
/-- and the local copies' counters. -/
abbrev EC : UEmb ExclCount.Counters (MT nD τ sig ℕ (Elt F) ℕ UU ℕ) := countersEmb

instance : (ER (F := F)).LandsIn (upEmb : UEmb _ 𝕄) := by unfold ER; infer_instance
instance : (ES (F := F)).LandsIn (upEmb : UEmb _ 𝕄) := by unfold ES; infer_instance

/-! ## Memrefs -/

theorem inb5 (s : Fin 5) : ∀ a, (![s.val, 0, 0] : Fin 3 → ℕ) a + S1x128x4096.size a ≤ S5x128x4096.size a := by revert s; decide
theorem inb10 (s : Fin 10) : ∀ a, (![s.val, 0, 0] : Fin 3 → ℕ) a + S1x128x4096.size a ≤ S10x128x4096.size a := by revert s; decide
theorem inb16 (s : Fin 16) : ∀ a, (![s.val, 0, 0] : Fin 3 → ℕ) a + S1x8x128.size a ≤ S16x8x128.size a := by revert s; decide
theorem inb2 (s : Fin 2) : ∀ a, (![s.val, 0, 0] : Fin 3 → ℕ) a + S1x128x4096.size a ≤ S2x128x4096.size a := by revert s; decide
theorem inbx (h : Fin 2) : ∀ a, (![h.val * 128, 0] : Fin 2 → ℕ) a + S128x4096.size a ≤ S256x4096.size a := by revert h; decide

abbrev ringM (d : Bool) : Memref sig .tc .vmem S5x128x4096 .f32 := match d with
  | false => Memref.whole cc0_scratch0
  | true => Memref.whole cc0_scratch3
/-- A ring slot. -/
def slotM (d : Bool) (s : Fin 5) : Memref sig .tc .vmem S128x4096 .f32 :=
  ((ringM d).slice (Rect.unit (s := S5x128x4096) ![s.val, 0, 0] S1x128x4096.size (inb5 s)) (fun _ => rfl)).squeeze S128x4096 squeezes_S1x128x4096_S128x4096
def stgM (t : Fin 10) : Memref sig .tc .hbm S128x4096 .f32 :=
  ((Memref.whole main_v94_1 : Memref sig .tc .hbm S10x128x4096 .f32).slice (Rect.unit (s := S10x128x4096) ![t.val, 0, 0] S1x128x4096.size (inb10 t)) (fun _ => rfl)).squeeze S128x4096 squeezes_S1x128x4096_S128x4096
def relM (t : Fin 10) : Memref sig .tc .hbm S128x4096 .f32 :=
  ((Memref.whole main_v94_2 : Memref sig .tc .hbm S10x128x4096 .f32).slice (Rect.unit (s := S10x128x4096) ![t.val, 0, 0] S1x128x4096.size (inb10 t)) (fun _ => rfl)).squeeze S128x4096 squeezes_S1x128x4096_S128x4096
def bncM (t : Fin 2) : Memref sig .tc .vmem S128x4096 .f32 :=
  ((Memref.whole cc0_scratch10 : Memref sig .tc .vmem S2x128x4096 .f32).slice (Rect.unit (s := S2x128x4096) ![t.val, 0, 0] S1x128x4096.size (inb2 t)) (fun _ => rfl)).squeeze S128x4096 squeezes_S1x128x4096_S128x4096
def amM (o : Fin 16) : Memref sig .tc .vmem S8x128 .f32 :=
  ((Memref.whole cc0_scratch11 : Memref sig .tc .vmem S16x8x128 .f32).slice (Rect.unit (s := S16x8x128) ![o.val, 0, 0] S1x8x128.size (inb16 o)) (fun _ => rfl)).squeeze S8x128 squeezes_S1x8x128_S8x128
def xM (h : Fin 2) : Memref sig .tc .vmem S128x4096 .f32 :=
  (Memref.whole cc0_stg1_0 : Memref sig .tc .vmem S256x4096 .f32).slice (Rect.unit (s := S256x4096) ![h.val * 128, 0] S128x4096.size (inbx h)) (fun _ => rfl)

/-- The units one landing of a half block, and of a row of maxima, adds. -/
def NR : ℕ := (slotM false 0).view.dmaCredit
def NA : ℕ := (amM 0).view.dmaCredit
theorem NR_pos : 0 < NR := View.dmaCredit_pos _ (by decide)
theorem NA_pos : 0 < NA := View.dmaCredit_pos _ (by decide)

end Cert.Proof
end
-- ==== Proof.Sched.lean ====
module

public import proofs.«01_k».proof.Proof.Proto

@[expose] public section

noncomputable section

/-!
What the transfers carry, and the schedule of the cells: which duties each round has, the units of each, and what each
hands over.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Values -/

variable (X : Dev nD → Vec F S256x4096 .f32) (Wt : Dev nD → Vec F S4096x512 .f32)

/-- A half block of a device's rows of x. -/
def chk (p : Dev nD) (h : Fin 2) : Vec F S128x4096 .f32 := (xM h).view.read (Elt F) (X p)

/-- Half a block times a device's columns, cut off below at zero. -/
def gm (V : Vec F S128x4096 .f32) (w : Vec F S4096x512 .f32) : FVec F S128x512 .f32 :=
  maximumf (matmul dot_S128x4096_S4096x512_S128x512_1_0_0_1_n_n none V (shapeCast S4096x512 w shapeCasts_S4096x512_S4096x512)
    (constant S128x512 .f32 0x00000000#32)) (broadcast S128x512 (Scalar.ofBits .f32 0x00000000#32))

/-- The largest entry of a product. -/
def tmx (V : FVec F S128x512 .f32) : F .f32 :=
  extractAt ![0, 0, 0] (shapeCast S1x1x1 (multiReduction .maximumf [1, 2] S1 (shapeCast S1x128x512 V shapeCasts_S128x512_S1x128x512)
    0xFF800000#32 reduces_S1x128x512_S1 (.inl rfl) rfl) shapeCasts_S1_S1x1x1) inpos_S1x1x1_p0_0_0

/-- The half blocks multiplied after the own block, in program order: a ring message of either direction, or a relay. -/
inductive Src
  | ring (d : Bool) (j : ℕ) | rel (t : ℕ)

def srcL : List Src :=
  [.ring false 0, .ring true 0, .ring false 1, .ring true 1, .ring false 2, .ring true 2, .ring false 3, .ring true 3,
   .rel 0, .ring false 4, .ring true 4, .rel 1, .ring false 5, .ring true 5, .rel 2, .ring false 6, .ring true 6,
   .rel 3, .ring false 7, .ring true 7, .rel 4, .ring false 8, .ring true 8, .rel 5, .ring false 9, .ring true 9,
   .rel 6, .rel 7, .rel 8, .rel 9]

/-- The device a half block comes from first, and which half it is. -/
def srcDev (c : Dev nD) : Src → Dev nD
  | .ring d j => org c d j
  | .rel t => rorg c t
def srcHf : Src → Fin 2
  | .ring d j => hf d j
  | .rel t => fm 2 t

def srcAt (n : ℕ) : Src := srcL.getD n (.rel 0)

/-- The half block of the `n`-th product after the own block, and the product. -/
def pblk (c : Dev nD) (n : ℕ) : Vec F S128x4096 .f32 := chk X (srcDev c (srcAt n)) (srcHf (srcAt n))
def prd (c : Dev nD) (n : ℕ) : FVec F S128x512 .f32 := gm (pblk X c n) (Wt c)

/-- The running maximum after `n` products. -/
def rmx (c : Dev nD) : ℕ → F .f32
  | 0 => k0_pay3 (X c) (Wt c)
  | n + 1 => Scalar.maximumf (rmx c n) (tmx (prd X Wt c n))

/-- The row of maxima a device hands round. -/
def amv (c : Dev nD) : Vec F S8x128 .f32 := broadcast S8x128 (Scalar.maximumf (rmx X Wt c 30) (Scalar.ofBits .f32 0x00000000#32))

/-! ## Shares -/

/-- The part of the x staging buffer a direction's first sends read. -/
def xsh (d : Bool) : PosShare TreeShare := if d then fullShare.right.right.left else fullShare.right.left
/-- What is left of the own row of maxima after `j` sends. -/
def ash : ℕ → PosShare TreeShare
  | 0 => fullShare
  | j + 1 => (ash j).right

theorem owns_stor {sp : Space} {s : Shape} {e : EltTy} (c : Thread nD τ) (m : Memref sig c.2.kind sp s e) (q : PosShare TreeShare)
    (V : s.Idx → Elt F e) : BI.Storable (upEmb : UEmb _ 𝕄) (owns c m q V) := by unfold owns; infer_instance
attribute [instance] owns_stor

/-! ## What a slot is, and the release facts -/

/-- A landing place at unchosen contents. -/
def place (x : Dev nD × Kd) : sProp 𝕄 := match x.2 with
  | .recv d s => iprop(∃ V, owns (x.1 : Thread nD τ) (slotM d s) fullShare V)
  | .rrecv t => iprop(∃ V, owns (x.1 : Thread nD τ) (relM t) fullShare V)
  | .arecv o => iprop(∃ V, owns (x.1 : Thread nD τ) (amM o) fullShare V)
  | _ => iprop(emp)

instance place_storable (x : Dev nD × Kd) : BI.Storable (upEmb : UEmb _ 𝕄) (place x) := by
  unfold place; split <;> infer_instance

abbrev cellAt (c : Dev nD) (k : Kd) : GSem nD τ sig := ((c : Thread nD τ), semOf k)

/-- The kinds of cell that have a landing place. -/
def isLand : Kd → Bool
  | .recv _ _ | .rrecv _ | .arecv _ => true
  | _ => false

/-- Every landing place of `p` has been given out once, and every landing cell is at round 0 or later. -/
def Entered (p : Dev nD) : sProp 𝕄 :=
  iprop((bigSep (Finset.univ.filter fun k : Kd => isLand k = true) fun k : Kd => released ES (p, k) 1)
    ∗ bigSep Finset.univ fun k : Kd => reached ER (cellAt p k) 0)

instance Entered_persistent (p : Dev nD) : BI.Persistent (Entered (F := F) p) := by unfold Entered; infer_instance
instance Entered_storable (p : Dev nD) : BI.Storable (upEmb : UEmb _ 𝕄) (Entered (F := F) p) := by unfold Entered; infer_instance

/-- The first `n` slots of direction `d` at `p` have been given out again. -/
def Again (p : Dev nD) (d : Bool) (n : ℕ) : sProp 𝕄 :=
  bigSep (Finset.range n) fun j => iprop(released ES (p, Kd.recv d (fm 5 j)) (j / 5 + 2) ∗ reached ER (cellAt p (.recv d (fm 5 j))) (j / 5 + 1))

instance Again_persistent (p : Dev nD) (d : Bool) (n : ℕ) : BI.Persistent (Again (F := F) p d n) := by unfold Again; infer_instance
instance Again_storable (p : Dev nD) (d : Bool) (n : ℕ) : BI.Storable (upEmb : UEmb _ 𝕄) (Again (F := F) p d n) := by unfold Again; infer_instance

/-- The device whose signal is duty `i` of `p`'s barrier. -/
def barFrom (p : Dev nD) (i : ℕ) : Dev nD :=
  if i = 0 then prv p else if i = 1 then nxt p else if i = 2 then pa p else pb p

/-! ## The payloads -/

def ringPay (p : Dev nD) (d : Bool) (s : Fin 5) (r : ℕ) : sProp 𝕄 :=
  iprop(owns (p : Thread nD τ) (slotM d s) fullShare (chk X (org p d (5 * r + s.val)) (hf d (5 * r + s.val))) ∗ Entered (org p d (5 * r + s.val)))

def sendPay (c : Dev nD) (d : Bool) (s : Fin 5) (r : ℕ) : sProp 𝕄 :=
  if 5 * r + s.val < 2 then iprop(owns (c : Thread nD τ) (xM (hf d (5 * r + s.val))) (xsh d) (chk X c (hf d (5 * r + s.val))))
  else iprop(owns (c : Thread nD τ) (slotM d (fm 5 (5 * r + s.val - 2))) fullShare.left
    (chk X (org c d (5 * r + s.val - 2)) (hf d (5 * r + s.val - 2))))

def relPay (p : Dev nD) (t : Fin 10) : sProp 𝕄 :=
  iprop(owns (p : Thread nD τ) (relM t) fullShare (chk X (rorg p t) (fm 2 t)) ∗ Entered (rorg p t))

def rsendPay (c : Dev nD) (t : Fin 10) : sProp 𝕄 := iprop(∃ V, owns (c : Thread nD τ) (stgM t) fullShare V)

def amPay (p : Dev nD) (o : Fin 16) : sProp 𝕄 := iprop(owns (p : Thread nD τ) (amM o) fullShare (amv X Wt o))

/-- How far `o` is after `c`. -/
def gap (c : Dev nD) (o : Fin 16) : ℕ := (o.val + 16 - c.val) % 16

def asendPay (c : Dev nD) (o : Fin 16) : sProp 𝕄 :=
  iprop(owns (c : Thread nD τ) (amM c) (ash (gap c o - 1)).left (amv X Wt c))

def kpay (c : Dev nD) (k : Kd) (r : ℕ) (i : ℕ) : sProp 𝕄 := match k with
  | .bar => Entered (barFrom c i)
  | .cr d => Again (rto c d) d (i + 1)
  | .recv d s => ringPay X c d s r
  | .send d s => sendPay X c d s r
  | .rrecv t => relPay X c t
  | .rsend t => rsendPay c t
  | .arecv o => amPay X Wt c o
  | .asend o => asendPay X Wt c o

instance kpay_storable (c : Dev nD) (k : Kd) (r : ℕ) (i : ℕ) : BI.Storable (upEmb : UEmb _ 𝕄) (kpay X Wt c k r i) := by
  unfold kpay ringPay sendPay relPay rsendPay amPay asendPay
  (repeat' split) <;> infer_instance

/-- The duties of a round of a cell of device `c`. -/
def kdut (c : Dev nD) (k : Kd) (r : ℕ) : Finset ℕ := match k with
  | .bar => if r = 0 then Finset.range 4 else ∅
  | .cr _ => if r = 0 then Finset.range 5 else ∅
  | .recv _ _ => if r < 2 then {0} else ∅
  | .send _ _ => if r < 2 then {0} else ∅
  | .rrecv _ => if r = 0 then {0} else ∅
  | .rsend _ => if r = 0 then {0} else ∅
  | .arecv o => if r = 0 ∧ o ≠ c then {0} else ∅
  | .asend o => if r = 0 ∧ o ≠ c then {0} else ∅

def kamt : Kd → ℕ
  | .bar => 1
  | .cr _ => 1
  | .arecv _ => NA
  | .asend _ => NA
  | _ => NR

theorem kamt_pos (k : Kd) : 0 < kamt k := by
  unfold kamt; split <;> first | exact Nat.one_pos | exact NA_pos | exact NR_pos

/-- The protocol's schedule. -/
def Rd : Rounds.Schedule (GSem nD τ sig) ℕ 𝕄 where
  duties g r := if g.1.2 = .tc then (match kdOf g.2 with | some k => kdut g.1.1 k r | none => ∅) else ∅
  unitless _ := False
  amount g _ _ := match kdOf g.2 with | some k => kamt k | none => 1
  payload g r i := match kdOf g.2 with | some k => kpay X Wt g.1.1 k r i | none => iprop(emp)
  amount_pos g r d _ := by
    split
    · exact kamt_pos _
    · exact Nat.one_pos

instance Rd_storable (g : GSem nD τ sig) (r : ℕ) (i : ℕ) : BI.Storable (upEmb : UEmb _ 𝕄) ((Rd X Wt).payload g r i) := by
  unfold Rd; dsimp only
  split <;> infer_instance

theorem Rd_duties (c : Dev nD) (k : Kd) (r : ℕ) : (Rd X Wt).duties (cellAt c k) r = kdut c k r := by
  dsimp only [Rd]; rw [if_pos rfl, kdOf_semOf]
theorem Rd_amount (c : Dev nD) (k : Kd) (r i : ℕ) : (Rd X Wt).amount (cellAt c k) r i = kamt k := by
  dsimp only [Rd]; rw [kdOf_semOf]
theorem Rd_payload (c : Dev nD) (k : Kd) (r i : ℕ) : (Rd X Wt).payload (cellAt c k) r i = kpay X Wt c k r i := by
  dsimp only [Rd]; rw [kdOf_semOf]
theorem Rd_expect (c : Dev nD) (k : Kd) (r : ℕ) : (Rd X Wt).expect (cellAt c k) r = (kdut c k r).card * kamt k := by
  unfold Schedule.expect Schedule.amountOf
  rw [Rd_duties, Finset.sum_congr rfl fun i _ => Rd_amount X Wt c k r i, Finset.sum_const, smul_eq_mul]

end Cert.Proof
end
-- ==== Proof.State.lean ====
module

public import proofs.«01_k».proof.Proof.Sched
public import Idealize.SL.BI.BigOpNat

@[expose] public section

set_option maxRecDepth 20000

noncomputable section

/-!
What a device holds between the steps of the body: what it still owes, its wait queues, its read-out positions, and
what it has heard.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem big_at {I : Type} [DecidableEq I] {s : Finset I} {i : I} (Φ : I → sProp 𝕄) (h : i ∈ s) : bigSep s Φ ⊢ Φ i := bigSep_elim h

abbrev 𝒱₀ : Variants := Variants.none

variable (X : Dev nD → Vec F S256x4096 .f32) (Wt : Dev nD → Vec F S4096x512 .f32)

/-- A slot number, and a relay number. -/
abbrev f5 (k : ℕ) : Fin 5 := fm 5 k
abbrev f10 (k : ℕ) : Fin 10 := fm 10 k

/-! ## Levels -/

/-- Every cell may be waited on at any index below 400, and the index is the level. -/
def L : GSem nD τ sig → Finset ℕ := fun g => if g.1.2 = .tc then Finset.range 400 else ∅
def lv : GSem nD τ sig → ℕ → ℕ := fun _ ι => ι

theorem mem_L (g : GSem nD τ sig) (h : g.1.2 = .tc) (ι : ℕ) (hι : ι < 400) : ι ∈ L g := by
  unfold L; rw [if_pos h]; exact Finset.mem_range.mpr hι

/-! ## What is owed -/

/-- What a device does for another one. -/
inductive Due
  | bar (i : ℕ) | ring (d : Bool) (j : ℕ) | cr (d : Bool) (n : ℕ) | am (j : ℕ)

/-- The signals and sends in program order, without the relays. -/
def dueL : List Due :=
  [.bar 0, .bar 1, .bar 2, .bar 3, .ring false 0, .ring false 1, .ring true 0, .ring true 1,
   .ring false 2, .ring true 2, .ring false 3, .ring true 3,
   .cr false 0, .ring false 4, .cr true 0, .ring true 4, .cr false 1, .ring false 5, .cr true 1, .ring true 5,
   .cr false 2, .ring false 6, .cr true 2, .ring true 6, .cr false 3, .ring false 7, .cr true 3, .ring true 7,
   .cr false 4, .ring false 8, .cr true 4, .ring true 8, .ring false 9, .ring true 9,
   .am 0, .am 1, .am 2, .am 3, .am 4, .am 5, .am 6, .am 7, .am 8, .am 9, .am 10, .am 11, .am 12, .am 13, .am 14]

def dueAt (n : ℕ) : Due := dueL.getD n (.bar 0)

def barTo (c : Dev nD) (i : ℕ) : Dev nD := if i = 0 then nxt c else if i = 1 then prv c else if i = 2 then pa c else pb c

def rlv (j : ℕ) : ℕ := 10 * j + 10
def clv (n : ℕ) : ℕ := 10 * n + 45
def llv (t : ℕ) : ℕ := 10 * t + 32

/-- The cell a due goes to, its index, and its units. -/
def dtgt (c : Dev nD) : Due → Dev nD × Kd
  | .bar i => (barTo c i, .bar)
  | .ring d j => (rto c d, .recv d (fm 5 j))
  | .cr d _ => (rfrom c d, .cr d)
  | .am j => (adv c (1 + j), .arecv c)
def dlv : Due → ℕ
  | .bar _ => 1
  | .ring _ j => rlv j
  | .cr _ n => clv n
  | .am _ => 300
def dtal (c : Dev nD) (u : Due) : CellTallies nD τ sig ℕ := tallyAt (cellAt (dtgt c u).1 (dtgt c u).2) (dlv u) (kamt (dtgt c u).2)
def ltal (c : Dev nD) (t : ℕ) : CellTallies nD τ sig ℕ := tallyAt (cellAt (rmate c t) (.rrecv (fm 10 t))) (llv t) NR

def owedD (c : Dev nD) (i : ℕ) : CellTallies nD τ sig ℕ := ∑ n ∈ Finset.Ico i 49, dtal c (dueAt n)
def owedL (c : Dev nD) (t : ℕ) : CellTallies nD τ sig ℕ := ∑ n ∈ Finset.Ico t 10, ltal c n

theorem owedD_succ (c : Dev nD) (i : ℕ) (h : i < 49) : owedD c i = dtal c (dueAt i) + owedD c (i + 1) :=
  Finset.sum_eq_sum_Ico_succ_bot h _
theorem owedL_succ (c : Dev nD) (t : ℕ) (h : t < 10) : owedL c t = ltal c t + owedL c (t + 1) :=
  Finset.sum_eq_sum_Ico_succ_bot h _

/-- The tokens a due spends. -/
def dtok (c : Dev nD) : Due → sProp 𝕄
  | .bar i => dutyTok ER (cellAt (barTo c i) .bar) 0 i
  | .ring d j => iprop(dutyTok ER (cellAt (rto c d) (.recv d (fm 5 j))) (j / 5) 0 ∗ dutyTok ER (cellAt c (.send d (fm 5 j))) (j / 5) 0
      ∗ writeTok ES (rto c d, Kd.recv d (fm 5 j)) (j / 5 + 1))
  | .cr d n => dutyTok ER (cellAt (rfrom c d) (.cr d)) 0 n
  | .am j => iprop(dutyTok ER (cellAt (adv c (1 + j)) (.arecv c)) 0 0 ∗ dutyTok ER (cellAt c (.asend (adv c (1 + j)))) 0 0
      ∗ writeTok ES (adv c (1 + j), Kd.arecv c) 1)
def ltok (c : Dev nD) (t : ℕ) : sProp 𝕄 :=
  iprop(dutyTok ER (cellAt (rmate c t) (.rrecv (fm 10 t))) 0 0 ∗ dutyTok ER (cellAt c (.rsend (fm 10 t))) 0 0
    ∗ writeTok ES (rmate c t, Kd.rrecv (fm 10 t)) 1)

/-- The device has done its first `i` dues and its first `t` relays. -/
def Main (c : Dev nD) (i t : ℕ) : sProp 𝕄 :=
  iprop((∃ W, owes (c : Thread nD τ) (owedD c i + owedL c t) W) ∗ bigSep (Finset.Ico i 49) (fun n => dtok c (dueAt n))
    ∗ bigSep (Finset.Ico t 10) (fun n => ltok c n))

/-- A wait at `b` sits below everything still owed. -/
def Below (b i t : ℕ) : Prop := b < 400 ∧ (∀ n ∈ Finset.Ico i 49, b < dlv (dueAt n)) ∧ ∀ n ∈ Finset.Ico t 10, b < llv n
instance (b i t : ℕ) : Decidable (Below b i t) := by unfold Below; infer_instance

theorem dlv_lt : ∀ n ∈ Finset.Ico 0 49, dlv (dueAt n) < 400 := by decide

theorem dtal_pos {c : Dev nD} {u : Due} {g : GSem nD τ sig} {ι : ℕ} (h : 0 < dtal c u g ι) :
    g = cellAt (dtgt c u).1 (dtgt c u).2 ∧ ι = dlv u := by
  unfold dtal at h
  by_contra hne
  rw [not_and_or] at hne
  rw [tallyAt_apply] at h
  rcases hne with hg | hi
  · rw [if_neg (fun e => hg e.1)] at h; exact Nat.lt_irrefl _ h
  · rw [if_neg (fun e => hi e.2)] at h; exact Nat.lt_irrefl _ h

theorem ltal_pos {c : Dev nD} {t : ℕ} {g : GSem nD τ sig} {ι : ℕ} (h : 0 < ltal c t g ι) :
    g = cellAt (rmate c t) (.rrecv (fm 10 t)) ∧ ι = llv t := by
  unfold ltal at h
  by_contra hne
  rw [not_and_or] at hne
  rw [tallyAt_apply] at h
  rcases hne with hg | hi
  · rw [if_neg (fun e => hg e.1)] at h; exact Nat.lt_irrefl _ h
  · rw [if_neg (fun e => hi e.2)] at h; exact Nat.lt_irrefl _ h

theorem sum_tal_pos {s : Finset ℕ} {f : ℕ → CellTallies nD τ sig ℕ} {g : GSem nD τ sig} {ι : ℕ} (h : 0 < (∑ n ∈ s, f n) g ι) :
    ∃ n ∈ s, 0 < f n g ι := by
  by_contra hn
  push Not at hn
  have : ∀ s' : Finset ℕ, s' ⊆ s → (∑ n ∈ s', f n) g ι = 0 := by
    intro s'
    induction s' using Finset.induction with
    | empty => intro _; rfl
    | insert a s' ha ih =>
      intro hs
      rw [Finset.sum_insert ha]
      have h1 := ih (fun x hx => hs (Finset.mem_insert_of_mem hx))
      have h2 := hn a (hs (Finset.mem_insert_self _ _))
      show (f a g + (∑ n ∈ s', f n) g) ι = 0
      rw [Finsupp.add_apply]; omega
  rw [this s (Finset.Subset.refl _)] at h
  exact Nat.lt_irrefl _ h

theorem owed_pos {c : Dev nD} {i t : ℕ} {g : GSem nD τ sig} {ι : ℕ} (h : 0 < (owedD c i + owedL c t) g ι) :
    g.1.2 = .tc ∧ ((∃ n ∈ Finset.Ico i 49, ι = dlv (dueAt n)) ∨ ∃ n ∈ Finset.Ico t 10, ι = llv n) := by
  have h' : 0 < owedD c i g ι + owedL c t g ι := h
  rcases Nat.lt_or_ge 0 (owedD c i g ι) with h1 | h1
  · obtain ⟨n, hn, hp⟩ := sum_tal_pos h1
    obtain ⟨rfl, rfl⟩ := dtal_pos hp
    exact ⟨rfl, .inl ⟨n, hn, rfl⟩⟩
  · have h2 : 0 < owedL c t g ι := by omega
    obtain ⟨n, hn, hp⟩ := sum_tal_pos h2
    obtain ⟨rfl, rfl⟩ := ltal_pos hp
    exact ⟨rfl, .inr ⟨n, hn, rfl⟩⟩

theorem mayWait (c : Dev nD) (s : SemLoc sig) (b i t : ℕ) (h : Below b i t) :
    (levAts L lv : sProp 𝕄) ⊢ MayWait (c : Thread nD τ) s b (owedD c i + owedL c t) := by
  refine MayOwe.of_cut (L := L) (lev := lv) b ?_ ?_ ?_ ?_
  · intro p hp
    have hp := Finset.mem_singleton.mp hp; subst hp
    exact mem_L _ rfl _ h.1
  · intro g ι hp
    obtain ⟨hg, ⟨n, hn, rfl⟩ | ⟨n, hn, rfl⟩⟩ := owed_pos hp
    · exact mem_L _ hg _ (dlv_lt n (Finset.mem_Ico.mpr ⟨Nat.zero_le _, (Finset.mem_Ico.mp hn).2⟩))
    · exact mem_L _ hg _ (by have := (Finset.mem_Ico.mp hn).2; unfold llv; omega)
  · intro p hp
    have hp := Finset.mem_singleton.mp hp; subst hp
    exact le_refl _
  · intro g ι hp
    obtain ⟨hg, ⟨n, hn, rfl⟩ | ⟨n, hn, rfl⟩⟩ := owed_pos hp
    · exact h.2.1 n hn
    · exact h.2.2 n hn

/-! ## The standing facts -/

/-- Every cell's and every landing place's invariant, and the levels. -/
def Invs (κ : GSem nD τ sig → ℕ) (ιs : Dev nD × Kd → ℕ) : sProp 𝕄 :=
  iprop((bigSep Finset.univ fun x : Dev nD × Kd => iprop(cellInv ER (Rd X Wt) (κ (cellAt x.1 x.2)) (cellAt x.1 x.2)
    ∗ slotInv ES (ιs x) x (place x))) ∗ levAts L lv ∗ bigSep Finset.univ fun p : Dev nD => reached ER (cellAt p .bar) 0)

instance Invs_persistent (κ : GSem nD τ sig → ℕ) (ιs : Dev nD × Kd → ℕ) : BI.Persistent (Invs X Wt κ ιs) := by unfold Invs; infer_instance

theorem Invs_cell (κ : GSem nD τ sig → ℕ) (ιs : Dev nD × Kd → ℕ) (c : Dev nD) (k : Kd) :
    Invs X Wt κ ιs ⊢ cellInv ER (Rd X Wt) (κ (cellAt c k)) (cellAt c k) := by
  unfold Invs
  iintro ⟨H, -, -⟩
  ihave H' := (big_at (fun x : Dev nD × Kd => iprop(cellInv ER (Rd X Wt) (κ (cellAt x.1 x.2)) (cellAt x.1 x.2)
    ∗ slotInv ES (ιs x) x (place x))) (Finset.mem_univ (c, k))) $$ H
  icases H' with ⟨H1, -⟩
  iexact H1

theorem Invs_slot (κ : GSem nD τ sig → ℕ) (ιs : Dev nD × Kd → ℕ) (x : Dev nD × Kd) :
    Invs X Wt κ ιs ⊢ slotInv ES (ιs x) x (place x) := by
  unfold Invs
  iintro ⟨H, -, -⟩
  ihave H' := (big_at (fun x : Dev nD × Kd => iprop(cellInv ER (Rd X Wt) (κ (cellAt x.1 x.2)) (cellAt x.1 x.2)
    ∗ slotInv ES (ιs x) x (place x))) (Finset.mem_univ x)) $$ H
  icases H' with ⟨-, H1⟩
  iexact H1

theorem Invs_lev (κ : GSem nD τ sig → ℕ) (ιs : Dev nD × Kd → ℕ) : Invs X Wt κ ιs ⊢ levAts L lv := by
  unfold Invs; iintro ⟨-, H, -⟩; iexact H

theorem Invs_mayWait (κ : GSem nD τ sig → ℕ) (ιs : Dev nD × Kd → ℕ) (c : Dev nD) (s : SemLoc sig) (b i t : ℕ) (h : Below b i t) :
    Invs X Wt κ ιs ⊢ MayWait (c : Thread nD τ) s b (owedD c i + owedL c t) :=
  (Invs_lev X Wt κ ιs).trans (mayWait c s b i t h)

theorem Invs_bar (κ : GSem nD τ sig → ℕ) (ιs : Dev nD × Kd → ℕ) (p : Dev nD) : Invs X Wt κ ιs ⊢ reached ER (cellAt p .bar) 0 := by
  unfold Invs; iintro ⟨-, -, H⟩
  iapply (big_at (fun p : Dev nD => reached ER (cellAt p .bar) 0) (Finset.mem_univ p)) $$ H

/-- The device itself and its four neighbours have entered. -/
def Nbr (c : Dev nD) : sProp 𝕄 := iprop(Entered c ∗ Entered (prv c) ∗ Entered (nxt c) ∗ Entered (pa c) ∗ Entered (pb c))
instance Nbr_persistent (c : Dev nD) : BI.Persistent (Nbr (F := F) c) := by unfold Nbr; infer_instance

theorem Entered_rel (p : Dev nD) (k : Kd) (hk : isLand k = true) : (Entered p : sProp 𝕄) ⊢ released ES (p, k) 1 := by
  unfold Entered
  iintro ⟨H, -⟩
  iapply (big_at (fun k : Kd => released ES (p, k) 1) (Finset.mem_filter.mpr ⟨Finset.mem_univ k, hk⟩)) $$ H
theorem Entered_reach (p : Dev nD) (k : Kd) : (Entered p : sProp 𝕄) ⊢ reached ER (cellAt p k) 0 := by
  unfold Entered
  iintro ⟨-, H⟩
  iapply (big_at (fun k : Kd => reached ER (cellAt p k) 0) (Finset.mem_univ k)) $$ H

theorem Nbr_rto (c : Dev nD) (d : Bool) : (Nbr c : sProp 𝕄) ⊢ Entered (rto c d) := by
  unfold Nbr rto
  iintro ⟨-, Hp, Hn, -, -⟩
  cases d
  · iexact Hn
  · iexact Hp
theorem Nbr_rfrom (c : Dev nD) (d : Bool) : (Nbr c : sProp 𝕄) ⊢ Entered (rfrom c d) := by
  unfold Nbr rfrom
  iintro ⟨-, Hp, Hn, -, -⟩
  cases d
  · iexact Hp
  · iexact Hn
theorem Nbr_rmate (c : Dev nD) (t : ℕ) : (Nbr c : sProp 𝕄) ⊢ Entered (rmate c t) := by
  unfold Nbr rmate
  iintro ⟨-, -, -, Ha, Hb⟩
  split
  · iexact Ha
  · iexact Hb
theorem Nbr_self (c : Dev nD) : (Nbr c : sProp 𝕄) ⊢ Entered c := by
  unfold Nbr
  iintro ⟨H, -⟩
  iexact H

theorem Again_elim {p : Dev nD} {d : Bool} {n j : ℕ} (h : j < n) :
    (Again p d n : sProp 𝕄) ⊢ iprop(released ES (p, Kd.recv d (fm 5 j)) (j / 5 + 2) ∗ reached ER (cellAt p (.recv d (fm 5 j))) (j / 5 + 1)) := by
  unfold Again
  exact big_at (fun j => iprop(released ES (p, Kd.recv d (fm 5 j)) (j / 5 + 2) ∗ reached ER (cellAt p (.recv d (fm 5 j))) (j / 5 + 1)))
    (Finset.mem_range.mpr h)
theorem Again_mono {p : Dev nD} {d : Bool} {n m : ℕ} (h : m ≤ n) : (Again p d n : sProp 𝕄) ⊢ Again p d m := by
  unfold Again
  exact bigSep_subset (Finset.range_mono h)

/-! ## Wait queues -/

/-- Waits `lo … hi - 1` on a run of cells that comes round every `p` waits. -/
def WQ (c : Dev nD) (cell : ℕ → Kd) (p : ℕ) (ι : ℕ → ℕ) (lo hi : ℕ) : sProp 𝕄 :=
  iprop(bigSep (Finset.Ico lo hi) (fun j => cred (tallyAt (cellAt c (cell j)) (ι j) (kamt (cell j))))
    ∗ bigSep (Finset.Ico lo (lo + p)) (fun j => atPos ER (cellAt c (cell j)) (j / p) ∅ 0)
    ∗ bigSep (Finset.range lo) (fun j => reached ER (cellAt c (cell j)) (j / p + 1)))

theorem WQ_app (c : Dev nD) (cell : ℕ → Kd) (p : ℕ) (ι : ℕ → ℕ) {lo hi : ℕ} (h : lo ≤ hi) :
    iprop(WQ c cell p ι lo hi ∗ cred (tallyAt (cellAt c (cell hi)) (ι hi) (kamt (cell hi)))) ⊢ (WQ c cell p ι lo (hi + 1) : sProp 𝕄) := by
  unfold WQ
  rw [bigSep_Ico_succ_top h]
  iintro ⟨⟨Hc, Hr⟩, Hn⟩
  isplitl [Hc Hn]
  · isplitl [Hn] <;> iassumption
  iexact Hr

theorem WQ_reached (c : Dev nD) (cell : ℕ → Kd) (p : ℕ) (ι : ℕ → ℕ) {lo hi j : ℕ} (h : j < lo) :
    (WQ c cell p ι lo hi : sProp 𝕄) ⊢ reached ER (cellAt c (cell j)) (j / p + 1) := by
  unfold WQ
  iintro ⟨-, -, H⟩
  iapply (big_at (fun j => reached ER (cellAt c (cell j)) (j / p + 1)) (Finset.mem_range.mpr h)) $$ H

variable {α : Type} {Q : α → sProp (MT nD τ sig ℕ (Elt F) ℕ UU ℕ)} {κ : GSem nD τ sig → ℕ} {ιs : Dev nD × Kd → ℕ}

theorem rest_eq (c : Dev nD) {k : Kd} {r : ℕ} (hd : kdut c k r = {0}) :
    bigSep ((Rd X Wt).duties (cellAt c k) r \ ∅) (fun d => (Rd X Wt).payload (cellAt c k) r d) = kpay X Wt c k r 0 := by
  rw [Rd_duties, hd, Finset.sdiff_empty, bigSep_singleton, Rd_payload]

theorem WQ_wait (c : Dev nD) (cell : ℕ → Kd) (p : ℕ) (ι : ℕ → ℕ) {lo hi i t : ℕ} (hlo : lo < hi) (hp : 0 < p) (hcp : cell (lo + p) = cell lo)
    {w : TpuEff nD τ sig (Elt F) Λ₀ (.tc : Proc τ) PUnit} {k : PUnit → Prog (TpuEff nD τ sig (Elt F) Λ₀ .tc) α}
    (hw : ∀ K : PUnit → sProp 𝕄, wpE (defs₀ (F := F)) 𝒱₀ (c : Thread nD τ) none Set.univ w K
      = waitSpec (c : Thread nD τ) Set.univ (semOf (cell lo)) (kamt (cell lo)) K)
    (hd : kdut c (cell lo) (lo / p) = {0}) (hB : Below (ι lo) i t) :
    iprop(Invs X Wt κ ιs ∗ Main c i t ∗ WQ c cell p ι lo hi)
      ⊢ iprop(((Main c i t ∗ WQ c cell p ι (lo + 1) hi ∗ kpay X Wt c (cell lo) (lo / p) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hm := Invs_mayWait X Wt κ ιs c (semOf (cell lo)) (ι lo) i t hB
  unfold Main WQ
  rw [bigSep_range_succ, bigSep_Ico_succ_bot hlo,
    bigSep_Ico_succ_bot (show lo < lo + p by omega), show lo + 1 + p = (lo + p) + 1 by omega, bigSep_Ico_succ_top (show lo + 1 ≤ lo + p by omega), hcp,
    Nat.add_div_right _ hp]
  iintro ⟨#HI, ⟨⟨%W, HO⟩, Hdt, Hlt⟩, ⟨Hc, Hcs⟩, ⟨Ha, Has⟩, #Hrs⟩ Hk
  iapply (Rounds.wp_wait_rest_token 𝒱₀ ER (Rd X Wt) (c : Thread nD τ) none (κ := κ (cellAt c (cell lo))) (sm := semOf (cell lo))
      hw (Set.mem_univ _) (ι lo) (O := owedD c i + owedL c t) (W := W) (R := lo / p) (m := 0) (T := ∅)
      (by rw [Rd_expect, hd, Finset.card_singleton, Nat.one_mul, Nat.zero_add])) $$ [Hc HO Ha]
  · isplitr; · iapply (Invs_cell X Wt κ ιs c (cell lo)); iexact HI
    isplitl [Hc]; · iexact Hc
    isplitl [HO]; · iexact HO
    isplitr; · iapply hm; iexact HI
    iexact Ha
  iintro ⟨HO, Ha, #Hr, Hp⟩
  ihave Hp := (Entails.of_eq (rest_eq X Wt c hd)) $$ Hp
  iapply Hk
  isplitl [HO Hdt Hlt]
  · isplitl [HO]; · iexists _; iexact HO
    isplitl [Hdt] <;> iassumption
  isplitl [Hcs Has Ha]
  · isplitl [Hcs]; · iexact Hcs
    isplitl [Has Ha]
    · isplitl [Ha] <;> iassumption
    isplitr <;> iassumption
  iexact Hp

/-! ## The queues of the kernel -/

/-- The ring messages of direction `d` taken in, `j` so far, and who they came from. -/
def RQ (c : Dev nD) (d : Bool) (j : ℕ) : sProp 𝕄 :=
  iprop(WQ c (fun j => .recv d (fm 5 j)) 5 rlv j 10 ∗ bigSep (Finset.range j) fun j => Entered (org c d j))
/-- The ring sends of direction `d`: `w` waited for of `s` sent. -/
def SQ (c : Dev nD) (d : Bool) (w s : ℕ) : sProp 𝕄 := WQ c (fun j => .send d (fm 5 j)) 5 (fun _ => 0) w s
def LQ (c : Dev nD) (t : ℕ) : sProp 𝕄 :=
  iprop(WQ c (fun j => .rrecv (fm 10 j)) 10 llv t 10 ∗ bigSep (Finset.range t) fun j => Entered (rorg c j))
def TQ (c : Dev nD) (w s : ℕ) : sProp 𝕄 := WQ c (fun j => .rsend (fm 10 j)) 10 (fun _ => 0) w s
def AQ (c : Dev nD) (j : ℕ) : sProp 𝕄 := WQ c (fun j => .arecv (adv c (1 + j % 15))) 15 (fun _ => 300) j 15
def BQ (c : Dev nD) (w s : ℕ) : sProp 𝕄 := WQ c (fun j => .asend (adv c (1 + j % 15))) 15 (fun _ => 0) w s
/-- The credits of direction `d`, `m` taken so far. -/
def CQ (c : Dev nD) (d : Bool) (m : ℕ) : sProp 𝕄 :=
  iprop(bigSep (Finset.Ico m 5) (fun n => cred (tallyAt (cellAt c (.cr d)) (clv n) 1)) ∗ Again (rto c d) d m
    ∗ (if m = 5 then atPos ER (cellAt c (.cr d)) 1 ∅ 0
      else ∃ S : Finset ℕ, ⌜m ≤ S.card⌝ ∗ atPos ER (cellAt c (.cr d)) 0 S m ∗ bigSep S fun i => Again (rto c d) d (i + 1)))
/-- The read-out positions of direction `d`'s slots, `n` given out again. -/
def RDq (c : Dev nD) (d : Bool) (n : ℕ) : sProp 𝕄 :=
  iprop(bigSep (Finset.Ico n (n + 5)) (fun j => readerAt ES (c, Kd.recv d (fm 5 j)) (j / 5 + 1)) ∗ Again c d n)
/-- The staging places from `t` on. -/
def Stg (c : Dev nD) (t : ℕ) : sProp 𝕄 := bigSep (Finset.Ico t 10) fun j => iprop(∃ V, owns (c : Thread nD τ) (stgM (fm 10 j)) fullShare V)

theorem RQ_ent (c : Dev nD) (d : Bool) {j n : ℕ} (h : n < j) : (RQ c d j : sProp 𝕄) ⊢ Entered (org c d n) := by
  unfold RQ; iintro ⟨-, H⟩
  iapply (big_at (fun j => Entered (org c d j)) (Finset.mem_range.mpr h)) $$ H
theorem LQ_ent (c : Dev nD) {j n : ℕ} (h : n < j) : (LQ c j : sProp 𝕄) ⊢ Entered (rorg c n) := by
  unfold LQ; iintro ⟨-, H⟩
  iapply (big_at (fun j => Entered (rorg c j)) (Finset.mem_range.mpr h)) $$ H

end Cert.Proof
end
-- ==== Proof.Steps.lean ====
module

public import proofs.«01_k».proof.Proof.State
public import Idealize.ShloMosaic.Lib.Pipeline.Value

@[expose] public section

set_option maxRecDepth 20000

noncomputable section

/-!
One lemma for each kind of step of the body.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-- The body's weakest precondition on device `c`. -/
abbrev bwp (c : Dev nD) (p : Prog (TpuEff nD τ sig (Elt F) Λ₀ .tc) α) (Q : α → sProp (MT nD τ sig ℕ (Elt F) ℕ UU ℕ)) :
    sProp (MT nD τ sig ℕ (Elt F) ℕ UU ℕ) :=
  wp frame (wpE (defs₀ (F := F)) 𝒱₀ (c : Thread nD τ) none) Set.univ p Q

/-! ## Loads and stores -/

section Mem
variable {s s' : Shape} {e : EltTy}

/-- A load of a rectangle through the memref that names it by slicing and dropping axes. -/
theorem ld_sq (c : Dev nD) {cs : CoreSpace} {m : Memref sig .tc cs s e} {r : Rect s} (hr : ∀ a, r.stride a = 1) (hq : Shape.Squeezes _ s')
    (hc : r.shape.ShapeCasts s') (hc' : s'.ShapeCasts r.shape)
    {sl : Memref sig .tc cs s' e} (hsl : sl = (m.slice r hr).squeeze s' hq) {hl : m.view.LoadsAt r.toLoadRect}
    {k : (r.toLoadRect.shape.Idx → Elt F e) → Prog (TpuEff nD τ sig (Elt F) Λ₀ .tc) α} {q : PosShare TreeShare} {V : s'.Idx → Elt F e} :
    owns (c : Thread nD τ) sl q V ⊢ iprop((owns (c : Thread nD τ) sl q V -∗ bwp c (k (shapeCast r.shape V hc')) Q)
      -∗ bwp c (.op (.load m r.toLoadRect hl) k) Q) := by
  subst hsl
  unfold owns
  iintro ⟨%f, %hf, Hf⟩ Hk
  iapply (wp_load 𝒱₀ (c : Thread nD τ) none Set.univ (m := m) (r := r.toLoadRect) (hl := hl) (k := k)
    (S := ((m.slice r hr).squeeze s' hq).view.set) (q := q) (f := f)
    (by rw [Memref.set_view_squeeze]; exact (View.set_slice m.view r).ge)) $$ Hf
  iintro Hf
  have hv : m.view.readAt (Elt F) r.toLoadRect f = shapeCast r.shape V hc' := by
    rw [← hf, Memref.read_squeeze_slice m r hr hq hc f]
    exact (shapeCast_shapeCast _ _ _).symm
  rw [hv]
  iapply Hk
  iexists f
  isplitr; · ipureintro; exact hf
  iexact Hf

/-- A store to a rectangle through the memref that names it by slicing and dropping axes. -/
theorem st_sq (c : Dev nD) {cs : CoreSpace} {m : Memref sig .tc cs s e} {r : Rect s} (hr : ∀ a, r.stride a = 1) (hq : Shape.Squeezes _ s')
    (hc : r.shape.ShapeCasts s')
    {sl : Memref sig .tc cs s' e} (hsl : sl = (m.slice r hr).squeeze s' hq) {w : r.shape.Idx → Elt F e}
    {hx : (m.access r).Stores Finset.univ} {hm : Finset.univ = Finset.univ ∨ ∀ a, r.stride a = 1}
    {k : PUnit → Prog (TpuEff nD τ sig (Elt F) Λ₀ .tc) α} {V : s'.Idx → Elt F e} :
    owns (c : Thread nD τ) sl fullShare V ⊢ iprop((owns (c : Thread nD τ) sl fullShare (shapeCast s' w hc) -∗ bwp c (k ⟨⟩) Q)
      -∗ bwp c (.op (.store m r w Finset.univ hx hm) k) Q) := by
  subst hsl
  unfold owns
  iintro ⟨%f, %hf, Hf⟩ Hk
  iapply (wp_store 𝒱₀ (c : Thread nD τ) none Set.univ (m := m) (r := r) (w := w) (Mk := Finset.univ) (hx := hx) (hm := hm) (k := k)
    (S := ((m.slice r hr).squeeze s' hq).view.set) (f := f)
    (by rw [Memref.set_view_squeeze]; exact Finset.Subset.refl _)) $$ Hf
  iintro Hf
  iapply Hk
  iexists _
  isplitr
  · ipureintro
    rw [Memref.read_squeeze_slice m r hr hq hc]
    congr 1
    exact View.read_write_univ (v := m.access r) f w
  iexact Hf

/-- A load through a memref whose reading determines what the rectangle reads. -/
theorem ld_by (c : Dev nD) {cs : CoreSpace} {m : Memref sig .tc cs s e} {r : LoadRect s} {hl : m.view.LoadsAt r}
    (g : (s.Idx → Elt F e) → (r.shape.Idx → Elt F e)) (hg : ∀ f : m.view.ty.Contents (Elt F), m.view.readAt (Elt F) r f = g (m.view.read (Elt F) f))
    {k : (r.shape.Idx → Elt F e) → Prog (TpuEff nD τ sig (Elt F) Λ₀ .tc) α} {q : PosShare TreeShare} {V : s.Idx → Elt F e} :
    owns (c : Thread nD τ) m q V ⊢ iprop((owns (c : Thread nD τ) m q V -∗ bwp c (k (g V)) Q)
      -∗ bwp c (.op (.load m r hl) k) Q) := by
  unfold owns
  iintro ⟨%f, %hf, Hf⟩ Hk
  iapply (wp_load 𝒱₀ (c : Thread nD τ) none Set.univ (m := m) (r := r) (hl := hl) (k := k)
    (S := m.view.set) (q := q) (f := f) (View.setOn_subset_set _ _)) $$ Hf
  iintro Hf
  have hv : m.view.readAt (Elt F) r f = g V := by rw [hg f, hf]
  rw [hv]
  iapply Hk
  iexists f
  isplitr; · ipureintro; exact hf
  iexact Hf

/-- A load whose value is not used. -/
theorem ld_dead (c : Dev nD) {cs : CoreSpace} (m : Memref sig .tc cs s e) {r : LoadRect s} {hl : m.view.LoadsAt r}
    {k : (r.shape.Idx → Elt F e) → Prog (TpuEff nD τ sig (Elt F) Λ₀ .tc) α} {q : PosShare TreeShare} {V : s.Idx → Elt F e} :
    owns (c : Thread nD τ) m q V ⊢ iprop((∀ v, owns (c : Thread nD τ) m q V -∗ bwp c (k v) Q)
      -∗ bwp c (.op (.load m r hl) k) Q) := by
  unfold owns
  iintro ⟨%f, %hf, Hf⟩ Hk
  iapply (wp_load 𝒱₀ (c : Thread nD τ) none Set.univ (m := m) (r := r) (hl := hl) (k := k)
    (S := m.view.set) (q := q) (f := f) (View.setOn_subset_set _ _)) $$ Hf
  iintro Hf
  iapply Hk
  iexists f
  isplitr; · ipureintro; exact hf
  iexact Hf

end Mem

abbrev xW : Memref sig .tc .vmem S256x4096 .f32 := Memref.whole cc0_stg1_0
abbrev wW : Memref sig .tc .vmem S4096x512 .f32 := Memref.whole cc0_stg2_0
abbrev oW : Memref sig .tc .vmem S4096x512 .f32 := Memref.whole cc0_stg3_0
abbrev tW : Memref sig .tc .smem S30 .i32 := Memref.whole cc0_stg0_0
abbrev aW : Memref sig .tc .vmem S16x8x128 .f32 := Memref.whole cc0_scratch11

theorem ld_x (c : Dev nD) {off : Fin 2 → ℕ} (ho : off = fun _ => 0) {inb : ∀ a, off a + S256x4096.size a ≤ S256x4096.size a}
    {hl : (xW.view).LoadsAt (Rect.unit (s := S256x4096) off S256x4096.size inb).toLoadRect}
    {k : Vec F S256x4096 .f32 → Prog (TpuEff nD τ sig (Elt F) Λ₀ .tc) α} {q : PosShare TreeShare} {V : Vec F S256x4096 .f32} :
    owns (c : Thread nD τ) xW q V ⊢ iprop((owns (c : Thread nD τ) xW q V -∗ bwp c (k V) Q)
      -∗ bwp c (.op (.load xW (Rect.unit (s := S256x4096) off S256x4096.size inb).toLoadRect hl) k) Q) :=
  ld_by (F := F) c (m := xW) (r := (Rect.unit (s := S256x4096) off S256x4096.size inb).toLoadRect) (hl := hl) (k := k) (Q := Q) (q := q)
    (fun V => V) (fun f => Memref.readAt_unit_zero (Elt F) cc0_stg1_0 ho inb f) (V := V)
theorem ld_w (c : Dev nD) {off : Fin 2 → ℕ} (ho : off = fun _ => 0) {inb : ∀ a, off a + S4096x512.size a ≤ S4096x512.size a}
    {hl : (wW.view).LoadsAt (Rect.unit (s := S4096x512) off S4096x512.size inb).toLoadRect}
    {k : Vec F S4096x512 .f32 → Prog (TpuEff nD τ sig (Elt F) Λ₀ .tc) α} {q : PosShare TreeShare} {V : Vec F S4096x512 .f32} :
    owns (c : Thread nD τ) wW q V ⊢ iprop((owns (c : Thread nD τ) wW q V -∗ bwp c (k V) Q)
      -∗ bwp c (.op (.load wW (Rect.unit (s := S4096x512) off S4096x512.size inb).toLoadRect hl) k) Q) :=
  ld_by (F := F) c (m := wW) (r := (Rect.unit (s := S4096x512) off S4096x512.size inb).toLoadRect) (hl := hl) (k := k) (Q := Q) (q := q)
    (fun V => V) (fun f => Memref.readAt_unit_zero (Elt F) cc0_stg2_0 ho inb f) (V := V)
theorem ld_o (c : Dev nD) {off : Fin 2 → ℕ} (ho : off = fun _ => 0) {inb : ∀ a, off a + S4096x512.size a ≤ S4096x512.size a}
    {hl : (oW.view).LoadsAt (Rect.unit (s := S4096x512) off S4096x512.size inb).toLoadRect}
    {k : Vec F S4096x512 .f32 → Prog (TpuEff nD τ sig (Elt F) Λ₀ .tc) α} {q : PosShare TreeShare} {V : Vec F S4096x512 .f32} :
    owns (c : Thread nD τ) oW q V ⊢ iprop((owns (c : Thread nD τ) oW q V -∗ bwp c (k V) Q)
      -∗ bwp c (.op (.load oW (Rect.unit (s := S4096x512) off S4096x512.size inb).toLoadRect hl) k) Q) :=
  ld_by (F := F) c (m := oW) (r := (Rect.unit (s := S4096x512) off S4096x512.size inb).toLoadRect) (hl := hl) (k := k) (Q := Q) (q := q)
    (fun V => V) (fun f => Memref.readAt_unit_zero (Elt F) cc0_stg3_0 ho inb f) (V := V)
theorem ld_a (c : Dev nD) {off : Fin 3 → ℕ} (ho : off = fun _ => 0) {inb : ∀ a, off a + S16x8x128.size a ≤ S16x8x128.size a}
    {hl : (aW.view).LoadsAt (Rect.unit (s := S16x8x128) off S16x8x128.size inb).toLoadRect}
    {k : Vec F S16x8x128 .f32 → Prog (TpuEff nD τ sig (Elt F) Λ₀ .tc) α} {q : PosShare TreeShare} {V : Vec F S16x8x128 .f32} :
    owns (c : Thread nD τ) aW q V ⊢ iprop((owns (c : Thread nD τ) aW q V -∗ bwp c (k V) Q)
      -∗ bwp c (.op (.load aW (Rect.unit (s := S16x8x128) off S16x8x128.size inb).toLoadRect hl) k) Q) :=
  ld_by (F := F) c (m := aW) (r := (Rect.unit (s := S16x8x128) off S16x8x128.size inb).toLoadRect) (hl := hl) (k := k) (Q := Q) (q := q)
    (fun V => V) (fun f => Memref.readAt_unit_zero (Elt F) cc0_scratch11 ho inb f) (V := V)

/-! ## The table of scalars -/

/-- Entry `i` of device `c`'s table. -/
def metaN (c : Dev nD) (i : ℕ) : ℕ :=
  if i = 0 then (nxt c).val else if i = 1 then (prv c).val
  else if i < 12 then (org c false (i - 2)).val else if i < 22 then (org c true (i - 12)).val
  else if i = 22 then (pa c).val else if i = 23 then (pb c).val else if i = 24 then (cls c).val
  else (rorg c (2 * (i - 25))).val
def mw (c : Dev nD) (i : ℕ) : BitVec 32 := BitVec.ofNat 32 (metaN c i)
def metaV (c : Dev nD) : Vec F S30 .i32 := fun i => mw c (i 0).val

theorem ld_t (c : Dev nD) (n : ℕ) {off : Fin 1 → ℕ} (ho : off = ![n]) {inb : ∀ a, off a + S1.size a ≤ S30.size a}
    {hl : (tW.view).LoadsAt (Rect.unit (s := S30) off S1.size inb).toLoadRect}
    {k : (S1.Idx → Elt F .i32) → Prog (TpuEff nD τ sig (Elt F) Λ₀ .tc) α} {q : PosShare TreeShare} :
    owns (c : Thread nD τ) tW q (metaV (F := F) c) ⊢ iprop((owns (c : Thread nD τ) tW q (metaV (F := F) c) -∗ bwp c (k fun _ => mw c n) Q)
      -∗ bwp c (.op (.load tW (Rect.unit (s := S30) off S1.size inb).toLoadRect hl) k) Q) := by
  have h := ld_by (F := F) c (m := tW) (r := (Rect.unit (s := S30) off S1.size inb).toLoadRect) (hl := hl) (k := k) (Q := Q) (q := q)
    (fun V => (tW.access (Rect.unit (s := S30) off S1.size inb)).read (Elt F) V) (fun f => rfl) (V := metaV c)
  have hv : ((tW.access (Rect.unit (s := S30) off S1.size inb)).read (Elt F) (metaV (F := F) c) : S1.Idx → Elt F .i32) = fun _ => mw c n := by
    subst ho
    funext x
    have hx : (x 0).val = 0 := by have := (x 0).isLt; change (x 0).val < 1 at this; omega
    show mw c (n + 1 * (x 0).val) = mw c n
    rw [hx]; rfl
  rw [hv] at h
  exact h

/-! ## The barrier -/

theorem barFrom_barTo : ∀ (c : Dev nD) (i : Fin 4), barFrom (barTo c i.val) i.val = c := by decide

variable {κ : GSem nD τ sig → ℕ} {ιs : Dev nD × Kd → ℕ}

theorem bar_sig (c : Dev nD) (i t : ℕ) (hi : i < 4) (hdue : dueAt i = .bar i) {n : Dev nD} (hn : n = barTo c i) {sm : Sem sig} (hsm : SemLoc.reg sm = semOf .bar)
    {k' : ℕ} (hk' : k' = 1) {k : PUnit → Prog (TpuEff nD τ sig (Elt F) Λ₀ .tc) α} :
    iprop(Invs X Wt κ ιs ∗ Entered c ∗ Main c i t) ⊢ iprop((Main c (i + 1) t -∗ bwp c (k ⟨⟩) Q)
      -∗ bwp c (.op (.semSignal (n : Thread nD τ) sm k') k) Q) := by
  subst hn hk'
  unfold Main
  rw [bigSep_Ico_succ_bot (show i < 49 by omega), hdue, show dtok (F := F) c (.bar i) = dutyTok ER (cellAt (barTo c i) .bar) 0 i from rfl]
  iintro ⟨#HI, #HE, ⟨%W, HO⟩, ⟨Hd, Hds⟩, Hl⟩ Hk
  iapply (Rounds.wp_signal 𝒱₀ ER (Rd X Wt) (c : Thread nD τ) none (dst := (barTo c i : Thread nD τ)) (sem := sm) (r := 0) (d := i)
      (κ := κ (cellAt (barTo c i) .bar))
      (by rw [hsm]; rw [Rd_duties]; exact Finset.mem_range.mpr hi) (by rw [hsm]; exact Rd_amount X Wt _ .bar 0 i) 1 (O₀ := owedD c i + owedL c t) (owedD c (i + 1) + owedL c t)
      (by rw [owedD_succ c i (by omega), hdue, hsm, add_comm (dtal _ _), add_right_comm]; rfl)) $$ [HO Hd]
  · rw [hsm]
    isplitr; · iapply (Invs_cell X Wt κ ιs (barTo c i) .bar); iexact HI
    isplitl [HO]; · iexact HO
    isplitl [Hd]; · iexact Hd
    isplitr
    · rw [Rd_payload]
      unfold kpay
      rw [barFrom_barTo c ⟨i, hi⟩]
      iexact HE
    · iapply (Invs_bar X Wt κ ιs (barTo c i)); iexact HI
  iintro HO
  iapply Hk
  isplitl [HO]; · iexists W; iexact HO
  isplitl [Hds] <;> iassumption

theorem bar_pays (c : Dev nD) : bigSep ((Rd X Wt).duties (cellAt c .bar) 0 \ ∅) (fun d => (Rd X Wt).payload (cellAt c .bar) 0 d)
    ⊢ iprop(Entered (prv c) ∗ Entered (nxt c) ∗ Entered (pa c) ∗ Entered (pb c)) := by
  rw [Rd_duties, Finset.sdiff_empty]
  have h : (fun d => (Rd X Wt).payload (cellAt c .bar) 0 d) = fun d => Entered (barFrom c d) := funext fun d => Rd_payload X Wt c .bar 0 d
  rw [h]
  show bigSep (Finset.range 4) _ ⊢ _
  iintro #H
  ihave #H0 := (big_at (fun d => Entered (F := F) (barFrom c d)) (show 0 ∈ Finset.range 4 by decide)) $$ H
  ihave #H1 := (big_at (fun d => Entered (F := F) (barFrom c d)) (show 1 ∈ Finset.range 4 by decide)) $$ H
  ihave #H2 := (big_at (fun d => Entered (F := F) (barFrom c d)) (show 2 ∈ Finset.range 4 by decide)) $$ H
  ihave #H3 := (big_at (fun d => Entered (F := F) (barFrom c d)) (show 3 ∈ Finset.range 4 by decide)) $$ H
  isplitr; · iexact H0
  isplitr; · iexact H1
  isplitr; · iexact H2
  iexact H3

theorem bar_wait (c : Dev nD) (i t : ℕ) (hB : Below 1 i t) {sm : Sem sig} (hsm : SemLoc.reg sm = semOf .bar)
    {k' : ℕ} (hk' : k' = 4) {k : PUnit → Prog (TpuEff nD τ sig (Elt F) Λ₀ .tc) α} :
    iprop(Invs X Wt κ ιs ∗ Entered c ∗ Main c i t ∗ cred (tallyAt (cellAt c .bar) 1 4) ∗ atPos ER (cellAt c .bar) 0 ∅ 0)
      ⊢ iprop(((Main c i t ∗ atPos ER (cellAt c .bar) 1 ∅ 0 ∗ Nbr c) -∗ bwp c (k ⟨⟩) Q)
      -∗ bwp c (.op (.semWait sm k') k) Q) := by
  subst hk'
  unfold Main
  iintro ⟨#HI, #HE, ⟨⟨%W, HO⟩, Hds⟩, Hc, Ha⟩ Hk
  iapply (Rounds.wp_wait_rest_token 𝒱₀ ER (Rd X Wt) (c : Thread nD τ) none (κ := κ (cellAt c .bar)) (sm := .reg sm)
      (wpE_semWait_eq 𝒱₀ (c : Thread nD τ) none Set.univ) (Set.mem_univ _) 1 (O := owedD c i + owedL c t) (W := W) (R := 0) (m := 0) (T := ∅)
      (by rw [hsm]; rw [Rd_expect]; rfl)) $$ [Hc HO Ha]
  · rw [hsm]
    isplitr; · iapply (Invs_cell X Wt κ ιs c .bar); iexact HI
    isplitl [Hc]; · iexact Hc
    isplitl [HO]; · iexact HO
    isplitr; · iapply (Invs_mayWait X Wt κ ιs c (semOf .bar) 1 i t hB); iexact HI
    iexact Ha
  rw [hsm]
  iintro ⟨HO, Ha, -, Hp⟩
  ihave Hp := (bar_pays X Wt c) $$ Hp
  iapply Hk
  isplitl [HO Hds]
  · isplitl [HO]; · iexists _; iexact HO
    iexact Hds
  isplitl [Ha]; · iexact Ha
  unfold Nbr
  isplitr; · iexact HE
  iexact Hp

end Cert.Proof
end
-- ==== Proof.Xfer.lean ====
module

public import proofs.«01_k».proof.Proof.Steps
public import Idealize.ShloMosaic.Lib.Pipeline.Value

@[expose] public section

set_option maxRecDepth 20000

noncomputable section

/-!
The transfers and the waits for them.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## The remote copies -/

section Send
variable {sp sp' : Space} {s : Shape}

/-- A remote copy that takes the landing place from its release slot, hands the source to the own send cell, and the landing place
    rewritten to the landing cell. -/
theorem snd {c c' : Dev nD} {src src' : Memref sig .tc sp s .f32} {dst dst' : Memref sig .tc sp' s .f32} (ks kr : Kd) (rs rr nv ι : ℕ)
    {n : Dev nD} {sS sem : SemLoc sig} (hn : n = c') (hsrc : src' = src) (hdst : dst' = dst) (hsS : sS = semOf ks) (hsem : sem = semOf kr)
    {O₀ O : CellTallies nD τ sig ℕ} (hO : O₀ = O + tallyAt (cellAt c' kr) ι (kamt kr)) {W : Waits sig ℕ} {q : PosShare TreeShare} {V : s.Idx → Elt F .f32} {FR : sProp 𝕄}
    (hplace : place (c', kr) ⊢ (iprop(∃ V, owns (c' : Thread nD τ) dst fullShare V) : sProp 𝕄))
    (hpay1 : owns (c : Thread nD τ) src q V ⊢ kpay X Wt c ks rs 0) (hpay2 : iprop(owns (c' : Thread nD τ) dst fullShare V ∗ FR) ⊢ kpay X Wt c' kr rr 0)
    (hd1 : 0 ∈ kdut c ks rs) (hd2 : 0 ∈ kdut c' kr rr) (hN : dst.view.amount (semOf kr) = kamt kr) (hks : kamt ks = kamt kr)
    {hsc : dst'.view.ref.isScScratch = false} {hw1 : src'.view.WordExact} {hw2 : dst'.view.WordExact}
    {hty : DmaTarget.Typed sp sem (.remote (n : Thread nD τ) dst' sS hsc)} {k : PUnit → Prog (TpuEff nD τ sig (Elt F) Λ₀ .tc) α} :
    iprop(Invs X Wt κ ιs ∗ owes (c : Thread nD τ) O₀ W ∗ owns (c : Thread nD τ) src q V
        ∗ dutyTok ER (cellAt c ks) rs 0 ∗ reached ER (cellAt c ks) rs ∗ dutyTok ER (cellAt c' kr) rr 0 ∗ reached ER (cellAt c' kr) rr
        ∗ writeTok ES (c', kr) nv ∗ released ES (c', kr) nv ∗ FR)
      ⊢ iprop(((cred (tallyAt (cellAt c ks) 0 (kamt ks)) ∗ owes (c : Thread nD τ) O W) -∗ bwp c (k ⟨⟩) Q)
      -∗ bwp c (.op (.enqueueDma src' (.remote (n : Thread nD τ) dst' sS hsc) sem hw1 hw2 hty) k) Q) := by
  subst hn hsrc hdst hsS hsem
  iintro ⟨#HI, HO, Hs, Hd1, #Hr1, Hd2, #Hr2, Hw, #Hrel, HF⟩ Hk
  ihave #HS := (Invs_slot X Wt κ ιs (n, kr)) $$ HI
  imod (slot_take ES (Set.mem_univ (ιs (n, kr))) nv) $$ [Hw] with Hp
  · isplitr; · iexact HS
    isplitr; · iexact Hrel
    iexact Hw
  ihave Hp := hplace $$ Hp
  icases Hp with ⟨%V0, Hp⟩
  unfold owns
  icases Hs with ⟨%fs, %hfs, Hs⟩
  icases Hp with ⟨%fd, %hfd, Hp⟩
  rw [hks]
  iapply (Rounds.wp_send_pointsTo_with 𝒱₀ ER (Rd X Wt) (c : Thread nD τ) none (c' := (n : Thread nD τ)) (src := src') (dst := dst')
      (sS := semOf ks) (sem := semOf kr) (q := q) (fs := fs) (fd := fd) (F := FR) (r₁ := rs) (r₂ := rr) (d₁ := 0) (d₂ := 0)
      (κ₁ := κ (cellAt c ks)) (κ₂ := κ (cellAt n kr))
      (by rw [Rd_duties]; exact hd1) (by rw [Rd_duties]; exact hd2) ι 0 (kamt kr) hN
      (by rw [Rd_amount]; exact hks) (by rw [Rd_amount]) O hO (W := W)
      (by
        rw [Rd_payload]; refine BIBase.Entails.trans ?_ hpay1
        unfold owns; iintro H; iexists fs; isplitr; · ipureintro; exact hfs
        iexact H)
      (by
        rw [Rd_payload]; refine BIBase.Entails.trans ?_ hpay2
        unfold owns; iintro ⟨H, HF⟩
        isplitl [H]
        · iexists _
          isplitr
          rotate_left
          · iexact H
          · ipureintro; exact (View.read_write_univ (v := dst'.view) fd _).trans hfs
        iexact HF)) $$ [HO Hs Hp HF Hd1 Hd2]
  · isplitr; · iapply (Invs_cell X Wt κ ιs c ks); iexact HI
    isplitr; · iapply (Invs_cell X Wt κ ιs n kr); iexact HI
    isplitl [Hs]; · iexact Hs
    isplitl [Hp HF]
    · isplitl [Hp]; · iexact Hp
      iexact HF
    isplitl [HO]; · iexact HO
    isplitl [Hd1]; · iexact Hd1
    isplitr; · iexact Hr1
    isplitl [Hd2]; · iexact Hd2
    iexact Hr2
  iintro ⟨Hc, HO⟩
  iapply Hk
  isplitl [Hc] <;> iassumption

end Send

/-! ## The ring -/

theorem fm5_sub (j : ℕ) (h : 5 ≤ j) : fm 5 j = fm 5 (j - 5) := by
  apply Fin.ext
  show j % 5 = (j - 5) % 5
  omega

theorem recv_per (d : Bool) (j : ℕ) : Kd.recv d (fm 5 (j + 5)) = Kd.recv d (fm 5 j) :=
  congrArg (Kd.recv d) (Fin.ext (Nat.add_mod_right j 5))
theorem send_per (d : Bool) (j : ℕ) : Kd.send d (fm 5 (j + 5)) = Kd.send d (fm 5 j) :=
  congrArg (Kd.send d) (Fin.ext (Nat.add_mod_right j 5))

theorem ring_facts (c : Dev nD) (d : Bool) (j m : ℕ) (hj : j < 10) (hm : j < 5 ∨ j - 5 < m) :
    iprop(Nbr c ∗ Again (rto c d) d m) ⊢ (iprop(released ES (rto c d, Kd.recv d (fm 5 j)) (j / 5 + 1) ∗ reached ER (cellAt (rto c d) (.recv d (fm 5 j))) (j / 5)) : sProp 𝕄) := by
  rcases Nat.lt_or_ge j 5 with h | h
  · rw [Nat.div_eq_of_lt h]
    iintro ⟨HN, -⟩
    ihave #HE := (Nbr_rto c d) $$ HN
    isplitr
    · iapply (Entered_rel (rto c d) (Kd.recv d (f5 j)) rfl); iexact HE
    · iapply (Entered_reach (rto c d) (Kd.recv d (f5 j))); iexact HE
  · have h5 : j - 5 < m := by omega
    have e1 : fm 5 j = fm 5 (j - 5) := fm5_sub j h
    have e2 : j / 5 = 1 := by omega
    have e3 : (j - 5) / 5 = 0 := by omega
    have hA := Again_elim (F := F) (p := rto c d) (d := d) h5
    rw [e3, ← e1] at hA
    rw [e2]
    iintro ⟨-, HA⟩
    iapply hA; iexact HA

theorem send_reached (c : Dev nD) (d : Bool) (j w s : ℕ) (hj : j < 10) (hm : j < 5 ∨ j - 5 < w) :
    iprop(Nbr c ∗ SQ c d w s) ⊢ (reached ER (cellAt c (.send d (fm 5 j))) (j / 5) : sProp 𝕄) := by
  rcases Nat.lt_or_ge j 5 with h | h
  · rw [Nat.div_eq_of_lt h]
    iintro ⟨HN, -⟩
    ihave #HE := (Nbr_self c) $$ HN
    iapply (Entered_reach c (Kd.send d (f5 j))); iexact HE
  · have h5 : j - 5 < w := by omega
    have e1 : fm 5 j = fm 5 (j - 5) := fm5_sub j h
    have e2 : j / 5 = 1 := by omega
    have e3 : (j - 5) / 5 = 0 := by omega
    have hA := WQ_reached (F := F) c (fun j => .send d (fm 5 j)) 5 (fun _ => 0) (hi := s) h5
    rw [e3] at hA
    rw [← e1] at hA
    rw [e2]
    unfold SQ
    iintro ⟨-, HA⟩
    iapply hA; iexact HA

theorem CQ_again (c : Dev nD) (d : Bool) (m : ℕ) : (CQ c d m : sProp 𝕄) ⊢ Again (rto c d) d m := by
  unfold CQ; iintro ⟨-, H, -⟩; iexact H

theorem dma05 {k : Kd} {c : Dev nD} {r : ℕ} (h : kdut c k r = {0}) : 0 ∈ kdut c k r := by rw [h]; exact Finset.mem_singleton_self _

theorem kdut_ring (c : Dev nD) (d : Bool) (j : ℕ) (hj : j < 10) : kdut c (.recv d (fm 5 j)) (j / 5) = {0} := by
  have h : j / 5 < 2 := by omega
  exact if_pos h
theorem kdut_send (c : Dev nD) (d : Bool) (j : ℕ) (hj : j < 10) : kdut c (.send d (fm 5 j)) (j / 5) = {0} := by
  have h : j / 5 < 2 := by omega
  exact if_pos h

theorem pay_recv (p : Dev nD) (d : Bool) (j : ℕ) : kpay X Wt p (.recv d (fm 5 j)) (j / 5) 0
    = iprop(owns (p : Thread nD τ) (slotM d (fm 5 j)) fullShare (chk X (org p d j) (hf d j)) ∗ Entered (org p d j)) := by
  show ringPay X p d (fm 5 j) (j / 5) = _
  unfold ringPay
  rw [show 5 * (j / 5) + (fm 5 j : Fin 5).val = j from Nat.div_add_mod j 5]
theorem pay_send0 (p : Dev nD) (d : Bool) (j : ℕ) (hj : j < 2) : kpay X Wt p (.send d (fm 5 j)) (j / 5) 0
    = owns (p : Thread nD τ) (xM (hf d j)) (xsh d) (chk X p (hf d j)) := by
  show sendPay X p d (fm 5 j) (j / 5) = _
  unfold sendPay
  rw [show 5 * (j / 5) + (fm 5 j : Fin 5).val = j from Nat.div_add_mod j 5, if_pos hj]
theorem pay_send1 (p : Dev nD) (d : Bool) (j : ℕ) : kpay X Wt p (.send d (fm 5 (j + 2))) ((j + 2) / 5) 0
    = owns (p : Thread nD τ) (slotM d (fm 5 j)) fullShare.left (chk X (org p d j) (hf d j)) := by
  show sendPay X p d (fm 5 (j + 2)) ((j + 2) / 5) = _
  unfold sendPay
  rw [show 5 * ((j + 2) / 5) + (fm 5 (j + 2) : Fin 5).val = j + 2 from Nat.div_add_mod (j + 2) 5, if_neg (by omega), Nat.add_sub_cancel]

section Ring
variable {sp : Space}

theorem ring_send (c : Dev nD) (d : Bool) (j i t m w : ℕ) (hi : i < 49) (hdue : dueAt i = .ring d j) (hj : j < 10) (hm : j < 5 ∨ j - 5 < m)
    (hw : j < 5 ∨ j - 5 < w) (hwj : w ≤ j)
    {src src' : Memref sig .tc sp S128x4096 .f32} {dst' : Memref sig .tc .vmem S128x4096 .f32} {n : Dev nD} {sS sem : SemLoc sig}
    (hn : n = rto c d) (hsrc : src' = src) (hdst : dst' = slotM d (fm 5 j)) (hsS : sS = semOf (.send d (fm 5 j))) (hsem : sem = semOf (.recv d (fm 5 j)))
    {q : PosShare TreeShare} {V : Vec F S128x4096 .f32}
    (hq : owns (c : Thread nD τ) src q V ⊢ kpay X Wt c (.send d (fm 5 j)) (j / 5) 0)
    (hV : V = chk X (org (rto c d) d j) (hf d j))
    {hsc : dst'.view.ref.isScScratch = false} {hw1 : src'.view.WordExact} {hw2 : dst'.view.WordExact}
    {hty : DmaTarget.Typed sp sem (.remote (n : Thread nD τ) dst' sS hsc)} {k : PUnit → Prog (TpuEff nD τ sig (Elt F) Λ₀ .tc) α} :
    iprop(Invs X Wt κ ιs ∗ Nbr c ∗ Entered (org (rto c d) d j) ∗ Main c i t ∗ SQ c d w j ∗ CQ c d m ∗ owns (c : Thread nD τ) src q V)
      ⊢ iprop(((Main c (i + 1) t ∗ SQ c d w (j + 1) ∗ CQ c d m) -∗ bwp c (k ⟨⟩) Q)
      -∗ bwp c (.op (.enqueueDma src' (.remote (n : Thread nD τ) dst' sS hsc) sem hw1 hw2 hty) k) Q) := by
  unfold Main
  rw [bigSep_Ico_succ_bot hi, hdue, show dtok (F := F) c (.ring d j) = iprop(dutyTok ER (cellAt (rto c d) (.recv d (fm 5 j))) (j / 5) 0
    ∗ dutyTok ER (cellAt c (.send d (fm 5 j))) (j / 5) 0 ∗ writeTok ES (rto c d, Kd.recv d (fm 5 j)) (j / 5 + 1)) from rfl]
  iintro ⟨#HI, #HN, #HE, ⟨⟨%W, HO⟩, ⟨⟨Hd2, Hd1, Hw⟩, Hds⟩, Hl⟩, HSQ, HCQ, Hs⟩ Hk
  ihave #HA := (CQ_again c d m) $$ HCQ
  ihave #Hf := (ring_facts c d j m hj hm) $$ [HN HA]
  · isplitr <;> iassumption
  icases Hf with ⟨#Hrel, #Hr2⟩
  ihave #Hr1 := (send_reached c d j w j hj hw) $$ [HN HSQ]
  · isplitr; · iexact HN
    iexact HSQ
  iapply (snd X Wt (κ := κ) (ιs := ιs) (c := c) (c' := rto c d) (src := src) (dst := slotM d (f5 j)) (.send d (f5 j)) (.recv d (f5 j)) (j / 5) (j / 5) (j / 5 + 1) (rlv j)
    hn hsrc hdst hsS hsem (O₀ := owedD c i + owedL c t) (O := owedD c (i + 1) + owedL c t)
    (by rw [owedD_succ c i hi, hdue, add_comm (dtal _ _), add_right_comm]; rfl) (W := W) (q := q) (V := V) (FR := Entered (org (rto c d) d j))
    (BIBase.Entails.rfl) hq (by rw [pay_recv, hV]) (dma05 (kdut_send c d j hj)) (dma05 (kdut_ring (rto c d) d j hj)) (by cases d <;> rfl) rfl) $$ [HO Hs Hd1 Hd2 Hw]
  · isplitr; · iexact HI
    isplitl [HO]; · iexact HO
    isplitl [Hs]; · iexact Hs
    isplitl [Hd1]; · iexact Hd1
    isplitr; · iexact Hr1
    isplitl [Hd2]; · iexact Hd2
    isplitr; · iexact Hr2
    isplitl [Hw]; · iexact Hw
    isplitr; · iexact Hrel
    iexact HE
  iintro ⟨Hc, HO⟩
  iapply Hk
  isplitl [HO Hds Hl]
  · isplitl [HO]; · iexists W; iexact HO
    isplitl [Hds] <;> iassumption
  isplitl [HSQ Hc]
  · unfold SQ
    iapply (WQ_app c (fun j => .send d (f5 j)) 5 (fun _ => 0) hwj)
    isplitl [HSQ]; · iexact HSQ
    iexact Hc
  iexact HCQ

/-- A first send of a direction, out of the own block. -/
theorem ring_send0 (c : Dev nD) (d : Bool) (j i t : ℕ) (hi : i < 49) (hdue : dueAt i = .ring d j) (hj : j < 2)
    {src' : Memref sig .tc .vmem S128x4096 .f32} {dst' : Memref sig .tc .vmem S128x4096 .f32} {n : Dev nD} {sS sem : SemLoc sig}
    (hn : n = rto c d) (hsrc : src' = xM (hf d j)) (hdst : dst' = slotM d (fm 5 j)) (hsS : sS = semOf (.send d (fm 5 j))) (hsem : sem = semOf (.recv d (fm 5 j)))
    {hsc : dst'.view.ref.isScScratch = false} {hw1 : src'.view.WordExact} {hw2 : dst'.view.WordExact}
    {hty : DmaTarget.Typed .vmem sem (.remote (n : Thread nD τ) dst' sS hsc)} {k : PUnit → Prog (TpuEff nD τ sig (Elt F) Λ₀ .tc) α} :
    iprop(Invs X Wt κ ιs ∗ Nbr c ∗ Main c i t ∗ SQ c d 0 j ∗ CQ c d 0 ∗ owns (c : Thread nD τ) (xM (hf d j)) (xsh d) (chk X c (hf d j)))
      ⊢ iprop(((Main c (i + 1) t ∗ SQ c d 0 (j + 1) ∗ CQ c d 0) -∗ bwp c (k ⟨⟩) Q)
      -∗ bwp c (.op (.enqueueDma src' (.remote (n : Thread nD τ) dst' sS hsc) sem hw1 hw2 hty) k) Q) := by
  have ho : org (rto c d) d j = c := org_first c d ⟨j, hj⟩
  iintro ⟨#HI, #HN, HM, HSQ, HCQ, Hs⟩ Hk
  iapply (ring_send X Wt (κ := κ) (ιs := ιs) c d j i t 0 0 hi hdue (by omega) (.inl (by omega)) (.inl (by omega)) (Nat.zero_le _) hn hsrc hdst hsS hsem
    (by rw [pay_send0 X Wt c d j hj]) (by rw [ho])) $$ [HM HSQ HCQ Hs]
  · isplitr; · iexact HI
    isplitr; · iexact HN
    isplitr; · rw [ho]; iapply (Nbr_self c); iexact HN
    isplitl [HM]; · iexact HM
    isplitl [HSQ]; · iexact HSQ
    isplitl [HCQ]; · iexact HCQ
    iexact Hs
  iexact Hk

/-- Message `j + 2`, out of the slot that message `j` landed in. -/
theorem ring_send1 (c : Dev nD) (d : Bool) (j i t m w r : ℕ) (hi : i < 49) (hdue : dueAt i = .ring d (j + 2)) (hj : j < 8) (hm : j + 2 < 5 ∨ j + 2 - 5 < m)
    (hw : j + 2 < 5 ∨ j + 2 - 5 < w) (hwj : w ≤ j + 2) (hr : j < r)
    {src' : Memref sig .tc .vmem S128x4096 .f32} {dst' : Memref sig .tc .vmem S128x4096 .f32} {n : Dev nD} {sS sem : SemLoc sig}
    (hn : n = rto c d) (hsrc : src' = slotM d (fm 5 j)) (hdst : dst' = slotM d (fm 5 (j + 2))) (hsS : sS = semOf (.send d (fm 5 (j + 2)))) (hsem : sem = semOf (.recv d (fm 5 (j + 2))))
    {hsc : dst'.view.ref.isScScratch = false} {hw1 : src'.view.WordExact} {hw2 : dst'.view.WordExact}
    {hty : DmaTarget.Typed .vmem sem (.remote (n : Thread nD τ) dst' sS hsc)} {k : PUnit → Prog (TpuEff nD τ sig (Elt F) Λ₀ .tc) α} :
    iprop(Invs X Wt κ ιs ∗ Nbr c ∗ Main c i t ∗ SQ c d w (j + 2) ∗ CQ c d m ∗ RQ c d r ∗ owns (c : Thread nD τ) (slotM d (fm 5 j)) fullShare.left (chk X (org c d j) (hf d j)))
      ⊢ iprop(((Main c (i + 1) t ∗ SQ c d w (j + 3) ∗ CQ c d m ∗ RQ c d r) -∗ bwp c (k ⟨⟩) Q)
      -∗ bwp c (.op (.enqueueDma src' (.remote (n : Thread nD τ) dst' sS hsc) sem hw1 hw2 hty) k) Q) := by
  have ho : org (rto c d) d (j + 2) = org c d j := org_succ c d ⟨j, hj⟩
  iintro ⟨#HI, #HN, HM, HSQ, HCQ, HRQ, Hs⟩ Hk
  ihave #HE := (RQ_ent c d hr) $$ HRQ
  iapply (ring_send X Wt (κ := κ) (ιs := ιs) c d (j + 2) i t m w hi hdue (by omega) hm hw hwj hn hsrc hdst hsS hsem
    (by rw [pay_send1 X Wt c d j]) (by rw [ho, hf_succ])) $$ [HM HSQ HCQ Hs]
  · isplitr; · iexact HI
    isplitr; · iexact HN
    isplitr; · rw [ho]; iexact HE
    isplitl [HM]; · iexact HM
    isplitl [HSQ]; · iexact HSQ
    isplitl [HCQ]; · iexact HCQ
    iexact Hs
  iintro ⟨HM, HSQ, HCQ⟩
  iapply Hk
  isplitl [HM]; · iexact HM
  isplitl [HSQ]; · iexact HSQ
  isplitl [HCQ]; · iexact HCQ
  iexact HRQ

variable {sp' : Space} {s₁ s₂ : Shape} {e₁ e₂ : EltTy}

theorem ring_recv (c : Dev nD) (d : Bool) (j i t : ℕ) (hj : j < 10) (hB : Below (rlv j) i t)
    {sem : DmaSem sig} (hsem : SemLoc.dma sem = semOf (.recv d (fm 5 j)))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t ∗ RQ c d j)
      ⊢ iprop(((Main c i t ∗ RQ c d (j + 1) ∗ owns (c : Thread nD τ) (slotM d (fm 5 j)) fullShare.left (chk X (org c d j) (hf d j))
          ∗ owns (c : Thread nD τ) (slotM d (fm 5 j)) fullShare.right (chk X (org c d j) (hf d j))) -∗ bwp c (k ⟨⟩) Q)
      -∗ bwp c (.op (.waitDma2 sem src dst h1 h2) k) Q) := by
  unfold RQ
  rw [bigSep_range_succ]
  iintro ⟨#HI, HM, HW, #HEs⟩ Hk
  iapply (WQ_wait X Wt (κ := κ) (ιs := ιs) c (fun j => .recv d (f5 j)) 5 rlv (lo := j) (hi := 10) (i := i) (t := t) hj (by decide)
    (recv_per d j)
    (w := .waitDma2 sem src dst h1 h2) (by intro K; rw [← hsem]; exact (wpE_waitDma2_eq 𝒱₀ (c : Thread nD τ) none Set.univ K).trans (by rw [hN]; rfl))
    (kdut_ring c d j hj) hB) $$ [HM HW]
  · isplitr; · iexact HI
    isplitl [HM] <;> iassumption
  iintro ⟨HM, HW, Hp⟩
  ihave Hp := (Entails.of_eq (pay_recv X Wt c d j)) $$ Hp
  icases Hp with ⟨Hp, #HE⟩
  ihave Hp := ((owns_halves (c : Thread nD τ) (slotM d (f5 j)) fullShare (chk X (org c d j) (hf d j))).1) $$ Hp
  icases Hp with ⟨Hp1, Hp2⟩
  iapply Hk
  isplitl [HM]; · iexact HM
  isplitl [HW]
  · isplitl [HW]; · iexact HW
    isplitr; · iexact HE
    iexact HEs
  isplitl [Hp1] <;> iassumption

theorem send_wait (c : Dev nD) (d : Bool) (j s i t : ℕ) (hj : j < 10) (hjs : j < s) (hB : Below 0 i t)
    {sem : DmaSem sig} (hsem : SemLoc.dma sem = semOf (.send d (fm 5 j)))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t ∗ SQ c d j s)
      ⊢ iprop(((Main c i t ∗ SQ c d (j + 1) s ∗ kpay X Wt c (.send d (fm 5 j)) (j / 5) 0) -∗ bwp c (k ⟨⟩) Q)
      -∗ bwp c (.op (.waitDma2 sem src dst h1 h2) k) Q) := by
  unfold SQ
  exact (WQ_wait X Wt (κ := κ) (ιs := ιs) c (fun j => .send d (fm 5 j)) 5 (fun _ => 0) (lo := j) (hi := s) (i := i) (t := t) hjs (by decide)
    (send_per d j)
    (w := .waitDma2 sem src dst h1 h2) (by intro K; rw [← hsem]; exact (wpE_waitDma2_eq 𝒱₀ (c : Thread nD τ) none Set.univ K).trans (by rw [hN]; rfl))
    (kdut_send c d j hj) hB)

theorem send_wait0 (c : Dev nD) (d : Bool) (j s i t : ℕ) (hj : j < 2) (hjs : j < s) (hB : Below 0 i t)
    {sem : DmaSem sig} (hsem : SemLoc.dma sem = semOf (.send d (fm 5 j)))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t ∗ SQ c d j s)
      ⊢ iprop(((Main c i t ∗ SQ c d (j + 1) s ∗ owns (c : Thread nD τ) (xM (hf d j)) (xsh d) (chk X c (hf d j))) -∗ bwp c (k ⟨⟩) Q)
      -∗ bwp c (.op (.waitDma2 sem src dst h1 h2) k) Q) := by
  rw [← pay_send0 X Wt c d j hj]
  exact send_wait X Wt c d j s i t (by omega) hjs hB hsem hN

/-- The wait for message `j + 2`'s read-out: the slot of message `j` is whole again. -/
theorem send_wait1 (c : Dev nD) (d : Bool) (j s i t : ℕ) (hj : j < 8) (hjs : j + 2 < s) (hB : Below 0 i t)
    {sem : DmaSem sig} (hsem : SemLoc.dma sem = semOf (.send d (fm 5 (j + 2))))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t ∗ SQ c d (j + 2) s ∗ owns (c : Thread nD τ) (slotM d (fm 5 j)) fullShare.right (chk X (org c d j) (hf d j)))
      ⊢ iprop(((Main c i t ∗ SQ c d (j + 3) s ∗ owns (c : Thread nD τ) (slotM d (fm 5 j)) fullShare (chk X (org c d j) (hf d j))) -∗ bwp c (k ⟨⟩) Q)
      -∗ bwp c (.op (.waitDma2 sem src dst h1 h2) k) Q) := by
  iintro ⟨#HI, HM, HS, Hr⟩ Hk
  iapply (send_wait X Wt (κ := κ) (ιs := ιs) c d (j + 2) s i t (by omega) hjs hB hsem hN) $$ [HM HS]
  · isplitr; · iexact HI
    isplitl [HM] <;> iassumption
  iintro ⟨HM, HS, Hp⟩
  ihave Hp := (Entails.of_eq (pay_send1 X Wt c d j)) $$ Hp
  iapply Hk
  isplitl [HM]; · iexact HM
  isplitl [HS]; · iexact HS
  iapply ((owns_halves (c : Thread nD τ) (slotM d (f5 j)) fullShare (chk X (org c d j) (hf d j))).2)
  isplitl [Hp] <;> iassumption

end Ring

end Cert.Proof
end
-- ==== Proof.Xfer2.lean ====
module

public import proofs.«01_k».proof.Proof.Xfer

@[expose] public section

set_option maxRecDepth 20000

noncomputable section

/-!
The credits, the relays, the maximum exchange, the local copies and the output stores.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## Credits -/

theorem recv_false (c : Dev nD) (d : Bool) (s : Fin 5) : iprop(place (c, Kd.recv d s) ∗ place (c, Kd.recv d s)) ⊢ (False : sProp 𝕄) := by
  have h : (place (c, Kd.recv d s) : sProp 𝕄) ⊢ slot ((slotM d s).view.loc (c : Thread nD τ)) (slotM d s).view.set := by
    show iprop(∃ V, owns (c : Thread nD τ) (slotM d s) fullShare V) ⊢ _
    unfold owns slot
    iintro ⟨%V, %f, -, H⟩
    iexists f; iexact H
  refine BIBase.Entails.trans (BIClass.sep_mono h h) (slot_slot_false (View.set_nonempty (v := (slotM d s).view) (by decide)))

/-- Slot `n` is given out again, and the device it is filled from is told. -/
theorem cr_signal (c : Dev nD) (d : Bool) (n i t r : ℕ) (hi : i < 49) (hdue : dueAt i = .cr d n) (hn5 : n < 5) (hr : n < r)
    {p : Dev nD} (hp : p = rfrom c d) {sm : Sem sig} (hsm : SemLoc.reg sm = semOf (.cr d)) {V : Vec F S128x4096 .f32}
    {k' : ℕ} (hk' : k' = 1) {k : PUnit → Prog (TpuEff nD τ sig (Elt F) Λ₀ .tc) α} :
    iprop(Invs X Wt κ ιs ∗ Nbr c ∗ Main c i t ∗ RQ c d r ∗ RDq c d n ∗ owns (c : Thread nD τ) (slotM d (fm 5 n)) fullShare V)
      ⊢ iprop(((Main c (i + 1) t ∗ RQ c d r ∗ RDq c d (n + 1)) -∗ bwp c (k ⟨⟩) Q)
      -∗ bwp c (.op (.semSignal (p : Thread nD τ) sm k') k) Q) := by
  subst hp hk'
  have hpl : owns (c : Thread nD τ) (slotM d (fm 5 n)) fullShare V ⊢ (place (c, Kd.recv d (fm 5 n)) : sProp 𝕄) := by
    show _ ⊢ iprop(∃ V, owns (c : Thread nD τ) (slotM d (fm 5 n)) fullShare V)
    iintro H; iexists V; iexact H
  have hre : (RQ c d r : sProp 𝕄) ⊢ reached ER (cellAt c (.recv d (fm 5 n))) (n / 5 + 1) := by
    unfold RQ; iintro ⟨H, -⟩
    iapply (WQ_reached c (fun j => .recv d (f5 j)) 5 rlv hr); iexact H
  have hag : (Again (F := F) c d (n + 1)) = iprop((released ES (c, Kd.recv d (fm 5 n)) (n / 5 + 2) ∗ reached ER (cellAt c (.recv d (fm 5 n))) (n / 5 + 1)) ∗ Again c d n) := by
    unfold Again; rw [bigSep_range_succ]
  have hpay : (Rd X Wt).payload (cellAt (rfrom c d) (.cr d)) 0 n
      = iprop((released ES (c, Kd.recv d (fm 5 n)) (n / 5 + 2) ∗ reached ER (cellAt c (.recv d (fm 5 n))) (n / 5 + 1)) ∗ Again c d n) := by
    rw [Rd_payload, ← hag]
    show Again (rto (rfrom c d) d) d (n + 1) = _
    rw [rto_rfrom]
  unfold RDq
  rw [bigSep_Ico_succ_bot (show n < n + 5 by omega), show n + 1 + 5 = (n + 5) + 1 by omega, bigSep_Ico_succ_top (show n + 1 ≤ n + 5 by omega),
    hag, recv_per d n, Nat.add_div_right n (show 0 < 5 by decide)]
  unfold Main
  rw [bigSep_Ico_succ_bot hi, hdue, show dtok (F := F) c (.cr d n) = dutyTok ER (cellAt (rfrom c d) (.cr d)) 0 n from rfl]
  iintro ⟨#HI, #HN, ⟨⟨%W, HO⟩, ⟨Hd, Hds⟩, Hl⟩, HRQ, ⟨⟨Hr, Hrs⟩, #HA⟩, Hs⟩ Hk
  ihave #Hre := hre $$ HRQ
  ihave #HS := (Invs_slot X Wt κ ιs (c, Kd.recv d (f5 n))) $$ HI
  ihave Hs := hpl $$ Hs
  imod (slot_release ES (Set.mem_univ (ιs (c, Kd.recv d (f5 n)))) (recv_false c d (f5 n)) (n / 5 + 1)) $$ [Hr Hs] with ⟨Hr, #Hrel⟩
  · isplitr; · iexact HS
    isplitl [Hr] <;> iassumption
  iapply (Rounds.wp_signal 𝒱₀ ER (Rd X Wt) (c : Thread nD τ) none (dst := (rfrom c d : Thread nD τ)) (sem := sm) (r := 0) (d := n)
      (κ := κ (cellAt (rfrom c d) (.cr d)))
      (by rw [hsm]; rw [Rd_duties]; exact Finset.mem_range.mpr hn5) (by rw [hsm]; exact Rd_amount X Wt _ (.cr d) 0 n) (clv n) (O₀ := owedD c i + owedL c t) (owedD c (i + 1) + owedL c t)
      (by rw [owedD_succ c i (by omega), hdue, hsm, add_comm (dtal _ _), add_right_comm]; rfl)) $$ [HO Hd]
  · rw [hsm]
    isplitr; · iapply (Invs_cell X Wt κ ιs (rfrom c d) (.cr d)); iexact HI
    isplitl [HO]; · iexact HO
    isplitl [Hd]; · iexact Hd
    isplitr
    · iapply (Entails.of_eq hpay.symm)
      isplitr
      · isplitr; · iexact Hrel
        iexact Hre
      iexact HA
    · ihave #HE := (Nbr_rfrom c d) $$ HN
      iapply (Entered_reach (rfrom c d) (.cr d)); iexact HE
  iintro HO
  iapply Hk
  isplitl [HO Hds Hl]
  · isplitl [HO]; · iexists W; iexact HO
    isplitl [Hds] <;> iassumption
  isplitl [HRQ]; · iexact HRQ
  isplitl [Hr Hrs]
  · isplitl [Hr] <;> iassumption
  isplitr
  · isplitr; · iexact Hrel
    iexact Hre
  iexact HA

theorem Again_pick (p : Dev nD) (d : Bool) {S : Finset ℕ} {m : ℕ} (h : m < S.card) :
    (bigSep S fun i => Again p d (i + 1)) ⊢ (Again p d (m + 1) : sProp 𝕄) := by
  have : ∃ i ∈ S, m ≤ i := by
    by_contra hn
    push Not at hn
    have : S ⊆ Finset.range m := fun x hx => Finset.mem_range.mpr (hn x hx)
    have := Finset.card_le_card this
    rw [Finset.card_range] at this
    omega
  obtain ⟨i, hi, hmi⟩ := this
  exact BIBase.Entails.trans (big_at (fun i => Again p d (i + 1)) hi) (Again_mono (by omega))

theorem kpay_cr (c : Dev nD) (d : Bool) (S : Finset ℕ) : (bigSep S fun i => (Rd X Wt).payload (cellAt c (.cr d)) 0 i)
    = bigSep S fun i => Again (F := F) (rto c d) d (i + 1) := by
  have h : (fun i => (Rd X Wt).payload (cellAt c (.cr d)) 0 i) = fun i => Again (F := F) (rto c d) d (i + 1) := funext fun i => Rd_payload X Wt c (.cr d) 0 i
  rw [h]

theorem cr_wait (c : Dev nD) (d : Bool) (m i t : ℕ) (hm : m < 5) (hB : Below (clv m) i t) {sm : Sem sig} (hsm : SemLoc.reg sm = semOf (.cr d))
    {k' : ℕ} (hk' : k' = 1) {k : PUnit → Prog (TpuEff nD τ sig (Elt F) Λ₀ .tc) α} :
    iprop(Invs X Wt κ ιs ∗ Main c i t ∗ CQ c d m) ⊢ iprop(((Main c i t ∗ CQ c d (m + 1)) -∗ bwp c (k ⟨⟩) Q)
      -∗ bwp c (.op (.semWait sm k') k) Q) := by
  subst hk'
  unfold Main CQ
  rw [bigSep_Ico_succ_bot hm, if_neg (show m ≠ 5 by omega)]
  iintro ⟨#HI, ⟨⟨%W, HO⟩, Hds⟩, ⟨Hc, Hcs⟩, -, %S, %hS, Ha, #HA⟩ Hk
  rcases Nat.lt_or_ge m 4 with h4 | h4
  · iapply (Rounds.wp_wait 𝒱₀ ER (Rd X Wt) (c : Thread nD τ) none (κ := κ (cellAt c (.cr d))) (sm := .reg sm) (k' := 1)
        (wpE_semWait_eq 𝒱₀ (c : Thread nD τ) none Set.univ) (Set.mem_univ _) (cr := Finsupp.single (clv m) 1) (O := owedD c i + owedL c t) (W := W)
        {(SemLoc.reg sm, clv m)} (R := 0) (m := m) (T := S)
        (by rw [Util.total_single]) (image_single_subset _ (clv m) 1)) $$ [Hc HO Ha]
    · rw [hsm]
      isplitr; · iapply (Invs_cell X Wt κ ιs c (.cr d)); iexact HI
      isplitl [Hc]; · iexact Hc
      isplitl [HO]; · iexact HO
      isplitr; · iapply (Invs_mayWait X Wt κ ιs c (semOf (.cr d)) (clv m) i t hB); iexact HI
      iexact Ha
    rw [hsm]
    iintro %S' ⟨%hS', HO, Ha, Hp⟩
    ihave #Hp := (Entails.of_eq (kpay_cr X Wt c d (S' \ S))) $$ Hp
    have hcard : m + 1 ≤ S'.card := by
      obtain ⟨h1, h2, h3⟩ := hS'
      rw [Rd_expect] at h3
      rw [Rd_duties] at h2 h3
      have e : kdut c (.cr d) 0 = Finset.range 5 := rfl
      have ek : kamt (.cr d) = 1 := rfl
      rw [e] at h2 h3
      rw [ek, Finset.card_sdiff_of_subset h2, Finset.card_range] at h3
      have := Finset.card_le_card h2
      rw [Finset.card_range] at this
      omega
    have hsub : S ⊆ S' := hS'.1
    have hjoin : iprop((bigSep S fun i => Again (F := F) (rto c d) d (i + 1)) ∗ bigSep (S' \ S) fun i => Again (F := F) (rto c d) d (i + 1))
        ⊢ bigSep S' fun i => Again (F := F) (rto c d) d (i + 1) := Entails.of_eq (bigSep_sdiff_split hsub).symm
    ihave #HA' : (bigSep S' fun i => Again (F := F) (rto c d) d (i + 1)) $$ []
    · iapply hjoin
      isplitr <;> iassumption
    iapply Hk
    isplitl [HO Hds]
    · isplitl [HO]; · iexists _; iexact HO
      iexact Hds
    isplitl [Hcs]; · iexact Hcs
    isplitr; · iapply (Again_pick (rto c d) d (show m < S'.card by omega)); iexact HA'
    rw [if_neg (show m + 1 ≠ 5 by omega)]
    iexists S'
    isplitr; · ipureintro; exact hcard
    isplitl [Ha]; · iexact Ha
    iexact HA'
  · obtain rfl : m = 4 := by omega
    iapply (Rounds.wp_wait_rest_token 𝒱₀ ER (Rd X Wt) (c : Thread nD τ) none (κ := κ (cellAt c (.cr d))) (sm := .reg sm)
      (wpE_semWait_eq 𝒱₀ (c : Thread nD τ) none Set.univ) (Set.mem_univ _) (clv 4) (O := owedD c i + owedL c t) (W := W) (R := 0) (m := 4) (T := S)
      (by rw [hsm]; rw [Rd_expect]; rfl)) $$ [Hc HO Ha]
    · rw [hsm]
      isplitr; · iapply (Invs_cell X Wt κ ιs c (.cr d)); iexact HI
      isplitl [Hc]; · iexact Hc
      isplitl [HO]; · iexact HO
      isplitr; · iapply (Invs_mayWait X Wt κ ιs c (semOf (.cr d)) (clv 4) i t hB); iexact HI
      iexact Ha
    rw [hsm]
    iintro ⟨HO, Ha, -, Hp⟩
    rw [Rd_duties]
    ihave #Hp := (Entails.of_eq (kpay_cr X Wt c d (kdut c (.cr d) 0 \ S))) $$ Hp
    ihave #HA' : (Again (F := F) (rto c d) d 5) $$ []
    · by_cases h : 4 ∈ S
      · iapply (big_at (fun i => Again (F := F) (rto c d) d (i + 1)) h); iexact HA
      · iapply (big_at (fun i => Again (F := F) (rto c d) d (i + 1)) (Finset.mem_sdiff.mpr ⟨Finset.mem_range.mpr (show 4 < 5 by decide), h⟩)); iexact Hp
    iapply Hk
    isplitl [HO Hds]
    · isplitl [HO]; · iexists _; iexact HO
      iexact Hds
    isplitl [Hcs]; · iexact Hcs
    isplitr; · iexact HA'
    rw [if_pos rfl]
    iexact Ha

/-! ## Relays -/

theorem stg_pers : ∀ t : Fin 10, fm 10 t.val = t := by decide

section Rel
variable {sp sp' : Space} {s₁ s₂ : Shape} {e₁ e₂ : EltTy}

/-- A staged half block is sent on to the relay partner. -/
theorem rel_send (c : Dev nD) (i t : ℕ) (ht : t < 10)
    {src' dst' : Memref sig .tc .hbm S128x4096 .f32} {n : Dev nD} {sS sem : SemLoc sig}
    (hn : n = rmate c t) (hsrc : src' = stgM (fm 10 t)) (hdst : dst' = relM (fm 10 t)) (hsS : sS = semOf (.rsend (fm 10 t))) (hsem : sem = semOf (.rrecv (fm 10 t)))
    {o : Dev nD} {h : Fin 2} (ho : rorg (rmate c t) t = o) (hh : fm 2 t = h)
    {hsc : dst'.view.ref.isScScratch = false} {hw1 : src'.view.WordExact} {hw2 : dst'.view.WordExact}
    {hty : DmaTarget.Typed .hbm sem (.remote (n : Thread nD τ) dst' sS hsc)} {k : PUnit → Prog (TpuEff nD τ sig (Elt F) Λ₀ .tc) α} :
    iprop(Invs X Wt κ ιs ∗ Nbr c ∗ Entered o ∗ Main c i t ∗ TQ c 0 t ∗ owns (c : Thread nD τ) (stgM (fm 10 t)) fullShare (chk X o h))
      ⊢ iprop(((Main c i (t + 1) ∗ TQ c 0 (t + 1)) -∗ bwp c (k ⟨⟩) Q)
      -∗ bwp c (.op (.enqueueDma src' (.remote (n : Thread nD τ) dst' sS hsc) sem hw1 hw2 hty) k) Q) := by
  have htt : (fm 10 t : Fin 10).val = t := Nat.mod_eq_of_lt ht
  subst ho hh
  unfold Main
  rw [bigSep_Ico_succ_bot (show t < 10 from ht), show ltok (F := F) c t = iprop(dutyTok ER (cellAt (rmate c t) (.rrecv (fm 10 t))) 0 0
    ∗ dutyTok ER (cellAt c (.rsend (fm 10 t))) 0 0 ∗ writeTok ES (rmate c t, Kd.rrecv (fm 10 t)) 1) from rfl]
  iintro ⟨#HI, #HN, #HE, ⟨⟨%W, HO⟩, Hds, ⟨Hd2, Hd1, Hw⟩, Hl⟩, HTQ, Hs⟩ Hk
  ihave #HEm := (Nbr_rmate c t) $$ HN
  ihave #HEc := (Nbr_self c) $$ HN
  iapply (snd X Wt (κ := κ) (ιs := ιs) (c := c) (c' := rmate c t) (src := stgM (f10 t)) (dst := relM (f10 t)) (.rsend (f10 t)) (.rrecv (f10 t)) 0 0 1 (llv t)
    hn hsrc hdst hsS hsem (O₀ := owedD c i + owedL c t) (O := owedD c i + owedL c (t + 1))
    (by rw [owedL_succ c t ht, add_comm (ltal _ _), ← add_assoc]; rfl) (W := W) (q := fullShare) (V := chk X (rorg (rmate c t) t) (fm 2 t)) (FR := Entered (rorg (rmate c t) t))
    (BIBase.Entails.rfl)
    (by
      show _ ⊢ iprop(∃ V, owns (c : Thread nD τ) (stgM (fm 10 t)) fullShare V)
      iintro H; iexists _; iexact H)
    (by
      show _ ⊢ relPay X (rmate c t) (fm 10 t)
      unfold relPay
      rw [htt])
    (Finset.mem_singleton_self _) (Finset.mem_singleton_self _) rfl rfl) $$ [HO Hs Hd1 Hd2 Hw]
  · isplitr; · iexact HI
    isplitl [HO]; · iexact HO
    isplitl [Hs]; · iexact Hs
    isplitl [Hd1]; · iexact Hd1
    isplitr; · iapply (Entered_reach c (.rsend (f10 t))); iexact HEc
    isplitl [Hd2]; · iexact Hd2
    isplitr; · iapply (Entered_reach (rmate c t) (.rrecv (f10 t))); iexact HEm
    isplitl [Hw]; · iexact Hw
    isplitr; · iapply (Entered_rel (rmate c t) (.rrecv (f10 t)) rfl); iexact HEm
    iexact HE
  iintro ⟨Hc, HO⟩
  iapply Hk
  isplitl [HO Hds Hl]
  · isplitl [HO]; · iexists W; iexact HO
    isplitl [Hds] <;> iassumption
  unfold TQ
  iapply (WQ_app c (fun j => .rsend (f10 j)) 10 (fun _ => 0) (Nat.zero_le t))
  isplitl [HTQ]; · iexact HTQ
  iexact Hc

theorem rel_recv (c : Dev nD) (t i t' : ℕ) (ht : t < 10) (hB : Below (llv t) i t')
    {sem : DmaSem sig} (hsem : SemLoc.dma sem = semOf (.rrecv (fm 10 t)))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t' ∗ LQ c t)
      ⊢ iprop(((Main c i t' ∗ LQ c (t + 1) ∗ owns (c : Thread nD τ) (relM (fm 10 t)) fullShare (chk X (rorg c t) (fm 2 t))) -∗ bwp c (k ⟨⟩) Q)
      -∗ bwp c (.op (.waitDma2 sem src dst h1 h2) k) Q) := by
  have htt : (fm 10 t : Fin 10).val = t := Nat.mod_eq_of_lt ht
  have ht0 : t / 10 = 0 := Nat.div_eq_of_lt ht
  have hp : kpay X Wt c (.rrecv (fm 10 t)) (t / 10) 0 = iprop(owns (c : Thread nD τ) (relM (fm 10 t)) fullShare (chk X (rorg c t) (fm 2 t)) ∗ Entered (rorg c t)) := by
    show relPay X c (fm 10 t) = _
    unfold relPay
    rw [htt]
  unfold LQ
  rw [bigSep_range_succ]
  iintro ⟨#HI, HM, HW, #HEs⟩ Hk
  iapply (WQ_wait X Wt (κ := κ) (ιs := ιs) c (fun j => .rrecv (f10 j)) 10 llv (lo := t) (hi := 10) (i := i) (t := t') ht (by decide)
    (congrArg Kd.rrecv (Fin.ext (Nat.add_mod_right t 10)))
    (w := .waitDma2 sem src dst h1 h2) (by intro K; rw [← hsem]; exact (wpE_waitDma2_eq 𝒱₀ (c : Thread nD τ) none Set.univ K).trans (by rw [hN]; rfl))
    (by rw [ht0]; rfl) hB) $$ [HM HW]
  · isplitr; · iexact HI
    isplitl [HM] <;> iassumption
  iintro ⟨HM, HW, Hp⟩
  ihave Hp := (Entails.of_eq hp) $$ Hp
  icases Hp with ⟨Hp, #HE⟩
  iapply Hk
  isplitl [HM]; · iexact HM
  isplitl [HW]
  · isplitl [HW]; · iexact HW
    isplitr; · iexact HE
    iexact HEs
  iexact Hp

/-- The staging places read out and given back. -/
def Sdn (c : Dev nD) (t : ℕ) : sProp 𝕄 := bigSep (Finset.range t) fun j => iprop(∃ V, owns (c : Thread nD τ) (stgM (fm 10 j)) fullShare V)
/-- The relay places taken in. -/
def Ldn (c : Dev nD) (t : ℕ) : sProp 𝕄 := bigSep (Finset.range t) fun j => iprop(∃ V, owns (c : Thread nD τ) (relM (fm 10 j)) fullShare V)

theorem rel_wait (c : Dev nD) (t i t' : ℕ) (ht : t < 10) (hB : Below 0 i t')
    {sem : DmaSem sig} (hsem : SemLoc.dma sem = semOf (.rsend (fm 10 t)))
    {src : Memref sig .tc sp' s₁ e₁} {dst : Memref sig .tc sp s₂ e₂} {h1 : src.view.WordExact} {h2 : dst.view.WordExact} (hN : dst.view.dmaCredit = NR)
    {k : PUnit → Prog (TpuEff nD τ sig (Elt F) Λ₀ .tc) α} :
    iprop(Invs X Wt κ ιs ∗ Main c i t' ∗ TQ c t 10 ∗ Sdn c t)
      ⊢ iprop(((Main c i t' ∗ TQ c (t + 1) 10 ∗ Sdn c (t + 1)) -∗ bwp c (k ⟨⟩) Q)
      -∗ bwp c (.op (.waitDma2 sem src dst h1 h2) k) Q) := by
  have ht0 : t / 10 = 0 := Nat.div_eq_of_lt ht
  have hp : kpay X Wt c (.rsend (fm 10 t)) (t / 10) 0 = iprop(∃ V, owns (c : Thread nD τ) (stgM (fm 10 t)) fullShare V) := rfl
  unfold TQ Sdn
  rw [bigSep_range_succ]
  iintro ⟨#HI, HM, HW, Hd⟩ Hk
  iapply (WQ_wait X Wt (κ := κ) (ιs := ιs) c (fun j => .rsend (f10 j)) 10 (fun _ => 0) (lo := t) (hi := 10) (i := i) (t := t') ht (by decide)
    (congrArg Kd.rsend (Fin.ext (Nat.add_mod_right t 10)))
    (w := .waitDma2 sem src dst h1 h2) (by intro K; rw [← hsem]; exact (wpE_waitDma2_eq 𝒱₀ (c : Thread nD τ) none Set.univ K).trans (by rw [hN]; rfl))
    (by rw [ht0]; rfl) hB) $$ [HM HW]
  · isplitr; · iexact HI
    isplitl [HM] <;> iassumption
  iintro ⟨HM, HW, Hp⟩
  ihave Hp := (Entails.of_eq hp) $$ Hp
  iapply Hk
  isplitl [HM]; · iexact HM
  isplitl [HW]; · iexact HW
  isplitl [Hp]; · iexact Hp
  iexact Hd

end Rel

/-! ## The local copies -/

/-- The local copies' semaphore. -/
abbrev stS : Fin 77 := ⟨44, by decide⟩
/-- A local copy on its way. -/
def Fl (c : Dev nD) {sp sp' : Space} {s : Shape} (src : Memref sig .tc sp s .f32) (dst : Memref sig .tc sp' s .f32) (q : PosShare TreeShare)
    (V : s.Idx → Elt F .f32) : sProp 𝕄 :=
  iprop(∃ fs fd, ⌜src.view.read (Elt F) fs = V⌝ ∗ Transfers.Flight EC (c : Thread nD τ) (.dma stS) 0 NR
    iprop((dst.view.loc (c : Thread nD τ) ↦[dst.view.set]{fullShare} (dst.view.write (Elt F) fd (ReadAs.same.apply (src.view.read (Elt F) fs)) Finset.univ))
      ∗ (src.view.loc (c : Thread nD τ) ↦[src.view.set]{q} fs)))
/-- The local copies' semaphore at zero. -/
def Zs (c : Dev nD) : sProp 𝕄 := semVal ((c : Thread nD τ), .dma stS) 0

section Loc
variable {sp sp' : Space}

theorem loc_start (c : Dev nD) {src src' : Memref sig .tc sp S128x4096 .f32} {dst dst' : Memref sig .tc sp' S128x4096 .f32} {sem : SemLoc sig}
    (hsrc : src' = src) (hdst : dst' = dst) (hsem : sem = .dma stS) (hN : dst.view.dmaCredit = NR)
    {hw1 : src'.view.WordExact} {hw2 : dst'.view.WordExact} {hty : DmaTarget.Typed sp sem (.here dst' : DmaTarget nD τ sig .tc sp' S128x4096 .f32)}
    {k : PUnit → Prog (TpuEff nD τ sig (Elt F) Λ₀ .tc) α} {q : PosShare TreeShare} {V : Vec F S128x4096 .f32} :
    iprop(owns (c : Thread nD τ) src q V ∗ (∃ V', owns (c : Thread nD τ) dst fullShare V') ∗ Zs c)
      ⊢ iprop((Fl c src dst q V -∗ bwp c (k ⟨⟩) Q)
      -∗ bwp c (.op (.enqueueDma src' (.here dst') sem hw1 hw2 hty) k) Q) := by
  subst hsrc hdst hsem
  unfold owns Zs
  iintro ⟨⟨%fs, %hfs, Hs⟩, ⟨%V', %fd, %hfd, Hd⟩, Hz⟩ Hk
  iapply (Transfers.wp_dmaLocal EC 𝒱₀ (c : Thread nD τ) none (sm := .dma stS) (src := src') (dst := dst') (via := .same) (Sd := dst'.view.set) (fs := fs) (fd := fd) (q := q)
    0 NR hN NR_pos (Finset.Subset.refl _)) $$ [Hs Hd Hz]
  · isplitl [Hs]; · iexact Hs
    isplitl [Hd] <;> iassumption
  iintro HF
  iapply Hk
  unfold Fl
  iexists fs
  iexists fd
  isplitr; · ipureintro; exact hfs
  iexact HF

theorem loc_wait (c : Dev nD) (i t : ℕ) (hB : Below 0 i t) {src src' : Memref sig .tc sp S128x4096 .f32} {dst dst' : Memref sig .tc sp' S128x4096 .f32} {sem : DmaSem sig}
    (hsem : sem = stS) (hN : dst'.view.dmaCredit = NR)
    {hw1 : src'.view.WordExact} {hw2 : dst'.view.WordExact}
    {k : PUnit → Prog (TpuEff nD τ sig (Elt F) Λ₀ .tc) α} {q : PosShare TreeShare} {V : Vec F S128x4096 .f32} :
    iprop(Invs X Wt κ ιs ∗ Main c i t ∗ Fl c src dst q V)
      ⊢ iprop(((Main c i t ∗ Zs c ∗ owns (c : Thread nD τ) src q V ∗ owns (c : Thread nD τ) dst fullShare V) -∗ bwp c (k ⟨⟩) Q)
      -∗ bwp c (.op (.waitDma2 sem src' dst' hw1 hw2) k) Q) := by
  subst hsem
  unfold owns Zs Main Fl
  iintro ⟨#HI, ⟨⟨%W, HO⟩, Hds⟩, %fs, %fd, %hfs, HF⟩ Hk
  iapply (Transfers.wp_waitLocalO EC 𝒱₀ (c : Thread nD τ) none (srcw := src') (dstw := dst') 0 hN (O := owedD c i + owedL c t) (W := W)) $$ [HO HF]
  · isplitl [HF]; · iexact HF
    isplitl [HO]; · iexact HO
    iapply (Invs_mayWait X Wt κ ιs c _ 0 i t hB); iexact HI
  iintro ⟨⟨Hd, Hs⟩, Hz, HO⟩
  iapply Hk
  isplitl [HO Hds]
  · isplitl [HO]; · iexists _; iexact HO
    iexact Hds
  isplitl [Hz]; · iexact Hz
  isplitl [Hs]
  · iexists fs; isplitr; · ipureintro; exact hfs
    iexact Hs
  iexists _
  isplitr
  rotate_left
  · iexact Hd
  · ipureintro
    exact (View.read_write_univ (v := dst.view) fd _).trans hfs

end Loc

end Cert.Proof
end
-- ==== Proof.Xfer3.lean ====
module

public import proofs.«01_k».proof.Proof.Xfer2
public import Idealize.ShloMosaic.Lib.VecWindow

@[expose] public section

set_option maxRecDepth 20000

noncomputable section

/-!
The maximum exchange and the output stores.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## The maximum exchange -/

/-- Every device has entered. -/
def AllE : sProp 𝕄 := bigSep Finset.univ fun p : Dev nD => Entered p
instance AllE_persistent : BI.Persistent (AllE (F := F)) := by unfold AllE; infer_instance

/-- Whom a device hears of before the maximum exchange: itself, by a ring message, or by a relay. -/
theorem heard : ∀ c p : Dev nD, p = c ∨ (∃ d : Bool, ∃ j : Fin 10, p = org c d j.val) ∨ ∃ t : Fin 10, p = rorg c t.val := by decide

theorem AllE_of (c : Dev nD) : iprop(Nbr c ∗ RQ c false 10 ∗ RQ c true 10 ∗ LQ c 10) ⊢ (AllE : sProp 𝕄) := by
  have h1 : (RQ c false 10 : sProp 𝕄) ⊢ bigSep (Finset.range 10) fun j => Entered (org c false j) := by unfold RQ; iintro ⟨-, H⟩; iexact H
  have h2 : (RQ c true 10 : sProp 𝕄) ⊢ bigSep (Finset.range 10) fun j => Entered (org c true j) := by unfold RQ; iintro ⟨-, H⟩; iexact H
  have h3 : (LQ c 10 : sProp 𝕄) ⊢ bigSep (Finset.range 10) fun j => Entered (rorg c j) := by unfold LQ; iintro ⟨-, H⟩; iexact H
  iintro ⟨#HN, H1, H2, H3⟩
  ihave #H1 := h1 $$ H1
  ihave #H2 := h2 $$ H2
  ihave #H3 := h3 $$ H3
  have h : iprop(Nbr c ∗ (bigSep (Finset.range 10) fun j => Entered (org c false j)) ∗ (bigSep (Finset.range 10) fun j => Entered (org c true j))
      ∗ bigSep (Finset.range 10) fun j => Entered (rorg c j)) ⊢ (AllE : sProp 𝕄) := by
    unfold AllE
    refine bigSep_intro_persistent fun p _ => ?_
    rcases heard c p with rfl | ⟨d, j, rfl⟩ | ⟨t, rfl⟩
    · iintro ⟨HN, -⟩; iapply (Nbr_self p); iexact HN
    · cases d
      · iintro ⟨-, H, -⟩; iapply (big_at (fun j => Entered (F := F) (org c false j)) (Finset.mem_range.mpr j.isLt)) $$ H
      · iintro ⟨-, -, H, -⟩; iapply (big_at (fun j => Entered (F := F) (org c true j)) (Finset.mem_range.mpr j.isLt)) $$ H
    · iintro ⟨-, -, -, H⟩; iapply (big_at (fun j => Entered (F := F) (rorg c j)) (Finset.mem_range.mpr t.isLt)) $$ H
  iapply h
  isplitr; · iexact HN
  isplitr; · iexact H1
  isplitr; · iexact H2
  iexact H3

/-- The own row: what is left after `s` sends, and what `w` waits have given back. -/
def Aown (c : Dev nD) (w s : ℕ) : sProp 𝕄 :=
  iprop(owns (c : Thread nD τ) (amM c) (ash s) (amv X Wt c) ∗ bigSep (Finset.range w) fun j => owns (c : Thread nD τ) (amM c) (ash j).left (amv X Wt c))
/-- The rows taken in. -/
def Arow (c : Dev nD) (j : ℕ) : sProp 𝕄 :=
  bigSep (Finset.range j) fun i => owns (c : Thread nD τ) (amM (adv c (1 + i))) fullShare (amv X Wt (adv c (1 + i)))

theorem adv_ne : ∀ (c : Dev nD) (j : Fin 15), adv c (1 + j.val) ≠ c := by decide
theorem gap_adv : ∀ (c : Dev nD) (j : Fin 15), gap c (adv c (1 + j.val)) - 1 = j.val := by decide

section Am
variable {sp sp' : Space} {s₁ s₂ : Shape} {e₁ e₂ : EltTy}

theorem am_send (c : Dev nD) (j i t : ℕ) (hi : i < 49) (hdue : dueAt i = .am j) (hj : j < 15)
    {src' dst' : Memref sig .tc .vmem S8x128 .f32} {n : Dev nD} {sS sem : SemLoc sig}
    (hn : n = adv c (1 + j)) (hsrc : src' = amM c) (hdst : dst' = amM c) (hsS : sS = semOf (.asend (adv c (1 + j)))) (hsem : sem = semOf (.arecv c))
    {hsc : dst'.view.ref.isScScratch = false} {hw1 : src'.view.WordExact} {hw2 : dst'.view.WordExact}
    {hty : DmaTarget.Typed .vmem sem (.remote (n : Thread nD τ) dst' sS hsc)} {k : PUnit → Prog (TpuEff nD τ sig (Elt F) Λ₀ .tc) α} :
    iprop(Invs X Wt κ ιs ∗ AllE ∗ Main c i t ∗ BQ c 0 j ∗ Aown X Wt c 0 j)
      ⊢ iprop(((Main c (i + 1) t ∗ BQ c 0 (j + 1) ∗ Aown X Wt c 0 (j + 1)) -∗ bwp c (k ⟨⟩) Q)
      -∗ bwp c (.op (.enqueueDma src' (.remote (n : Thread nD τ) dst' sS hsc) sem hw1 hw2 hty) k) Q) := by
  have hne : adv c (1 + j) ≠ c := adv_ne c ⟨j, hj⟩
  have hmod : j % 15 = j := Nat.mod_eq_of_lt hj
  unfold Main Aown
  rw [bigSep_Ico_succ_bot hi, hdue, show dtok (F := F) c (.am j) = iprop(dutyTok ER (cellAt (adv c (1 + j)) (.arecv c)) 0 0
    ∗ dutyTok ER (cellAt c (.asend (adv c (1 + j)))) 0 0 ∗ writeTok ES (adv c (1 + j), Kd.arecv c) 1) from rfl]
  iintro ⟨#HI, #HA, ⟨⟨%W, HO⟩, ⟨⟨Hd2, Hd1, Hw⟩, Hds⟩, Hl⟩, HBQ, Hs, Hw0⟩ Hk
  ihave #HEm := (big_at (fun p : Dev nD => Entered (F := F) p) (Finset.mem_univ (adv c (1 + j)))) $$ [HA]
  · unfold AllE; iexact HA
  ihave #HEc := (big_at (fun p : Dev nD => Entered (F := F) p) (Finset.mem_univ c)) $$ [HA]
  · unfold AllE; iexact HA
  ihave Hs := ((owns_halves (c : Thread nD τ) (amM c) (ash j) (amv X Wt c)).1) $$ Hs
  icases Hs with ⟨Hs, Hs'⟩
  iapply (snd X Wt (κ := κ) (ιs := ιs) (c := c) (c' := adv c (1 + j)) (src := amM c) (dst := amM c) (.asend (adv c (1 + j))) (.arecv c) 0 0 1 300
    hn hsrc hdst hsS hsem (O₀ := owedD c i + owedL c t) (O := owedD c (i + 1) + owedL c t)
    (by rw [owedD_succ c i hi, hdue, add_comm (dtal _ _), add_right_comm]; rfl) (W := W) (q := (ash j).left) (V := amv X Wt c) (FR := iprop(emp))
    (BIBase.Entails.rfl)
    (by
      show _ ⊢ asendPay X Wt c (adv c (1 + j))
      unfold asendPay
      rw [gap_adv c ⟨j, hj⟩])
    (by
      show _ ⊢ amPay X Wt (adv c (1 + j)) c
      unfold amPay
      iintro ⟨H, -⟩; iexact H)
    (by show 0 ∈ (if (0 : ℕ) = 0 ∧ adv c (1 + j) ≠ c then {0} else ∅ : Finset ℕ); rw [if_pos ⟨rfl, hne⟩]; exact Finset.mem_singleton_self _)
    (by show 0 ∈ (if (0 : ℕ) = 0 ∧ c ≠ adv c (1 + j) then {0} else ∅ : Finset ℕ); rw [if_pos ⟨rfl, hne.symm⟩]; exact Finset.mem_singleton_self _) rfl rfl) $$ [HO Hs Hd1 Hd2 Hw]
  · isplitr; · iexact HI
    isplitl [HO]; · iexact HO
    isplitl [Hs]; · iexact Hs
    isplitl [Hd1]; · iexact Hd1
    isplitr; · iapply (Entered_reach c (.asend (adv c (1 + j)))); iexact HEc
    isplitl [Hd2]; · iexact Hd2
    isplitr; · iapply (Entered_reach (adv c (1 + j)) (.arecv c)); iexact HEm
    isplitl [Hw]; · iexact Hw
    isplitr; · iapply (Entered_rel (adv c (1 + j)) (.arecv c) rfl); iexact HEm
    iempintro
  iintro ⟨Hc, HO⟩
  iapply Hk
  isplitl [HO Hds Hl]
  · isplitl [HO]; · iexists W; iexact HO
    isplitl [Hds] <;> iassumption
  isplitl [HBQ Hc]
  · unfold BQ
    iapply (WQ_app c (fun j => .asend (adv c (1 + j % 15))) 15 (fun _ => 0) (Nat.zero_le j))
    isplitl [HBQ]; · iexact HBQ
    rw [hmod]
    iexact Hc
  isplitl [Hs']; · iexact Hs'
  iexact Hw0

theorem am_recv (c : Dev nD) (j i t : ℕ) (hj : j < 15) (hB : Below 300 i t)
    {sem : DmaSem sig} (hsem : SemLoc.dma sem = semOf (.arecv (adv c (1 + j))))
    {src : Memref sig .tc sp' s₁ e₁} {dst : Memref sig .tc sp s₂ e₂} {h1 : src.view.WordExact} {h2 : dst.view.WordExact} (hN : dst.view.dmaCredit = NA)
    {k : PUnit → Prog (TpuEff nD τ sig (Elt F) Λ₀ .tc) α} :
    iprop(Invs X Wt κ ιs ∗ Main c i t ∗ AQ c j ∗ Arow X Wt c j)
      ⊢ iprop(((Main c i t ∗ AQ c (j + 1) ∗ Arow X Wt c (j + 1)) -∗ bwp c (k ⟨⟩) Q)
      -∗ bwp c (.op (.waitDma2 sem src dst h1 h2) k) Q) := by
  have hne : adv c (1 + j) ≠ c := adv_ne c ⟨j, hj⟩
  have hmod : j % 15 = j := Nat.mod_eq_of_lt hj
  have hdiv : j / 15 = 0 := Nat.div_eq_of_lt hj
  have hp : kpay X Wt c (.arecv (adv c (1 + j % 15))) (j / 15) 0 = owns (c : Thread nD τ) (amM (adv c (1 + j))) fullShare (amv X Wt (adv c (1 + j))) := by
    rw [hmod]; rfl
  unfold AQ Arow
  rw [bigSep_range_succ]
  iintro ⟨#HI, HM, HW, HR⟩ Hk
  iapply (WQ_wait X Wt (κ := κ) (ιs := ιs) c (fun j => .arecv (adv c (1 + j % 15))) 15 (fun _ => 300) (lo := j) (hi := 15) (i := i) (t := t) hj (by decide)
    (by show Kd.arecv (adv c (1 + (j + 15) % 15)) = Kd.arecv (adv c (1 + j % 15)); rw [Nat.add_mod_right])
    (w := .waitDma2 sem src dst h1 h2) (by intro K; show _ = waitSpec _ _ (semOf (.arecv (adv c (1 + j % 15)))) _ _; rw [hmod, ← hsem]; exact (wpE_waitDma2_eq 𝒱₀ (c : Thread nD τ) none Set.univ K).trans (by rw [hN]; rfl))
    (by show (if j / 15 = 0 ∧ adv c (1 + j % 15) ≠ c then {0} else ∅ : Finset ℕ) = {0}; rw [hmod, hdiv, if_pos ⟨rfl, hne⟩]) hB) $$ [HM HW]
  · isplitr; · iexact HI
    isplitl [HM] <;> iassumption
  iintro ⟨HM, HW, Hp⟩
  ihave Hp := (Entails.of_eq hp) $$ Hp
  iapply Hk
  isplitl [HM]; · iexact HM
  isplitl [HW]; · iexact HW
  isplitl [Hp] <;> iassumption

theorem am_wait (c : Dev nD) (j i t : ℕ) (hj : j < 15) (hB : Below 0 i t)
    {sem : DmaSem sig} (hsem : SemLoc.dma sem = semOf (.asend (adv c (1 + j))))
    {src : Memref sig .tc sp' s₁ e₁} {dst : Memref sig .tc sp s₂ e₂} {h1 : src.view.WordExact} {h2 : dst.view.WordExact} (hN : dst.view.dmaCredit = NA)
    {k : PUnit → Prog (TpuEff nD τ sig (Elt F) Λ₀ .tc) α} :
    iprop(Invs X Wt κ ιs ∗ Main c i t ∗ BQ c j 15 ∗ Aown X Wt c j 15)
      ⊢ iprop(((Main c i t ∗ BQ c (j + 1) 15 ∗ Aown X Wt c (j + 1) 15) -∗ bwp c (k ⟨⟩) Q)
      -∗ bwp c (.op (.waitDma2 sem src dst h1 h2) k) Q) := by
  have hne : adv c (1 + j) ≠ c := adv_ne c ⟨j, hj⟩
  have hmod : j % 15 = j := Nat.mod_eq_of_lt hj
  have hdiv : j / 15 = 0 := Nat.div_eq_of_lt hj
  have hp : kpay X Wt c (.asend (adv c (1 + j % 15))) (j / 15) 0 = owns (c : Thread nD τ) (amM c) (ash j).left (amv X Wt c) := by
    rw [hmod]
    show asendPay X Wt c (adv c (1 + j)) = _
    unfold asendPay
    rw [gap_adv c ⟨j, hj⟩]
  unfold BQ Aown
  rw [bigSep_range_succ]
  iintro ⟨#HI, HM, HW, Hs, HR⟩ Hk
  iapply (WQ_wait X Wt (κ := κ) (ιs := ιs) c (fun j => .asend (adv c (1 + j % 15))) 15 (fun _ => 0) (lo := j) (hi := 15) (i := i) (t := t) hj (by decide)
    (by show Kd.asend (adv c (1 + (j + 15) % 15)) = Kd.asend (adv c (1 + j % 15)); rw [Nat.add_mod_right])
    (w := .waitDma2 sem src dst h1 h2) (by intro K; show _ = waitSpec _ _ (semOf (.asend (adv c (1 + j % 15)))) _ _; rw [hmod, ← hsem]; exact (wpE_waitDma2_eq 𝒱₀ (c : Thread nD τ) none Set.univ K).trans (by rw [hN]; rfl))
    (by show (if j / 15 = 0 ∧ adv c (1 + j % 15) ≠ c then {0} else ∅ : Finset ℕ) = {0}; rw [hmod, hdiv, if_pos ⟨rfl, hne⟩]) hB) $$ [HM HW]
  · isplitr; · iexact HI
    isplitl [HM] <;> iassumption
  iintro ⟨HM, HW, Hp⟩
  ihave Hp := (Entails.of_eq hp) $$ Hp
  iapply Hk
  isplitl [HM]; · iexact HM
  isplitl [HW]; · iexact HW
  isplitl [Hs]; · iexact Hs
  isplitl [Hp] <;> iassumption

end Am

theorem Aown_join (c : Dev nD) (n : ℕ) : (Aown X Wt c n n : sProp 𝕄) ⊢ owns (c : Thread nD τ) (amM c) fullShare (amv X Wt c) := by
  induction n with
  | zero => unfold Aown; iintro ⟨H, -⟩; iexact H
  | succ n ih =>
    refine BIBase.Entails.trans ?_ ih
    unfold Aown
    rw [bigSep_range_succ]
    iintro ⟨H, H1, H2⟩
    isplitl [H H1]
    · iapply ((owns_halves (c : Thread nD τ) (amM c) (ash n) (amv X Wt c)).2)
      isplitl [H1]; · iexact H1
      iexact H
    iexact H2

/-! ## The output stores -/

/-- The row at which the `n`-th product goes, in half blocks. -/
def rowC (c : Dev nD) (n : ℕ) : ℕ := 2 * (srcDev c (srcAt n)).val + (srcHf (srcAt n)).val

theorem inbr {r : ℕ} (h : r < 32) : ∀ a, (![r * 128, 0] : Fin 2 → ℕ) a + S128x512.size a ≤ S4096x512.size a := by
  intro a
  have h0 : (![r * 128, 0] : Fin 2 → ℕ) 0 = r * 128 := rfl
  have h1 : (![r * 128, 0] : Fin 2 → ℕ) 1 = 0 := rfl
  fin_cases a
  · show r * 128 + 128 ≤ 4096; omega
  · show 0 + 512 ≤ 512; omega
theorem inbo (c : Dev nD) : ∀ a, (![c.val * 256, 0] : Fin 2 → ℕ) a + S256x512.size a ≤ S4096x512.size a := by
  revert c; decide

/-- Row block `r` of the output buffer's contents, and the own rows. -/
def rowR (r : ℕ) (h : r < 32) (V : Vec F S4096x512 .f32) : Vec F S128x512 .f32 := fun y => VecWindow.window V ![r * 128, 0] S128x512.size (inbr h) y
def rowO (c : Dev nD) (V : Vec F S4096x512 .f32) : Vec F S256x512 .f32 := fun y => VecWindow.window V ![c.val * 256, 0] S256x512.size (inbo c) y

theorem rowC_lt : ∀ (c : Dev nD) (n : Fin 30), rowC c n.val < 32 := by decide
theorem rowC_ne : ∀ (c : Dev nD), ∀ n < 30, ∀ m < n, rowC c m ≠ rowC c n := by decide
theorem rowC_own : ∀ (c : Dev nD) (n : Fin 30), rowC c n.val / 2 ≠ c.val := by decide

/-- The own rows and the first `n` products are in place. -/
def Good (c : Dev nD) (n : ℕ) (V : Vec F S4096x512 .f32) : Prop :=
  rowO c V = k0_pay2 (X c) (Wt c) ∧ ∀ m (hm : m < 30), m < n → rowR (rowC c m) (rowC_lt c ⟨m, hm⟩) V = prd X Wt c m
def OutQ (c : Dev nD) (n : ℕ) : sProp 𝕄 := iprop(∃ V, ⌜Good X Wt c n V⌝ ∗ owns (c : Thread nD τ) oW fullShare V)
/-- The output buffer before anything is stored. -/
def Out0 (c : Dev nD) : sProp 𝕄 := iprop(∃ V, owns (c : Thread nD τ) oW fullShare V)

theorem st_o (c : Dev nD) {off size off' : Fin 2 → ℕ} {inb : ∀ a, off a + size a ≤ S4096x512.size a} (ho : off = off')
    {w : (Rect.unit (s := S4096x512) off size inb).shape.Idx → Elt F .f32}
    {hx : (oW.access (Rect.unit (s := S4096x512) off size inb)).Stores Finset.univ} {hm : Finset.univ = Finset.univ ∨ ∀ a, (Rect.unit (s := S4096x512) off size inb).stride a = 1}
    {k : PUnit → Prog (TpuEff nD τ sig (Elt F) Λ₀ .tc) α} {V : Vec F S4096x512 .f32} :
    owns (c : Thread nD τ) oW fullShare V ⊢ iprop((owns (c : Thread nD τ) oW fullShare (VecWindow.put V off' size w) -∗ bwp c (k ⟨⟩) Q)
      -∗ bwp c (.op (.store oW (Rect.unit (s := S4096x512) off size inb) w Finset.univ hx hm) k) Q) := by
  subst ho
  unfold owns
  iintro ⟨%f, %hf, Hf⟩ Hk
  iapply (wp_store 𝒱₀ (c : Thread nD τ) none Set.univ (m := oW) (r := Rect.unit (s := S4096x512) off size inb) (w := w) (Mk := Finset.univ) (hx := hx) (hm := hm) (k := k)
    (S := oW.view.set) (f := f) ((View.setOn_subset_set _ _).trans (View.set_slice_subset oW.view _))) $$ Hf
  iintro Hf
  iapply Hk
  iexists _
  isplitr
  rotate_left
  · iexact Hf
  · ipureintro
    have h := View.read_writes_cons_put oW.view f inb w [] rfl
    rw [View.writes_nil, hf] at h
    exact h

theorem window_ext {s : Shape} {β : Type} (x : s.Idx → β) (off off' size : Fin s.rank → ℕ) (inb : ∀ a, off a + size a ≤ s.size a) (inb' : ∀ a, off' a + size a ≤ s.size a)
    (h : off = off') : VecWindow.window x off size inb = VecWindow.window x off' size inb' := by subst h; rfl

theorem st_own (c : Dev nD) {off : Fin 2 → ℕ} {inb : ∀ a, off a + S256x512.size a ≤ S4096x512.size a} (ho : off = ![c.val * 256, 0])
    {w : Vec F S256x512 .f32} (hwv : w = k0_pay2 (X c) (Wt c))
    {hx : (oW.access (Rect.unit (s := S4096x512) off S256x512.size inb)).Stores Finset.univ} {hm : Finset.univ = Finset.univ ∨ ∀ a, (Rect.unit (s := S4096x512) off S256x512.size inb).stride a = 1}
    {k : PUnit → Prog (TpuEff nD τ sig (Elt F) Λ₀ .tc) α} :
    Out0 c ⊢ iprop((OutQ X Wt c 0 -∗ bwp c (k ⟨⟩) Q)
      -∗ bwp c (.op (.store oW (Rect.unit (s := S4096x512) off S256x512.size inb) w Finset.univ hx hm) k) Q) := by
  unfold Out0 OutQ
  iintro ⟨%V, H⟩ Hk
  iapply (st_o (F := F) c (k := k) (Q := Q) (V := V) (inb := inb) (hx := hx) (hm := hm) (w := w) ho) $$ H
  iintro H
  iapply Hk
  iexists _
  isplitr
  rotate_left
  · iexact H
  · ipureintro
    refine ⟨?_, fun m _ h => absurd h (Nat.not_lt_zero m)⟩
    rw [← hwv]
    exact VecWindow.window_put_same V ![c.val * 256, 0] S256x512.size (inbo c) w

theorem st_prd (c : Dev nD) (n : ℕ) (hn : n < 30) {off : Fin 2 → ℕ} {inb : ∀ a, off a + S128x512.size a ≤ S4096x512.size a} (ho : off = ![rowC c n * 128, 0])
    {w : Vec F S128x512 .f32} (hwv : w = prd X Wt c n)
    {hx : (oW.access (Rect.unit (s := S4096x512) off S128x512.size inb)).Stores Finset.univ} {hm : Finset.univ = Finset.univ ∨ ∀ a, (Rect.unit (s := S4096x512) off S128x512.size inb).stride a = 1}
    {k : PUnit → Prog (TpuEff nD τ sig (Elt F) Λ₀ .tc) α} :
    OutQ X Wt c n ⊢ iprop((OutQ X Wt c (n + 1) -∗ bwp c (k ⟨⟩) Q)
      -∗ bwp c (.op (.store oW (Rect.unit (s := S4096x512) off S128x512.size inb) w Finset.univ hx hm) k) Q) := by
  unfold OutQ
  iintro ⟨%V, %hV, H⟩ Hk
  iapply (st_o (F := F) c (k := k) (Q := Q) (V := V) (inb := inb) (hx := hx) (hm := hm) (w := w) ho) $$ H
  iintro H
  iapply Hk
  iexists _
  isplitr
  rotate_left
  · iexact H
  · ipureintro
    refine ⟨?_, fun m hm30 hmn => ?_⟩
    · rw [← hV.1]
      refine VecWindow.window_put_of_disjoint V ![rowC c n * 128, 0] S128x512.size ![c.val * 256, 0] S256x512.size (inbo c) w (0 : Fin 2) ?_
      show c.val * 256 + 256 ≤ rowC c n * 128 ∨ rowC c n * 128 + 128 ≤ c.val * 256
      have := rowC_own c ⟨n, hn⟩
      change rowC c n / 2 ≠ c.val at this
      omega
    · rcases Nat.lt_or_ge m n with h | h
      · rw [← hV.2 m hm30 h]
        refine VecWindow.window_put_of_disjoint V ![rowC c n * 128, 0] S128x512.size ![rowC c m * 128, 0] S128x512.size (inbr (rowC_lt c ⟨m, hm30⟩)) w (0 : Fin 2) ?_
        show rowC c m * 128 + 128 ≤ rowC c n * 128 ∨ rowC c n * 128 + 128 ≤ rowC c m * 128
        have := rowC_ne c n hn m h
        omega
      · obtain rfl : m = n := by omega
        rw [← hwv]
        exact VecWindow.window_put_same V ![rowC c m * 128, 0] S128x512.size (inbr (rowC_lt c ⟨m, hm30⟩)) w

theorem ld_deadO (c : Dev nD) (n : ℕ) {r : LoadRect S4096x512} {hl : oW.view.LoadsAt r}
    {k : (r.shape.Idx → Elt F .f32) → Prog (TpuEff nD τ sig (Elt F) Λ₀ .tc) α} :
    OutQ X Wt c n ⊢ iprop((∀ v, OutQ X Wt c n -∗ bwp c (k v) Q) -∗ bwp c (.op (.load oW r hl) k) Q) := by
  unfold OutQ
  iintro ⟨%V, %hV, H⟩ Hk
  iapply (ld_dead (F := F) c oW (r := r) (hl := hl) (k := k) (Q := Q)) $$ H
  iintro %v H
  iapply Hk $$ %v
  iexists V
  isplitr; · ipureintro; exact hV
  iexact H
theorem ld_dead0 (c : Dev nD) {r : LoadRect S4096x512} {hl : oW.view.LoadsAt r}
    {k : (r.shape.Idx → Elt F .f32) → Prog (TpuEff nD τ sig (Elt F) Λ₀ .tc) α} :
    (Out0 c : sProp 𝕄) ⊢ iprop((∀ v, Out0 c -∗ bwp c (k v) Q) -∗ bwp c (.op (.load oW r hl) k) Q) := by
  unfold Out0
  iintro ⟨%V, H⟩ Hk
  iapply (ld_dead (F := F) c oW (r := r) (hl := hl) (k := k) (Q := Q)) $$ H
  iintro %v H
  iapply Hk $$ %v
  iexists V
  iexact H

end Cert.Proof
end
-- ==== Proof.BodyC.lean ====
module

public import proofs.«01_k».proof.Proof.Xfer3

@[expose] public section

set_option maxRecDepth 20000

noncomputable section

/-!
What the parts of the body have in common: their buffers, the scalars' side conditions, and the count of relays sent.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## Buffers -/

abbrev sgW : Memref sig .tc .hbm S10x128x4096 .f32 := Memref.whole main_v94_1
abbrev rlW : Memref sig .tc .hbm S10x128x4096 .f32 := Memref.whole main_v94_2
abbrev fW : Memref sig .tc .vmem S5x128x4096 .f32 := Memref.whole cc0_scratch0
abbrev bW : Memref sig .tc .vmem S5x128x4096 .f32 := Memref.whole cc0_scratch3
abbrev bcW : Memref sig .tc .vmem S2x128x4096 .f32 := Memref.whole cc0_scratch10
theorem ht : tW.IsWhole := Memref.isWhole_whole _
theorem hx : xW.IsWhole := Memref.isWhole_whole _
theorem hw : wW.IsWhole := Memref.isWhole_whole _
theorem ho : oW.IsWhole := Memref.isWhole_whole _
theorem hsg : sgW.IsWhole := Memref.isWhole_whole _
theorem hrl : rlW.IsWhole := Memref.isWhole_whole _
theorem hff : fW.IsWhole := Memref.isWhole_whole _
theorem hbb : bW.IsWhole := Memref.isWhole_whole _
theorem hbc : bcW.IsWhole := Memref.isWhole_whole _
theorem ham : aW.IsWhole := Memref.isWhole_whole _

/-! ## The scalars -/

theorem dv0 (c : Dev nD) {h : (mw c 0).toNat < nD} : (⟨(mw c 0).toNat, h⟩ : Dev nD) = rto c false := Fin.ext (by revert c; decide)
theorem dv1 (c : Dev nD) {h : (mw c 1).toNat < nD} : (⟨(mw c 1).toNat, h⟩ : Dev nD) = rto c true := Fin.ext (by revert c; decide)
theorem dc0 (c : Dev nD) {h : (mw c 0).toNat < nD} : (⟨(mw c 0).toNat, h⟩ : Dev nD) = rfrom c true := Fin.ext (by revert c; decide)
theorem dc1 (c : Dev nD) {h : (mw c 1).toNat < nD} : (⟨(mw c 1).toNat, h⟩ : Dev nD) = rfrom c false := Fin.ext (by revert c; decide)
theorem dv2 (c : Dev nD) {h : (mw c 22).toNat < nD} : (⟨(mw c 22).toNat, h⟩ : Dev nD) = pa c := Fin.ext (by revert c; decide)
theorem dv3 (c : Dev nD) {h : (mw c 23).toNat < nD} : (⟨(mw c 23).toNat, h⟩ : Dev nD) = pb c := Fin.ext (by revert c; decide)

theorem ck1 (c : Dev nD) : k0_chk1 (mw c 0) := by unfold k0_chk1; revert c; decide
theorem ck2 (c : Dev nD) : k0_chk2 (mw c 1) := by unfold k0_chk2; revert c; decide
theorem ck3 (c : Dev nD) : k0_chk3 (mw c 22) := by unfold k0_chk3; revert c; decide
theorem ck4 (c : Dev nD) : k0_chk4 (mw c 23) := by unfold k0_chk4; revert c; decide
theorem ck5 (c : Dev nD) : k0_chk5 (mw c 22) (mw c 23) (mw c 24) := by unfold k0_chk5; revert c; decide
theorem ck6 (c : Dev nD) : k0_chk6 (mw c 2) := by unfold k0_chk6; revert c; decide
theorem ck7 (c : Dev nD) : k0_chk7 (mw c 12) := by unfold k0_chk7; revert c; decide
theorem ck8 (c : Dev nD) : k0_chk8 (mw c 3) := by unfold k0_chk8; revert c; decide
theorem ck9 (c : Dev nD) : k0_chk9 (mw c 13) := by unfold k0_chk9; revert c; decide
theorem ck10 (c : Dev nD) : k0_chk10 (mw c 4) := by unfold k0_chk10; revert c; decide
theorem ck11 (c : Dev nD) : k0_chk11 (mw c 14) := by unfold k0_chk11; revert c; decide
theorem ck12 (c : Dev nD) : k0_chk12 (mw c 5) := by unfold k0_chk12; revert c; decide
theorem ck13 (c : Dev nD) : k0_chk13 (mw c 15) := by unfold k0_chk13; revert c; decide
theorem ck14 (c : Dev nD) : k0_chk14 (mw c 25) := by unfold k0_chk14; revert c; decide
theorem ck15 (c : Dev nD) : k0_chk15 (mw c 6) := by unfold k0_chk15; revert c; decide
theorem ck16 (c : Dev nD) : k0_chk16 (mw c 16) := by unfold k0_chk16; revert c; decide
theorem ck17 (c : Dev nD) : k0_chk17 (mw c 25) := by unfold k0_chk17; revert c; decide
theorem ck18 (c : Dev nD) : k0_chk18 (mw c 7) := by unfold k0_chk18; revert c; decide
theorem ck19 (c : Dev nD) : k0_chk19 (mw c 17) := by unfold k0_chk19; revert c; decide
theorem ck20 (c : Dev nD) : k0_chk20 (mw c 26) := by unfold k0_chk20; revert c; decide
theorem ck21 (c : Dev nD) : k0_chk21 (mw c 8) := by unfold k0_chk21; revert c; decide
theorem ck22 (c : Dev nD) : k0_chk22 (mw c 18) := by unfold k0_chk22; revert c; decide
theorem ck23 (c : Dev nD) : k0_chk23 (mw c 26) := by unfold k0_chk23; revert c; decide
theorem ck24 (c : Dev nD) : k0_chk24 (mw c 9) := by unfold k0_chk24; revert c; decide
theorem ck25 (c : Dev nD) : k0_chk25 (mw c 19) := by unfold k0_chk25; revert c; decide
theorem ck26 (c : Dev nD) : k0_chk26 (mw c 27) := by unfold k0_chk26; revert c; decide
theorem ck27 (c : Dev nD) : k0_chk27 (mw c 10) := by unfold k0_chk27; revert c; decide
theorem ck28 (c : Dev nD) : k0_chk28 (mw c 20) := by unfold k0_chk28; revert c; decide
theorem ck29 (c : Dev nD) : k0_chk29 (mw c 27) := by unfold k0_chk29; revert c; decide
theorem ck30 (c : Dev nD) : k0_chk30 (mw c 11) := by unfold k0_chk30; revert c; decide
theorem ck31 (c : Dev nD) : k0_chk31 (mw c 21) := by unfold k0_chk31; revert c; decide
theorem ck32 (c : Dev nD) : k0_chk32 (mw c 28) := by unfold k0_chk32; revert c; decide
theorem ck33 (c : Dev nD) : k0_chk33 (mw c 28) := by unfold k0_chk33; revert c; decide
theorem ck34 (c : Dev nD) : k0_chk34 (mw c 29) := by unfold k0_chk34; revert c; decide
theorem ck35 (c : Dev nD) : k0_chk35 (mw c 29) := by unfold k0_chk35; revert c; decide

/-! ## The half blocks a relay takes on -/

def tcL : List (Fin 4 × ℕ) := [(0, 2), (3, 2), (0, 4), (1, 2), (2, 2), (3, 4), (0, 2), (1, 2), (2, 2), (3, 2), (0, 2), (1, 4), (2, 4), (3, 2), (1, 2), (2, 2)]
/-- The relays that a device at place `q` has sent after `n` staging conditions. -/
def tc (q : Fin 4) (n : ℕ) : ℕ := (((tcL.take n).filter (fun x => x.1 = q)).map (·.2)).sum

theorem tc_end : ∀ q : Fin 4, tc q 16 = 10 := by decide

/-! ## Values -/

def L1 (p : Dev nD) (h : Fin 2) : Vec F S1x128x4096 .f32 := shapeCast S1x128x4096 (chk X p h) (by decide)

theorem sc_L1 (p : Dev nD) (h : Fin 2) (hc) : shapeCast S128x4096 (L1 X p h) hc = chk X p h := shapeCast_shapeCast _ _ _
theorem prd_eq (c : Dev nD) (n : ℕ) : prd X Wt c n = k0_pay4 (L1 X (srcDev c (srcAt n)) (srcHf (srcAt n))) (Wt c) := by
  unfold k0_pay4 prd gm pblk
  dsimp only
  rw [sc_L1]

theorem Ldn_app (c : Dev nD) (t : ℕ) {V : Vec F S128x4096 .f32} :
    iprop(Ldn c t ∗ owns (c : Thread nD τ) (relM (f10 t)) fullShare V) ⊢ (Ldn c (t + 1) : sProp 𝕄) := by
  unfold Ldn
  rw [bigSep_range_succ]
  iintro ⟨H, H1⟩
  isplitl [H1]
  · iexists V; iexact H1
  iexact H

theorem Stg_pop (c : Dev nD) (t : ℕ) (h : t < 10) :
    (Stg c t : sProp 𝕄) ⊢ iprop((∃ V, owns (c : Thread nD τ) (stgM (f10 t)) fullShare V) ∗ Stg c (t + 1)) := by
  unfold Stg
  exact Entails.of_eq (bigSep_Ico_succ_bot h _)

end Cert.Proof
end
-- ==== Proof.BodyD.lean ====
module

public import proofs.«01_k».proof.Proof.BodyC

@[expose] public section

set_option maxRecDepth 20000

noncomputable section

/-!
Named equations for the memrefs, semaphores, offsets and values that the body's text speaks of.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}
theorem mF0 {h h' h''} : ((fW.slice (Rect.unit (s := S5x128x4096) ![0, 0, 0] S1x128x4096.size h) h').squeeze S128x4096 h'') = slotM false (f5 0) := rfl
theorem mB0 {h h' h''} : ((bW.slice (Rect.unit (s := S5x128x4096) ![0, 0, 0] S1x128x4096.size h) h').squeeze S128x4096 h'') = slotM true (f5 0) := rfl
theorem mF1 {h h' h''} : ((fW.slice (Rect.unit (s := S5x128x4096) ![1, 0, 0] S1x128x4096.size h) h').squeeze S128x4096 h'') = slotM false (f5 1) := rfl
theorem mB1 {h h' h''} : ((bW.slice (Rect.unit (s := S5x128x4096) ![1, 0, 0] S1x128x4096.size h) h').squeeze S128x4096 h'') = slotM true (f5 1) := rfl
theorem mF2 {h h' h''} : ((fW.slice (Rect.unit (s := S5x128x4096) ![2, 0, 0] S1x128x4096.size h) h').squeeze S128x4096 h'') = slotM false (f5 2) := rfl
theorem mB2 {h h' h''} : ((bW.slice (Rect.unit (s := S5x128x4096) ![2, 0, 0] S1x128x4096.size h) h').squeeze S128x4096 h'') = slotM true (f5 2) := rfl
theorem mF3 {h h' h''} : ((fW.slice (Rect.unit (s := S5x128x4096) ![3, 0, 0] S1x128x4096.size h) h').squeeze S128x4096 h'') = slotM false (f5 3) := rfl
theorem mB3 {h h' h''} : ((bW.slice (Rect.unit (s := S5x128x4096) ![3, 0, 0] S1x128x4096.size h) h').squeeze S128x4096 h'') = slotM true (f5 3) := rfl
theorem mF4 {h h' h''} : ((fW.slice (Rect.unit (s := S5x128x4096) ![4, 0, 0] S1x128x4096.size h) h').squeeze S128x4096 h'') = slotM false (f5 4) := rfl
theorem mB4 {h h' h''} : ((bW.slice (Rect.unit (s := S5x128x4096) ![4, 0, 0] S1x128x4096.size h) h').squeeze S128x4096 h'') = slotM true (f5 4) := rfl
theorem mS0 {h h' h''} : ((sgW.slice (Rect.unit (s := S10x128x4096) ![0, 0, 0] S1x128x4096.size h) h').squeeze S128x4096 h'') = stgM (f10 0) := rfl
theorem mR0 {h h' h''} : ((rlW.slice (Rect.unit (s := S10x128x4096) ![0, 0, 0] S1x128x4096.size h) h').squeeze S128x4096 h'') = relM (f10 0) := rfl
theorem mS1 {h h' h''} : ((sgW.slice (Rect.unit (s := S10x128x4096) ![1, 0, 0] S1x128x4096.size h) h').squeeze S128x4096 h'') = stgM (f10 1) := rfl
theorem mR1 {h h' h''} : ((rlW.slice (Rect.unit (s := S10x128x4096) ![1, 0, 0] S1x128x4096.size h) h').squeeze S128x4096 h'') = relM (f10 1) := rfl
theorem mS2 {h h' h''} : ((sgW.slice (Rect.unit (s := S10x128x4096) ![2, 0, 0] S1x128x4096.size h) h').squeeze S128x4096 h'') = stgM (f10 2) := rfl
theorem mR2 {h h' h''} : ((rlW.slice (Rect.unit (s := S10x128x4096) ![2, 0, 0] S1x128x4096.size h) h').squeeze S128x4096 h'') = relM (f10 2) := rfl
theorem mS3 {h h' h''} : ((sgW.slice (Rect.unit (s := S10x128x4096) ![3, 0, 0] S1x128x4096.size h) h').squeeze S128x4096 h'') = stgM (f10 3) := rfl
theorem mR3 {h h' h''} : ((rlW.slice (Rect.unit (s := S10x128x4096) ![3, 0, 0] S1x128x4096.size h) h').squeeze S128x4096 h'') = relM (f10 3) := rfl
theorem mS4 {h h' h''} : ((sgW.slice (Rect.unit (s := S10x128x4096) ![4, 0, 0] S1x128x4096.size h) h').squeeze S128x4096 h'') = stgM (f10 4) := rfl
theorem mR4 {h h' h''} : ((rlW.slice (Rect.unit (s := S10x128x4096) ![4, 0, 0] S1x128x4096.size h) h').squeeze S128x4096 h'') = relM (f10 4) := rfl
theorem mS5 {h h' h''} : ((sgW.slice (Rect.unit (s := S10x128x4096) ![5, 0, 0] S1x128x4096.size h) h').squeeze S128x4096 h'') = stgM (f10 5) := rfl
theorem mR5 {h h' h''} : ((rlW.slice (Rect.unit (s := S10x128x4096) ![5, 0, 0] S1x128x4096.size h) h').squeeze S128x4096 h'') = relM (f10 5) := rfl
theorem mS6 {h h' h''} : ((sgW.slice (Rect.unit (s := S10x128x4096) ![6, 0, 0] S1x128x4096.size h) h').squeeze S128x4096 h'') = stgM (f10 6) := rfl
theorem mR6 {h h' h''} : ((rlW.slice (Rect.unit (s := S10x128x4096) ![6, 0, 0] S1x128x4096.size h) h').squeeze S128x4096 h'') = relM (f10 6) := rfl
theorem mS7 {h h' h''} : ((sgW.slice (Rect.unit (s := S10x128x4096) ![7, 0, 0] S1x128x4096.size h) h').squeeze S128x4096 h'') = stgM (f10 7) := rfl
theorem mR7 {h h' h''} : ((rlW.slice (Rect.unit (s := S10x128x4096) ![7, 0, 0] S1x128x4096.size h) h').squeeze S128x4096 h'') = relM (f10 7) := rfl
theorem mS8 {h h' h''} : ((sgW.slice (Rect.unit (s := S10x128x4096) ![8, 0, 0] S1x128x4096.size h) h').squeeze S128x4096 h'') = stgM (f10 8) := rfl
theorem mR8 {h h' h''} : ((rlW.slice (Rect.unit (s := S10x128x4096) ![8, 0, 0] S1x128x4096.size h) h').squeeze S128x4096 h'') = relM (f10 8) := rfl
theorem mS9 {h h' h''} : ((sgW.slice (Rect.unit (s := S10x128x4096) ![9, 0, 0] S1x128x4096.size h) h').squeeze S128x4096 h'') = stgM (f10 9) := rfl
theorem mR9 {h h' h''} : ((rlW.slice (Rect.unit (s := S10x128x4096) ![9, 0, 0] S1x128x4096.size h) h').squeeze S128x4096 h'') = relM (f10 9) := rfl
theorem mC0 {h h' h''} : ((bcW.slice (Rect.unit (s := S2x128x4096) ![0, 0, 0] S1x128x4096.size h) h').squeeze S128x4096 h'') = bncM (fm 2 0) := rfl
theorem mC1 {h h' h''} : ((bcW.slice (Rect.unit (s := S2x128x4096) ![1, 0, 0] S1x128x4096.size h) h').squeeze S128x4096 h'') = bncM (fm 2 1) := rfl
theorem mX0 {h h'} : (xW.slice (Rect.unit (s := S256x4096) ![0, 0] S128x4096.size h) h') = xM (fm 2 0) := rfl
theorem mX1 {h h'} : (xW.slice (Rect.unit (s := S256x4096) ![128, 0] S128x4096.size h) h') = xM (fm 2 1) := rfl
theorem sF0 : SemLoc.dma ((SemArray.slice cc0_scratch1 (Rect.unit (s := S5) ![0] S1.size inb_S5_S1_0)).squeeze S_ squeezes_S1_S_).sem = semOf (.send false (f5 0)) := by decide
theorem sF1 : SemLoc.dma ((SemArray.slice cc0_scratch1 (Rect.unit (s := S5) ![1] S1.size inb_S5_S1_1)).squeeze S_ squeezes_S1_S_).sem = semOf (.send false (f5 1)) := by decide
theorem sF2 : SemLoc.dma ((SemArray.slice cc0_scratch1 (Rect.unit (s := S5) ![2] S1.size inb_S5_S1_2)).squeeze S_ squeezes_S1_S_).sem = semOf (.send false (f5 2)) := by decide
theorem sF3 : SemLoc.dma ((SemArray.slice cc0_scratch1 (Rect.unit (s := S5) ![3] S1.size inb_S5_S1_3)).squeeze S_ squeezes_S1_S_).sem = semOf (.send false (f5 3)) := by decide
theorem sF4 : SemLoc.dma ((SemArray.slice cc0_scratch1 (Rect.unit (s := S5) ![4] S1.size inb_S5_S1_4)).squeeze S_ squeezes_S1_S_).sem = semOf (.send false (f5 4)) := by decide
theorem rF0 : SemLoc.dma ((SemArray.slice cc0_scratch2 (Rect.unit (s := S5) ![0] S1.size inb_S5_S1_0)).squeeze S_ squeezes_S1_S_).sem = semOf (.recv false (f5 0)) := by decide
theorem rF1 : SemLoc.dma ((SemArray.slice cc0_scratch2 (Rect.unit (s := S5) ![1] S1.size inb_S5_S1_1)).squeeze S_ squeezes_S1_S_).sem = semOf (.recv false (f5 1)) := by decide
theorem rF2 : SemLoc.dma ((SemArray.slice cc0_scratch2 (Rect.unit (s := S5) ![2] S1.size inb_S5_S1_2)).squeeze S_ squeezes_S1_S_).sem = semOf (.recv false (f5 2)) := by decide
theorem rF3 : SemLoc.dma ((SemArray.slice cc0_scratch2 (Rect.unit (s := S5) ![3] S1.size inb_S5_S1_3)).squeeze S_ squeezes_S1_S_).sem = semOf (.recv false (f5 3)) := by decide
theorem rF4 : SemLoc.dma ((SemArray.slice cc0_scratch2 (Rect.unit (s := S5) ![4] S1.size inb_S5_S1_4)).squeeze S_ squeezes_S1_S_).sem = semOf (.recv false (f5 4)) := by decide
theorem sB0 : SemLoc.dma ((SemArray.slice cc0_scratch4 (Rect.unit (s := S5) ![0] S1.size inb_S5_S1_0)).squeeze S_ squeezes_S1_S_).sem = semOf (.send true (f5 0)) := by decide
theorem sB1 : SemLoc.dma ((SemArray.slice cc0_scratch4 (Rect.unit (s := S5) ![1] S1.size inb_S5_S1_1)).squeeze S_ squeezes_S1_S_).sem = semOf (.send true (f5 1)) := by decide
theorem sB2 : SemLoc.dma ((SemArray.slice cc0_scratch4 (Rect.unit (s := S5) ![2] S1.size inb_S5_S1_2)).squeeze S_ squeezes_S1_S_).sem = semOf (.send true (f5 2)) := by decide
theorem sB3 : SemLoc.dma ((SemArray.slice cc0_scratch4 (Rect.unit (s := S5) ![3] S1.size inb_S5_S1_3)).squeeze S_ squeezes_S1_S_).sem = semOf (.send true (f5 3)) := by decide
theorem sB4 : SemLoc.dma ((SemArray.slice cc0_scratch4 (Rect.unit (s := S5) ![4] S1.size inb_S5_S1_4)).squeeze S_ squeezes_S1_S_).sem = semOf (.send true (f5 4)) := by decide
theorem rB0 : SemLoc.dma ((SemArray.slice cc0_scratch5 (Rect.unit (s := S5) ![0] S1.size inb_S5_S1_0)).squeeze S_ squeezes_S1_S_).sem = semOf (.recv true (f5 0)) := by decide
theorem rB1 : SemLoc.dma ((SemArray.slice cc0_scratch5 (Rect.unit (s := S5) ![1] S1.size inb_S5_S1_1)).squeeze S_ squeezes_S1_S_).sem = semOf (.recv true (f5 1)) := by decide
theorem rB2 : SemLoc.dma ((SemArray.slice cc0_scratch5 (Rect.unit (s := S5) ![2] S1.size inb_S5_S1_2)).squeeze S_ squeezes_S1_S_).sem = semOf (.recv true (f5 2)) := by decide
theorem rB3 : SemLoc.dma ((SemArray.slice cc0_scratch5 (Rect.unit (s := S5) ![3] S1.size inb_S5_S1_3)).squeeze S_ squeezes_S1_S_).sem = semOf (.recv true (f5 3)) := by decide
theorem rB4 : SemLoc.dma ((SemArray.slice cc0_scratch5 (Rect.unit (s := S5) ![4] S1.size inb_S5_S1_4)).squeeze S_ squeezes_S1_S_).sem = semOf (.recv true (f5 4)) := by decide
theorem sR0 : SemLoc.dma ((SemArray.slice cc0_scratch7 (Rect.unit (s := S10) ![0] S1.size inb_S10_S1_0)).squeeze S_ squeezes_S1_S_).sem = semOf (.rsend (f10 0)) := by decide
theorem sR1 : SemLoc.dma ((SemArray.slice cc0_scratch7 (Rect.unit (s := S10) ![1] S1.size inb_S10_S1_1)).squeeze S_ squeezes_S1_S_).sem = semOf (.rsend (f10 1)) := by decide
theorem sR2 : SemLoc.dma ((SemArray.slice cc0_scratch7 (Rect.unit (s := S10) ![2] S1.size inb_S10_S1_2)).squeeze S_ squeezes_S1_S_).sem = semOf (.rsend (f10 2)) := by decide
theorem sR3 : SemLoc.dma ((SemArray.slice cc0_scratch7 (Rect.unit (s := S10) ![3] S1.size inb_S10_S1_3)).squeeze S_ squeezes_S1_S_).sem = semOf (.rsend (f10 3)) := by decide
theorem sR4 : SemLoc.dma ((SemArray.slice cc0_scratch7 (Rect.unit (s := S10) ![4] S1.size inb_S10_S1_4)).squeeze S_ squeezes_S1_S_).sem = semOf (.rsend (f10 4)) := by decide
theorem sR5 : SemLoc.dma ((SemArray.slice cc0_scratch7 (Rect.unit (s := S10) ![5] S1.size inb_S10_S1_5)).squeeze S_ squeezes_S1_S_).sem = semOf (.rsend (f10 5)) := by decide
theorem sR6 : SemLoc.dma ((SemArray.slice cc0_scratch7 (Rect.unit (s := S10) ![6] S1.size inb_S10_S1_6)).squeeze S_ squeezes_S1_S_).sem = semOf (.rsend (f10 6)) := by decide
theorem sR7 : SemLoc.dma ((SemArray.slice cc0_scratch7 (Rect.unit (s := S10) ![7] S1.size inb_S10_S1_7)).squeeze S_ squeezes_S1_S_).sem = semOf (.rsend (f10 7)) := by decide
theorem sR8 : SemLoc.dma ((SemArray.slice cc0_scratch7 (Rect.unit (s := S10) ![8] S1.size inb_S10_S1_8)).squeeze S_ squeezes_S1_S_).sem = semOf (.rsend (f10 8)) := by decide
theorem sR9 : SemLoc.dma ((SemArray.slice cc0_scratch7 (Rect.unit (s := S10) ![9] S1.size inb_S10_S1_9)).squeeze S_ squeezes_S1_S_).sem = semOf (.rsend (f10 9)) := by decide
theorem rR0 : SemLoc.dma ((SemArray.slice cc0_scratch8 (Rect.unit (s := S10) ![0] S1.size inb_S10_S1_0)).squeeze S_ squeezes_S1_S_).sem = semOf (.rrecv (f10 0)) := by decide
theorem rR1 : SemLoc.dma ((SemArray.slice cc0_scratch8 (Rect.unit (s := S10) ![1] S1.size inb_S10_S1_1)).squeeze S_ squeezes_S1_S_).sem = semOf (.rrecv (f10 1)) := by decide
theorem rR2 : SemLoc.dma ((SemArray.slice cc0_scratch8 (Rect.unit (s := S10) ![2] S1.size inb_S10_S1_2)).squeeze S_ squeezes_S1_S_).sem = semOf (.rrecv (f10 2)) := by decide
theorem rR3 : SemLoc.dma ((SemArray.slice cc0_scratch8 (Rect.unit (s := S10) ![3] S1.size inb_S10_S1_3)).squeeze S_ squeezes_S1_S_).sem = semOf (.rrecv (f10 3)) := by decide
theorem rR4 : SemLoc.dma ((SemArray.slice cc0_scratch8 (Rect.unit (s := S10) ![4] S1.size inb_S10_S1_4)).squeeze S_ squeezes_S1_S_).sem = semOf (.rrecv (f10 4)) := by decide
theorem rR5 : SemLoc.dma ((SemArray.slice cc0_scratch8 (Rect.unit (s := S10) ![5] S1.size inb_S10_S1_5)).squeeze S_ squeezes_S1_S_).sem = semOf (.rrecv (f10 5)) := by decide
theorem rR6 : SemLoc.dma ((SemArray.slice cc0_scratch8 (Rect.unit (s := S10) ![6] S1.size inb_S10_S1_6)).squeeze S_ squeezes_S1_S_).sem = semOf (.rrecv (f10 6)) := by decide
theorem rR7 : SemLoc.dma ((SemArray.slice cc0_scratch8 (Rect.unit (s := S10) ![7] S1.size inb_S10_S1_7)).squeeze S_ squeezes_S1_S_).sem = semOf (.rrecv (f10 7)) := by decide
theorem rR8 : SemLoc.dma ((SemArray.slice cc0_scratch8 (Rect.unit (s := S10) ![8] S1.size inb_S10_S1_8)).squeeze S_ squeezes_S1_S_).sem = semOf (.rrecv (f10 8)) := by decide
theorem rR9 : SemLoc.dma ((SemArray.slice cc0_scratch8 (Rect.unit (s := S10) ![9] S1.size inb_S10_S1_9)).squeeze S_ squeezes_S1_S_).sem = semOf (.rrecv (f10 9)) := by decide
theorem cr0 : SemLoc.reg ((SemArray.slice cc0_scratch6 (Rect.unit (s := S2) ![0] S1.size inb_S2_S1_0)).squeeze S_ squeezes_S1_S_).sem = semOf (.cr false) := by decide
theorem cr1 : SemLoc.reg ((SemArray.slice cc0_scratch6 (Rect.unit (s := S2) ![1] S1.size inb_S2_S1_1)).squeeze S_ squeezes_S1_S_).sem = semOf (.cr true) := by decide
theorem sL : (SemArray.sem cc0_scratch9 : Fin 77) = stS := rfl
theorem nrq {sp : Space} (m : Memref sig .tc sp S128x4096 .f32) : m.view.dmaCredit = NR := rfl
theorem naq {sp : Space} (m : Memref sig .tc sp S8x128 .f32) : m.view.dmaCredit = NA := rfl

abbrev sl (c : Dev nD) (d : Bool) (j : ℕ) (q : PosShare TreeShare) : sProp 𝕄 := owns (c : Thread nD τ) (slotM d (f5 j)) q (chk X (org c d j) (hf d j))
abbrev xq (c : Dev nD) (h : Fin 2) (q : PosShare TreeShare) : sProp 𝕄 := owns (c : Thread nD τ) (xM h) q (chk X c h)
abbrev bnc (c : Dev nD) (t : ℕ) : sProp 𝕄 := owns (c : Thread nD τ) (bncM (fm 2 t)) fullShare (chk X (rorg c t) (fm 2 t))
abbrev rlm (c : Dev nD) (t : ℕ) : sProp 𝕄 := owns (c : Thread nD τ) (relM (f10 t)) fullShare (chk X (rorg c t) (fm 2 t))
abbrev bn0 (c : Dev nD) (h : Fin 2) : sProp 𝕄 := iprop(∃ V, owns (c : Thread nD τ) (bncM h) fullShare V)
abbrev xst : PosShare TreeShare := fullShare.right.right.right
abbrev tbl (c : Dev nD) : sProp 𝕄 := owns (c : Thread nD τ) tW fullShare (metaV (F := F) c)
abbrev wwl (c : Dev nD) : sProp 𝕄 := owns (c : Thread nD τ) wW fullShare (Wt c)
abbrev xwl (c : Dev nD) : sProp 𝕄 := owns (c : Thread nD τ) xW fullShare.left (X c)
abbrev am0 (c : Dev nD) : sProp 𝕄 := iprop(∃ V, owns (c : Thread nD τ) (amM c) fullShare V)
abbrev barC (c : Dev nD) : sProp 𝕄 := iprop(cred (tallyAt (cellAt c .bar) 1 4) ∗ atPos ER (cellAt c .bar) 0 ∅ 0)
abbrev barD (c : Dev nD) : sProp 𝕄 := atPos ER (cellAt c .bar) 1 ∅ 0

theorem sBar : SemLoc.reg (SemArray.scalar (sig.barrier 0 rfl) : Sems sig S_).sem = semOf .bar := by decide
theorem z2 : (![0, 0] : Fin 2 → ℕ) = fun _ => 0 := by decide
theorem z3 : (![0, 0, 0] : Fin 3 → ℕ) = fun _ => 0 := by decide
theorem bl (c : Dev nD) {b i n : ℕ} (h : ∀ q : Fin 4, Below b i (tc q n)) : Below b i (tc (cls c) n) := h _

theorem ld_L (c : Dev nD) {cs : CoreSpace} {m : Memref sig .tc cs S5x128x4096 .f32} {off : Fin 3 → ℕ} {inb : ∀ a, off a + S1x128x4096.size a ≤ S5x128x4096.size a} {sm : Memref sig .tc cs S128x4096 .f32} (hsl : (m.slice (Rect.unit (s := S5x128x4096) off S1x128x4096.size inb) (fun _ => rfl)).squeeze S128x4096 squeezes_S1x128x4096_S128x4096 = sm)
    {hl : m.view.LoadsAt (Rect.unit (s := S5x128x4096) off S1x128x4096.size inb).toLoadRect} {p : Dev nD} {h : Fin 2}
    {k : Vec F S1x128x4096 .f32 → Prog (TpuEff nD τ sig (Elt F) Λ₀ .tc) α} {q : PosShare TreeShare} :
    owns (c : Thread nD τ) sm q (chk X p h) ⊢ iprop((owns (c : Thread nD τ) sm q (chk X p h) -∗ bwp c (k (L1 X p h)) Q)
      -∗ bwp c (.op (.load m (Rect.unit (s := S5x128x4096) off S1x128x4096.size inb).toLoadRect hl) k) Q) :=
  ld_sq (F := F) c (m := m) (r := Rect.unit (s := S5x128x4096) off S1x128x4096.size inb) (fun _ => rfl) squeezes_S1x128x4096_S128x4096 shapeCasts_S1x128x4096_S128x4096 (show S128x4096.ShapeCasts S1x128x4096 by decide) hsl.symm

theorem ld_B (c : Dev nD) {cs : CoreSpace} {m : Memref sig .tc cs S2x128x4096 .f32} {off : Fin 3 → ℕ} {inb : ∀ a, off a + S1x128x4096.size a ≤ S2x128x4096.size a} {sm : Memref sig .tc cs S128x4096 .f32} (hsl : (m.slice (Rect.unit (s := S2x128x4096) off S1x128x4096.size inb) (fun _ => rfl)).squeeze S128x4096 squeezes_S1x128x4096_S128x4096 = sm)
    {hl : m.view.LoadsAt (Rect.unit (s := S2x128x4096) off S1x128x4096.size inb).toLoadRect} {p : Dev nD} {h : Fin 2}
    {k : Vec F S1x128x4096 .f32 → Prog (TpuEff nD τ sig (Elt F) Λ₀ .tc) α} {q : PosShare TreeShare} :
    owns (c : Thread nD τ) sm q (chk X p h) ⊢ iprop((owns (c : Thread nD τ) sm q (chk X p h) -∗ bwp c (k (L1 X p h)) Q)
      -∗ bwp c (.op (.load m (Rect.unit (s := S2x128x4096) off S1x128x4096.size inb).toLoadRect hl) k) Q) :=
  ld_sq (F := F) c (m := m) (r := Rect.unit (s := S2x128x4096) off S1x128x4096.size inb) (fun _ => rfl) squeezes_S1x128x4096_S128x4096 shapeCasts_S1x128x4096_S128x4096 (show S128x4096.ShapeCasts S1x128x4096 by decide) hsl.symm

theorem amS (c : Dev nD) {off : Fin 3 → ℕ} (ho : off = ![c.val, 0, 0]) {h h' h''} :
    ((aW.slice (Rect.unit (s := S16x8x128) off S1x8x128.size h) h').squeeze S8x128 h'') = amM c := by subst ho; rfl
theorem aS (o : Fin 16) {off : Fin 1 → ℕ} (ho : off = ![o.val]) {h h''} :
    SemLoc.dma ((SemArray.slice cc0_scratch12 (Rect.unit (s := S16) off S1.size h)).squeeze S_ h'').sem = semOf (.asend o) := by subst ho; revert o; decide
theorem aR (o : Fin 16) {off : Fin 1 → ℕ} (ho : off = ![o.val]) {h h''} :
    SemLoc.dma ((SemArray.slice cc0_scratch13 (Rect.unit (s := S16) off S1.size h)).squeeze S_ h'').sem = semOf (.arecv o) := by subst ho; revert o; decide
theorem o34 : ∀ c : Dev nD, k0_off34 c = ![c.val] := by decide
theorem o35 : ∀ c : Dev nD, k0_off35 c = ![c.val, 0, 0] := by decide
theorem o32 : ∀ c : Dev nD, k0_off32 c = ![c.val, 0, 0] := by decide
theorem o1 : ∀ c : Dev nD, k0_off1 c = ![c.val * 256, 0] := by decide

theorem ld_am (c : Dev nD) {off : Fin 3 → ℕ} (ho : off = ![c.val, 0, 0]) {inb : ∀ a, off a + S1x8x128.size a ≤ S16x8x128.size a}
    {hl : aW.view.LoadsAt (Rect.unit (s := S16x8x128) off S1x8x128.size inb).toLoadRect}
    {k : Vec F S1x8x128 .f32 → Prog (TpuEff nD τ sig (Elt F) Λ₀ .tc) α} :
    (am0 c : sProp 𝕄) ⊢ iprop((∀ v, am0 c -∗ bwp c (k v) Q) -∗ bwp c (.op (.load aW (Rect.unit (s := S16x8x128) off S1x8x128.size inb).toLoadRect hl) k) Q) := by
  iintro ⟨%V, H⟩ Hk
  iapply (ld_sq (F := F) c (m := aW) (r := Rect.unit (s := S16x8x128) off S1x8x128.size inb) (fun _ => rfl) squeezes_S1x8x128_S8x128 shapeCasts_S1x8x128_S8x128 shapeCasts_S8x128_S1x8x128 (amS c ho).symm) $$ H
  iintro H
  iapply Hk
  iexists V; iexact H

theorem st_am (c : Dev nD) {off : Fin 3 → ℕ} (ho : off = ![c.val, 0, 0]) {inb : ∀ a, off a + S1x8x128.size a ≤ S16x8x128.size a}
    {hx : (aW.access (Rect.unit (s := S16x8x128) off S1x8x128.size inb)).Stores Finset.univ} {hm : Finset.univ = Finset.univ ∨ ∀ a, (Rect.unit (s := S16x8x128) off S1x8x128.size inb).stride a = 1}
    {k : PUnit → Prog (TpuEff nD τ sig (Elt F) Λ₀ .tc) α} :
    (am0 c : sProp 𝕄) ⊢ iprop((Aown X Wt c 0 0 -∗ bwp c (k ⟨⟩) Q)
      -∗ bwp c (.op (.store aW (Rect.unit (s := S16x8x128) off S1x8x128.size inb) (k0_pay61 (rmx X Wt c 30)) Finset.univ hx hm) k) Q) := by
  have e : shapeCast S8x128 (k0_pay61 (rmx X Wt c 30)) shapeCasts_S1x8x128_S8x128 = amv X Wt c := by
    unfold k0_pay61 amv
    dsimp only
    exact shapeCast_shapeCast _ _ _
  have hA : owns (c : Thread nD τ) (amM c) fullShare (amv X Wt c) ⊢ (Aown X Wt c 0 0 : sProp 𝕄) := by
    unfold Aown
    iintro H
    isplitl [H]; · iexact H
    rw [Finset.range_zero, bigSep_empty]
    iempintro
  iintro ⟨%V, H⟩ Hk
  iapply (st_sq (F := F) c (m := aW) (r := Rect.unit (s := S16x8x128) off S1x8x128.size inb) (fun _ => rfl) squeezes_S1x8x128_S8x128 shapeCasts_S1x8x128_S8x128 (amS c ho).symm (hx := hx) (hm := hm)) $$ H
  rw [e]
  iintro H
  iapply Hk
  iapply hA; iexact H

theorem AllE_dup (c : Dev nD) : iprop(Nbr c ∗ RQ c false 10 ∗ RQ c true 10 ∗ LQ c 10) ⊢ iprop(AllE ∗ RQ c false 10 ∗ RQ c true 10 ∗ LQ c 10 : sProp 𝕄) := by
  have hp := AllE_of (F := F) c
  have h : iprop(Nbr c ∗ RQ c false 10 ∗ RQ c true 10 ∗ LQ c 10) ⊢ iprop(AllE ∗ Nbr c ∗ RQ c false 10 ∗ RQ c true 10 ∗ LQ c 10 : sProp 𝕄) := by
    iintro H
    ihave #HA := hp $$ H
    isplitr; · iexact HA
    iexact H
  refine BIBase.Entails.trans h ?_
  iintro ⟨H, -, H1, H2, H3⟩
  isplitl [H]; · iexact H
  isplitl [H1]; · iexact H1
  isplitl [H2]; · iexact H2
  iexact H3
theorem o33_1 : ∀ c : Dev nD, k0_off33 c 1#32 = ![(adv c (1 + 0)).val] := by decide
theorem o36_1 : ∀ c : Dev nD, k0_off36 c 1#32 = ![(adv c (1 + 0)).val, 0, 0] := by decide
theorem ad1 (c : Dev nD) {h : k0_dev75 c < nD} : (⟨k0_dev75 c, h⟩ : Dev nD) = adv c (1 + 0) := Fin.ext (by revert c; decide)
theorem o33_2 : ∀ c : Dev nD, k0_off33 c 2#32 = ![(adv c (1 + 1)).val] := by decide
theorem o36_2 : ∀ c : Dev nD, k0_off36 c 2#32 = ![(adv c (1 + 1)).val, 0, 0] := by decide
theorem ad2 (c : Dev nD) {h : k0_dev76 c < nD} : (⟨k0_dev76 c, h⟩ : Dev nD) = adv c (1 + 1) := Fin.ext (by revert c; decide)
theorem o33_3 : ∀ c : Dev nD, k0_off33 c 3#32 = ![(adv c (1 + 2)).val] := by decide
theorem o36_3 : ∀ c : Dev nD, k0_off36 c 3#32 = ![(adv c (1 + 2)).val, 0, 0] := by decide
theorem ad3 (c : Dev nD) {h : k0_dev77 c < nD} : (⟨k0_dev77 c, h⟩ : Dev nD) = adv c (1 + 2) := Fin.ext (by revert c; decide)
theorem o33_4 : ∀ c : Dev nD, k0_off33 c 4#32 = ![(adv c (1 + 3)).val] := by decide
theorem o36_4 : ∀ c : Dev nD, k0_off36 c 4#32 = ![(adv c (1 + 3)).val, 0, 0] := by decide
theorem ad4 (c : Dev nD) {h : k0_dev78 c < nD} : (⟨k0_dev78 c, h⟩ : Dev nD) = adv c (1 + 3) := Fin.ext (by revert c; decide)
theorem o33_5 : ∀ c : Dev nD, k0_off33 c 5#32 = ![(adv c (1 + 4)).val] := by decide
theorem o36_5 : ∀ c : Dev nD, k0_off36 c 5#32 = ![(adv c (1 + 4)).val, 0, 0] := by decide
theorem ad5 (c : Dev nD) {h : k0_dev79 c < nD} : (⟨k0_dev79 c, h⟩ : Dev nD) = adv c (1 + 4) := Fin.ext (by revert c; decide)
theorem o33_6 : ∀ c : Dev nD, k0_off33 c 6#32 = ![(adv c (1 + 5)).val] := by decide
theorem o36_6 : ∀ c : Dev nD, k0_off36 c 6#32 = ![(adv c (1 + 5)).val, 0, 0] := by decide
theorem ad6 (c : Dev nD) {h : k0_dev80 c < nD} : (⟨k0_dev80 c, h⟩ : Dev nD) = adv c (1 + 5) := Fin.ext (by revert c; decide)
theorem o33_7 : ∀ c : Dev nD, k0_off33 c 7#32 = ![(adv c (1 + 6)).val] := by decide
theorem o36_7 : ∀ c : Dev nD, k0_off36 c 7#32 = ![(adv c (1 + 6)).val, 0, 0] := by decide
theorem ad7 (c : Dev nD) {h : k0_dev81 c < nD} : (⟨k0_dev81 c, h⟩ : Dev nD) = adv c (1 + 6) := Fin.ext (by revert c; decide)
theorem o33_8 : ∀ c : Dev nD, k0_off33 c 8#32 = ![(adv c (1 + 7)).val] := by decide
theorem o36_8 : ∀ c : Dev nD, k0_off36 c 8#32 = ![(adv c (1 + 7)).val, 0, 0] := by decide
theorem ad8 (c : Dev nD) {h : k0_dev82 c < nD} : (⟨k0_dev82 c, h⟩ : Dev nD) = adv c (1 + 7) := Fin.ext (by revert c; decide)
theorem o33_9 : ∀ c : Dev nD, k0_off33 c 9#32 = ![(adv c (1 + 8)).val] := by decide
theorem o36_9 : ∀ c : Dev nD, k0_off36 c 9#32 = ![(adv c (1 + 8)).val, 0, 0] := by decide
theorem ad9 (c : Dev nD) {h : k0_dev83 c < nD} : (⟨k0_dev83 c, h⟩ : Dev nD) = adv c (1 + 8) := Fin.ext (by revert c; decide)
theorem o33_10 : ∀ c : Dev nD, k0_off33 c 10#32 = ![(adv c (1 + 9)).val] := by decide
theorem o36_10 : ∀ c : Dev nD, k0_off36 c 10#32 = ![(adv c (1 + 9)).val, 0, 0] := by decide
theorem ad10 (c : Dev nD) {h : k0_dev84 c < nD} : (⟨k0_dev84 c, h⟩ : Dev nD) = adv c (1 + 9) := Fin.ext (by revert c; decide)
theorem o33_11 : ∀ c : Dev nD, k0_off33 c 11#32 = ![(adv c (1 + 10)).val] := by decide
theorem o36_11 : ∀ c : Dev nD, k0_off36 c 11#32 = ![(adv c (1 + 10)).val, 0, 0] := by decide
theorem ad11 (c : Dev nD) {h : k0_dev85 c < nD} : (⟨k0_dev85 c, h⟩ : Dev nD) = adv c (1 + 10) := Fin.ext (by revert c; decide)
theorem o33_12 : ∀ c : Dev nD, k0_off33 c 12#32 = ![(adv c (1 + 11)).val] := by decide
theorem o36_12 : ∀ c : Dev nD, k0_off36 c 12#32 = ![(adv c (1 + 11)).val, 0, 0] := by decide
theorem ad12 (c : Dev nD) {h : k0_dev86 c < nD} : (⟨k0_dev86 c, h⟩ : Dev nD) = adv c (1 + 11) := Fin.ext (by revert c; decide)
theorem o33_13 : ∀ c : Dev nD, k0_off33 c 13#32 = ![(adv c (1 + 12)).val] := by decide
theorem o36_13 : ∀ c : Dev nD, k0_off36 c 13#32 = ![(adv c (1 + 12)).val, 0, 0] := by decide
theorem ad13 (c : Dev nD) {h : k0_dev87 c < nD} : (⟨k0_dev87 c, h⟩ : Dev nD) = adv c (1 + 12) := Fin.ext (by revert c; decide)
theorem o33_14 : ∀ c : Dev nD, k0_off33 c 14#32 = ![(adv c (1 + 13)).val] := by decide
theorem o36_14 : ∀ c : Dev nD, k0_off36 c 14#32 = ![(adv c (1 + 13)).val, 0, 0] := by decide
theorem ad14 (c : Dev nD) {h : k0_dev88 c < nD} : (⟨k0_dev88 c, h⟩ : Dev nD) = adv c (1 + 13) := Fin.ext (by revert c; decide)
theorem o33_15 : ∀ c : Dev nD, k0_off33 c 15#32 = ![(adv c (1 + 14)).val] := by decide
theorem o36_15 : ∀ c : Dev nD, k0_off36 c 15#32 = ![(adv c (1 + 14)).val, 0, 0] := by decide
theorem ad15 (c : Dev nD) {h : k0_dev89 c < nD} : (⟨k0_dev89 c, h⟩ : Dev nD) = adv c (1 + 14) := Fin.ext (by revert c; decide)
theorem bd0 (c : Dev nD) {h : (mw c 0).toNat < nD} : (⟨(mw c 0).toNat, h⟩ : Dev nD) = barTo c 0 := Fin.ext (by revert c; decide)
theorem bd1 (c : Dev nD) {h : (mw c 1).toNat < nD} : (⟨(mw c 1).toNat, h⟩ : Dev nD) = barTo c 1 := Fin.ext (by revert c; decide)
theorem bd2 (c : Dev nD) {h : (mw c 22).toNat < nD} : (⟨(mw c 22).toNat, h⟩ : Dev nD) = barTo c 2 := Fin.ext (by revert c; decide)
theorem bd3 (c : Dev nD) {h : (mw c 23).toNat < nD} : (⟨(mw c 23).toNat, h⟩ : Dev nD) = barTo c 3 := Fin.ext (by revert c; decide)
theorem cd1 : ∀ c : Dev nD, (k0_cond1 (mw c 24) = 1#1) ↔ cls c = 0 := by decide
theorem cd2 : ∀ c : Dev nD, (k0_cond2 (mw c 24) = 1#1) ↔ cls c = 3 := by decide
theorem cd3 : ∀ c : Dev nD, (k0_cond3 (mw c 24) = 1#1) ↔ cls c = 0 := by decide
theorem cd4 : ∀ c : Dev nD, (k0_cond4 (mw c 24) = 1#1) ↔ cls c = 1 := by decide
theorem cd5 : ∀ c : Dev nD, (k0_cond5 (mw c 24) = 1#1) ↔ cls c = 2 := by decide
theorem cd6 : ∀ c : Dev nD, (k0_cond6 (mw c 24) = 1#1) ↔ cls c = 3 := by decide
theorem cd7 : ∀ c : Dev nD, (k0_cond7 (mw c 24) = 1#1) ↔ cls c = 0 := by decide
theorem cd8 : ∀ c : Dev nD, (k0_cond8 (mw c 24) = 1#1) ↔ cls c = 1 := by decide
theorem cd9 : ∀ c : Dev nD, (k0_cond9 (mw c 24) = 1#1) ↔ cls c = 2 := by decide
theorem cd10 : ∀ c : Dev nD, (k0_cond10 (mw c 24) = 1#1) ↔ cls c = 3 := by decide
theorem cd11 : ∀ c : Dev nD, (k0_cond11 (mw c 24) = 1#1) ↔ cls c = 0 := by decide
theorem cd12 : ∀ c : Dev nD, (k0_cond12 (mw c 24) = 1#1) ↔ cls c = 1 := by decide
theorem cd13 : ∀ c : Dev nD, (k0_cond13 (mw c 24) = 1#1) ↔ cls c = 2 := by decide
theorem cd14 : ∀ c : Dev nD, (k0_cond14 (mw c 24) = 1#1) ↔ cls c = 3 := by decide
theorem cd15 : ∀ c : Dev nD, (k0_cond15 (mw c 24) = 1#1) ↔ cls c = 1 := by decide
theorem cd16 : ∀ c : Dev nD, (k0_cond16 (mw c 24) = 1#1) ↔ cls c = 2 := by decide
theorem rm0 (c : Dev nD) {h : (mw c 22).toNat < nD} : (⟨(mw c 22).toNat, h⟩ : Dev nD) = rmate c 0 := Fin.ext (by revert c; decide)
theorem rm1 (c : Dev nD) {h : (mw c 22).toNat < nD} : (⟨(mw c 22).toNat, h⟩ : Dev nD) = rmate c 1 := Fin.ext (by revert c; decide)
theorem rm2 (c : Dev nD) {h : (mw c 22).toNat < nD} : (⟨(mw c 22).toNat, h⟩ : Dev nD) = rmate c 2 := Fin.ext (by revert c; decide)
theorem rm3 (c : Dev nD) {h : (mw c 22).toNat < nD} : (⟨(mw c 22).toNat, h⟩ : Dev nD) = rmate c 3 := Fin.ext (by revert c; decide)
theorem rm4 (c : Dev nD) {h : (mw c 22).toNat < nD} : (⟨(mw c 22).toNat, h⟩ : Dev nD) = rmate c 4 := Fin.ext (by revert c; decide)
theorem rm5 (c : Dev nD) {h : (mw c 22).toNat < nD} : (⟨(mw c 22).toNat, h⟩ : Dev nD) = rmate c 5 := Fin.ext (by revert c; decide)
theorem rm6 (c : Dev nD) {h : (mw c 23).toNat < nD} : (⟨(mw c 23).toNat, h⟩ : Dev nD) = rmate c 6 := Fin.ext (by revert c; decide)
theorem rm7 (c : Dev nD) {h : (mw c 23).toNat < nD} : (⟨(mw c 23).toNat, h⟩ : Dev nD) = rmate c 7 := Fin.ext (by revert c; decide)
theorem rm8 (c : Dev nD) {h : (mw c 23).toNat < nD} : (⟨(mw c 23).toNat, h⟩ : Dev nD) = rmate c 8 := Fin.ext (by revert c; decide)
theorem rm9 (c : Dev nD) {h : (mw c 23).toNat < nD} : (⟨(mw c 23).toNat, h⟩ : Dev nD) = rmate c 9 := Fin.ext (by revert c; decide)

end Cert.Proof
end
-- ==== Proof.BodyE.lean ====
module

public import proofs.«01_k».proof.Proof.BodyD

@[expose] public section

set_option maxRecDepth 20000

noncomputable section

/-!
The offsets, products and running maxima of the body, by the order in which it computes them.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

abbrev stv (c : Dev nD) (t : ℕ) (p : Dev nD) (h : Fin 2) : sProp 𝕄 := owns (c : Thread nD τ) (stgM (f10 t)) fullShare (chk X p h)

theorem ro0_0 : ∀ c : Dev nD, cls c = 0 → rorg (rmate c 0) 0 = c := by decide
theorem ro0_1 : ∀ c : Dev nD, cls c = 0 → rorg (rmate c 1) 1 = c := by decide
theorem ro3_0 : ∀ c : Dev nD, cls c = 3 → rorg (rmate c 0) 0 = c := by decide
theorem ro3_1 : ∀ c : Dev nD, cls c = 3 → rorg (rmate c 1) 1 = c := by decide
theorem of2 : ∀ c : Dev nD, k0_off2 (mw c 2) = ![rowC c 0 * 128, 0] := by decide
theorem wv0 (c : Dev nD) : (k0_pay4 (L1 X (org c false 0) (hf false 0)) (Wt c)) = prd X Wt c 0 := by rw [prd_eq]; rfl
theorem of3 : ∀ c : Dev nD, k0_off3 (mw c 12) = ![rowC c 1 * 128, 0] := by decide
theorem wv1 (c : Dev nD) : (k0_pay5 (L1 X (org c true 0) (hf true 0)) (Wt c)) = prd X Wt c 1 := by rw [prd_eq]; rfl
theorem rx6 (c : Dev nD) : k0_pay6 (rmx X Wt c 0) (L1 X (org c false 0) (hf false 0)) (Wt c) (L1 X (org c true 0) (hf true 0)) (Wt c) = rmx X Wt c 2 := by
  show _ = (Scalar.maximumf (Scalar.maximumf (rmx X Wt c 0) (tmx (prd X Wt c 0))) (tmx (prd X Wt c 1)))
  rw [prd_eq, prd_eq]; rfl
theorem ro0_2 : ∀ c : Dev nD, cls c = 0 → rorg (rmate c 2) 2 = org c true 1 := by decide
theorem ro0_3 : ∀ c : Dev nD, cls c = 0 → rorg (rmate c 3) 3 = org c true 0 := by decide
theorem ro0_4 : ∀ c : Dev nD, cls c = 0 → rorg (rmate c 4) 4 = org c false 0 := by decide
theorem ro0_5 : ∀ c : Dev nD, cls c = 0 → rorg (rmate c 5) 5 = org c false 1 := by decide
theorem ro1_0 : ∀ c : Dev nD, cls c = 1 → rorg (rmate c 0) 0 = org c false 0 := by decide
theorem ro1_1 : ∀ c : Dev nD, cls c = 1 → rorg (rmate c 1) 1 = org c false 1 := by decide
theorem ro2_0 : ∀ c : Dev nD, cls c = 2 → rorg (rmate c 0) 0 = org c true 1 := by decide
theorem ro2_1 : ∀ c : Dev nD, cls c = 2 → rorg (rmate c 1) 1 = org c true 0 := by decide
theorem ro3_2 : ∀ c : Dev nD, cls c = 3 → rorg (rmate c 2) 2 = org c false 0 := by decide
theorem ro3_3 : ∀ c : Dev nD, cls c = 3 → rorg (rmate c 3) 3 = org c false 1 := by decide
theorem ro3_4 : ∀ c : Dev nD, cls c = 3 → rorg (rmate c 4) 4 = org c true 1 := by decide
theorem ro3_5 : ∀ c : Dev nD, cls c = 3 → rorg (rmate c 5) 5 = org c true 0 := by decide
theorem of4 : ∀ c : Dev nD, k0_off4 (mw c 3) = ![rowC c 2 * 128, 0] := by decide
theorem wv2 (c : Dev nD) : (k0_pay7 (L1 X (org c false 1) (hf false 1)) (Wt c)) = prd X Wt c 2 := by rw [prd_eq]; rfl
theorem of5 : ∀ c : Dev nD, k0_off5 (mw c 13) = ![rowC c 3 * 128, 0] := by decide
theorem wv3 (c : Dev nD) : (k0_pay8 (L1 X (org c true 1) (hf true 1)) (Wt c)) = prd X Wt c 3 := by rw [prd_eq]; rfl
theorem rx9 (c : Dev nD) : k0_pay9 (rmx X Wt c 2) (L1 X (org c false 1) (hf false 1)) (Wt c) (L1 X (org c true 1) (hf true 1)) (Wt c) = rmx X Wt c 4 := by
  show _ = (Scalar.maximumf (Scalar.maximumf (rmx X Wt c 2) (tmx (prd X Wt c 2))) (tmx (prd X Wt c 3)))
  rw [prd_eq, prd_eq]; rfl
theorem of6 : ∀ c : Dev nD, k0_off6 (mw c 4) = ![rowC c 4 * 128, 0] := by decide
theorem wv4 (c : Dev nD) : (k0_pay12 (k0_pay10 (L1 X (org c false 2) (hf false 2))) (k0_pay11 (Wt c)) (constant S128x512 .f32 0x00000000#32)) = prd X Wt c 4 := by rw [prd_eq]; rfl
theorem of7 : ∀ c : Dev nD, k0_off7 (mw c 14) = ![rowC c 5 * 128, 0] := by decide
theorem wv5 (c : Dev nD) : (k0_pay13 (L1 X (org c true 2) (hf true 2)) (Wt c)) = prd X Wt c 5 := by rw [prd_eq]; rfl
theorem rx14 (c : Dev nD) : k0_pay14 (rmx X Wt c 4) (k0_pay10 (L1 X (org c false 2) (hf false 2))) (k0_pay11 (Wt c)) (constant S128x512 .f32 0x00000000#32) (L1 X (org c true 2) (hf true 2)) (Wt c) = rmx X Wt c 6 := by
  show _ = (Scalar.maximumf (Scalar.maximumf (rmx X Wt c 4) (tmx (prd X Wt c 4))) (tmx (prd X Wt c 5)))
  rw [prd_eq, prd_eq]; rfl
theorem ro0_6 : ∀ c : Dev nD, cls c = 0 → rorg (rmate c 6) 6 = org c false 2 := by decide
theorem ro0_7 : ∀ c : Dev nD, cls c = 0 → rorg (rmate c 7) 7 = org c false 3 := by decide
theorem ro1_2 : ∀ c : Dev nD, cls c = 1 → rorg (rmate c 2) 2 = org c false 2 := by decide
theorem ro1_3 : ∀ c : Dev nD, cls c = 1 → rorg (rmate c 3) 3 = org c false 3 := by decide
theorem ro2_2 : ∀ c : Dev nD, cls c = 2 → rorg (rmate c 2) 2 = org c true 3 := by decide
theorem ro2_3 : ∀ c : Dev nD, cls c = 2 → rorg (rmate c 3) 3 = org c true 2 := by decide
theorem ro3_6 : ∀ c : Dev nD, cls c = 3 → rorg (rmate c 6) 6 = org c true 3 := by decide
theorem ro3_7 : ∀ c : Dev nD, cls c = 3 → rorg (rmate c 7) 7 = org c true 2 := by decide
theorem of8 : ∀ c : Dev nD, k0_off8 (mw c 5) = ![rowC c 6 * 128, 0] := by decide
theorem wv6 (c : Dev nD) : (k0_pay16 (k0_pay15 (L1 X (org c false 3) (hf false 3))) (Wt c)) = prd X Wt c 6 := by rw [prd_eq]; rfl
theorem of9 : ∀ c : Dev nD, k0_off9 (mw c 15) = ![rowC c 7 * 128, 0] := by decide
theorem wv7 (c : Dev nD) : (k0_pay17 (L1 X (org c true 3) (hf true 3)) (Wt c)) = prd X Wt c 7 := by rw [prd_eq]; rfl
theorem rx18 (c : Dev nD) : k0_pay18 (rmx X Wt c 6) (k0_pay15 (L1 X (org c false 3) (hf false 3))) (Wt c) (L1 X (org c true 3) (hf true 3)) (Wt c) = rmx X Wt c 8 := by
  show _ = (Scalar.maximumf (Scalar.maximumf (rmx X Wt c 6) (tmx (prd X Wt c 6))) (tmx (prd X Wt c 7)))
  rw [prd_eq, prd_eq]; rfl
theorem of10 : ∀ c : Dev nD, k0_off10 (mw c 25) = ![rowC c 8 * 128, 0] := by decide
theorem wv8 (c : Dev nD) : (k0_pay19 (L1 X (rorg c 0) (fm 2 0)) (Wt c)) = prd X Wt c 8 := by rw [prd_eq]; rfl
theorem rx20 (c : Dev nD) : k0_pay20 (rmx X Wt c 8) (L1 X (rorg c 0) (fm 2 0)) (Wt c) = rmx X Wt c 9 := by
  show _ = (Scalar.maximumf (rmx X Wt c 8) (tmx (prd X Wt c 8)))
  rw [prd_eq]; rfl
theorem of11 : ∀ c : Dev nD, k0_off11 (mw c 6) = ![rowC c 9 * 128, 0] := by decide
theorem wv9 (c : Dev nD) : (k0_pay21 (L1 X (org c false 4) (hf false 4)) (Wt c)) = prd X Wt c 9 := by rw [prd_eq]; rfl
theorem of12 : ∀ c : Dev nD, k0_off12 (mw c 16) = ![rowC c 10 * 128, 0] := by decide
theorem wv10 (c : Dev nD) : (k0_pay22 (L1 X (org c true 4) (hf true 4)) (Wt c)) = prd X Wt c 10 := by rw [prd_eq]; rfl
theorem rx23 (c : Dev nD) : k0_pay23 (rmx X Wt c 9) (L1 X (org c false 4) (hf false 4)) (Wt c) (L1 X (org c true 4) (hf true 4)) (Wt c) = rmx X Wt c 11 := by
  show _ = (Scalar.maximumf (Scalar.maximumf (rmx X Wt c 9) (tmx (prd X Wt c 9))) (tmx (prd X Wt c 10)))
  rw [prd_eq, prd_eq]; rfl
theorem ro0_8 : ∀ c : Dev nD, cls c = 0 → rorg (rmate c 8) 8 = org c false 4 := by decide
theorem ro0_9 : ∀ c : Dev nD, cls c = 0 → rorg (rmate c 9) 9 = org c false 5 := by decide
theorem ro1_4 : ∀ c : Dev nD, cls c = 1 → rorg (rmate c 4) 4 = org c false 4 := by decide
theorem ro1_5 : ∀ c : Dev nD, cls c = 1 → rorg (rmate c 5) 5 = org c false 5 := by decide
theorem ro1_6 : ∀ c : Dev nD, cls c = 1 → rorg (rmate c 6) 6 = org c true 5 := by decide
theorem ro1_7 : ∀ c : Dev nD, cls c = 1 → rorg (rmate c 7) 7 = org c true 4 := by decide
theorem ro2_4 : ∀ c : Dev nD, cls c = 2 → rorg (rmate c 4) 4 = org c true 5 := by decide
theorem ro2_5 : ∀ c : Dev nD, cls c = 2 → rorg (rmate c 5) 5 = org c true 4 := by decide
theorem ro2_6 : ∀ c : Dev nD, cls c = 2 → rorg (rmate c 6) 6 = org c false 4 := by decide
theorem ro2_7 : ∀ c : Dev nD, cls c = 2 → rorg (rmate c 7) 7 = org c false 5 := by decide
theorem ro3_8 : ∀ c : Dev nD, cls c = 3 → rorg (rmate c 8) 8 = org c true 5 := by decide
theorem ro3_9 : ∀ c : Dev nD, cls c = 3 → rorg (rmate c 9) 9 = org c true 4 := by decide
theorem of13 : ∀ c : Dev nD, k0_off13 (mw c 25) = ![rowC c 11 * 128, 0] := by decide
theorem wv11 (c : Dev nD) : (k0_pay24 (L1 X (rorg c 1) (fm 2 1)) (Wt c)) = prd X Wt c 11 := by rw [prd_eq]; rfl
theorem of14 : ∀ c : Dev nD, k0_off14 (mw c 7) = ![rowC c 12 * 128, 0] := by decide
theorem wv12 (c : Dev nD) : (k0_pay25 (L1 X (org c false 5) (hf false 5)) (Wt c)) = prd X Wt c 12 := by rw [prd_eq]; rfl
theorem rx26 (c : Dev nD) : k0_pay26 (rmx X Wt c 11) (L1 X (rorg c 1) (fm 2 1)) (Wt c) (L1 X (org c false 5) (hf false 5)) (Wt c) = rmx X Wt c 13 := by
  show _ = (Scalar.maximumf (Scalar.maximumf (rmx X Wt c 11) (tmx (prd X Wt c 11))) (tmx (prd X Wt c 12)))
  rw [prd_eq, prd_eq]; rfl
theorem of15 : ∀ c : Dev nD, k0_off15 (mw c 17) = ![rowC c 13 * 128, 0] := by decide
theorem wv13 (c : Dev nD) : (k0_pay27 (L1 X (org c true 5) (hf true 5)) (Wt c)) = prd X Wt c 13 := by rw [prd_eq]; rfl
theorem rx28 (c : Dev nD) : k0_pay28 (rmx X Wt c 13) (L1 X (org c true 5) (hf true 5)) (Wt c) = rmx X Wt c 14 := by
  show _ = (Scalar.maximumf (rmx X Wt c 13) (tmx (prd X Wt c 13)))
  rw [prd_eq]; rfl
theorem of16 : ∀ c : Dev nD, k0_off16 (mw c 26) = ![rowC c 14 * 128, 0] := by decide
theorem wv14 (c : Dev nD) : (k0_pay29 (L1 X (rorg c 2) (fm 2 2)) (Wt c)) = prd X Wt c 14 := by rw [prd_eq]; rfl
theorem of17 : ∀ c : Dev nD, k0_off17 (mw c 8) = ![rowC c 15 * 128, 0] := by decide
theorem wv15 (c : Dev nD) : (k0_pay31 (L1 X (org c false 6) (hf false 6)) (Wt c)) = prd X Wt c 15 := by rw [prd_eq]; rfl
theorem rx30 (c : Dev nD) : k0_pay30 (rmx X Wt c 14) (L1 X (rorg c 2) (fm 2 2)) (Wt c) = rmx X Wt c 15 := by
  show _ = (Scalar.maximumf (rmx X Wt c 14) (tmx (prd X Wt c 14)))
  rw [prd_eq]; rfl
theorem of18 : ∀ c : Dev nD, k0_off18 (mw c 18) = ![rowC c 16 * 128, 0] := by decide
theorem wv16 (c : Dev nD) : (k0_pay32 (L1 X (org c true 6) (hf true 6)) (Wt c)) = prd X Wt c 16 := by rw [prd_eq]; rfl
theorem rx33 (c : Dev nD) : k0_pay33 (rmx X Wt c 15) (k0_pay31 (L1 X (org c false 6) (hf false 6)) (Wt c)) (L1 X (org c true 6) (hf true 6)) (Wt c) = rmx X Wt c 17 := by
  show _ = (Scalar.maximumf (Scalar.maximumf (rmx X Wt c 15) (tmx (prd X Wt c 15))) (tmx (prd X Wt c 16)))
  rw [prd_eq, prd_eq]; rfl
theorem ro1_8 : ∀ c : Dev nD, cls c = 1 → rorg (rmate c 8) 8 = org c true 7 := by decide
theorem ro1_9 : ∀ c : Dev nD, cls c = 1 → rorg (rmate c 9) 9 = org c true 6 := by decide
theorem ro2_8 : ∀ c : Dev nD, cls c = 2 → rorg (rmate c 8) 8 = org c false 6 := by decide
theorem ro2_9 : ∀ c : Dev nD, cls c = 2 → rorg (rmate c 9) 9 = org c false 7 := by decide
theorem of19 : ∀ c : Dev nD, k0_off19 (mw c 26) = ![rowC c 17 * 128, 0] := by decide
theorem wv17 (c : Dev nD) : (k0_pay34 (L1 X (rorg c 3) (fm 2 3)) (Wt c)) = prd X Wt c 17 := by rw [prd_eq]; rfl
theorem of20 : ∀ c : Dev nD, k0_off20 (mw c 9) = ![rowC c 18 * 128, 0] := by decide
theorem wv18 (c : Dev nD) : (k0_pay36 (L1 X (org c false 7) (hf false 7)) (Wt c)) = prd X Wt c 18 := by rw [prd_eq]; rfl
theorem rx37 (c : Dev nD) : k0_pay37 (rmx X Wt c 17) (k0_pay35 (L1 X (rorg c 3) (fm 2 3)) (Wt c)) (L1 X (org c false 7) (hf false 7)) (Wt c) = rmx X Wt c 19 := by
  show _ = (Scalar.maximumf (Scalar.maximumf (rmx X Wt c 17) (tmx (prd X Wt c 17))) (tmx (prd X Wt c 18)))
  rw [prd_eq, prd_eq]; rfl
theorem of21 : ∀ c : Dev nD, k0_off21 (mw c 19) = ![rowC c 19 * 128, 0] := by decide
theorem wv19 (c : Dev nD) : (k0_pay38 (L1 X (org c true 7) (hf true 7)) (Wt c)) = prd X Wt c 19 := by rw [prd_eq]; rfl
theorem rx39 (c : Dev nD) : k0_pay39 (rmx X Wt c 19) (k0_pay38 (L1 X (org c true 7) (hf true 7)) (Wt c)) = rmx X Wt c 20 := by
  show _ = (Scalar.maximumf (rmx X Wt c 19) (tmx (prd X Wt c 19)))
  rw [prd_eq]; rfl
theorem of22 : ∀ c : Dev nD, k0_off22 (mw c 27) = ![rowC c 20 * 128, 0] := by decide
theorem wv20 (c : Dev nD) : (k0_pay41 (k0_pay40 (L1 X (rorg c 4) (fm 2 4))) (Wt c)) = prd X Wt c 20 := by rw [prd_eq]; rfl
theorem of23 : ∀ c : Dev nD, k0_off23 (mw c 10) = ![rowC c 21 * 128, 0] := by decide
theorem wv21 (c : Dev nD) : (k0_pay42 (L1 X (org c false 8) (hf false 8)) (Wt c)) = prd X Wt c 21 := by rw [prd_eq]; rfl
theorem rx43 (c : Dev nD) : k0_pay43 (rmx X Wt c 20) (k0_pay40 (L1 X (rorg c 4) (fm 2 4))) (Wt c) (L1 X (org c false 8) (hf false 8)) (Wt c) = rmx X Wt c 22 := by
  show _ = (Scalar.maximumf (Scalar.maximumf (rmx X Wt c 20) (tmx (prd X Wt c 20))) (tmx (prd X Wt c 21)))
  rw [prd_eq, prd_eq]; rfl
theorem of24 : ∀ c : Dev nD, k0_off24 (mw c 20) = ![rowC c 22 * 128, 0] := by decide
theorem wv22 (c : Dev nD) : (k0_pay45 (k0_pay44 (L1 X (org c true 8) (hf true 8))) (Wt c)) = prd X Wt c 22 := by rw [prd_eq]; rfl
theorem rx46 (c : Dev nD) : k0_pay46 (rmx X Wt c 22) (k0_pay44 (L1 X (org c true 8) (hf true 8))) (Wt c) = rmx X Wt c 23 := by
  show _ = (Scalar.maximumf (rmx X Wt c 22) (tmx (prd X Wt c 22)))
  rw [prd_eq]; rfl
theorem of25 : ∀ c : Dev nD, k0_off25 (mw c 27) = ![rowC c 23 * 128, 0] := by decide
theorem wv23 (c : Dev nD) : (k0_pay47 (L1 X (rorg c 5) (fm 2 5)) (Wt c)) = prd X Wt c 23 := by rw [prd_eq]; rfl
theorem of26 : ∀ c : Dev nD, k0_off26 (mw c 11) = ![rowC c 24 * 128, 0] := by decide
theorem wv24 (c : Dev nD) : (k0_pay48 (L1 X (org c false 9) (hf false 9)) (Wt c)) = prd X Wt c 24 := by rw [prd_eq]; rfl
theorem rx49 (c : Dev nD) : k0_pay49 (rmx X Wt c 23) (L1 X (rorg c 5) (fm 2 5)) (Wt c) (L1 X (org c false 9) (hf false 9)) (Wt c) = rmx X Wt c 25 := by
  show _ = (Scalar.maximumf (Scalar.maximumf (rmx X Wt c 23) (tmx (prd X Wt c 23))) (tmx (prd X Wt c 24)))
  rw [prd_eq, prd_eq]; rfl
theorem of27 : ∀ c : Dev nD, k0_off27 (mw c 21) = ![rowC c 25 * 128, 0] := by decide
theorem wv25 (c : Dev nD) : (k0_pay50 (L1 X (org c true 9) (hf true 9)) (Wt c)) = prd X Wt c 25 := by rw [prd_eq]; rfl
theorem rx51 (c : Dev nD) : k0_pay51 (rmx X Wt c 25) (L1 X (org c true 9) (hf true 9)) (Wt c) = rmx X Wt c 26 := by
  show _ = (Scalar.maximumf (rmx X Wt c 25) (tmx (prd X Wt c 25)))
  rw [prd_eq]; rfl
theorem of28 : ∀ c : Dev nD, k0_off28 (mw c 28) = ![rowC c 26 * 128, 0] := by decide
theorem wv26 (c : Dev nD) : (k0_pay52 (L1 X (rorg c 6) (fm 2 6)) (Wt c)) = prd X Wt c 26 := by rw [prd_eq]; rfl
theorem rx53 (c : Dev nD) : k0_pay53 (rmx X Wt c 26) (L1 X (rorg c 6) (fm 2 6)) (Wt c) = rmx X Wt c 27 := by
  show _ = (Scalar.maximumf (rmx X Wt c 26) (tmx (prd X Wt c 26)))
  rw [prd_eq]; rfl
theorem of29 : ∀ c : Dev nD, k0_off29 (mw c 28) = ![rowC c 27 * 128, 0] := by decide
theorem wv27 (c : Dev nD) : (k0_pay54 (L1 X (rorg c 7) (fm 2 7)) (Wt c)) = prd X Wt c 27 := by rw [prd_eq]; rfl
theorem rx55 (c : Dev nD) : k0_pay55 (rmx X Wt c 27) (L1 X (rorg c 7) (fm 2 7)) (Wt c) = rmx X Wt c 28 := by
  show _ = (Scalar.maximumf (rmx X Wt c 27) (tmx (prd X Wt c 27)))
  rw [prd_eq]; rfl
theorem of30 : ∀ c : Dev nD, k0_off30 (mw c 29) = ![rowC c 28 * 128, 0] := by decide
theorem wv28 (c : Dev nD) : (k0_pay56 (L1 X (rorg c 8) (fm 2 8)) (Wt c)) = prd X Wt c 28 := by rw [prd_eq]; rfl
theorem rx57 (c : Dev nD) : k0_pay57 (rmx X Wt c 28) (L1 X (rorg c 8) (fm 2 8)) (Wt c) = rmx X Wt c 29 := by
  show _ = (Scalar.maximumf (rmx X Wt c 28) (tmx (prd X Wt c 28)))
  rw [prd_eq]; rfl
theorem of31 : ∀ c : Dev nD, k0_off31 (mw c 29) = ![rowC c 29 * 128, 0] := by decide
theorem wv29 (c : Dev nD) : (k0_pay58 (L1 X (rorg c 9) (fm 2 9)) (Wt c)) = prd X Wt c 29 := by rw [prd_eq]; rfl
theorem rx60 (c : Dev nD) : k0_pay60 (rmx X Wt c 29) (k0_pay59 (L1 X (rorg c 9) (fm 2 9)) (Wt c)) = rmx X Wt c 30 := by
  show _ = (Scalar.maximumf (rmx X Wt c 29) (tmx (prd X Wt c 29)))
  rw [prd_eq]; rfl

/-- Every device's row of maxima, as the rows stand together. -/
def amA : Vec F S16x8x128 .f32 := fun i => Scalar.maximumf (rmx X Wt ⟨(i 0).val, (i 0).isLt⟩ 30) (Scalar.ofBits .f32 0x00000000#32)

end Cert.Proof
end
-- ==== Proof.BodyS.lean ====
module

public import proofs.«01_k».proof.Proof.BodyE

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt1 (c : Dev nD) (hq : cls c = 0) {k0_hw5 k0_h1} {k : _ → Prog (TpuEff nD τ sig (Elt F) Λ₀ .tc) α} :
    iprop(Invs X Wt κ ιs ∗ Nbr c ∗ Stg c 0 ∗ xq X c (fm 2 0) xst ∗ Zs c ∗ Main c 8 0 ∗ TQ c 0 0 ∗ xq X c (fm 2 1) xst)
    ⊢ iprop(((Stg c 2 ∗ xq X c (fm 2 0) xst ∗ Zs c ∗ Main c 8 1 ∗ stv X c 1 c (fm 2 1) ∗ TQ c 0 1 ∗ xq X c (fm 2 1) xst) -∗ bwp c (k ⟨⟩) Q)
    -∗ bwp c (k0_part1 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h1 >>= k) Q) := by
  rw [k0_part1_eq_skeleton]; unfold k0_part1_skel
  simp only [semSignalWord, semWaitWord, smemLoad, smemLoadElt, Prog.lift, Prog.bind_op, Prog.bind_ret, Prog.pure_eq_ret, wp_deviceId]
  iintro ⟨#HI, #HN, HSG, Hy0, HZ, HM, HTQ, Hy1⟩ Hk
  ihave HV := (Stg_pop c 0 (by decide)) $$ HSG
  icases HV with ⟨HV, HSG⟩
  iapply (loc_start c mX0 mS0 (congrArg SemLoc.dma sL) (nrq _)) $$ [Hy0 HV HZ]
  · iframe Hy0 HV HZ
  iintro HFl
  iapply (loc_wait X Wt c 8 0 (by decide) sL (nrq _)) $$ [HM HFl]
  · iframe HI HM HFl
  iintro ⟨HM, HZ, Hy0, HG⟩
  ihave #HE := (Nbr_self c) $$ HN
  iapply (rel_send X Wt c 8 0 (by decide) (rm0 c) mS0 mR0 sR0 rR0 (ro0_0 c hq) (show fm 2 0 = (fm 2 0) by decide)) $$ [HM HTQ HG]
  · iframe HI HN HE HM HTQ HG
  iintro ⟨HM, HTQ⟩
  iclear HE
  ihave HV := (Stg_pop c 1 (by decide)) $$ HSG
  icases HV with ⟨HV, HSG⟩
  iapply (loc_start c mX1 mS1 (congrArg SemLoc.dma sL) (nrq _)) $$ [Hy1 HV HZ]
  · iframe Hy1 HV HZ
  iintro HFl
  iapply (loc_wait X Wt c 8 1 (by decide) sL (nrq _)) $$ [HM HFl]
  · iframe HI HM HFl
  iintro ⟨HM, HZ, Hy1, HG⟩
  iapply Hk
  iframe HSG Hy0 HZ HM HG HTQ Hy1

theorem pt2 (c : Dev nD) (hq : cls c = 3) {k0_hw5 k0_h2} {k : _ → Prog (TpuEff nD τ sig (Elt F) Λ₀ .tc) α} :
    iprop(Invs X Wt κ ιs ∗ Nbr c ∗ Stg c 0 ∗ xq X c (fm 2 0) xst ∗ Zs c ∗ Main c 8 0 ∗ TQ c 0 0 ∗ xq X c (fm 2 1) xst)
    ⊢ iprop(((Stg c 2 ∗ xq X c (fm 2 0) xst ∗ Zs c ∗ Main c 8 1 ∗ stv X c 1 c (fm 2 1) ∗ TQ c 0 1 ∗ xq X c (fm 2 1) xst) -∗ bwp c (k ⟨⟩) Q)
    -∗ bwp c (k0_part2 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h2 >>= k) Q) := by
  rw [k0_part2_eq_skeleton]; unfold k0_part2_skel
  simp only [semSignalWord, semWaitWord, smemLoad, smemLoadElt, Prog.lift, Prog.bind_op, Prog.bind_ret, Prog.pure_eq_ret, wp_deviceId]
  iintro ⟨#HI, #HN, HSG, Hy0, HZ, HM, HTQ, Hy1⟩ Hk
  ihave HV := (Stg_pop c 0 (by decide)) $$ HSG
  icases HV with ⟨HV, HSG⟩
  iapply (loc_start c mX0 mS0 (congrArg SemLoc.dma sL) (nrq _)) $$ [Hy0 HV HZ]
  · iframe Hy0 HV HZ
  iintro HFl
  iapply (loc_wait X Wt c 8 0 (by decide) sL (nrq _)) $$ [HM HFl]
  · iframe HI HM HFl
  iintro ⟨HM, HZ, Hy0, HG⟩
  ihave #HE := (Nbr_self c) $$ HN
  iapply (rel_send X Wt c 8 0 (by decide) (rm0 c) mS0 mR0 sR0 rR0 (ro3_0 c hq) (show fm 2 0 = (fm 2 0) by decide)) $$ [HM HTQ HG]
  · iframe HI HN HE HM HTQ HG
  iintro ⟨HM, HTQ⟩
  iclear HE
  ihave HV := (Stg_pop c 1 (by decide)) $$ HSG
  icases HV with ⟨HV, HSG⟩
  iapply (loc_start c mX1 mS1 (congrArg SemLoc.dma sL) (nrq _)) $$ [Hy1 HV HZ]
  · iframe Hy1 HV HZ
  iintro HFl
  iapply (loc_wait X Wt c 8 1 (by decide) sL (nrq _)) $$ [HM HFl]
  · iframe HI HM HFl
  iintro ⟨HM, HZ, Hy1, HG⟩
  iapply Hk
  iframe HSG Hy0 HZ HM HG HTQ Hy1

theorem pt3 (c : Dev nD) (hq : cls c = 0) {k0_hw5 k0_h3} {k : _ → Prog (TpuEff nD τ sig (Elt F) Λ₀ .tc) α} :
    iprop(Invs X Wt κ ιs ∗ Nbr c ∗ Stg c 2 ∗ sl X c true 1 fullShare.right ∗ Zs c ∗ Main c 12 2 ∗ RQ c true 2 ∗ TQ c 0 2 ∗ sl X c true 0 fullShare.right)
    ⊢ iprop(((Stg c 4 ∗ sl X c true 1 fullShare.right ∗ Zs c ∗ Main c 12 3 ∗ stv X c 3 (org c true 0) (hf true 0) ∗ RQ c true 2 ∗ TQ c 0 3 ∗ sl X c true 0 fullShare.right) -∗ bwp c (k ⟨⟩) Q)
    -∗ bwp c (k0_part3 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h3 >>= k) Q) := by
  rw [k0_part3_eq_skeleton]; unfold k0_part3_skel
  simp only [semSignalWord, semWaitWord, smemLoad, smemLoadElt, Prog.lift, Prog.bind_op, Prog.bind_ret, Prog.pure_eq_ret, wp_deviceId]
  iintro ⟨#HI, #HN, HSG, Hrb1, HZ, HM, HRB, HTQ, Hrb0⟩ Hk
  ihave HV := (Stg_pop c 2 (by decide)) $$ HSG
  icases HV with ⟨HV, HSG⟩
  iapply (loc_start c mB1 mS2 (congrArg SemLoc.dma sL) (nrq _)) $$ [Hrb1 HV HZ]
  · iframe Hrb1 HV HZ
  iintro HFl
  iapply (loc_wait X Wt c 12 2 (by decide) sL (nrq _)) $$ [HM HFl]
  · iframe HI HM HFl
  iintro ⟨HM, HZ, Hrb1, HG⟩
  ihave #HE := (RQ_ent c true (j := 2) (n := 1) (by decide)) $$ HRB
  iapply (rel_send X Wt c 12 2 (by decide) (rm2 c) mS2 mR2 sR2 rR2 (ro0_2 c hq) (show fm 2 2 = (hf true 1) by decide)) $$ [HM HTQ HG]
  · iframe HI HN HE HM HTQ HG
  iintro ⟨HM, HTQ⟩
  iclear HE
  ihave HV := (Stg_pop c 3 (by decide)) $$ HSG
  icases HV with ⟨HV, HSG⟩
  iapply (loc_start c mB0 mS3 (congrArg SemLoc.dma sL) (nrq _)) $$ [Hrb0 HV HZ]
  · iframe Hrb0 HV HZ
  iintro HFl
  iapply (loc_wait X Wt c 12 3 (by decide) sL (nrq _)) $$ [HM HFl]
  · iframe HI HM HFl
  iintro ⟨HM, HZ, Hrb0, HG⟩
  iapply Hk
  iframe HSG Hrb1 HZ HM HG HRB HTQ Hrb0

theorem pt4 (c : Dev nD) (hq : cls c = 0) {k0_hw5 k0_h3} {k : _ → Prog (TpuEff nD τ sig (Elt F) Λ₀ .tc) α} :
    iprop(Invs X Wt κ ιs ∗ Nbr c ∗ RQ c true 2 ∗ Main c 12 3 ∗ TQ c 0 3 ∗ stv X c 3 (org c true 0) (hf true 0) ∗ Stg c 4 ∗ sl X c false 0 fullShare.right ∗ Zs c ∗ RQ c false 2 ∗ sl X c false 1 fullShare.right)
    ⊢ iprop(((RQ c true 2 ∗ Main c 12 5 ∗ TQ c 0 5 ∗ stv X c 5 (org c false 1) (hf false 1) ∗ Stg c 6 ∗ sl X c false 0 fullShare.right ∗ Zs c ∗ RQ c false 2 ∗ sl X c false 1 fullShare.right) -∗ bwp c (k ⟨⟩) Q)
    -∗ bwp c (k0_part4 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h3 >>= k) Q) := by
  rw [k0_part4_eq_skeleton]; unfold k0_part4_skel
  simp only [semSignalWord, semWaitWord, smemLoad, smemLoadElt, Prog.lift, Prog.bind_op, Prog.bind_ret, Prog.pure_eq_ret, wp_deviceId]
  iintro ⟨#HI, #HN, HRB, HM, HTQ, HG, HSG, Hrf0, HZ, HRF, Hrf1⟩ Hk
  ihave #HE := (RQ_ent c true (j := 2) (n := 0) (by decide)) $$ HRB
  iapply (rel_send X Wt c 12 3 (by decide) (rm3 c) mS3 mR3 sR3 rR3 (ro0_3 c hq) (show fm 2 3 = (hf true 0) by decide)) $$ [HM HTQ HG]
  · iframe HI HN HE HM HTQ HG
  iintro ⟨HM, HTQ⟩
  iclear HE
  ihave HV := (Stg_pop c 4 (by decide)) $$ HSG
  icases HV with ⟨HV, HSG⟩
  iapply (loc_start c mF0 mS4 (congrArg SemLoc.dma sL) (nrq _)) $$ [Hrf0 HV HZ]
  · iframe Hrf0 HV HZ
  iintro HFl
  iapply (loc_wait X Wt c 12 4 (by decide) sL (nrq _)) $$ [HM HFl]
  · iframe HI HM HFl
  iintro ⟨HM, HZ, Hrf0, HG⟩
  ihave #HE := (RQ_ent c false (j := 2) (n := 0) (by decide)) $$ HRF
  iapply (rel_send X Wt c 12 4 (by decide) (rm4 c) mS4 mR4 sR4 rR4 (ro0_4 c hq) (show fm 2 4 = (hf false 0) by decide)) $$ [HM HTQ HG]
  · iframe HI HN HE HM HTQ HG
  iintro ⟨HM, HTQ⟩
  iclear HE
  ihave HV := (Stg_pop c 5 (by decide)) $$ HSG
  icases HV with ⟨HV, HSG⟩
  iapply (loc_start c mF1 mS5 (congrArg SemLoc.dma sL) (nrq _)) $$ [Hrf1 HV HZ]
  · iframe Hrf1 HV HZ
  iintro HFl
  iapply (loc_wait X Wt c 12 5 (by decide) sL (nrq _)) $$ [HM HFl]
  · iframe HI HM HFl
  iintro ⟨HM, HZ, Hrf1, HG⟩
  iapply Hk
  iframe HRB HM HTQ HG HSG Hrf0 HZ HRF Hrf1

theorem pt5 (c : Dev nD) (hq : cls c = 1) {k0_hw5 k0_h4} {k : _ → Prog (TpuEff nD τ sig (Elt F) Λ₀ .tc) α} :
    iprop(Invs X Wt κ ιs ∗ Nbr c ∗ Stg c 0 ∗ sl X c false 0 fullShare.right ∗ Zs c ∗ Main c 12 0 ∗ RQ c false 2 ∗ TQ c 0 0 ∗ sl X c false 1 fullShare.right)
    ⊢ iprop(((Stg c 2 ∗ sl X c false 0 fullShare.right ∗ Zs c ∗ Main c 12 1 ∗ stv X c 1 (org c false 1) (hf false 1) ∗ RQ c false 2 ∗ TQ c 0 1 ∗ sl X c false 1 fullShare.right) -∗ bwp c (k ⟨⟩) Q)
    -∗ bwp c (k0_part5 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h4 >>= k) Q) := by
  rw [k0_part5_eq_skeleton]; unfold k0_part5_skel
  simp only [semSignalWord, semWaitWord, smemLoad, smemLoadElt, Prog.lift, Prog.bind_op, Prog.bind_ret, Prog.pure_eq_ret, wp_deviceId]
  iintro ⟨#HI, #HN, HSG, Hrf0, HZ, HM, HRF, HTQ, Hrf1⟩ Hk
  ihave HV := (Stg_pop c 0 (by decide)) $$ HSG
  icases HV with ⟨HV, HSG⟩
  iapply (loc_start c mF0 mS0 (congrArg SemLoc.dma sL) (nrq _)) $$ [Hrf0 HV HZ]
  · iframe Hrf0 HV HZ
  iintro HFl
  iapply (loc_wait X Wt c 12 0 (by decide) sL (nrq _)) $$ [HM HFl]
  · iframe HI HM HFl
  iintro ⟨HM, HZ, Hrf0, HG⟩
  ihave #HE := (RQ_ent c false (j := 2) (n := 0) (by decide)) $$ HRF
  iapply (rel_send X Wt c 12 0 (by decide) (rm0 c) mS0 mR0 sR0 rR0 (ro1_0 c hq) (show fm 2 0 = (hf false 0) by decide)) $$ [HM HTQ HG]
  · iframe HI HN HE HM HTQ HG
  iintro ⟨HM, HTQ⟩
  iclear HE
  ihave HV := (Stg_pop c 1 (by decide)) $$ HSG
  icases HV with ⟨HV, HSG⟩
  iapply (loc_start c mF1 mS1 (congrArg SemLoc.dma sL) (nrq _)) $$ [Hrf1 HV HZ]
  · iframe Hrf1 HV HZ
  iintro HFl
  iapply (loc_wait X Wt c 12 1 (by decide) sL (nrq _)) $$ [HM HFl]
  · iframe HI HM HFl
  iintro ⟨HM, HZ, Hrf1, HG⟩
  iapply Hk
  iframe HSG Hrf0 HZ HM HG HRF HTQ Hrf1

theorem pt6 (c : Dev nD) (hq : cls c = 2) {k0_hw5 k0_h5} {k : _ → Prog (TpuEff nD τ sig (Elt F) Λ₀ .tc) α} :
    iprop(Invs X Wt κ ιs ∗ Nbr c ∗ Stg c 0 ∗ sl X c true 1 fullShare.right ∗ Zs c ∗ Main c 12 0 ∗ RQ c true 2 ∗ TQ c 0 0 ∗ sl X c true 0 fullShare.right)
    ⊢ iprop(((Stg c 2 ∗ sl X c true 1 fullShare.right ∗ Zs c ∗ Main c 12 1 ∗ stv X c 1 (org c true 0) (hf true 0) ∗ RQ c true 2 ∗ TQ c 0 1 ∗ sl X c true 0 fullShare.right) -∗ bwp c (k ⟨⟩) Q)
    -∗ bwp c (k0_part6 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h5 >>= k) Q) := by
  rw [k0_part6_eq_skeleton]; unfold k0_part6_skel
  simp only [semSignalWord, semWaitWord, smemLoad, smemLoadElt, Prog.lift, Prog.bind_op, Prog.bind_ret, Prog.pure_eq_ret, wp_deviceId]
  iintro ⟨#HI, #HN, HSG, Hrb1, HZ, HM, HRB, HTQ, Hrb0⟩ Hk
  ihave HV := (Stg_pop c 0 (by decide)) $$ HSG
  icases HV with ⟨HV, HSG⟩
  iapply (loc_start c mB1 mS0 (congrArg SemLoc.dma sL) (nrq _)) $$ [Hrb1 HV HZ]
  · iframe Hrb1 HV HZ
  iintro HFl
  iapply (loc_wait X Wt c 12 0 (by decide) sL (nrq _)) $$ [HM HFl]
  · iframe HI HM HFl
  iintro ⟨HM, HZ, Hrb1, HG⟩
  ihave #HE := (RQ_ent c true (j := 2) (n := 1) (by decide)) $$ HRB
  iapply (rel_send X Wt c 12 0 (by decide) (rm0 c) mS0 mR0 sR0 rR0 (ro2_0 c hq) (show fm 2 0 = (hf true 1) by decide)) $$ [HM HTQ HG]
  · iframe HI HN HE HM HTQ HG
  iintro ⟨HM, HTQ⟩
  iclear HE
  ihave HV := (Stg_pop c 1 (by decide)) $$ HSG
  icases HV with ⟨HV, HSG⟩
  iapply (loc_start c mB0 mS1 (congrArg SemLoc.dma sL) (nrq _)) $$ [Hrb0 HV HZ]
  · iframe Hrb0 HV HZ
  iintro HFl
  iapply (loc_wait X Wt c 12 1 (by decide) sL (nrq _)) $$ [HM HFl]
  · iframe HI HM HFl
  iintro ⟨HM, HZ, Hrb0, HG⟩
  iapply Hk
  iframe HSG Hrb1 HZ HM HG HRB HTQ Hrb0

theorem pt7 (c : Dev nD) (hq : cls c = 3) {k0_hw5 k0_h6} {k : _ → Prog (TpuEff nD τ sig (Elt F) Λ₀ .tc) α} :
    iprop(Invs X Wt κ ιs ∗ Nbr c ∗ Stg c 2 ∗ sl X c false 0 fullShare.right ∗ Zs c ∗ Main c 12 2 ∗ RQ c false 2 ∗ TQ c 0 2 ∗ sl X c false 1 fullShare.right)
    ⊢ iprop(((Stg c 4 ∗ sl X c false 0 fullShare.right ∗ Zs c ∗ Main c 12 3 ∗ stv X c 3 (org c false 1) (hf false 1) ∗ RQ c false 2 ∗ TQ c 0 3 ∗ sl X c false 1 fullShare.right) -∗ bwp c (k ⟨⟩) Q)
    -∗ bwp c (k0_part7 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h6 >>= k) Q) := by
  rw [k0_part7_eq_skeleton]; unfold k0_part7_skel
  simp only [semSignalWord, semWaitWord, smemLoad, smemLoadElt, Prog.lift, Prog.bind_op, Prog.bind_ret, Prog.pure_eq_ret, wp_deviceId]
  iintro ⟨#HI, #HN, HSG, Hrf0, HZ, HM, HRF, HTQ, Hrf1⟩ Hk
  ihave HV := (Stg_pop c 2 (by decide)) $$ HSG
  icases HV with ⟨HV, HSG⟩
  iapply (loc_start c mF0 mS2 (congrArg SemLoc.dma sL) (nrq _)) $$ [Hrf0 HV HZ]
  · iframe Hrf0 HV HZ
  iintro HFl
  iapply (loc_wait X Wt c 12 2 (by decide) sL (nrq _)) $$ [HM HFl]
  · iframe HI HM HFl
  iintro ⟨HM, HZ, Hrf0, HG⟩
  ihave #HE := (RQ_ent c false (j := 2) (n := 0) (by decide)) $$ HRF
  iapply (rel_send X Wt c 12 2 (by decide) (rm2 c) mS2 mR2 sR2 rR2 (ro3_2 c hq) (show fm 2 2 = (hf false 0) by decide)) $$ [HM HTQ HG]
  · iframe HI HN HE HM HTQ HG
  iintro ⟨HM, HTQ⟩
  iclear HE
  ihave HV := (Stg_pop c 3 (by decide)) $$ HSG
  icases HV with ⟨HV, HSG⟩
  iapply (loc_start c mF1 mS3 (congrArg SemLoc.dma sL) (nrq _)) $$ [Hrf1 HV HZ]
  · iframe Hrf1 HV HZ
  iintro HFl
  iapply (loc_wait X Wt c 12 3 (by decide) sL (nrq _)) $$ [HM HFl]
  · iframe HI HM HFl
  iintro ⟨HM, HZ, Hrf1, HG⟩
  iapply Hk
  iframe HSG Hrf0 HZ HM HG HRF HTQ Hrf1

theorem pt8 (c : Dev nD) (hq : cls c = 3) {k0_hw5 k0_h6} {k : _ → Prog (TpuEff nD τ sig (Elt F) Λ₀ .tc) α} :
    iprop(Invs X Wt κ ιs ∗ Nbr c ∗ RQ c false 2 ∗ Main c 12 3 ∗ TQ c 0 3 ∗ stv X c 3 (org c false 1) (hf false 1) ∗ Stg c 4 ∗ sl X c true 1 fullShare.right ∗ Zs c ∗ RQ c true 2 ∗ sl X c true 0 fullShare.right)
    ⊢ iprop(((RQ c false 2 ∗ Main c 12 5 ∗ TQ c 0 5 ∗ stv X c 5 (org c true 0) (hf true 0) ∗ Stg c 6 ∗ sl X c true 1 fullShare.right ∗ Zs c ∗ RQ c true 2 ∗ sl X c true 0 fullShare.right) -∗ bwp c (k ⟨⟩) Q)
    -∗ bwp c (k0_part8 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h6 >>= k) Q) := by
  rw [k0_part8_eq_skeleton]; unfold k0_part8_skel
  simp only [semSignalWord, semWaitWord, smemLoad, smemLoadElt, Prog.lift, Prog.bind_op, Prog.bind_ret, Prog.pure_eq_ret, wp_deviceId]
  iintro ⟨#HI, #HN, HRF, HM, HTQ, HG, HSG, Hrb1, HZ, HRB, Hrb0⟩ Hk
  ihave #HE := (RQ_ent c false (j := 2) (n := 1) (by decide)) $$ HRF
  iapply (rel_send X Wt c 12 3 (by decide) (rm3 c) mS3 mR3 sR3 rR3 (ro3_3 c hq) (show fm 2 3 = (hf false 1) by decide)) $$ [HM HTQ HG]
  · iframe HI HN HE HM HTQ HG
  iintro ⟨HM, HTQ⟩
  iclear HE
  ihave HV := (Stg_pop c 4 (by decide)) $$ HSG
  icases HV with ⟨HV, HSG⟩
  iapply (loc_start c mB1 mS4 (congrArg SemLoc.dma sL) (nrq _)) $$ [Hrb1 HV HZ]
  · iframe Hrb1 HV HZ
  iintro HFl
  iapply (loc_wait X Wt c 12 4 (by decide) sL (nrq _)) $$ [HM HFl]
  · iframe HI HM HFl
  iintro ⟨HM, HZ, Hrb1, HG⟩
  ihave #HE := (RQ_ent c true (j := 2) (n := 1) (by decide)) $$ HRB
  iapply (rel_send X Wt c 12 4 (by decide) (rm4 c) mS4 mR4 sR4 rR4 (ro3_4 c hq) (show fm 2 4 = (hf true 1) by decide)) $$ [HM HTQ HG]
  · iframe HI HN HE HM HTQ HG
  iintro ⟨HM, HTQ⟩
  iclear HE
  ihave HV := (Stg_pop c 5 (by decide)) $$ HSG
  icases HV with ⟨HV, HSG⟩
  iapply (loc_start c mB0 mS5 (congrArg SemLoc.dma sL) (nrq _)) $$ [Hrb0 HV HZ]
  · iframe Hrb0 HV HZ
  iintro HFl
  iapply (loc_wait X Wt c 12 5 (by decide) sL (nrq _)) $$ [HM HFl]
  · iframe HI HM HFl
  iintro ⟨HM, HZ, Hrb0, HG⟩
  iapply Hk
  iframe HRF HM HTQ HG HSG Hrb1 HZ HRB Hrb0

theorem pt9 (c : Dev nD) (hq : cls c = 0) {k0_hw5 k0_h7} {k : _ → Prog (TpuEff nD τ sig (Elt F) Λ₀ .tc) α} :
    iprop(Invs X Wt κ ιs ∗ Nbr c ∗ Stg c 6 ∗ sl X c false 2 fullShare.right ∗ Zs c ∗ Main c 20 6 ∗ RQ c false 4 ∗ TQ c 0 6 ∗ sl X c false 3 fullShare.right)
    ⊢ iprop(((Stg c 8 ∗ sl X c false 2 fullShare.right ∗ Zs c ∗ Main c 20 7 ∗ stv X c 7 (org c false 3) (hf false 3) ∗ RQ c false 4 ∗ TQ c 0 7 ∗ sl X c false 3 fullShare.right) -∗ bwp c (k ⟨⟩) Q)
    -∗ bwp c (k0_part9 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h7 >>= k) Q) := by
  rw [k0_part9_eq_skeleton]; unfold k0_part9_skel
  simp only [semSignalWord, semWaitWord, smemLoad, smemLoadElt, Prog.lift, Prog.bind_op, Prog.bind_ret, Prog.pure_eq_ret, wp_deviceId]
  iintro ⟨#HI, #HN, HSG, Hrf2, HZ, HM, HRF, HTQ, Hrf3⟩ Hk
  ihave HV := (Stg_pop c 6 (by decide)) $$ HSG
  icases HV with ⟨HV, HSG⟩
  iapply (loc_start c mF2 mS6 (congrArg SemLoc.dma sL) (nrq _)) $$ [Hrf2 HV HZ]
  · iframe Hrf2 HV HZ
  iintro HFl
  iapply (loc_wait X Wt c 20 6 (by decide) sL (nrq _)) $$ [HM HFl]
  · iframe HI HM HFl
  iintro ⟨HM, HZ, Hrf2, HG⟩
  ihave #HE := (RQ_ent c false (j := 4) (n := 2) (by decide)) $$ HRF
  iapply (rel_send X Wt c 20 6 (by decide) (rm6 c) mS6 mR6 sR6 rR6 (ro0_6 c hq) (show fm 2 6 = (hf false 2) by decide)) $$ [HM HTQ HG]
  · iframe HI HN HE HM HTQ HG
  iintro ⟨HM, HTQ⟩
  iclear HE
  ihave HV := (Stg_pop c 7 (by decide)) $$ HSG
  icases HV with ⟨HV, HSG⟩
  iapply (loc_start c mF3 mS7 (congrArg SemLoc.dma sL) (nrq _)) $$ [Hrf3 HV HZ]
  · iframe Hrf3 HV HZ
  iintro HFl
  iapply (loc_wait X Wt c 20 7 (by decide) sL (nrq _)) $$ [HM HFl]
  · iframe HI HM HFl
  iintro ⟨HM, HZ, Hrf3, HG⟩
  iapply Hk
  iframe HSG Hrf2 HZ HM HG HRF HTQ Hrf3

theorem pt10 (c : Dev nD) (hq : cls c = 1) {k0_hw5 k0_h8} {k : _ → Prog (TpuEff nD τ sig (Elt F) Λ₀ .tc) α} :
    iprop(Invs X Wt κ ιs ∗ Nbr c ∗ Stg c 2 ∗ sl X c false 2 fullShare.right ∗ Zs c ∗ Main c 20 2 ∗ RQ c false 4 ∗ TQ c 0 2 ∗ sl X c false 3 fullShare.right)
    ⊢ iprop(((Stg c 4 ∗ sl X c false 2 fullShare.right ∗ Zs c ∗ Main c 20 3 ∗ stv X c 3 (org c false 3) (hf false 3) ∗ RQ c false 4 ∗ TQ c 0 3 ∗ sl X c false 3 fullShare.right) -∗ bwp c (k ⟨⟩) Q)
    -∗ bwp c (k0_part10 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h8 >>= k) Q) := by
  rw [k0_part10_eq_skeleton]; unfold k0_part10_skel
  simp only [semSignalWord, semWaitWord, smemLoad, smemLoadElt, Prog.lift, Prog.bind_op, Prog.bind_ret, Prog.pure_eq_ret, wp_deviceId]
  iintro ⟨#HI, #HN, HSG, Hrf2, HZ, HM, HRF, HTQ, Hrf3⟩ Hk
  ihave HV := (Stg_pop c 2 (by decide)) $$ HSG
  icases HV with ⟨HV, HSG⟩
  iapply (loc_start c mF2 mS2 (congrArg SemLoc.dma sL) (nrq _)) $$ [Hrf2 HV HZ]
  · iframe Hrf2 HV HZ
  iintro HFl
  iapply (loc_wait X Wt c 20 2 (by decide) sL (nrq _)) $$ [HM HFl]
  · iframe HI HM HFl
  iintro ⟨HM, HZ, Hrf2, HG⟩
  ihave #HE := (RQ_ent c false (j := 4) (n := 2) (by decide)) $$ HRF
  iapply (rel_send X Wt c 20 2 (by decide) (rm2 c) mS2 mR2 sR2 rR2 (ro1_2 c hq) (show fm 2 2 = (hf false 2) by decide)) $$ [HM HTQ HG]
  · iframe HI HN HE HM HTQ HG
  iintro ⟨HM, HTQ⟩
  iclear HE
  ihave HV := (Stg_pop c 3 (by decide)) $$ HSG
  icases HV with ⟨HV, HSG⟩
  iapply (loc_start c mF3 mS3 (congrArg SemLoc.dma sL) (nrq _)) $$ [Hrf3 HV HZ]
  · iframe Hrf3 HV HZ
  iintro HFl
  iapply (loc_wait X Wt c 20 3 (by decide) sL (nrq _)) $$ [HM HFl]
  · iframe HI HM HFl
  iintro ⟨HM, HZ, Hrf3, HG⟩
  iapply Hk
  iframe HSG Hrf2 HZ HM HG HRF HTQ Hrf3

theorem pt11 (c : Dev nD) (hq : cls c = 2) {k0_hw5 k0_h9} {k : _ → Prog (TpuEff nD τ sig (Elt F) Λ₀ .tc) α} :
    iprop(Invs X Wt κ ιs ∗ Nbr c ∗ Stg c 2 ∗ sl X c true 3 fullShare.right ∗ Zs c ∗ Main c 20 2 ∗ RQ c true 4 ∗ TQ c 0 2 ∗ sl X c true 2 fullShare.right)
    ⊢ iprop(((Stg c 4 ∗ sl X c true 3 fullShare.right ∗ Zs c ∗ Main c 20 3 ∗ stv X c 3 (org c true 2) (hf true 2) ∗ RQ c true 4 ∗ TQ c 0 3 ∗ sl X c true 2 fullShare.right) -∗ bwp c (k ⟨⟩) Q)
    -∗ bwp c (k0_part11 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h9 >>= k) Q) := by
  rw [k0_part11_eq_skeleton]; unfold k0_part11_skel
  simp only [semSignalWord, semWaitWord, smemLoad, smemLoadElt, Prog.lift, Prog.bind_op, Prog.bind_ret, Prog.pure_eq_ret, wp_deviceId]
  iintro ⟨#HI, #HN, HSG, Hrb3, HZ, HM, HRB, HTQ, Hrb2⟩ Hk
  ihave HV := (Stg_pop c 2 (by decide)) $$ HSG
  icases HV with ⟨HV, HSG⟩
  iapply (loc_start c mB3 mS2 (congrArg SemLoc.dma sL) (nrq _)) $$ [Hrb3 HV HZ]
  · iframe Hrb3 HV HZ
  iintro HFl
  iapply (loc_wait X Wt c 20 2 (by decide) sL (nrq _)) $$ [HM HFl]
  · iframe HI HM HFl
  iintro ⟨HM, HZ, Hrb3, HG⟩
  ihave #HE := (RQ_ent c true (j := 4) (n := 3) (by decide)) $$ HRB
  iapply (rel_send X Wt c 20 2 (by decide) (rm2 c) mS2 mR2 sR2 rR2 (ro2_2 c hq) (show fm 2 2 = (hf true 3) by decide)) $$ [HM HTQ HG]
  · iframe HI HN HE HM HTQ HG
  iintro ⟨HM, HTQ⟩
  iclear HE
  ihave HV := (Stg_pop c 3 (by decide)) $$ HSG
  icases HV with ⟨HV, HSG⟩
  iapply (loc_start c mB2 mS3 (congrArg SemLoc.dma sL) (nrq _)) $$ [Hrb2 HV HZ]
  · iframe Hrb2 HV HZ
  iintro HFl
  iapply (loc_wait X Wt c 20 3 (by decide) sL (nrq _)) $$ [HM HFl]
  · iframe HI HM HFl
  iintro ⟨HM, HZ, Hrb2, HG⟩
  iapply Hk
  iframe HSG Hrb3 HZ HM HG HRB HTQ Hrb2

theorem pt12 (c : Dev nD) (hq : cls c = 3) {k0_hw5 k0_h10} {k : _ → Prog (TpuEff nD τ sig (Elt F) Λ₀ .tc) α} :
    iprop(Invs X Wt κ ιs ∗ Nbr c ∗ Stg c 6 ∗ sl X c true 3 fullShare.right ∗ Zs c ∗ Main c 20 6 ∗ RQ c true 4 ∗ TQ c 0 6 ∗ sl X c true 2 fullShare.right)
    ⊢ iprop(((Stg c 8 ∗ sl X c true 3 fullShare.right ∗ Zs c ∗ Main c 20 7 ∗ stv X c 7 (org c true 2) (hf true 2) ∗ RQ c true 4 ∗ TQ c 0 7 ∗ sl X c true 2 fullShare.right) -∗ bwp c (k ⟨⟩) Q)
    -∗ bwp c (k0_part12 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h10 >>= k) Q) := by
  rw [k0_part12_eq_skeleton]; unfold k0_part12_skel
  simp only [semSignalWord, semWaitWord, smemLoad, smemLoadElt, Prog.lift, Prog.bind_op, Prog.bind_ret, Prog.pure_eq_ret, wp_deviceId]
  iintro ⟨#HI, #HN, HSG, Hrb3, HZ, HM, HRB, HTQ, Hrb2⟩ Hk
  ihave HV := (Stg_pop c 6 (by decide)) $$ HSG
  icases HV with ⟨HV, HSG⟩
  iapply (loc_start c mB3 mS6 (congrArg SemLoc.dma sL) (nrq _)) $$ [Hrb3 HV HZ]
  · iframe Hrb3 HV HZ
  iintro HFl
  iapply (loc_wait X Wt c 20 6 (by decide) sL (nrq _)) $$ [HM HFl]
  · iframe HI HM HFl
  iintro ⟨HM, HZ, Hrb3, HG⟩
  ihave #HE := (RQ_ent c true (j := 4) (n := 3) (by decide)) $$ HRB
  iapply (rel_send X Wt c 20 6 (by decide) (rm6 c) mS6 mR6 sR6 rR6 (ro3_6 c hq) (show fm 2 6 = (hf true 3) by decide)) $$ [HM HTQ HG]
  · iframe HI HN HE HM HTQ HG
  iintro ⟨HM, HTQ⟩
  iclear HE
  ihave HV := (Stg_pop c 7 (by decide)) $$ HSG
  icases HV with ⟨HV, HSG⟩
  iapply (loc_start c mB2 mS7 (congrArg SemLoc.dma sL) (nrq _)) $$ [Hrb2 HV HZ]
  · iframe Hrb2 HV HZ
  iintro HFl
  iapply (loc_wait X Wt c 20 7 (by decide) sL (nrq _)) $$ [HM HFl]
  · iframe HI HM HFl
  iintro ⟨HM, HZ, Hrb2, HG⟩
  iapply Hk
  iframe HSG Hrb3 HZ HM HG HRB HTQ Hrb2

theorem pt13 (c : Dev nD) (hq : cls c = 0) {k0_hw5 k0_h11} {k : _ → Prog (TpuEff nD τ sig (Elt F) Λ₀ .tc) α} :
    iprop(Invs X Wt κ ιs ∗ Nbr c ∗ Stg c 8 ∗ sl X c false 4 fullShare.right ∗ Zs c ∗ Main c 28 8 ∗ RQ c false 6 ∗ TQ c 0 8 ∗ sl X c false 5 fullShare.right)
    ⊢ iprop(((Stg c 10 ∗ sl X c false 4 fullShare.right ∗ Zs c ∗ Main c 28 9 ∗ stv X c 9 (org c false 5) (hf false 5) ∗ RQ c false 6 ∗ TQ c 0 9 ∗ sl X c false 5 fullShare.right) -∗ bwp c (k ⟨⟩) Q)
    -∗ bwp c (k0_part13 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h11 >>= k) Q) := by
  rw [k0_part13_eq_skeleton]; unfold k0_part13_skel
  simp only [semSignalWord, semWaitWord, smemLoad, smemLoadElt, Prog.lift, Prog.bind_op, Prog.bind_ret, Prog.pure_eq_ret, wp_deviceId]
  iintro ⟨#HI, #HN, HSG, Hrf4, HZ, HM, HRF, HTQ, Hrf5⟩ Hk
  ihave HV := (Stg_pop c 8 (by decide)) $$ HSG
  icases HV with ⟨HV, HSG⟩
  iapply (loc_start c mF4 mS8 (congrArg SemLoc.dma sL) (nrq _)) $$ [Hrf4 HV HZ]
  · iframe Hrf4 HV HZ
  iintro HFl
  iapply (loc_wait X Wt c 28 8 (by decide) sL (nrq _)) $$ [HM HFl]
  · iframe HI HM HFl
  iintro ⟨HM, HZ, Hrf4, HG⟩
  ihave #HE := (RQ_ent c false (j := 6) (n := 4) (by decide)) $$ HRF
  iapply (rel_send X Wt c 28 8 (by decide) (rm8 c) mS8 mR8 sR8 rR8 (ro0_8 c hq) (show fm 2 8 = (hf false 4) by decide)) $$ [HM HTQ HG]
  · iframe HI HN HE HM HTQ HG
  iintro ⟨HM, HTQ⟩
  iclear HE
  ihave HV := (Stg_pop c 9 (by decide)) $$ HSG
  icases HV with ⟨HV, HSG⟩
  iapply (loc_start c mF0 mS9 (congrArg SemLoc.dma sL) (nrq _)) $$ [Hrf5 HV HZ]
  · iframe Hrf5 HV HZ
  iintro HFl
  iapply (loc_wait X Wt c 28 9 (by decide) sL (nrq _)) $$ [HM HFl]
  · iframe HI HM HFl
  iintro ⟨HM, HZ, Hrf5, HG⟩
  iapply Hk
  iframe HSG Hrf4 HZ HM HG HRF HTQ Hrf5

theorem pt14 (c : Dev nD) (hq : cls c = 1) {k0_hw5 k0_h12} {k : _ → Prog (TpuEff nD τ sig (Elt F) Λ₀ .tc) α} :
    iprop(Invs X Wt κ ιs ∗ Nbr c ∗ Stg c 4 ∗ sl X c false 4 fullShare.right ∗ Zs c ∗ Main c 28 4 ∗ RQ c false 6 ∗ TQ c 0 4 ∗ sl X c false 5 fullShare.right)
    ⊢ iprop(((Stg c 6 ∗ sl X c false 4 fullShare.right ∗ Zs c ∗ Main c 28 5 ∗ stv X c 5 (org c false 5) (hf false 5) ∗ RQ c false 6 ∗ TQ c 0 5 ∗ sl X c false 5 fullShare.right) -∗ bwp c (k ⟨⟩) Q)
    -∗ bwp c (k0_part14 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h12 >>= k) Q) := by
  rw [k0_part14_eq_skeleton]; unfold k0_part14_skel
  simp only [semSignalWord, semWaitWord, smemLoad, smemLoadElt, Prog.lift, Prog.bind_op, Prog.bind_ret, Prog.pure_eq_ret, wp_deviceId]
  iintro ⟨#HI, #HN, HSG, Hrf4, HZ, HM, HRF, HTQ, Hrf5⟩ Hk
  ihave HV := (Stg_pop c 4 (by decide)) $$ HSG
  icases HV with ⟨HV, HSG⟩
  iapply (loc_start c mF4 mS4 (congrArg SemLoc.dma sL) (nrq _)) $$ [Hrf4 HV HZ]
  · iframe Hrf4 HV HZ
  iintro HFl
  iapply (loc_wait X Wt c 28 4 (by decide) sL (nrq _)) $$ [HM HFl]
  · iframe HI HM HFl
  iintro ⟨HM, HZ, Hrf4, HG⟩
  ihave #HE := (RQ_ent c false (j := 6) (n := 4) (by decide)) $$ HRF
  iapply (rel_send X Wt c 28 4 (by decide) (rm4 c) mS4 mR4 sR4 rR4 (ro1_4 c hq) (show fm 2 4 = (hf false 4) by decide)) $$ [HM HTQ HG]
  · iframe HI HN HE HM HTQ HG
  iintro ⟨HM, HTQ⟩
  iclear HE
  ihave HV := (Stg_pop c 5 (by decide)) $$ HSG
  icases HV with ⟨HV, HSG⟩
  iapply (loc_start c mF0 mS5 (congrArg SemLoc.dma sL) (nrq _)) $$ [Hrf5 HV HZ]
  · iframe Hrf5 HV HZ
  iintro HFl
  iapply (loc_wait X Wt c 28 5 (by decide) sL (nrq _)) $$ [HM HFl]
  · iframe HI HM HFl
  iintro ⟨HM, HZ, Hrf5, HG⟩
  iapply Hk
  iframe HSG Hrf4 HZ HM HG HRF HTQ Hrf5

theorem pt15 (c : Dev nD) (hq : cls c = 1) {k0_hw5 k0_h12} {k : _ → Prog (TpuEff nD τ sig (Elt F) Λ₀ .tc) α} :
    iprop(Invs X Wt κ ιs ∗ Nbr c ∗ RQ c false 6 ∗ Main c 28 5 ∗ TQ c 0 5 ∗ stv X c 5 (org c false 5) (hf false 5) ∗ Stg c 6 ∗ sl X c true 5 fullShare.right ∗ Zs c ∗ RQ c true 6 ∗ sl X c true 4 fullShare.right)
    ⊢ iprop(((RQ c false 6 ∗ Main c 28 7 ∗ TQ c 0 7 ∗ stv X c 7 (org c true 4) (hf true 4) ∗ Stg c 8 ∗ sl X c true 5 fullShare.right ∗ Zs c ∗ RQ c true 6 ∗ sl X c true 4 fullShare.right) -∗ bwp c (k ⟨⟩) Q)
    -∗ bwp c (k0_part15 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h12 >>= k) Q) := by
  rw [k0_part15_eq_skeleton]; unfold k0_part15_skel
  simp only [semSignalWord, semWaitWord, smemLoad, smemLoadElt, Prog.lift, Prog.bind_op, Prog.bind_ret, Prog.pure_eq_ret, wp_deviceId]
  iintro ⟨#HI, #HN, HRF, HM, HTQ, HG, HSG, Hrb5, HZ, HRB, Hrb4⟩ Hk
  ihave #HE := (RQ_ent c false (j := 6) (n := 5) (by decide)) $$ HRF
  iapply (rel_send X Wt c 28 5 (by decide) (rm5 c) mS5 mR5 sR5 rR5 (ro1_5 c hq) (show fm 2 5 = (hf false 5) by decide)) $$ [HM HTQ HG]
  · iframe HI HN HE HM HTQ HG
  iintro ⟨HM, HTQ⟩
  iclear HE
  ihave HV := (Stg_pop c 6 (by decide)) $$ HSG
  icases HV with ⟨HV, HSG⟩
  iapply (loc_start c mB0 mS6 (congrArg SemLoc.dma sL) (nrq _)) $$ [Hrb5 HV HZ]
  · iframe Hrb5 HV HZ
  iintro HFl
  iapply (loc_wait X Wt c 28 6 (by decide) sL (nrq _)) $$ [HM HFl]
  · iframe HI HM HFl
  iintro ⟨HM, HZ, Hrb5, HG⟩
  ihave #HE := (RQ_ent c true (j := 6) (n := 5) (by decide)) $$ HRB
  iapply (rel_send X Wt c 28 6 (by decide) (rm6 c) mS6 mR6 sR6 rR6 (ro1_6 c hq) (show fm 2 6 = (hf true 5) by decide)) $$ [HM HTQ HG]
  · iframe HI HN HE HM HTQ HG
  iintro ⟨HM, HTQ⟩
  iclear HE
  ihave HV := (Stg_pop c 7 (by decide)) $$ HSG
  icases HV with ⟨HV, HSG⟩
  iapply (loc_start c mB4 mS7 (congrArg SemLoc.dma sL) (nrq _)) $$ [Hrb4 HV HZ]
  · iframe Hrb4 HV HZ
  iintro HFl
  iapply (loc_wait X Wt c 28 7 (by decide) sL (nrq _)) $$ [HM HFl]
  · iframe HI HM HFl
  iintro ⟨HM, HZ, Hrb4, HG⟩
  iapply Hk
  iframe HRF HM HTQ HG HSG Hrb5 HZ HRB Hrb4

theorem pt16 (c : Dev nD) (hq : cls c = 2) {k0_hw5 k0_h13} {k : _ → Prog (TpuEff nD τ sig (Elt F) Λ₀ .tc) α} :
    iprop(Invs X Wt κ ιs ∗ Nbr c ∗ Stg c 4 ∗ sl X c true 5 fullShare.right ∗ Zs c ∗ Main c 28 4 ∗ RQ c true 6 ∗ TQ c 0 4 ∗ sl X c true 4 fullShare.right)
    ⊢ iprop(((Stg c 6 ∗ sl X c true 5 fullShare.right ∗ Zs c ∗ Main c 28 5 ∗ stv X c 5 (org c true 4) (hf true 4) ∗ RQ c true 6 ∗ TQ c 0 5 ∗ sl X c true 4 fullShare.right) -∗ bwp c (k ⟨⟩) Q)
    -∗ bwp c (k0_part16 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h13 >>= k) Q) := by
  rw [k0_part16_eq_skeleton]; unfold k0_part16_skel
  simp only [semSignalWord, semWaitWord, smemLoad, smemLoadElt, Prog.lift, Prog.bind_op, Prog.bind_ret, Prog.pure_eq_ret, wp_deviceId]
  iintro ⟨#HI, #HN, HSG, Hrb5, HZ, HM, HRB, HTQ, Hrb4⟩ Hk
  ihave HV := (Stg_pop c 4 (by decide)) $$ HSG
  icases HV with ⟨HV, HSG⟩
  iapply (loc_start c mB0 mS4 (congrArg SemLoc.dma sL) (nrq _)) $$ [Hrb5 HV HZ]
  · iframe Hrb5 HV HZ
  iintro HFl
  iapply (loc_wait X Wt c 28 4 (by decide) sL (nrq _)) $$ [HM HFl]
  · iframe HI HM HFl
  iintro ⟨HM, HZ, Hrb5, HG⟩
  ihave #HE := (RQ_ent c true (j := 6) (n := 5) (by decide)) $$ HRB
  iapply (rel_send X Wt c 28 4 (by decide) (rm4 c) mS4 mR4 sR4 rR4 (ro2_4 c hq) (show fm 2 4 = (hf true 5) by decide)) $$ [HM HTQ HG]
  · iframe HI HN HE HM HTQ HG
  iintro ⟨HM, HTQ⟩
  iclear HE
  ihave HV := (Stg_pop c 5 (by decide)) $$ HSG
  icases HV with ⟨HV, HSG⟩
  iapply (loc_start c mB4 mS5 (congrArg SemLoc.dma sL) (nrq _)) $$ [Hrb4 HV HZ]
  · iframe Hrb4 HV HZ
  iintro HFl
  iapply (loc_wait X Wt c 28 5 (by decide) sL (nrq _)) $$ [HM HFl]
  · iframe HI HM HFl
  iintro ⟨HM, HZ, Hrb4, HG⟩
  iapply Hk
  iframe HSG Hrb5 HZ HM HG HRB HTQ Hrb4

theorem pt17 (c : Dev nD) (hq : cls c = 2) {k0_hw5 k0_h13} {k : _ → Prog (TpuEff nD τ sig (Elt F) Λ₀ .tc) α} :
    iprop(Invs X Wt κ ιs ∗ Nbr c ∗ RQ c true 6 ∗ Main c 28 5 ∗ TQ c 0 5 ∗ stv X c 5 (org c true 4) (hf true 4) ∗ Stg c 6 ∗ sl X c false 4 fullShare.right ∗ Zs c ∗ RQ c false 6 ∗ sl X c false 5 fullShare.right)
    ⊢ iprop(((RQ c true 6 ∗ Main c 28 7 ∗ TQ c 0 7 ∗ stv X c 7 (org c false 5) (hf false 5) ∗ Stg c 8 ∗ sl X c false 4 fullShare.right ∗ Zs c ∗ RQ c false 6 ∗ sl X c false 5 fullShare.right) -∗ bwp c (k ⟨⟩) Q)
    -∗ bwp c (k0_part17 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h13 >>= k) Q) := by
  rw [k0_part17_eq_skeleton]; unfold k0_part17_skel
  simp only [semSignalWord, semWaitWord, smemLoad, smemLoadElt, Prog.lift, Prog.bind_op, Prog.bind_ret, Prog.pure_eq_ret, wp_deviceId]
  iintro ⟨#HI, #HN, HRB, HM, HTQ, HG, HSG, Hrf4, HZ, HRF, Hrf5⟩ Hk
  ihave #HE := (RQ_ent c true (j := 6) (n := 4) (by decide)) $$ HRB
  iapply (rel_send X Wt c 28 5 (by decide) (rm5 c) mS5 mR5 sR5 rR5 (ro2_5 c hq) (show fm 2 5 = (hf true 4) by decide)) $$ [HM HTQ HG]
  · iframe HI HN HE HM HTQ HG
  iintro ⟨HM, HTQ⟩
  iclear HE
  ihave HV := (Stg_pop c 6 (by decide)) $$ HSG
  icases HV with ⟨HV, HSG⟩
  iapply (loc_start c mF4 mS6 (congrArg SemLoc.dma sL) (nrq _)) $$ [Hrf4 HV HZ]
  · iframe Hrf4 HV HZ
  iintro HFl
  iapply (loc_wait X Wt c 28 6 (by decide) sL (nrq _)) $$ [HM HFl]
  · iframe HI HM HFl
  iintro ⟨HM, HZ, Hrf4, HG⟩
  ihave #HE := (RQ_ent c false (j := 6) (n := 4) (by decide)) $$ HRF
  iapply (rel_send X Wt c 28 6 (by decide) (rm6 c) mS6 mR6 sR6 rR6 (ro2_6 c hq) (show fm 2 6 = (hf false 4) by decide)) $$ [HM HTQ HG]
  · iframe HI HN HE HM HTQ HG
  iintro ⟨HM, HTQ⟩
  iclear HE
  ihave HV := (Stg_pop c 7 (by decide)) $$ HSG
  icases HV with ⟨HV, HSG⟩
  iapply (loc_start c mF0 mS7 (congrArg SemLoc.dma sL) (nrq _)) $$ [Hrf5 HV HZ]
  · iframe Hrf5 HV HZ
  iintro HFl
  iapply (loc_wait X Wt c 28 7 (by decide) sL (nrq _)) $$ [HM HFl]
  · iframe HI HM HFl
  iintro ⟨HM, HZ, Hrf5, HG⟩
  iapply Hk
  iframe HRB HM HTQ HG HSG Hrf4 HZ HRF Hrf5

theorem pt18 (c : Dev nD) (hq : cls c = 3) {k0_hw5 k0_h14} {k : _ → Prog (TpuEff nD τ sig (Elt F) Λ₀ .tc) α} :
    iprop(Invs X Wt κ ιs ∗ Nbr c ∗ Stg c 8 ∗ sl X c true 5 fullShare.right ∗ Zs c ∗ Main c 28 8 ∗ RQ c true 6 ∗ TQ c 0 8 ∗ sl X c true 4 fullShare.right)
    ⊢ iprop(((Stg c 10 ∗ sl X c true 5 fullShare.right ∗ Zs c ∗ Main c 28 9 ∗ stv X c 9 (org c true 4) (hf true 4) ∗ RQ c true 6 ∗ TQ c 0 9 ∗ sl X c true 4 fullShare.right) -∗ bwp c (k ⟨⟩) Q)
    -∗ bwp c (k0_part18 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h14 >>= k) Q) := by
  rw [k0_part18_eq_skeleton]; unfold k0_part18_skel
  simp only [semSignalWord, semWaitWord, smemLoad, smemLoadElt, Prog.lift, Prog.bind_op, Prog.bind_ret, Prog.pure_eq_ret, wp_deviceId]
  iintro ⟨#HI, #HN, HSG, Hrb5, HZ, HM, HRB, HTQ, Hrb4⟩ Hk
  ihave HV := (Stg_pop c 8 (by decide)) $$ HSG
  icases HV with ⟨HV, HSG⟩
  iapply (loc_start c mB0 mS8 (congrArg SemLoc.dma sL) (nrq _)) $$ [Hrb5 HV HZ]
  · iframe Hrb5 HV HZ
  iintro HFl
  iapply (loc_wait X Wt c 28 8 (by decide) sL (nrq _)) $$ [HM HFl]
  · iframe HI HM HFl
  iintro ⟨HM, HZ, Hrb5, HG⟩
  ihave #HE := (RQ_ent c true (j := 6) (n := 5) (by decide)) $$ HRB
  iapply (rel_send X Wt c 28 8 (by decide) (rm8 c) mS8 mR8 sR8 rR8 (ro3_8 c hq) (show fm 2 8 = (hf true 5) by decide)) $$ [HM HTQ HG]
  · iframe HI HN HE HM HTQ HG
  iintro ⟨HM, HTQ⟩
  iclear HE
  ihave HV := (Stg_pop c 9 (by decide)) $$ HSG
  icases HV with ⟨HV, HSG⟩
  iapply (loc_start c mB4 mS9 (congrArg SemLoc.dma sL) (nrq _)) $$ [Hrb4 HV HZ]
  · iframe Hrb4 HV HZ
  iintro HFl
  iapply (loc_wait X Wt c 28 9 (by decide) sL (nrq _)) $$ [HM HFl]
  · iframe HI HM HFl
  iintro ⟨HM, HZ, Hrb4, HG⟩
  iapply Hk
  iframe HSG Hrb5 HZ HM HG HRB HTQ Hrb4

theorem pt19 (c : Dev nD) (hq : cls c = 1) {k0_hw5 k0_h15} {k : _ → Prog (TpuEff nD τ sig (Elt F) Λ₀ .tc) α} :
    iprop(Invs X Wt κ ιs ∗ Nbr c ∗ Stg c 8 ∗ sl X c true 7 fullShare.right ∗ Zs c ∗ Main c 34 8 ∗ RQ c true 8 ∗ TQ c 0 8 ∗ sl X c true 6 fullShare.right)
    ⊢ iprop(((Stg c 10 ∗ sl X c true 7 fullShare.right ∗ Zs c ∗ Main c 34 9 ∗ stv X c 9 (org c true 6) (hf true 6) ∗ RQ c true 8 ∗ TQ c 0 9 ∗ sl X c true 6 fullShare.right) -∗ bwp c (k ⟨⟩) Q)
    -∗ bwp c (k0_part19 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h15 >>= k) Q) := by
  rw [k0_part19_eq_skeleton]; unfold k0_part19_skel
  simp only [semSignalWord, semWaitWord, smemLoad, smemLoadElt, Prog.lift, Prog.bind_op, Prog.bind_ret, Prog.pure_eq_ret, wp_deviceId]
  iintro ⟨#HI, #HN, HSG, Hrb7, HZ, HM, HRB, HTQ, Hrb6⟩ Hk
  ihave HV := (Stg_pop c 8 (by decide)) $$ HSG
  icases HV with ⟨HV, HSG⟩
  iapply (loc_start c mB2 mS8 (congrArg SemLoc.dma sL) (nrq _)) $$ [Hrb7 HV HZ]
  · iframe Hrb7 HV HZ
  iintro HFl
  iapply (loc_wait X Wt c 34 8 (by decide) sL (nrq _)) $$ [HM HFl]
  · iframe HI HM HFl
  iintro ⟨HM, HZ, Hrb7, HG⟩
  ihave #HE := (RQ_ent c true (j := 8) (n := 7) (by decide)) $$ HRB
  iapply (rel_send X Wt c 34 8 (by decide) (rm8 c) mS8 mR8 sR8 rR8 (ro1_8 c hq) (show fm 2 8 = (hf true 7) by decide)) $$ [HM HTQ HG]
  · iframe HI HN HE HM HTQ HG
  iintro ⟨HM, HTQ⟩
  iclear HE
  ihave HV := (Stg_pop c 9 (by decide)) $$ HSG
  icases HV with ⟨HV, HSG⟩
  iapply (loc_start c mB1 mS9 (congrArg SemLoc.dma sL) (nrq _)) $$ [Hrb6 HV HZ]
  · iframe Hrb6 HV HZ
  iintro HFl
  iapply (loc_wait X Wt c 34 9 (by decide) sL (nrq _)) $$ [HM HFl]
  · iframe HI HM HFl
  iintro ⟨HM, HZ, Hrb6, HG⟩
  iapply Hk
  iframe HSG Hrb7 HZ HM HG HRB HTQ Hrb6

theorem pt20 (c : Dev nD) (hq : cls c = 2) {k0_hw5 k0_h16} {k : _ → Prog (TpuEff nD τ sig (Elt F) Λ₀ .tc) α} :
    iprop(Invs X Wt κ ιs ∗ Nbr c ∗ Stg c 8 ∗ sl X c false 6 fullShare.right ∗ Zs c ∗ Main c 34 8 ∗ RQ c false 8 ∗ TQ c 0 8 ∗ sl X c false 7 fullShare.right)
    ⊢ iprop(((Stg c 10 ∗ sl X c false 6 fullShare.right ∗ Zs c ∗ Main c 34 9 ∗ stv X c 9 (org c false 7) (hf false 7) ∗ RQ c false 8 ∗ TQ c 0 9 ∗ sl X c false 7 fullShare.right) -∗ bwp c (k ⟨⟩) Q)
    -∗ bwp c (k0_part20 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 k0_h16 >>= k) Q) := by
  rw [k0_part20_eq_skeleton]; unfold k0_part20_skel
  simp only [semSignalWord, semWaitWord, smemLoad, smemLoadElt, Prog.lift, Prog.bind_op, Prog.bind_ret, Prog.pure_eq_ret, wp_deviceId]
  iintro ⟨#HI, #HN, HSG, Hrf6, HZ, HM, HRF, HTQ, Hrf7⟩ Hk
  ihave HV := (Stg_pop c 8 (by decide)) $$ HSG
  icases HV with ⟨HV, HSG⟩
  iapply (loc_start c mF1 mS8 (congrArg SemLoc.dma sL) (nrq _)) $$ [Hrf6 HV HZ]
  · iframe Hrf6 HV HZ
  iintro HFl
  iapply (loc_wait X Wt c 34 8 (by decide) sL (nrq _)) $$ [HM HFl]
  · iframe HI HM HFl
  iintro ⟨HM, HZ, Hrf6, HG⟩
  ihave #HE := (RQ_ent c false (j := 8) (n := 6) (by decide)) $$ HRF
  iapply (rel_send X Wt c 34 8 (by decide) (rm8 c) mS8 mR8 sR8 rR8 (ro2_8 c hq) (show fm 2 8 = (hf false 6) by decide)) $$ [HM HTQ HG]
  · iframe HI HN HE HM HTQ HG
  iintro ⟨HM, HTQ⟩
  iclear HE
  ihave HV := (Stg_pop c 9 (by decide)) $$ HSG
  icases HV with ⟨HV, HSG⟩
  iapply (loc_start c mF2 mS9 (congrArg SemLoc.dma sL) (nrq _)) $$ [Hrf7 HV HZ]
  · iframe Hrf7 HV HZ
  iintro HFl
  iapply (loc_wait X Wt c 34 9 (by decide) sL (nrq _)) $$ [HM HFl]
  · iframe HI HM HFl
  iintro ⟨HM, HZ, Hrf7, HG⟩
  iapply Hk
  iframe HSG Hrf6 HZ HM HG HRF HTQ Hrf7

end Cert.Proof
end
-- ==== Proof.BodyB.lean ====
module

public import proofs.«01_k».proof.Proof.BodyS

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt22 (c : Dev nD) {k0_hw1 k0_hw2 k0_hw5} {k : _ → Prog (TpuEff nD τ sig (Elt F) Λ₀ .tc) α} :
    iprop(Invs X Wt κ ιs ∗ Nbr c ∗ Main c 5 (tc (cls c) 0) ∗ SQ c false 0 1 ∗ CQ c false 0 ∗ xq X c (hf false 1) (xsh false) ∗ SQ c true 0 0 ∗ CQ c true 0 ∗ xq X c (hf true 0) (xsh true) ∗ xq X c (hf true 1) (xsh true) ∗ TQ c 0 (tc (cls c) 0) ∗ Stg c (tc (cls c) 0) ∗ xq X c (fm 2 0) xst ∗ Zs c ∗ xq X c (fm 2 1) xst)
    ⊢ iprop(((Main c 8 (tc (cls c) 1) ∗ SQ c false 0 2 ∗ CQ c false 0 ∗ SQ c true 0 2 ∗ CQ c true 0 ∗ TQ c 0 (tc (cls c) 1) ∗ Stg c (tc (cls c) 1) ∗ xq X c (fm 2 0) xst ∗ Zs c ∗ xq X c (fm 2 1) xst) -∗ bwp c (k ⟨⟩) Q)
    -∗ bwp c (k0_part22 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 (mw c 22) (mw c 23) (mw c 24) k0_hw5 >>= k) Q) := by
  rw [k0_part22_eq_skeleton]; unfold k0_part22_skel
  by_cases hq0 : cls c = 0
  · have hq := hq0
    rw [(by rw [hq]; decide : tc (cls c) 0 = 0), (by rw [hq]; decide : tc (cls c) 1 = 2)]
    simp only [dif_pos ((cd1 c).2 hq0), semSignalWord, semWaitWord, smemLoad, smemLoadElt, Prog.lift, Prog.bind_op, Prog.bind_ret, Prog.pure_eq_ret, wp_deviceId, Prog.bind_assoc]
    iintro ⟨#HI, #HN, HM, HSF, HCF, Hxf1, HSB, HCB, Hxb0, Hxb1, HTQ, HSG, Hy0, HZ, Hy1⟩ Hk
    iapply (ring_send0 X Wt c false 1 5 0 (by decide) rfl (by decide) (dv0 c) mX1 mF1 sF1 rF1) $$ [HM HSF HCF Hxf1]
    · iframe HI HN HM HSF HCF Hxf1
    iintro ⟨HM, HSF, HCF⟩
    iapply (ring_send0 X Wt c true 0 6 0 (by decide) rfl (by decide) (dv1 c) mX1 mB0 sB0 rB0) $$ [HM HSB HCB Hxb0]
    · iframe HI HN HM HSB HCB Hxb0
    iintro ⟨HM, HSB, HCB⟩
    iapply (ring_send0 X Wt c true 1 7 0 (by decide) rfl (by decide) (dv1 c) mX0 mB1 sB1 rB1) $$ [HM HSB HCB Hxb1]
    · iframe HI HN HM HSB HCB Hxb1
    iintro ⟨HM, HSB, HCB⟩
    iapply (pt1 X Wt c hq) $$ [HSG Hy0 HZ HM HTQ Hy1]
    · iframe HI HN HSG Hy0 HZ HM HTQ Hy1
    iintro ⟨HSG, Hy0, HZ, HM, HG, HTQ, Hy1⟩
    ihave #HE := (Nbr_self c) $$ HN
    iapply (rel_send X Wt c 8 1 (by decide) (rm1 c) mS1 mR1 sR1 rR1 (ro0_1 c hq) (show fm 2 1 = (fm 2 1) by decide)) $$ [HM HTQ HG]
    · iframe HI HN HE HM HTQ HG
    iintro ⟨HM, HTQ⟩
    iclear HE
    iapply Hk
    iframe HM HSF HCF HSB HCB HTQ HSG Hy0 HZ Hy1
  simp only [dif_neg (fun h => hq0 ((cd1 c).1 h)), semSignalWord, semWaitWord, smemLoad, smemLoadElt, Prog.lift, Prog.bind_op, Prog.bind_ret, Prog.pure_eq_ret, wp_deviceId]
  rw [show tc (cls c) 1 = tc (cls c) 0 from (by decide : ∀ q : Fin 4, q ≠ 0 → tc q 1 = tc q 0) _ hq0]
  iintro ⟨#HI, #HN, HM, HSF, HCF, Hxf1, HSB, HCB, Hxb0, Hxb1, HTQ, HSG, Hy0, HZ, Hy1⟩ Hk
  iapply (ring_send0 X Wt c false 1 5 (tc (cls c) 0) (by decide) rfl (by decide) (dv0 c) mX1 mF1 sF1 rF1) $$ [HM HSF HCF Hxf1]
  · iframe HI HN HM HSF HCF Hxf1
  iintro ⟨HM, HSF, HCF⟩
  iapply (ring_send0 X Wt c true 0 6 (tc (cls c) 0) (by decide) rfl (by decide) (dv1 c) mX1 mB0 sB0 rB0) $$ [HM HSB HCB Hxb0]
  · iframe HI HN HM HSB HCB Hxb0
  iintro ⟨HM, HSB, HCB⟩
  iapply (ring_send0 X Wt c true 1 7 (tc (cls c) 0) (by decide) rfl (by decide) (dv1 c) mX0 mB1 sB1 rB1) $$ [HM HSB HCB Hxb1]
  · iframe HI HN HM HSB HCB Hxb1
  iintro ⟨HM, HSB, HCB⟩
  iapply Hk
  iframe HM HSF HCF HSB HCB HTQ HSG Hy0 HZ Hy1

theorem pt23 (c : Dev nD) {k0_hw5} {k : _ → Prog (TpuEff nD τ sig (Elt F) Λ₀ .tc) α} :
    iprop(Invs X Wt κ ιs ∗ Nbr c ∗ Main c 8 (tc (cls c) 1) ∗ TQ c 0 (tc (cls c) 1) ∗ Stg c (tc (cls c) 1) ∗ xwl X c ∗ wwl Wt c ∗ Out0 c ∗ RQ c false 0 ∗ SQ c false 0 2 ∗ xq X c (fm 2 0) xst ∗ Zs c ∗ xq X c (fm 2 1) xst)
    ⊢ iprop(((Main c 8 (tc (cls c) 2) ∗ TQ c 0 (tc (cls c) 2) ∗ Stg c (tc (cls c) 2) ∗ xwl X c ∗ wwl Wt c ∗ OutQ X Wt c 0 ∗ RQ c false 1 ∗ sl X c false 0 fullShare.left ∗ sl X c false 0 fullShare.right ∗ SQ c false 1 2 ∗ xq X c (hf false 0) (xsh false) ∗ xq X c (fm 2 0) xst ∗ Zs c ∗ xq X c (fm 2 1) xst) -∗ bwp c (k (rmx X Wt c 0)) Q)
    -∗ bwp c (k0_part23 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 c (Scalar.remsi (Scalar.divsi (Dev.word c) 1#32) 16#32) >>= k) Q) := by
  rw [k0_part23_eq_skeleton]; unfold k0_part23_skel
  by_cases hq0 : cls c = 3
  · have hq := hq0
    rw [(by rw [hq]; decide : tc (cls c) 1 = 0), (by rw [hq]; decide : tc (cls c) 2 = 2)]
    simp only [dif_pos ((cd2 c).2 hq0), semSignalWord, semWaitWord, smemLoad, smemLoadElt, Prog.lift, Prog.bind_op, Prog.bind_ret, Prog.pure_eq_ret, wp_deviceId, Prog.bind_assoc]
    iintro ⟨#HI, #HN, HM, HTQ, HSG, HX, HW, HO, HRF, HSF, Hy0, HZ, Hy1⟩ Hk
    iapply (pt2 X Wt c hq) $$ [HSG Hy0 HZ HM HTQ Hy1]
    · iframe HI HN HSG Hy0 HZ HM HTQ Hy1
    iintro ⟨HSG, Hy0, HZ, HM, HG, HTQ, Hy1⟩
    ihave #HE := (Nbr_self c) $$ HN
    iapply (rel_send X Wt c 8 1 (by decide) (rm1 c) mS1 mR1 sR1 rR1 (ro3_1 c hq) (show fm 2 1 = (fm 2 1) by decide)) $$ [HM HTQ HG]
    · iframe HI HN HE HM HTQ HG
    iintro ⟨HM, HTQ⟩
    iclear HE
    iapply (ld_x c z2) $$ [HX]
    · iexact HX
    iintro HX
    iapply (ld_w c z2) $$ [HW]
    · iexact HW
    iintro HW
    iapply (ld_dead0 c) $$ HO
    iintro %vd HO
    iapply (st_own X Wt c (o1 c) rfl) $$ HO
    iintro HO
    iapply (ring_recv X Wt c false 0 8 2 (by decide) (by decide) rF0 (nrq _)) $$ [HM HRF]
    · iframe HI HM HRF
    iintro ⟨HM, HRF, Hlf0, Hrf0⟩
    iapply (send_wait0 X Wt c false 0 2 8 2 (by decide) (by decide) (by decide) sF0 (nrq _)) $$ [HM HSF]
    · iframe HI HM HSF
    iintro ⟨HM, HSF, Hxf0⟩
    iapply Hk
    iframe HM HTQ HSG HX HW HO HRF Hlf0 Hrf0 HSF Hxf0 Hy0 HZ Hy1
  simp only [dif_neg (fun h => hq0 ((cd2 c).1 h)), semSignalWord, semWaitWord, smemLoad, smemLoadElt, Prog.lift, Prog.bind_op, Prog.bind_ret, Prog.pure_eq_ret, wp_deviceId]
  rw [show tc (cls c) 2 = tc (cls c) 1 from (by decide : ∀ q : Fin 4, q ≠ 3 → tc q 2 = tc q 1) _ hq0]
  iintro ⟨#HI, #HN, HM, HTQ, HSG, HX, HW, HO, HRF, HSF, Hy0, HZ, Hy1⟩ Hk
  iapply (ld_x c z2) $$ [HX]
  · iexact HX
  iintro HX
  iapply (ld_w c z2) $$ [HW]
  · iexact HW
  iintro HW
  iapply (ld_dead0 c) $$ HO
  iintro %vd HO
  iapply (st_own X Wt c (o1 c) rfl) $$ HO
  iintro HO
  iapply (ring_recv X Wt c false 0 8 (tc (cls c) 1) (by decide) (bl c (by decide)) rF0 (nrq _)) $$ [HM HRF]
  · iframe HI HM HRF
  iintro ⟨HM, HRF, Hlf0, Hrf0⟩
  iapply (send_wait0 X Wt c false 0 2 8 (tc (cls c) 1) (by decide) (by decide) (bl c (by decide)) sF0 (nrq _)) $$ [HM HSF]
  · iframe HI HM HSF
  iintro ⟨HM, HSF, Hxf0⟩
  iapply Hk
  iframe HM HTQ HSG HX HW HO HRF Hlf0 Hrf0 HSF Hxf0 Hy0 HZ Hy1

theorem pt27 (c : Dev nD) {k0_hw2 k0_hw5} {k : _ → Prog (TpuEff nD τ sig (Elt F) Λ₀ .tc) α} :
    iprop(Invs X Wt κ ιs ∗ Nbr c ∗ Main c 11 (tc (cls c) 2) ∗ SQ c true 1 3 ∗ CQ c true 0 ∗ RQ c true 2 ∗ sl X c true 1 fullShare.left ∗ TQ c 0 (tc (cls c) 2) ∗ Stg c (tc (cls c) 2) ∗ sl X c true 1 fullShare.right ∗ Zs c ∗ sl X c true 0 fullShare.right ∗ sl X c false 0 fullShare.right ∗ RQ c false 2 ∗ sl X c false 1 fullShare.right)
    ⊢ iprop(((Main c 12 (tc (cls c) 3) ∗ SQ c true 2 4 ∗ xq X c (hf true 1) (xsh true) ∗ CQ c true 0 ∗ RQ c true 2 ∗ TQ c 0 (tc (cls c) 3) ∗ Stg c (tc (cls c) 3) ∗ sl X c true 1 fullShare.right ∗ Zs c ∗ sl X c true 0 fullShare.right ∗ sl X c false 0 fullShare.right ∗ RQ c false 2 ∗ sl X c false 1 fullShare.right) -∗ bwp c (k (Scalar.extui (Scalar.cmpi .eq (mw c 24) 1#32))) Q)
    -∗ bwp c (k0_part27 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 1) k0_hw2 (mw c 22) (mw c 23) (mw c 24) k0_hw5 >>= k) Q) := by
  rw [k0_part27_eq_skeleton]; unfold k0_part27_skel
  by_cases hq0 : cls c = 0
  · have hq := hq0
    rw [(by rw [hq]; decide : tc (cls c) 2 = 2), (by rw [hq]; decide : tc (cls c) 3 = 6)]
    simp only [dif_pos ((cd3 c).2 hq0), semSignalWord, semWaitWord, smemLoad, smemLoadElt, Prog.lift, Prog.bind_op, Prog.bind_ret, Prog.pure_eq_ret, wp_deviceId, Prog.bind_assoc]
    iintro ⟨#HI, #HN, HM, HSB, HCB, HRB, Hlb1, HTQ, HSG, Hrb1, HZ, Hrb0, Hrf0, HRF, Hrf1⟩ Hk
    iapply (send_wait0 X Wt c true 1 3 11 2 (by decide) (by decide) (by decide) sB1 (nrq _)) $$ [HM HSB]
    · iframe HI HM HSB
    iintro ⟨HM, HSB, Hxb1⟩
    iapply (ring_send1 X Wt c true 1 11 2 0 2 2 (by decide) rfl (by decide) (by decide) (by decide) (by decide) (by decide) (dv1 c) mB1 mB3 sB3 rB3) $$ [HM HSB HCB HRB Hlb1]
    · iframe HI HN HM HSB HCB HRB Hlb1
    iintro ⟨HM, HSB, HCB, HRB⟩
    iapply (pt3 X Wt c hq) $$ [HSG Hrb1 HZ HM HRB HTQ Hrb0]
    · iframe HI HN HSG Hrb1 HZ HM HRB HTQ Hrb0
    iintro ⟨HSG, Hrb1, HZ, HM, HG, HRB, HTQ, Hrb0⟩
    iapply (pt4 X Wt c hq) $$ [HRB HM HTQ HG HSG Hrf0 HZ HRF Hrf1]
    · iframe HI HN HRB HM HTQ HG HSG Hrf0 HZ HRF Hrf1
    iintro ⟨HRB, HM, HTQ, HG, HSG, Hrf0, HZ, HRF, Hrf1⟩
    ihave #HE := (RQ_ent c false (j := 2) (n := 1) (by decide)) $$ HRF
    iapply (rel_send X Wt c 12 5 (by decide) (rm5 c) mS5 mR5 sR5 rR5 (ro0_5 c hq) (show fm 2 5 = (hf false 1) by decide)) $$ [HM HTQ HG]
    · iframe HI HN HE HM HTQ HG
    iintro ⟨HM, HTQ⟩
    iclear HE
    iapply Hk
    iframe HM HSB Hxb1 HCB HRB HTQ HSG Hrb1 HZ Hrb0 Hrf0 HRF Hrf1
  simp only [dif_neg (fun h => hq0 ((cd3 c).1 h)), semSignalWord, semWaitWord, smemLoad, smemLoadElt, Prog.lift, Prog.bind_op, Prog.bind_ret, Prog.pure_eq_ret, wp_deviceId]
  rw [show tc (cls c) 3 = tc (cls c) 2 from (by decide : ∀ q : Fin 4, q ≠ 0 → tc q 3 = tc q 2) _ hq0]
  iintro ⟨#HI, #HN, HM, HSB, HCB, HRB, Hlb1, HTQ, HSG, Hrb1, HZ, Hrb0, Hrf0, HRF, Hrf1⟩ Hk
  iapply (send_wait0 X Wt c true 1 3 11 (tc (cls c) 2) (by decide) (by decide) (bl c (by decide)) sB1 (nrq _)) $$ [HM HSB]
  · iframe HI HM HSB
  iintro ⟨HM, HSB, Hxb1⟩
  iapply (ring_send1 X Wt c true 1 11 (tc (cls c) 2) 0 2 2 (by decide) rfl (by decide) (by decide) (by decide) (by decide) (by decide) (dv1 c) mB1 mB3 sB3 rB3) $$ [HM HSB HCB HRB Hlb1]
  · iframe HI HN HM HSB HCB HRB Hlb1
  iintro ⟨HM, HSB, HCB, HRB⟩
  iapply Hk
  iframe HM HSB Hxb1 HCB HRB HTQ HSG Hrb1 HZ Hrb0 Hrf0 HRF Hrf1

theorem pt28 (c : Dev nD) {k0_hw5} {k : _ → Prog (TpuEff nD τ sig (Elt F) Λ₀ .tc) α} :
    iprop(Invs X Wt κ ιs ∗ Nbr c ∗ Main c 12 (tc (cls c) 3) ∗ TQ c 0 (tc (cls c) 3) ∗ Stg c (tc (cls c) 3) ∗ tbl c ∗ sl X c false 0 fullShare.right ∗ Zs c ∗ RQ c false 2 ∗ sl X c false 1 fullShare.right ∗ sl X c true 1 fullShare.right ∗ RQ c true 2 ∗ sl X c true 0 fullShare.right)
    ⊢ iprop(((Main c 12 (tc (cls c) 6) ∗ TQ c 0 (tc (cls c) 6) ∗ Stg c (tc (cls c) 6) ∗ tbl c ∗ sl X c false 0 fullShare.right ∗ Zs c ∗ RQ c false 2 ∗ sl X c false 1 fullShare.right ∗ sl X c true 1 fullShare.right ∗ RQ c true 2 ∗ sl X c true 0 fullShare.right) -∗ bwp c (k ⟨(mw c 3), (ck8 c)⟩) Q)
    -∗ bwp c (k0_part28 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 (Scalar.extui (Scalar.cmpi .eq (mw c 24) 1#32)) >>= k) Q) := by
  rw [k0_part28_eq_skeleton]; unfold k0_part28_skel
  by_cases hq0 : cls c = 1
  · have hq := hq0
    rw [(by rw [hq]; decide : tc (cls c) 3 = 0), (by rw [hq]; decide : tc (cls c) 6 = 2)]
    simp only [dif_pos ((cd4 c).2 hq0), dif_neg (fun h => absurd (((cd5 c).1 h).symm.trans hq0) (by decide)), dif_neg (fun h => absurd (((cd6 c).1 h).symm.trans hq0) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf0, HZ, HRF, Hrf1, Hrb1, HRB, Hrb0⟩ Hk
    iapply (pt5 X Wt c hq) $$ [HSG Hrf0 HZ HM HRF HTQ Hrf1]
    · iframe HI HN HSG Hrf0 HZ HM HRF HTQ Hrf1
    iintro ⟨HSG, Hrf0, HZ, HM, HG, HRF, HTQ, Hrf1⟩
    ihave #HE := (RQ_ent c false (j := 2) (n := 1) (by decide)) $$ HRF
    iapply (rel_send X Wt c 12 1 (by decide) (rm1 c) mS1 mR1 sR1 rR1 (ro1_1 c hq) (show fm 2 1 = (hf false 1) by decide)) $$ [HM HTQ HG]
    · iframe HI HN HE HM HTQ HG
    iintro ⟨HM, HTQ⟩
    iclear HE
    iapply (ld_t c 3 rfl) $$ [HT]
    · iexact HT
    iintro HT
    iapply (wp_assume 𝒱₀ (c : Thread nD τ) none Set.univ (ck8 c))
    iapply Hk
    iframe HM HTQ HSG HT Hrf0 HZ HRF Hrf1 Hrb1 HRB Hrb0
  by_cases hq1 : cls c = 2
  · have hq := hq1
    rw [(by rw [hq]; decide : tc (cls c) 3 = 0), (by rw [hq]; decide : tc (cls c) 6 = 2)]
    simp only [dif_pos ((cd5 c).2 hq1), dif_neg (fun h => absurd (((cd4 c).1 h).symm.trans hq1) (by decide)), dif_neg (fun h => absurd (((cd6 c).1 h).symm.trans hq1) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf0, HZ, HRF, Hrf1, Hrb1, HRB, Hrb0⟩ Hk
    iapply (pt6 X Wt c hq) $$ [HSG Hrb1 HZ HM HRB HTQ Hrb0]
    · iframe HI HN HSG Hrb1 HZ HM HRB HTQ Hrb0
    iintro ⟨HSG, Hrb1, HZ, HM, HG, HRB, HTQ, Hrb0⟩
    ihave #HE := (RQ_ent c true (j := 2) (n := 0) (by decide)) $$ HRB
    iapply (rel_send X Wt c 12 1 (by decide) (rm1 c) mS1 mR1 sR1 rR1 (ro2_1 c hq) (show fm 2 1 = (hf true 0) by decide)) $$ [HM HTQ HG]
    · iframe HI HN HE HM HTQ HG
    iintro ⟨HM, HTQ⟩
    iclear HE
    iapply (ld_t c 3 rfl) $$ [HT]
    · iexact HT
    iintro HT
    iapply (wp_assume 𝒱₀ (c : Thread nD τ) none Set.univ (ck8 c))
    iapply Hk
    iframe HM HTQ HSG HT Hrf0 HZ HRF Hrf1 Hrb1 HRB Hrb0
  by_cases hq2 : cls c = 3
  · have hq := hq2
    rw [(by rw [hq]; decide : tc (cls c) 3 = 2), (by rw [hq]; decide : tc (cls c) 6 = 6)]
    simp only [dif_pos ((cd6 c).2 hq2), dif_neg (fun h => absurd (((cd4 c).1 h).symm.trans hq2) (by decide)), dif_neg (fun h => absurd (((cd5 c).1 h).symm.trans hq2) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf0, HZ, HRF, Hrf1, Hrb1, HRB, Hrb0⟩ Hk
    iapply (pt7 X Wt c hq) $$ [HSG Hrf0 HZ HM HRF HTQ Hrf1]
    · iframe HI HN HSG Hrf0 HZ HM HRF HTQ Hrf1
    iintro ⟨HSG, Hrf0, HZ, HM, HG, HRF, HTQ, Hrf1⟩
    iapply (pt8 X Wt c hq) $$ [HRF HM HTQ HG HSG Hrb1 HZ HRB Hrb0]
    · iframe HI HN HRF HM HTQ HG HSG Hrb1 HZ HRB Hrb0
    iintro ⟨HRF, HM, HTQ, HG, HSG, Hrb1, HZ, HRB, Hrb0⟩
    ihave #HE := (RQ_ent c true (j := 2) (n := 0) (by decide)) $$ HRB
    iapply (rel_send X Wt c 12 5 (by decide) (rm5 c) mS5 mR5 sR5 rR5 (ro3_5 c hq) (show fm 2 5 = (hf true 0) by decide)) $$ [HM HTQ HG]
    · iframe HI HN HE HM HTQ HG
    iintro ⟨HM, HTQ⟩
    iclear HE
    iapply (ld_t c 3 rfl) $$ [HT]
    · iexact HT
    iintro HT
    iapply (wp_assume 𝒱₀ (c : Thread nD τ) none Set.univ (ck8 c))
    iapply Hk
    iframe HM HTQ HSG HT Hrf0 HZ HRF Hrf1 Hrb1 HRB Hrb0
  simp only [dif_neg (fun h => hq0 ((cd4 c).1 h)), dif_neg (fun h => hq1 ((cd5 c).1 h)), dif_neg (fun h => hq2 ((cd6 c).1 h)), semSignalWord, semWaitWord, smemLoad, smemLoadElt, Prog.lift, Prog.bind_op, Prog.bind_ret, Prog.pure_eq_ret, wp_deviceId]
  rw [show tc (cls c) 6 = tc (cls c) 3 from (by decide : ∀ q : Fin 4, q ≠ 1 → q ≠ 2 → q ≠ 3 → tc q 6 = tc q 3) _ hq0 hq1 hq2]
  iintro ⟨#HI, #HN, HM, HTQ, HSG, HT, Hrf0, HZ, HRF, Hrf1, Hrb1, HRB, Hrb0⟩ Hk
  iapply (ld_t c 3 rfl) $$ [HT]
  · iexact HT
  iintro HT
  iapply (wp_assume 𝒱₀ (c : Thread nD τ) none Set.univ (ck8 c))
  iapply Hk
  iframe HM HTQ HSG HT Hrf0 HZ HRF Hrf1 Hrb1 HRB Hrb0

theorem pt34 (c : Dev nD) {k0_hw1 k0_hw2 k0_hw5} {k : _ → Prog (TpuEff nD τ sig (Elt F) Λ₀ .tc) α} :
    iprop(Invs X Wt κ ιs ∗ Nbr c ∗ Main c 18 (tc (cls c) 6) ∗ SQ c true 3 5 ∗ sl X c true 1 fullShare.right ∗ RQ c true 4 ∗ RDq c true 1 ∗ CQ c true 0 ∗ sl X c true 3 fullShare.left ∗ TQ c 0 (tc (cls c) 6) ∗ Stg c (tc (cls c) 6) ∗ sl X c false 2 fullShare.right ∗ Zs c ∗ RQ c false 4 ∗ sl X c false 3 fullShare.right)
    ⊢ iprop(((Main c 20 (tc (cls c) 7) ∗ SQ c true 4 6 ∗ RQ c true 4 ∗ RDq c true 2 ∗ CQ c true 1 ∗ TQ c 0 (tc (cls c) 7) ∗ Stg c (tc (cls c) 7) ∗ sl X c false 2 fullShare.right ∗ Zs c ∗ RQ c false 4 ∗ sl X c false 3 fullShare.right) -∗ bwp c (k 1#32) Q)
    -∗ bwp c (k0_part34 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 (mw c 22) (mw c 23) (mw c 24) k0_hw5 >>= k) Q) := by
  rw [k0_part34_eq_skeleton]; unfold k0_part34_skel
  by_cases hq0 : cls c = 0
  · have hq := hq0
    rw [(by rw [hq]; decide : tc (cls c) 6 = 6), (by rw [hq]; decide : tc (cls c) 7 = 8)]
    simp only [dif_pos ((cd7 c).2 hq0), semSignalWord, semWaitWord, smemLoad, smemLoadElt, Prog.lift, Prog.bind_op, Prog.bind_ret, Prog.pure_eq_ret, wp_deviceId, Prog.bind_assoc]
    iintro ⟨#HI, #HN, HM, HSB, Hrb1, HRB, HDB, HCB, Hlb3, HTQ, HSG, Hrf2, HZ, HRF, Hrf3⟩ Hk
    iapply (send_wait1 X Wt c true 1 5 18 6 (by decide) (by decide) (by decide) sB3 (nrq _)) $$ [HM HSB Hrb1]
    · iframe HI HM HSB Hrb1
    iintro ⟨HM, HSB, Hfb1⟩
    iapply (cr_signal X Wt c true 1 18 6 4 (by decide) rfl (by decide) (by decide) (dc0 c) cr1 rfl) $$ [HM HRB HDB Hfb1]
    · iframe HI HN HM HRB HDB Hfb1
    iintro ⟨HM, HRB, HDB⟩
    iapply (cr_wait X Wt c true 0 19 6 (by decide) (by decide) cr1 rfl) $$ [HM HCB]
    · iframe HI HM HCB
    iintro ⟨HM, HCB⟩
    iapply (ring_send1 X Wt c true 3 19 6 1 4 4 (by decide) rfl (by decide) (by decide) (by decide) (by decide) (by decide) (dv1 c) mB3 mB0 sB0 rB0) $$ [HM HSB HCB HRB Hlb3]
    · iframe HI HN HM HSB HCB HRB Hlb3
    iintro ⟨HM, HSB, HCB, HRB⟩
    iapply (pt9 X Wt c hq) $$ [HSG Hrf2 HZ HM HRF HTQ Hrf3]
    · iframe HI HN HSG Hrf2 HZ HM HRF HTQ Hrf3
    iintro ⟨HSG, Hrf2, HZ, HM, HG, HRF, HTQ, Hrf3⟩
    ihave #HE := (RQ_ent c false (j := 4) (n := 3) (by decide)) $$ HRF
    iapply (rel_send X Wt c 20 7 (by decide) (rm7 c) mS7 mR7 sR7 rR7 (ro0_7 c hq) (show fm 2 7 = (hf false 3) by decide)) $$ [HM HTQ HG]
    · iframe HI HN HE HM HTQ HG
    iintro ⟨HM, HTQ⟩
    iclear HE
    iapply Hk
    iframe HM HSB HRB HDB HCB HTQ HSG Hrf2 HZ HRF Hrf3
  simp only [dif_neg (fun h => hq0 ((cd7 c).1 h)), semSignalWord, semWaitWord, smemLoad, smemLoadElt, Prog.lift, Prog.bind_op, Prog.bind_ret, Prog.pure_eq_ret, wp_deviceId]
  rw [show tc (cls c) 7 = tc (cls c) 6 from (by decide : ∀ q : Fin 4, q ≠ 0 → tc q 7 = tc q 6) _ hq0]
  iintro ⟨#HI, #HN, HM, HSB, Hrb1, HRB, HDB, HCB, Hlb3, HTQ, HSG, Hrf2, HZ, HRF, Hrf3⟩ Hk
  iapply (send_wait1 X Wt c true 1 5 18 (tc (cls c) 6) (by decide) (by decide) (bl c (by decide)) sB3 (nrq _)) $$ [HM HSB Hrb1]
  · iframe HI HM HSB Hrb1
  iintro ⟨HM, HSB, Hfb1⟩
  iapply (cr_signal X Wt c true 1 18 (tc (cls c) 6) 4 (by decide) rfl (by decide) (by decide) (dc0 c) cr1 rfl) $$ [HM HRB HDB Hfb1]
  · iframe HI HN HM HRB HDB Hfb1
  iintro ⟨HM, HRB, HDB⟩
  iapply (cr_wait X Wt c true 0 19 (tc (cls c) 6) (by decide) (bl c (by decide)) cr1 rfl) $$ [HM HCB]
  · iframe HI HM HCB
  iintro ⟨HM, HCB⟩
  iapply (ring_send1 X Wt c true 3 19 (tc (cls c) 6) 1 4 4 (by decide) rfl (by decide) (by decide) (by decide) (by decide) (by decide) (dv1 c) mB3 mB0 sB0 rB0) $$ [HM HSB HCB HRB Hlb3]
  · iframe HI HN HM HSB HCB HRB Hlb3
  iintro ⟨HM, HSB, HCB, HRB⟩
  iapply Hk
  iframe HM HSB HRB HDB HCB HTQ HSG Hrf2 HZ HRF Hrf3

theorem pt35 (c : Dev nD) {k0_hw5} {k : _ → Prog (TpuEff nD τ sig (Elt F) Λ₀ .tc) α} :
    iprop(Invs X Wt κ ιs ∗ Nbr c ∗ Main c 20 (tc (cls c) 7) ∗ TQ c 0 (tc (cls c) 7) ∗ Stg c (tc (cls c) 7) ∗ tbl c ∗ sl X c false 3 fullShare.right ∗ sl X c false 2 fullShare.right ∗ Zs c ∗ RQ c false 4 ∗ sl X c true 3 fullShare.right ∗ RQ c true 4 ∗ sl X c true 2 fullShare.right)
    ⊢ iprop(((Main c 20 (tc (cls c) 10) ∗ TQ c 0 (tc (cls c) 10) ∗ Stg c (tc (cls c) 10) ∗ tbl c ∗ sl X c false 3 fullShare.right ∗ sl X c false 2 fullShare.right ∗ Zs c ∗ RQ c false 4 ∗ sl X c true 3 fullShare.right ∗ RQ c true 4 ∗ sl X c true 2 fullShare.right) -∗ bwp c (k ⟨(mw c 5), (ck12 c), k0_pay15 (L1 X (org c false 3) (hf false 3)), (Scalar.addi (Scalar.muli (mw c 5) 256#32) 128#32)⟩) Q)
    -∗ bwp c (k0_part35 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 (1#32) >>= k) Q) := by
  rw [k0_part35_eq_skeleton]; unfold k0_part35_skel
  by_cases hq0 : cls c = 1
  · have hq := hq0
    rw [(by rw [hq]; decide : tc (cls c) 7 = 2), (by rw [hq]; decide : tc (cls c) 10 = 4)]
    simp only [dif_pos ((cd8 c).2 hq0), dif_neg (fun h => absurd (((cd9 c).1 h).symm.trans hq0) (by decide)), dif_neg (fun h => absurd (((cd10 c).1 h).symm.trans hq0) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf3, Hrf2, HZ, HRF, Hrb3, HRB, Hrb2⟩ Hk
    iapply (pt10 X Wt c hq) $$ [HSG Hrf2 HZ HM HRF HTQ Hrf3]
    · iframe HI HN HSG Hrf2 HZ HM HRF HTQ Hrf3
    iintro ⟨HSG, Hrf2, HZ, HM, HG, HRF, HTQ, Hrf3⟩
    ihave #HE := (RQ_ent c false (j := 4) (n := 3) (by decide)) $$ HRF
    iapply (rel_send X Wt c 20 3 (by decide) (rm3 c) mS3 mR3 sR3 rR3 (ro1_3 c hq) (show fm 2 3 = (hf false 3) by decide)) $$ [HM HTQ HG]
    · iframe HI HN HE HM HTQ HG
    iintro ⟨HM, HTQ⟩
    iclear HE
    iapply (ld_t c 5 rfl) $$ [HT]
    · iexact HT
    iintro HT
    iapply (wp_assume 𝒱₀ (c : Thread nD τ) none Set.univ (ck12 c))
    iapply (ld_L X c mF3) $$ [Hrf3]
    · iexact Hrf3
    iintro Hrf3
    iapply Hk
    iframe HM HTQ HSG HT Hrf3 Hrf2 HZ HRF Hrb3 HRB Hrb2
  by_cases hq1 : cls c = 2
  · have hq := hq1
    rw [(by rw [hq]; decide : tc (cls c) 7 = 2), (by rw [hq]; decide : tc (cls c) 10 = 4)]
    simp only [dif_pos ((cd9 c).2 hq1), dif_neg (fun h => absurd (((cd8 c).1 h).symm.trans hq1) (by decide)), dif_neg (fun h => absurd (((cd10 c).1 h).symm.trans hq1) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf3, Hrf2, HZ, HRF, Hrb3, HRB, Hrb2⟩ Hk
    iapply (pt11 X Wt c hq) $$ [HSG Hrb3 HZ HM HRB HTQ Hrb2]
    · iframe HI HN HSG Hrb3 HZ HM HRB HTQ Hrb2
    iintro ⟨HSG, Hrb3, HZ, HM, HG, HRB, HTQ, Hrb2⟩
    ihave #HE := (RQ_ent c true (j := 4) (n := 2) (by decide)) $$ HRB
    iapply (rel_send X Wt c 20 3 (by decide) (rm3 c) mS3 mR3 sR3 rR3 (ro2_3 c hq) (show fm 2 3 = (hf true 2) by decide)) $$ [HM HTQ HG]
    · iframe HI HN HE HM HTQ HG
    iintro ⟨HM, HTQ⟩
    iclear HE
    iapply (ld_t c 5 rfl) $$ [HT]
    · iexact HT
    iintro HT
    iapply (wp_assume 𝒱₀ (c : Thread nD τ) none Set.univ (ck12 c))
    iapply (ld_L X c mF3) $$ [Hrf3]
    · iexact Hrf3
    iintro Hrf3
    iapply Hk
    iframe HM HTQ HSG HT Hrf3 Hrf2 HZ HRF Hrb3 HRB Hrb2
  by_cases hq2 : cls c = 3
  · have hq := hq2
    rw [(by rw [hq]; decide : tc (cls c) 7 = 6), (by rw [hq]; decide : tc (cls c) 10 = 8)]
    simp only [dif_pos ((cd10 c).2 hq2), dif_neg (fun h => absurd (((cd8 c).1 h).symm.trans hq2) (by decide)), dif_neg (fun h => absurd (((cd9 c).1 h).symm.trans hq2) (by decide)), semSignalWord, semWaitWord, smemLoad, smemLoadElt, Prog.lift, Prog.bind_op, Prog.bind_ret, Prog.pure_eq_ret, wp_deviceId, Prog.bind_assoc]
    iintro ⟨#HI, #HN, HM, HTQ, HSG, HT, Hrf3, Hrf2, HZ, HRF, Hrb3, HRB, Hrb2⟩ Hk
    iapply (pt12 X Wt c hq) $$ [HSG Hrb3 HZ HM HRB HTQ Hrb2]
    · iframe HI HN HSG Hrb3 HZ HM HRB HTQ Hrb2
    iintro ⟨HSG, Hrb3, HZ, HM, HG, HRB, HTQ, Hrb2⟩
    ihave #HE := (RQ_ent c true (j := 4) (n := 2) (by decide)) $$ HRB
    iapply (rel_send X Wt c 20 7 (by decide) (rm7 c) mS7 mR7 sR7 rR7 (ro3_7 c hq) (show fm 2 7 = (hf true 2) by decide)) $$ [HM HTQ HG]
    · iframe HI HN HE HM HTQ HG
    iintro ⟨HM, HTQ⟩
    iclear HE
    iapply (ld_t c 5 rfl) $$ [HT]
    · iexact HT
    iintro HT
    iapply (wp_assume 𝒱₀ (c : Thread nD τ) none Set.univ (ck12 c))
    iapply (ld_L X c mF3) $$ [Hrf3]
    · iexact Hrf3
    iintro Hrf3
    iapply Hk
    iframe HM HTQ HSG HT Hrf3 Hrf2 HZ HRF Hrb3 HRB Hrb2
  simp only [dif_neg (fun h => hq0 ((cd8 c).1 h)), dif_neg (fun h => hq1 ((cd9 c).1 h)), dif_neg (fun h => hq2 ((cd10 c).1 h)), semSignalWord, semWaitWord, smemLoad, smemLoadElt, Prog.lift, Prog.bind_op, Prog.bind_ret, Prog.pure_eq_ret, wp_deviceId]
  rw [show tc (cls c) 10 = tc (cls c) 7 from (by decide : ∀ q : Fin 4, q ≠ 1 → q ≠ 2 → q ≠ 3 → tc q 10 = tc q 7) _ hq0 hq1 hq2]
  iintro ⟨#HI, #HN, HM, HTQ, HSG, HT, Hrf3, Hrf2, HZ, HRF, Hrb3, HRB, Hrb2⟩ Hk
  iapply (ld_t c 5 rfl) $$ [HT]
  · iexact HT
  iintro HT
  iapply (wp_assume 𝒱₀ (c : Thread nD τ) none Set.univ (ck12 c))
  iapply (ld_L X c mF3) $$ [Hrf3]
  · iexact Hrf3
  iintro Hrf3
  iapply Hk
  iframe HM HTQ HSG HT Hrf3 Hrf2 HZ HRF Hrb3 HRB Hrb2

theorem pt43 (c : Dev nD) {k0_hw5} {k : _ → Prog (TpuEff nD τ sig (Elt F) Λ₀ .tc) α} :
    iprop(Invs X Wt κ ιs ∗ Nbr c ∗ Main c 28 (tc (cls c) 10) ∗ TQ c 0 (tc (cls c) 10) ∗ Stg c (tc (cls c) 10) ∗ sl X c false 4 fullShare.right ∗ Zs c ∗ RQ c false 6 ∗ sl X c false 5 fullShare.right ∗ sl X c true 5 fullShare.right ∗ RQ c true 6 ∗ sl X c true 4 fullShare.right)
    ⊢ iprop(((Main c 28 (tc (cls c) 12) ∗ TQ c 0 (tc (cls c) 12) ∗ Stg c (tc (cls c) 12) ∗ sl X c false 4 fullShare.right ∗ Zs c ∗ RQ c false 6 ∗ sl X c false 5 fullShare.right ∗ sl X c true 5 fullShare.right ∗ RQ c true 6 ∗ sl X c true 4 fullShare.right) -∗ bwp c (k (Scalar.extui (Scalar.cmpi .eq (mw c 24) 2#32))) Q)
    -∗ bwp c (k0_part43 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 (Scalar.extui (Scalar.cmpi .eq (mw c 24) 0#32)) >>= k) Q) := by
  rw [k0_part43_eq_skeleton]; unfold k0_part43_skel
  by_cases hq0 : cls c = 0
  · have hq := hq0
    rw [(by rw [hq]; decide : tc (cls c) 10 = 8), (by rw [hq]; decide : tc (cls c) 12 = 10)]
    simp only [dif_pos ((cd11 c).2 hq0), dif_neg (fun h => absurd (((cd12 c).1 h).symm.trans hq0) (by decide)), semSignalWord, semWaitWord, smemLoad, smemLoadElt, Prog.lift, Prog.bind_op, Prog.bind_ret, Prog.pure_eq_ret, wp_deviceId, Prog.bind_assoc]
    iintro ⟨#HI, #HN, HM, HTQ, HSG, Hrf4, HZ, HRF, Hrf5, Hrb5, HRB, Hrb4⟩ Hk
    iapply (pt13 X Wt c hq) $$ [HSG Hrf4 HZ HM HRF HTQ Hrf5]
    · iframe HI HN HSG Hrf4 HZ HM HRF HTQ Hrf5
    iintro ⟨HSG, Hrf4, HZ, HM, HG, HRF, HTQ, Hrf5⟩
    ihave #HE := (RQ_ent c false (j := 6) (n := 5) (by decide)) $$ HRF
    iapply (rel_send X Wt c 28 9 (by decide) (rm9 c) mS9 mR9 sR9 rR9 (ro0_9 c hq) (show fm 2 9 = (hf false 5) by decide)) $$ [HM HTQ HG]
    · iframe HI HN HE HM HTQ HG
    iintro ⟨HM, HTQ⟩
    iclear HE
    iapply Hk
    iframe HM HTQ HSG Hrf4 HZ HRF Hrf5 Hrb5 HRB Hrb4
  by_cases hq1 : cls c = 1
  · have hq := hq1
    rw [(by rw [hq]; decide : tc (cls c) 10 = 4), (by rw [hq]; decide : tc (cls c) 12 = 8)]
    simp only [dif_pos ((cd12 c).2 hq1), dif_neg (fun h => absurd (((cd11 c).1 h).symm.trans hq1) (by decide)), semSignalWord, semWaitWord, smemLoad, smemLoadElt, Prog.lift, Prog.bind_op, Prog.bind_ret, Prog.pure_eq_ret, wp_deviceId, Prog.bind_assoc]
    iintro ⟨#HI, #HN, HM, HTQ, HSG, Hrf4, HZ, HRF, Hrf5, Hrb5, HRB, Hrb4⟩ Hk
    iapply (pt14 X Wt c hq) $$ [HSG Hrf4 HZ HM HRF HTQ Hrf5]
    · iframe HI HN HSG Hrf4 HZ HM HRF HTQ Hrf5
    iintro ⟨HSG, Hrf4, HZ, HM, HG, HRF, HTQ, Hrf5⟩
    iapply (pt15 X Wt c hq) $$ [HRF HM HTQ HG HSG Hrb5 HZ HRB Hrb4]
    · iframe HI HN HRF HM HTQ HG HSG Hrb5 HZ HRB Hrb4
    iintro ⟨HRF, HM, HTQ, HG, HSG, Hrb5, HZ, HRB, Hrb4⟩
    ihave #HE := (RQ_ent c true (j := 6) (n := 4) (by decide)) $$ HRB
    iapply (rel_send X Wt c 28 7 (by decide) (rm7 c) mS7 mR7 sR7 rR7 (ro1_7 c hq) (show fm 2 7 = (hf true 4) by decide)) $$ [HM HTQ HG]
    · iframe HI HN HE HM HTQ HG
    iintro ⟨HM, HTQ⟩
    iclear HE
    iapply Hk
    iframe HM HTQ HSG Hrf4 HZ HRF Hrf5 Hrb5 HRB Hrb4
  simp only [dif_neg (fun h => hq0 ((cd11 c).1 h)), dif_neg (fun h => hq1 ((cd12 c).1 h)), semSignalWord, semWaitWord, smemLoad, smemLoadElt, Prog.lift, Prog.bind_op, Prog.bind_ret, Prog.pure_eq_ret, wp_deviceId]
  rw [show tc (cls c) 12 = tc (cls c) 10 from (by decide : ∀ q : Fin 4, q ≠ 0 → q ≠ 1 → tc q 12 = tc q 10) _ hq0 hq1]
  iintro ⟨#HI, #HN, HM, HTQ, HSG, Hrf4, HZ, HRF, Hrf5, Hrb5, HRB, Hrb4⟩ Hk

  iapply Hk
  iframe HM HTQ HSG Hrf4 HZ HRF Hrf5 Hrb5 HRB Hrb4

theorem pt44 (c : Dev nD) {k0_hw5} {k : _ → Prog (TpuEff nD τ sig (Elt F) Λ₀ .tc) α} :
    iprop(Invs X Wt κ ιs ∗ Nbr c ∗ Main c 28 (tc (cls c) 12) ∗ TQ c 0 (tc (cls c) 12) ∗ Stg c (tc (cls c) 12) ∗ LQ c 1 ∗ bn0 c (fm 2 1) ∗ Zs c ∗ Ldn c 1 ∗ tbl c ∗ sl X c true 5 fullShare.right ∗ RQ c true 6 ∗ sl X c true 4 fullShare.right ∗ sl X c false 4 fullShare.right ∗ RQ c false 6 ∗ sl X c false 5 fullShare.right)
    ⊢ iprop(((Main c 28 (tc (cls c) 14) ∗ TQ c 0 (tc (cls c) 14) ∗ Stg c (tc (cls c) 14) ∗ LQ c 2 ∗ bnc X c 1 ∗ Zs c ∗ Ldn c 2 ∗ tbl c ∗ sl X c true 5 fullShare.right ∗ RQ c true 6 ∗ sl X c true 4 fullShare.right ∗ sl X c false 4 fullShare.right ∗ RQ c false 6 ∗ sl X c false 5 fullShare.right) -∗ bwp c (k ⟨(mw c 25), (ck17 c)⟩) Q)
    -∗ bwp c (k0_part44 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 22) (mw c 23) (mw c 24) k0_hw5 (Scalar.extui (Scalar.cmpi .eq (mw c 24) 2#32)) >>= k) Q) := by
  rw [k0_part44_eq_skeleton]; unfold k0_part44_skel
  by_cases hq0 : cls c = 2
  · have hq := hq0
    rw [(by rw [hq]; decide : tc (cls c) 12 = 4), (by rw [hq]; decide : tc (cls c) 14 = 8)]
    simp only [dif_pos ((cd13 c).2 hq0), dif_neg (fun h => absurd (((cd14 c).1 h).symm.trans hq0) (by decide)), semSignalWord, semWaitWord, smemLoad, smemLoadElt, Prog.lift, Prog.bind_op, Prog.bind_ret, Prog.pure_eq_ret, wp_deviceId, Prog.bind_assoc]
    iintro ⟨#HI, #HN, HM, HTQ, HSG, HLQ, HN1, HZ, HLD, HT, Hrb5, HRB, Hrb4, Hrf4, HRF, Hrf5⟩ Hk
    iapply (pt16 X Wt c hq) $$ [HSG Hrb5 HZ HM HRB HTQ Hrb4]
    · iframe HI HN HSG Hrb5 HZ HM HRB HTQ Hrb4
    iintro ⟨HSG, Hrb5, HZ, HM, HG, HRB, HTQ, Hrb4⟩
    iapply (pt17 X Wt c hq) $$ [HRB HM HTQ HG HSG Hrf4 HZ HRF Hrf5]
    · iframe HI HN HRB HM HTQ HG HSG Hrf4 HZ HRF Hrf5
    iintro ⟨HRB, HM, HTQ, HG, HSG, Hrf4, HZ, HRF, Hrf5⟩
    ihave #HE := (RQ_ent c false (j := 6) (n := 5) (by decide)) $$ HRF
    iapply (rel_send X Wt c 28 7 (by decide) (rm7 c) mS7 mR7 sR7 rR7 (ro2_7 c hq) (show fm 2 7 = (hf false 5) by decide)) $$ [HM HTQ HG]
    · iframe HI HN HE HM HTQ HG
    iintro ⟨HM, HTQ⟩
    iclear HE
    iapply (rel_recv X Wt c 1 28 8 (by decide) (by decide) rR1 (nrq _)) $$ [HM HLQ]
    · iframe HI HM HLQ
    iintro ⟨HM, HLQ, HQ⟩
    iapply (loc_start c mR1 mC1 (congrArg SemLoc.dma sL) (nrq _)) $$ [HQ HN1 HZ]
    · isplitl [HQ]; iexact HQ; isplitl [HN1]; (iexact HN1); iexact HZ
    iintro HFl
    iapply (loc_wait X Wt c 28 8 (by decide) sL (nrq _)) $$ [HM HFl]
    · iframe HI HM HFl
    iintro ⟨HM, HZ, HQ, HN1⟩
    ihave HLD := (Ldn_app c 1) $$ [HLD HQ]
    · isplitl [HLD]; iexact HLD; iexact HQ
    iapply (ld_t c 25 rfl) $$ [HT]
    · iexact HT
    iintro HT
    iapply (wp_assume 𝒱₀ (c : Thread nD τ) none Set.univ (ck17 c))
    iapply Hk
    iframe HM HTQ HSG HLQ HN1 HZ HLD HT Hrb5 HRB Hrb4 Hrf4 HRF Hrf5
  by_cases hq1 : cls c = 3
  · have hq := hq1
    rw [(by rw [hq]; decide : tc (cls c) 12 = 8), (by rw [hq]; decide : tc (cls c) 14 = 10)]
    simp only [dif_pos ((cd14 c).2 hq1), dif_neg (fun h => absurd (((cd13 c).1 h).symm.trans hq1) (by decide)), semSignalWord, semWaitWord, smemLoad, smemLoadElt, Prog.lift, Prog.bind_op, Prog.bind_ret, Prog.pure_eq_ret, wp_deviceId, Prog.bind_assoc]
    iintro ⟨#HI, #HN, HM, HTQ, HSG, HLQ, HN1, HZ, HLD, HT, Hrb5, HRB, Hrb4, Hrf4, HRF, Hrf5⟩ Hk
    iapply (pt18 X Wt c hq) $$ [HSG Hrb5 HZ HM HRB HTQ Hrb4]
    · iframe HI HN HSG Hrb5 HZ HM HRB HTQ Hrb4
    iintro ⟨HSG, Hrb5, HZ, HM, HG, HRB, HTQ, Hrb4⟩
    ihave #HE := (RQ_ent c true (j := 6) (n := 4) (by decide)) $$ HRB
    iapply (rel_send X Wt c 28 9 (by decide) (rm9 c) mS9 mR9 sR9 rR9 (ro3_9 c hq) (show fm 2 9 = (hf true 4) by decide)) $$ [HM HTQ HG]
    · iframe HI HN HE HM HTQ HG
    iintro ⟨HM, HTQ⟩
    iclear HE
    iapply (rel_recv X Wt c 1 28 10 (by decide) (by decide) rR1 (nrq _)) $$ [HM HLQ]
    · iframe HI HM HLQ
    iintro ⟨HM, HLQ, HQ⟩
    iapply (loc_start c mR1 mC1 (congrArg SemLoc.dma sL) (nrq _)) $$ [HQ HN1 HZ]
    · isplitl [HQ]; iexact HQ; isplitl [HN1]; (iexact HN1); iexact HZ
    iintro HFl
    iapply (loc_wait X Wt c 28 10 (by decide) sL (nrq _)) $$ [HM HFl]
    · iframe HI HM HFl
    iintro ⟨HM, HZ, HQ, HN1⟩
    ihave HLD := (Ldn_app c 1) $$ [HLD HQ]
    · isplitl [HLD]; iexact HLD; iexact HQ
    iapply (ld_t c 25 rfl) $$ [HT]
    · iexact HT
    iintro HT
    iapply (wp_assume 𝒱₀ (c : Thread nD τ) none Set.univ (ck17 c))
    iapply Hk
    iframe HM HTQ HSG HLQ HN1 HZ HLD HT Hrb5 HRB Hrb4 Hrf4 HRF Hrf5
  simp only [dif_neg (fun h => hq0 ((cd13 c).1 h)), dif_neg (fun h => hq1 ((cd14 c).1 h)), semSignalWord, semWaitWord, smemLoad, smemLoadElt, Prog.lift, Prog.bind_op, Prog.bind_ret, Prog.pure_eq_ret, wp_deviceId]
  rw [show tc (cls c) 14 = tc (cls c) 12 from (by decide : ∀ q : Fin 4, q ≠ 2 → q ≠ 3 → tc q 14 = tc q 12) _ hq0 hq1]
  iintro ⟨#HI, #HN, HM, HTQ, HSG, HLQ, HN1, HZ, HLD, HT, Hrb5, HRB, Hrb4, Hrf4, HRF, Hrf5⟩ Hk
  iapply (rel_recv X Wt c 1 28 (tc (cls c) 12) (by decide) (bl c (by decide)) rR1 (nrq _)) $$ [HM HLQ]
  · iframe HI HM HLQ
  iintro ⟨HM, HLQ, HQ⟩
  iapply (loc_start c mR1 mC1 (congrArg SemLoc.dma sL) (nrq _)) $$ [HQ HN1 HZ]
  · isplitl [HQ]; iexact HQ; isplitl [HN1]; (iexact HN1); iexact HZ
  iintro HFl
  iapply (loc_wait X Wt c 28 (tc (cls c) 12) (bl c (by decide)) sL (nrq _)) $$ [HM HFl]
  · iframe HI HM HFl
  iintro ⟨HM, HZ, HQ, HN1⟩
  ihave HLD := (Ldn_app c 1) $$ [HLD HQ]
  · isplitl [HLD]; iexact HLD; iexact HQ
  iapply (ld_t c 25 rfl) $$ [HT]
  · iexact HT
  iintro HT
  iapply (wp_assume 𝒱₀ (c : Thread nD τ) none Set.univ (ck17 c))
  iapply Hk
  iframe HM HTQ HSG HLQ HN1 HZ HLD HT Hrb5 HRB Hrb4 Hrf4 HRF Hrf5

theorem pt52 (c : Dev nD) {k0_hw2 k0_hw5} {k : _ → Prog (TpuEff nD τ sig (Elt F) Λ₀ .tc) α} :
    iprop(Invs X Wt κ ιs ∗ Nbr c ∗ Main c 33 (tc (cls c) 14) ∗ SQ c true 7 9 ∗ sl X c true 5 fullShare.right ∗ CQ c true 4 ∗ RQ c true 8 ∗ sl X c true 7 fullShare.left ∗ TQ c 0 (tc (cls c) 14) ∗ Stg c (tc (cls c) 14) ∗ sl X c true 7 fullShare.right ∗ Zs c ∗ sl X c true 6 fullShare.right ∗ sl X c false 6 fullShare.right ∗ RQ c false 8 ∗ sl X c false 7 fullShare.right)
    ⊢ iprop(((Main c 34 (tc (cls c) 16) ∗ SQ c true 8 10 ∗ sl X c true 5 fullShare ∗ CQ c true 5 ∗ RQ c true 8 ∗ TQ c 0 (tc (cls c) 16) ∗ Stg c (tc (cls c) 16) ∗ sl X c true 7 fullShare.right ∗ Zs c ∗ sl X c true 6 fullShare.right ∗ sl X c false 6 fullShare.right ∗ RQ c false 8 ∗ sl X c false 7 fullShare.right) -∗ bwp c (k ⟨⟩) Q)
    -∗ bwp c (k0_part52 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 1) k0_hw2 (mw c 22) (mw c 23) (mw c 24) k0_hw5 >>= k) Q) := by
  rw [k0_part52_eq_skeleton]; unfold k0_part52_skel
  by_cases hq0 : cls c = 1
  · have hq := hq0
    rw [(by rw [hq]; decide : tc (cls c) 14 = 8), (by rw [hq]; decide : tc (cls c) 16 = 10)]
    simp only [dif_pos ((cd15 c).2 hq0), dif_neg (fun h => absurd (((cd16 c).1 h).symm.trans hq0) (by decide)), semSignalWord, semWaitWord, smemLoad, smemLoadElt, Prog.lift, Prog.bind_op, Prog.bind_ret, Prog.pure_eq_ret, wp_deviceId, Prog.bind_assoc]
    iintro ⟨#HI, #HN, HM, HSB, Hrb5, HCB, HRB, Hlb7, HTQ, HSG, Hrb7, HZ, Hrb6, Hrf6, HRF, Hrf7⟩ Hk
    iapply (send_wait1 X Wt c true 5 9 33 8 (by decide) (by decide) (by decide) sB2 (nrq _)) $$ [HM HSB Hrb5]
    · iframe HI HM HSB Hrb5
    iintro ⟨HM, HSB, Hfb5⟩
    iapply (cr_wait X Wt c true 4 33 8 (by decide) (by decide) cr1 rfl) $$ [HM HCB]
    · iframe HI HM HCB
    iintro ⟨HM, HCB⟩
    iapply (ring_send1 X Wt c true 7 33 8 5 8 8 (by decide) rfl (by decide) (by decide) (by decide) (by decide) (by decide) (dv1 c) mB2 mB4 sB4 rB4) $$ [HM HSB HCB HRB Hlb7]
    · iframe HI HN HM HSB HCB HRB Hlb7
    iintro ⟨HM, HSB, HCB, HRB⟩
    iapply (pt19 X Wt c hq) $$ [HSG Hrb7 HZ HM HRB HTQ Hrb6]
    · iframe HI HN HSG Hrb7 HZ HM HRB HTQ Hrb6
    iintro ⟨HSG, Hrb7, HZ, HM, HG, HRB, HTQ, Hrb6⟩
    ihave #HE := (RQ_ent c true (j := 8) (n := 6) (by decide)) $$ HRB
    iapply (rel_send X Wt c 34 9 (by decide) (rm9 c) mS9 mR9 sR9 rR9 (ro1_9 c hq) (show fm 2 9 = (hf true 6) by decide)) $$ [HM HTQ HG]
    · iframe HI HN HE HM HTQ HG
    iintro ⟨HM, HTQ⟩
    iclear HE
    iapply Hk
    iframe HM HSB Hfb5 HCB HRB HTQ HSG Hrb7 HZ Hrb6 Hrf6 HRF Hrf7
  by_cases hq1 : cls c = 2
  · have hq := hq1
    rw [(by rw [hq]; decide : tc (cls c) 14 = 8), (by rw [hq]; decide : tc (cls c) 16 = 10)]
    simp only [dif_pos ((cd16 c).2 hq1), dif_neg (fun h => absurd (((cd15 c).1 h).symm.trans hq1) (by decide)), semSignalWord, semWaitWord, smemLoad, smemLoadElt, Prog.lift, Prog.bind_op, Prog.bind_ret, Prog.pure_eq_ret, wp_deviceId, Prog.bind_assoc]
    iintro ⟨#HI, #HN, HM, HSB, Hrb5, HCB, HRB, Hlb7, HTQ, HSG, Hrb7, HZ, Hrb6, Hrf6, HRF, Hrf7⟩ Hk
    iapply (send_wait1 X Wt c true 5 9 33 8 (by decide) (by decide) (by decide) sB2 (nrq _)) $$ [HM HSB Hrb5]
    · iframe HI HM HSB Hrb5
    iintro ⟨HM, HSB, Hfb5⟩
    iapply (cr_wait X Wt c true 4 33 8 (by decide) (by decide) cr1 rfl) $$ [HM HCB]
    · iframe HI HM HCB
    iintro ⟨HM, HCB⟩
    iapply (ring_send1 X Wt c true 7 33 8 5 8 8 (by decide) rfl (by decide) (by decide) (by decide) (by decide) (by decide) (dv1 c) mB2 mB4 sB4 rB4) $$ [HM HSB HCB HRB Hlb7]
    · iframe HI HN HM HSB HCB HRB Hlb7
    iintro ⟨HM, HSB, HCB, HRB⟩
    iapply (pt20 X Wt c hq) $$ [HSG Hrf6 HZ HM HRF HTQ Hrf7]
    · iframe HI HN HSG Hrf6 HZ HM HRF HTQ Hrf7
    iintro ⟨HSG, Hrf6, HZ, HM, HG, HRF, HTQ, Hrf7⟩
    ihave #HE := (RQ_ent c false (j := 8) (n := 7) (by decide)) $$ HRF
    iapply (rel_send X Wt c 34 9 (by decide) (rm9 c) mS9 mR9 sR9 rR9 (ro2_9 c hq) (show fm 2 9 = (hf false 7) by decide)) $$ [HM HTQ HG]
    · iframe HI HN HE HM HTQ HG
    iintro ⟨HM, HTQ⟩
    iclear HE
    iapply Hk
    iframe HM HSB Hfb5 HCB HRB HTQ HSG Hrb7 HZ Hrb6 Hrf6 HRF Hrf7
  simp only [dif_neg (fun h => hq0 ((cd15 c).1 h)), dif_neg (fun h => hq1 ((cd16 c).1 h)), semSignalWord, semWaitWord, smemLoad, smemLoadElt, Prog.lift, Prog.bind_op, Prog.bind_ret, Prog.pure_eq_ret, wp_deviceId]
  rw [show tc (cls c) 16 = tc (cls c) 14 from (by decide : ∀ q : Fin 4, q ≠ 1 → q ≠ 2 → tc q 16 = tc q 14) _ hq0 hq1]
  iintro ⟨#HI, #HN, HM, HSB, Hrb5, HCB, HRB, Hlb7, HTQ, HSG, Hrb7, HZ, Hrb6, Hrf6, HRF, Hrf7⟩ Hk
  iapply (send_wait1 X Wt c true 5 9 33 (tc (cls c) 14) (by decide) (by decide) (bl c (by decide)) sB2 (nrq _)) $$ [HM HSB Hrb5]
  · iframe HI HM HSB Hrb5
  iintro ⟨HM, HSB, Hfb5⟩
  iapply (cr_wait X Wt c true 4 33 (tc (cls c) 14) (by decide) (bl c (by decide)) cr1 rfl) $$ [HM HCB]
  · iframe HI HM HCB
  iintro ⟨HM, HCB⟩
  iapply (ring_send1 X Wt c true 7 33 (tc (cls c) 14) 5 8 8 (by decide) rfl (by decide) (by decide) (by decide) (by decide) (by decide) (dv1 c) mB2 mB4 sB4 rB4) $$ [HM HSB HCB HRB Hlb7]
  · iframe HI HN HM HSB HCB HRB Hlb7
  iintro ⟨HM, HSB, HCB, HRB⟩
  iapply Hk
  iframe HM HSB Hfb5 HCB HRB HTQ HSG Hrb7 HZ Hrb6 Hrf6 HRF Hrf7

end Cert.Proof
end
-- ==== Proof.BodyP1.lean ====
module

public import proofs.«01_k».proof.Proof.BodyE

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt21 (c : Dev nD) {k : _ → Prog (TpuEff nD τ sig (Elt F) Λ₀ .tc) α} :
    iprop(Invs X Wt κ ιs ∗ Entered c ∗ tbl c ∗ Main c 0 (tc (cls c) 0) ∗ barC c ∗ SQ c false 0 0 ∗ CQ c false 0 ∗ xq X c (hf false 0) (xsh false))
    ⊢ iprop(((tbl c ∗ Main c 5 (tc (cls c) 0) ∗ barD c ∗ SQ c false 0 1 ∗ CQ c false 0 ∗ Nbr c) -∗ bwp c (k ⟨(mw c 0), (ck1 c), (mw c 1), (ck2 c), (mw c 22), (mw c 23), (mw c 24), (ck5 c), c, (Scalar.remsi (Scalar.divsi (Dev.word c) 1#32) 16#32)⟩) Q)
    -∗ bwp c (k0_part21 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part21_eq_skeleton]; unfold k0_part21_skel
  simp only [semSignalWord, semWaitWord, smemLoad, smemLoadElt, Prog.lift, Prog.bind_op, Prog.bind_ret, Prog.pure_eq_ret, wp_deviceId]
  iintro ⟨#HI, #HE, HT, HM, HBR, HSF, HCF, Hxf0⟩ Hk
  iapply (ld_t c 0 rfl) $$ [HT]
  · iexact HT
  iintro HT
  iapply (wp_assume 𝒱₀ (c : Thread nD τ) none Set.univ (ck1 c))
  iapply (ld_t c 1 rfl) $$ [HT]
  · iexact HT
  iintro HT
  iapply (wp_assume 𝒱₀ (c : Thread nD τ) none Set.univ (ck2 c))
  iapply (ld_t c 22 rfl) $$ [HT]
  · iexact HT
  iintro HT
  iapply (wp_assume 𝒱₀ (c : Thread nD τ) none Set.univ (ck3 c))
  iapply (ld_t c 23 rfl) $$ [HT]
  · iexact HT
  iintro HT
  iapply (wp_assume 𝒱₀ (c : Thread nD τ) none Set.univ (ck4 c))
  iapply (ld_t c 24 rfl) $$ [HT]
  · iexact HT
  iintro HT
  iapply (wp_assume 𝒱₀ (c : Thread nD τ) none Set.univ (ck5 c))
  simp only [wp_deviceId]
  iapply (bar_sig X Wt c 0 (tc (cls c) 0) (by decide) rfl (bd0 c) sBar rfl) $$ [HM]
  · iframe HI HE HM
  iintro HM
  iapply (bar_sig X Wt c 1 (tc (cls c) 0) (by decide) rfl (bd1 c) sBar rfl) $$ [HM]
  · iframe HI HE HM
  iintro HM
  iapply (bar_sig X Wt c 2 (tc (cls c) 0) (by decide) rfl (bd2 c) sBar rfl) $$ [HM]
  · iframe HI HE HM
  iintro HM
  iapply (bar_sig X Wt c 3 (tc (cls c) 0) (by decide) rfl (bd3 c) sBar rfl) $$ [HM]
  · iframe HI HE HM
  iintro HM
  icases HBR with ⟨HBR1, HBR2⟩
  iapply (bar_wait X Wt c 4 (tc (cls c) 0) (bl c (by decide)) sBar rfl) $$ [HM HBR1 HBR2]
  · iframe HI HE HM HBR1 HBR2
  iintro ⟨HM, HBD, #HN⟩
  iapply (ring_send0 X Wt c false 0 4 (tc (cls c) 0) (by decide) rfl (by decide) (dv0 c) mX0 mF0 sF0 rF0) $$ [HM HSF HCF Hxf0]
  · iframe HI HN HM HSF HCF Hxf0
  iintro ⟨HM, HSF, HCF⟩
  iapply Hk
  iframe HT HM HBD HSF HCF HN

theorem pt24 (c : Dev nD) {k0_hw1 k0_hw2} {k : _ → Prog (TpuEff nD τ sig (Elt F) Λ₀ .tc) α} :
    iprop(Invs X Wt κ ιs ∗ Nbr c ∗ Main c 8 (tc (cls c) 2) ∗ SQ c false 1 2 ∗ CQ c false 0 ∗ RQ c false 1 ∗ sl X c false 0 fullShare.left ∗ RQ c true 0 ∗ SQ c true 0 2 ∗ CQ c true 0 ∗ tbl c)
    ⊢ iprop(((Main c 10 (tc (cls c) 2) ∗ SQ c false 1 3 ∗ CQ c false 0 ∗ RQ c false 1 ∗ RQ c true 1 ∗ sl X c true 0 fullShare.right ∗ SQ c true 1 3 ∗ xq X c (hf true 0) (xsh true) ∗ CQ c true 0 ∗ tbl c) -∗ bwp c (k ⟨(mw c 2), (ck6 c)⟩) Q)
    -∗ bwp c (k0_part24 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part24_eq_skeleton]; unfold k0_part24_skel
  simp only [semSignalWord, semWaitWord, smemLoad, smemLoadElt, Prog.lift, Prog.bind_op, Prog.bind_ret, Prog.pure_eq_ret, wp_deviceId]
  iintro ⟨#HI, #HN, HM, HSF, HCF, HRF, Hlf0, HRB, HSB, HCB, HT⟩ Hk
  iapply (ring_send1 X Wt c false 0 8 (tc (cls c) 2) 0 1 1 (by decide) rfl (by decide) (by decide) (by decide) (by decide) (by decide) (dv0 c) mF0 mF2 sF2 rF2) $$ [HM HSF HCF HRF Hlf0]
  · iframe HI HN HM HSF HCF HRF Hlf0
  iintro ⟨HM, HSF, HCF, HRF⟩
  iapply (ring_recv X Wt c true 0 9 (tc (cls c) 2) (by decide) (bl c (by decide)) rB0 (nrq _)) $$ [HM HRB]
  · iframe HI HM HRB
  iintro ⟨HM, HRB, Hlb0, Hrb0⟩
  iapply (send_wait0 X Wt c true 0 2 9 (tc (cls c) 2) (by decide) (by decide) (bl c (by decide)) sB0 (nrq _)) $$ [HM HSB]
  · iframe HI HM HSB
  iintro ⟨HM, HSB, Hxb0⟩
  iapply (ring_send1 X Wt c true 0 9 (tc (cls c) 2) 0 1 1 (by decide) rfl (by decide) (by decide) (by decide) (by decide) (by decide) (dv1 c) mB0 mB2 sB2 rB2) $$ [HM HSB HCB HRB Hlb0]
  · iframe HI HN HM HSB HCB HRB Hlb0
  iintro ⟨HM, HSB, HCB, HRB⟩
  iapply (ld_t c 2 rfl) $$ [HT]
  · iexact HT
  iintro HT
  iapply (wp_assume 𝒱₀ (c : Thread nD τ) none Set.univ (ck6 c))
  iapply Hk
  iframe HM HSF HCF HRF HRB Hrb0 HSB Hxb0 HCB HT

theorem pt25 (c : Dev nD) {k0_hw6} {k : _ → Prog (TpuEff nD τ sig (Elt F) Λ₀ .tc) α} :
    iprop(Invs X Wt κ ιs ∗ Nbr c ∗ sl X c false 0 fullShare.right ∗ wwl Wt c ∗ OutQ X Wt c 0 ∗ tbl c ∗ sl X c true 0 fullShare.right)
    ⊢ iprop(((sl X c false 0 fullShare.right ∗ wwl Wt c ∗ OutQ X Wt c 2 ∗ tbl c ∗ sl X c true 0 fullShare.right) -∗ bwp c (k (rmx X Wt c 2)) Q)
    -∗ bwp c (k0_part25 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 0) (mw c 2) k0_hw6 >>= k) Q) := by
  rw [← rx6 X Wt c]
  rw [k0_part25_eq_skeleton]; unfold k0_part25_skel
  simp only [semSignalWord, semWaitWord, smemLoad, smemLoadElt, Prog.lift, Prog.bind_op, Prog.bind_ret, Prog.pure_eq_ret, wp_deviceId]
  iintro ⟨#HI, #HN, Hrf0, HW, HO, HT, Hrb0⟩ Hk
  iapply (ld_L X c mF0) $$ [Hrf0]
  · iexact Hrf0
  iintro Hrf0
  iapply (ld_w c z2) $$ [HW]
  · iexact HW
  iintro HW
  iapply (ld_deadO X Wt c 0) $$ HO
  iintro %vd HO
  iapply (st_prd X Wt c 0 (by decide) (of2 c) (wv0 X Wt c)) $$ HO
  iintro HO
  iapply (ld_t c 12 rfl) $$ [HT]
  · iexact HT
  iintro HT
  iapply (wp_assume 𝒱₀ (c : Thread nD τ) none Set.univ (ck7 c))
  iapply (ld_L X c mB0) $$ [Hrb0]
  · iexact Hrb0
  iintro Hrb0
  iapply (ld_w c z2) $$ [HW]
  · iexact HW
  iintro HW
  iapply (ld_deadO X Wt c 1) $$ HO
  iintro %vd HO
  iapply (st_prd X Wt c 1 (by decide) (of3 c) (wv1 X Wt c)) $$ HO
  iintro HO
  iapply Hk
  iframe Hrf0 HW HO HT Hrb0

theorem pt26 (c : Dev nD) {k0_hw1} {k : _ → Prog (TpuEff nD τ sig (Elt F) Λ₀ .tc) α} :
    iprop(Invs X Wt κ ιs ∗ Nbr c ∗ Main c 10 (tc (cls c) 2) ∗ RQ c false 1 ∗ SQ c false 1 3 ∗ CQ c false 0 ∗ RQ c true 1)
    ⊢ iprop(((Main c 11 (tc (cls c) 2) ∗ RQ c false 2 ∗ sl X c false 1 fullShare.right ∗ SQ c false 2 4 ∗ xq X c (hf false 1) (xsh false) ∗ CQ c false 0 ∗ RQ c true 2 ∗ sl X c true 1 fullShare.left ∗ sl X c true 1 fullShare.right) -∗ bwp c (k ⟨⟩) Q)
    -∗ bwp c (k0_part26 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 >>= k) Q) := by
  rw [k0_part26_eq_skeleton]; unfold k0_part26_skel
  simp only [semSignalWord, semWaitWord, smemLoad, smemLoadElt, Prog.lift, Prog.bind_op, Prog.bind_ret, Prog.pure_eq_ret, wp_deviceId]
  iintro ⟨#HI, #HN, HM, HRF, HSF, HCF, HRB⟩ Hk
  iapply (ring_recv X Wt c false 1 10 (tc (cls c) 2) (by decide) (bl c (by decide)) rF1 (nrq _)) $$ [HM HRF]
  · iframe HI HM HRF
  iintro ⟨HM, HRF, Hlf1, Hrf1⟩
  iapply (send_wait0 X Wt c false 1 3 10 (tc (cls c) 2) (by decide) (by decide) (bl c (by decide)) sF1 (nrq _)) $$ [HM HSF]
  · iframe HI HM HSF
  iintro ⟨HM, HSF, Hxf1⟩
  iapply (ring_send1 X Wt c false 1 10 (tc (cls c) 2) 0 2 2 (by decide) rfl (by decide) (by decide) (by decide) (by decide) (by decide) (dv0 c) mF1 mF3 sF3 rF3) $$ [HM HSF HCF HRF Hlf1]
  · iframe HI HN HM HSF HCF HRF Hlf1
  iintro ⟨HM, HSF, HCF, HRF⟩
  iapply (ring_recv X Wt c true 1 11 (tc (cls c) 2) (by decide) (bl c (by decide)) rB1 (nrq _)) $$ [HM HRB]
  · iframe HI HM HRB
  iintro ⟨HM, HRB, Hlb1, Hrb1⟩
  iapply Hk
  iframe HM HRF Hrf1 HSF Hxf1 HCF HRB Hlb1 Hrb1

theorem pt29 (c : Dev nD) {k0_hw8} {k : _ → Prog (TpuEff nD τ sig (Elt F) Λ₀ .tc) α} :
    iprop(Invs X Wt κ ιs ∗ Nbr c ∗ sl X c false 1 fullShare.right ∗ wwl Wt c ∗ OutQ X Wt c 2 ∗ tbl c ∗ sl X c true 1 fullShare.right)
    ⊢ iprop(((sl X c false 1 fullShare.right ∗ wwl Wt c ∗ OutQ X Wt c 4 ∗ tbl c ∗ sl X c true 1 fullShare.right) -∗ bwp c (k (rmx X Wt c 4)) Q)
    -∗ bwp c (k0_part29 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 2) (mw c 3) k0_hw8 >>= k) Q) := by
  rw [← rx9 X Wt c]
  rw [k0_part29_eq_skeleton]; unfold k0_part29_skel
  simp only [semSignalWord, semWaitWord, smemLoad, smemLoadElt, Prog.lift, Prog.bind_op, Prog.bind_ret, Prog.pure_eq_ret, wp_deviceId]
  iintro ⟨#HI, #HN, Hrf1, HW, HO, HT, Hrb1⟩ Hk
  iapply (ld_L X c mF1) $$ [Hrf1]
  · iexact Hrf1
  iintro Hrf1
  iapply (ld_w c z2) $$ [HW]
  · iexact HW
  iintro HW
  iapply (ld_deadO X Wt c 2) $$ HO
  iintro %vd HO
  iapply (st_prd X Wt c 2 (by decide) (of4 c) (wv2 X Wt c)) $$ HO
  iintro HO
  iapply (ld_t c 13 rfl) $$ [HT]
  · iexact HT
  iintro HT
  iapply (wp_assume 𝒱₀ (c : Thread nD τ) none Set.univ (ck9 c))
  iapply (ld_L X c mB1) $$ [Hrb1]
  · iexact Hrb1
  iintro Hrb1
  iapply (ld_w c z2) $$ [HW]
  · iexact HW
  iintro HW
  iapply (ld_deadO X Wt c 3) $$ HO
  iintro %vd HO
  iapply (st_prd X Wt c 3 (by decide) (of5 c) (wv3 X Wt c)) $$ HO
  iintro HO
  iapply Hk
  iframe Hrf1 HW HO HT Hrb1

theorem pt30 (c : Dev nD) {k0_hw1 k0_hw2} {k : _ → Prog (TpuEff nD τ sig (Elt F) Λ₀ .tc) α} :
    iprop(Invs X Wt κ ιs ∗ Nbr c ∗ Main c 12 (tc (cls c) 6) ∗ RQ c false 2 ∗ SQ c false 2 4 ∗ sl X c false 0 fullShare.right ∗ RDq c false 0 ∗ CQ c false 0)
    ⊢ iprop(((Main c 14 (tc (cls c) 6) ∗ RQ c false 3 ∗ sl X c false 2 fullShare.right ∗ SQ c false 3 5 ∗ RDq c false 1 ∗ CQ c false 0) -∗ bwp c (k ⟨⟩) Q)
    -∗ bwp c (k0_part30 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part30_eq_skeleton]; unfold k0_part30_skel
  simp only [semSignalWord, semWaitWord, smemLoad, smemLoadElt, Prog.lift, Prog.bind_op, Prog.bind_ret, Prog.pure_eq_ret, wp_deviceId]
  iintro ⟨#HI, #HN, HM, HRF, HSF, Hrf0, HDF, HCF⟩ Hk
  iapply (ring_recv X Wt c false 2 12 (tc (cls c) 6) (by decide) (bl c (by decide)) rF2 (nrq _)) $$ [HM HRF]
  · iframe HI HM HRF
  iintro ⟨HM, HRF, Hlf2, Hrf2⟩
  iapply (send_wait1 X Wt c false 0 4 12 (tc (cls c) 6) (by decide) (by decide) (bl c (by decide)) sF2 (nrq _)) $$ [HM HSF Hrf0]
  · iframe HI HM HSF Hrf0
  iintro ⟨HM, HSF, Hff0⟩
  iapply (cr_signal X Wt c false 0 12 (tc (cls c) 6) 3 (by decide) rfl (by decide) (by decide) (dc1 c) cr0 rfl) $$ [HM HRF HDF Hff0]
  · iframe HI HN HM HRF HDF Hff0
  iintro ⟨HM, HRF, HDF⟩
  iapply (ring_send1 X Wt c false 2 13 (tc (cls c) 6) 0 3 3 (by decide) rfl (by decide) (by decide) (by decide) (by decide) (by decide) (dv0 c) mF2 mF4 sF4 rF4) $$ [HM HSF HCF HRF Hlf2]
  · iframe HI HN HM HSF HCF HRF Hlf2
  iintro ⟨HM, HSF, HCF, HRF⟩
  iapply Hk
  iframe HM HRF Hrf2 HSF HDF HCF

theorem pt31 (c : Dev nD) {k0_hw1 k0_hw2} {k : _ → Prog (TpuEff nD τ sig (Elt F) Λ₀ .tc) α} :
    iprop(Invs X Wt κ ιs ∗ Nbr c ∗ Main c 14 (tc (cls c) 6) ∗ RQ c true 2 ∗ SQ c true 2 4 ∗ sl X c true 0 fullShare.right ∗ RDq c true 0 ∗ CQ c true 0 ∗ tbl c ∗ sl X c false 2 fullShare.right ∗ wwl Wt c)
    ⊢ iprop(((Main c 16 (tc (cls c) 6) ∗ RQ c true 3 ∗ sl X c true 2 fullShare.right ∗ SQ c true 3 5 ∗ RDq c true 1 ∗ CQ c true 0 ∗ tbl c ∗ sl X c false 2 fullShare.right ∗ wwl Wt c) -∗ bwp c (k ⟨(mw c 4), (ck10 c), k0_pay10 (L1 X (org c false 2) (hf false 2)), (Scalar.addi (Scalar.muli (mw c 4) 256#32) 0#32), k0_pay11 (Wt c), (constant S128x512 .f32 0x00000000#32)⟩) Q)
    -∗ bwp c (k0_part31 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part31_eq_skeleton]; unfold k0_part31_skel
  simp only [semSignalWord, semWaitWord, smemLoad, smemLoadElt, Prog.lift, Prog.bind_op, Prog.bind_ret, Prog.pure_eq_ret, wp_deviceId]
  iintro ⟨#HI, #HN, HM, HRB, HSB, Hrb0, HDB, HCB, HT, Hrf2, HW⟩ Hk
  iapply (ring_recv X Wt c true 2 14 (tc (cls c) 6) (by decide) (bl c (by decide)) rB2 (nrq _)) $$ [HM HRB]
  · iframe HI HM HRB
  iintro ⟨HM, HRB, Hlb2, Hrb2⟩
  iapply (send_wait1 X Wt c true 0 4 14 (tc (cls c) 6) (by decide) (by decide) (bl c (by decide)) sB2 (nrq _)) $$ [HM HSB Hrb0]
  · iframe HI HM HSB Hrb0
  iintro ⟨HM, HSB, Hfb0⟩
  iapply (cr_signal X Wt c true 0 14 (tc (cls c) 6) 3 (by decide) rfl (by decide) (by decide) (dc0 c) cr1 rfl) $$ [HM HRB HDB Hfb0]
  · iframe HI HN HM HRB HDB Hfb0
  iintro ⟨HM, HRB, HDB⟩
  iapply (ring_send1 X Wt c true 2 15 (tc (cls c) 6) 0 3 3 (by decide) rfl (by decide) (by decide) (by decide) (by decide) (by decide) (dv1 c) mB2 mB4 sB4 rB4) $$ [HM HSB HCB HRB Hlb2]
  · iframe HI HN HM HSB HCB HRB Hlb2
  iintro ⟨HM, HSB, HCB, HRB⟩
  iapply (ld_t c 4 rfl) $$ [HT]
  · iexact HT
  iintro HT
  iapply (wp_assume 𝒱₀ (c : Thread nD τ) none Set.univ (ck10 c))
  iapply (ld_L X c mF2) $$ [Hrf2]
  · iexact Hrf2
  iintro Hrf2
  iapply (ld_w c z2) $$ [HW]
  · iexact HW
  iintro HW
  iapply Hk
  iframe HM HRB Hrb2 HSB HDB HCB HT Hrf2 HW

theorem pt32 (c : Dev nD) {k0_hw10} {k : _ → Prog (TpuEff nD τ sig (Elt F) Λ₀ .tc) α} :
    iprop(Invs X Wt κ ιs ∗ Nbr c ∗ OutQ X Wt c 4 ∗ tbl c ∗ sl X c true 2 fullShare.right ∗ wwl Wt c ∗ Main c 16 (tc (cls c) 6) ∗ RQ c false 3)
    ⊢ iprop(((OutQ X Wt c 6 ∗ tbl c ∗ sl X c true 2 fullShare.right ∗ wwl Wt c ∗ Main c 16 (tc (cls c) 6) ∗ RQ c false 4 ∗ sl X c false 3 fullShare.left ∗ sl X c false 3 fullShare.right) -∗ bwp c (k (rmx X Wt c 6)) Q)
    -∗ bwp c (k0_part32 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 4) (mw c 4) k0_hw10 (k0_pay10 (L1 X (org c false 2) (hf false 2))) (Scalar.addi (Scalar.muli (mw c 4) 256#32) 0#32) (k0_pay11 (Wt c)) (constant S128x512 .f32 0x00000000#32) >>= k) Q) := by
  rw [← rx14 X Wt c]
  rw [k0_part32_eq_skeleton]; unfold k0_part32_skel
  simp only [semSignalWord, semWaitWord, smemLoad, smemLoadElt, Prog.lift, Prog.bind_op, Prog.bind_ret, Prog.pure_eq_ret, wp_deviceId]
  iintro ⟨#HI, #HN, HO, HT, Hrb2, HW, HM, HRF⟩ Hk
  iapply (ld_deadO X Wt c 4) $$ HO
  iintro %vd HO
  iapply (st_prd X Wt c 4 (by decide) (of6 c) (wv4 X Wt c)) $$ HO
  iintro HO
  iapply (ld_t c 14 rfl) $$ [HT]
  · iexact HT
  iintro HT
  iapply (wp_assume 𝒱₀ (c : Thread nD τ) none Set.univ (ck11 c))
  iapply (ld_L X c mB2) $$ [Hrb2]
  · iexact Hrb2
  iintro Hrb2
  iapply (ld_w c z2) $$ [HW]
  · iexact HW
  iintro HW
  iapply (ld_deadO X Wt c 5) $$ HO
  iintro %vd HO
  iapply (st_prd X Wt c 5 (by decide) (of7 c) (wv5 X Wt c)) $$ HO
  iintro HO
  iapply (ring_recv X Wt c false 3 16 (tc (cls c) 6) (by decide) (bl c (by decide)) rF3 (nrq _)) $$ [HM HRF]
  · iframe HI HM HRF
  iintro ⟨HM, HRF, Hlf3, Hrf3⟩
  iapply Hk
  iframe HO HT Hrb2 HW HM HRF Hlf3 Hrf3

theorem pt33 (c : Dev nD) {k0_hw1 k0_hw2} {k : _ → Prog (TpuEff nD τ sig (Elt F) Λ₀ .tc) α} :
    iprop(Invs X Wt κ ιs ∗ Nbr c ∗ Main c 16 (tc (cls c) 6) ∗ SQ c false 3 5 ∗ sl X c false 1 fullShare.right ∗ RQ c false 4 ∗ RDq c false 1 ∗ CQ c false 0 ∗ sl X c false 3 fullShare.left ∗ RQ c true 3)
    ⊢ iprop(((Main c 18 (tc (cls c) 6) ∗ SQ c false 4 6 ∗ RQ c false 4 ∗ RDq c false 2 ∗ CQ c false 1 ∗ RQ c true 4 ∗ sl X c true 3 fullShare.left ∗ sl X c true 3 fullShare.right) -∗ bwp c (k ⟨⟩) Q)
    -∗ bwp c (k0_part33 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part33_eq_skeleton]; unfold k0_part33_skel
  simp only [semSignalWord, semWaitWord, smemLoad, smemLoadElt, Prog.lift, Prog.bind_op, Prog.bind_ret, Prog.pure_eq_ret, wp_deviceId]
  iintro ⟨#HI, #HN, HM, HSF, Hrf1, HRF, HDF, HCF, Hlf3, HRB⟩ Hk
  iapply (send_wait1 X Wt c false 1 5 16 (tc (cls c) 6) (by decide) (by decide) (bl c (by decide)) sF3 (nrq _)) $$ [HM HSF Hrf1]
  · iframe HI HM HSF Hrf1
  iintro ⟨HM, HSF, Hff1⟩
  iapply (cr_signal X Wt c false 1 16 (tc (cls c) 6) 4 (by decide) rfl (by decide) (by decide) (dc1 c) cr0 rfl) $$ [HM HRF HDF Hff1]
  · iframe HI HN HM HRF HDF Hff1
  iintro ⟨HM, HRF, HDF⟩
  iapply (cr_wait X Wt c false 0 17 (tc (cls c) 6) (by decide) (bl c (by decide)) cr0 rfl) $$ [HM HCF]
  · iframe HI HM HCF
  iintro ⟨HM, HCF⟩
  iapply (ring_send1 X Wt c false 3 17 (tc (cls c) 6) 1 4 4 (by decide) rfl (by decide) (by decide) (by decide) (by decide) (by decide) (dv0 c) mF3 mF0 sF0 rF0) $$ [HM HSF HCF HRF Hlf3]
  · iframe HI HN HM HSF HCF HRF Hlf3
  iintro ⟨HM, HSF, HCF, HRF⟩
  iapply (ring_recv X Wt c true 3 18 (tc (cls c) 6) (by decide) (bl c (by decide)) rB3 (nrq _)) $$ [HM HRB]
  · iframe HI HM HRB
  iintro ⟨HM, HRB, Hlb3, Hrb3⟩
  iapply Hk
  iframe HM HSF HRF HDF HCF HRB Hlb3 Hrb3

theorem pt36 (c : Dev nD) {k0_hw12} {k : _ → Prog (TpuEff nD τ sig (Elt F) Λ₀ .tc) α} :
    iprop(Invs X Wt κ ιs ∗ Nbr c ∗ wwl Wt c ∗ OutQ X Wt c 6 ∗ tbl c ∗ sl X c true 3 fullShare.right)
    ⊢ iprop(((wwl Wt c ∗ OutQ X Wt c 8 ∗ tbl c ∗ sl X c true 3 fullShare.right) -∗ bwp c (k (rmx X Wt c 8)) Q)
    -∗ bwp c (k0_part36 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 6) (mw c 5) k0_hw12 (k0_pay15 (L1 X (org c false 3) (hf false 3))) (Scalar.addi (Scalar.muli (mw c 5) 256#32) 128#32) >>= k) Q) := by
  rw [← rx18 X Wt c]
  rw [k0_part36_eq_skeleton]; unfold k0_part36_skel
  simp only [semSignalWord, semWaitWord, smemLoad, smemLoadElt, Prog.lift, Prog.bind_op, Prog.bind_ret, Prog.pure_eq_ret, wp_deviceId]
  iintro ⟨#HI, #HN, HW, HO, HT, Hrb3⟩ Hk
  iapply (ld_w c z2) $$ [HW]
  · iexact HW
  iintro HW
  iapply (ld_deadO X Wt c 6) $$ HO
  iintro %vd HO
  iapply (st_prd X Wt c 6 (by decide) (of8 c) (wv6 X Wt c)) $$ HO
  iintro HO
  iapply (ld_t c 15 rfl) $$ [HT]
  · iexact HT
  iintro HT
  iapply (wp_assume 𝒱₀ (c : Thread nD τ) none Set.univ (ck13 c))
  iapply (ld_L X c mB3) $$ [Hrb3]
  · iexact Hrb3
  iintro Hrb3
  iapply (ld_w c z2) $$ [HW]
  · iexact HW
  iintro HW
  iapply (ld_deadO X Wt c 7) $$ HO
  iintro %vd HO
  iapply (st_prd X Wt c 7 (by decide) (of9 c) (wv7 X Wt c)) $$ HO
  iintro HO
  iapply Hk
  iframe HW HO HT Hrb3

theorem pt37 (c : Dev nD) {k0_hw1 k0_hw2} {k : _ → Prog (TpuEff nD τ sig (Elt F) Λ₀ .tc) α} :
    iprop(Invs X Wt κ ιs ∗ Nbr c ∗ Main c 20 (tc (cls c) 10) ∗ RQ c false 4 ∗ SQ c false 4 6 ∗ sl X c false 2 fullShare.right ∗ RDq c false 2 ∗ CQ c false 1)
    ⊢ iprop(((Main c 22 (tc (cls c) 10) ∗ RQ c false 5 ∗ sl X c false 4 fullShare.right ∗ SQ c false 5 7 ∗ RDq c false 3 ∗ CQ c false 2) -∗ bwp c (k ⟨⟩) Q)
    -∗ bwp c (k0_part37 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part37_eq_skeleton]; unfold k0_part37_skel
  simp only [semSignalWord, semWaitWord, smemLoad, smemLoadElt, Prog.lift, Prog.bind_op, Prog.bind_ret, Prog.pure_eq_ret, wp_deviceId]
  iintro ⟨#HI, #HN, HM, HRF, HSF, Hrf2, HDF, HCF⟩ Hk
  iapply (ring_recv X Wt c false 4 20 (tc (cls c) 10) (by decide) (bl c (by decide)) rF4 (nrq _)) $$ [HM HRF]
  · iframe HI HM HRF
  iintro ⟨HM, HRF, Hlf4, Hrf4⟩
  iapply (send_wait1 X Wt c false 2 6 20 (tc (cls c) 10) (by decide) (by decide) (bl c (by decide)) sF4 (nrq _)) $$ [HM HSF Hrf2]
  · iframe HI HM HSF Hrf2
  iintro ⟨HM, HSF, Hff2⟩
  iapply (cr_signal X Wt c false 2 20 (tc (cls c) 10) 5 (by decide) rfl (by decide) (by decide) (dc1 c) cr0 rfl) $$ [HM HRF HDF Hff2]
  · iframe HI HN HM HRF HDF Hff2
  iintro ⟨HM, HRF, HDF⟩
  iapply (cr_wait X Wt c false 1 21 (tc (cls c) 10) (by decide) (bl c (by decide)) cr0 rfl) $$ [HM HCF]
  · iframe HI HM HCF
  iintro ⟨HM, HCF⟩
  iapply (ring_send1 X Wt c false 4 21 (tc (cls c) 10) 2 5 5 (by decide) rfl (by decide) (by decide) (by decide) (by decide) (by decide) (dv0 c) mF4 mF1 sF1 rF1) $$ [HM HSF HCF HRF Hlf4]
  · iframe HI HN HM HSF HCF HRF Hlf4
  iintro ⟨HM, HSF, HCF, HRF⟩
  iapply Hk
  iframe HM HRF Hrf4 HSF HDF HCF

theorem pt38 (c : Dev nD) {k0_hw1 k0_hw2} {k : _ → Prog (TpuEff nD τ sig (Elt F) Λ₀ .tc) α} :
    iprop(Invs X Wt κ ιs ∗ Nbr c ∗ Main c 22 (tc (cls c) 10) ∗ RQ c true 4 ∗ SQ c true 4 6 ∗ sl X c true 2 fullShare.right ∗ RDq c true 2 ∗ CQ c true 1)
    ⊢ iprop(((Main c 24 (tc (cls c) 10) ∗ RQ c true 5 ∗ sl X c true 4 fullShare.right ∗ SQ c true 5 7 ∗ RDq c true 3 ∗ CQ c true 2) -∗ bwp c (k ⟨⟩) Q)
    -∗ bwp c (k0_part38 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part38_eq_skeleton]; unfold k0_part38_skel
  simp only [semSignalWord, semWaitWord, smemLoad, smemLoadElt, Prog.lift, Prog.bind_op, Prog.bind_ret, Prog.pure_eq_ret, wp_deviceId]
  iintro ⟨#HI, #HN, HM, HRB, HSB, Hrb2, HDB, HCB⟩ Hk
  iapply (ring_recv X Wt c true 4 22 (tc (cls c) 10) (by decide) (bl c (by decide)) rB4 (nrq _)) $$ [HM HRB]
  · iframe HI HM HRB
  iintro ⟨HM, HRB, Hlb4, Hrb4⟩
  iapply (send_wait1 X Wt c true 2 6 22 (tc (cls c) 10) (by decide) (by decide) (bl c (by decide)) sB4 (nrq _)) $$ [HM HSB Hrb2]
  · iframe HI HM HSB Hrb2
  iintro ⟨HM, HSB, Hfb2⟩
  iapply (cr_signal X Wt c true 2 22 (tc (cls c) 10) 5 (by decide) rfl (by decide) (by decide) (dc0 c) cr1 rfl) $$ [HM HRB HDB Hfb2]
  · iframe HI HN HM HRB HDB Hfb2
  iintro ⟨HM, HRB, HDB⟩
  iapply (cr_wait X Wt c true 1 23 (tc (cls c) 10) (by decide) (bl c (by decide)) cr1 rfl) $$ [HM HCB]
  · iframe HI HM HCB
  iintro ⟨HM, HCB⟩
  iapply (ring_send1 X Wt c true 4 23 (tc (cls c) 10) 2 5 5 (by decide) rfl (by decide) (by decide) (by decide) (by decide) (by decide) (dv1 c) mB4 mB1 sB1 rB1) $$ [HM HSB HCB HRB Hlb4]
  · iframe HI HN HM HSB HCB HRB Hlb4
  iintro ⟨HM, HSB, HCB, HRB⟩
  iapply Hk
  iframe HM HRB Hrb4 HSB HDB HCB

theorem pt39 (c : Dev nD) {k : _ → Prog (TpuEff nD τ sig (Elt F) Λ₀ .tc) α} :
    iprop(Invs X Wt κ ιs ∗ Nbr c ∗ Main c 24 (tc (cls c) 10) ∗ LQ c 0 ∗ bn0 c (fm 2 0) ∗ Zs c ∗ Ldn c 0 ∗ tbl c ∗ wwl Wt c ∗ OutQ X Wt c 8)
    ⊢ iprop(((Main c 24 (tc (cls c) 10) ∗ LQ c 1 ∗ bnc X c 0 ∗ Zs c ∗ Ldn c 1 ∗ tbl c ∗ wwl Wt c ∗ OutQ X Wt c 9) -∗ bwp c (k ⟨(rmx X Wt c 9), (mw c 6), (ck15 c)⟩) Q)
    -∗ bwp c (k0_part39 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 8) >>= k) Q) := by
  rw [← rx20 X Wt c]
  rw [k0_part39_eq_skeleton]; unfold k0_part39_skel
  simp only [semSignalWord, semWaitWord, smemLoad, smemLoadElt, Prog.lift, Prog.bind_op, Prog.bind_ret, Prog.pure_eq_ret, wp_deviceId]
  iintro ⟨#HI, #HN, HM, HLQ, HN0, HZ, HLD, HT, HW, HO⟩ Hk
  iapply (rel_recv X Wt c 0 24 (tc (cls c) 10) (by decide) (bl c (by decide)) rR0 (nrq _)) $$ [HM HLQ]
  · iframe HI HM HLQ
  iintro ⟨HM, HLQ, HQ⟩
  iapply (loc_start c mR0 mC0 (congrArg SemLoc.dma sL) (nrq _)) $$ [HQ HN0 HZ]
  · isplitl [HQ]; iexact HQ; isplitl [HN0]; (iexact HN0); iexact HZ
  iintro HFl
  iapply (loc_wait X Wt c 24 (tc (cls c) 10) (bl c (by decide)) sL (nrq _)) $$ [HM HFl]
  · iframe HI HM HFl
  iintro ⟨HM, HZ, HQ, HN0⟩
  ihave HLD := (Ldn_app c 0) $$ [HLD HQ]
  · isplitl [HLD]; iexact HLD; iexact HQ
  iapply (ld_t c 25 rfl) $$ [HT]
  · iexact HT
  iintro HT
  iapply (wp_assume 𝒱₀ (c : Thread nD τ) none Set.univ (ck14 c))
  iapply (ld_B X c mC0) $$ [HN0]
  · iexact HN0
  iintro HN0
  iapply (ld_w c z2) $$ [HW]
  · iexact HW
  iintro HW
  iapply (ld_deadO X Wt c 8) $$ HO
  iintro %vd HO
  iapply (st_prd X Wt c 8 (by decide) (of10 c) (wv8 X Wt c)) $$ HO
  iintro HO
  iapply (ld_t c 6 rfl) $$ [HT]
  · iexact HT
  iintro HT
  iapply (wp_assume 𝒱₀ (c : Thread nD τ) none Set.univ (ck15 c))
  iapply Hk
  iframe HM HLQ HN0 HZ HLD HT HW HO

theorem pt40 (c : Dev nD) {k0_hw15} {k : _ → Prog (TpuEff nD τ sig (Elt F) Λ₀ .tc) α} :
    iprop(Invs X Wt κ ιs ∗ Nbr c ∗ sl X c false 4 fullShare.right ∗ wwl Wt c ∗ OutQ X Wt c 9 ∗ tbl c ∗ sl X c true 4 fullShare.right)
    ⊢ iprop(((sl X c false 4 fullShare.right ∗ wwl Wt c ∗ OutQ X Wt c 11 ∗ tbl c ∗ sl X c true 4 fullShare.right) -∗ bwp c (k (rmx X Wt c 11)) Q)
    -∗ bwp c (k0_part40 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 9) (mw c 6) k0_hw15 >>= k) Q) := by
  rw [← rx23 X Wt c]
  rw [k0_part40_eq_skeleton]; unfold k0_part40_skel
  simp only [semSignalWord, semWaitWord, smemLoad, smemLoadElt, Prog.lift, Prog.bind_op, Prog.bind_ret, Prog.pure_eq_ret, wp_deviceId]
  iintro ⟨#HI, #HN, Hrf4, HW, HO, HT, Hrb4⟩ Hk
  iapply (ld_L X c mF4) $$ [Hrf4]
  · iexact Hrf4
  iintro Hrf4
  iapply (ld_w c z2) $$ [HW]
  · iexact HW
  iintro HW
  iapply (ld_deadO X Wt c 9) $$ HO
  iintro %vd HO
  iapply (st_prd X Wt c 9 (by decide) (of11 c) (wv9 X Wt c)) $$ HO
  iintro HO
  iapply (ld_t c 16 rfl) $$ [HT]
  · iexact HT
  iintro HT
  iapply (wp_assume 𝒱₀ (c : Thread nD τ) none Set.univ (ck16 c))
  iapply (ld_L X c mB4) $$ [Hrb4]
  · iexact Hrb4
  iintro Hrb4
  iapply (ld_w c z2) $$ [HW]
  · iexact HW
  iintro HW
  iapply (ld_deadO X Wt c 10) $$ HO
  iintro %vd HO
  iapply (st_prd X Wt c 10 (by decide) (of12 c) (wv10 X Wt c)) $$ HO
  iintro HO
  iapply Hk
  iframe Hrf4 HW HO HT Hrb4

theorem pt41 (c : Dev nD) {k0_hw1 k0_hw2} {k : _ → Prog (TpuEff nD τ sig (Elt F) Λ₀ .tc) α} :
    iprop(Invs X Wt κ ιs ∗ Nbr c ∗ Main c 24 (tc (cls c) 10) ∗ RQ c false 5 ∗ SQ c false 5 7 ∗ sl X c false 3 fullShare.right ∗ RDq c false 3 ∗ CQ c false 2)
    ⊢ iprop(((Main c 26 (tc (cls c) 10) ∗ RQ c false 6 ∗ sl X c false 5 fullShare.right ∗ SQ c false 6 8 ∗ RDq c false 4 ∗ CQ c false 3) -∗ bwp c (k ⟨⟩) Q)
    -∗ bwp c (k0_part41 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part41_eq_skeleton]; unfold k0_part41_skel
  simp only [semSignalWord, semWaitWord, smemLoad, smemLoadElt, Prog.lift, Prog.bind_op, Prog.bind_ret, Prog.pure_eq_ret, wp_deviceId]
  iintro ⟨#HI, #HN, HM, HRF, HSF, Hrf3, HDF, HCF⟩ Hk
  iapply (ring_recv X Wt c false 5 24 (tc (cls c) 10) (by decide) (bl c (by decide)) rF0 (nrq _)) $$ [HM HRF]
  · iframe HI HM HRF
  iintro ⟨HM, HRF, Hlf5, Hrf5⟩
  iapply (send_wait1 X Wt c false 3 7 24 (tc (cls c) 10) (by decide) (by decide) (bl c (by decide)) sF0 (nrq _)) $$ [HM HSF Hrf3]
  · iframe HI HM HSF Hrf3
  iintro ⟨HM, HSF, Hff3⟩
  iapply (cr_signal X Wt c false 3 24 (tc (cls c) 10) 6 (by decide) rfl (by decide) (by decide) (dc1 c) cr0 rfl) $$ [HM HRF HDF Hff3]
  · iframe HI HN HM HRF HDF Hff3
  iintro ⟨HM, HRF, HDF⟩
  iapply (cr_wait X Wt c false 2 25 (tc (cls c) 10) (by decide) (bl c (by decide)) cr0 rfl) $$ [HM HCF]
  · iframe HI HM HCF
  iintro ⟨HM, HCF⟩
  iapply (ring_send1 X Wt c false 5 25 (tc (cls c) 10) 3 6 6 (by decide) rfl (by decide) (by decide) (by decide) (by decide) (by decide) (dv0 c) mF0 mF2 sF2 rF2) $$ [HM HSF HCF HRF Hlf5]
  · iframe HI HN HM HSF HCF HRF Hlf5
  iintro ⟨HM, HSF, HCF, HRF⟩
  iapply Hk
  iframe HM HRF Hrf5 HSF HDF HCF

end Cert.Proof
end
-- ==== Proof.BodyP2.lean ====
module

public import proofs.«01_k».proof.Proof.BodyE

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt42 (c : Dev nD) {k0_hw1 k0_hw2} {k : _ → Prog (TpuEff nD τ sig (Elt F) Λ₀ .tc) α} :
    iprop(Invs X Wt κ ιs ∗ Nbr c ∗ Main c 26 (tc (cls c) 10) ∗ RQ c true 5 ∗ SQ c true 5 7 ∗ sl X c true 3 fullShare.right ∗ RDq c true 3 ∗ CQ c true 2)
    ⊢ iprop(((Main c 28 (tc (cls c) 10) ∗ RQ c true 6 ∗ sl X c true 5 fullShare.right ∗ SQ c true 6 8 ∗ RDq c true 4 ∗ CQ c true 3) -∗ bwp c (k (Scalar.extui (Scalar.cmpi .eq (mw c 24) 0#32))) Q)
    -∗ bwp c (k0_part42 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 (mw c 24) >>= k) Q) := by
  rw [k0_part42_eq_skeleton]; unfold k0_part42_skel
  simp only [semSignalWord, semWaitWord, smemLoad, smemLoadElt, Prog.lift, Prog.bind_op, Prog.bind_ret, Prog.pure_eq_ret, wp_deviceId]
  iintro ⟨#HI, #HN, HM, HRB, HSB, Hrb3, HDB, HCB⟩ Hk
  iapply (ring_recv X Wt c true 5 26 (tc (cls c) 10) (by decide) (bl c (by decide)) rB0 (nrq _)) $$ [HM HRB]
  · iframe HI HM HRB
  iintro ⟨HM, HRB, Hlb5, Hrb5⟩
  iapply (send_wait1 X Wt c true 3 7 26 (tc (cls c) 10) (by decide) (by decide) (bl c (by decide)) sB0 (nrq _)) $$ [HM HSB Hrb3]
  · iframe HI HM HSB Hrb3
  iintro ⟨HM, HSB, Hfb3⟩
  iapply (cr_signal X Wt c true 3 26 (tc (cls c) 10) 6 (by decide) rfl (by decide) (by decide) (dc0 c) cr1 rfl) $$ [HM HRB HDB Hfb3]
  · iframe HI HN HM HRB HDB Hfb3
  iintro ⟨HM, HRB, HDB⟩
  iapply (cr_wait X Wt c true 2 27 (tc (cls c) 10) (by decide) (bl c (by decide)) cr1 rfl) $$ [HM HCB]
  · iframe HI HM HCB
  iintro ⟨HM, HCB⟩
  iapply (ring_send1 X Wt c true 5 27 (tc (cls c) 10) 3 6 6 (by decide) rfl (by decide) (by decide) (by decide) (by decide) (by decide) (dv1 c) mB0 mB2 sB2 rB2) $$ [HM HSB HCB HRB Hlb5]
  · iframe HI HN HM HSB HCB HRB Hlb5
  iintro ⟨HM, HSB, HCB, HRB⟩
  iapply Hk
  iframe HM HRB Hrb5 HSB HDB HCB

theorem pt45 (c : Dev nD) {k0_hw17} {k : _ → Prog (TpuEff nD τ sig (Elt F) Λ₀ .tc) α} :
    iprop(Invs X Wt κ ιs ∗ Nbr c ∗ bnc X c 1 ∗ wwl Wt c ∗ OutQ X Wt c 11 ∗ tbl c ∗ sl X c false 5 fullShare.right)
    ⊢ iprop(((bnc X c 1 ∗ wwl Wt c ∗ OutQ X Wt c 13 ∗ tbl c ∗ sl X c false 5 fullShare.right) -∗ bwp c (k ⟨(rmx X Wt c 13), (mw c 17)⟩) Q)
    -∗ bwp c (k0_part45 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 11) (mw c 25) k0_hw17 >>= k) Q) := by
  rw [← rx26 X Wt c]
  rw [k0_part45_eq_skeleton]; unfold k0_part45_skel
  simp only [semSignalWord, semWaitWord, smemLoad, smemLoadElt, Prog.lift, Prog.bind_op, Prog.bind_ret, Prog.pure_eq_ret, wp_deviceId]
  iintro ⟨#HI, #HN, HN1, HW, HO, HT, Hrf5⟩ Hk
  iapply (ld_B X c mC1) $$ [HN1]
  · iexact HN1
  iintro HN1
  iapply (ld_w c z2) $$ [HW]
  · iexact HW
  iintro HW
  iapply (ld_deadO X Wt c 11) $$ HO
  iintro %vd HO
  iapply (st_prd X Wt c 11 (by decide) (of13 c) (wv11 X Wt c)) $$ HO
  iintro HO
  iapply (ld_t c 7 rfl) $$ [HT]
  · iexact HT
  iintro HT
  iapply (wp_assume 𝒱₀ (c : Thread nD τ) none Set.univ (ck18 c))
  iapply (ld_L X c mF0) $$ [Hrf5]
  · iexact Hrf5
  iintro Hrf5
  iapply (ld_w c z2) $$ [HW]
  · iexact HW
  iintro HW
  iapply (ld_deadO X Wt c 12) $$ HO
  iintro %vd HO
  iapply (st_prd X Wt c 12 (by decide) (of14 c) (wv12 X Wt c)) $$ HO
  iintro HO
  iapply (ld_t c 17 rfl) $$ [HT]
  · iexact HT
  iintro HT
  iapply Hk
  iframe HN1 HW HO HT Hrf5

theorem pt46 (c : Dev nD) {k : _ → Prog (TpuEff nD τ sig (Elt F) Λ₀ .tc) α} :
    iprop(Invs X Wt κ ιs ∗ Nbr c ∗ sl X c true 5 fullShare.right ∗ wwl Wt c ∗ OutQ X Wt c 13 ∗ Main c 28 (tc (cls c) 14) ∗ RQ c false 6 ∗ SQ c false 6 8 ∗ sl X c false 4 fullShare.right)
    ⊢ iprop(((sl X c true 5 fullShare.right ∗ wwl Wt c ∗ OutQ X Wt c 14 ∗ Main c 28 (tc (cls c) 14) ∗ RQ c false 7 ∗ sl X c false 6 fullShare.left ∗ sl X c false 6 fullShare.right ∗ SQ c false 7 8 ∗ sl X c false 4 fullShare) -∗ bwp c (k (rmx X Wt c 14)) Q)
    -∗ bwp c (k0_part46 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 13) (mw c 17) >>= k) Q) := by
  rw [← rx28 X Wt c]
  rw [k0_part46_eq_skeleton]; unfold k0_part46_skel
  simp only [semSignalWord, semWaitWord, smemLoad, smemLoadElt, Prog.lift, Prog.bind_op, Prog.bind_ret, Prog.pure_eq_ret, wp_deviceId]
  iintro ⟨#HI, #HN, Hrb5, HW, HO, HM, HRF, HSF, Hrf4⟩ Hk
  iapply (wp_assume 𝒱₀ (c : Thread nD τ) none Set.univ (ck19 c))
  iapply (ld_L X c mB0) $$ [Hrb5]
  · iexact Hrb5
  iintro Hrb5
  iapply (ld_w c z2) $$ [HW]
  · iexact HW
  iintro HW
  iapply (ld_deadO X Wt c 13) $$ HO
  iintro %vd HO
  iapply (st_prd X Wt c 13 (by decide) (of15 c) (wv13 X Wt c)) $$ HO
  iintro HO
  iapply (ring_recv X Wt c false 6 28 (tc (cls c) 14) (by decide) (bl c (by decide)) rF1 (nrq _)) $$ [HM HRF]
  · iframe HI HM HRF
  iintro ⟨HM, HRF, Hlf6, Hrf6⟩
  iapply (send_wait1 X Wt c false 4 8 28 (tc (cls c) 14) (by decide) (by decide) (bl c (by decide)) sF1 (nrq _)) $$ [HM HSF Hrf4]
  · iframe HI HM HSF Hrf4
  iintro ⟨HM, HSF, Hff4⟩
  iapply Hk
  iframe Hrb5 HW HO HM HRF Hlf6 Hrf6 HSF Hff4

theorem pt47 (c : Dev nD) {k0_hw1 k0_hw2} {k : _ → Prog (TpuEff nD τ sig (Elt F) Λ₀ .tc) α} :
    iprop(Invs X Wt κ ιs ∗ Nbr c ∗ Main c 28 (tc (cls c) 14) ∗ RQ c false 7 ∗ RDq c false 4 ∗ sl X c false 4 fullShare ∗ CQ c false 3 ∗ SQ c false 7 8 ∗ sl X c false 6 fullShare.left ∗ RQ c true 6 ∗ SQ c true 6 8 ∗ sl X c true 4 fullShare.right)
    ⊢ iprop(((Main c 30 (tc (cls c) 14) ∗ RQ c false 7 ∗ RDq c false 5 ∗ CQ c false 4 ∗ SQ c false 7 9 ∗ RQ c true 7 ∗ sl X c true 6 fullShare.left ∗ sl X c true 6 fullShare.right ∗ SQ c true 7 8 ∗ sl X c true 4 fullShare) -∗ bwp c (k ⟨⟩) Q)
    -∗ bwp c (k0_part47 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part47_eq_skeleton]; unfold k0_part47_skel
  simp only [semSignalWord, semWaitWord, smemLoad, smemLoadElt, Prog.lift, Prog.bind_op, Prog.bind_ret, Prog.pure_eq_ret, wp_deviceId]
  iintro ⟨#HI, #HN, HM, HRF, HDF, Hff4, HCF, HSF, Hlf6, HRB, HSB, Hrb4⟩ Hk
  iapply (cr_signal X Wt c false 4 28 (tc (cls c) 14) 7 (by decide) rfl (by decide) (by decide) (dc1 c) cr0 rfl) $$ [HM HRF HDF Hff4]
  · iframe HI HN HM HRF HDF Hff4
  iintro ⟨HM, HRF, HDF⟩
  iapply (cr_wait X Wt c false 3 29 (tc (cls c) 14) (by decide) (bl c (by decide)) cr0 rfl) $$ [HM HCF]
  · iframe HI HM HCF
  iintro ⟨HM, HCF⟩
  iapply (ring_send1 X Wt c false 6 29 (tc (cls c) 14) 4 7 7 (by decide) rfl (by decide) (by decide) (by decide) (by decide) (by decide) (dv0 c) mF1 mF3 sF3 rF3) $$ [HM HSF HCF HRF Hlf6]
  · iframe HI HN HM HSF HCF HRF Hlf6
  iintro ⟨HM, HSF, HCF, HRF⟩
  iapply (ring_recv X Wt c true 6 30 (tc (cls c) 14) (by decide) (bl c (by decide)) rB1 (nrq _)) $$ [HM HRB]
  · iframe HI HM HRB
  iintro ⟨HM, HRB, Hlb6, Hrb6⟩
  iapply (send_wait1 X Wt c true 4 8 30 (tc (cls c) 14) (by decide) (by decide) (bl c (by decide)) sB1 (nrq _)) $$ [HM HSB Hrb4]
  · iframe HI HM HSB Hrb4
  iintro ⟨HM, HSB, Hfb4⟩
  iapply Hk
  iframe HM HRF HDF HCF HSF HRB Hlb6 Hrb6 HSB Hfb4

theorem pt48 (c : Dev nD) {k0_hw1 k0_hw2} {k : _ → Prog (TpuEff nD τ sig (Elt F) Λ₀ .tc) α} :
    iprop(Invs X Wt κ ιs ∗ Nbr c ∗ Main c 30 (tc (cls c) 14) ∗ RQ c true 7 ∗ RDq c true 4 ∗ sl X c true 4 fullShare ∗ CQ c true 3 ∗ SQ c true 7 8 ∗ sl X c true 6 fullShare.left ∗ LQ c 2 ∗ bnc X c 0 ∗ Zs c)
    ⊢ iprop(((Main c 32 (tc (cls c) 14) ∗ RQ c true 7 ∗ RDq c true 5 ∗ CQ c true 4 ∗ SQ c true 7 9 ∗ LQ c 3 ∗ Fl c (relM (f10 2)) (bncM (fm 2 2)) fullShare (chk X (rorg c 2) (fm 2 2))) -∗ bwp c (k ⟨⟩) Q)
    -∗ bwp c (k0_part48 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 (mw c 1) k0_hw2 >>= k) Q) := by
  rw [k0_part48_eq_skeleton]; unfold k0_part48_skel
  simp only [semSignalWord, semWaitWord, smemLoad, smemLoadElt, Prog.lift, Prog.bind_op, Prog.bind_ret, Prog.pure_eq_ret, wp_deviceId]
  iintro ⟨#HI, #HN, HM, HRB, HDB, Hfb4, HCB, HSB, Hlb6, HLQ, HN0, HZ⟩ Hk
  iapply (cr_signal X Wt c true 4 30 (tc (cls c) 14) 7 (by decide) rfl (by decide) (by decide) (dc0 c) cr1 rfl) $$ [HM HRB HDB Hfb4]
  · iframe HI HN HM HRB HDB Hfb4
  iintro ⟨HM, HRB, HDB⟩
  iapply (cr_wait X Wt c true 3 31 (tc (cls c) 14) (by decide) (bl c (by decide)) cr1 rfl) $$ [HM HCB]
  · iframe HI HM HCB
  iintro ⟨HM, HCB⟩
  iapply (ring_send1 X Wt c true 6 31 (tc (cls c) 14) 4 7 7 (by decide) rfl (by decide) (by decide) (by decide) (by decide) (by decide) (dv1 c) mB1 mB3 sB3 rB3) $$ [HM HSB HCB HRB Hlb6]
  · iframe HI HN HM HSB HCB HRB Hlb6
  iintro ⟨HM, HSB, HCB, HRB⟩
  iapply (rel_recv X Wt c 2 32 (tc (cls c) 14) (by decide) (bl c (by decide)) rR2 (nrq _)) $$ [HM HLQ]
  · iframe HI HM HLQ
  iintro ⟨HM, HLQ, HQ⟩
  iapply (loc_start c mR2 mC0 (congrArg SemLoc.dma sL) (nrq _)) $$ [HQ HN0 HZ]
  · isplitl [HQ]; iexact HQ; isplitl [HN0]; (iexists _; iexact HN0); iexact HZ
  iintro HFl
  iapply Hk
  iframe HM HRB HDB HCB HSB HLQ HFl

theorem pt49 (c : Dev nD) {k : _ → Prog (TpuEff nD τ sig (Elt F) Λ₀ .tc) α} :
    iprop(Invs X Wt κ ιs ∗ Nbr c ∗ Main c 32 (tc (cls c) 14) ∗ Fl c (relM (f10 2)) (bncM (fm 2 2)) fullShare (chk X (rorg c 2) (fm 2 2)) ∗ Ldn c 2 ∗ tbl c ∗ wwl Wt c ∗ OutQ X Wt c 14 ∗ sl X c false 6 fullShare.right)
    ⊢ iprop(((Main c 32 (tc (cls c) 14) ∗ Ldn c 3 ∗ Zs c ∗ bnc X c 2 ∗ tbl c ∗ wwl Wt c ∗ OutQ X Wt c 16 ∗ sl X c false 6 fullShare.right) -∗ bwp c (k ⟨(rmx X Wt c 15), k0_pay31 (L1 X (org c false 6) (hf false 6)) (Wt c)⟩) Q)
    -∗ bwp c (k0_part49 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 14) >>= k) Q) := by
  rw [← rx30 X Wt c]
  rw [k0_part49_eq_skeleton]; unfold k0_part49_skel
  simp only [semSignalWord, semWaitWord, smemLoad, smemLoadElt, Prog.lift, Prog.bind_op, Prog.bind_ret, Prog.pure_eq_ret, wp_deviceId]
  iintro ⟨#HI, #HN, HM, HFl, HLD, HT, HW, HO, Hrf6⟩ Hk
  iapply (loc_wait X Wt c 32 (tc (cls c) 14) (bl c (by decide)) sL (nrq _)) $$ [HM HFl]
  · iframe HI HM HFl
  iintro ⟨HM, HZ, HQ, HN0⟩
  ihave HLD := (Ldn_app c 2) $$ [HLD HQ]
  · isplitl [HLD]; iexact HLD; iexact HQ
  iapply (ld_t c 26 rfl) $$ [HT]
  · iexact HT
  iintro HT
  iapply (wp_assume 𝒱₀ (c : Thread nD τ) none Set.univ (ck20 c))
  iapply (ld_B X c mC0) $$ [HN0]
  · iexact HN0
  iintro HN0
  iapply (ld_w c z2) $$ [HW]
  · iexact HW
  iintro HW
  iapply (ld_deadO X Wt c 14) $$ HO
  iintro %vd HO
  iapply (st_prd X Wt c 14 (by decide) (of16 c) (wv14 X Wt c)) $$ HO
  iintro HO
  iapply (ld_t c 8 rfl) $$ [HT]
  · iexact HT
  iintro HT
  iapply (wp_assume 𝒱₀ (c : Thread nD τ) none Set.univ (ck21 c))
  iapply (ld_L X c mF1) $$ [Hrf6]
  · iexact Hrf6
  iintro Hrf6
  iapply (ld_w c z2) $$ [HW]
  · iexact HW
  iintro HW
  iapply (ld_deadO X Wt c 15) $$ HO
  iintro %vd HO
  iapply (st_prd X Wt c 15 (by decide) (of17 c) (wv15 X Wt c)) $$ HO
  iintro HO
  iapply Hk
  iframe HM HLD HZ HN0 HT HW HO Hrf6

theorem pt50 (c : Dev nD) {k : _ → Prog (TpuEff nD τ sig (Elt F) Λ₀ .tc) α} :
    iprop(Invs X Wt κ ιs ∗ Nbr c ∗ tbl c ∗ sl X c true 6 fullShare.right ∗ wwl Wt c ∗ OutQ X Wt c 16 ∗ Main c 32 (tc (cls c) 14) ∗ RQ c false 7)
    ⊢ iprop(((tbl c ∗ sl X c true 6 fullShare.right ∗ wwl Wt c ∗ OutQ X Wt c 17 ∗ Main c 32 (tc (cls c) 14) ∗ RQ c false 8 ∗ sl X c false 7 fullShare.left ∗ sl X c false 7 fullShare.right) -∗ bwp c (k (rmx X Wt c 17)) Q)
    -∗ bwp c (k0_part50 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 15) (k0_pay31 (L1 X (org c false 6) (hf false 6)) (Wt c)) >>= k) Q) := by
  rw [← rx33 X Wt c]
  rw [k0_part50_eq_skeleton]; unfold k0_part50_skel
  simp only [semSignalWord, semWaitWord, smemLoad, smemLoadElt, Prog.lift, Prog.bind_op, Prog.bind_ret, Prog.pure_eq_ret, wp_deviceId]
  iintro ⟨#HI, #HN, HT, Hrb6, HW, HO, HM, HRF⟩ Hk
  iapply (ld_t c 18 rfl) $$ [HT]
  · iexact HT
  iintro HT
  iapply (wp_assume 𝒱₀ (c : Thread nD τ) none Set.univ (ck22 c))
  iapply (ld_L X c mB1) $$ [Hrb6]
  · iexact Hrb6
  iintro Hrb6
  iapply (ld_w c z2) $$ [HW]
  · iexact HW
  iintro HW
  iapply (ld_deadO X Wt c 16) $$ HO
  iintro %vd HO
  iapply (st_prd X Wt c 16 (by decide) (of18 c) (wv16 X Wt c)) $$ HO
  iintro HO
  iapply (ring_recv X Wt c false 7 32 (tc (cls c) 14) (by decide) (bl c (by decide)) rF2 (nrq _)) $$ [HM HRF]
  · iframe HI HM HRF
  iintro ⟨HM, HRF, Hlf7, Hrf7⟩
  iapply Hk
  iframe HT Hrb6 HW HO HM HRF Hlf7 Hrf7

theorem pt51 (c : Dev nD) {k0_hw1} {k : _ → Prog (TpuEff nD τ sig (Elt F) Λ₀ .tc) α} :
    iprop(Invs X Wt κ ιs ∗ Nbr c ∗ Main c 32 (tc (cls c) 14) ∗ SQ c false 7 9 ∗ sl X c false 5 fullShare.right ∗ CQ c false 4 ∗ RQ c false 8 ∗ sl X c false 7 fullShare.left ∗ RQ c true 7)
    ⊢ iprop(((Main c 33 (tc (cls c) 14) ∗ SQ c false 8 10 ∗ sl X c false 5 fullShare ∗ CQ c false 5 ∗ RQ c false 8 ∗ RQ c true 8 ∗ sl X c true 7 fullShare.left ∗ sl X c true 7 fullShare.right) -∗ bwp c (k ⟨⟩) Q)
    -∗ bwp c (k0_part51 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (mw c 0) k0_hw1 >>= k) Q) := by
  rw [k0_part51_eq_skeleton]; unfold k0_part51_skel
  simp only [semSignalWord, semWaitWord, smemLoad, smemLoadElt, Prog.lift, Prog.bind_op, Prog.bind_ret, Prog.pure_eq_ret, wp_deviceId]
  iintro ⟨#HI, #HN, HM, HSF, Hrf5, HCF, HRF, Hlf7, HRB⟩ Hk
  iapply (send_wait1 X Wt c false 5 9 32 (tc (cls c) 14) (by decide) (by decide) (bl c (by decide)) sF2 (nrq _)) $$ [HM HSF Hrf5]
  · iframe HI HM HSF Hrf5
  iintro ⟨HM, HSF, Hff5⟩
  iapply (cr_wait X Wt c false 4 32 (tc (cls c) 14) (by decide) (bl c (by decide)) cr0 rfl) $$ [HM HCF]
  · iframe HI HM HCF
  iintro ⟨HM, HCF⟩
  iapply (ring_send1 X Wt c false 7 32 (tc (cls c) 14) 5 8 8 (by decide) rfl (by decide) (by decide) (by decide) (by decide) (by decide) (dv0 c) mF2 mF4 sF4 rF4) $$ [HM HSF HCF HRF Hlf7]
  · iframe HI HN HM HSF HCF HRF Hlf7
  iintro ⟨HM, HSF, HCF, HRF⟩
  iapply (ring_recv X Wt c true 7 33 (tc (cls c) 14) (by decide) (bl c (by decide)) rB2 (nrq _)) $$ [HM HRB]
  · iframe HI HM HRB
  iintro ⟨HM, HRB, Hlb7, Hrb7⟩
  iapply Hk
  iframe HM HSF Hff5 HCF HRF HRB Hlb7 Hrb7

theorem pt53 (c : Dev nD) {k : _ → Prog (TpuEff nD τ sig (Elt F) Λ₀ .tc) α} :
    iprop(Invs X Wt κ ιs ∗ Nbr c ∗ Main c 34 10 ∗ LQ c 3 ∗ bnc X c 1 ∗ Zs c ∗ Ldn c 3 ∗ tbl c ∗ wwl Wt c ∗ OutQ X Wt c 17)
    ⊢ iprop(((Main c 34 10 ∗ LQ c 4 ∗ bnc X c 3 ∗ Zs c ∗ Ldn c 4 ∗ tbl c ∗ wwl Wt c ∗ OutQ X Wt c 18) -∗ bwp c (k (k0_pay35 (L1 X (rorg c 3) (fm 2 3)) (Wt c))) Q)
    -∗ bwp c (k0_part53 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part53_eq_skeleton]; unfold k0_part53_skel
  simp only [semSignalWord, semWaitWord, smemLoad, smemLoadElt, Prog.lift, Prog.bind_op, Prog.bind_ret, Prog.pure_eq_ret, wp_deviceId]
  iintro ⟨#HI, #HN, HM, HLQ, HN1, HZ, HLD, HT, HW, HO⟩ Hk
  iapply (rel_recv X Wt c 3 34 10 (by decide) (by decide) rR3 (nrq _)) $$ [HM HLQ]
  · iframe HI HM HLQ
  iintro ⟨HM, HLQ, HQ⟩
  iapply (loc_start c mR3 mC1 (congrArg SemLoc.dma sL) (nrq _)) $$ [HQ HN1 HZ]
  · isplitl [HQ]; iexact HQ; isplitl [HN1]; (iexists _; iexact HN1); iexact HZ
  iintro HFl
  iapply (loc_wait X Wt c 34 10 (by decide) sL (nrq _)) $$ [HM HFl]
  · iframe HI HM HFl
  iintro ⟨HM, HZ, HQ, HN1⟩
  ihave HLD := (Ldn_app c 3) $$ [HLD HQ]
  · isplitl [HLD]; iexact HLD; iexact HQ
  iapply (ld_t c 26 rfl) $$ [HT]
  · iexact HT
  iintro HT
  iapply (wp_assume 𝒱₀ (c : Thread nD τ) none Set.univ (ck23 c))
  iapply (ld_B X c mC1) $$ [HN1]
  · iexact HN1
  iintro HN1
  iapply (ld_w c z2) $$ [HW]
  · iexact HW
  iintro HW
  iapply (ld_deadO X Wt c 17) $$ HO
  iintro %vd HO
  iapply (st_prd X Wt c 17 (by decide) (of19 c) (wv17 X Wt c)) $$ HO
  iintro HO
  iapply Hk
  iframe HM HLQ HN1 HZ HLD HT HW HO

theorem pt54 (c : Dev nD) {k : _ → Prog (TpuEff nD τ sig (Elt F) Λ₀ .tc) α} :
    iprop(Invs X Wt κ ιs ∗ Nbr c ∗ tbl c ∗ sl X c false 7 fullShare.right ∗ wwl Wt c ∗ OutQ X Wt c 18 ∗ sl X c true 7 fullShare.right)
    ⊢ iprop(((tbl c ∗ sl X c false 7 fullShare.right ∗ wwl Wt c ∗ OutQ X Wt c 19 ∗ sl X c true 7 fullShare.right) -∗ bwp c (k ⟨(rmx X Wt c 19), (mw c 19), (ck25 c), k0_pay38 (L1 X (org c true 7) (hf true 7)) (Wt c)⟩) Q)
    -∗ bwp c (k0_part54 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 17) (k0_pay35 (L1 X (rorg c 3) (fm 2 3)) (Wt c)) >>= k) Q) := by
  rw [← rx37 X Wt c]
  rw [k0_part54_eq_skeleton]; unfold k0_part54_skel
  simp only [semSignalWord, semWaitWord, smemLoad, smemLoadElt, Prog.lift, Prog.bind_op, Prog.bind_ret, Prog.pure_eq_ret, wp_deviceId]
  iintro ⟨#HI, #HN, HT, Hrf7, HW, HO, Hrb7⟩ Hk
  iapply (ld_t c 9 rfl) $$ [HT]
  · iexact HT
  iintro HT
  iapply (wp_assume 𝒱₀ (c : Thread nD τ) none Set.univ (ck24 c))
  iapply (ld_L X c mF2) $$ [Hrf7]
  · iexact Hrf7
  iintro Hrf7
  iapply (ld_w c z2) $$ [HW]
  · iexact HW
  iintro HW
  iapply (ld_deadO X Wt c 18) $$ HO
  iintro %vd HO
  iapply (st_prd X Wt c 18 (by decide) (of20 c) (wv18 X Wt c)) $$ HO
  iintro HO
  iapply (ld_t c 19 rfl) $$ [HT]
  · iexact HT
  iintro HT
  iapply (wp_assume 𝒱₀ (c : Thread nD τ) none Set.univ (ck25 c))
  iapply (ld_L X c mB2) $$ [Hrb7]
  · iexact Hrb7
  iintro Hrb7
  iapply (ld_w c z2) $$ [HW]
  · iexact HW
  iintro HW
  iapply (ld_deadO X Wt c 19) $$ HO
  iintro %vd HO
  iapply Hk
  iframe HT Hrf7 HW HO Hrb7

theorem pt55 (c : Dev nD) {k0_hw25} {k : _ → Prog (TpuEff nD τ sig (Elt F) Λ₀ .tc) α} :
    iprop(Invs X Wt κ ιs ∗ Nbr c ∗ OutQ X Wt c 19 ∗ Main c 34 10 ∗ RQ c false 8 ∗ SQ c false 8 10 ∗ sl X c false 6 fullShare.right ∗ RQ c true 8)
    ⊢ iprop(((OutQ X Wt c 20 ∗ Main c 34 10 ∗ RQ c false 9 ∗ sl X c false 8 fullShare.left ∗ sl X c false 8 fullShare.right ∗ SQ c false 9 10 ∗ sl X c false 6 fullShare ∗ RQ c true 9 ∗ sl X c true 8 fullShare.left ∗ sl X c true 8 fullShare.right) -∗ bwp c (k (rmx X Wt c 20)) Q)
    -∗ bwp c (k0_part55 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 19) (mw c 19) k0_hw25 (k0_pay38 (L1 X (org c true 7) (hf true 7)) (Wt c)) >>= k) Q) := by
  rw [← rx39 X Wt c]
  rw [k0_part55_eq_skeleton]; unfold k0_part55_skel
  simp only [semSignalWord, semWaitWord, smemLoad, smemLoadElt, Prog.lift, Prog.bind_op, Prog.bind_ret, Prog.pure_eq_ret, wp_deviceId]
  iintro ⟨#HI, #HN, HO, HM, HRF, HSF, Hrf6, HRB⟩ Hk
  iapply (st_prd X Wt c 19 (by decide) (of21 c) (wv19 X Wt c)) $$ HO
  iintro HO
  iapply (ring_recv X Wt c false 8 34 10 (by decide) (by decide) rF3 (nrq _)) $$ [HM HRF]
  · iframe HI HM HRF
  iintro ⟨HM, HRF, Hlf8, Hrf8⟩
  iapply (send_wait1 X Wt c false 6 10 34 10 (by decide) (by decide) (by decide) sF3 (nrq _)) $$ [HM HSF Hrf6]
  · iframe HI HM HSF Hrf6
  iintro ⟨HM, HSF, Hff6⟩
  iapply (ring_recv X Wt c true 8 34 10 (by decide) (by decide) rB3 (nrq _)) $$ [HM HRB]
  · iframe HI HM HRB
  iintro ⟨HM, HRB, Hlb8, Hrb8⟩
  iapply Hk
  iframe HO HM HRF Hlf8 Hrf8 HSF Hff6 HRB Hlb8 Hrb8

theorem pt56 (c : Dev nD) {k : _ → Prog (TpuEff nD τ sig (Elt F) Λ₀ .tc) α} :
    iprop(Invs X Wt κ ιs ∗ Nbr c ∗ Main c 34 10 ∗ SQ c true 8 10 ∗ sl X c true 6 fullShare.right ∗ LQ c 4 ∗ bnc X c 2 ∗ Zs c ∗ Ldn c 4 ∗ tbl c)
    ⊢ iprop(((Main c 34 10 ∗ SQ c true 9 10 ∗ sl X c true 6 fullShare ∗ LQ c 5 ∗ bnc X c 4 ∗ Zs c ∗ Ldn c 5 ∗ tbl c) -∗ bwp c (k ⟨(mw c 27), (ck26 c), k0_pay40 (L1 X (rorg c 4) (fm 2 4)), (Scalar.addi (Scalar.muli (mw c 27) 256#32) 0#32)⟩) Q)
    -∗ bwp c (k0_part56 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part56_eq_skeleton]; unfold k0_part56_skel
  simp only [semSignalWord, semWaitWord, smemLoad, smemLoadElt, Prog.lift, Prog.bind_op, Prog.bind_ret, Prog.pure_eq_ret, wp_deviceId]
  iintro ⟨#HI, #HN, HM, HSB, Hrb6, HLQ, HN0, HZ, HLD, HT⟩ Hk
  iapply (send_wait1 X Wt c true 6 10 34 10 (by decide) (by decide) (by decide) sB3 (nrq _)) $$ [HM HSB Hrb6]
  · iframe HI HM HSB Hrb6
  iintro ⟨HM, HSB, Hfb6⟩
  iapply (rel_recv X Wt c 4 34 10 (by decide) (by decide) rR4 (nrq _)) $$ [HM HLQ]
  · iframe HI HM HLQ
  iintro ⟨HM, HLQ, HQ⟩
  iapply (loc_start c mR4 mC0 (congrArg SemLoc.dma sL) (nrq _)) $$ [HQ HN0 HZ]
  · isplitl [HQ]; iexact HQ; isplitl [HN0]; (iexists _; iexact HN0); iexact HZ
  iintro HFl
  iapply (loc_wait X Wt c 34 10 (by decide) sL (nrq _)) $$ [HM HFl]
  · iframe HI HM HFl
  iintro ⟨HM, HZ, HQ, HN0⟩
  ihave HLD := (Ldn_app c 4) $$ [HLD HQ]
  · isplitl [HLD]; iexact HLD; iexact HQ
  iapply (ld_t c 27 rfl) $$ [HT]
  · iexact HT
  iintro HT
  iapply (wp_assume 𝒱₀ (c : Thread nD τ) none Set.univ (ck26 c))
  iapply (ld_B X c mC0) $$ [HN0]
  · iexact HN0
  iintro HN0
  iapply Hk
  iframe HM HSB Hfb6 HLQ HN0 HZ HLD HT

theorem pt57 (c : Dev nD) {k0_hw26} {k : _ → Prog (TpuEff nD τ sig (Elt F) Λ₀ .tc) α} :
    iprop(Invs X Wt κ ιs ∗ Nbr c ∗ wwl Wt c ∗ OutQ X Wt c 20 ∗ tbl c ∗ sl X c false 8 fullShare.right ∗ sl X c true 8 fullShare.right)
    ⊢ iprop(((wwl Wt c ∗ OutQ X Wt c 22 ∗ tbl c ∗ sl X c false 8 fullShare.right ∗ sl X c true 8 fullShare.right) -∗ bwp c (k ⟨(rmx X Wt c 22), (mw c 20), (ck28 c), k0_pay44 (L1 X (org c true 8) (hf true 8)), (Scalar.addi (Scalar.muli (mw c 20) 256#32) 128#32)⟩) Q)
    -∗ bwp c (k0_part57 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 20) (mw c 27) k0_hw26 (k0_pay40 (L1 X (rorg c 4) (fm 2 4))) (Scalar.addi (Scalar.muli (mw c 27) 256#32) 0#32) >>= k) Q) := by
  rw [← rx43 X Wt c]
  rw [k0_part57_eq_skeleton]; unfold k0_part57_skel
  simp only [semSignalWord, semWaitWord, smemLoad, smemLoadElt, Prog.lift, Prog.bind_op, Prog.bind_ret, Prog.pure_eq_ret, wp_deviceId]
  iintro ⟨#HI, #HN, HW, HO, HT, Hrf8, Hrb8⟩ Hk
  iapply (ld_w c z2) $$ [HW]
  · iexact HW
  iintro HW
  iapply (ld_deadO X Wt c 20) $$ HO
  iintro %vd HO
  iapply (st_prd X Wt c 20 (by decide) (of22 c) (wv20 X Wt c)) $$ HO
  iintro HO
  iapply (ld_t c 10 rfl) $$ [HT]
  · iexact HT
  iintro HT
  iapply (wp_assume 𝒱₀ (c : Thread nD τ) none Set.univ (ck27 c))
  iapply (ld_L X c mF3) $$ [Hrf8]
  · iexact Hrf8
  iintro Hrf8
  iapply (ld_w c z2) $$ [HW]
  · iexact HW
  iintro HW
  iapply (ld_deadO X Wt c 21) $$ HO
  iintro %vd HO
  iapply (st_prd X Wt c 21 (by decide) (of23 c) (wv21 X Wt c)) $$ HO
  iintro HO
  iapply (ld_t c 20 rfl) $$ [HT]
  · iexact HT
  iintro HT
  iapply (wp_assume 𝒱₀ (c : Thread nD τ) none Set.univ (ck28 c))
  iapply (ld_L X c mB3) $$ [Hrb8]
  · iexact Hrb8
  iintro Hrb8
  iapply Hk
  iframe HW HO HT Hrf8 Hrb8

theorem pt58 (c : Dev nD) {k0_hw28} {k : _ → Prog (TpuEff nD τ sig (Elt F) Λ₀ .tc) α} :
    iprop(Invs X Wt κ ιs ∗ Nbr c ∗ wwl Wt c ∗ OutQ X Wt c 22 ∗ Main c 34 10 ∗ RQ c false 9 ∗ SQ c false 9 10 ∗ sl X c false 7 fullShare.right)
    ⊢ iprop(((wwl Wt c ∗ OutQ X Wt c 23 ∗ Main c 34 10 ∗ RQ c false 10 ∗ sl X c false 9 fullShare.left ∗ sl X c false 9 fullShare.right ∗ SQ c false 10 10 ∗ sl X c false 7 fullShare) -∗ bwp c (k (rmx X Wt c 23)) Q)
    -∗ bwp c (k0_part58 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 22) (mw c 20) k0_hw28 (k0_pay44 (L1 X (org c true 8) (hf true 8))) (Scalar.addi (Scalar.muli (mw c 20) 256#32) 128#32) >>= k) Q) := by
  rw [← rx46 X Wt c]
  rw [k0_part58_eq_skeleton]; unfold k0_part58_skel
  simp only [semSignalWord, semWaitWord, smemLoad, smemLoadElt, Prog.lift, Prog.bind_op, Prog.bind_ret, Prog.pure_eq_ret, wp_deviceId]
  iintro ⟨#HI, #HN, HW, HO, HM, HRF, HSF, Hrf7⟩ Hk
  iapply (ld_w c z2) $$ [HW]
  · iexact HW
  iintro HW
  iapply (ld_deadO X Wt c 22) $$ HO
  iintro %vd HO
  iapply (st_prd X Wt c 22 (by decide) (of24 c) (wv22 X Wt c)) $$ HO
  iintro HO
  iapply (ring_recv X Wt c false 9 34 10 (by decide) (by decide) rF4 (nrq _)) $$ [HM HRF]
  · iframe HI HM HRF
  iintro ⟨HM, HRF, Hlf9, Hrf9⟩
  iapply (send_wait1 X Wt c false 7 10 34 10 (by decide) (by decide) (by decide) sF4 (nrq _)) $$ [HM HSF Hrf7]
  · iframe HI HM HSF Hrf7
  iintro ⟨HM, HSF, Hff7⟩
  iapply Hk
  iframe HW HO HM HRF Hlf9 Hrf9 HSF Hff7

theorem pt59 (c : Dev nD) {k : _ → Prog (TpuEff nD τ sig (Elt F) Λ₀ .tc) α} :
    iprop(Invs X Wt κ ιs ∗ Nbr c ∗ Main c 34 10 ∗ RQ c true 9 ∗ SQ c true 9 10 ∗ sl X c true 7 fullShare.right ∗ LQ c 5 ∗ bnc X c 3 ∗ Zs c ∗ Ldn c 5 ∗ tbl c)
    ⊢ iprop(((Main c 34 10 ∗ RQ c true 10 ∗ sl X c true 9 fullShare.left ∗ sl X c true 9 fullShare.right ∗ SQ c true 10 10 ∗ sl X c true 7 fullShare ∗ LQ c 6 ∗ bnc X c 5 ∗ Zs c ∗ Ldn c 6 ∗ tbl c) -∗ bwp c (k (mw c 27)) Q)
    -∗ bwp c (k0_part59 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part59_eq_skeleton]; unfold k0_part59_skel
  simp only [semSignalWord, semWaitWord, smemLoad, smemLoadElt, Prog.lift, Prog.bind_op, Prog.bind_ret, Prog.pure_eq_ret, wp_deviceId]
  iintro ⟨#HI, #HN, HM, HRB, HSB, Hrb7, HLQ, HN1, HZ, HLD, HT⟩ Hk
  iapply (ring_recv X Wt c true 9 34 10 (by decide) (by decide) rB4 (nrq _)) $$ [HM HRB]
  · iframe HI HM HRB
  iintro ⟨HM, HRB, Hlb9, Hrb9⟩
  iapply (send_wait1 X Wt c true 7 10 34 10 (by decide) (by decide) (by decide) sB4 (nrq _)) $$ [HM HSB Hrb7]
  · iframe HI HM HSB Hrb7
  iintro ⟨HM, HSB, Hfb7⟩
  iapply (rel_recv X Wt c 5 34 10 (by decide) (by decide) rR5 (nrq _)) $$ [HM HLQ]
  · iframe HI HM HLQ
  iintro ⟨HM, HLQ, HQ⟩
  iapply (loc_start c mR5 mC1 (congrArg SemLoc.dma sL) (nrq _)) $$ [HQ HN1 HZ]
  · isplitl [HQ]; iexact HQ; isplitl [HN1]; (iexists _; iexact HN1); iexact HZ
  iintro HFl
  iapply (loc_wait X Wt c 34 10 (by decide) sL (nrq _)) $$ [HM HFl]
  · iframe HI HM HFl
  iintro ⟨HM, HZ, HQ, HN1⟩
  ihave HLD := (Ldn_app c 5) $$ [HLD HQ]
  · isplitl [HLD]; iexact HLD; iexact HQ
  iapply (ld_t c 27 rfl) $$ [HT]
  · iexact HT
  iintro HT
  iapply Hk
  iframe HM HRB Hlb9 Hrb9 HSB Hfb7 HLQ HN1 HZ HLD HT

end Cert.Proof
end
-- ==== Proof.BodyP3.lean ====
module

public import proofs.«01_k».proof.Proof.BodyE

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt60 (c : Dev nD) {k : _ → Prog (TpuEff nD τ sig (Elt F) Λ₀ .tc) α} :
    iprop(Invs X Wt κ ιs ∗ Nbr c ∗ bnc X c 5 ∗ wwl Wt c ∗ OutQ X Wt c 23 ∗ tbl c ∗ sl X c false 9 fullShare.right)
    ⊢ iprop(((bnc X c 5 ∗ wwl Wt c ∗ OutQ X Wt c 25 ∗ tbl c ∗ sl X c false 9 fullShare.right) -∗ bwp c (k (rmx X Wt c 25)) Q)
    -∗ bwp c (k0_part60 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 23) (mw c 27) >>= k) Q) := by
  rw [← rx49 X Wt c]
  rw [k0_part60_eq_skeleton]; unfold k0_part60_skel
  simp only [semSignalWord, semWaitWord, smemLoad, smemLoadElt, Prog.lift, Prog.bind_op, Prog.bind_ret, Prog.pure_eq_ret, wp_deviceId]
  iintro ⟨#HI, #HN, HN1, HW, HO, HT, Hrf9⟩ Hk
  iapply (wp_assume 𝒱₀ (c : Thread nD τ) none Set.univ (ck29 c))
  iapply (ld_B X c mC1) $$ [HN1]
  · iexact HN1
  iintro HN1
  iapply (ld_w c z2) $$ [HW]
  · iexact HW
  iintro HW
  iapply (ld_deadO X Wt c 23) $$ HO
  iintro %vd HO
  iapply (st_prd X Wt c 23 (by decide) (of25 c) (wv23 X Wt c)) $$ HO
  iintro HO
  iapply (ld_t c 11 rfl) $$ [HT]
  · iexact HT
  iintro HT
  iapply (wp_assume 𝒱₀ (c : Thread nD τ) none Set.univ (ck30 c))
  iapply (ld_L X c mF4) $$ [Hrf9]
  · iexact Hrf9
  iintro Hrf9
  iapply (ld_w c z2) $$ [HW]
  · iexact HW
  iintro HW
  iapply (ld_deadO X Wt c 24) $$ HO
  iintro %vd HO
  iapply (st_prd X Wt c 24 (by decide) (of26 c) (wv24 X Wt c)) $$ HO
  iintro HO
  iapply Hk
  iframe HN1 HW HO HT Hrf9

theorem pt61 (c : Dev nD) {k : _ → Prog (TpuEff nD τ sig (Elt F) Λ₀ .tc) α} :
    iprop(Invs X Wt κ ιs ∗ Nbr c ∗ tbl c ∗ sl X c true 9 fullShare.right ∗ wwl Wt c ∗ OutQ X Wt c 25 ∗ Main c 34 10 ∗ LQ c 6 ∗ bnc X c 4 ∗ Zs c)
    ⊢ iprop(((tbl c ∗ sl X c true 9 fullShare.right ∗ wwl Wt c ∗ OutQ X Wt c 26 ∗ Main c 34 10 ∗ LQ c 7 ∗ Fl c (relM (f10 6)) (bncM (fm 2 6)) fullShare (chk X (rorg c 6) (fm 2 6))) -∗ bwp c (k (rmx X Wt c 26)) Q)
    -∗ bwp c (k0_part61 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 25) >>= k) Q) := by
  rw [← rx51 X Wt c]
  rw [k0_part61_eq_skeleton]; unfold k0_part61_skel
  simp only [semSignalWord, semWaitWord, smemLoad, smemLoadElt, Prog.lift, Prog.bind_op, Prog.bind_ret, Prog.pure_eq_ret, wp_deviceId]
  iintro ⟨#HI, #HN, HT, Hrb9, HW, HO, HM, HLQ, HN0, HZ⟩ Hk
  iapply (ld_t c 21 rfl) $$ [HT]
  · iexact HT
  iintro HT
  iapply (wp_assume 𝒱₀ (c : Thread nD τ) none Set.univ (ck31 c))
  iapply (ld_L X c mB4) $$ [Hrb9]
  · iexact Hrb9
  iintro Hrb9
  iapply (ld_w c z2) $$ [HW]
  · iexact HW
  iintro HW
  iapply (ld_deadO X Wt c 25) $$ HO
  iintro %vd HO
  iapply (st_prd X Wt c 25 (by decide) (of27 c) (wv25 X Wt c)) $$ HO
  iintro HO
  iapply (rel_recv X Wt c 6 34 10 (by decide) (by decide) rR6 (nrq _)) $$ [HM HLQ]
  · iframe HI HM HLQ
  iintro ⟨HM, HLQ, HQ⟩
  iapply (loc_start c mR6 mC0 (congrArg SemLoc.dma sL) (nrq _)) $$ [HQ HN0 HZ]
  · isplitl [HQ]; iexact HQ; isplitl [HN0]; (iexists _; iexact HN0); iexact HZ
  iintro HFl
  iapply Hk
  iframe HT Hrb9 HW HO HM HLQ HFl

theorem pt62 (c : Dev nD) {k : _ → Prog (TpuEff nD τ sig (Elt F) Λ₀ .tc) α} :
    iprop(Invs X Wt κ ιs ∗ Nbr c ∗ Main c 34 10 ∗ Fl c (relM (f10 6)) (bncM (fm 2 6)) fullShare (chk X (rorg c 6) (fm 2 6)) ∗ Ldn c 6 ∗ tbl c ∗ wwl Wt c ∗ OutQ X Wt c 26 ∗ LQ c 7)
    ⊢ iprop(((Main c 34 10 ∗ Ldn c 7 ∗ Zs c ∗ bnc X c 6 ∗ tbl c ∗ wwl Wt c ∗ OutQ X Wt c 27 ∗ LQ c 8 ∗ rlm X c 7) -∗ bwp c (k (rmx X Wt c 27)) Q)
    -∗ bwp c (k0_part62 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 26) >>= k) Q) := by
  rw [← rx53 X Wt c]
  rw [k0_part62_eq_skeleton]; unfold k0_part62_skel
  simp only [semSignalWord, semWaitWord, smemLoad, smemLoadElt, Prog.lift, Prog.bind_op, Prog.bind_ret, Prog.pure_eq_ret, wp_deviceId]
  iintro ⟨#HI, #HN, HM, HFl, HLD, HT, HW, HO, HLQ⟩ Hk
  iapply (loc_wait X Wt c 34 10 (by decide) sL (nrq _)) $$ [HM HFl]
  · iframe HI HM HFl
  iintro ⟨HM, HZ, HQ, HN0⟩
  ihave HLD := (Ldn_app c 6) $$ [HLD HQ]
  · isplitl [HLD]; iexact HLD; iexact HQ
  iapply (ld_t c 28 rfl) $$ [HT]
  · iexact HT
  iintro HT
  iapply (wp_assume 𝒱₀ (c : Thread nD τ) none Set.univ (ck32 c))
  iapply (ld_B X c mC0) $$ [HN0]
  · iexact HN0
  iintro HN0
  iapply (ld_w c z2) $$ [HW]
  · iexact HW
  iintro HW
  iapply (ld_deadO X Wt c 26) $$ HO
  iintro %vd HO
  iapply (st_prd X Wt c 26 (by decide) (of28 c) (wv26 X Wt c)) $$ HO
  iintro HO
  iapply (rel_recv X Wt c 7 34 10 (by decide) (by decide) rR7 (nrq _)) $$ [HM HLQ]
  · iframe HI HM HLQ
  iintro ⟨HM, HLQ, HQ⟩
  iapply Hk
  iframe HM HLD HZ HN0 HT HW HO HLQ HQ

theorem pt63 (c : Dev nD) {k : _ → Prog (TpuEff nD τ sig (Elt F) Λ₀ .tc) α} :
    iprop(Invs X Wt κ ιs ∗ Nbr c ∗ rlm X c 7 ∗ bnc X c 5 ∗ Zs c ∗ Main c 34 10 ∗ Ldn c 7 ∗ tbl c ∗ wwl Wt c ∗ OutQ X Wt c 27)
    ⊢ iprop(((bnc X c 7 ∗ Zs c ∗ Main c 34 10 ∗ Ldn c 8 ∗ tbl c ∗ wwl Wt c ∗ OutQ X Wt c 28) -∗ bwp c (k (rmx X Wt c 28)) Q)
    -∗ bwp c (k0_part63 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 27) >>= k) Q) := by
  rw [← rx55 X Wt c]
  rw [k0_part63_eq_skeleton]; unfold k0_part63_skel
  simp only [semSignalWord, semWaitWord, smemLoad, smemLoadElt, Prog.lift, Prog.bind_op, Prog.bind_ret, Prog.pure_eq_ret, wp_deviceId]
  iintro ⟨#HI, #HN, HQ, HN1, HZ, HM, HLD, HT, HW, HO⟩ Hk
  iapply (loc_start c mR7 mC1 (congrArg SemLoc.dma sL) (nrq _)) $$ [HQ HN1 HZ]
  · isplitl [HQ]; iexact HQ; isplitl [HN1]; (iexists _; iexact HN1); iexact HZ
  iintro HFl
  iapply (loc_wait X Wt c 34 10 (by decide) sL (nrq _)) $$ [HM HFl]
  · iframe HI HM HFl
  iintro ⟨HM, HZ, HQ, HN1⟩
  ihave HLD := (Ldn_app c 7) $$ [HLD HQ]
  · isplitl [HLD]; iexact HLD; iexact HQ
  iapply (ld_t c 28 rfl) $$ [HT]
  · iexact HT
  iintro HT
  iapply (wp_assume 𝒱₀ (c : Thread nD τ) none Set.univ (ck33 c))
  iapply (ld_B X c mC1) $$ [HN1]
  · iexact HN1
  iintro HN1
  iapply (ld_w c z2) $$ [HW]
  · iexact HW
  iintro HW
  iapply (ld_deadO X Wt c 27) $$ HO
  iintro %vd HO
  iapply (st_prd X Wt c 27 (by decide) (of29 c) (wv27 X Wt c)) $$ HO
  iintro HO
  iapply Hk
  iframe HN1 HZ HM HLD HT HW HO

theorem pt64 (c : Dev nD) {k : _ → Prog (TpuEff nD τ sig (Elt F) Λ₀ .tc) α} :
    iprop(Invs X Wt κ ιs ∗ Nbr c ∗ Main c 34 10 ∗ LQ c 8 ∗ bnc X c 6 ∗ Zs c ∗ Ldn c 8 ∗ tbl c ∗ wwl Wt c ∗ OutQ X Wt c 28)
    ⊢ iprop(((Main c 34 10 ∗ LQ c 9 ∗ bnc X c 8 ∗ Zs c ∗ Ldn c 9 ∗ tbl c ∗ wwl Wt c ∗ OutQ X Wt c 29) -∗ bwp c (k (rmx X Wt c 29)) Q)
    -∗ bwp c (k0_part64 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 28) >>= k) Q) := by
  rw [← rx57 X Wt c]
  rw [k0_part64_eq_skeleton]; unfold k0_part64_skel
  simp only [semSignalWord, semWaitWord, smemLoad, smemLoadElt, Prog.lift, Prog.bind_op, Prog.bind_ret, Prog.pure_eq_ret, wp_deviceId]
  iintro ⟨#HI, #HN, HM, HLQ, HN0, HZ, HLD, HT, HW, HO⟩ Hk
  iapply (rel_recv X Wt c 8 34 10 (by decide) (by decide) rR8 (nrq _)) $$ [HM HLQ]
  · iframe HI HM HLQ
  iintro ⟨HM, HLQ, HQ⟩
  iapply (loc_start c mR8 mC0 (congrArg SemLoc.dma sL) (nrq _)) $$ [HQ HN0 HZ]
  · isplitl [HQ]; iexact HQ; isplitl [HN0]; (iexists _; iexact HN0); iexact HZ
  iintro HFl
  iapply (loc_wait X Wt c 34 10 (by decide) sL (nrq _)) $$ [HM HFl]
  · iframe HI HM HFl
  iintro ⟨HM, HZ, HQ, HN0⟩
  ihave HLD := (Ldn_app c 8) $$ [HLD HQ]
  · isplitl [HLD]; iexact HLD; iexact HQ
  iapply (ld_t c 29 rfl) $$ [HT]
  · iexact HT
  iintro HT
  iapply (wp_assume 𝒱₀ (c : Thread nD τ) none Set.univ (ck34 c))
  iapply (ld_B X c mC0) $$ [HN0]
  · iexact HN0
  iintro HN0
  iapply (ld_w c z2) $$ [HW]
  · iexact HW
  iintro HW
  iapply (ld_deadO X Wt c 28) $$ HO
  iintro %vd HO
  iapply (st_prd X Wt c 28 (by decide) (of30 c) (wv28 X Wt c)) $$ HO
  iintro HO
  iapply Hk
  iframe HM HLQ HN0 HZ HLD HT HW HO

theorem pt65 (c : Dev nD) {k : _ → Prog (TpuEff nD τ sig (Elt F) Λ₀ .tc) α} :
    iprop(Invs X Wt κ ιs ∗ Nbr c ∗ Main c 34 10 ∗ LQ c 9 ∗ bnc X c 7 ∗ Zs c ∗ Ldn c 9 ∗ tbl c ∗ wwl Wt c ∗ OutQ X Wt c 29)
    ⊢ iprop(((Main c 34 10 ∗ LQ c 10 ∗ bnc X c 9 ∗ Zs c ∗ Ldn c 10 ∗ tbl c ∗ wwl Wt c ∗ OutQ X Wt c 30) -∗ bwp c (k (k0_pay59 (L1 X (rorg c 9) (fm 2 9)) (Wt c))) Q)
    -∗ bwp c (k0_part65 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part65_eq_skeleton]; unfold k0_part65_skel
  simp only [semSignalWord, semWaitWord, smemLoad, smemLoadElt, Prog.lift, Prog.bind_op, Prog.bind_ret, Prog.pure_eq_ret, wp_deviceId]
  iintro ⟨#HI, #HN, HM, HLQ, HN1, HZ, HLD, HT, HW, HO⟩ Hk
  iapply (rel_recv X Wt c 9 34 10 (by decide) (by decide) rR9 (nrq _)) $$ [HM HLQ]
  · iframe HI HM HLQ
  iintro ⟨HM, HLQ, HQ⟩
  iapply (loc_start c mR9 mC1 (congrArg SemLoc.dma sL) (nrq _)) $$ [HQ HN1 HZ]
  · isplitl [HQ]; iexact HQ; isplitl [HN1]; (iexists _; iexact HN1); iexact HZ
  iintro HFl
  iapply (loc_wait X Wt c 34 10 (by decide) sL (nrq _)) $$ [HM HFl]
  · iframe HI HM HFl
  iintro ⟨HM, HZ, HQ, HN1⟩
  ihave HLD := (Ldn_app c 9) $$ [HLD HQ]
  · isplitl [HLD]; iexact HLD; iexact HQ
  iapply (ld_t c 29 rfl) $$ [HT]
  · iexact HT
  iintro HT
  iapply (wp_assume 𝒱₀ (c : Thread nD τ) none Set.univ (ck35 c))
  iapply (ld_B X c mC1) $$ [HN1]
  · iexact HN1
  iintro HN1
  iapply (ld_w c z2) $$ [HW]
  · iexact HW
  iintro HW
  iapply (ld_deadO X Wt c 29) $$ HO
  iintro %vd HO
  iapply (st_prd X Wt c 29 (by decide) (of31 c) (wv29 X Wt c)) $$ HO
  iintro HO
  iapply Hk
  iframe HM HLQ HN1 HZ HLD HT HW HO

theorem pt66 (c : Dev nD) {k : _ → Prog (TpuEff nD τ sig (Elt F) Λ₀ .tc) α} :
    iprop(Invs X Wt κ ιs ∗ Nbr c ∗ Main c 34 10 ∗ TQ c 0 10 ∗ Sdn c 0)
    ⊢ iprop(((Main c 34 10 ∗ TQ c 3 10 ∗ Sdn c 3) -∗ bwp c (k (rmx X Wt c 30)) Q)
    -∗ bwp c (k0_part66 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 (rmx X Wt c 29) (k0_pay59 (L1 X (rorg c 9) (fm 2 9)) (Wt c)) >>= k) Q) := by
  rw [← rx60 X Wt c]
  rw [k0_part66_eq_skeleton]; unfold k0_part66_skel
  simp only [semSignalWord, semWaitWord, smemLoad, smemLoadElt, Prog.lift, Prog.bind_op, Prog.bind_ret, Prog.pure_eq_ret, wp_deviceId]
  iintro ⟨#HI, #HN, HM, HTQ, HSD⟩ Hk
  iapply (rel_wait X Wt c 0 34 10 (by decide) (by decide) sR0 (nrq _)) $$ [HM HTQ HSD]
  · iframe HI HM HTQ HSD
  iintro ⟨HM, HTQ, HSD⟩
  iapply (rel_wait X Wt c 1 34 10 (by decide) (by decide) sR1 (nrq _)) $$ [HM HTQ HSD]
  · iframe HI HM HTQ HSD
  iintro ⟨HM, HTQ, HSD⟩
  iapply (rel_wait X Wt c 2 34 10 (by decide) (by decide) sR2 (nrq _)) $$ [HM HTQ HSD]
  · iframe HI HM HTQ HSD
  iintro ⟨HM, HTQ, HSD⟩
  iapply Hk
  iframe HM HTQ HSD

theorem pt67 (c : Dev nD) {k : _ → Prog (TpuEff nD τ sig (Elt F) Λ₀ .tc) α} :
    iprop(Invs X Wt κ ιs ∗ Nbr c ∗ Main c 34 10 ∗ TQ c 3 10 ∗ Sdn c 3)
    ⊢ iprop(((Main c 34 10 ∗ TQ c 7 10 ∗ Sdn c 7) -∗ bwp c (k ⟨⟩) Q)
    -∗ bwp c (k0_part67 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13  >>= k) Q) := by
  rw [k0_part67_eq_skeleton]; unfold k0_part67_skel
  simp only [semSignalWord, semWaitWord, smemLoad, smemLoadElt, Prog.lift, Prog.bind_op, Prog.bind_ret, Prog.pure_eq_ret, wp_deviceId]
  iintro ⟨#HI, #HN, HM, HTQ, HSD⟩ Hk
  iapply (rel_wait X Wt c 3 34 10 (by decide) (by decide) sR3 (nrq _)) $$ [HM HTQ HSD]
  · iframe HI HM HTQ HSD
  iintro ⟨HM, HTQ, HSD⟩
  iapply (rel_wait X Wt c 4 34 10 (by decide) (by decide) sR4 (nrq _)) $$ [HM HTQ HSD]
  · iframe HI HM HTQ HSD
  iintro ⟨HM, HTQ, HSD⟩
  iapply (rel_wait X Wt c 5 34 10 (by decide) (by decide) sR5 (nrq _)) $$ [HM HTQ HSD]
  · iframe HI HM HTQ HSD
  iintro ⟨HM, HTQ, HSD⟩
  iapply (rel_wait X Wt c 6 34 10 (by decide) (by decide) sR6 (nrq _)) $$ [HM HTQ HSD]
  · iframe HI HM HTQ HSD
  iintro ⟨HM, HTQ, HSD⟩
  iapply Hk
  iframe HM HTQ HSD

theorem pt68 (c : Dev nD) {k : _ → Prog (TpuEff nD τ sig (Elt F) Λ₀ .tc) α} :
    iprop(Invs X Wt κ ιs ∗ Nbr c ∗ Main c 34 10 ∗ TQ c 7 10 ∗ Sdn c 7 ∗ am0 c)
    ⊢ iprop(((Main c 34 10 ∗ TQ c 10 10 ∗ Sdn c 10 ∗ Aown X Wt c 0 0) -∗ bwp c (k ⟨(Scalar.addi (Scalar.remsi (Scalar.divsi (Dev.word c) 1#32) 16#32) 1#32), (Scalar.select (Scalar.cmpi .eq 16#32 0#32) 1#32 16#32)⟩) Q)
    -∗ bwp c (k0_part68 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (rmx X Wt c 30) >>= k) Q) := by
  rw [k0_part68_eq_skeleton]; unfold k0_part68_skel
  simp only [semSignalWord, semWaitWord, smemLoad, smemLoadElt, Prog.lift, Prog.bind_op, Prog.bind_ret, Prog.pure_eq_ret, wp_deviceId]
  iintro ⟨#HI, #HN, HM, HTQ, HSD, HAO⟩ Hk
  iapply (rel_wait X Wt c 7 34 10 (by decide) (by decide) sR7 (nrq _)) $$ [HM HTQ HSD]
  · iframe HI HM HTQ HSD
  iintro ⟨HM, HTQ, HSD⟩
  iapply (rel_wait X Wt c 8 34 10 (by decide) (by decide) sR8 (nrq _)) $$ [HM HTQ HSD]
  · iframe HI HM HTQ HSD
  iintro ⟨HM, HTQ, HSD⟩
  iapply (rel_wait X Wt c 9 34 10 (by decide) (by decide) sR9 (nrq _)) $$ [HM HTQ HSD]
  · iframe HI HM HTQ HSD
  iintro ⟨HM, HTQ, HSD⟩
  iapply (ld_am c (o32 c)) $$ HAO
  iintro %vd HAO
  iapply (st_am X Wt c (o32 c)) $$ HAO
  iintro HAO
  iapply Hk
  iframe HM HTQ HSD HAO

theorem pt69 (c : Dev nD) {k : _ → Prog (TpuEff nD τ sig (Elt F) Λ₀ .tc) α} :
    iprop(Invs X Wt κ ιs ∗ AllE ∗ Main c 34 10 ∗ BQ c 0 0 ∗ Aown X Wt c 0 0)
    ⊢ iprop(((Main c 36 10 ∗ BQ c 0 2 ∗ Aown X Wt c 0 2) -∗ bwp c (k ⟨(Scalar.addi (Scalar.remsi (Scalar.divsi (Dev.word c) 1#32) 16#32) 3#32), 16#32, (Scalar.cmpi .eq 16#32 0#32)⟩) Q)
    -∗ bwp c (k0_part69 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (Scalar.addi (Scalar.remsi (Scalar.divsi (Dev.word c) 1#32) 16#32) 1#32) (Scalar.select (Scalar.cmpi .eq 16#32 0#32) 1#32 16#32) >>= k) Q) := by
  rw [k0_part69_eq_skeleton]; unfold k0_part69_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 0 34 10 (by decide) rfl (by decide) (ad1 c) (amS c (o35 c)) (amS c (o35 c)) (aS _ (o33_1 c)) (aR c (o34 c))) $$ [HM HBQ HAO]
  · iframe HI HA HM HBQ HAO
  iintro ⟨HM, HBQ, HAO⟩
  iapply (am_send X Wt c 1 35 10 (by decide) rfl (by decide) (ad2 c) (amS c (o35 c)) (amS c (o35 c)) (aS _ (o33_2 c)) (aR c (o34 c))) $$ [HM HBQ HAO]
  · iframe HI HA HM HBQ HAO
  iintro ⟨HM, HBQ, HAO⟩
  iapply Hk
  iframe HM HBQ HAO

theorem pt70 (c : Dev nD) {k : _ → Prog (TpuEff nD τ sig (Elt F) Λ₀ .tc) α} :
    iprop(Invs X Wt κ ιs ∗ AllE ∗ Main c 36 10 ∗ BQ c 0 2 ∗ Aown X Wt c 0 2)
    ⊢ iprop(((Main c 38 10 ∗ BQ c 0 4 ∗ Aown X Wt c 0 4) -∗ bwp c (k ⟨(Scalar.addi (Scalar.remsi (Scalar.divsi (Dev.word c) 1#32) 16#32) 5#32), 16#32⟩) Q)
    -∗ bwp c (k0_part70 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (Scalar.addi (Scalar.remsi (Scalar.divsi (Dev.word c) 1#32) 16#32) 3#32) (16#32) (Scalar.cmpi .eq 16#32 0#32) >>= k) Q) := by
  rw [k0_part70_eq_skeleton]; unfold k0_part70_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 2 36 10 (by decide) rfl (by decide) (ad3 c) (amS c (o35 c)) (amS c (o35 c)) (aS _ (o33_3 c)) (aR c (o34 c))) $$ [HM HBQ HAO]
  · iframe HI HA HM HBQ HAO
  iintro ⟨HM, HBQ, HAO⟩
  iapply (am_send X Wt c 3 37 10 (by decide) rfl (by decide) (ad4 c) (amS c (o35 c)) (amS c (o35 c)) (aS _ (o33_4 c)) (aR c (o34 c))) $$ [HM HBQ HAO]
  · iframe HI HA HM HBQ HAO
  iintro ⟨HM, HBQ, HAO⟩
  iapply Hk
  iframe HM HBQ HAO

theorem pt71 (c : Dev nD) {k : _ → Prog (TpuEff nD τ sig (Elt F) Λ₀ .tc) α} :
    iprop(Invs X Wt κ ιs ∗ AllE ∗ Main c 38 10 ∗ BQ c 0 4 ∗ Aown X Wt c 0 4)
    ⊢ iprop(((Main c 40 10 ∗ BQ c 0 6 ∗ Aown X Wt c 0 6) -∗ bwp c (k 7#32) Q)
    -∗ bwp c (k0_part71 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (Scalar.addi (Scalar.remsi (Scalar.divsi (Dev.word c) 1#32) 16#32) 5#32) (16#32) >>= k) Q) := by
  rw [k0_part71_eq_skeleton]; unfold k0_part71_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 4 38 10 (by decide) rfl (by decide) (ad5 c) (amS c (o35 c)) (amS c (o35 c)) (aS _ (o33_5 c)) (aR c (o34 c))) $$ [HM HBQ HAO]
  · iframe HI HA HM HBQ HAO
  iintro ⟨HM, HBQ, HAO⟩
  iapply (am_send X Wt c 5 39 10 (by decide) rfl (by decide) (ad6 c) (amS c (o35 c)) (amS c (o35 c)) (aS _ (o33_6 c)) (aR c (o34 c))) $$ [HM HBQ HAO]
  · iframe HI HA HM HBQ HAO
  iintro ⟨HM, HBQ, HAO⟩
  iapply Hk
  iframe HM HBQ HAO

theorem pt72 (c : Dev nD) {k : _ → Prog (TpuEff nD τ sig (Elt F) Λ₀ .tc) α} :
    iprop(Invs X Wt κ ιs ∗ AllE ∗ Main c 40 10 ∗ BQ c 0 6 ∗ Aown X Wt c 0 6)
    ⊢ iprop(((Main c 41 10 ∗ BQ c 0 7 ∗ Aown X Wt c 0 7) -∗ bwp c (k ⟨⟩) Q)
    -∗ bwp c (k0_part72 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (7#32) >>= k) Q) := by
  rw [k0_part72_eq_skeleton]; unfold k0_part72_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 6 40 10 (by decide) rfl (by decide) (ad7 c) (amS c (o35 c)) (amS c (o35 c)) (aS _ (o33_7 c)) (aR c (o34 c))) $$ [HM HBQ HAO]
  · iframe HI HA HM HBQ HAO
  iintro ⟨HM, HBQ, HAO⟩
  iapply Hk
  iframe HM HBQ HAO

theorem pt73 (c : Dev nD) {k : _ → Prog (TpuEff nD τ sig (Elt F) Λ₀ .tc) α} :
    iprop(Invs X Wt κ ιs ∗ AllE ∗ Main c 41 10 ∗ BQ c 0 7 ∗ Aown X Wt c 0 7)
    ⊢ iprop(((Main c 43 10 ∗ BQ c 0 9 ∗ Aown X Wt c 0 9) -∗ bwp c (k ⟨⟩) Q)
    -∗ bwp c (k0_part73 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part73_eq_skeleton]; unfold k0_part73_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 7 41 10 (by decide) rfl (by decide) (ad8 c) (amS c (o35 c)) (amS c (o35 c)) (aS _ (o33_8 c)) (aR c (o34 c))) $$ [HM HBQ HAO]
  · iframe HI HA HM HBQ HAO
  iintro ⟨HM, HBQ, HAO⟩
  iapply (am_send X Wt c 8 42 10 (by decide) rfl (by decide) (ad9 c) (amS c (o35 c)) (amS c (o35 c)) (aS _ (o33_9 c)) (aR c (o34 c))) $$ [HM HBQ HAO]
  · iframe HI HA HM HBQ HAO
  iintro ⟨HM, HBQ, HAO⟩
  iapply Hk
  iframe HM HBQ HAO

theorem pt74 (c : Dev nD) {k : _ → Prog (TpuEff nD τ sig (Elt F) Λ₀ .tc) α} :
    iprop(Invs X Wt κ ιs ∗ AllE ∗ Main c 43 10 ∗ BQ c 0 9 ∗ Aown X Wt c 0 9)
    ⊢ iprop(((Main c 45 10 ∗ BQ c 0 11 ∗ Aown X Wt c 0 11) -∗ bwp c (k ⟨⟩) Q)
    -∗ bwp c (k0_part74 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part74_eq_skeleton]; unfold k0_part74_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 9 43 10 (by decide) rfl (by decide) (ad10 c) (amS c (o35 c)) (amS c (o35 c)) (aS _ (o33_10 c)) (aR c (o34 c))) $$ [HM HBQ HAO]
  · iframe HI HA HM HBQ HAO
  iintro ⟨HM, HBQ, HAO⟩
  iapply (am_send X Wt c 10 44 10 (by decide) rfl (by decide) (ad11 c) (amS c (o35 c)) (amS c (o35 c)) (aS _ (o33_11 c)) (aR c (o34 c))) $$ [HM HBQ HAO]
  · iframe HI HA HM HBQ HAO
  iintro ⟨HM, HBQ, HAO⟩
  iapply Hk
  iframe HM HBQ HAO

end Cert.Proof
end
-- ==== Proof.Join.lean ====
module

public import proofs.«01_k».proof.Proof.BodyE

@[expose] public section

set_option maxRecDepth 20000

noncomputable section

/-!
Buffers held by their rows, and the rows joined again.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

section Sq
variable {s s' : Shape} {e : EltTy} (c : Dev nD) {sp : Space} (m : Memref sig .tc sp s e) (r : Rect s) (hr : ∀ a, r.stride a = 1) (hq : Shape.Squeezes r.shape s')
  (hc : r.shape.ShapeCasts s') (hc' : s'.ShapeCasts r.shape) (q : PosShare TreeShare)

include hc in
/-- A rectangle is held as what names it with the axes dropped, -/
theorem owns_to_sq (V : r.shape.Idx → Elt F e) :
    (owns (c : Thread nD τ) (m.slice r hr) q V : sProp 𝕄) ⊢ owns (c : Thread nD τ) ((m.slice r hr).squeeze s' hq) q (shapeCast s' V hc) := by
  unfold owns
  iintro ⟨%f, %hf, Hf⟩
  iexists f
  isplitr
  · ipureintro
    rw [Memref.read_squeeze_slice m r hr hq hc f]
    exact congrArg (fun V => shapeCast s' V hc) hf
  rw [Memref.set_view_squeeze]
  iexact Hf

include hc in
/-- and back. -/
theorem owns_of_sq (V : s'.Idx → Elt F e) :
    (owns (c : Thread nD τ) ((m.slice r hr).squeeze s' hq) q V : sProp 𝕄) ⊢ owns (c : Thread nD τ) (m.slice r hr) q (shapeCast r.shape V hc') := by
  unfold owns
  iintro ⟨%f, %hf, Hf⟩
  iexists f
  isplitr
  · ipureintro
    rw [← hf, Memref.read_squeeze_slice m r hr hq hc f]
    exact (shapeCast_shapeCast _ _ _).symm
  rw [Memref.set_view_squeeze]
  iexact Hf
end Sq

section Rows
variable {s s' : Shape} {e : EltTy} {T : Type} [Fintype T] [DecidableEq T] (c : Dev nD) {sp : Space} (m : Memref sig .tc sp s e) (r : T → Rect s)
  (hr : ∀ t a, (r t).stride a = 1) (hd : ∀ t t', t ≠ t' → Disjoint (r t).set (r t').set)
  (hcov : (Finset.univ : Finset T).biUnion (fun t => (r t).set) = Finset.univ)
  (hq : ∀ t, Shape.Squeezes (r t).shape s') (hc : ∀ t, (r t).shape.ShapeCasts s') (hc' : ∀ t, s'.ShapeCasts (r t).shape)
include hd hcov

include hc in
theorem rows_split (V : s.Idx → Elt F e) :
    (owns (c : Thread nD τ) m fullShare V : sProp 𝕄)
      ⊢ bigSep Finset.univ fun t => iprop(∃ V, owns (c : Thread nD τ) (((m.slice (r t) (hr t))).squeeze s' (hq t)) fullShare V) := by
  refine BIBase.Entails.trans (owns_rects (c : Thread nD τ) m fullShare r hr hd hcov V) (bigSep_mono fun t _ => ?_)
  refine BIBase.Entails.trans (owns_to_sq c m (r t) (hr t) (hq t) (hc t) fullShare _) ?_
  exact BIClass.exists_intro (Φ := fun V => owns (c : Thread nD τ) (((m.slice (r t) (hr t))).squeeze s' (hq t)) fullShare V) _

include hc hc' in
theorem rows_join (Vs : T → s'.Idx → Elt F e) (V : s.Idx → Elt F e) (hV : ∀ t, shapeCast (r t).shape (Vs t) (hc' t) = fun j => V ((r t).emb j)) :
    (bigSep Finset.univ fun t => owns (c : Thread nD τ) (((m.slice (r t) (hr t))).squeeze s' (hq t)) fullShare (Vs t))
      ⊢ (owns (c : Thread nD τ) m fullShare V : sProp 𝕄) := by
  refine BIBase.Entails.trans (bigSep_mono fun t _ => ?_) (owns_of_rects (c : Thread nD τ) m fullShare r hr hd hcov V)
  rw [← hV]
  exact owns_of_sq c m (r t) (hr t) (hq t) (hc t) (hc' t) fullShare (Vs t)

include hc hc' in
theorem rows_join_any :
    (bigSep Finset.univ fun t => iprop(∃ V, owns (c : Thread nD τ) (((m.slice (r t) (hr t))).squeeze s' (hq t)) fullShare V))
      ⊢ (iprop(∃ V, owns (c : Thread nD τ) m fullShare V) : sProp 𝕄) := by
  refine BIBase.Entails.trans (bigSep_exists_pi Finset.univ (fun t V => owns (c : Thread nD τ) (((m.slice (r t) (hr t))).squeeze s' (hq t)) fullShare V)) ?_
  iintro ⟨%Vs, H⟩
  iexists (Rect.glue r hcov fun t => shapeCast (r t).shape (Vs t) (hc' t))
  iapply (rows_join (F := F) c m r hr hd hcov hq hc hc' Vs _ (fun t => funext fun y => (Rect.glue_emb r hcov hd (fun t => shapeCast (r t).shape (Vs t) (hc' t)) t y).symm)) $$ H
end Rows

/-! ## The row families -/

theorem rowsD {n : ℕ} {s : Shape} (a : Fin s.rank) (off : Fin n → Fin s.rank → ℕ) (size : Fin s.rank → ℕ) (inb : ∀ t a, off t a + size a ≤ s.size a)
    (ho : ∀ t, off t a = t.val * size a) : ∀ t t', t ≠ t' → Disjoint (Rect.unit (s := s) (off t) size (inb t)).set (Rect.unit (s := s) (off t') size (inb t')).set := by
  intro t t' h
  refine Rect.unit_disjoint a ?_
  rw [ho, ho]
  have h' : t.val ≠ t'.val := fun e => h (Fin.ext e)
  rcases Nat.lt_or_gt_of_ne h' with h | h
  · left
    have := Nat.mul_le_mul_right (size a) (Nat.succ_le_of_lt h)
    rw [Nat.succ_mul] at this; exact this
  · right
    have := Nat.mul_le_mul_right (size a) (Nat.succ_le_of_lt h)
    rw [Nat.succ_mul] at this; exact this

theorem rowsC {n : ℕ} {s : Shape} (a : Fin s.rank) (off : Fin n → Fin s.rank → ℕ) (size : Fin s.rank → ℕ) (inb : ∀ t a, off t a + size a ≤ s.size a)
    (ho : ∀ t, off t a = t.val * size a) (hp : 0 < size a) (hn : s.size a = n * size a) (hz : ∀ t b, b ≠ a → off t b = 0) (hs : ∀ b, b ≠ a → size b = s.size b) :
    (Finset.univ : Finset (Fin n)).biUnion (fun t => (Rect.unit (s := s) (off t) size (inb t)).set) = Finset.univ := by
  refine Finset.eq_univ_iff_forall.mpr fun i => Finset.mem_biUnion.mpr ?_
  have hi : (i a).val < n * size a := hn ▸ (i a).isLt
  refine ⟨⟨(i a).val / size a, Nat.div_lt_of_lt_mul (by rw [Nat.mul_comm]; exact hi)⟩, Finset.mem_univ _, Rect.mem_set_unit.mpr fun b => ?_⟩
  by_cases hb : b = a
  · subst hb
    rw [ho]
    have h1 := Nat.div_add_mod (i b).val (size b)
    have h2 := Nat.mod_lt (i b).val hp
    rw [Nat.mul_comm] at h1
    dsimp only
    constructor <;> omega
  · rw [hz _ _ hb, hs _ hb]
    exact ⟨Nat.zero_le _, by rw [Nat.zero_add]; exact (i b).isLt⟩

abbrev rr5 (t : Fin 5) : Rect S5x128x4096 := Rect.unit (s := S5x128x4096) ![t.val, 0, 0] S1x128x4096.size (inb5 t)
abbrev rr10 (t : Fin 10) : Rect S10x128x4096 := Rect.unit (s := S10x128x4096) ![t.val, 0, 0] S1x128x4096.size (inb10 t)
abbrev rr2 (t : Fin 2) : Rect S2x128x4096 := Rect.unit (s := S2x128x4096) ![t.val, 0, 0] S1x128x4096.size (inb2 t)
abbrev rr16 (t : Fin 16) : Rect S16x8x128 := Rect.unit (s := S16x8x128) ![t.val, 0, 0] S1x8x128.size (inb16 t)
abbrev rrx (t : Fin 2) : Rect S256x4096 := Rect.unit (s := S256x4096) ![t.val * 128, 0] S128x4096.size (inbx t)

theorem rr5D : ∀ t t', t ≠ t' → Disjoint (rr5 t).set (rr5 t').set := rowsD (n := 5) (s := S5x128x4096) (0 : Fin 3) (fun t => ![t.val, 0, 0]) S1x128x4096.size inb5 (fun t => (Nat.mul_one _).symm)
theorem rr10D : ∀ t t', t ≠ t' → Disjoint (rr10 t).set (rr10 t').set := rowsD (n := 10) (s := S10x128x4096) (0 : Fin 3) (fun t => ![t.val, 0, 0]) S1x128x4096.size inb10 (fun t => (Nat.mul_one _).symm)
theorem rr2D : ∀ t t', t ≠ t' → Disjoint (rr2 t).set (rr2 t').set := rowsD (n := 2) (s := S2x128x4096) (0 : Fin 3) (fun t => ![t.val, 0, 0]) S1x128x4096.size inb2 (fun t => (Nat.mul_one _).symm)
theorem rr16D : ∀ t t', t ≠ t' → Disjoint (rr16 t).set (rr16 t').set := rowsD (n := 16) (s := S16x8x128) (0 : Fin 3) (fun t => ![t.val, 0, 0]) S1x8x128.size inb16 (fun t => (Nat.mul_one _).symm)
theorem rrxD : ∀ t t', t ≠ t' → Disjoint (rrx t).set (rrx t').set := rowsD (n := 2) (s := S256x4096) (0 : Fin 2) (fun t => ![t.val * 128, 0]) S128x4096.size inbx (fun t => rfl)

theorem b3 {b : Fin 3} (h : b ≠ 0) : b = 1 ∨ b = 2 := by revert b; decide
theorem b2 {b : Fin 2} (h : b ≠ 0) : b = 1 := by revert b; decide

theorem rr5C : (Finset.univ : Finset (Fin 5)).biUnion (fun t => (rr5 t).set) = Finset.univ :=
  rowsC (n := 5) (s := S5x128x4096) (0 : Fin 3) (fun t => ![t.val, 0, 0]) S1x128x4096.size inb5 (fun t => (Nat.mul_one _).symm) (by decide) (by decide)
    (fun t b h => by rcases b3 h with rfl | rfl <;> rfl) (fun b h => by rcases b3 h with rfl | rfl <;> rfl)
theorem rr10C : (Finset.univ : Finset (Fin 10)).biUnion (fun t => (rr10 t).set) = Finset.univ :=
  rowsC (n := 10) (s := S10x128x4096) (0 : Fin 3) (fun t => ![t.val, 0, 0]) S1x128x4096.size inb10 (fun t => (Nat.mul_one _).symm) (by decide) (by decide)
    (fun t b h => by rcases b3 h with rfl | rfl <;> rfl) (fun b h => by rcases b3 h with rfl | rfl <;> rfl)
theorem rr2C : (Finset.univ : Finset (Fin 2)).biUnion (fun t => (rr2 t).set) = Finset.univ :=
  rowsC (n := 2) (s := S2x128x4096) (0 : Fin 3) (fun t => ![t.val, 0, 0]) S1x128x4096.size inb2 (fun t => (Nat.mul_one _).symm) (by decide) (by decide)
    (fun t b h => by rcases b3 h with rfl | rfl <;> rfl) (fun b h => by rcases b3 h with rfl | rfl <;> rfl)
theorem rr16C : (Finset.univ : Finset (Fin 16)).biUnion (fun t => (rr16 t).set) = Finset.univ :=
  rowsC (n := 16) (s := S16x8x128) (0 : Fin 3) (fun t => ![t.val, 0, 0]) S1x8x128.size inb16 (fun t => (Nat.mul_one _).symm) (by decide) (by decide)
    (fun t b h => by rcases b3 h with rfl | rfl <;> rfl) (fun b h => by rcases b3 h with rfl | rfl <;> rfl)
theorem rrxC : (Finset.univ : Finset (Fin 2)).biUnion (fun t => (rrx t).set) = Finset.univ :=
  rowsC (n := 2) (s := S256x4096) (0 : Fin 2) (fun t => ![t.val * 128, 0]) S128x4096.size inbx (fun t => rfl) (by decide) (by decide)
    (fun t b h => by obtain rfl := b2 h; rfl) (fun b h => by obtain rfl := b2 h; rfl)

theorem shapeCasts_S128x4096_S1x128x4096 : S128x4096.ShapeCasts S1x128x4096 := by decide

theorem ring_split (c : Dev nD) (d : Bool) : iprop(∃ V, owns (c : Thread nD τ) (ringM d) fullShare V)
    ⊢ (bigSep Finset.univ fun t => iprop(∃ V, owns (c : Thread nD τ) (slotM d t) fullShare V) : sProp 𝕄) := by
  iintro ⟨%V, H⟩
  iapply (rows_split (F := F) c (ringM d) rr5 (fun _ _ => rfl) rr5D rr5C (fun _ => squeezes_S1x128x4096_S128x4096) (fun _ => shapeCasts_S1x128x4096_S128x4096) V) $$ H
theorem ring_join (c : Dev nD) (d : Bool) : (bigSep Finset.univ fun t => iprop(∃ V, owns (c : Thread nD τ) (slotM d t) fullShare V))
    ⊢ (iprop(∃ V, owns (c : Thread nD τ) (ringM d) fullShare V) : sProp 𝕄) :=
  rows_join_any (F := F) c (ringM d) rr5 (fun _ _ => rfl) rr5D rr5C (fun _ => squeezes_S1x128x4096_S128x4096) (fun _ => shapeCasts_S1x128x4096_S128x4096) (fun _ => shapeCasts_S128x4096_S1x128x4096)
theorem stg_split (c : Dev nD) : iprop(∃ V, owns (c : Thread nD τ) (Memref.whole main_v94_1 : Memref sig .tc .hbm S10x128x4096 .f32) fullShare V)
    ⊢ (bigSep Finset.univ fun t => iprop(∃ V, owns (c : Thread nD τ) (stgM t) fullShare V) : sProp 𝕄) := by
  iintro ⟨%V, H⟩
  iapply (rows_split (F := F) c (Memref.whole main_v94_1 : Memref sig .tc .hbm S10x128x4096 .f32) rr10 (fun _ _ => rfl) rr10D rr10C (fun _ => squeezes_S1x128x4096_S128x4096) (fun _ => shapeCasts_S1x128x4096_S128x4096) V) $$ H
theorem stg_join (c : Dev nD) : (bigSep Finset.univ fun t => iprop(∃ V, owns (c : Thread nD τ) (stgM t) fullShare V))
    ⊢ (iprop(∃ V, owns (c : Thread nD τ) (Memref.whole main_v94_1 : Memref sig .tc .hbm S10x128x4096 .f32) fullShare V) : sProp 𝕄) :=
  rows_join_any (F := F) c (Memref.whole main_v94_1 : Memref sig .tc .hbm S10x128x4096 .f32) rr10 (fun _ _ => rfl) rr10D rr10C (fun _ => squeezes_S1x128x4096_S128x4096) (fun _ => shapeCasts_S1x128x4096_S128x4096) (fun _ => shapeCasts_S128x4096_S1x128x4096)
theorem rel_split (c : Dev nD) : iprop(∃ V, owns (c : Thread nD τ) (Memref.whole main_v94_2 : Memref sig .tc .hbm S10x128x4096 .f32) fullShare V)
    ⊢ (bigSep Finset.univ fun t => iprop(∃ V, owns (c : Thread nD τ) (relM t) fullShare V) : sProp 𝕄) := by
  iintro ⟨%V, H⟩
  iapply (rows_split (F := F) c (Memref.whole main_v94_2 : Memref sig .tc .hbm S10x128x4096 .f32) rr10 (fun _ _ => rfl) rr10D rr10C (fun _ => squeezes_S1x128x4096_S128x4096) (fun _ => shapeCasts_S1x128x4096_S128x4096) V) $$ H
theorem rel_join (c : Dev nD) : (bigSep Finset.univ fun t => iprop(∃ V, owns (c : Thread nD τ) (relM t) fullShare V))
    ⊢ (iprop(∃ V, owns (c : Thread nD τ) (Memref.whole main_v94_2 : Memref sig .tc .hbm S10x128x4096 .f32) fullShare V) : sProp 𝕄) :=
  rows_join_any (F := F) c (Memref.whole main_v94_2 : Memref sig .tc .hbm S10x128x4096 .f32) rr10 (fun _ _ => rfl) rr10D rr10C (fun _ => squeezes_S1x128x4096_S128x4096) (fun _ => shapeCasts_S1x128x4096_S128x4096) (fun _ => shapeCasts_S128x4096_S1x128x4096)
theorem bnc_split (c : Dev nD) : iprop(∃ V, owns (c : Thread nD τ) (Memref.whole cc0_scratch10 : Memref sig .tc .vmem S2x128x4096 .f32) fullShare V)
    ⊢ (bigSep Finset.univ fun t => iprop(∃ V, owns (c : Thread nD τ) (bncM t) fullShare V) : sProp 𝕄) := by
  iintro ⟨%V, H⟩
  iapply (rows_split (F := F) c (Memref.whole cc0_scratch10 : Memref sig .tc .vmem S2x128x4096 .f32) rr2 (fun _ _ => rfl) rr2D rr2C (fun _ => squeezes_S1x128x4096_S128x4096) (fun _ => shapeCasts_S1x128x4096_S128x4096) V) $$ H
theorem bnc_join (c : Dev nD) : (bigSep Finset.univ fun t => iprop(∃ V, owns (c : Thread nD τ) (bncM t) fullShare V))
    ⊢ (iprop(∃ V, owns (c : Thread nD τ) (Memref.whole cc0_scratch10 : Memref sig .tc .vmem S2x128x4096 .f32) fullShare V) : sProp 𝕄) :=
  rows_join_any (F := F) c (Memref.whole cc0_scratch10 : Memref sig .tc .vmem S2x128x4096 .f32) rr2 (fun _ _ => rfl) rr2D rr2C (fun _ => squeezes_S1x128x4096_S128x4096) (fun _ => shapeCasts_S1x128x4096_S128x4096) (fun _ => shapeCasts_S128x4096_S1x128x4096)
theorem ama_split (c : Dev nD) : iprop(∃ V, owns (c : Thread nD τ) aW fullShare V)
    ⊢ (bigSep Finset.univ fun t => iprop(∃ V, owns (c : Thread nD τ) (amM t) fullShare V) : sProp 𝕄) := by
  iintro ⟨%V, H⟩
  iapply (rows_split (F := F) c aW rr16 (fun _ _ => rfl) rr16D rr16C (fun _ => squeezes_S1x8x128_S8x128) (fun _ => shapeCasts_S1x8x128_S8x128) V) $$ H

theorem amV_row (t : Fin 16) : shapeCast (rr16 t).shape (amv X Wt t) shapeCasts_S8x128_S1x8x128 = fun j => amA X Wt ((rr16 t).emb j) := by
  funext j
  unfold amv amA
  show Scalar.maximumf (rmx X Wt t 30) _ = Scalar.maximumf (rmx X Wt _ 30) _
  congr 2
  refine Fin.ext ?_
  show t.val = (((rr16 t).emb j) 0).val
  have h : (((rr16 t).emb j) 0).val = t.val + 1 * (j 0).val := rfl
  have h2 : (j 0).val < 1 := (j 0).isLt
  omega

theorem ama_join (c : Dev nD) : (bigSep Finset.univ fun t : Fin 16 => owns (c : Thread nD τ) (amM t) fullShare (amv X Wt t))
    ⊢ (owns (c : Thread nD τ) aW fullShare (amA X Wt) : sProp 𝕄) :=
  rows_join (F := F) c aW rr16 (fun _ _ => rfl) rr16D rr16C (fun _ => squeezes_S1x8x128_S8x128) (fun _ => shapeCasts_S1x8x128_S8x128) (fun _ => shapeCasts_S8x128_S1x8x128) (amv X Wt) (amA X Wt) (amV_row X Wt)

theorem adv_univ : ∀ c : Dev nD, (Finset.univ : Finset (Fin 16)) = insert c ((Finset.range 15).image fun i => adv c (1 + i)) := by decide
theorem adv_notin : ∀ c : Dev nD, c ∉ (Finset.range 15).image fun i => adv c (1 + i) := by decide
theorem adv_inj : ∀ c : Dev nD, ∀ i ∈ Finset.range 15, ∀ j ∈ Finset.range 15, adv c (1 + i) = adv c (1 + j) → i = j := by decide

theorem arow_all (c : Dev nD) : iprop(Aown X Wt c 15 15 ∗ Arow X Wt c 15) ⊢ (owns (c : Thread nD τ) aW fullShare (amA X Wt) : sProp 𝕄) := by
  refine BIBase.Entails.trans ?_ (ama_join X Wt c)
  have h : (bigSep Finset.univ fun t : Fin 16 => owns (c : Thread nD τ) (amM t) fullShare (amv X Wt t) : sProp 𝕄)
      = BIBase.sep (owns (c : Thread nD τ) (amM c) fullShare (amv X Wt c)) (Arow X Wt c 15) := by
    rw [adv_univ c, bigSep_insert (adv_notin c), bigSep_image_of_injOn (fun i hi j hj => adv_inj c i (Finset.mem_coe.mp hi) j (Finset.mem_coe.mp hj))]
    rfl
  rw [h]
  exact BIClass.sep_mono (Aown_join X Wt c 15) BIBase.Entails.rfl

theorem ld_amx (c : Dev nD) {off : Fin 3 → ℕ} (ho : off = fun _ => 0) {inb : ∀ a, off a + S16x8x128.size a ≤ S16x8x128.size a}
    {hl : aW.view.LoadsAt (Rect.unit (s := S16x8x128) off S16x8x128.size inb).toLoadRect}
    {k : Vec F S16x8x128 .f32 → Prog (TpuEff nD τ sig (Elt F) Λ₀ .tc) α} :
    iprop(Aown X Wt c 15 15 ∗ Arow X Wt c 15) ⊢ iprop((owns (c : Thread nD τ) aW fullShare (amA X Wt) -∗ bwp c (k (amA X Wt)) Q)
      -∗ bwp c (.op (.load aW (Rect.unit (s := S16x8x128) off S16x8x128.size inb).toLoadRect hl) k) Q) :=
  BIBase.Entails.trans (arow_all X Wt c) (ld_a (F := F) c ho)

end Cert.Proof
end
-- ==== Proof.BodyP4.lean ====
module

public import proofs.«01_k».proof.Proof.Join

@[expose] public section

set_option maxRecDepth 20000

noncomputable section

/-!
The body, part by part: what each part takes of the state of the protocol and what it leaves.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem pt75 (c : Dev nD) {k : _ → Prog (TpuEff nD τ sig (Elt F) Λ₀ .tc) α} :
    iprop(Invs X Wt κ ιs ∗ AllE ∗ Main c 45 10 ∗ BQ c 0 11 ∗ Aown X Wt c 0 11)
    ⊢ iprop(((Main c 47 10 ∗ BQ c 0 13 ∗ Aown X Wt c 0 13) -∗ bwp c (k ⟨⟩) Q)
    -∗ bwp c (k0_part75 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part75_eq_skeleton]; unfold k0_part75_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 11 45 10 (by decide) rfl (by decide) (ad12 c) (amS c (o35 c)) (amS c (o35 c)) (aS _ (o33_12 c)) (aR c (o34 c))) $$ [HM HBQ HAO]
  · iframe HI HA HM HBQ HAO
  iintro ⟨HM, HBQ, HAO⟩
  iapply (am_send X Wt c 12 46 10 (by decide) rfl (by decide) (ad13 c) (amS c (o35 c)) (amS c (o35 c)) (aS _ (o33_13 c)) (aR c (o34 c))) $$ [HM HBQ HAO]
  · iframe HI HA HM HBQ HAO
  iintro ⟨HM, HBQ, HAO⟩
  iapply Hk
  iframe HM HBQ HAO

theorem pt76 (c : Dev nD) {k : _ → Prog (TpuEff nD τ sig (Elt F) Λ₀ .tc) α} :
    iprop(Invs X Wt κ ιs ∗ AllE ∗ Main c 47 10 ∗ BQ c 0 13 ∗ Aown X Wt c 0 13)
    ⊢ iprop(((Main c 49 10 ∗ BQ c 0 15 ∗ Aown X Wt c 0 15) -∗ bwp c (k ⟨⟩) Q)
    -∗ bwp c (k0_part76 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part76_eq_skeleton]; unfold k0_part76_skel
  simp only [semSignalWord, semWaitWord, smemLoad, smemLoadElt, Prog.lift, Prog.bind_op, Prog.bind_ret, Prog.pure_eq_ret, wp_deviceId]
  iintro ⟨#HI, #HA, HM, HBQ, HAO⟩ Hk
  iapply (am_send X Wt c 13 47 10 (by decide) rfl (by decide) (ad14 c) (amS c (o35 c)) (amS c (o35 c)) (aS _ (o33_14 c)) (aR c (o34 c))) $$ [HM HBQ HAO]
  · iframe HI HA HM HBQ HAO
  iintro ⟨HM, HBQ, HAO⟩
  iapply (am_send X Wt c 14 48 10 (by decide) rfl (by decide) (ad15 c) (amS c (o35 c)) (amS c (o35 c)) (aS _ (o33_15 c)) (aR c (o34 c))) $$ [HM HBQ HAO]
  · iframe HI HA HM HBQ HAO
  iintro ⟨HM, HBQ, HAO⟩
  iapply Hk
  iframe HM HBQ HAO

theorem pt77 (c : Dev nD) {k : _ → Prog (TpuEff nD τ sig (Elt F) Λ₀ .tc) α} :
    iprop(Invs X Wt κ ιs ∗ Nbr c ∗ Main c 49 10 ∗ AQ c 0 ∗ Arow X Wt c 0)
    ⊢ iprop(((Main c 49 10 ∗ AQ c 2 ∗ Arow X Wt c 2) -∗ bwp c (k ⟨⟩) Q)
    -∗ bwp c (k0_part77 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part77_eq_skeleton]; unfold k0_part77_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 0 49 10 (by decide) (by decide) (aR _ (o33_1 c)) (naq _)) $$ [HM HAQ HAR]
  · iframe HI HM HAQ HAR
  iintro ⟨HM, HAQ, HAR⟩
  iapply (am_recv X Wt c 1 49 10 (by decide) (by decide) (aR _ (o33_2 c)) (naq _)) $$ [HM HAQ HAR]
  · iframe HI HM HAQ HAR
  iintro ⟨HM, HAQ, HAR⟩
  iapply Hk
  iframe HM HAQ HAR

theorem pt78 (c : Dev nD) {k : _ → Prog (TpuEff nD τ sig (Elt F) Λ₀ .tc) α} :
    iprop(Invs X Wt κ ιs ∗ Nbr c ∗ Main c 49 10 ∗ AQ c 2 ∗ Arow X Wt c 2)
    ⊢ iprop(((Main c 49 10 ∗ AQ c 4 ∗ Arow X Wt c 4) -∗ bwp c (k ⟨⟩) Q)
    -∗ bwp c (k0_part78 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part78_eq_skeleton]; unfold k0_part78_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 2 49 10 (by decide) (by decide) (aR _ (o33_3 c)) (naq _)) $$ [HM HAQ HAR]
  · iframe HI HM HAQ HAR
  iintro ⟨HM, HAQ, HAR⟩
  iapply (am_recv X Wt c 3 49 10 (by decide) (by decide) (aR _ (o33_4 c)) (naq _)) $$ [HM HAQ HAR]
  · iframe HI HM HAQ HAR
  iintro ⟨HM, HAQ, HAR⟩
  iapply Hk
  iframe HM HAQ HAR

theorem pt79 (c : Dev nD) {k : _ → Prog (TpuEff nD τ sig (Elt F) Λ₀ .tc) α} :
    iprop(Invs X Wt κ ιs ∗ Nbr c ∗ Main c 49 10 ∗ AQ c 4 ∗ Arow X Wt c 4)
    ⊢ iprop(((Main c 49 10 ∗ AQ c 6 ∗ Arow X Wt c 6) -∗ bwp c (k ⟨⟩) Q)
    -∗ bwp c (k0_part79 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part79_eq_skeleton]; unfold k0_part79_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 4 49 10 (by decide) (by decide) (aR _ (o33_5 c)) (naq _)) $$ [HM HAQ HAR]
  · iframe HI HM HAQ HAR
  iintro ⟨HM, HAQ, HAR⟩
  iapply (am_recv X Wt c 5 49 10 (by decide) (by decide) (aR _ (o33_6 c)) (naq _)) $$ [HM HAQ HAR]
  · iframe HI HM HAQ HAR
  iintro ⟨HM, HAQ, HAR⟩
  iapply Hk
  iframe HM HAQ HAR

theorem pt80 (c : Dev nD) {k : _ → Prog (TpuEff nD τ sig (Elt F) Λ₀ .tc) α} :
    iprop(Invs X Wt κ ιs ∗ Nbr c ∗ Main c 49 10 ∗ AQ c 6 ∗ Arow X Wt c 6)
    ⊢ iprop(((Main c 49 10 ∗ AQ c 9 ∗ Arow X Wt c 9) -∗ bwp c (k 10#32) Q)
    -∗ bwp c (k0_part80 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) >>= k) Q) := by
  rw [k0_part80_eq_skeleton]; unfold k0_part80_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 6 49 10 (by decide) (by decide) (aR _ (o33_7 c)) (naq _)) $$ [HM HAQ HAR]
  · iframe HI HM HAQ HAR
  iintro ⟨HM, HAQ, HAR⟩
  iapply (am_recv X Wt c 7 49 10 (by decide) (by decide) (aR _ (o33_8 c)) (naq _)) $$ [HM HAQ HAR]
  · iframe HI HM HAQ HAR
  iintro ⟨HM, HAQ, HAR⟩
  iapply (am_recv X Wt c 8 49 10 (by decide) (by decide) (aR _ (o33_9 c)) (naq _)) $$ [HM HAQ HAR]
  · iframe HI HM HAQ HAR
  iintro ⟨HM, HAQ, HAR⟩
  iapply Hk
  iframe HM HAQ HAR

theorem pt81 (c : Dev nD) {k : _ → Prog (TpuEff nD τ sig (Elt F) Λ₀ .tc) α} :
    iprop(Invs X Wt κ ιs ∗ Nbr c ∗ Main c 49 10 ∗ AQ c 9 ∗ Arow X Wt c 9)
    ⊢ iprop(((Main c 49 10 ∗ AQ c 11 ∗ Arow X Wt c 11) -∗ bwp c (k ⟨(Scalar.addi (Scalar.remsi (Scalar.divsi (Dev.word c) 1#32) 16#32) 12#32), 16#32⟩) Q)
    -∗ bwp c (k0_part81 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (10#32) >>= k) Q) := by
  rw [k0_part81_eq_skeleton]; unfold k0_part81_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 9 49 10 (by decide) (by decide) (aR _ (o33_10 c)) (naq _)) $$ [HM HAQ HAR]
  · iframe HI HM HAQ HAR
  iintro ⟨HM, HAQ, HAR⟩
  iapply (am_recv X Wt c 10 49 10 (by decide) (by decide) (aR _ (o33_11 c)) (naq _)) $$ [HM HAQ HAR]
  · iframe HI HM HAQ HAR
  iintro ⟨HM, HAQ, HAR⟩
  iapply Hk
  iframe HM HAQ HAR

theorem pt82 (c : Dev nD) {k : _ → Prog (TpuEff nD τ sig (Elt F) Λ₀ .tc) α} :
    iprop(Invs X Wt κ ιs ∗ Nbr c ∗ Main c 49 10 ∗ AQ c 11 ∗ Arow X Wt c 11)
    ⊢ iprop(((Main c 49 10 ∗ AQ c 13 ∗ Arow X Wt c 13) -∗ bwp c (k ⟨(Scalar.addi (Scalar.remsi (Scalar.divsi (Dev.word c) 1#32) 16#32) 14#32), 16#32, (Scalar.cmpi .eq 16#32 0#32)⟩) Q)
    -∗ bwp c (k0_part82 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (Scalar.addi (Scalar.remsi (Scalar.divsi (Dev.word c) 1#32) 16#32) 12#32) (16#32) >>= k) Q) := by
  rw [k0_part82_eq_skeleton]; unfold k0_part82_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 11 49 10 (by decide) (by decide) (aR _ (o33_12 c)) (naq _)) $$ [HM HAQ HAR]
  · iframe HI HM HAQ HAR
  iintro ⟨HM, HAQ, HAR⟩
  iapply (am_recv X Wt c 12 49 10 (by decide) (by decide) (aR _ (o33_13 c)) (naq _)) $$ [HM HAQ HAR]
  · iframe HI HM HAQ HAR
  iintro ⟨HM, HAQ, HAR⟩
  iapply Hk
  iframe HM HAQ HAR

theorem pt83 (c : Dev nD) {k : _ → Prog (TpuEff nD τ sig (Elt F) Λ₀ .tc) α} :
    iprop(Invs X Wt κ ιs ∗ Nbr c ∗ Main c 49 10 ∗ AQ c 13 ∗ Arow X Wt c 13)
    ⊢ iprop(((Main c 49 10 ∗ AQ c 15 ∗ Arow X Wt c 15) -∗ bwp c (k ⟨⟩) Q)
    -∗ bwp c (k0_part83 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c (Scalar.remsi (Scalar.divsi (Dev.word c) 1#32) 16#32) (Scalar.addi (Scalar.remsi (Scalar.divsi (Dev.word c) 1#32) 16#32) 14#32) (16#32) (Scalar.cmpi .eq 16#32 0#32) >>= k) Q) := by
  rw [k0_part83_eq_skeleton]; unfold k0_part83_skel
  simp only [semSignalWord, semWaitWord, smemLoad, smemLoadElt, Prog.lift, Prog.bind_op, Prog.bind_ret, Prog.pure_eq_ret, wp_deviceId]
  iintro ⟨#HI, #HN, HM, HAQ, HAR⟩ Hk
  iapply (am_recv X Wt c 13 49 10 (by decide) (by decide) (aR _ (o33_14 c)) (naq _)) $$ [HM HAQ HAR]
  · iframe HI HM HAQ HAR
  iintro ⟨HM, HAQ, HAR⟩
  iapply (am_recv X Wt c 14 49 10 (by decide) (by decide) (aR _ (o33_15 c)) (naq _)) $$ [HM HAQ HAR]
  · iframe HI HM HAQ HAR
  iintro ⟨HM, HAQ, HAR⟩
  iapply Hk
  iframe HM HAQ HAR

theorem pt84 (c : Dev nD) {k : _ → Prog (TpuEff nD τ sig (Elt F) Λ₀ .tc) α} :
    iprop(Invs X Wt κ ιs ∗ Nbr c ∗ Main c 49 10 ∗ BQ c 0 15 ∗ Aown X Wt c 0 15)
    ⊢ iprop(((Main c 49 10 ∗ BQ c 5 15 ∗ Aown X Wt c 5 15) -∗ bwp c (k ⟨⟩) Q)
    -∗ bwp c (k0_part84 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c >>= k) Q) := by
  rw [k0_part84_eq_skeleton]; unfold k0_part84_skel
  simp only [semSignalWord, semWaitWord, smemLoad, smemLoadElt, Prog.lift, Prog.bind_op, Prog.bind_ret, Prog.pure_eq_ret, wp_deviceId]
  iintro ⟨#HI, #HN, HM, HBQ, HAO⟩ Hk
  iapply (am_wait X Wt c 0 49 10 (by decide) (by decide) (aS _ (o33_1 c)) (naq _)) $$ [HM HBQ HAO]
  · iframe HI HM HBQ HAO
  iintro ⟨HM, HBQ, HAO⟩
  iapply (am_wait X Wt c 1 49 10 (by decide) (by decide) (aS _ (o33_2 c)) (naq _)) $$ [HM HBQ HAO]
  · iframe HI HM HBQ HAO
  iintro ⟨HM, HBQ, HAO⟩
  iapply (am_wait X Wt c 2 49 10 (by decide) (by decide) (aS _ (o33_3 c)) (naq _)) $$ [HM HBQ HAO]
  · iframe HI HM HBQ HAO
  iintro ⟨HM, HBQ, HAO⟩
  iapply (am_wait X Wt c 3 49 10 (by decide) (by decide) (aS _ (o33_4 c)) (naq _)) $$ [HM HBQ HAO]
  · iframe HI HM HBQ HAO
  iintro ⟨HM, HBQ, HAO⟩
  iapply (am_wait X Wt c 4 49 10 (by decide) (by decide) (aS _ (o33_5 c)) (naq _)) $$ [HM HBQ HAO]
  · iframe HI HM HBQ HAO
  iintro ⟨HM, HBQ, HAO⟩
  iapply Hk
  iframe HM HBQ HAO

theorem pt85 (c : Dev nD) {k : _ → Prog (TpuEff nD τ sig (Elt F) Λ₀ .tc) α} :
    iprop(Invs X Wt κ ιs ∗ Nbr c ∗ Main c 49 10 ∗ BQ c 5 15 ∗ Aown X Wt c 5 15)
    ⊢ iprop(((Main c 49 10 ∗ BQ c 10 15 ∗ Aown X Wt c 10 15) -∗ bwp c (k ⟨⟩) Q)
    -∗ bwp c (k0_part85 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c >>= k) Q) := by
  rw [k0_part85_eq_skeleton]; unfold k0_part85_skel
  simp only [semSignalWord, semWaitWord, smemLoad, smemLoadElt, Prog.lift, Prog.bind_op, Prog.bind_ret, Prog.pure_eq_ret, wp_deviceId]
  iintro ⟨#HI, #HN, HM, HBQ, HAO⟩ Hk
  iapply (am_wait X Wt c 5 49 10 (by decide) (by decide) (aS _ (o33_6 c)) (naq _)) $$ [HM HBQ HAO]
  · iframe HI HM HBQ HAO
  iintro ⟨HM, HBQ, HAO⟩
  iapply (am_wait X Wt c 6 49 10 (by decide) (by decide) (aS _ (o33_7 c)) (naq _)) $$ [HM HBQ HAO]
  · iframe HI HM HBQ HAO
  iintro ⟨HM, HBQ, HAO⟩
  iapply (am_wait X Wt c 7 49 10 (by decide) (by decide) (aS _ (o33_8 c)) (naq _)) $$ [HM HBQ HAO]
  · iframe HI HM HBQ HAO
  iintro ⟨HM, HBQ, HAO⟩
  iapply (am_wait X Wt c 8 49 10 (by decide) (by decide) (aS _ (o33_9 c)) (naq _)) $$ [HM HBQ HAO]
  · iframe HI HM HBQ HAO
  iintro ⟨HM, HBQ, HAO⟩
  iapply (am_wait X Wt c 9 49 10 (by decide) (by decide) (aS _ (o33_10 c)) (naq _)) $$ [HM HBQ HAO]
  · iframe HI HM HBQ HAO
  iintro ⟨HM, HBQ, HAO⟩
  iapply Hk
  iframe HM HBQ HAO

theorem pt86 (c : Dev nD) {k : _ → Prog (TpuEff nD τ sig (Elt F) Λ₀ .tc) α} :
    iprop(Invs X Wt κ ιs ∗ Nbr c ∗ Main c 49 10 ∗ BQ c 10 15 ∗ Aown X Wt c 10 15 ∗ Arow X Wt c 15)
    ⊢ iprop(((Main c 49 10 ∗ BQ c 15 15 ∗ owns (c : Thread nD τ) aW fullShare (amA X Wt)) -∗ bwp c (k (k0_pay62 (amA X Wt))) Q)
    -∗ bwp c (k0_part86 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 c >>= k) Q) := by
  rw [k0_part86_eq_skeleton]; unfold k0_part86_skel
  simp only [semSignalWord, semWaitWord, smemLoad, smemLoadElt, Prog.lift, Prog.bind_op, Prog.bind_ret, Prog.pure_eq_ret, wp_deviceId]
  iintro ⟨#HI, #HN, HM, HBQ, HAO, HAR⟩ Hk
  iapply (am_wait X Wt c 10 49 10 (by decide) (by decide) (aS _ (o33_11 c)) (naq _)) $$ [HM HBQ HAO]
  · iframe HI HM HBQ HAO
  iintro ⟨HM, HBQ, HAO⟩
  iapply (am_wait X Wt c 11 49 10 (by decide) (by decide) (aS _ (o33_12 c)) (naq _)) $$ [HM HBQ HAO]
  · iframe HI HM HBQ HAO
  iintro ⟨HM, HBQ, HAO⟩
  iapply (am_wait X Wt c 12 49 10 (by decide) (by decide) (aS _ (o33_13 c)) (naq _)) $$ [HM HBQ HAO]
  · iframe HI HM HBQ HAO
  iintro ⟨HM, HBQ, HAO⟩
  iapply (am_wait X Wt c 13 49 10 (by decide) (by decide) (aS _ (o33_14 c)) (naq _)) $$ [HM HBQ HAO]
  · iframe HI HM HBQ HAO
  iintro ⟨HM, HBQ, HAO⟩
  iapply (am_wait X Wt c 14 49 10 (by decide) (by decide) (aS _ (o33_15 c)) (naq _)) $$ [HM HBQ HAO]
  · iframe HI HM HBQ HAO
  iintro ⟨HM, HBQ, HAO⟩
  iapply (ld_amx X Wt c z3) $$ [HAO HAR]
  · isplitl [HAO]; iexact HAO; iexact HAR
  iintro HAM
  iapply Hk
  iframe HM HBQ HAM

end Cert.Proof
end
-- ==== Proof.BodyAll.lean ====
module

public import proofs.«01_k».proof.Proof.BodyB
public import proofs.«01_k».proof.Proof.BodyP1
public import proofs.«01_k».proof.Proof.BodyP2
public import proofs.«01_k».proof.Proof.BodyP3
public import proofs.«01_k».proof.Proof.BodyP4

@[expose] public section

set_option maxRecDepth 20000

noncomputable section

/-!
The whole body on one device.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-- A store over the whole of the output leaves what is stored. -/
theorem put_all (V w : Vec F S4096x512 .f32) : VecWindow.put V (fun _ => 0) S4096x512.size w = w := by
  funext i
  have h := congrFun (VecWindow.window_put_same V (fun _ => 0) S4096x512.size (fun a => (Nat.zero_add _).le) w) i
  rw [← h]
  unfold VecWindow.window
  congr 1
  funext a
  exact Fin.ext (by show _ = 0 + 1 * _; omega)

set_option maxHeartbeats 8000000 in
theorem pt87 (c : Dev nD) {k : _ → Prog (TpuEff nD τ sig (Elt F) Λ₀ .tc) α} :
    iprop(Invs X Wt κ ιs ∗ Entered c ∗ Main c 0 (tc (cls c) 0) ∗ barC c ∗ SQ c false 0 0 ∗ CQ c false 0 ∗ RQ c false 0 ∗ RDq c false 0 ∗ xq X c (hf false 0) (xsh false) ∗ xq X c (hf false 1) (xsh false) ∗ SQ c true 0 0 ∗ CQ c true 0 ∗ RQ c true 0 ∗ RDq c true 0 ∗ xq X c (hf true 0) (xsh true) ∗ xq X c (hf true 1) (xsh true) ∗ xq X c (fm 2 0) xst ∗ bn0 c (fm 2 0) ∗ xq X c (fm 2 1) xst ∗ bn0 c (fm 2 1) ∗ xwl X c ∗ wwl Wt c ∗ tbl c ∗ Out0 c ∗ LQ c 0 ∗ Ldn c 0 ∗ TQ c 0 (tc (cls c) 0) ∗ Stg c (tc (cls c) 0) ∗ Sdn c 0 ∗ AQ c 0 ∗ BQ c 0 0 ∗ Arow X Wt c 0 ∗ Zs c ∗ am0 c)
    ⊢ iprop(((Nbr c ∗ barD c ∗ xwl X c ∗ xq X c (hf false 0) (xsh false) ∗ xq X c (fm 2 0) xst ∗ xq X c (fm 2 1) xst ∗ xq X c (hf true 0) (xsh true) ∗ xq X c (hf false 1) (xsh false) ∗ xq X c (hf true 1) (xsh true) ∗ RDq c false 5 ∗ RDq c true 5 ∗ sl X c false 5 fullShare ∗ CQ c false 5 ∗ sl X c true 5 fullShare ∗ CQ c true 5 ∗ Stg c 10 ∗ sl X c false 8 fullShare.left ∗ sl X c false 6 fullShare ∗ sl X c true 8 fullShare.left ∗ sl X c true 6 fullShare ∗ sl X c false 8 fullShare.right ∗ sl X c true 8 fullShare.right ∗ RQ c false 10 ∗ sl X c false 9 fullShare.left ∗ SQ c false 10 10 ∗ sl X c false 7 fullShare ∗ RQ c true 10 ∗ sl X c true 9 fullShare.left ∗ SQ c true 10 10 ∗ sl X c true 7 fullShare ∗ sl X c false 9 fullShare.right ∗ sl X c true 9 fullShare.right ∗ bnc X c 8 ∗ LQ c 10 ∗ bnc X c 9 ∗ Zs c ∗ Ldn c 10 ∗ tbl c ∗ wwl Wt c ∗ OutQ X Wt c 30 ∗ TQ c 10 10 ∗ Sdn c 10 ∗ BQ c 0 15 ∗ Aown X Wt c 0 15 ∗ Main c 49 10 ∗ AQ c 9 ∗ Arow X Wt c 9) -∗ bwp c (k ⟨c, (Scalar.remsi (Scalar.divsi (Dev.word c) 1#32) 16#32), 10#32⟩) Q)
    -∗ bwp c (k0_part87 tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 >>= k) Q) := by
  rw [k0_part87_eq_skeleton]; unfold k0_part87_skel
  iintro ⟨#HI, #HE, HM, HBR, HSF, HCF, HRF, HDF, Hxf0, Hxf1, HSB, HCB, HRB, HDB, Hxb0, Hxb1, Hy0, HN0, Hy1, HN1, HX, HW, HT, HO, HLQ, HLD, HTQ, HSG, HSD, HAQ, HBQ, HAR, HZ, HAO⟩ Hk
  try rw [Prog.bind_assoc]
  iapply (pt21 X Wt c) $$ [HT HM HBR HSF HCF Hxf0]
  · iframe HI HE HT HM HBR HSF HCF Hxf0
  iintro ⟨HT, HM, HBD, HSF, HCF, #HN⟩
  try dsimp only
  try rw [Prog.bind_assoc]
  iapply (pt22 X Wt c) $$ [HM HSF HCF Hxf1 HSB HCB Hxb0 Hxb1 HTQ HSG Hy0 HZ Hy1]
  · iframe HI HN HM HSF HCF Hxf1 HSB HCB Hxb0 Hxb1 HTQ HSG Hy0 HZ Hy1
  iintro ⟨HM, HSF, HCF, HSB, HCB, HTQ, HSG, Hy0, HZ, Hy1⟩
  try dsimp only
  try rw [Prog.bind_assoc]
  iapply (pt23 X Wt c) $$ [HM HTQ HSG HX HW HO HRF HSF Hy0 HZ Hy1]
  · iframe HI HN HM HTQ HSG HX HW HO HRF HSF Hy0 HZ Hy1
  iintro ⟨HM, HTQ, HSG, HX, HW, HO, HRF, Hlf0, Hrf0, HSF, Hxf0, Hy0, HZ, Hy1⟩
  try dsimp only
  try rw [Prog.bind_assoc]
  iapply (pt24 X Wt c) $$ [HM HSF HCF HRF Hlf0 HRB HSB HCB HT]
  · iframe HI HN HM HSF HCF HRF Hlf0 HRB HSB HCB HT
  iintro ⟨HM, HSF, HCF, HRF, HRB, Hrb0, HSB, Hxb0, HCB, HT⟩
  try dsimp only
  try rw [Prog.bind_assoc]
  iapply (pt25 X Wt c) $$ [Hrf0 HW HO HT Hrb0]
  · iframe HI HN Hrf0 HW HO HT Hrb0
  iintro ⟨Hrf0, HW, HO, HT, Hrb0⟩
  try dsimp only
  try rw [Prog.bind_assoc]
  iapply (pt26 X Wt c) $$ [HM HRF HSF HCF HRB]
  · iframe HI HN HM HRF HSF HCF HRB
  iintro ⟨HM, HRF, Hrf1, HSF, Hxf1, HCF, HRB, Hlb1, Hrb1⟩
  try dsimp only
  try rw [Prog.bind_assoc]
  iapply (pt27 X Wt c) $$ [HM HSB HCB HRB Hlb1 HTQ HSG Hrb1 HZ Hrb0 Hrf0 HRF Hrf1]
  · iframe HI HN HM HSB HCB HRB Hlb1 HTQ HSG Hrb1 HZ Hrb0 Hrf0 HRF Hrf1
  iintro ⟨HM, HSB, Hxb1, HCB, HRB, HTQ, HSG, Hrb1, HZ, Hrb0, Hrf0, HRF, Hrf1⟩
  try dsimp only
  try rw [Prog.bind_assoc]
  iapply (pt28 X Wt c) $$ [HM HTQ HSG HT Hrf0 HZ HRF Hrf1 Hrb1 HRB Hrb0]
  · iframe HI HN HM HTQ HSG HT Hrf0 HZ HRF Hrf1 Hrb1 HRB Hrb0
  iintro ⟨HM, HTQ, HSG, HT, Hrf0, HZ, HRF, Hrf1, Hrb1, HRB, Hrb0⟩
  try dsimp only
  try rw [Prog.bind_assoc]
  iapply (pt29 X Wt c) $$ [Hrf1 HW HO HT Hrb1]
  · iframe HI HN Hrf1 HW HO HT Hrb1
  iintro ⟨Hrf1, HW, HO, HT, Hrb1⟩
  try dsimp only
  try rw [Prog.bind_assoc]
  iapply (pt30 X Wt c) $$ [HM HRF HSF Hrf0 HDF HCF]
  · iframe HI HN HM HRF HSF Hrf0 HDF HCF
  iintro ⟨HM, HRF, Hrf2, HSF, HDF, HCF⟩
  try dsimp only
  try rw [Prog.bind_assoc]
  iapply (pt31 X Wt c) $$ [HM HRB HSB Hrb0 HDB HCB HT Hrf2 HW]
  · iframe HI HN HM HRB HSB Hrb0 HDB HCB HT Hrf2 HW
  iintro ⟨HM, HRB, Hrb2, HSB, HDB, HCB, HT, Hrf2, HW⟩
  try dsimp only
  try rw [Prog.bind_assoc]
  iapply (pt32 X Wt c) $$ [HO HT Hrb2 HW HM HRF]
  · iframe HI HN HO HT Hrb2 HW HM HRF
  iintro ⟨HO, HT, Hrb2, HW, HM, HRF, Hlf3, Hrf3⟩
  try dsimp only
  try rw [Prog.bind_assoc]
  iapply (pt33 X Wt c) $$ [HM HSF Hrf1 HRF HDF HCF Hlf3 HRB]
  · iframe HI HN HM HSF Hrf1 HRF HDF HCF Hlf3 HRB
  iintro ⟨HM, HSF, HRF, HDF, HCF, HRB, Hlb3, Hrb3⟩
  try dsimp only
  try rw [Prog.bind_assoc]
  iapply (pt34 X Wt c) $$ [HM HSB Hrb1 HRB HDB HCB Hlb3 HTQ HSG Hrf2 HZ HRF Hrf3]
  · iframe HI HN HM HSB Hrb1 HRB HDB HCB Hlb3 HTQ HSG Hrf2 HZ HRF Hrf3
  iintro ⟨HM, HSB, HRB, HDB, HCB, HTQ, HSG, Hrf2, HZ, HRF, Hrf3⟩
  try dsimp only
  try rw [Prog.bind_assoc]
  iapply (pt35 X Wt c) $$ [HM HTQ HSG HT Hrf3 Hrf2 HZ HRF Hrb3 HRB Hrb2]
  · iframe HI HN HM HTQ HSG HT Hrf3 Hrf2 HZ HRF Hrb3 HRB Hrb2
  iintro ⟨HM, HTQ, HSG, HT, Hrf3, Hrf2, HZ, HRF, Hrb3, HRB, Hrb2⟩
  try dsimp only
  try rw [Prog.bind_assoc]
  iapply (pt36 X Wt c) $$ [HW HO HT Hrb3]
  · iframe HI HN HW HO HT Hrb3
  iintro ⟨HW, HO, HT, Hrb3⟩
  try dsimp only
  try rw [Prog.bind_assoc]
  iapply (pt37 X Wt c) $$ [HM HRF HSF Hrf2 HDF HCF]
  · iframe HI HN HM HRF HSF Hrf2 HDF HCF
  iintro ⟨HM, HRF, Hrf4, HSF, HDF, HCF⟩
  try dsimp only
  try rw [Prog.bind_assoc]
  iapply (pt38 X Wt c) $$ [HM HRB HSB Hrb2 HDB HCB]
  · iframe HI HN HM HRB HSB Hrb2 HDB HCB
  iintro ⟨HM, HRB, Hrb4, HSB, HDB, HCB⟩
  try dsimp only
  try rw [Prog.bind_assoc]
  iapply (pt39 X Wt c) $$ [HM HLQ HN0 HZ HLD HT HW HO]
  · iframe HI HN HM HLQ HN0 HZ HLD HT HW HO
  iintro ⟨HM, HLQ, HN0, HZ, HLD, HT, HW, HO⟩
  try dsimp only
  try rw [Prog.bind_assoc]
  iapply (pt40 X Wt c) $$ [Hrf4 HW HO HT Hrb4]
  · iframe HI HN Hrf4 HW HO HT Hrb4
  iintro ⟨Hrf4, HW, HO, HT, Hrb4⟩
  try dsimp only
  try rw [Prog.bind_assoc]
  iapply (pt41 X Wt c) $$ [HM HRF HSF Hrf3 HDF HCF]
  · iframe HI HN HM HRF HSF Hrf3 HDF HCF
  iintro ⟨HM, HRF, Hrf5, HSF, HDF, HCF⟩
  try dsimp only
  try rw [Prog.bind_assoc]
  iapply (pt42 X Wt c) $$ [HM HRB HSB Hrb3 HDB HCB]
  · iframe HI HN HM HRB HSB Hrb3 HDB HCB
  iintro ⟨HM, HRB, Hrb5, HSB, HDB, HCB⟩
  try dsimp only
  try rw [Prog.bind_assoc]
  iapply (pt43 X Wt c) $$ [HM HTQ HSG Hrf4 HZ HRF Hrf5 Hrb5 HRB Hrb4]
  · iframe HI HN HM HTQ HSG Hrf4 HZ HRF Hrf5 Hrb5 HRB Hrb4
  iintro ⟨HM, HTQ, HSG, Hrf4, HZ, HRF, Hrf5, Hrb5, HRB, Hrb4⟩
  try dsimp only
  try rw [Prog.bind_assoc]
  iapply (pt44 X Wt c) $$ [HM HTQ HSG HLQ HN1 HZ HLD HT Hrb5 HRB Hrb4 Hrf4 HRF Hrf5]
  · iframe HI HN HM HTQ HSG HLQ HN1 HZ HLD HT Hrb5 HRB Hrb4 Hrf4 HRF Hrf5
  iintro ⟨HM, HTQ, HSG, HLQ, HN1, HZ, HLD, HT, Hrb5, HRB, Hrb4, Hrf4, HRF, Hrf5⟩
  try dsimp only
  try rw [Prog.bind_assoc]
  iapply (pt45 X Wt c) $$ [HN1 HW HO HT Hrf5]
  · iframe HI HN HN1 HW HO HT Hrf5
  iintro ⟨HN1, HW, HO, HT, Hrf5⟩
  try dsimp only
  try rw [Prog.bind_assoc]
  iapply (pt46 X Wt c) $$ [Hrb5 HW HO HM HRF HSF Hrf4]
  · iframe HI HN Hrb5 HW HO HM HRF HSF Hrf4
  iintro ⟨Hrb5, HW, HO, HM, HRF, Hlf6, Hrf6, HSF, Hff4⟩
  try dsimp only
  try rw [Prog.bind_assoc]
  iapply (pt47 X Wt c) $$ [HM HRF HDF Hff4 HCF HSF Hlf6 HRB HSB Hrb4]
  · iframe HI HN HM HRF HDF Hff4 HCF HSF Hlf6 HRB HSB Hrb4
  iintro ⟨HM, HRF, HDF, HCF, HSF, HRB, Hlb6, Hrb6, HSB, Hfb4⟩
  try dsimp only
  try rw [Prog.bind_assoc]
  iapply (pt48 X Wt c) $$ [HM HRB HDB Hfb4 HCB HSB Hlb6 HLQ HN0 HZ]
  · iframe HI HN HM HRB HDB Hfb4 HCB HSB Hlb6 HLQ HN0 HZ
  iintro ⟨HM, HRB, HDB, HCB, HSB, HLQ, HFl⟩
  try dsimp only
  try rw [Prog.bind_assoc]
  iapply (pt49 X Wt c) $$ [HM HFl HLD HT HW HO Hrf6]
  · iframe HI HN HM HFl HLD HT HW HO Hrf6
  iintro ⟨HM, HLD, HZ, HN0, HT, HW, HO, Hrf6⟩
  try dsimp only
  try rw [Prog.bind_assoc]
  iapply (pt50 X Wt c) $$ [HT Hrb6 HW HO HM HRF]
  · iframe HI HN HT Hrb6 HW HO HM HRF
  iintro ⟨HT, Hrb6, HW, HO, HM, HRF, Hlf7, Hrf7⟩
  try dsimp only
  try rw [Prog.bind_assoc]
  iapply (pt51 X Wt c) $$ [HM HSF Hrf5 HCF HRF Hlf7 HRB]
  · iframe HI HN HM HSF Hrf5 HCF HRF Hlf7 HRB
  iintro ⟨HM, HSF, Hff5, HCF, HRF, HRB, Hlb7, Hrb7⟩
  try dsimp only
  try rw [Prog.bind_assoc]
  iapply (pt52 X Wt c) $$ [HM HSB Hrb5 HCB HRB Hlb7 HTQ HSG Hrb7 HZ Hrb6 Hrf6 HRF Hrf7]
  · iframe HI HN HM HSB Hrb5 HCB HRB Hlb7 HTQ HSG Hrb7 HZ Hrb6 Hrf6 HRF Hrf7
  iintro ⟨HM, HSB, Hfb5, HCB, HRB, HTQ, HSG, Hrb7, HZ, Hrb6, Hrf6, HRF, Hrf7⟩
  try dsimp only
  rw [tc_end]
  try rw [Prog.bind_assoc]
  iapply (pt53 X Wt c) $$ [HM HLQ HN1 HZ HLD HT HW HO]
  · iframe HI HN HM HLQ HN1 HZ HLD HT HW HO
  iintro ⟨HM, HLQ, HN1, HZ, HLD, HT, HW, HO⟩
  try dsimp only
  try rw [Prog.bind_assoc]
  iapply (pt54 X Wt c) $$ [HT Hrf7 HW HO Hrb7]
  · iframe HI HN HT Hrf7 HW HO Hrb7
  iintro ⟨HT, Hrf7, HW, HO, Hrb7⟩
  try dsimp only
  try rw [Prog.bind_assoc]
  iapply (pt55 X Wt c) $$ [HO HM HRF HSF Hrf6 HRB]
  · iframe HI HN HO HM HRF HSF Hrf6 HRB
  iintro ⟨HO, HM, HRF, Hlf8, Hrf8, HSF, Hff6, HRB, Hlb8, Hrb8⟩
  try dsimp only
  try rw [Prog.bind_assoc]
  iapply (pt56 X Wt c) $$ [HM HSB Hrb6 HLQ HN0 HZ HLD HT]
  · iframe HI HN HM HSB Hrb6 HLQ HN0 HZ HLD HT
  iintro ⟨HM, HSB, Hfb6, HLQ, HN0, HZ, HLD, HT⟩
  try dsimp only
  try rw [Prog.bind_assoc]
  iapply (pt57 X Wt c) $$ [HW HO HT Hrf8 Hrb8]
  · iframe HI HN HW HO HT Hrf8 Hrb8
  iintro ⟨HW, HO, HT, Hrf8, Hrb8⟩
  try dsimp only
  try rw [Prog.bind_assoc]
  iapply (pt58 X Wt c) $$ [HW HO HM HRF HSF Hrf7]
  · iframe HI HN HW HO HM HRF HSF Hrf7
  iintro ⟨HW, HO, HM, HRF, Hlf9, Hrf9, HSF, Hff7⟩
  try dsimp only
  try rw [Prog.bind_assoc]
  iapply (pt59 X Wt c) $$ [HM HRB HSB Hrb7 HLQ HN1 HZ HLD HT]
  · iframe HI HN HM HRB HSB Hrb7 HLQ HN1 HZ HLD HT
  iintro ⟨HM, HRB, Hlb9, Hrb9, HSB, Hfb7, HLQ, HN1, HZ, HLD, HT⟩
  try dsimp only
  try rw [Prog.bind_assoc]
  iapply (pt60 X Wt c) $$ [HN1 HW HO HT Hrf9]
  · iframe HI HN HN1 HW HO HT Hrf9
  iintro ⟨HN1, HW, HO, HT, Hrf9⟩
  try dsimp only
  try rw [Prog.bind_assoc]
  iapply (pt61 X Wt c) $$ [HT Hrb9 HW HO HM HLQ HN0 HZ]
  · iframe HI HN HT Hrb9 HW HO HM HLQ HN0 HZ
  iintro ⟨HT, Hrb9, HW, HO, HM, HLQ, HFl⟩
  try dsimp only
  try rw [Prog.bind_assoc]
  iapply (pt62 X Wt c) $$ [HM HFl HLD HT HW HO HLQ]
  · iframe HI HN HM HFl HLD HT HW HO HLQ
  iintro ⟨HM, HLD, HZ, HN0, HT, HW, HO, HLQ, HQ⟩
  try dsimp only
  try rw [Prog.bind_assoc]
  iapply (pt63 X Wt c) $$ [HQ HN1 HZ HM HLD HT HW HO]
  · iframe HI HN HQ HN1 HZ HM HLD HT HW HO
  iintro ⟨HN1, HZ, HM, HLD, HT, HW, HO⟩
  try dsimp only
  try rw [Prog.bind_assoc]
  iapply (pt64 X Wt c) $$ [HM HLQ HN0 HZ HLD HT HW HO]
  · iframe HI HN HM HLQ HN0 HZ HLD HT HW HO
  iintro ⟨HM, HLQ, HN0, HZ, HLD, HT, HW, HO⟩
  try dsimp only
  try rw [Prog.bind_assoc]
  iapply (pt65 X Wt c) $$ [HM HLQ HN1 HZ HLD HT HW HO]
  · iframe HI HN HM HLQ HN1 HZ HLD HT HW HO
  iintro ⟨HM, HLQ, HN1, HZ, HLD, HT, HW, HO⟩
  try dsimp only
  try rw [Prog.bind_assoc]
  iapply (pt66 X Wt c) $$ [HM HTQ HSD]
  · iframe HI HN HM HTQ HSD
  iintro ⟨HM, HTQ, HSD⟩
  try dsimp only
  try rw [Prog.bind_assoc]
  iapply (pt67 X Wt c) $$ [HM HTQ HSD]
  · iframe HI HN HM HTQ HSD
  iintro ⟨HM, HTQ, HSD⟩
  try dsimp only
  try rw [Prog.bind_assoc]
  iapply (pt68 X Wt c) $$ [HM HTQ HSD HAO]
  · iframe HI HN HM HTQ HSD HAO
  iintro ⟨HM, HTQ, HSD, HAO⟩
  try dsimp only
  ihave HA2 := (AllE_dup c) $$ [HRF HRB HLQ]
  · iframe HN HRF HRB HLQ
  icases HA2 with ⟨#HA, HRF, HRB, HLQ⟩
  try rw [Prog.bind_assoc]
  iapply (pt69 X Wt c) $$ [HM HBQ HAO]
  · iframe HI HA HM HBQ HAO
  iintro ⟨HM, HBQ, HAO⟩
  try dsimp only
  try rw [Prog.bind_assoc]
  iapply (pt70 X Wt c) $$ [HM HBQ HAO]
  · iframe HI HA HM HBQ HAO
  iintro ⟨HM, HBQ, HAO⟩
  try dsimp only
  try rw [Prog.bind_assoc]
  iapply (pt71 X Wt c) $$ [HM HBQ HAO]
  · iframe HI HA HM HBQ HAO
  iintro ⟨HM, HBQ, HAO⟩
  try dsimp only
  try rw [Prog.bind_assoc]
  iapply (pt72 X Wt c) $$ [HM HBQ HAO]
  · iframe HI HA HM HBQ HAO
  iintro ⟨HM, HBQ, HAO⟩
  try dsimp only
  try rw [Prog.bind_assoc]
  iapply (pt73 X Wt c) $$ [HM HBQ HAO]
  · iframe HI HA HM HBQ HAO
  iintro ⟨HM, HBQ, HAO⟩
  try dsimp only
  try rw [Prog.bind_assoc]
  iapply (pt74 X Wt c) $$ [HM HBQ HAO]
  · iframe HI HA HM HBQ HAO
  iintro ⟨HM, HBQ, HAO⟩
  try dsimp only
  try rw [Prog.bind_assoc]
  iapply (pt75 X Wt c) $$ [HM HBQ HAO]
  · iframe HI HA HM HBQ HAO
  iintro ⟨HM, HBQ, HAO⟩
  try dsimp only
  try rw [Prog.bind_assoc]
  iapply (pt76 X Wt c) $$ [HM HBQ HAO]
  · iframe HI HA HM HBQ HAO
  iintro ⟨HM, HBQ, HAO⟩
  try dsimp only
  try rw [Prog.bind_assoc]
  iapply (pt77 X Wt c) $$ [HM HAQ HAR]
  · iframe HI HN HM HAQ HAR
  iintro ⟨HM, HAQ, HAR⟩
  try dsimp only
  try rw [Prog.bind_assoc]
  iapply (pt78 X Wt c) $$ [HM HAQ HAR]
  · iframe HI HN HM HAQ HAR
  iintro ⟨HM, HAQ, HAR⟩
  try dsimp only
  try rw [Prog.bind_assoc]
  iapply (pt79 X Wt c) $$ [HM HAQ HAR]
  · iframe HI HN HM HAQ HAR
  iintro ⟨HM, HAQ, HAR⟩
  try dsimp only
  try rw [Prog.bind_assoc]
  iapply (pt80 X Wt c) $$ [HM HAQ HAR]
  · iframe HI HN HM HAQ HAR
  iintro ⟨HM, HAQ, HAR⟩
  try dsimp only
  simp only [Prog.pure_eq_ret, Prog.bind_ret]
  iapply Hk
  iframe HN HBD HX Hxf0 Hy0 Hy1 Hxb0 Hxf1 Hxb1 HDF HDB Hff5 HCF Hfb5 HCB HSG Hlf8 Hff6 Hlb8 Hfb6 Hrf8 Hrb8 HRF Hlf9 HSF Hff7 HRB Hlb9 HSB Hfb7 Hrf9 Hrb9 HN0 HLQ HN1 HZ HLD HT HW HO HTQ HSD HBQ HAO HM HAQ HAR

set_option maxHeartbeats 8000000 in
theorem pt88 (c : Dev nD) {k : _ → Prog (TpuEff nD τ sig (Elt F) Λ₀ .tc) α} :
    iprop(Invs X Wt κ ιs ∗ Entered c ∗ Main c 0 (tc (cls c) 0) ∗ barC c ∗ SQ c false 0 0 ∗ CQ c false 0 ∗ RQ c false 0 ∗ RDq c false 0 ∗ xq X c (hf false 0) (xsh false) ∗ xq X c (hf false 1) (xsh false) ∗ SQ c true 0 0 ∗ CQ c true 0 ∗ RQ c true 0 ∗ RDq c true 0 ∗ xq X c (hf true 0) (xsh true) ∗ xq X c (hf true 1) (xsh true) ∗ xq X c (fm 2 0) xst ∗ bn0 c (fm 2 0) ∗ xq X c (fm 2 1) xst ∗ bn0 c (fm 2 1) ∗ xwl X c ∗ wwl Wt c ∗ tbl c ∗ Out0 c ∗ LQ c 0 ∗ Ldn c 0 ∗ TQ c 0 (tc (cls c) 0) ∗ Stg c (tc (cls c) 0) ∗ Sdn c 0 ∗ AQ c 0 ∗ BQ c 0 0 ∗ Arow X Wt c 0 ∗ Zs c ∗ am0 c)
    ⊢ iprop(((barD c ∗ xwl X c ∗ xq X c (hf false 0) (xsh false) ∗ xq X c (fm 2 0) xst ∗ xq X c (fm 2 1) xst ∗ xq X c (hf true 0) (xsh true) ∗ xq X c (hf false 1) (xsh false) ∗ xq X c (hf true 1) (xsh true) ∗ RDq c false 5 ∗ RDq c true 5 ∗ sl X c false 5 fullShare ∗ CQ c false 5 ∗ sl X c true 5 fullShare ∗ CQ c true 5 ∗ Stg c 10 ∗ sl X c false 8 fullShare.left ∗ sl X c false 6 fullShare ∗ sl X c true 8 fullShare.left ∗ sl X c true 6 fullShare ∗ sl X c false 8 fullShare.right ∗ sl X c true 8 fullShare.right ∗ RQ c false 10 ∗ sl X c false 9 fullShare.left ∗ SQ c false 10 10 ∗ sl X c false 7 fullShare ∗ RQ c true 10 ∗ sl X c true 9 fullShare.left ∗ SQ c true 10 10 ∗ sl X c true 7 fullShare ∗ sl X c false 9 fullShare.right ∗ sl X c true 9 fullShare.right ∗ bnc X c 8 ∗ LQ c 10 ∗ bnc X c 9 ∗ Zs c ∗ Ldn c 10 ∗ tbl c ∗ wwl Wt c ∗ TQ c 10 10 ∗ Sdn c 10 ∗ AQ c 15 ∗ Main c 49 10 ∗ BQ c 15 15 ∗ owns (c : Thread nD τ) aW fullShare (amA X Wt) ∗ (∃ V, ⌜Good X Wt c 30 V⌝ ∗ owns (c : Thread nD τ) oW fullShare (k0_pay1 (k0_pay62 (amA X Wt)) V))) -∗ bwp c (k ⟨⟩) Q)
    -∗ bwp c (cc0_body tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13 >>= k) Q) := by
  rw [cc0_body_eq_skeleton]; unfold cc0_body_skel
  iintro ⟨#HI, #HE, HM, HBR, HSF, HCF, HRF, HDF, Hxf0, Hxf1, HSB, HCB, HRB, HDB, Hxb0, Hxb1, Hy0, HN0, Hy1, HN1, HX, HW, HT, HO, HLQ, HLD, HTQ, HSG, HSD, HAQ, HBQ, HAR, HZ, HAO⟩ Hk
  try rw [Prog.bind_assoc]
  iapply (pt87 X Wt c) $$ [HM HBR HSF HCF HRF HDF Hxf0 Hxf1 HSB HCB HRB HDB Hxb0 Hxb1 Hy0 HN0 Hy1 HN1 HX HW HT HO HLQ HLD HTQ HSG HSD HAQ HBQ HAR HZ HAO]
  · iframe HI HE HM HBR HSF HCF HRF HDF Hxf0 Hxf1 HSB HCB HRB HDB Hxb0 Hxb1 Hy0 HN0 Hy1 HN1 HX HW HT HO HLQ HLD HTQ HSG HSD HAQ HBQ HAR HZ HAO
  iintro ⟨#HN, HBD, HX, Hxf0, Hy0, Hy1, Hxb0, Hxf1, Hxb1, HDF, HDB, Hff5, HCF, Hfb5, HCB, HSG, Hlf8, Hff6, Hlb8, Hfb6, Hrf8, Hrb8, HRF, Hlf9, HSF, Hff7, HRB, Hlb9, HSB, Hfb7, Hrf9, Hrb9, HN0, HLQ, HN1, HZ, HLD, HT, HW, HO, HTQ, HSD, HBQ, HAO, HM, HAQ, HAR⟩
  try dsimp only
  try rw [Prog.bind_assoc]
  iapply (pt81 X Wt c) $$ [HM HAQ HAR]
  · iframe HI HN HM HAQ HAR
  iintro ⟨HM, HAQ, HAR⟩
  try dsimp only
  try rw [Prog.bind_assoc]
  iapply (pt82 X Wt c) $$ [HM HAQ HAR]
  · iframe HI HN HM HAQ HAR
  iintro ⟨HM, HAQ, HAR⟩
  try dsimp only
  try rw [Prog.bind_assoc]
  iapply (pt83 X Wt c) $$ [HM HAQ HAR]
  · iframe HI HN HM HAQ HAR
  iintro ⟨HM, HAQ, HAR⟩
  try dsimp only
  try rw [Prog.bind_assoc]
  iapply (pt84 X Wt c) $$ [HM HBQ HAO]
  · iframe HI HN HM HBQ HAO
  iintro ⟨HM, HBQ, HAO⟩
  try dsimp only
  try rw [Prog.bind_assoc]
  iapply (pt85 X Wt c) $$ [HM HBQ HAO]
  · iframe HI HN HM HBQ HAO
  iintro ⟨HM, HBQ, HAO⟩
  try dsimp only
  try rw [Prog.bind_assoc]
  iapply (pt86 X Wt c) $$ [HM HBQ HAO HAR]
  · iframe HI HN HM HBQ HAO HAR
  iintro ⟨HM, HBQ, HAM⟩
  try dsimp only
  simp only [semSignalWord, semWaitWord, smemLoad, smemLoadElt, Prog.lift, Prog.bind_op, Prog.bind_ret, Prog.pure_eq_ret, wp_deviceId]
  unfold OutQ
  icases HO with ⟨%V, %hV, HO⟩
  iapply (ld_o (F := F) c z2) $$ HO
  iintro HO
  iapply (ld_dead (F := F) c oW) $$ HO
  iintro %v HO
  iapply (st_o (F := F) c z2) $$ HO
  iintro HO
  rw [put_all]
  iapply Hk
  isplitl [HBD]; iexact HBD; isplitl [HX]; iexact HX; isplitl [Hxf0]; iexact Hxf0; isplitl [Hy0]; iexact Hy0; isplitl [Hy1]; iexact Hy1; isplitl [Hxb0]; iexact Hxb0; isplitl [Hxf1]; iexact Hxf1; isplitl [Hxb1]; iexact Hxb1; isplitl [HDF]; iexact HDF; isplitl [HDB]; iexact HDB; isplitl [Hff5]; iexact Hff5; isplitl [HCF]; iexact HCF; isplitl [Hfb5]; iexact Hfb5; isplitl [HCB]; iexact HCB; isplitl [HSG]; iexact HSG; isplitl [Hlf8]; iexact Hlf8; isplitl [Hff6]; iexact Hff6; isplitl [Hlb8]; iexact Hlb8; isplitl [Hfb6]; iexact Hfb6; isplitl [Hrf8]; iexact Hrf8; isplitl [Hrb8]; iexact Hrb8; isplitl [HRF]; iexact HRF; isplitl [Hlf9]; iexact Hlf9; isplitl [HSF]; iexact HSF; isplitl [Hff7]; iexact Hff7; isplitl [HRB]; iexact HRB; isplitl [Hlb9]; iexact Hlb9; isplitl [HSB]; iexact HSB; isplitl [Hfb7]; iexact Hfb7; isplitl [Hrf9]; iexact Hrf9; isplitl [Hrb9]; iexact Hrb9; isplitl [HN0]; iexact HN0; isplitl [HLQ]; iexact HLQ; isplitl [HN1]; iexact HN1; isplitl [HZ]; iexact HZ; isplitl [HLD]; iexact HLD; isplitl [HT]; iexact HT; isplitl [HW]; iexact HW; isplitl [HTQ]; iexact HTQ; isplitl [HSD]; iexact HSD; isplitl [HAQ]; iexact HAQ; isplitl [HM]; iexact HM; isplitl [HBQ]; iexact HBQ; isplitl [HAM]; iexact HAM
  iexists V
  isplitr; · ipureintro; exact hV
  iexact HO

end Cert.Proof
end
-- ==== Proof.Entry.lean ====
module

public import proofs.«01_k».proof.Proof.BodyAll
public import Idealize.SL.BI.BigOpNat
public import Idealize.ShloMosaic.Lib.Rounds.Family

@[expose] public section

set_option maxRecDepth 20000

noncomputable section

/-!
The kinds of cell listed, the queues at the two ends of the kernel, and the landing places given out on entering.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## The kinds of cell, listed -/

theorem land_eq : (Finset.univ.filter fun k : Kd => isLand k = true) = (Finset.univ.image (Kd.recv false)) ∪ ((Finset.univ.image (Kd.recv true))
    ∪ ((Finset.univ.image Kd.rrecv) ∪ Finset.univ.image Kd.arecv)) := by decide +kernel

theorem kd_eq : (Finset.univ.erase Kd.bar) = {Kd.cr false} ∪ ({Kd.cr true} ∪ ((Finset.univ.image (Kd.recv false)) ∪ ((Finset.univ.image (Kd.recv true))
    ∪ ((Finset.univ.image (Kd.send false)) ∪ ((Finset.univ.image (Kd.send true)) ∪ ((Finset.univ.image Kd.rrecv) ∪ ((Finset.univ.image Kd.rsend)
    ∪ ((Finset.univ.image Kd.arecv) ∪ Finset.univ.image Kd.asend)))))))) := by decide +kernel

theorem big_img {n : ℕ} (f : Fin n → Kd) (hf : Function.Injective f) (Φ : Kd → sProp 𝕄) :
    bigSep (Finset.univ.image f) Φ = bigSep Finset.univ fun i => Φ (f i) := bigSep_image_of_injOn hf.injOn Φ

theorem big_un {I : Type} [DecidableEq I] {s t : Finset I} (h : Disjoint s t) (Φ : I → sProp 𝕄) : bigSep (s ∪ t) Φ = BIBase.sep (bigSep s Φ) (bigSep t Φ) := bigSep_union h

theorem recv_i (d : Bool) : Function.Injective (Kd.recv d) := by intro a b h; cases h; rfl
theorem send_i (d : Bool) : Function.Injective (Kd.send d) := by intro a b h; cases h; rfl
theorem rrecv_i : Function.Injective Kd.rrecv := by intro a b h; cases h; rfl
theorem rsend_i : Function.Injective Kd.rsend := by intro a b h; cases h; rfl
theorem arecv_i : Function.Injective Kd.arecv := by intro a b h; cases h; rfl
theorem asend_i : Function.Injective Kd.asend := by intro a b h; cases h; rfl

theorem land_split (Φ : Kd → sProp 𝕄) : bigSep (Finset.univ.filter fun k : Kd => isLand k = true) Φ
    = BIBase.sep (bigSep Finset.univ fun s => Φ (.recv false s)) (BIBase.sep (bigSep Finset.univ fun s => Φ (.recv true s))
      (BIBase.sep (bigSep Finset.univ fun t => Φ (.rrecv t)) (bigSep Finset.univ fun o => Φ (.arecv o)))) := by
  rw [land_eq, big_un (by decide +kernel), big_un (by decide +kernel), big_un (by decide +kernel), big_img _ (recv_i false), big_img _ (recv_i true), big_img _ rrecv_i, big_img _ arecv_i]

theorem kd_split (Φ : Kd → sProp 𝕄) : bigSep (Finset.univ.erase Kd.bar) Φ
    = BIBase.sep (Φ (.cr false)) (BIBase.sep (Φ (.cr true)) (BIBase.sep (bigSep Finset.univ fun s => Φ (.recv false s)) (BIBase.sep (bigSep Finset.univ fun s => Φ (.recv true s))
      (BIBase.sep (bigSep Finset.univ fun s => Φ (.send false s)) (BIBase.sep (bigSep Finset.univ fun s => Φ (.send true s))
      (BIBase.sep (bigSep Finset.univ fun t => Φ (.rrecv t)) (BIBase.sep (bigSep Finset.univ fun t => Φ (.rsend t))
      (BIBase.sep (bigSep Finset.univ fun o => Φ (.arecv o)) (bigSep Finset.univ fun o => Φ (.asend o)))))))))) := by
  rw [kd_eq, big_un (by decide +kernel), big_un (by decide +kernel), big_un (by decide +kernel), big_un (by decide +kernel), big_un (by decide +kernel), big_un (by decide +kernel),
    big_un (by decide +kernel), big_un (by decide +kernel), big_un (by decide +kernel), bigSep_singleton, bigSep_singleton, big_img _ (recv_i false), big_img _ (recv_i true), big_img _ (send_i false),
    big_img _ (send_i true), big_img _ rrecv_i, big_img _ rsend_i, big_img _ arecv_i, big_img _ asend_i]

theorem fin_Ico {n : ℕ} (Φ : Fin n → sProp 𝕄) (Ψ : ℕ → sProp 𝕄) (h : ∀ t, Φ t = Ψ t.val) : bigSep Finset.univ Φ = bigSep (Finset.Ico 0 n) Ψ := by
  have e : Finset.Ico 0 n = (Finset.univ : Finset (Fin n)).map Fin.valEmbedding := by
    rw [Fin.map_valEmbedding_univ]; ext x; simp
  rw [e, bigSep_map]
  exact bigSep_congr fun t _ => h t

theorem fm_val {n : ℕ} (t : Fin n) (h : 0 < n) : fm n t.val h = t := Fin.ext (Nat.mod_eq_of_lt t.isLt)

theorem am_Ico (c : Dev nD) (Φ : Fin 16 → sProp 𝕄) : bigSep Finset.univ Φ = BIBase.sep (Φ c) (bigSep (Finset.Ico 0 15) fun j => Φ (adv c (1 + j % 15))) := by
  rw [adv_univ c, bigSep_insert (adv_notin c), bigSep_image_of_injOn (fun i hi j hj => adv_inj c i (Finset.mem_coe.mp hi) j (Finset.mem_coe.mp hj)), Finset.range_eq_Ico]
  rw [bigSep_congr (s := Finset.Ico 0 15) (Ψ := fun j => Φ (adv c (1 + j % 15))) fun j hj => by
    show Φ (adv c (1 + j)) = Φ (adv c (1 + j % 15))
    rw [Nat.mod_eq_of_lt (Finset.mem_Ico.mp hj).2]]
  rfl

theorem Ico_sh (n p : ℕ) (Φ : ℕ → sProp 𝕄) : bigSep (Finset.Ico n (n + p)) Φ = bigSep (Finset.Ico 0 p) fun j => Φ (n + j) := by
  have e : Finset.Ico n (n + p) = (Finset.Ico 0 p).map (addLeftEmbedding n) := by
    rw [Finset.map_add_left_Ico, Nat.add_zero]
  rw [e, bigSep_map]
  rfl

/-! ## Queues when the kernel is entered and when it ends -/

abbrev AtP (c : Dev nD) (k : Kd) (r : ℕ) : sProp 𝕄 := atPos ER (cellAt c k) r ∅ 0
def CrQ (c : Dev nD) (cell : ℕ → Kd) (ι : ℕ → ℕ) (hi : ℕ) : sProp 𝕄 :=
  bigSep (Finset.Ico 0 hi) fun j => cred (tallyAt (cellAt c (cell j)) (ι j) (kamt (cell j)))

theorem WQ_start (c : Dev nD) (cell : ℕ → Kd) (p : ℕ) (ι : ℕ → ℕ) (hi : ℕ) :
    iprop(CrQ c cell ι hi ∗ bigSep (Finset.Ico 0 p) fun j => AtP c (cell j) 0) ⊢ (WQ c cell p ι 0 hi : sProp 𝕄) := by
  unfold WQ CrQ
  have e : (bigSep (Finset.Ico 0 (0 + p)) fun j => atPos ER (cellAt c (cell j)) (j / p) ∅ 0 : sProp 𝕄) = bigSep (Finset.Ico 0 p) fun j => AtP c (cell j) 0 := by
    rw [Nat.zero_add]
    exact bigSep_congr fun j hj => by rw [Nat.div_eq_of_lt (Finset.mem_Ico.mp hj).2]
  rw [e, Finset.range_zero, bigSep_empty]
  iintro ⟨HC, HA⟩
  isplitl [HC]
  · iexact HC
  isplitl [HA]
  · iexact HA
  iempintro

theorem WQ_start0 (c : Dev nD) (cell : ℕ → Kd) (p : ℕ) (ι : ℕ → ℕ) :
    (bigSep (Finset.Ico 0 p) fun j => AtP c (cell j) 0) ⊢ (WQ c cell p ι 0 0 : sProp 𝕄) := by
  iintro H
  iapply (WQ_start c cell p ι 0)
  isplitr
  · unfold CrQ; rw [Finset.Ico_self, bigSep_empty]; iempintro
  iexact H

theorem WQ_done (c : Dev nD) (cell : ℕ → Kd) (p : ℕ) (ι : ℕ → ℕ) (R lo hi : ℕ) (h : ∀ j, j < p → (lo + j) / p = R ∧ cell (lo + j) = cell j) :
    (WQ c cell p ι lo hi : sProp 𝕄) ⊢ bigSep (Finset.Ico 0 p) fun j => AtP c (cell j) R := by
  unfold WQ
  rw [Ico_sh lo p]
  have e : (bigSep (Finset.Ico 0 p) fun j => atPos ER (cellAt c (cell (lo + j))) ((lo + j) / p) ∅ 0 : sProp 𝕄) = bigSep (Finset.Ico 0 p) fun j => AtP c (cell j) R :=
    bigSep_congr fun j hj => by rw [(h j (Finset.mem_Ico.mp hj).2).1, (h j (Finset.mem_Ico.mp hj).2).2]
  rw [e]
  iintro ⟨-, H, -⟩
  iexact H

/-! ## Landing places given out on entering -/

theorem rrecv_false (c : Dev nD) (s : Fin 10) : iprop(place (c, Kd.rrecv s) ∗ place (c, Kd.rrecv s)) ⊢ (False : sProp 𝕄) := by
  have h : (place (c, Kd.rrecv s) : sProp 𝕄) ⊢ slot ((relM s).view.loc (c : Thread nD τ)) (relM s).view.set := by
    show iprop(∃ V, owns (c : Thread nD τ) (relM s) fullShare V) ⊢ _
    unfold owns slot
    iintro ⟨%V, %f, -, H⟩
    iexists f; iexact H
  refine BIBase.Entails.trans (BIClass.sep_mono h h) (slot_slot_false (View.set_nonempty (v := (relM s).view) (by decide)))

theorem arecv_false (c : Dev nD) (s : Fin 16) : iprop(place (c, Kd.arecv s) ∗ place (c, Kd.arecv s)) ⊢ (False : sProp 𝕄) := by
  have h : (place (c, Kd.arecv s) : sProp 𝕄) ⊢ slot ((amM s).view.loc (c : Thread nD τ)) (amM s).view.set := by
    show iprop(∃ V, owns (c : Thread nD τ) (amM s) fullShare V) ⊢ _
    unfold owns slot
    iintro ⟨%V, %f, -, H⟩
    iexists f; iexact H
  refine BIBase.Entails.trans (BIClass.sep_mono h h) (slot_slot_false (View.set_nonempty (v := (amM s).view) (by decide)))

theorem land_false (c : Dev nD) : ∀ k : Kd, isLand k = true → iprop(place (c, k) ∗ place (c, k)) ⊢ (False : sProp 𝕄)
  | .recv d s, _ => recv_false c d s
  | .rrecv s, _ => rrecv_false c s
  | .arecv s, _ => arecv_false c s

abbrev lands : Finset Kd := Finset.univ.filter fun k : Kd => isLand k = true
def Rds (c : Dev nD) : sProp 𝕄 := bigSep Finset.univ fun k : Kd => readerAt ES (c, k) 0

theorem give_all (c : Dev nD) : iprop(Invs X Wt κ ιs ∗ Rds c ∗ bigSep lands fun k => place (c, k))
    ⊢ (|={Set.univ}=> (bigSep lands (fun k => readerAt ES (c, k) 1) ∗ bigSep lands (fun k => released ES (c, k) 1)) : sProp 𝕄) := by
  rw [← bigSep_sep']
  refine BIBase.Entails.trans ?_ (bigSep_fupd lands fun k => iprop(readerAt ES (c, k) 1 ∗ released ES (c, k) 1))
  have h : iprop(Invs X Wt κ ιs ∗ bigSep lands fun k => iprop(readerAt ES (c, k) 0 ∗ place (c, k)))
      ⊢ (bigSep lands fun k => iprop(|={Set.univ}=> (readerAt ES (c, k) 1 ∗ released ES (c, k) 1)) : sProp 𝕄) := by
    refine bigSep_with_persistent fun k hk => ?_
    iintro ⟨#HI, HR, HP⟩
    ihave #HS := (Invs_slot X Wt κ ιs (c, k)) $$ HI
    iapply (slot_release ES (Set.mem_univ (ιs (c, k))) (land_false c k (Finset.mem_filter.mp hk).2) 0) $$ [HR HP]
    isplitr
    · iexact HS
    isplitl [HR]
    · iexact HR
    iexact HP
  refine BIBase.Entails.trans ?_ h
  rw [bigSep_sep']
  iintro ⟨HI, HR, HP⟩
  isplitl [HI]
  · iexact HI
  isplitl [HR]
  · have hs : (Rds c : sProp 𝕄) ⊢ bigSep lands fun k => readerAt ES (c, k) 0 := bigSep_subset (Finset.subset_univ lands)
    iapply hs $$ HR
  iexact HP

theorem rdq0 (c : Dev nD) (d : Bool) : (bigSep Finset.univ fun s : Fin 5 => readerAt ES (c, Kd.recv d s) 1) ⊢ (RDq c d 0 : sProp 𝕄) := by
  unfold RDq Again
  rw [fin_Ico (n := 5) (fun s => readerAt ES (c, Kd.recv d s) 1) (fun j => readerAt ES (c, Kd.recv d (fm 5 j)) (j / 5 + 1)) (fun t => by
    rw [fm_val, Nat.div_eq_of_lt t.isLt]), Finset.range_zero, bigSep_empty, Nat.zero_add]
  iintro H
  isplitl [H]
  · iexact H
  iempintro

theorem enter_rel (c : Dev nD) : iprop(Invs X Wt κ ιs ∗ Rds c ∗ (bigSep Finset.univ fun k : Kd => reached ER (cellAt c k) 0) ∗ (∃ V, owns (c : Thread nD τ) (ringM false) fullShare V)
      ∗ (∃ V, owns (c : Thread nD τ) (ringM true) fullShare V) ∗ (∃ V, owns (c : Thread nD τ) rlW fullShare V) ∗ (∃ V, owns (c : Thread nD τ) aW fullShare V) ∗ writeTok ES (c, Kd.arecv c) 1)
    ⊢ (|={Set.univ}=> (Entered c ∗ RDq c false 0 ∗ RDq c true 0 ∗ am0 c) : sProp 𝕄) := by
  iintro ⟨#HI, HR, #HE, H0, H1, H2, H3, HW⟩
  ihave H0 := (ring_split c false) $$ H0
  ihave H1 := (ring_split c true) $$ H1
  ihave H2 := (rel_split c) $$ H2
  ihave H3 := (ama_split c) $$ H3
  imod (give_all X Wt c) $$ [HR H0 H1 H2 H3] with ⟨Hr, #Hg⟩
  · isplitr
    · iexact HI
    isplitl [HR]
    · iexact HR
    have e := land_split (F := F) fun k => place (c, k)
    have e' : iprop((bigSep Finset.univ fun s => place (c, Kd.recv false s)) ∗ (bigSep Finset.univ fun s => place (c, Kd.recv true s)) ∗ (bigSep Finset.univ fun s => place (c, Kd.rrecv s)) ∗ (bigSep Finset.univ fun s => place (c, Kd.arecv s)))
      ⊢ (bigSep lands fun k => place (c, k) : sProp 𝕄) := Entails.of_eq e.symm
    iapply e'
    isplitl [H0]
    · iexact H0
    isplitl [H1]
    · iexact H1
    isplitl [H2]
    · iexact H2
    iexact H3
  have e := land_split (F := F) fun k => readerAt ES (c, k) 1
  have e' : bigSep lands (fun k => readerAt ES (c, k) 1) ⊢ iprop((bigSep Finset.univ fun s => readerAt ES (c, Kd.recv false s) 1) ∗ (bigSep Finset.univ fun s => readerAt ES (c, Kd.recv true s) 1)
      ∗ (bigSep Finset.univ fun s => readerAt ES (c, Kd.rrecv s) 1) ∗ (bigSep Finset.univ fun s => readerAt ES (c, Kd.arecv s) 1) : sProp 𝕄) := Entails.of_eq e
  ihave Hr := e' $$ Hr
  icases Hr with ⟨Ha, Hb, -, -⟩
  have hm : Kd.arecv c ∈ lands := Finset.mem_filter.mpr ⟨Finset.mem_univ _, rfl⟩
  ihave #Hx := (big_at (fun k => released ES (c, k) 1) hm) $$ Hg
  ihave #HS := (Invs_slot X Wt κ ιs (c, .arecv c)) $$ HI
  imod (slot_take ES (Set.mem_univ (ιs (c, .arecv c))) 1) $$ [HW] with Ham
  · isplitr
    · iexact HS
    isplitr
    · iexact Hx
    iexact HW
  imodintro
  isplitr
  · unfold Entered
    isplitr
    · iexact Hg
    iexact HE
  isplitl [Ha]
  · iapply (rdq0 c false) $$ Ha
  isplitl [Hb]
  · iapply (rdq0 c true) $$ Hb
  have hq : (place (c, Kd.arecv c) : sProp 𝕄) ⊢ am0 c := BIBase.Entails.rfl
  iapply hq $$ Ham

/-! ## What a device takes into the kernel -/

/-- The tokens of what it does for other devices. -/
def Tks (c : Dev nD) : sProp 𝕄 :=
  iprop((bigSep (Finset.Ico 0 49) fun n => dtok c (dueAt n)) ∗ (bigSep (Finset.Ico 0 10) fun n => ltok c n) ∗ writeTok ES (c, Kd.arecv c) 1)
def CcQ (c : Dev nD) (d : Bool) : sProp 𝕄 := bigSep (Finset.Ico 0 5) fun n => cred (tallyAt (cellAt c (.cr d)) (clv n) 1)
/-- The credits of what other devices do for it. -/
def Crd (c : Dev nD) : sProp 𝕄 :=
  iprop(cred (tallyAt (cellAt c .bar) 1 4) ∗ CrQ c (fun j => .recv false (fm 5 j)) rlv 10 ∗ CrQ c (fun j => .recv true (fm 5 j)) rlv 10
    ∗ CcQ c false ∗ CcQ c true ∗ CrQ c (fun j => .rrecv (fm 10 j)) llv 10 ∗ CrQ c (fun j => .arecv (adv c (1 + j % 15))) (fun _ => 300) 15)

theorem cq0 (c : Dev nD) (d : Bool) : iprop(CcQ c d ∗ AtP c (.cr d) 0) ⊢ (CQ c d 0 : sProp 𝕄) := by
  unfold CQ CcQ Again
  rw [Finset.range_zero, bigSep_empty, if_neg (by decide)]
  iintro ⟨HC, HA⟩
  isplitl [HC]
  · iexact HC
  isplitr
  · iempintro
  iexists (∅ : Finset ℕ)
  isplitr
  · ipureintro; exact Nat.zero_le _
  isplitl [HA]
  · iexact HA
  rw [bigSep_empty]
  iempintro

theorem at5 (c : Dev nD) (r : ℕ) (f : Fin 5 → Kd) : (bigSep Finset.univ fun s : Fin 5 => AtP c (f s) r : sProp 𝕄) = bigSep (Finset.Ico 0 5) fun j => AtP c (f (fm 5 j)) r :=
  fin_Ico _ _ fun t => by rw [fm_val]
theorem at10 (c : Dev nD) (r : ℕ) (f : Fin 10 → Kd) : (bigSep Finset.univ fun s : Fin 10 => AtP c (f s) r : sProp 𝕄) = bigSep (Finset.Ico 0 10) fun j => AtP c (f (fm 10 j)) r :=
  fin_Ico _ _ fun t => by rw [fm_val]

theorem queues (c : Dev nD) : iprop(AtP c .bar 0 ∗ (bigSep (Finset.univ.erase Kd.bar) fun k => AtP c k 0) ∗ Crd c)
    ⊢ (iprop(barC c ∗ (SQ c false 0 0 ∗ CQ c false 0 ∗ RQ c false 0) ∗ (SQ c true 0 0 ∗ CQ c true 0 ∗ RQ c true 0)
      ∗ LQ c 0 ∗ TQ c 0 0 ∗ AQ c 0 ∗ BQ c 0 0 ∗ AtP c (.arecv c) 0 ∗ AtP c (.asend c) 0) : sProp 𝕄) := by
  have e := kd_split (F := F) fun k => AtP c k 0
  rw [at5 c 0 (Kd.recv false), at5 c 0 (Kd.recv true), at5 c 0 (Kd.send false), at5 c 0 (Kd.send true), at10 c 0 Kd.rrecv, at10 c 0 Kd.rsend,
    am_Ico c (fun o => AtP c (.arecv o) 0), am_Ico c (fun o => AtP c (.asend o) 0)] at e
  rw [e]
  unfold Crd SQ TQ AQ BQ
  iintro ⟨HB, ⟨H0, H1, H2, H3, H4, H5, H6, H7, ⟨H8, H9⟩, H10, H11⟩, C0, C1, C2, C3, C4, C5, C6⟩
  isplitl [HB C0]
  · isplitl [C0]
    · iexact C0
    iexact HB
  isplitl [H4 H0 C3 H2 C1]
  · isplitl [H4]
    · iapply (WQ_start0 c (fun j => .send false (f5 j)) 5 (fun _ => 0)) $$ H4
    isplitl [H0 C3]
    · iapply (cq0 c false)
      isplitl [C3]
      · iexact C3
      iexact H0
    unfold RQ
    isplitl [H2 C1]
    · iapply (WQ_start c (fun j => .recv false (f5 j)) 5 rlv 10)
      isplitl [C1]
      · iexact C1
      iexact H2
    rw [Finset.range_zero, bigSep_empty]
    iempintro
  isplitl [H5 H1 C4 H3 C2]
  · isplitl [H5]
    · iapply (WQ_start0 c (fun j => .send true (f5 j)) 5 (fun _ => 0)) $$ H5
    isplitl [H1 C4]
    · iapply (cq0 c true)
      isplitl [C4]
      · iexact C4
      iexact H1
    unfold RQ
    isplitl [H3 C2]
    · iapply (WQ_start c (fun j => .recv true (f5 j)) 5 rlv 10)
      isplitl [C2]
      · iexact C2
      iexact H3
    rw [Finset.range_zero, bigSep_empty]
    iempintro
  isplitl [H6 C5]
  · unfold LQ
    isplitl [H6 C5]
    · iapply (WQ_start c (fun j => .rrecv (f10 j)) 10 llv 10)
      isplitl [C5]
      · iexact C5
      iexact H6
    rw [Finset.range_zero, bigSep_empty]
    iempintro
  isplitl [H7]
  · iapply (WQ_start0 c (fun j => .rsend (f10 j)) 10 (fun _ => 0)) $$ H7
  isplitl [H9 C6]
  · iapply (WQ_start c (fun j => .arecv (adv c (1 + j % 15))) 15 (fun _ => 300) 15)
    isplitl [C6]
    · iexact C6
    iexact H9
  isplitl [H11]
  · iapply (WQ_start0 c (fun j => .asend (adv c (1 + j % 15))) 15 (fun _ => 0)) $$ H11
  isplitl [H8]
  · iexact H8
  iexact H10

theorem xhalves (c : Dev nD) (q : PosShare TreeShare) : owns (c : Thread nD τ) xW q (X c) ⊢ (iprop(xq X c 0 q ∗ xq X c 1 q) : sProp 𝕄) := by
  refine BIBase.Entails.trans (owns_rects (c : Thread nD τ) xW q rrx (fun _ _ => rfl) rrxD rrxC (X c)) ?_
  rw [bigSep_fin_two]
  exact BIBase.Entails.rfl

theorem xwhole (c : Dev nD) (q : PosShare TreeShare) : iprop(xq X c 0 q ∗ xq X c 1 q) ⊢ (owns (c : Thread nD τ) xW q (X c) : sProp 𝕄) := by
  refine BIBase.Entails.trans ?_ (owns_of_rects (c : Thread nD τ) xW q rrx (fun _ _ => rfl) rrxD rrxC (X c))
  rw [bigSep_fin_two]
  exact BIBase.Entails.rfl

theorem xsplit (c : Dev nD) : owns (c : Thread nD τ) xW fullShare (X c) ⊢ (iprop(xwl X c ∗ (xq X c 0 (xsh false) ∗ xq X c 1 (xsh false))
    ∗ (xq X c 0 (xsh true) ∗ xq X c 1 (xsh true)) ∗ (xq X c 0 xst ∗ xq X c 1 xst)) : sProp 𝕄) := by
  have h1 : owns (c : Thread nD τ) xW fullShare.right.left (X c) ⊢ (iprop(xq X c 0 (xsh false) ∗ xq X c 1 (xsh false)) : sProp 𝕄) := xhalves X c (xsh false)
  have h2 : owns (c : Thread nD τ) xW fullShare.right.right.left (X c) ⊢ (iprop(xq X c 0 (xsh true) ∗ xq X c 1 (xsh true)) : sProp 𝕄) := xhalves X c (xsh true)
  have h3 : owns (c : Thread nD τ) xW fullShare.right.right.right (X c) ⊢ (iprop(xq X c 0 xst ∗ xq X c 1 xst) : sProp 𝕄) := xhalves X c xst
  iintro H
  ihave H := (owns_halves (c : Thread nD τ) xW fullShare (X c)).1 $$ H
  icases H with ⟨Hl, H⟩
  ihave H := (owns_halves (c : Thread nD τ) xW fullShare.right (X c)).1 $$ H
  icases H with ⟨H1, H⟩
  ihave H := (owns_halves (c : Thread nD τ) xW fullShare.right.right (X c)).1 $$ H
  icases H with ⟨H2, H3⟩
  isplitl [Hl]
  · iexact Hl
  isplitl [H1]
  · iapply h1 $$ H1
  isplitl [H2]
  · iapply h2 $$ H2
  iapply h3 $$ H3

theorem xmerge (c : Dev nD) : iprop(xwl X c ∗ (xq X c 0 (xsh false) ∗ xq X c 1 (xsh false))
    ∗ (xq X c 0 (xsh true) ∗ xq X c 1 (xsh true)) ∗ (xq X c 0 xst ∗ xq X c 1 xst)) ⊢ (owns (c : Thread nD τ) xW fullShare (X c) : sProp 𝕄) := by
  have h1 : (iprop(xq X c 0 (xsh false) ∗ xq X c 1 (xsh false)) : sProp 𝕄) ⊢ owns (c : Thread nD τ) xW fullShare.right.left (X c) := xwhole X c (xsh false)
  have h2 : (iprop(xq X c 0 (xsh true) ∗ xq X c 1 (xsh true)) : sProp 𝕄) ⊢ owns (c : Thread nD τ) xW fullShare.right.right.left (X c) := xwhole X c (xsh true)
  have h3 : (iprop(xq X c 0 xst ∗ xq X c 1 xst) : sProp 𝕄) ⊢ owns (c : Thread nD τ) xW fullShare.right.right.right (X c) := xwhole X c xst
  iintro ⟨Hl, H1, H2, H3⟩
  ihave H1 := h1 $$ H1
  ihave H2 := h2 $$ H2
  ihave H3 := h3 $$ H3
  iapply (owns_halves (c : Thread nD τ) xW fullShare (X c)).2
  isplitl [Hl]
  · iexact Hl
  iapply (owns_halves (c : Thread nD τ) xW fullShare.right (X c)).2
  isplitl [H1]
  · iexact H1
  iapply (owns_halves (c : Thread nD τ) xW fullShare.right.right (X c)).2
  isplitl [H2]
  · iexact H2
  iexact H3

/-! ## What a device is left with -/

/-- The round at which a cell is closed. -/
def Rk (c : Dev nD) : Kd → ℕ
  | .bar => 1
  | .cr _ => 1
  | .recv _ _ => 2
  | .send _ _ => 2
  | .rrecv _ => 1
  | .rsend _ => 1
  | .arecv o => if o = c then 0 else 1
  | .asend o => if o = c then 0 else 1

theorem Rk_done (c : Dev nD) (k : Kd) (r : ℕ) (h : Rk c k ≤ r) : (Rd X Wt).duties (cellAt c k) r = ∅ := by
  rw [Rd_duties]
  cases k with
  | arecv o | asend o =>
    simp only [kdut, Rk] at h ⊢
    by_cases ho : o = c
    · rw [if_neg (fun hh => hh.2 ho)]
    · rw [if_neg ho] at h; rw [if_neg (fun hh => by omega)]
  | _ => simp only [kdut, Rk] at h ⊢; rw [if_neg (by omega)]

theorem atam (c : Dev nD) (f : Fin 16 → Kd) : (bigSep Finset.univ fun o : Fin 16 => AtP c (f o) (if o = c then 0 else 1) : sProp 𝕄)
    = BIBase.sep (AtP c (f c) 0) (bigSep (Finset.Ico 0 15) fun j => AtP c (f (adv c (1 + j % 15))) 1) := by
  rw [am_Ico c, if_pos rfl]
  refine congrArg _ (bigSep_congr fun j hj => ?_)
  have hj' := (Finset.mem_Ico.mp hj).2
  rw [if_neg (by rw [Nat.mod_eq_of_lt hj']; exact adv_ne c ⟨j, hj'⟩)]

theorem queues_end (c : Dev nD) : iprop(barD c ∗ (SQ c false 10 10 ∗ CQ c false 5 ∗ RQ c false 10) ∗ (SQ c true 10 10 ∗ CQ c true 5 ∗ RQ c true 10)
      ∗ LQ c 10 ∗ TQ c 10 10 ∗ AQ c 15 ∗ BQ c 15 15 ∗ AtP c (.arecv c) 0 ∗ AtP c (.asend c) 0)
    ⊢ (iprop(AtP c .bar 1 ∗ (bigSep (Finset.univ.erase Kd.bar) fun k => AtP c k (Rk c k))) : sProp 𝕄) := by
  have e := kd_split (F := F) fun k => AtP c k (Rk c k)
  simp only [Rk] at e
  rw [at5 c 2 (Kd.recv false), at5 c 2 (Kd.recv true), at5 c 2 (Kd.send false), at5 c 2 (Kd.send true), at10 c 1 Kd.rrecv, at10 c 1 Kd.rsend,
    atam c Kd.arecv, atam c Kd.asend] at e
  rw [show (fun k => AtP c k (Rk c k) : Kd → sProp 𝕄) = fun k => AtP c k (match k with | .bar => 1 | .cr _ => 1 | .recv _ _ => 2 | .send _ _ => 2 | .rrecv _ => 1 | .rsend _ => 1 | .arecv o => if o = c then 0 else 1 | .asend o => if o = c then 0 else 1) from rfl]
  rw [e]
  unfold RQ LQ CQ SQ TQ AQ BQ
  rw [if_pos rfl, if_pos rfl]
  have m5 : ∀ j, j < 5 → (10 + j) / 5 = 2 ∧ fm 5 (10 + j) = fm 5 j := fun j h => ⟨by omega, Fin.ext (by show (10 + j) % 5 = j % 5; omega)⟩
  have m10 : ∀ j, j < 10 → (10 + j) / 10 = 1 ∧ fm 10 (10 + j) = fm 10 j := fun j h => ⟨by omega, Fin.ext (by show (10 + j) % 10 = j % 10; omega)⟩
  have m15 : ∀ j, j < 15 → (15 + j) / 15 = 1 ∧ adv c (1 + (15 + j) % 15) = adv c (1 + j % 15) := fun j h => ⟨by omega, by rw [Nat.add_mod_left]⟩
  iintro ⟨HB, ⟨HSF, ⟨-, -, HCF⟩, HRF, -⟩, ⟨HSB, ⟨-, -, HCB⟩, HRB, -⟩, ⟨HL, -⟩, HT, HA, HS, Hx, Hy⟩
  isplitl [HB]
  · iexact HB
  isplitl [HCF]
  · iexact HCF
  isplitl [HCB]
  · iexact HCB
  isplitl [HRF]
  · iapply (WQ_done c (fun j => .recv false (f5 j)) 5 rlv 2 10 10 (fun j h => ⟨(m5 j h).1, congrArg _ (m5 j h).2⟩)) $$ HRF
  isplitl [HRB]
  · iapply (WQ_done c (fun j => .recv true (f5 j)) 5 rlv 2 10 10 (fun j h => ⟨(m5 j h).1, congrArg _ (m5 j h).2⟩)) $$ HRB
  isplitl [HSF]
  · iapply (WQ_done c (fun j => .send false (f5 j)) 5 (fun _ => 0) 2 10 10 (fun j h => ⟨(m5 j h).1, congrArg _ (m5 j h).2⟩)) $$ HSF
  isplitl [HSB]
  · iapply (WQ_done c (fun j => .send true (f5 j)) 5 (fun _ => 0) 2 10 10 (fun j h => ⟨(m5 j h).1, congrArg _ (m5 j h).2⟩)) $$ HSB
  isplitl [HL]
  · iapply (WQ_done c (fun j => .rrecv (f10 j)) 10 llv 1 10 10 (fun j h => ⟨(m10 j h).1, congrArg _ (m10 j h).2⟩)) $$ HL
  isplitl [HT]
  · iapply (WQ_done c (fun j => .rsend (f10 j)) 10 (fun _ => 0) 1 10 10 (fun j h => ⟨(m10 j h).1, congrArg _ (m10 j h).2⟩)) $$ HT
  isplitl [Hx HA]
  · isplitl [Hx]
    · iexact Hx
    iapply (WQ_done c (fun j => .arecv (adv c (1 + j % 15))) 15 (fun _ => 300) 1 15 15 (fun j h => ⟨(m15 j h).1, congrArg _ (m15 j h).2⟩)) $$ HA
  isplitl [Hy]
  · iexact Hy
  iapply (WQ_done c (fun j => .asend (adv c (1 + j % 15))) 15 (fun _ => 0) 1 15 15 (fun j h => ⟨(m15 j h).1, congrArg _ (m15 j h).2⟩)) $$ HS

/-- The machine's semaphores of the kernel's own, at a kind each; the local copies' one stands at the barrier's kind. -/
def osem (k : Kd) : SemLoc sig := if k = .bar then .dma stS else semOf k

theorem cells_end (c : Dev nD) : iprop(Invs X Wt κ ιs ∗ AtP c .bar 1 ∗ (bigSep (Finset.univ.erase Kd.bar) fun k => AtP c k (Rk c k)) ∗ Zs c)
    ⊢ (|={Set.univ}=> (semVal (cellAt c .bar) 0 ∗ bigSep Finset.univ fun k : Kd => semVal ((c : Thread nD τ), osem k) 0) : sProp 𝕄) := by
  iintro ⟨#HI, HB, HA, HZ⟩
  have e := bigSep_univ_at (fun k => AtP (F := F) c k (Rk c k)) Kd.bar
  have e' : iprop(AtP c .bar 1 ∗ (bigSep (Finset.univ.erase Kd.bar) fun k => AtP c k (Rk c k))) ⊢ (bigSep Finset.univ fun k => AtP c k (Rk c k) : sProp 𝕄) := Entails.of_eq e.symm
  have h : iprop(Invs X Wt κ ιs ∗ bigSep Finset.univ fun k => AtP c k (Rk c k))
      ⊢ (bigSep Finset.univ fun k => iprop(cellInv ER (Rd X Wt) (κ (cellAt c k)) (cellAt c k) ∗ atPos ER (cellAt c k) (Rk c k) ∅ 0) : sProp 𝕄) :=
    bigSep_with_persistent fun k _ => by
      iintro ⟨#HI, H⟩
      isplitr
      · iapply (Invs_cell X Wt κ ιs c k) $$ HI
      iexact H
  imod (cells_close ER (Rd X Wt) Finset.univ (fun k => cellAt c k) (fun k => κ (cellAt c k)) (Es := Set.univ) (fun _ _ => Set.mem_univ _) (fun _ _ hh => hh) (Rk c)
    (fun k _ r hr => Rk_done X Wt c k r hr)) $$ [HB HA] with H
  · iapply h
    isplitr
    · iexact HI
    iapply e'
    isplitl [HB]
    · iexact HB
    iexact HA
  have f := bigSep_univ_at (fun k => (semVal (cellAt c k) 0 : sProp 𝕄)) Kd.bar
  have f' : (bigSep Finset.univ fun k => semVal (cellAt c k) 0 : sProp 𝕄) ⊢ iprop(semVal (cellAt c .bar) 0 ∗ bigSep (Finset.univ.erase Kd.bar) fun k => semVal (cellAt c k) 0) := Entails.of_eq f
  have g := bigSep_univ_at (fun k => (semVal ((c : Thread nD τ), osem k) 0 : sProp 𝕄)) Kd.bar
  have g2 : (bigSep (Finset.univ.erase Kd.bar) fun k => (semVal ((c : Thread nD τ), osem k) 0 : sProp 𝕄)) = bigSep (Finset.univ.erase Kd.bar) fun k => semVal (cellAt c k) 0 :=
    bigSep_congr fun k hk => by unfold osem; rw [if_neg (Finset.mem_erase.mp hk).1]
  rw [g2] at g
  have g' : iprop(Zs c ∗ bigSep (Finset.univ.erase Kd.bar) fun k => semVal (cellAt c k) 0) ⊢ (bigSep Finset.univ fun k => semVal ((c : Thread nD τ), osem k) 0 : sProp 𝕄) := Entails.of_eq g.symm
  ihave H := f' $$ H
  icases H with ⟨Hb, H⟩
  imodintro
  isplitl [Hb]
  · iexact Hb
  iapply g'
  isplitl [HZ]
  · iexact HZ
  iexact H

theorem slots_end (c : Dev nD) (d : Bool) : iprop(sl X c d 5 fullShare ∗ sl X c d 6 fullShare ∗ sl X c d 7 fullShare ∗ (sl X c d 8 fullShare.left ∗ sl X c d 8 fullShare.right)
      ∗ (sl X c d 9 fullShare.left ∗ sl X c d 9 fullShare.right)) ⊢ (iprop(∃ V, owns (c : Thread nD τ) (ringM d) fullShare V) : sProp 𝕄) := by
  refine BIBase.Entails.trans ?_ (ring_join c d)
  rw [fin_Ico (n := 5) (fun t => iprop(∃ V, owns (c : Thread nD τ) (slotM d t) fullShare V)) (fun j => iprop(∃ V, owns (c : Thread nD τ) (slotM d (fm 5 (5 + j))) fullShare V))
    (fun t => by rw [show fm 5 (5 + t.val) = t from Fin.ext (by show (5 + t.val) % 5 = t.val; have := t.isLt; omega)])]
  rw [← Ico_sh 5 5 (fun j => iprop(∃ V, owns (c : Thread nD τ) (slotM d (fm 5 j)) fullShare V))]
  rw [bigSep_Ico_succ_bot (by decide) _, bigSep_Ico_succ_bot (by decide) _, bigSep_Ico_succ_bot (by decide) _, bigSep_Ico_succ_bot (by decide) _, bigSep_Ico_succ_bot (by decide) _]
  have n8 : iprop(sl X c d 8 fullShare.left ∗ sl X c d 8 fullShare.right) ⊢ (sl X c d 8 fullShare : sProp 𝕄) := (owns_halves (c : Thread nD τ) (slotM d (f5 8)) fullShare (chk X (org c d 8) (hf d 8))).2
  have n9 : iprop(sl X c d 9 fullShare.left ∗ sl X c d 9 fullShare.right) ⊢ (sl X c d 9 fullShare : sProp 𝕄) := (owns_halves (c : Thread nD τ) (slotM d (f5 9)) fullShare (chk X (org c d 9) (hf d 9))).2
  iintro ⟨H5, H6, H7, H8, H9⟩
  ihave H8 := n8 $$ H8
  ihave H9 := n9 $$ H9
  isplitl [H5]
  · iexists _; iexact H5
  isplitl [H6]
  · iexists _; iexact H6
  isplitl [H7]
  · iexists _; iexact H7
  isplitl [H8]
  · iexists _; iexact H8
  isplitl [H9]
  · iexists _; iexact H9
  rw [Finset.Ico_self, bigSep_empty]
  iempintro

theorem bnc_end (c : Dev nD) : iprop(bnc X c 8 ∗ bnc X c 9) ⊢ (iprop(∃ V, owns (c : Thread nD τ) bcW fullShare V) : sProp 𝕄) := by
  refine BIBase.Entails.trans ?_ (bnc_join c)
  have e : iprop((∃ V, owns (c : Thread nD τ) (bncM 0) fullShare V) ∗ (∃ V, owns (c : Thread nD τ) (bncM 1) fullShare V))
      ⊢ (bigSep Finset.univ fun t => iprop(∃ V, owns (c : Thread nD τ) (bncM t) fullShare V) : sProp 𝕄) :=
    Entails.of_eq (bigSep_fin_two (fun t => (iprop(∃ V, owns (c : Thread nD τ) (bncM t) fullShare V) : sProp 𝕄))).symm
  iintro ⟨H8, H9⟩
  iapply e
  isplitl [H8]
  · iexists _; iexact H8
  iexists _; iexact H9

end Cert.Proof
end
-- ==== Proof.Run.lean ====
module

public import proofs.«01_k».proof.Proof.Entry

@[expose] public section

set_option maxRecDepth 20000

noncomputable section

/-!
The kernel's run on one device, from what it holds on entering to what it is left with.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## The result buffer is determined -/

theorem rows_cover : ∀ (c : Dev nD) (r : Fin 32), r.val / 2 = c.val ∨ ∃ m : Fin 30, rowC c m.val = r.val := by decide +kernel

theorem rowR_at (r : ℕ) (h : r < 32) {V V' : Vec F S4096x512 .f32} (e : rowR r h V = rowR r h V') (i : S4096x512.Idx) (hi : (i 0).val / 128 = r) : V i = V' i := by
  have h0 : (i 0).val - r * 128 < 128 := by omega
  let y : S128x512.Idx := fun a => match a with | 0 => ⟨(i 0).val - r * 128, h0⟩ | 1 => ⟨(i 1).val, (i 1).isLt⟩
  have hy := congrFun e y
  unfold rowR VecWindow.window at hy
  have hj : (Rect.unit (s := S4096x512) ![r * 128, 0] S128x512.size (inbr h)).emb y = i := by
    funext a
    refine Fin.ext ?_
    match a with
    | 0 => show r * 128 + 1 * ((i 0).val - r * 128) = (i 0).val; omega
    | 1 => show 0 + 1 * (i 1).val = (i 1).val; omega
  rw [← hj]
  exact hy

theorem rowO_at (c : Dev nD) {V V' : Vec F S4096x512 .f32} (e : rowO c V = rowO c V') (i : S4096x512.Idx) (hi : (i 0).val / 256 = c.val) : V i = V' i := by
  have h0 : (i 0).val - c.val * 256 < 256 := by omega
  let y : S256x512.Idx := fun a => match a with | 0 => ⟨(i 0).val - c.val * 256, h0⟩ | 1 => ⟨(i 1).val, (i 1).isLt⟩
  have hy := congrFun e y
  unfold rowO VecWindow.window at hy
  have hj : (Rect.unit (s := S4096x512) ![c.val * 256, 0] S256x512.size (inbo c)).emb y = i := by
    funext a
    refine Fin.ext ?_
    match a with
    | 0 => show c.val * 256 + 1 * ((i 0).val - c.val * 256) = (i 0).val; omega
    | 1 => show 0 + 1 * (i 1).val = (i 1).val; omega
  rw [← hj]
  exact hy

theorem Good_ext (c : Dev nD) {V V' : Vec F S4096x512 .f32} (h : Good X Wt c 30 V) (h' : Good X Wt c 30 V') : V = V' := by
  funext i
  have hi : (i 0).val < 4096 := (i 0).isLt
  rcases rows_cover c ⟨(i 0).val / 128, by omega⟩ with hr | ⟨m, hm⟩
  · exact rowO_at c (h.1.trans h'.1.symm) i (by rw [← hr]; show _ = (i 0).val / 128 / 2; omega)
  · exact rowR_at _ _ ((h.2 m.val m.isLt m.isLt).trans (h'.2 m.val m.isLt m.isLt).symm) i hm.symm

open Classical in
/-- What a device's output buffer holds before it is rounded. -/
def resV (c : Dev nD) : Vec F S4096x512 .f32 := if h : ∃ V, Good X Wt c 30 V then Classical.choose h else fun _ => X c fun a => match a with | 0 => ⟨0, by decide⟩ | 1 => ⟨0, by decide⟩

theorem resV_eq (c : Dev nD) {V : Vec F S4096x512 .f32} (h : Good X Wt c 30 V) : resV X Wt c = V := by
  have hx : ∃ V, Good X Wt c 30 V := ⟨V, h⟩
  unfold resV
  rw [dif_pos hx]
  exact Good_ext X Wt c (Classical.choose_spec hx) h

/-- What it holds in the end. -/
def outV (c : Dev nD) : Vec F S4096x512 .f32 := k0_pay1 (k0_pay62 (amA X Wt)) (resV X Wt c)

/-! ## The kernel's run on a device -/

/-- The scratch buffers. -/
def scr (c : Dev nD) : sProp 𝕄 := iprop((∃ V, owns (c : Thread nD τ) (ringM false) fullShare V) ∗ (∃ V, owns (c : Thread nD τ) (ringM true) fullShare V)
  ∗ (∃ V, owns (c : Thread nD τ) bcW fullShare V) ∗ (∃ V, owns (c : Thread nD τ) aW fullShare V))
def O₀ (c : Dev nD) : CellTallies nD τ sig ℕ := owedD c 0 + owedL c 0
/-- What a device holds on entering besides its buffers and debts, its own cells apart; -/
def Xr (c : Dev nD) : sProp 𝕄 := iprop(AtP c .bar 0 ∗ Rds c ∗ Tks c ∗ Crd c ∗ (∃ V, owns (c : Thread nD τ) sgW fullShare V) ∗ (∃ V, owns (c : Thread nD τ) rlW fullShare V))
/-- with them. -/
def Xk (c : Dev nD) : sProp 𝕄 := iprop(∃ κ ιs, Invs X Wt κ ιs ∗ (bigSep (Finset.univ.erase Kd.bar) fun k => iprop(AtP c k 0 ∗ reached ER (cellAt c k) 0)) ∗ Zs c ∗ Xr c)
def Sems (c : Dev nD) : sProp 𝕄 := bigSep Finset.univ fun k : Kd => semVal ((c : Thread nD τ), osem k) 0

theorem enter (c : Dev nD) : iprop(Invs X Wt κ ιs ∗ (bigSep (Finset.univ.erase Kd.bar) fun k => iprop(AtP c k 0 ∗ reached ER (cellAt c k) 0)) ∗ Xr c ∗ scr c ∗ owns (c : Thread nD τ) xW fullShare (X c) ∗ (∃ W, owes (c : Thread nD τ) (O₀ c) W))
    ⊢ (|={Set.univ}=> ((Entered c ∗ RDq c false 0 ∗ RDq c true 0 ∗ am0 c)
      ∗ (barC c ∗ (SQ c false 0 0 ∗ CQ c false 0 ∗ RQ c false 0) ∗ (SQ c true 0 0 ∗ CQ c true 0 ∗ RQ c true 0)
        ∗ LQ c 0 ∗ TQ c 0 0 ∗ AQ c 0 ∗ BQ c 0 0 ∗ AtP c (.arecv c) 0 ∗ AtP c (.asend c) 0)
      ∗ (xwl X c ∗ (xq X c 0 (xsh false) ∗ xq X c 1 (xsh false)) ∗ (xq X c 0 (xsh true) ∗ xq X c 1 (xsh true)) ∗ (xq X c 0 xst ∗ xq X c 1 xst))
      ∗ Main c 0 0 ∗ (bn0 c (fm 2 0) ∗ bn0 c (fm 2 1)) ∗ Stg c 0) : sProp 𝕄) := by
  unfold Xr scr Tks
  have es := bigSep_sep' (s := Finset.univ.erase Kd.bar) (Φ := fun k => AtP (F := F) c k 0) (Ψ := fun k => reached ER (cellAt c k) 0)
  have es' : (bigSep (Finset.univ.erase Kd.bar) fun k => iprop(AtP c k 0 ∗ reached ER (cellAt c k) 0))
    ⊢ (iprop((bigSep (Finset.univ.erase Kd.bar) fun k => AtP c k 0) ∗ (bigSep (Finset.univ.erase Kd.bar) fun k => reached ER (cellAt c k) 0)) : sProp 𝕄) := Entails.of_eq es
  have er := bigSep_univ_at (fun k => (reached ER (cellAt c k) 0 : sProp 𝕄)) Kd.bar
  have er' : iprop(reached ER (cellAt c .bar) 0 ∗ bigSep (Finset.univ.erase Kd.bar) fun k => reached ER (cellAt c k) 0) ⊢ (bigSep Finset.univ fun k => reached ER (cellAt c k) 0 : sProp 𝕄) := Entails.of_eq er.symm
  have eb : (bigSep Finset.univ fun t => iprop(∃ V, owns (c : Thread nD τ) (bncM t) fullShare V) : sProp 𝕄)
      ⊢ iprop((∃ V, owns (c : Thread nD τ) (bncM 0) fullShare V) ∗ (∃ V, owns (c : Thread nD τ) (bncM 1) fullShare V)) := Entails.of_eq (bigSep_fin_two (fun t => (iprop(∃ V, owns (c : Thread nD τ) (bncM t) fullShare V) : sProp 𝕄)))
  have est := fin_Ico (n := 10) (fun t => (iprop(∃ V, owns (c : Thread nD τ) (stgM t) fullShare V) : sProp 𝕄)) (fun j => iprop(∃ V, owns (c : Thread nD τ) (stgM (fm 10 j)) fullShare V)) (fun t => by rw [fm_val])
  have est' : (bigSep Finset.univ fun t => iprop(∃ V, owns (c : Thread nD τ) (stgM t) fullShare V) : sProp 𝕄) ⊢ Stg c 0 := Entails.of_eq est
  iintro ⟨#HI, HA, ⟨HB, HR, ⟨HD, HL, HW⟩, HC, HS, HRL⟩, ⟨H0, H1, H2, H3⟩, HX, HO⟩
  ihave HA := es' $$ HA
  icases HA with ⟨HA, #HE⟩
  ihave #HE0 := (Invs_bar X Wt κ ιs c) $$ HI
  imod (enter_rel X Wt c) $$ [HR H0 H1 HRL H3 HW] with He
  · isplitr
    · iexact HI
    isplitl [HR]
    · iexact HR
    isplitr
    · iapply er'
      isplitr
      · iexact HE0
      iexact HE
    isplitl [H0]
    · iexact H0
    isplitl [H1]
    · iexact H1
    isplitl [HRL]
    · iexact HRL
    isplitl [H3]
    · iexact H3
    iexact HW
  imodintro
  isplitl [He]
  · iexact He
  isplitl [HA HB HC]
  · iapply (queues c)
    isplitl [HB]
    · iexact HB
    isplitl [HA]
    · iexact HA
    iexact HC
  isplitl [HX]
  · iapply (xsplit X c) $$ HX
  isplitl [HO HD HL]
  · unfold Main
    isplitl [HO]
    · iexact HO
    isplitl [HD]
    · iexact HD
    iexact HL
  isplitl [H2]
  · iapply eb
    iapply (bnc_split c) $$ H2
  iapply est'
  iapply (stg_split c) $$ HS

theorem leave (c : Dev nD) : iprop(Invs X Wt κ ιs
      ∗ (barD c ∗ (SQ c false 10 10 ∗ CQ c false 5 ∗ RQ c false 10) ∗ (SQ c true 10 10 ∗ CQ c true 5 ∗ RQ c true 10)
        ∗ LQ c 10 ∗ TQ c 10 10 ∗ AQ c 15 ∗ BQ c 15 15 ∗ AtP c (.arecv c) 0 ∗ AtP c (.asend c) 0)
      ∗ Zs c
      ∗ (xwl X c ∗ (xq X c 0 (xsh false) ∗ xq X c 1 (xsh false)) ∗ (xq X c 0 (xsh true) ∗ xq X c 1 (xsh true)) ∗ (xq X c 0 xst ∗ xq X c 1 xst))
      ∗ (sl X c false 5 fullShare ∗ sl X c false 6 fullShare ∗ sl X c false 7 fullShare ∗ (sl X c false 8 fullShare.left ∗ sl X c false 8 fullShare.right) ∗ (sl X c false 9 fullShare.left ∗ sl X c false 9 fullShare.right))
      ∗ (sl X c true 5 fullShare ∗ sl X c true 6 fullShare ∗ sl X c true 7 fullShare ∗ (sl X c true 8 fullShare.left ∗ sl X c true 8 fullShare.right) ∗ (sl X c true 9 fullShare.left ∗ sl X c true 9 fullShare.right))
      ∗ (bnc X c 8 ∗ bnc X c 9) ∗ owns (c : Thread nD τ) aW fullShare (amA X Wt) ∗ Main c 49 10)
    ⊢ (|={Set.univ}=> (semVal (cellAt c .bar) 0 ∗ Sems c ∗ scr c ∗ owns (c : Thread nD τ) xW fullShare (X c) ∗ (∃ W, owes (c : Thread nD τ) 0 W)) : sProp 𝕄) := by
  iintro ⟨#HI, HQ, HZ, HX, HF, HB, HN, HA, HM⟩
  ihave HQ := (queues_end c) $$ HQ
  icases HQ with ⟨Hb, HQ⟩
  imod (cells_end X Wt c) $$ [Hb HQ HZ] with ⟨Hb, HS⟩
  · isplitr
    · iexact HI
    isplitl [Hb]
    · iexact Hb
    isplitl [HQ]
    · iexact HQ
    iexact HZ
  imodintro
  isplitl [Hb]
  · iexact Hb
  isplitl [HS]
  · unfold Sems; iexact HS
  isplitl [HF HB HN HA]
  · unfold scr
    isplitl [HF]
    · iapply (slots_end X c false) $$ HF
    isplitl [HB]
    · iapply (slots_end X c true) $$ HB
    isplitl [HN]
    · iapply (bnc_end X c) $$ HN
    iexists _; iexact HA
  isplitl [HX]
  · iapply (xmerge X c) $$ HX
  unfold Main
  icases HM with ⟨HM, -, -⟩
  have e : owedD c 49 + owedL c 10 = 0 := by unfold owedD owedL; rw [Finset.Ico_self, Finset.Ico_self, Finset.sum_empty, Finset.sum_empty, add_zero]
  rw [← e]
  iexact HM

set_option maxHeartbeats 8000000 in
theorem run (c : Dev nD) : iprop(Xk X Wt c ∗ scr c ∗ (∃ W, owes (c : Thread nD τ) (O₀ c) W) ∗ tbl c ∗ owns (c : Thread nD τ) xW fullShare (X c) ∗ wwl Wt c ∗ Out0 c)
    ⊢ bwp c (cc0_body tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13)
      fun _ => iprop((semVal (cellAt c .bar) 0 ∗ Sems c ∗ scr c ∗ owns (c : Thread nD τ) xW fullShare (X c) ∗ (∃ W, owes (c : Thread nD τ) 0 W))
        ∗ tbl c ∗ wwl Wt c ∗ owns (c : Thread nD τ) oW fullShare (outV X Wt c)) := by
  have t0 : tc (cls c) 0 = 0 := by revert c; decide
  rw [← Prog.bind_pure (cc0_body tW ht xW hx wW hw oW ho sgW hsg rlW hrl fW hff cc0_scratch1 cc0_scratch2 bW hbb cc0_scratch4 cc0_scratch5 cc0_scratch6 cc0_scratch7 cc0_scratch8 cc0_scratch9 bcW hbc aW ham cc0_scratch12 cc0_scratch13)]
  unfold Xk
  iintro ⟨⟨%κ, %ιs, #HI, HA, HZ, HXr⟩, HS, HO, HT, HX, HW, HOut⟩
  imod (enter X Wt c) $$ [HA HXr HS HX HO] with ⟨⟨#HE, HDF, HDB, HAM⟩, ⟨HBC, ⟨HSF, HCF, HRF⟩, ⟨HSB, HCB, HRB⟩, HLQ, HTQ, HAQ, HBQ, Hra, Hsa⟩, ⟨HXl, ⟨Hx0, Hx1⟩, ⟨Hx2, Hx3⟩, ⟨Hx4, Hx5⟩⟩, HM, ⟨Hn0, Hn1⟩, HSG⟩
  · isplitr
    · iexact HI
    isplitl [HA]
    · iexact HA
    isplitl [HXr]
    · iexact HXr
    isplitl [HS]
    · iexact HS
    isplitl [HX]
    · iexact HX
    iexact HO
  iapply (pt88 X Wt c (κ := κ) (ιs := ιs)) $$ [HM HBC HSF HCF HRF HDF Hx0 Hx1 HSB HCB HRB HDB Hx2 Hx3 Hx4 Hn0 Hx5 Hn1 HXl HW HT HOut HLQ HTQ HSG HAQ HBQ HZ HAM]
  · rw [t0]
    isplitr
    · iexact HI
    isplitr
    · iexact HE
    isplitl [HM]
    · iexact HM
    isplitl [HBC]
    · iexact HBC
    isplitl [HSF]
    · iexact HSF
    isplitl [HCF]
    · iexact HCF
    isplitl [HRF]
    · iexact HRF
    isplitl [HDF]
    · iexact HDF
    isplitl [Hx0]
    · iexact Hx0
    isplitl [Hx1]
    · iexact Hx1
    isplitl [HSB]
    · iexact HSB
    isplitl [HCB]
    · iexact HCB
    isplitl [HRB]
    · iexact HRB
    isplitl [HDB]
    · iexact HDB
    isplitl [Hx3]
    · iexact Hx3
    isplitl [Hx2]
    · iexact Hx2
    isplitl [Hx4]
    · iexact Hx4
    isplitl [Hn0]
    · iexact Hn0
    isplitl [Hx5]
    · iexact Hx5
    isplitl [Hn1]
    · iexact Hn1
    isplitl [HXl]
    · iexact HXl
    isplitl [HW]
    · iexact HW
    isplitl [HT]
    · iexact HT
    isplitl [HOut]
    · iexact HOut
    isplitl [HLQ]
    · iexact HLQ
    isplitr
    · unfold Ldn; rw [Finset.range_zero, bigSep_empty]; iempintro
    isplitl [HTQ]
    · iexact HTQ
    isplitl [HSG]
    · iexact HSG
    isplitr
    · unfold Sdn; rw [Finset.range_zero, bigSep_empty]; iempintro
    isplitl [HAQ]
    · iexact HAQ
    isplitl [HBQ]
    · iexact HBQ
    isplitr
    · unfold Arow; rw [Finset.range_zero, bigSep_empty]; iempintro
    isplitl [HZ]
    · iexact HZ
    iexact HAM
  iintro ⟨HBD, HXl, Hx0, Hx4, Hx5, Hx3, Hx1, Hx2, -, -, Hf5, HCF, Hb5, HCB, -, Hf8, Hf6, Hb8, Hb6, Hf8r, Hb8r, HRF, Hf9, HSF, Hf7, HRB, Hb9, HSB, Hb7, Hf9r, Hb9r, Hn0, HLQ, Hn1, HZ, -, HT, HW, HTQ, -, HAQ, HM, HBQ, HA, HO⟩
  icases HO with ⟨%V, %hV, HO⟩
  have hret : (|={Set.univ}=> ((semVal (cellAt c .bar) 0 ∗ Sems c ∗ scr c ∗ owns (c : Thread nD τ) xW fullShare (X c) ∗ (∃ W, owes (c : Thread nD τ) 0 W))
        ∗ tbl c ∗ wwl Wt c ∗ owns (c : Thread nD τ) oW fullShare (outV X Wt c)) : sProp 𝕄) ⊢ bwp c (pure PUnit.unit) fun _ => iprop((semVal (cellAt c .bar) 0 ∗ Sems c ∗ scr c ∗ owns (c : Thread nD τ) xW fullShare (X c) ∗ (∃ W, owes (c : Thread nD τ) 0 W))
        ∗ tbl c ∗ wwl Wt c ∗ owns (c : Thread nD τ) oW fullShare (outV X Wt c)) := BIBase.Entails.rfl
  iapply hret
  imod (leave X Wt c) $$ [HBD HXl Hx0 Hx4 Hx5 Hx3 Hx1 Hx2 Hf5 HCF Hb5 HCB Hf8 Hf6 Hb8 Hb6 Hf8r Hb8r HRF Hf9 HSF Hf7 HRB Hb9 HSB Hb7 Hf9r Hb9r Hn0 HLQ Hn1 HZ HTQ HAQ HM HBQ HA Hra Hsa] with HL
  · isplitr
    · iexact HI
    isplitl [HBD HSF HCF HRF HSB HCB HRB HLQ HTQ HAQ HBQ Hra Hsa]
    · isplitl [HBD]
      · iexact HBD
      isplitl [HSF HCF HRF]
      · isplitl [HSF]
        · iexact HSF
        isplitl [HCF]
        · iexact HCF
        iexact HRF
      isplitl [HSB HCB HRB]
      · isplitl [HSB]
        · iexact HSB
        isplitl [HCB]
        · iexact HCB
        iexact HRB
      isplitl [HLQ]
      · iexact HLQ
      isplitl [HTQ]
      · iexact HTQ
      isplitl [HAQ]
      · iexact HAQ
      isplitl [HBQ]
      · iexact HBQ
      isplitl [Hra]
      · iexact Hra
      iexact Hsa
    isplitl [HZ]
    · iexact HZ
    isplitl [HXl Hx0 Hx1 Hx2 Hx3 Hx4 Hx5]
    · isplitl [HXl]
      · iexact HXl
      isplitl [Hx0 Hx1]
      · isplitl [Hx0]
        · iexact Hx0
        iexact Hx1
      isplitl [Hx2 Hx3]
      · isplitl [Hx2]
        · iexact Hx2
        iexact Hx3
      isplitl [Hx4]
      · iexact Hx4
      iexact Hx5
    isplitl [Hf5 Hf6 Hf7 Hf8 Hf8r Hf9 Hf9r]
    · isplitl [Hf5]
      · iexact Hf5
      isplitl [Hf6]
      · iexact Hf6
      isplitl [Hf7]
      · iexact Hf7
      isplitl [Hf8 Hf8r]
      · isplitl [Hf8]
        · iexact Hf8
        iexact Hf8r
      isplitl [Hf9]
      · iexact Hf9
      iexact Hf9r
    isplitl [Hb5 Hb6 Hb7 Hb8 Hb8r Hb9 Hb9r]
    · isplitl [Hb5]
      · iexact Hb5
      isplitl [Hb6]
      · iexact Hb6
      isplitl [Hb7]
      · iexact Hb7
      isplitl [Hb8 Hb8r]
      · isplitl [Hb8]
        · iexact Hb8
        iexact Hb8r
      isplitl [Hb9]
      · iexact Hb9
      iexact Hb9r
    isplitl [Hn0 Hn1]
    · isplitl [Hn0]
      · iexact Hn0
      iexact Hn1
    isplitl [HA]
    · iexact HA
    iexact HM
  imodintro
  isplitl [HL]
  · iexact HL
  isplitl [HT]
  · iexact HT
  isplitl [HW]
  · iexact HW
  unfold outV
  rw [resV_eq X Wt c hV]
  iexact HO

end Cert.Proof
end
-- ==== Proof.Host.lean ====
module

public import proofs.«01_k».proof.Proof.Steps
public import Idealize.ShloMosaic.Lib.StableHlo.RunRead
public import Idealize.ShloMosaic.Lib.StableHlo.RunClose
public import proofs.«01_k».proof.Proof.Gen.Kernel.Regions

@[expose] public section

set_option maxRecDepth 20000

noncomputable section

/-!
What the lines before the launch leave in the table of numbers.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

variable (m : (ℓ : Loc nD τ sig) → Buf (Elt F) ℓ)

/-- A table read at a number, as the lines before the launch read it. -/
def ix16 (T : S16.Idx → BitVec 32) (x : S_.Idx → BitVec 32) : S_.Idx → BitVec 32 :=
  shapeCast S_ (Host.dynamicSlice S1 T (fun k => ((![select (cmpi .slt x (constantI S_ 32 0#32)) (addi x (constantI S_ 32 16#32)) x] : Fin 1 → S_.Idx → BitVec 32) k (Shape.Idx.first h_S_)).toInt) sliceFits_S16_S1) shapeCasts_S1_S_
/-- The table of ring distances read at a class, and moved by the device's place. -/
def ix45 (T : S4x5.Idx → BitVec 32) (x y : S_.Idx → BitVec 32) : S5.Idx → BitVec 32 :=
  addi (broadcastInDim S5 ![] bcast_S_S5 y) (shapeCast S5 (Host.dynamicSlice S1x5 T (fun k => ((![select (cmpi .slt x (constantI S_ 32 0#32)) (addi x (constantI S_ 32 4#32)) x, select (cmpi .slt (constantI S_ 32 0#32) (constantI S_ 32 0#32)) (addi (constantI S_ 32 0#32) (constantI S_ 32 5#32)) (constantI S_ 32 0#32)] : Fin 2 → S_.Idx → BitVec 32) k (Shape.Idx.first h_S_)).toInt) sliceFits_S4x5_S1x5) shapeCasts_S1x5_S5)
theorem ix_a : ∀ (c : Dev nD) (i : S_.Idx), ix16 (fun i => BitVec.ofInt 32 ((i 0).val : ℤ)) (ix16 (fun i => BitVec.ofInt 32 (paL (i 0) : ℤ)) (fun _ => BitVec.ofInt 32 (c.val : ℤ))) i = BitVec.ofInt 32 (paL c : ℤ) := by decide +kernel
theorem ix_b : ∀ (c : Dev nD) (i : S_.Idx), ix16 (fun i => BitVec.ofInt 32 ((i 0).val : ℤ)) (ix16 (fun i => BitVec.ofInt 32 (pbL (i 0) : ℤ)) (fun _ => BitVec.ofInt 32 (c.val : ℤ))) i = BitVec.ofInt 32 (pbL c : ℤ) := by decide +kernel
theorem ix_c : ∀ (c : Dev nD) (j : Fin 5), ix45 (fun i => BitVec.ofInt 32 (offL (i 0) (i 1) : ℤ)) (fun _ => BitVec.ofInt 32 ((c.val : ℤ) % 4)) (fun _ => BitVec.ofInt 32 (c.val : ℤ)) (fun a => match a with | 0 => j) = BitVec.ofInt 32 ((c.val : ℤ) + (offL (cls c) j : ℤ)) := by decide +kernel
theorem ix_d : ∀ (c : Dev nD) (i : S_.Idx), ix16 (fun i => lit0 (S16.rowMajor i)) (id (Host.remui (Host.divui (constantI S_ 32 (Dev.word c)) (constantI S_ 32 1#32)) (constantI S_ 32 16#32))) i = BitVec.ofInt 32 (c.val : ℤ) := by decide +kernel
theorem ix_e : ∀ (c : Dev nD) (i : S_.Idx), addi (ix16 (fun i => lit0 (S16.rowMajor i)) (id (Host.remui (Host.divui (constantI S_ 32 (Dev.word c)) (constantI S_ 32 1#32)) (constantI S_ 32 16#32)))) (constantI S_ 32 1#32) i = BitVec.ofInt 32 ((c.val : ℤ) + 1) := by decide +kernel
theorem ix_f : ∀ (c : Dev nD) (i : S_.Idx), ix16 (fun i => BitVec.ofInt 32 ((i 0).val : ℤ)) (fun _ => BitVec.ofInt 32 (((c.val : ℤ) + 1) % 16)) i = BitVec.ofInt 32 (((c.val : ℤ) + 1) % 16) := by decide +kernel
theorem ix_g : ∀ (c : Dev nD) (i : S_.Idx), ix16 (fun i => BitVec.ofInt 32 ((i 0).val : ℤ)) (fun _ => BitVec.ofInt 32 (((c.val : ℤ) + 15) % 16)) i = BitVec.ofInt 32 (((c.val : ℤ) + 15) % 16) := by decide +kernel
theorem vext1 (n : ℕ) {β : Type} (f g : (⟨1, ![n]⟩ : Shape).Idx → β) (h : ∀ j : Fin n, f (fun a => match a with | 0 => j) = g (fun a => match a with | 0 => j)) : f = g := by
  funext i
  have : i = fun a => match a with | 0 => i 0 := by funext a; match a with | 0 => rfl
  rw [this]; exact h (i 0)
theorem ty59 : main_v59.ty = ⟨S_, .i32⟩ := rfl
theorem ty69 : main_v69.ty = ⟨S_, .i32⟩ := rfl
theorem ty79 : main_v79.ty = ⟨S5, .i32⟩ := rfl
theorem ty54 : main_v54.ty = ⟨S_, .i32⟩ := rfl
theorem ty64 : main_v64.ty = ⟨S_, .i32⟩ := rfl
theorem ty77 : main_v77.ty = ⟨S5, .i32⟩ := rfl
theorem idx2 (i : S4x5.Idx) : ∃ (a : Fin 4) (b : Fin 5), i = fun d => match d with | 0 => a | 1 => b :=
  ⟨i 0, i 1, by funext d; match d with | 0 => rfl | 1 => rfl⟩

theorem H_main_c_0 (c : Dev nD) : V1 m c main_c_0 = ((fun i => BitVec.ofInt 32 (((i 0).val : ℤ))) : Vec F S16 .i32) := by
  show StableHlo.after (hostOps0 c) (V0 m c) _ = _
  generalize V0 m c = V
  after_reads_simp
  try dsimp only [BufTy.Contents, ty54, ty64, ty77, ty59, ty69, ty79]
  try dsimp only [Elt]
  try simp only [StableHlo.TRef.ofBuf, StableHlo.TRef.toBuf, cast_eq, id]
  refine vext1 16 _ _ ?_
  clear c
  decide +kernel

theorem H_main_c_1 (c : Dev nD) : V1 m c main_c_1 = ((fun i => BitVec.ofInt 32 ((paL (i 0) : ℤ))) : Vec F S16 .i32) := by
  show StableHlo.after (hostOps0 c) (V0 m c) _ = _
  generalize V0 m c = V
  after_reads_simp
  try dsimp only [BufTy.Contents, ty54, ty64, ty77, ty59, ty69, ty79]
  try dsimp only [Elt]
  try simp only [StableHlo.TRef.ofBuf, StableHlo.TRef.toBuf, cast_eq, id]
  refine vext1 16 _ _ ?_
  clear c
  decide +kernel

theorem H_main_c_2 (c : Dev nD) : V1 m c main_c_2 = ((fun i => BitVec.ofInt 32 ((pbL (i 0) : ℤ))) : Vec F S16 .i32) := by
  show StableHlo.after (hostOps0 c) (V0 m c) _ = _
  generalize V0 m c = V
  after_reads_simp
  try dsimp only [BufTy.Contents, ty54, ty64, ty77, ty59, ty69, ty79]
  try dsimp only [Elt]
  try simp only [StableHlo.TRef.ofBuf, StableHlo.TRef.toBuf, cast_eq, id]
  refine vext1 16 _ _ ?_
  clear c
  decide +kernel

theorem H_main_c_3 (c : Dev nD) : V1 m c main_c_3 = ((fun i => BitVec.ofInt 32 ((offL (i 0) (i 1) : ℤ))) : Vec F S4x5 .i32) := by
  show StableHlo.after (hostOps0 c) (V0 m c) _ = _
  generalize V0 m c = V
  after_reads_simp
  try dsimp only [BufTy.Contents, ty54, ty64, ty77, ty59, ty69, ty79]
  try dsimp only [Elt]
  try simp only [StableHlo.TRef.ofBuf, StableHlo.TRef.toBuf, cast_eq, id]
  funext i
  obtain ⟨a, b, rfl⟩ := idx2 i
  revert a b
  clear c
  decide +kernel

theorem H_main_v9 (c : Dev nD) : V1 m c main_v9 = ((fun _ => BitVec.ofInt 32 ((c.val : ℤ))) : Vec F S_ .i32) := by
  show StableHlo.after (hostOps0 c) (V0 m c) _ = _
  generalize V0 m c = V
  after_results_simp_entrywise
  try dsimp only [BufTy.Contents, ty54, ty64, ty77, ty59, ty69, ty79]
  try dsimp only [Elt]
  try simp only [StableHlo.TRef.ofBuf, StableHlo.TRef.toBuf, cast_eq, id]
  funext i
  exact ix_d c i

theorem H_main_v10 (c : Dev nD) : V1 m c main_v10 = ((fun _ => BitVec.ofInt 32 ((c.val : ℤ)+1)) : Vec F S_ .i32) := by
  show StableHlo.after (hostOps0 c) (V0 m c) _ = _
  generalize V0 m c = V
  after_results_simp_entrywise
  try dsimp only [BufTy.Contents, ty54, ty64, ty77, ty59, ty69, ty79]
  try dsimp only [Elt]
  try simp only [StableHlo.TRef.ofBuf, StableHlo.TRef.toBuf, cast_eq, id]
  funext i
  exact ix_e c i

theorem H_main_c_9 (c : Dev nD) : V1 m c main_c_9 = ((fun _ => BitVec.ofInt 32 (16)) : Vec F S_ .i32) := by
  show StableHlo.after (hostOps0 c) (V0 m c) _ = _
  generalize V0 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v11 (c : Dev nD) : V2 m c main_v11 = ((fun _ => BitVec.ofInt 32 (((c.val : ℤ)+1)%16)) : Vec F S_ .i32) := by
  have h0 : V1 m c main_c_9 = ((fun _ => BitVec.ofInt 32 (16)) : Vec F S_ .i32) := H_main_c_9 m c
  have h1 : V1 m c main_v10 = ((fun _ => BitVec.ofInt 32 ((c.val : ℤ)+1)) : Vec F S_ .i32) := H_main_v10 m c
  revert h0 h1
  show _ → _ → StableHlo.after hostOps0_1 (V1 m c) _ = _
  generalize V1 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v16 (c : Dev nD) : V3 m c main_v16 = ((fun _ => BitVec.ofInt 32 (((c.val : ℤ)+1)%16)) : Vec F S_ .i32) := by
  have h0 : V2 m c main_c_0 = ((fun i => BitVec.ofInt 32 (((i 0).val : ℤ))) : Vec F S16 .i32) := (V2_of m c main_c_0 (by decide)).trans (H_main_c_0 m c)
  have h1 : V2 m c main_v11 = ((fun _ => BitVec.ofInt 32 (((c.val : ℤ)+1)%16)) : Vec F S_ .i32) := H_main_v11 m c
  revert h0 h1
  show _ → _ → StableHlo.after hostOps0_2 (V2 m c) _ = _
  generalize V2 m c = V
  intro h0 h1
  after_results_simp_entrywise
  simp only [h0, h1]
  clear h0 h1
  try dsimp only [BufTy.Contents, ty54, ty64, ty77, ty59, ty69, ty79]
  try dsimp only [Elt]
  try simp only [StableHlo.TRef.ofBuf, StableHlo.TRef.toBuf, cast_eq, id]
  funext i
  exact ix_f c i

theorem H_main_v17 (c : Dev nD) : V3 m c main_v17 = ((fun _ => BitVec.ofInt 32 ((c.val : ℤ)-1)) : Vec F S_ .i32) := by
  have h0 : V2 m c main_v9 = ((fun _ => BitVec.ofInt 32 ((c.val : ℤ))) : Vec F S_ .i32) := (V2_of m c main_v9 (by decide)).trans (H_main_v9 m c)
  revert h0
  show _ → StableHlo.after hostOps0_2 (V2 m c) _ = _
  generalize V2 m c = V
  intro h0
  after_reads_simp
  simp only [h0]
  clear h0
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_c_13 (c : Dev nD) : V3 m c main_c_13 = ((fun _ => BitVec.ofInt 32 (16)) : Vec F S_ .i32) := by
  show StableHlo.after hostOps0_2 (V2 m c) _ = _
  generalize V2 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v18 (c : Dev nD) : V4 m c main_v18 = ((fun _ => BitVec.ofInt 32 (((c.val : ℤ)+15)%16)) : Vec F S_ .i32) := by
  have h0 : V3 m c main_c_13 = ((fun _ => BitVec.ofInt 32 (16)) : Vec F S_ .i32) := H_main_c_13 m c
  have h1 : V3 m c main_v17 = ((fun _ => BitVec.ofInt 32 ((c.val : ℤ)-1)) : Vec F S_ .i32) := H_main_v17 m c
  revert h0 h1
  show _ → _ → StableHlo.after hostOps0_3 (V3 m c) _ = _
  generalize V3 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v23 (c : Dev nD) : V5 m c main_v23 = ((fun _ => BitVec.ofInt 32 (((c.val : ℤ)+15)%16)) : Vec F S_ .i32) := by
  have h0 : V4 m c main_c_0 = ((fun i => BitVec.ofInt 32 (((i 0).val : ℤ))) : Vec F S16 .i32) := (V4_of m c main_c_0 (by decide)).trans ((V3_of m c main_c_0 (by decide)).trans ((V2_of m c main_c_0 (by decide)).trans (H_main_c_0 m c)))
  have h1 : V4 m c main_v18 = ((fun _ => BitVec.ofInt 32 (((c.val : ℤ)+15)%16)) : Vec F S_ .i32) := H_main_v18 m c
  revert h0 h1
  show _ → _ → StableHlo.after hostOps0_4 (V4 m c) _ = _
  generalize V4 m c = V
  intro h0 h1
  after_results_simp_entrywise
  simp only [h0, h1]
  clear h0 h1
  try dsimp only [BufTy.Contents, ty54, ty64, ty77, ty59, ty69, ty79]
  try dsimp only [Elt]
  try simp only [StableHlo.TRef.ofBuf, StableHlo.TRef.toBuf, cast_eq, id]
  funext i
  exact ix_g c i

theorem H_main_v24 (c : Dev nD) : V5 m c main_v24 = ((fun i => BitVec.ofInt 32 (((i 0).val : ℤ))) : Vec F S10 .i32) := by
  show StableHlo.after hostOps0_4 (V4 m c) _ = _
  generalize V4 m c = V
  after_reads_simp
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v25 (c : Dev nD) : V5 m c main_v25 = ((fun _ => BitVec.ofInt 32 ((c.val : ℤ)-1)) : Vec F S_ .i32) := by
  have h0 : V4 m c main_v9 = ((fun _ => BitVec.ofInt 32 ((c.val : ℤ))) : Vec F S_ .i32) := (V4_of m c main_v9 (by decide)).trans ((V3_of m c main_v9 (by decide)).trans ((V2_of m c main_v9 (by decide)).trans (H_main_v9 m c)))
  revert h0
  show _ → StableHlo.after hostOps0_4 (V4 m c) _ = _
  generalize V4 m c = V
  intro h0
  after_reads_simp
  simp only [h0]
  clear h0
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_c_17 (c : Dev nD) : V5 m c main_c_17 = ((fun _ => BitVec.ofInt 32 (2)) : Vec F S_ .i32) := by
  show StableHlo.after hostOps0_4 (V4 m c) _ = _
  generalize V4 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v26 (c : Dev nD) : V6 m c main_v26 = ((fun i => BitVec.ofInt 32 (((i 0).val : ℤ)/2)) : Vec F S10 .i32) := by
  have h0 : V5 m c main_c_17 = ((fun _ => BitVec.ofInt 32 (2)) : Vec F S_ .i32) := H_main_c_17 m c
  have h1 : V5 m c main_v24 = ((fun i => BitVec.ofInt 32 (((i 0).val : ℤ))) : Vec F S10 .i32) := H_main_v24 m c
  revert h0 h1
  show _ → _ → StableHlo.after hostOps0_5 (V5 m c) _ = _
  generalize V5 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v28 (c : Dev nD) : V7 m c main_v28 = ((fun i => BitVec.ofInt 32 ((c.val : ℤ)-1-((i 0).val : ℤ)/2)) : Vec F S10 .i32) := by
  have h0 : V6 m c main_v25 = ((fun _ => BitVec.ofInt 32 ((c.val : ℤ)-1)) : Vec F S_ .i32) := (V6_of m c main_v25 (by decide)).trans (H_main_v25 m c)
  have h1 : V6 m c main_v26 = ((fun i => BitVec.ofInt 32 (((i 0).val : ℤ)/2)) : Vec F S10 .i32) := H_main_v26 m c
  revert h0 h1
  show _ → _ → StableHlo.after hostOps0_6 (V6 m c) _ = _
  generalize V6 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_c_18 (c : Dev nD) : V7 m c main_c_18 = ((fun _ => BitVec.ofInt 32 (16)) : Vec F S_ .i32) := by
  show StableHlo.after hostOps0_6 (V6 m c) _ = _
  generalize V6 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v29 (c : Dev nD) : V8 m c main_v29 = ((fun i => BitVec.ofInt 32 (((c.val : ℤ)+15-((i 0).val : ℤ)/2)%16)) : Vec F S10 .i32) := by
  have h0 : V7 m c main_c_18 = ((fun _ => BitVec.ofInt 32 (16)) : Vec F S_ .i32) := H_main_c_18 m c
  have h1 : V7 m c main_v28 = ((fun i => BitVec.ofInt 32 ((c.val : ℤ)-1-((i 0).val : ℤ)/2)) : Vec F S10 .i32) := H_main_v28 m c
  revert h0 h1
  show _ → _ → StableHlo.after hostOps0_7 (V7 m c) _ = _
  generalize V7 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v36 (c : Dev nD) : V9 m c main_v36 = ((fun i => BitVec.ofInt 32 (((c.val : ℤ)+15-((i 0).val : ℤ)/2)%16)) : Vec F S10 .i32) := by
  have h0 : V8 m c main_c_0 = ((fun i => BitVec.ofInt 32 (((i 0).val : ℤ))) : Vec F S16 .i32) := (V8_of m c main_c_0 (by decide)).trans ((V7_of m c main_c_0 (by decide)).trans ((V6_of m c main_c_0 (by decide)).trans ((V5_of m c main_c_0 (by decide)).trans ((V4_of m c main_c_0 (by decide)).trans ((V3_of m c main_c_0 (by decide)).trans ((V2_of m c main_c_0 (by decide)).trans (H_main_c_0 m c)))))))
  have h1 : V8 m c main_v29 = ((fun i => BitVec.ofInt 32 (((c.val : ℤ)+15-((i 0).val : ℤ)/2)%16)) : Vec F S10 .i32) := H_main_v29 m c
  revert h0 h1
  show _ → _ → StableHlo.after hostOps0_8 (V8 m c) _ = _
  generalize V8 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v37 (c : Dev nD) : V9 m c main_v37 = ((fun _ => BitVec.ofInt 32 ((c.val : ℤ)+1)) : Vec F S_ .i32) := by
  have h0 : V8 m c main_v9 = ((fun _ => BitVec.ofInt 32 ((c.val : ℤ))) : Vec F S_ .i32) := (V8_of m c main_v9 (by decide)).trans ((V7_of m c main_v9 (by decide)).trans ((V6_of m c main_v9 (by decide)).trans ((V5_of m c main_v9 (by decide)).trans ((V4_of m c main_v9 (by decide)).trans ((V3_of m c main_v9 (by decide)).trans ((V2_of m c main_v9 (by decide)).trans (H_main_v9 m c)))))))
  revert h0
  show _ → StableHlo.after hostOps0_8 (V8 m c) _ = _
  generalize V8 m c = V
  intro h0
  after_reads_simp
  simp only [h0]
  clear h0
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_c_22 (c : Dev nD) : V9 m c main_c_22 = ((fun _ => BitVec.ofInt 32 (2)) : Vec F S_ .i32) := by
  show StableHlo.after hostOps0_8 (V8 m c) _ = _
  generalize V8 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v38 (c : Dev nD) : V10 m c main_v38 = ((fun i => BitVec.ofInt 32 (((i 0).val : ℤ)/2)) : Vec F S10 .i32) := by
  have h0 : V9 m c main_c_22 = ((fun _ => BitVec.ofInt 32 (2)) : Vec F S_ .i32) := H_main_c_22 m c
  have h1 : V9 m c main_v24 = ((fun i => BitVec.ofInt 32 (((i 0).val : ℤ))) : Vec F S10 .i32) := (V9_of m c main_v24 (by decide)).trans ((V8_of m c main_v24 (by decide)).trans ((V7_of m c main_v24 (by decide)).trans ((V6_of m c main_v24 (by decide)).trans (H_main_v24 m c))))
  revert h0 h1
  show _ → _ → StableHlo.after hostOps0_9 (V9 m c) _ = _
  generalize V9 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v40 (c : Dev nD) : V11 m c main_v40 = ((fun i => BitVec.ofInt 32 ((c.val : ℤ)+1+((i 0).val : ℤ)/2)) : Vec F S10 .i32) := by
  have h0 : V10 m c main_v37 = ((fun _ => BitVec.ofInt 32 ((c.val : ℤ)+1)) : Vec F S_ .i32) := (V10_of m c main_v37 (by decide)).trans (H_main_v37 m c)
  have h1 : V10 m c main_v38 = ((fun i => BitVec.ofInt 32 (((i 0).val : ℤ)/2)) : Vec F S10 .i32) := H_main_v38 m c
  revert h0 h1
  show _ → _ → StableHlo.after hostOps0_10 (V10 m c) _ = _
  generalize V10 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_c_23 (c : Dev nD) : V11 m c main_c_23 = ((fun _ => BitVec.ofInt 32 (16)) : Vec F S_ .i32) := by
  show StableHlo.after hostOps0_10 (V10 m c) _ = _
  generalize V10 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v41 (c : Dev nD) : V12 m c main_v41 = ((fun i => BitVec.ofInt 32 (((c.val : ℤ)+1+((i 0).val : ℤ)/2)%16)) : Vec F S10 .i32) := by
  have h0 : V11 m c main_c_23 = ((fun _ => BitVec.ofInt 32 (16)) : Vec F S_ .i32) := H_main_c_23 m c
  have h1 : V11 m c main_v40 = ((fun i => BitVec.ofInt 32 ((c.val : ℤ)+1+((i 0).val : ℤ)/2)) : Vec F S10 .i32) := H_main_v40 m c
  revert h0 h1
  show _ → _ → StableHlo.after hostOps0_11 (V11 m c) _ = _
  generalize V11 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_v48 (c : Dev nD) : V13 m c main_v48 = ((fun i => BitVec.ofInt 32 (((c.val : ℤ)+1+((i 0).val : ℤ)/2)%16)) : Vec F S10 .i32) := by
  have h0 : V12 m c main_c_0 = ((fun i => BitVec.ofInt 32 (((i 0).val : ℤ))) : Vec F S16 .i32) := (V12_of m c main_c_0 (by decide)).trans ((V11_of m c main_c_0 (by decide)).trans ((V10_of m c main_c_0 (by decide)).trans ((V9_of m c main_c_0 (by decide)).trans ((V8_of m c main_c_0 (by decide)).trans ((V7_of m c main_c_0 (by decide)).trans ((V6_of m c main_c_0 (by decide)).trans ((V5_of m c main_c_0 (by decide)).trans ((V4_of m c main_c_0 (by decide)).trans ((V3_of m c main_c_0 (by decide)).trans ((V2_of m c main_c_0 (by decide)).trans (H_main_c_0 m c)))))))))))
  have h1 : V12 m c main_v41 = ((fun i => BitVec.ofInt 32 (((c.val : ℤ)+1+((i 0).val : ℤ)/2)%16)) : Vec F S10 .i32) := H_main_v41 m c
  revert h0 h1
  show _ → _ → StableHlo.after hostOps0_12 (V12 m c) _ = _
  generalize V12 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 10 _ _ ?_
  revert c
  decide +kernel

theorem H_main_c_26 (c : Dev nD) : V13 m c main_c_26 = ((fun _ => BitVec.ofInt 32 (4)) : Vec F S_ .i32) := by
  show StableHlo.after hostOps0_12 (V12 m c) _ = _
  generalize V12 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v49 (c : Dev nD) : V14 m c main_v49 = ((fun _ => BitVec.ofInt 32 ((c.val : ℤ)%4)) : Vec F S_ .i32) := by
  have h0 : V13 m c main_c_26 = ((fun _ => BitVec.ofInt 32 (4)) : Vec F S_ .i32) := H_main_c_26 m c
  have h1 : V13 m c main_v9 = ((fun _ => BitVec.ofInt 32 ((c.val : ℤ))) : Vec F S_ .i32) := (V13_of m c main_v9 (by decide)).trans ((V12_of m c main_v9 (by decide)).trans ((V11_of m c main_v9 (by decide)).trans ((V10_of m c main_v9 (by decide)).trans ((V9_of m c main_v9 (by decide)).trans ((V8_of m c main_v9 (by decide)).trans ((V7_of m c main_v9 (by decide)).trans ((V6_of m c main_v9 (by decide)).trans ((V5_of m c main_v9 (by decide)).trans ((V4_of m c main_v9 (by decide)).trans ((V3_of m c main_v9 (by decide)).trans ((V2_of m c main_v9 (by decide)).trans (H_main_v9 m c))))))))))))
  revert h0 h1
  show _ → _ → StableHlo.after hostOps0_13 (V13 m c) _ = _
  generalize V13 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v59 (c : Dev nD) : V15 m c main_v59 = ((fun _ => BitVec.ofInt 32 ((paL c : ℤ))) : Vec F S_ .i32) := by
  have h0 : V14 m c main_c_0 = ((fun i => BitVec.ofInt 32 (((i 0).val : ℤ))) : Vec F S16 .i32) := (V14_of m c main_c_0 (by decide)).trans ((V13_of m c main_c_0 (by decide)).trans ((V12_of m c main_c_0 (by decide)).trans ((V11_of m c main_c_0 (by decide)).trans ((V10_of m c main_c_0 (by decide)).trans ((V9_of m c main_c_0 (by decide)).trans ((V8_of m c main_c_0 (by decide)).trans ((V7_of m c main_c_0 (by decide)).trans ((V6_of m c main_c_0 (by decide)).trans ((V5_of m c main_c_0 (by decide)).trans ((V4_of m c main_c_0 (by decide)).trans ((V3_of m c main_c_0 (by decide)).trans ((V2_of m c main_c_0 (by decide)).trans (H_main_c_0 m c)))))))))))))
  have h1 : V14 m c main_c_1 = ((fun i => BitVec.ofInt 32 ((paL (i 0) : ℤ))) : Vec F S16 .i32) := (V14_of m c main_c_1 (by decide)).trans ((V13_of m c main_c_1 (by decide)).trans ((V12_of m c main_c_1 (by decide)).trans ((V11_of m c main_c_1 (by decide)).trans ((V10_of m c main_c_1 (by decide)).trans ((V9_of m c main_c_1 (by decide)).trans ((V8_of m c main_c_1 (by decide)).trans ((V7_of m c main_c_1 (by decide)).trans ((V6_of m c main_c_1 (by decide)).trans ((V5_of m c main_c_1 (by decide)).trans ((V4_of m c main_c_1 (by decide)).trans ((V3_of m c main_c_1 (by decide)).trans ((V2_of m c main_c_1 (by decide)).trans (H_main_c_1 m c)))))))))))))
  have h2 : V14 m c main_v9 = ((fun _ => BitVec.ofInt 32 ((c.val : ℤ))) : Vec F S_ .i32) := (V14_of m c main_v9 (by decide)).trans ((V13_of m c main_v9 (by decide)).trans ((V12_of m c main_v9 (by decide)).trans ((V11_of m c main_v9 (by decide)).trans ((V10_of m c main_v9 (by decide)).trans ((V9_of m c main_v9 (by decide)).trans ((V8_of m c main_v9 (by decide)).trans ((V7_of m c main_v9 (by decide)).trans ((V6_of m c main_v9 (by decide)).trans ((V5_of m c main_v9 (by decide)).trans ((V4_of m c main_v9 (by decide)).trans ((V3_of m c main_v9 (by decide)).trans ((V2_of m c main_v9 (by decide)).trans (H_main_v9 m c)))))))))))))
  revert h0 h1 h2
  show _ → _ → _ → StableHlo.after hostOps0_14 (V14 m c) _ = _
  generalize V14 m c = V
  intro h0 h1 h2
  after_results_simp_entrywise
  simp only [h0, h1, h2]
  clear h0 h1 h2
  try dsimp only [BufTy.Contents, ty54, ty64, ty77, ty59, ty69, ty79]
  try dsimp only [Elt]
  try simp only [StableHlo.TRef.ofBuf, StableHlo.TRef.toBuf, cast_eq, id]
  funext i
  exact ix_a c i

theorem H_main_v69 (c : Dev nD) : V15 m c main_v69 = ((fun _ => BitVec.ofInt 32 ((pbL c : ℤ))) : Vec F S_ .i32) := by
  have h0 : V14 m c main_c_0 = ((fun i => BitVec.ofInt 32 (((i 0).val : ℤ))) : Vec F S16 .i32) := (V14_of m c main_c_0 (by decide)).trans ((V13_of m c main_c_0 (by decide)).trans ((V12_of m c main_c_0 (by decide)).trans ((V11_of m c main_c_0 (by decide)).trans ((V10_of m c main_c_0 (by decide)).trans ((V9_of m c main_c_0 (by decide)).trans ((V8_of m c main_c_0 (by decide)).trans ((V7_of m c main_c_0 (by decide)).trans ((V6_of m c main_c_0 (by decide)).trans ((V5_of m c main_c_0 (by decide)).trans ((V4_of m c main_c_0 (by decide)).trans ((V3_of m c main_c_0 (by decide)).trans ((V2_of m c main_c_0 (by decide)).trans (H_main_c_0 m c)))))))))))))
  have h1 : V14 m c main_c_2 = ((fun i => BitVec.ofInt 32 ((pbL (i 0) : ℤ))) : Vec F S16 .i32) := (V14_of m c main_c_2 (by decide)).trans ((V13_of m c main_c_2 (by decide)).trans ((V12_of m c main_c_2 (by decide)).trans ((V11_of m c main_c_2 (by decide)).trans ((V10_of m c main_c_2 (by decide)).trans ((V9_of m c main_c_2 (by decide)).trans ((V8_of m c main_c_2 (by decide)).trans ((V7_of m c main_c_2 (by decide)).trans ((V6_of m c main_c_2 (by decide)).trans ((V5_of m c main_c_2 (by decide)).trans ((V4_of m c main_c_2 (by decide)).trans ((V3_of m c main_c_2 (by decide)).trans ((V2_of m c main_c_2 (by decide)).trans (H_main_c_2 m c)))))))))))))
  have h2 : V14 m c main_v9 = ((fun _ => BitVec.ofInt 32 ((c.val : ℤ))) : Vec F S_ .i32) := (V14_of m c main_v9 (by decide)).trans ((V13_of m c main_v9 (by decide)).trans ((V12_of m c main_v9 (by decide)).trans ((V11_of m c main_v9 (by decide)).trans ((V10_of m c main_v9 (by decide)).trans ((V9_of m c main_v9 (by decide)).trans ((V8_of m c main_v9 (by decide)).trans ((V7_of m c main_v9 (by decide)).trans ((V6_of m c main_v9 (by decide)).trans ((V5_of m c main_v9 (by decide)).trans ((V4_of m c main_v9 (by decide)).trans ((V3_of m c main_v9 (by decide)).trans ((V2_of m c main_v9 (by decide)).trans (H_main_v9 m c)))))))))))))
  revert h0 h1 h2
  show _ → _ → _ → StableHlo.after hostOps0_14 (V14 m c) _ = _
  generalize V14 m c = V
  intro h0 h1 h2
  after_results_simp_entrywise
  simp only [h0, h1, h2]
  clear h0 h1 h2
  try dsimp only [BufTy.Contents, ty54, ty64, ty77, ty59, ty69, ty79]
  try dsimp only [Elt]
  try simp only [StableHlo.TRef.ofBuf, StableHlo.TRef.toBuf, cast_eq, id]
  funext i
  exact ix_b c i

theorem H_main_v79 (c : Dev nD) : V15 m c main_v79 = ((fun i => BitVec.ofInt 32 ((c.val : ℤ)+(offL (cls c) (i 0) : ℤ))) : Vec F S5 .i32) := by
  have h0 : V14 m c main_c_3 = ((fun i => BitVec.ofInt 32 ((offL (i 0) (i 1) : ℤ))) : Vec F S4x5 .i32) := (V14_of m c main_c_3 (by decide)).trans ((V13_of m c main_c_3 (by decide)).trans ((V12_of m c main_c_3 (by decide)).trans ((V11_of m c main_c_3 (by decide)).trans ((V10_of m c main_c_3 (by decide)).trans ((V9_of m c main_c_3 (by decide)).trans ((V8_of m c main_c_3 (by decide)).trans ((V7_of m c main_c_3 (by decide)).trans ((V6_of m c main_c_3 (by decide)).trans ((V5_of m c main_c_3 (by decide)).trans ((V4_of m c main_c_3 (by decide)).trans ((V3_of m c main_c_3 (by decide)).trans ((V2_of m c main_c_3 (by decide)).trans (H_main_c_3 m c)))))))))))))
  have h1 : V14 m c main_v49 = ((fun _ => BitVec.ofInt 32 ((c.val : ℤ)%4)) : Vec F S_ .i32) := H_main_v49 m c
  have h2 : V14 m c main_v9 = ((fun _ => BitVec.ofInt 32 ((c.val : ℤ))) : Vec F S_ .i32) := (V14_of m c main_v9 (by decide)).trans ((V13_of m c main_v9 (by decide)).trans ((V12_of m c main_v9 (by decide)).trans ((V11_of m c main_v9 (by decide)).trans ((V10_of m c main_v9 (by decide)).trans ((V9_of m c main_v9 (by decide)).trans ((V8_of m c main_v9 (by decide)).trans ((V7_of m c main_v9 (by decide)).trans ((V6_of m c main_v9 (by decide)).trans ((V5_of m c main_v9 (by decide)).trans ((V4_of m c main_v9 (by decide)).trans ((V3_of m c main_v9 (by decide)).trans ((V2_of m c main_v9 (by decide)).trans (H_main_v9 m c)))))))))))))
  revert h0 h1 h2
  show _ → _ → _ → StableHlo.after hostOps0_14 (V14 m c) _ = _
  generalize V14 m c = V
  intro h0 h1 h2
  after_results_simp_entrywise
  simp only [h0, h1, h2]
  clear h0 h1 h2
  try dsimp only [BufTy.Contents, ty54, ty64, ty77, ty59, ty69, ty79]
  try dsimp only [Elt]
  try simp only [StableHlo.TRef.ofBuf, StableHlo.TRef.toBuf, cast_eq, id]
  refine vext1 5 _ _ fun j => ?_
  exact ix_c c j

theorem H_main_c_42 (c : Dev nD) : V15 m c main_c_42 = ((fun _ => BitVec.ofInt 32 (16)) : Vec F S_ .i32) := by
  show StableHlo.after hostOps0_14 (V14 m c) _ = _
  generalize V14 m c = V
  after_reads_simp
  try dsimp only [BufTy.Contents, ty54, ty64, ty77, ty59, ty69, ty79]
  try dsimp only [Elt]
  try simp only [StableHlo.TRef.ofBuf, StableHlo.TRef.toBuf, cast_eq, id]
  funext i
  revert i
  revert c
  decide +kernel

theorem H_main_v80 (c : Dev nD) : V16 m c main_v80 = ((fun i => BitVec.ofInt 32 (((c.val : ℤ)+(offL (cls c) (i 0) : ℤ))%16)) : Vec F S5 .i32) := by
  have h0 : V15 m c main_c_42 = ((fun _ => BitVec.ofInt 32 (16)) : Vec F S_ .i32) := H_main_c_42 m c
  have h1 : V15 m c main_v79 = ((fun i => BitVec.ofInt 32 ((c.val : ℤ)+(offL (cls c) (i 0) : ℤ))) : Vec F S5 .i32) := H_main_v79 m c
  revert h0 h1
  show _ → _ → StableHlo.after hostOps0_15 (V15 m c) _ = _
  generalize V15 m c = V
  intro h0 h1
  after_reads_simp
  simp only [h0, h1]
  clear h0 h1
  try dsimp only [BufTy.Contents, ty54, ty64, ty77, ty59, ty69, ty79]
  try dsimp only [Elt]
  try simp only [StableHlo.TRef.ofBuf, StableHlo.TRef.toBuf, cast_eq, id]
  refine vext1 5 _ _ ?_
  revert c
  decide +kernel

theorem cat8 {a a' b b' : Vec F S1 .i32} {p p' q q' : Vec F S10 .i32} {d d' e e' g g' : Vec F S1 .i32} {h h' : Vec F S5 .i32}
    (h1 : a = a') (h2 : b = b') (h3 : p = p') (h4 : q = q') (h5 : d = d') (h6 : e = e') (h7 : g = g') (h8 : h = h') :
    concatenate S30 0 [⟨S1, a⟩, ⟨S1, b⟩, ⟨S10, p⟩, ⟨S10, q⟩, ⟨S1, d⟩, ⟨S1, e⟩, ⟨S1, g⟩, ⟨S5, h⟩] concatenates_S1_S1_S10_S10_S1_S1_S1_S5_S30_d0
      = (concatenate S30 0 [⟨S1, a'⟩, ⟨S1, b'⟩, ⟨S10, p'⟩, ⟨S10, q'⟩, ⟨S1, d'⟩, ⟨S1, e'⟩, ⟨S1, g'⟩, ⟨S5, h'⟩] concatenates_S1_S1_S10_S10_S1_S1_S1_S5_S30_d0 : Vec F S30 .i32) := by
  subst h1 h2 h3 h4 h5 h6 h7 h8; rfl

theorem H_main_v93 (c : Dev nD) : V17 m c main_v93 = (metaV c : Vec F S30 .i32) := by
  have h0 : V16 m c main_c_0 = ((fun i => BitVec.ofInt 32 (((i 0).val : ℤ))) : Vec F S16 .i32) := (V16_of m c main_c_0 (by decide)).trans ((V15_of m c main_c_0 (by decide)).trans ((V14_of m c main_c_0 (by decide)).trans ((V13_of m c main_c_0 (by decide)).trans ((V12_of m c main_c_0 (by decide)).trans ((V11_of m c main_c_0 (by decide)).trans ((V10_of m c main_c_0 (by decide)).trans ((V9_of m c main_c_0 (by decide)).trans ((V8_of m c main_c_0 (by decide)).trans ((V7_of m c main_c_0 (by decide)).trans ((V6_of m c main_c_0 (by decide)).trans ((V5_of m c main_c_0 (by decide)).trans ((V4_of m c main_c_0 (by decide)).trans ((V3_of m c main_c_0 (by decide)).trans ((V2_of m c main_c_0 (by decide)).trans (H_main_c_0 m c)))))))))))))))
  have h1 : V16 m c main_v16 = ((fun _ => BitVec.ofInt 32 (((c.val : ℤ)+1)%16)) : Vec F S_ .i32) := (V16_of m c main_v16 (by decide)).trans ((V15_of m c main_v16 (by decide)).trans ((V14_of m c main_v16 (by decide)).trans ((V13_of m c main_v16 (by decide)).trans ((V12_of m c main_v16 (by decide)).trans ((V11_of m c main_v16 (by decide)).trans ((V10_of m c main_v16 (by decide)).trans ((V9_of m c main_v16 (by decide)).trans ((V8_of m c main_v16 (by decide)).trans ((V7_of m c main_v16 (by decide)).trans ((V6_of m c main_v16 (by decide)).trans ((V5_of m c main_v16 (by decide)).trans ((V4_of m c main_v16 (by decide)).trans (H_main_v16 m c)))))))))))))
  have h2 : V16 m c main_v23 = ((fun _ => BitVec.ofInt 32 (((c.val : ℤ)+15)%16)) : Vec F S_ .i32) := (V16_of m c main_v23 (by decide)).trans ((V15_of m c main_v23 (by decide)).trans ((V14_of m c main_v23 (by decide)).trans ((V13_of m c main_v23 (by decide)).trans ((V12_of m c main_v23 (by decide)).trans ((V11_of m c main_v23 (by decide)).trans ((V10_of m c main_v23 (by decide)).trans ((V9_of m c main_v23 (by decide)).trans ((V8_of m c main_v23 (by decide)).trans ((V7_of m c main_v23 (by decide)).trans ((V6_of m c main_v23 (by decide)).trans (H_main_v23 m c)))))))))))
  have h3 : V16 m c main_v36 = ((fun i => BitVec.ofInt 32 (((c.val : ℤ)+15-((i 0).val : ℤ)/2)%16)) : Vec F S10 .i32) := (V16_of m c main_v36 (by decide)).trans ((V15_of m c main_v36 (by decide)).trans ((V14_of m c main_v36 (by decide)).trans ((V13_of m c main_v36 (by decide)).trans ((V12_of m c main_v36 (by decide)).trans ((V11_of m c main_v36 (by decide)).trans ((V10_of m c main_v36 (by decide)).trans (H_main_v36 m c)))))))
  have h4 : V16 m c main_v48 = ((fun i => BitVec.ofInt 32 (((c.val : ℤ)+1+((i 0).val : ℤ)/2)%16)) : Vec F S10 .i32) := (V16_of m c main_v48 (by decide)).trans ((V15_of m c main_v48 (by decide)).trans ((V14_of m c main_v48 (by decide)).trans (H_main_v48 m c)))
  have h5 : V16 m c main_v49 = ((fun _ => BitVec.ofInt 32 ((c.val : ℤ)%4)) : Vec F S_ .i32) := (V16_of m c main_v49 (by decide)).trans ((V15_of m c main_v49 (by decide)).trans (H_main_v49 m c))
  have h6 : V16 m c main_v59 = ((fun _ => BitVec.ofInt 32 ((paL c : ℤ))) : Vec F S_ .i32) := (V16_of m c main_v59 (by decide)).trans (H_main_v59 m c)
  have h7 : V16 m c main_v69 = ((fun _ => BitVec.ofInt 32 ((pbL c : ℤ))) : Vec F S_ .i32) := (V16_of m c main_v69 (by decide)).trans (H_main_v69 m c)
  have h8 : V16 m c main_v80 = ((fun i => BitVec.ofInt 32 (((c.val : ℤ)+(offL (cls c) (i 0) : ℤ))%16)) : Vec F S5 .i32) := H_main_v80 m c
  revert h0 h1 h2 h3 h4 h5 h6 h7 h8
  show _ → _ → _ → _ → _ → _ → _ → _ → _ → StableHlo.after hostOps0_16 (V16 m c) _ = _
  generalize V16 m c = V
  intro h0 h1 h2 h3 h4 h5 h6 h7 h8
  have e88 : StableHlo.upto hostOps0_16 V 14 main_v88 = ((fun i => BitVec.ofInt 32 (((c.val : ℤ)+1)%16)) : Vec F S1 .i32) := by
    after_reads_simp
    simp only [h0, h1, h2, h3, h4, h5, h6, h7, h8]
    clear h0 h1 h2 h3 h4 h5 h6 h7 h8
    try simp only [StableHlo.TRef.ofBuf, StableHlo.TRef.toBuf, cast_eq, id]
    try dsimp only [BufTy.Contents]
    try dsimp only [Elt]
    refine vext1 1 _ _ ?_
    revert c
    decide +kernel
  have e89 : StableHlo.upto hostOps0_16 V 14 main_v89 = ((fun i => BitVec.ofInt 32 (((c.val : ℤ)+15)%16)) : Vec F S1 .i32) := by
    after_reads_simp
    simp only [h0, h1, h2, h3, h4, h5, h6, h7, h8]
    clear h0 h1 h2 h3 h4 h5 h6 h7 h8 e88
    try simp only [StableHlo.TRef.ofBuf, StableHlo.TRef.toBuf, cast_eq, id]
    try dsimp only [BufTy.Contents]
    try dsimp only [Elt]
    refine vext1 1 _ _ ?_
    revert c
    decide +kernel
  have e90 : StableHlo.upto hostOps0_16 V 14 main_v90 = ((fun i => BitVec.ofInt 32 ((paL c : ℤ))) : Vec F S1 .i32) := by
    after_reads_simp
    simp only [h0, h1, h2, h3, h4, h5, h6, h7, h8]
    clear h0 h1 h2 h3 h4 h5 h6 h7 h8 e88 e89
    try simp only [StableHlo.TRef.ofBuf, StableHlo.TRef.toBuf, cast_eq, id]
    try dsimp only [BufTy.Contents]
    try dsimp only [Elt]
    refine vext1 1 _ _ ?_
    revert c
    decide +kernel
  have e91 : StableHlo.upto hostOps0_16 V 14 main_v91 = ((fun i => BitVec.ofInt 32 ((pbL c : ℤ))) : Vec F S1 .i32) := by
    after_reads_simp
    simp only [h0, h1, h2, h3, h4, h5, h6, h7, h8]
    clear h0 h1 h2 h3 h4 h5 h6 h7 h8 e88 e89 e90
    try simp only [StableHlo.TRef.ofBuf, StableHlo.TRef.toBuf, cast_eq, id]
    try dsimp only [BufTy.Contents]
    try dsimp only [Elt]
    refine vext1 1 _ _ ?_
    revert c
    decide +kernel
  have e92 : StableHlo.upto hostOps0_16 V 14 main_v92 = ((fun i => BitVec.ofInt 32 ((c.val : ℤ)%4)) : Vec F S1 .i32) := by
    after_reads_simp
    simp only [h0, h1, h2, h3, h4, h5, h6, h7, h8]
    clear h0 h1 h2 h3 h4 h5 h6 h7 h8 e88 e89 e90 e91
    try simp only [StableHlo.TRef.ofBuf, StableHlo.TRef.toBuf, cast_eq, id]
    try dsimp only [BufTy.Contents]
    try dsimp only [Elt]
    refine vext1 1 _ _ ?_
    revert c
    decide +kernel
  have e87 : StableHlo.upto hostOps0_16 V 14 main_v87 = ((fun i => BitVec.ofInt 32 (((c.val : ℤ)+(offL (cls c) (i 0) : ℤ))%16)) : Vec F S5 .i32) := by
    after_reads_simp
    simp only [h0, h1, h2, h3, h4, h5, h6, h7, h8]
    clear h0 h1 h2 h3 h4 h5 h6 h7 h8 e88 e89 e90 e91 e92
    try simp only [StableHlo.TRef.ofBuf, StableHlo.TRef.toBuf, cast_eq, id]
    try dsimp only [BufTy.Contents]
    try dsimp only [Elt]
    refine vext1 5 _ _ ?_
    revert c
    decide +kernel
  have e36 : StableHlo.upto hostOps0_16 V 14 main_v36 = ((fun i => BitVec.ofInt 32 (((c.val : ℤ)+15-((i 0).val : ℤ)/2)%16)) : Vec F S10 .i32) := by
    after_reads_simp
    exact h3
  have e48 : StableHlo.upto hostOps0_16 V 14 main_v48 = ((fun i => BitVec.ofInt 32 (((c.val : ℤ)+1+((i 0).val : ℤ)/2)%16)) : Vec F S10 .i32) := by
    after_reads_simp
    exact h4
  after_reads_simp
  refine (cat8 e88 e89 e36 e48 e90 e91 e92 e87).trans ?_
  clear h0 h1 h2 h3 h4 h5 h6 h7 h8 e88 e89 e36 e48 e90 e91 e92 e87
  try dsimp only [BufTy.Contents]
  try dsimp only [Elt]
  refine vext1 30 _ _ ?_
  dsimp only [metaV]
  revert c
  decide +kernel

end Cert.Proof
end
-- ==== Proof.Region.lean ====
module

public import proofs.«01_k».proof.Proof.Run
public import proofs.«01_k».proof.Proof.Host
public import proofs.«01_k».proof.Proof.Gen.Kernel.Points

@[expose] public section

set_option maxRecDepth 20000

noncomputable section

/-!
The kernel as a region of the program: what is owned around its one grid point, and the record of the region.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

open Idealize.ShloMosaic.Pipeline (Dat Cfg BodyObligation cellOf)

variable (m : (ℓ : Loc nD τ sig) → Buf (Elt F) ℓ)

/-- Device `c`'s block of the first argument when the kernel is entered, and of the second. -/
def Xm (c : Dev nD) : Vec F S256x4096 .f32 := V17 m c main_arg0
def Wm (c : Dev nD) : Vec F S4096x512 .f32 := V17 m c main_arg1

/-- The windows' arrays when the kernel is entered. -/
def arrA (c : Dev nD) : (w : Fin 4) → Buf (Elt F) ((win0 w).arr.view.loc (c.tc : Thread nD τ))
  | 0 => V17 m c main_v93
  | 1 => V17 m c main_arg0
  | 2 => V17 m c main_arg1
  | 3 => V17 m c main_v94_0
  | ⟨_ + 4, h⟩ => absurd h (Nat.not_lt.2 (Nat.le_add_left _ _))

/-- What the body leaves in the windows' buffers. -/
def arrZ (c : Dev nD) : (w : Fin 4) → (win0 w).block.Idx → Elt F (win0 w).elt
  | 0 => (metaV (F := F) c : Vec F S30 .i32)
  | 1 => Xm m c
  | 2 => Wm m c
  | 3 => outV (Xm m) (Wm m) c
  | ⟨_ + 4, h⟩ => absurd h (Nat.not_lt.2 (Nat.le_add_left _ _))

/-- What a device is left with besides its buffers. -/
def Yk (c : Dev nD) : sProp 𝕄 := semVal (cellAt c .bar) 0

def dat (c : Dev nD) : Dat τ (Elt F) ℕ ℕ UU ℕ cfg0 c where
  A := arrA m c
  after w _ := arrZ m c w
  Φ t := if t.val = 0 then iprop(Xk (Xm m) (Wm m) c ∗ scr c ∗ ∃ r, prngReg c r) else iprop(Yk c ∗ Sems c ∗ scr c ∗ ∃ r, prngReg c r)
  q _ := fullShare
  owed t := if t.val = 0 then O₀ c else 0

def pdats : (p : Fin 1) → (c : Dev nD) → Dat τ (Elt F) ℕ ℕ UU ℕ (cfgs p) c
  | 0 => dat m
  | ⟨_ + 1, h⟩ => absurd h (Nat.not_lt.2 (Nat.le_add_left _ _))

theorem owed_zero (c : Dev nD) : (dat m c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_succ (c : Dev nD) : (dat m c).owed t0_0.succ = 0 := by
  show (if (t0_0.succ : Fin (cfg0.N + 1)).val = 0 then O₀ c else 0) = 0; exact if_neg (by decide)
theorem owed_last (c : Dev nD) : (dat m c).owed (Fin.last _) = 0 := by
  show (if (Fin.last cfg0.N).val = 0 then O₀ c else 0) = 0
  rw [Fin.val_last, if_neg (by rw [show cfg0.N = 1 from N_0]; decide)]

theorem owesAt_in {cfg : Pipeline.Cfg sig Λ₀} {c : Dev nD} (d : Dat τ (Elt F) ℕ ℕ UU ℕ cfg c) (t : Fin (cfg.N + 1))
    (O : CellTallies nD τ sig ℕ) (h0 : d.owed t = O) (hr : d.recorded t = Set.univ := by first | rfl | skip) :
    iprop(∃ W, owes (c : Thread nD τ) O W) ⊢ (d.owesAt 0 t : sProp 𝕄) := by
  unfold Dat.owesAt Pipeline.owesWithin Dat.bound; rw [h0, hr]
  iintro ⟨%W, HO⟩; iexists W; isplitr; · ipureintro; exact fun _ _ => Or.inl trivial
  iexact HO
theorem owesAt_out {cfg : Pipeline.Cfg sig Λ₀} {c : Dev nD} (d : Dat τ (Elt F) ℕ ℕ UU ℕ cfg c) (t : Fin (cfg.N + 1))
    (O : CellTallies nD τ sig ℕ) (h0 : d.owed t = O) :
    (d.owesAt 0 t : sProp 𝕄) ⊢ iprop(∃ W, owes (c : Thread nD τ) O W) := by
  unfold Dat.owesAt Pipeline.owesWithin; rw [h0]
  iintro ⟨%W, -, HO⟩; iexists W; iexact HO

theorem read0 (c : Dev nD) (f : Buf (Elt F) ((c : Thread nD τ).loc main_v93)) : (win0_0.blk t0_0).view.read (Elt F) f = f :=
  Memref.read_access_unit_zero (Elt F) main_v93
    (show (fun a => (win0_0.index t0_0) a * main_v93.ty.shape.size a) = fun _ => 0 from funext fun a => Nat.zero_mul _)
    (fun a => Nat.le_of_eq ((congrArg (· + main_v93.ty.shape.size a) (Nat.zero_mul (main_v93.ty.shape.size a))).trans (Nat.zero_add _))) f
theorem read1 (c : Dev nD) (f : Buf (Elt F) ((c : Thread nD τ).loc main_arg0)) : (win0_1.blk t0_0).view.read (Elt F) f = f :=
  Memref.read_access_unit_zero (Elt F) main_arg0
    (show (fun a => (win0_1.index t0_0) a * main_arg0.ty.shape.size a) = fun _ => 0 from funext fun a => Nat.zero_mul _)
    (fun a => Nat.le_of_eq ((congrArg (· + main_arg0.ty.shape.size a) (Nat.zero_mul (main_arg0.ty.shape.size a))).trans (Nat.zero_add _))) f
theorem read2 (c : Dev nD) (f : Buf (Elt F) ((c : Thread nD τ).loc main_arg1)) : (win0_2.blk t0_0).view.read (Elt F) f = f :=
  Memref.read_access_unit_zero (Elt F) main_arg1
    (show (fun a => (win0_2.index t0_0) a * main_arg1.ty.shape.size a) = fun _ => 0 from funext fun a => Nat.zero_mul _)
    (fun a => Nat.le_of_eq ((congrArg (· + main_arg1.ty.shape.size a) (Nat.zero_mul (main_arg1.ty.shape.size a))).trans (Nat.zero_add _))) f
theorem read3 (c : Dev nD) (f : Buf (Elt F) ((c : Thread nD τ).loc main_v94_0)) : (win0_3.blk t0_0).view.read (Elt F) f = f :=
  Memref.read_access_unit_zero (Elt F) main_v94_0
    (show (fun a => (win0_3.index t0_0) a * main_v94_0.ty.shape.size a) = fun _ => 0 from funext fun a => Nat.zero_mul _)
    (fun a => Nat.le_of_eq ((congrArg (· + main_v94_0.ty.shape.size a) (Nat.zero_mul (main_v94_0.ty.shape.size a))).trans (Nat.zero_add _))) f
theorem bef0 (c : Dev nD) (t : Fin cfg0.N) (d : (cfg0.win 0).block.Idx → Elt F (cfg0.win 0).elt) : (dat m c).before 0 t d = (metaV (F := F) c : Vec F S30 .i32) := by
  obtain rfl := fin_N0 t
  unfold Dat.before; rw [if_pos (fetch0_0 t0_0)]
  refine Eq.trans (b := (win0_0.blk t0_0).view.read (Elt F) (V17 m c main_v93)) ?_ ?_
  · funext k
    exact (cfg0.win 0).fill_xinj (cfg0.grid.coords t0_0) d ((dat m c).blockOf 0 t0_0) k
  exact (read0 c (V17 m c main_v93)).trans (H_main_v93 m c)
theorem bef1 (c : Dev nD) (t : Fin cfg0.N) (d : (cfg0.win 1).block.Idx → Elt F (cfg0.win 1).elt) : (dat m c).before 1 t d = Xm m c := by
  obtain rfl := fin_N0 t
  unfold Dat.before; rw [if_pos (fetch0_1 t0_0)]
  refine Eq.trans (b := (win0_1.blk t0_0).view.read (Elt F) (V17 m c main_arg0)) ?_ ?_
  · funext k
    exact (cfg0.win 1).fill_xinj (cfg0.grid.coords t0_0) d ((dat m c).blockOf 1 t0_0) k
  exact read1 c (V17 m c main_arg0)
theorem bef2 (c : Dev nD) (t : Fin cfg0.N) (d : (cfg0.win 2).block.Idx → Elt F (cfg0.win 2).elt) : (dat m c).before 2 t d = Wm m c := by
  obtain rfl := fin_N0 t
  unfold Dat.before; rw [if_pos (fetch0_2 t0_0)]
  refine Eq.trans (b := (win0_2.blk t0_0).view.read (Elt F) (V17 m c main_arg1)) ?_ ?_
  · funext k
    exact (cfg0.win 2).fill_xinj (cfg0.grid.coords t0_0) d ((dat m c).blockOf 2 t0_0) k
  exact read2 c (V17 m c main_arg1)

theorem Phi_in (c : Dev nD) : (dat m c).Φ t0_0.castSucc = iprop(Xk (Xm m) (Wm m) c ∗ scr c ∗ ∃ r, prngReg c r) := by
  show (if ((t0_0.castSucc : Fin (cfg0.N + 1)).val = 0) then iprop(Xk (Xm m) (Wm m) c ∗ scr c ∗ ∃ r, prngReg c r) else iprop(Yk c ∗ Sems c ∗ scr c ∗ ∃ r, prngReg c r)) = _; exact if_pos rfl
theorem Phi_out (c : Dev nD) : (dat m c).Φ t0_0.succ = iprop(Yk c ∗ Sems c ∗ scr c ∗ ∃ r, prngReg c r) := by
  show (if ((t0_0.succ : Fin (cfg0.N + 1)).val = 0) then iprop(Xk (Xm m) (Wm m) c ∗ scr c ∗ ∃ r, prngReg c r) else iprop(Yk c ∗ Sems c ∗ scr c ∗ ∃ r, prngReg c r)) = _; exact if_neg (by decide)

theorem body (c : Dev nD) : BodyObligation (dat m c) defs₀ 𝒱₀ 0 Set.univ := fun t => by
  obtain rfl := fin_N0 t
  rw [bigSep_W0, bigSep_W0]
  rw [Phi_in, Phi_out]
  have h0 : iprop(∃ d, owns (c : Thread nD τ) ((cfg0.win 0).stage (cfg0.slots t0_0 0)) fullShare ((dat m c).before 0 t0_0 d)) ⊢ (tbl c : sProp 𝕄) := by
    iintro ⟨%d, H⟩; rw [bef0]; iexact H
  have h1 : iprop(∃ d, owns (c : Thread nD τ) ((cfg0.win 1).stage (cfg0.slots t0_0 1)) fullShare ((dat m c).before 1 t0_0 d)) ⊢ (owns (c : Thread nD τ) xW fullShare (Xm m c) : sProp 𝕄) := by
    iintro ⟨%d, H⟩; rw [bef1]; iexact H
  have h2 : iprop(∃ d, owns (c : Thread nD τ) ((cfg0.win 2).stage (cfg0.slots t0_0 2)) fullShare ((dat m c).before 2 t0_0 d)) ⊢ (wwl (Wm m) c : sProp 𝕄) := by
    iintro ⟨%d, H⟩; rw [bef2]; iexact H
  have h3 : iprop(∃ d, owns (c : Thread nD τ) ((cfg0.win 3).stage (cfg0.slots t0_0 3)) fullShare ((dat m c).before 3 t0_0 d)) ⊢ (Out0 c : sProp 𝕄) := by
    unfold Out0
    iintro ⟨%d, H⟩; iexists _; iexact H
  have hO := owesAt_out (dat m c) t0_0.castSucc (O₀ c) (owed_first m c)
  have hN := owesAt_in (dat m c) t0_0.succ 0 (owed_succ m c)
  iintro ⟨⟨HX, HS, Hp⟩, HO, H0, H1, H2, H3⟩
  ihave H0 := h0 $$ H0
  ihave H1 := h1 $$ H1
  ihave H2 := h2 $$ H2
  ihave H3 := h3 $$ H3
  ihave HO := hO $$ HO
  have hrun := run (Xm m) (Wm m) c
  have hy : (semVal (cellAt c .bar) 0 : sProp 𝕄) ⊢ Yk c := BIBase.Entails.rfl
  iapply (wp_wand_r frame (wpE (defs₀ (F := F)) 𝒱₀ (c : Thread nD τ) none) Set.univ)
  isplitl [HX HS HO H0 H1 H2 H3]
  · iapply hrun
    isplitl [HX]
    · iexact HX
    isplitl [HS]
    · iexact HS
    isplitl [HO]
    · iexact HO
    isplitl [H0]
    · iexact H0
    isplitl [H1]
    · iexact H1
    isplitl [H2]
    · iexact H2
    iexact H3
  iintro %_ ⟨⟨HY, HS, Hc, H1, HO⟩, H0, H2, H3⟩
  isplitl [HY HS Hc Hp]
  · isplitl [HY]
    · iapply hy $$ HY
    isplitl [HS]
    · iexact HS
    isplitl [Hc]
    · iexact Hc
    iexact Hp
  isplitl [HO]
  · iapply hN $$ HO
  isplitl [H0]
  · iexact H0
  isplitl [H1]
  · iexact H1
  isplitl [H2]
  · iexact H2
  iexact H3

/-! ## The record of the region -/

theorem osem_facts : Pipeline.OwnSemFacts spec0 osem := by decide +kernel

theorem scoped_eq (c : Dev nD) : (Pipeline.scopedRest (Ix := ℕ) (Name := ℕ) (U := UU) (Lvl := ℕ) (Val := Elt F) spec0 c : sProp 𝕄) = scr c := by
  rw [scopedRest0_eq]
  unfold scr
  simp only [← owns_whole]
  rfl

/-- What a device brings to the region, its own cells closed. -/
def Tk (c : Dev nD) : sProp 𝕄 := iprop(∃ κ ιs, Invs (Xm m) (Wm m) κ ιs ∗ (bigSep (Finset.univ.erase Kd.bar) fun k => openTok ER (cellAt c k)) ∗ Xr c)

theorem hopen (c : Dev nD) : iprop(Tk m c ∗ Pipeline.ownSems0 osem c ∗ levAts L lv) ⊢ (|={Set.univ}=> Xk (Xm m) (Wm m) c : sProp 𝕄) := by
  have g := bigSep_univ_at (fun k => (semVal ((c : Thread nD τ), osem k) 0 : sProp 𝕄)) Kd.bar
  have g2 : (bigSep (Finset.univ.erase Kd.bar) fun k => (semVal ((c : Thread nD τ), osem k) 0 : sProp 𝕄)) = bigSep (Finset.univ.erase Kd.bar) fun k => semVal (cellAt c k) 0 :=
    bigSep_congr fun k hk => by unfold osem; rw [if_neg (Finset.mem_erase.mp hk).1]
  rw [g2] at g
  have g' : (Pipeline.ownSems0 osem c : sProp 𝕄) ⊢ iprop(Zs c ∗ bigSep (Finset.univ.erase Kd.bar) fun k => semVal (cellAt c k) 0) := Entails.of_eq g
  unfold Tk Xk
  iintro ⟨⟨%κ, %ιs, #HI, Ho, HX⟩, HS, -⟩
  ihave HS := g' $$ HS
  icases HS with ⟨HZ, HS⟩
  have h : iprop(Invs (Xm m) (Wm m) κ ιs ∗ bigSep (Finset.univ.erase Kd.bar) fun k => openTok ER (cellAt c k))
      ⊢ (bigSep (Finset.univ.erase Kd.bar) fun k => iprop(cellInv ER (Rd (Xm m) (Wm m)) (κ (cellAt c k)) (cellAt c k) ∗ openTok ER (cellAt c k)) : sProp 𝕄) :=
    bigSep_with_persistent fun k _ => by
      iintro ⟨#HI, H⟩
      isplitr
      · iapply (Invs_cell (Xm m) (Wm m) κ ιs c k) $$ HI
      iexact H
  imod (cells_open ER (Rd (Xm m) (Wm m)) (Finset.univ.erase Kd.bar) (fun k => cellAt c k) (fun k => κ (cellAt c k)) (Es := Set.univ) (fun _ _ => Set.mem_univ _)) $$ [Ho HS] with H
  · isplitl [Ho]
    · iapply h
      isplitr
      · iexact HI
      iexact Ho
    iexact HS
  imodintro
  iexists κ; iexists ιs
  isplitr
  · iexact HI
  isplitl [H]
  · iexact H
  isplitl [HZ]
  · iexact HZ
  iexact HX

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers when the kernel has ended. -/
def V18' (c : Dev nD) : Valuation τ sig (Elt F) := Function.update (V17 m c) main_v94_0 (outV (Xm m) (Wm m) c)

theorem held_nil (c : Dev nD) (W : Valuation τ sig (Elt F)) : (StableHlo.held (c.tc : Thread nD τ) ∅ W : sProp 𝕄) = BI.emp := by
  unfold StableHlo.held; exact bigSep_empty

theorem dlv_pos : ∀ n ∈ Finset.Ico 0 49, 0 < dlv (dueAt n) := by decide

theorem O₀_lev (c : Dev nD) (g : GSem nD τ sig) (i : ℕ) (h : 0 < O₀ c g i) : i ∈ L g ∧ (0 : ℕ) < lv g i := by
  unfold O₀ at h
  obtain ⟨hg, ⟨n, hn, rfl⟩ | ⟨n, hn, rfl⟩⟩ := owed_pos h
  · exact ⟨mem_L _ hg _ (dlv_lt n hn), dlv_pos n hn⟩
  · exact ⟨mem_L _ hg _ (by have := (Finset.mem_Ico.mp hn).2; unfold llv; omega), by show 0 < llv n; unfold llv; omega⟩

theorem cut (c : Dev nD) (t : Fin (cfg0.N + 1)) (g : GSem nD τ sig) (i : ℕ) (h : 0 < (dat m c).owed t g i) : i ∈ L g ∧ (0 : ℕ) < lv g i := by
  have e : (dat m c).owed t = if t.val = 0 then O₀ c else 0 := rfl
  rw [e] at h
  split at h
  · exact O₀_lev c g i h
  · exact absurd h (Nat.lt_irrefl 0)

theorem Phi_first (c : Dev nD) : (dat m c).Φ (0 : Fin (cfg0.N + 1)) = iprop(Xk (Xm m) (Wm m) c ∗ scr c ∗ ∃ r, prngReg c r) := by
  show (if ((0 : Fin (cfg0.N + 1)).val = 0) then iprop(Xk (Xm m) (Wm m) c ∗ scr c ∗ ∃ r, prngReg c r) else iprop(Yk c ∗ Sems c ∗ scr c ∗ ∃ r, prngReg c r)) = _; exact if_pos rfl
theorem Phi_last (c : Dev nD) : (dat m c).Φ (Fin.last cfg0.N) = iprop(Yk c ∗ Sems c ∗ scr c ∗ ∃ r, prngReg c r) := by
  show (if ((Fin.last cfg0.N).val = 0) then iprop(Xk (Xm m) (Wm m) c ∗ scr c ∗ ∃ r, prngReg c r) else iprop(Yk c ∗ Sems c ∗ scr c ∗ ∃ r, prngReg c r)) = _
  exact if_neg (by rw [Fin.val_last, show cfg0.N = 1 from N_0]; decide)

theorem hin (c : Dev nD) : iprop(Pipeline.scopedRest (Pipeline.pin (pcfgs (F := F)) adm 0).spec c ∗ (∃ r, prngReg c r) ∗ StableHlo.held (c.tc : Thread nD τ) ∅ (V17 m c) ∗ Xk (Xm m) (Wm m) c)
    ⊢ (pdats m 0 c).Φ 0 := by
  rw [show (pdats m 0 c).Φ 0 = iprop(Xk (Xm m) (Wm m) c ∗ scr c ∗ ∃ r, prngReg c r) from Phi_first m c,
    show (Pipeline.scopedRest (Pipeline.pin (pcfgs (F := F)) adm 0).spec c : sProp 𝕄) = scr c from scoped_eq c]
  iintro ⟨HS, Hp, -, HX⟩
  isplitl [HX]
  · iexact HX
  isplitl [HS]
  · iexact HS
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V18' m c) ∗ Pipeline.ownSems0 osem c ∗ Yk c) := by
  rw [show (pdats m 0 c).Φ (Fin.last (Pipeline.pin (pcfgs (F := F)) adm 0).N) = iprop(Yk c ∗ Sems c ∗ scr c ∗ ∃ r, prngReg c r) from Phi_last m c,
    show (Pipeline.scopedRest (Pipeline.pin (pcfgs (F := F)) adm 0).spec c : sProp 𝕄) = scr c from scoped_eq c, held_nil]
  have hs : (Sems c : sProp 𝕄) ⊢ Pipeline.ownSems0 osem c := BIBase.Entails.rfl
  iintro ⟨HY, HS, Hc, Hp⟩
  isplitl [Hc]
  · iexact Hc
  isplitl [Hp]
  · iexact Hp
  isplitr
  · iempintro
  isplitl [HS]
  · iapply hs $$ HS
  iexact HY

theorem arr_first (c : Dev nD) (w : Fin 4) : (pdats m 0 c).arrAt w 0 = V17 m c (Proc.devRef .tc (Pipeline.arrRef spec0 w)) := by
  match w with
  | 0 => rfl
  | 1 => rfl
  | 2 => rfl
  | 3 => rfl

theorem fl0 : (cfg0.win 0).flush t0_0 = false := by decide +kernel
theorem fl1 : (cfg0.win 1).flush t0_0 = false := by decide +kernel
theorem fl2 : (cfg0.win 2).flush t0_0 = false := by decide +kernel

theorem share_full (c : Dev nD) (w : Fin 4) : (dat m c).share w = fullShare := by
  unfold Dat.share; split <;> rfl

theorem arr_last (c : Dev nD) (w : Fin 4) : (pdats m 0 c).arrAt w cfg0.N = V18' m c (Proc.devRef .tc (Pipeline.arrRef spec0 w)) := by
  show (dat m c).arrAt w cfg0.N = _
  match w with
  | 0 =>
    rw [show cfg0.N = t0_0.val + 1 from rfl, (dat m c).arrAt_succ (0 : Fin 4) t0_0, fl0, if_neg Bool.false_ne_true]
    refine Eq.trans (b := V17 m c main_v93) rfl ?_
    exact (Function.update_of_ne (by decide : (main_v93 : DevRef τ sig) ≠ main_v94_0) _ _).symm
  | 1 =>
    rw [show cfg0.N = t0_0.val + 1 from rfl, (dat m c).arrAt_succ (1 : Fin 4) t0_0, fl1, if_neg Bool.false_ne_true]
    refine Eq.trans (b := V17 m c main_arg0) rfl ?_
    exact (Function.update_of_ne (by decide : (main_arg0 : DevRef τ sig) ≠ main_v94_0) _ _).symm
  | 2 =>
    rw [show cfg0.N = t0_0.val + 1 from rfl, (dat m c).arrAt_succ (2 : Fin 4) t0_0, fl2, if_neg Bool.false_ne_true]
    refine Eq.trans (b := V17 m c main_arg1) rfl ?_
    exact (Function.update_of_ne (by decide : (main_arg1 : DevRef τ sig) ≠ main_v94_0) _ _).symm
  | 3 =>
    have hw : ((cfg0.win 3).blk t0_0).view.read (Elt F) ((dat m c).arrAt 3 cfg0.N) = outV (Xm m) (Wm m) c := by
      rw [show cfg0.N = t0_0.val + 1 from rfl, (dat m c).arrAt_succ (3 : Fin 4) t0_0, flush0_3, if_pos rfl]
      exact View.read_write_univ _ _
    refine Eq.trans ?_ (Function.update_self (β := fun b : DevRef τ sig => b.ty.Contents (Elt F)) main_v94_0 (outV (Xm m) (Wm m) c) (V17 m c)).symm
    exact (read3 c _).symm.trans hw

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem osem_facts
    ∅ ∅ (Finset.Subset.refl _) kit rfl (fun c => (body m c).loose)
    (fun _ => 0) O₀ (fun c => (owed_zero m c).trans (zero_add _).symm) (owed_last m) (fun _ => rfl) (share_full m)
    (V17 m) (V18' m) (fun _ b hb => absurd hb (by rw [Finset.sdiff_self]; exact Finset.notMem_empty b))
    (Tk m) Yk (fun c => Xk (Xm m) (Wm m) c) Yk (hopen m) (hin m) (hout m)
    (fun c => by iintro H; imodintro; iexact H)
    (fun _ => 0)
    ⟨fun c w s => mem_L _ rfl _ (by decide), fun _ _ _ => Nat.le_refl 0, fun c t g i h => cut m c t g i h⟩
    (fun _ => iprop(emp))
    (arr_first m) (arr_last m)

end Cert.Proof
end
-- ==== Proof.Tok.lean ====
module

public import proofs.«01_k».proof.Proof.Run

@[expose] public section

set_option maxRecDepth 20000

noncomputable section

/-!
The tokens that each device spends.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

/-! ## Which tokens a device spends -/

/-- The cell, round and duty of the tokens of a due: at the cell it goes to, -/
def tkA (c : Dev nD) : Due → Dev nD × Kd × ℕ × ℕ
  | .bar i => (barTo c i, .bar, 0, i)
  | .ring d j => (rto c d, .recv d (f5 j), j / 5, 0)
  | .cr d n => (rfrom c d, .cr d, 0, n)
  | .am j => (adv c (1 + j), .arecv c, 0, 0)
/-- at the sender's own cell (a token never spent, where there is none), -/
def tkB (c : Dev nD) (n : ℕ) : Due → Dev nD × Kd × ℕ × ℕ
  | .bar _ => (c, .bar, 100 + n, 0)
  | .ring d j => (c, .send d (f5 j), j / 5, 0)
  | .cr _ _ => (c, .bar, 100 + n, 0)
  | .am j => (c, .asend (adv c (1 + j)), 0, 0)
/-- and the slot it writes. -/
def tkW (c : Dev nD) : Due → (Dev nD × Kd) × ℕ
  | .bar i => ((c, .send false (f5 i)), 0)
  | .ring d j => ((rto c d, .recv d (f5 j)), j / 5)
  | .cr d n => ((c, .rsend (f10 (if d then 5 + n else n))), 0)
  | .am j => ((adv c (1 + j), .arecv c), 0)
def tokA (c : Dev nD) (n : ℕ) : Dev nD × Kd × ℕ × ℕ := if n < 49 then tkA c (dueAt n) else (rmate c (n - 49), .rrecv (f10 (n - 49)), 0, 0)
def tokB (c : Dev nD) (n : ℕ) : Dev nD × Kd × ℕ × ℕ := if n < 49 then tkB c n (dueAt n) else (c, .rsend (f10 (n - 49)), 0, 0)
def tokW (c : Dev nD) (n : ℕ) : (Dev nD × Kd) × ℕ :=
  if n < 49 then tkW c (dueAt n) else if n < 59 then ((rmate c (n - 49), .rrecv (f10 (n - 49))), 0) else ((c, .arecv c), 0)
def tokOf (x : Dev nD × Fin 59 × Bool) : Dev nD × Kd × ℕ × ℕ := if x.2.2 then tokB x.1 x.2.1.val else tokA x.1 x.2.1.val
def wOf (x : Dev nD × Fin 60) : (Dev nD × Kd) × ℕ := tokW x.1 x.2.val

/-- A number that does not depend on the device and tells a device's tokens apart. -/
def tagOf (y : Dev nD × Kd × ℕ × ℕ) : ℕ := match y.2.1 with
  | .bar => 100 * y.2.2.1 + y.2.2.2
  | .cr d => 100000 + 1000 * d.toNat + y.2.2.2
  | .recv d s => 200000 + 10000 * d.toNat + 100 * s.val + y.2.2.1
  | .send d s => 300000 + 10000 * d.toNat + 100 * s.val + y.2.2.1
  | .rrecv t => 400000 + t.val
  | .rsend t => 410000 + t.val
  | .arecv o => 420000 + (y.1.val + 16 - o.val) % 16
  | .asend o => 430000 + (o.val + 16 - y.1.val) % 16

theorem tag_tok : ∀ x : Dev nD × Fin 59 × Bool, tagOf (tokOf x) = tagOf (tokOf (0, x.2)) := by decide +kernel
theorem tag_inj : ∀ x y : Fin 59 × Bool, tagOf (tokOf (0, x)) = tagOf (tokOf (0, y)) → x = y := by decide +kernel
theorem dev_inj : ∀ (x : Fin 59 × Bool) (c d : Dev nD), (tokOf (c, x)).1 = (tokOf (d, x)).1 → c = d := by decide +kernel

theorem tok_inj : Function.Injective tokOf := fun x y h => by
  have h2 : x.2 = y.2 := tag_inj _ _ (by rw [← tag_tok x, ← tag_tok y, h])
  refine Prod.ext (dev_inj x.2 _ _ ?_) h2
  have hy : (y.1, x.2) = y := by rw [h2]
  rw [hy]
  exact congrArg Prod.fst h

theorem tag_w : ∀ x : Dev nD × Fin 60, tagOf ((wOf x).1.1, (wOf x).1.2, (wOf x).2, 0) = tagOf ((wOf (0, x.2)).1.1, (wOf (0, x.2)).1.2, (wOf (0, x.2)).2, 0) := by decide +kernel
theorem tagw_inj : ∀ x y : Fin 60, tagOf ((wOf (0, x)).1.1, (wOf (0, x)).1.2, (wOf (0, x)).2, 0) = tagOf ((wOf (0, y)).1.1, (wOf (0, y)).1.2, (wOf (0, y)).2, 0) → x = y := by decide +kernel
theorem devw_inj : ∀ (x : Fin 60) (c d : Dev nD), (wOf (c, x)).1.1 = (wOf (d, x)).1.1 → c = d := by decide +kernel

theorem w_inj : Function.Injective wOf := fun x y h => by
  have h2 : x.2 = y.2 := tagw_inj _ _ (by rw [← tag_w x, ← tag_w y, h])
  refine Prod.ext (devw_inj x.2 _ _ ?_) h2
  have hy : (y.1, x.2) = y := by rw [h2]
  rw [hy]
  exact congrArg (fun z => z.1.1) h

theorem w_lt : ∀ x : Dev nD × Fin 60, (wOf x).2 < 2 := by decide +kernel

/-! ## Dealing them -/

theorem cell_inj : Function.Injective (fun x : Dev nD × Kd => (cellAt x.1 x.2 : GSem nD τ sig)) := fun x y h =>
  Prod.ext (congrArg (fun g : GSem nD τ sig => g.1.1) h) (semOf_inj (congrArg Prod.snd h))

def allToks : Finset (GSem nD τ sig × ℕ × ℕ) :=
  Finset.univ.map ⟨fun x : Dev nD × Fin 59 × Bool => (cellAt (tokOf x).1 (tokOf x).2.1, (tokOf x).2.2.1, (tokOf x).2.2.2), fun x y h =>
    tok_inj (by
      have h1 : ((tokOf x).1, (tokOf x).2.1) = ((tokOf y).1, (tokOf y).2.1) := cell_inj (congrArg (fun z : GSem nD τ sig × ℕ × ℕ => z.1) h)
      exact Prod.ext (congrArg (fun z : Dev nD × Kd => z.1) h1) (Prod.ext (congrArg (fun z : Dev nD × Kd => z.2) h1)
        (Prod.ext (congrArg (fun z : GSem nD τ sig × ℕ × ℕ => z.2.1) h) (congrArg (fun z : GSem nD τ sig × ℕ × ℕ => z.2.2) h))))⟩

def dt (y : Dev nD × Kd × ℕ × ℕ) : sProp 𝕄 := dutyTok ER (cellAt y.1 y.2.1) y.2.2.1 y.2.2.2
def wt (y : (Dev nD × Kd) × ℕ) : sProp 𝕄 := writeTok ES y.1 (y.2 + 1)

theorem big_bool (Φ : Bool → sProp 𝕄) : bigSep Finset.univ Φ = BIBase.sep (Φ false) (Φ true) := by
  rw [show (Finset.univ : Finset Bool) = {false, true} from by decide, bigSep_insert (by decide), bigSep_singleton]
  rfl

theorem toks_eq : (bigSep allToks fun x => dutyTok ER x.1 x.2.1 x.2.2 : sProp 𝕄)
    = bigSep Finset.univ fun c : Dev nD => bigSep (Finset.Ico 0 59) fun n => BIBase.sep (dt (tokA c n)) (dt (tokB c n)) := by
  unfold allToks
  rw [bigSep_map, bigSep_univ_prod]
  refine bigSep_congr fun c _ => ?_
  rw [bigSep_univ_prod]
  refine fin_Ico _ _ fun n => ?_
  rw [big_bool]
  rfl

def wSet : Finset ((Dev nD × Kd) × ℕ) := (Finset.univ : Finset (Dev nD × Fin 60)).image wOf

theorem w_deal (Φ : (Dev nD × Kd) × ℕ → sProp 𝕄) : bigSep wSet Φ
    = bigSep Finset.univ fun c : Dev nD => bigSep (Finset.Ico 0 60) fun n => Φ (tokW c n) := by
  have h1 : bigSep wSet Φ = bigSep Finset.univ fun x => Φ (wOf x) := by
    unfold wSet
    exact bigSep_image_of_injOn (Set.injOn_of_injective w_inj) Φ
  have h2 : (bigSep Finset.univ fun x : Dev nD × Fin 60 => Φ (wOf x)) = bigSep Finset.univ fun c : Dev nD => bigSep Finset.univ fun n : Fin 60 => Φ (wOf (c, n)) :=
    bigSep_univ_prod _
  rw [h1, h2]
  exact bigSep_congr fun c _ => fin_Ico (fun n => Φ (wOf (c, n))) (fun n => Φ (tokW c n)) fun n => rfl

theorem big_sub {s t : Finset ((Dev nD × Kd) × ℕ)} (h : t ⊆ s) (Φ : (Dev nD × Kd) × ℕ → sProp 𝕄) : bigSep s Φ ⊢ bigSep t Φ := bigSep_subset h

end Cert.Proof
end
-- ==== Proof.Deal.lean ====
module

public import proofs.«01_k».proof.Proof.Tok

@[expose] public section

set_option maxRecDepth 20000

noncomputable section

/-!
The tokens of the launch, dealt to the devices.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

theorem w_mem (x : Dev nD × Fin 60) : wOf x ∈ (Finset.univ : Finset (Dev nD × Kd)) ×ˢ Finset.range 2 := by
  rw [Finset.mem_product]
  exact ⟨Finset.mem_univ _, Finset.mem_range.mpr (w_lt x)⟩

theorem big_to {s t : Finset ((Dev nD × Kd) × ℕ)} {Φ : (Dev nD × Kd) × ℕ → sProp 𝕄} {R : sProp 𝕄} (e : bigSep t Φ = R) (h : t ⊆ s) : bigSep s Φ ⊢ R := by
  subst e; exact big_sub h Φ
theorem w_sub (s : Finset ((Dev nD × Kd) × ℕ)) (hs : ∀ x, wOf x ∈ s) : wSet ⊆ s := Finset.image_subset_iff.mpr fun x _ => hs x
theorem wtoks (s : Finset ((Dev nD × Kd) × ℕ)) (hs : ∀ x, wOf x ∈ s) (Φ : (Dev nD × Kd) × ℕ → sProp 𝕄) : bigSep s Φ
    ⊢ bigSep Finset.univ fun c : Dev nD => bigSep (Finset.Ico 0 60) fun n => Φ (tokW c n) := by
  have h := w_sub s hs
  have e := w_deal Φ
  exact big_to e h

theorem due_tok (c : Dev nD) (n : ℕ) (h : n < 49) : iprop(dt (tokA c n) ∗ dt (tokB c n) ∗ wt (tokW c n)) ⊢ (dtok c (dueAt n) : sProp 𝕄) := by
  unfold tokA tokB tokW
  rw [if_pos h, if_pos h, if_pos h]
  generalize dueAt n = u
  unfold dt wt dtok
  cases u with
  | bar i => iintro ⟨H, -, -⟩; iexact H
  | ring d j =>
    iintro ⟨H, HB, HW⟩
    isplitl [H]
    · iexact H
    isplitl [HB]
    · iexact HB
    iexact HW
  | cr d k => iintro ⟨H, -, -⟩; iexact H
  | am j =>
    iintro ⟨H, HB, HW⟩
    isplitl [H]
    · iexact H
    isplitl [HB]
    · iexact HB
    iexact HW

theorem rel_tok (c : Dev nD) (n : ℕ) (h : n < 10) : iprop(dt (tokA c (49 + n)) ∗ dt (tokB c (49 + n)) ∗ wt (tokW c (49 + n))) ⊢ (ltok c n : sProp 𝕄) := by
  unfold tokA tokB tokW
  rw [if_neg (by omega), if_neg (by omega), if_neg (by omega), if_pos (by omega), Nat.add_sub_cancel_left]
  unfold dt wt ltok
  iintro ⟨H, HB, HW⟩
  isplitl [H]
  · iexact H
  isplitl [HB]
  · iexact HB
  iexact HW

theorem Ico_cut (a b n : ℕ) (h : a ≤ b) (h' : b ≤ n) (Φ : ℕ → sProp 𝕄) : bigSep (Finset.Ico a n) Φ = BIBase.sep (bigSep (Finset.Ico a b) Φ) (bigSep (Finset.Ico b n) Φ) := by
  rw [← Finset.Ico_union_Ico_eq_Ico h h', bigSep_union (Finset.Ico_disjoint_Ico_consecutive a b n)]
  rfl

theorem deal (c : Dev nD) : iprop((bigSep (Finset.Ico 0 59) fun n => iprop(dt (tokA c n) ∗ dt (tokB c n))) ∗ bigSep (Finset.Ico 0 60) fun n => wt (tokW c n))
    ⊢ (Tks c : sProp 𝕄) := by
  have h1 : (bigSep (Finset.Ico 0 59) fun n => iprop(dt (tokA c n) ∗ dt (tokB c n)) : sProp 𝕄)
      ⊢ iprop((bigSep (Finset.Ico 0 49) fun n => iprop(dt (tokA c n) ∗ dt (tokB c n))) ∗ bigSep (Finset.Ico 0 10) fun n => iprop(dt (tokA c (49 + n)) ∗ dt (tokB c (49 + n)))) :=
    Entails.of_eq (by rw [Ico_cut 0 49 59 (by decide) (by decide)]; exact congrArg _ (Ico_sh 49 10 _))
  have h2 : (bigSep (Finset.Ico 0 60) fun n => wt (tokW c n) : sProp 𝕄)
      ⊢ iprop((bigSep (Finset.Ico 0 49) fun n => wt (tokW c n)) ∗ (bigSep (Finset.Ico 0 10) fun n => wt (tokW c (49 + n))) ∗ wt (tokW c 59)) :=
    Entails.of_eq (by
      rw [Ico_cut 0 49 60 (by decide) (by decide), Ico_cut 49 59 60 (by decide) (by decide), show Finset.Ico 59 60 = {59} from by decide, bigSep_singleton]
      exact congrArg _ (congrArg (fun z => BIBase.sep z _) (Ico_sh 49 10 _)))
  have h3 : iprop((bigSep (Finset.Ico 0 49) fun n => iprop(dt (tokA c n) ∗ dt (tokB c n))) ∗ bigSep (Finset.Ico 0 49) fun n => wt (tokW c n))
      ⊢ (bigSep (Finset.Ico 0 49) fun n => dtok c (dueAt n) : sProp 𝕄) := by
    rw [← bigSep_sep']
    refine bigSep_mono fun n hn => BIBase.Entails.trans ?_ (due_tok c n (Finset.mem_Ico.mp hn).2)
    iintro ⟨⟨HA, HB⟩, HW⟩
    isplitl [HA]
    · iexact HA
    isplitl [HB]
    · iexact HB
    iexact HW
  have h4 : iprop((bigSep (Finset.Ico 0 10) fun n => iprop(dt (tokA c (49 + n)) ∗ dt (tokB c (49 + n)))) ∗ bigSep (Finset.Ico 0 10) fun n => wt (tokW c (49 + n)))
      ⊢ (bigSep (Finset.Ico 0 10) fun n => ltok c n : sProp 𝕄) := by
    rw [← bigSep_sep']
    refine bigSep_mono fun n hn => BIBase.Entails.trans ?_ (rel_tok c n (Finset.mem_Ico.mp hn).2)
    iintro ⟨⟨HA, HB⟩, HW⟩
    isplitl [HA]
    · iexact HA
    isplitl [HB]
    · iexact HB
    iexact HW
  have h5 : (wt (tokW c 59) : sProp 𝕄) ⊢ writeTok ES (c, Kd.arecv c) 1 := BIBase.Entails.rfl
  unfold Tks
  iintro ⟨HT, HW⟩
  ihave HT := h1 $$ HT
  icases HT with ⟨HT, HL⟩
  ihave HW := h2 $$ HW
  icases HW with ⟨HW, HV, H1⟩
  isplitl [HT HW]
  · iapply h3
    isplitl [HT]
    · iexact HT
    iexact HW
  isplitl [HL HV]
  · iapply h4
    isplitl [HL]
    · iexact HL
    iexact HV
  iapply h5 $$ H1

end Cert.Proof
end
-- ==== Proof.Cred.lean ====
module

public import proofs.«01_k».proof.Proof.Run

@[expose] public section

set_option maxRecDepth 20000

noncomputable section

/-!
What the other devices owe to a device at the launch, as the queues of its waits hold it.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

deriving instance DecidableEq for Due

/-! ## What is owed to a device at the start -/

/-- The cell of the receiver that a due goes to. -/
def rk (c : Dev nD) : Due → Kd
  | .bar _ => .bar
  | .ring d j => .recv d (f5 j)
  | .cr d _ => .cr d
  | .am j => .arecv (adv c (15 - j))
def rtal (c : Dev nD) (u : Due) : CellTallies nD τ sig ℕ := tallyAt (cellAt c (rk c u)) (dlv u) (kamt (rk c u))
def rltal (c : Dev nD) (t : ℕ) : CellTallies nD τ sig ℕ := tallyAt (cellAt c (.rrecv (f10 t))) (llv t) NR
def recvd (c : Dev nD) : CellTallies nD τ sig ℕ := (∑ n ∈ Finset.Ico 0 49, rtal c (dueAt n)) + ∑ t ∈ Finset.Ico 0 10, rltal c t

theorem rk_eq : ∀ (n : Fin 49) (d : Dev nD), (dtgt d (dueAt n.val)).2 = rk (dtgt d (dueAt n.val)).1 (dueAt n.val) := by decide +kernel
theorem to_inj : ∀ (n : Fin 49) (d d' : Dev nD), (dtgt d (dueAt n.val)).1 = (dtgt d' (dueAt n.val)).1 → d = d' := by decide +kernel
theorem mate_inj : ∀ (n : Fin 10) (d d' : Dev nD), rmate d n.val = rmate d' n.val → d = d' := by decide +kernel

theorem sum_due (n : ℕ) (h : n < 49) : (∑ d, dtal d (dueAt n)) = ∑ c, rtal c (dueAt n) := by
  refine Fintype.sum_bijective (fun d : Dev nD => (dtgt d (dueAt n)).1) ?_ _ _ fun d => ?_
  · exact Finite.injective_iff_bijective.mp fun d d' e => to_inj ⟨n, h⟩ d d' e
  · show tallyAt (cellAt (dtgt d (dueAt n)).1 (dtgt d (dueAt n)).2) (dlv (dueAt n)) (kamt (dtgt d (dueAt n)).2) = rtal (dtgt d (dueAt n)).1 (dueAt n)
    unfold rtal
    rw [rk_eq ⟨n, h⟩ d]
theorem sum_rel (t : ℕ) (h : t < 10) : (∑ d, ltal d t) = ∑ c, rltal c t := by
  refine Fintype.sum_bijective (fun d : Dev nD => rmate d t) ?_ _ _ fun d => rfl
  exact Finite.injective_iff_bijective.mp fun d d' e => mate_inj ⟨t, h⟩ d d' e

theorem sum_all : (∑ d, O₀ d) = ∑ c, recvd c := by
  unfold O₀ recvd owedD owedL
  rw [Finset.sum_add_distrib, Finset.sum_add_distrib, Finset.sum_comm, Finset.sum_congr rfl fun n hn => sum_due n (Finset.mem_Ico.mp hn).2,
    Finset.sum_comm (s := Finset.univ) (t := Finset.Ico 0 10), Finset.sum_congr rfl fun n hn => sum_rel n (Finset.mem_Ico.mp hn).2]
  congr 1
  · exact Finset.sum_comm
  · exact Finset.sum_comm

theorem recvd_own (d : Dev nD) (g : GSem nD τ sig) (h : recvd d g ≠ 0) : g.1 = (d.tc : Thread nD τ) := by
  by_contra hne
  have z (k : Kd) (i a : ℕ) : tallyAt (cellAt d k) i a g = 0 := tallyAt_ne_cell (fun e => hne (congrArg Prod.fst e)) i a
  refine h ?_
  unfold recvd
  rw [Pi.add_apply, Finset.sum_apply, Finset.sum_apply, Finset.sum_eq_zero (f := fun n => rtal d (dueAt n) g) fun n _ => z _ _ _,
    Finset.sum_eq_zero (f := fun n => rltal d n g) fun n _ => z _ _ _, add_zero]

theorem cred_sum (s : Finset ℕ) (f : ℕ → CellTallies nD τ sig ℕ) : (cred (∑ n ∈ s, f n) : sProp 𝕄) = bigSep s fun n => cred (f n) := by
  induction s using Finset.induction with
  | empty => rw [Finset.sum_empty, cred_zero, bigSep_empty]; rfl
  | insert c s hc ih => rw [Finset.sum_insert hc, bigSep_insert hc, Entails.antisymm (cred_add _ _).1 (cred_add _ _).2, ih]; rfl

theorem launch_cred (c : Dev nD) : (Pipeline.launchCred O₀ c : sProp 𝕄)
    = BIBase.sep (bigSep (Finset.Ico 0 49) fun n => cred (rtal c (dueAt n))) (bigSep (Finset.Ico 0 10) fun t => cred (rltal c t)) := by
  rw [Pipeline.launchCred_of_sum O₀ recvd sum_all recvd_own c]
  unfold recvd
  rw [Entails.antisymm (cred_add _ _).1 (cred_add _ _).2, cred_sum, cred_sum]

theorem due_inj : ∀ a ∈ Finset.Ico 0 49, ∀ b ∈ Finset.Ico 0 49, dueAt a = dueAt b → a = b := by decide +kernel
theorem due_img : (Finset.Ico 0 49).image dueAt = (Finset.Ico 0 4).image Due.bar ∪ ((Finset.Ico 0 10).image (Due.ring false) ∪ ((Finset.Ico 0 10).image (Due.ring true)
    ∪ ((Finset.Ico 0 5).image (Due.cr false) ∪ ((Finset.Ico 0 5).image (Due.cr true) ∪ (Finset.Ico 0 15).image Due.am)))) := by decide +kernel

theorem dues_split (Φ : Due → sProp 𝕄) : (bigSep (Finset.Ico 0 49) fun n => Φ (dueAt n))
    = BIBase.sep (bigSep (Finset.Ico 0 4) fun i => Φ (.bar i)) (BIBase.sep (bigSep (Finset.Ico 0 10) fun j => Φ (.ring false j)) (BIBase.sep (bigSep (Finset.Ico 0 10) fun j => Φ (.ring true j))
      (BIBase.sep (bigSep (Finset.Ico 0 5) fun n => Φ (.cr false n)) (BIBase.sep (bigSep (Finset.Ico 0 5) fun n => Φ (.cr true n)) (bigSep (Finset.Ico 0 15) fun j => Φ (.am j)))))) := by
  rw [← bigSep_image_of_injOn (f := dueAt) (fun a ha b hb => due_inj a (Finset.mem_coe.mp ha) b (Finset.mem_coe.mp hb)) Φ, due_img,
    bigSep_union (by decide +kernel), bigSep_union (by decide +kernel), bigSep_union (by decide +kernel), bigSep_union (by decide +kernel), bigSep_union (by decide +kernel),
    bigSep_image_of_injOn (f := Due.bar) (fun a _ b _ h => by cases h; rfl) Φ, bigSep_image_of_injOn (f := Due.ring false) (fun a _ b _ h => by cases h; rfl) Φ,
    bigSep_image_of_injOn (f := Due.ring true) (fun a _ b _ h => by cases h; rfl) Φ, bigSep_image_of_injOn (f := Due.cr false) (fun a _ b _ h => by cases h; rfl) Φ,
    bigSep_image_of_injOn (f := Due.cr true) (fun a _ b _ h => by cases h; rfl) Φ, bigSep_image_of_injOn (f := Due.am) (fun a _ b _ h => by cases h; rfl) Φ]
  rfl

theorem rev15 (Φ : ℕ → sProp 𝕄) : (bigSep (Finset.Ico 0 15) Φ) = bigSep (Finset.Ico 0 15) fun j => Φ (14 - j) := by
  rw [show (Finset.Ico 0 15) = (Finset.Ico 0 15).image (fun j => 14 - j) from by decide,
    bigSep_image_of_injOn (fun a ha b hb h => by have := Finset.mem_Ico.mp (Finset.mem_coe.mp ha); have := Finset.mem_Ico.mp (Finset.mem_coe.mp hb); omega) Φ,
    show (Finset.Ico 0 15).image (fun j => 14 - j) = (Finset.Ico 0 15) from by decide]

theorem four (g : GSem nD τ sig) : (∑ _n ∈ Finset.Ico 0 4, tallyAt g 1 1 : CellTallies nD τ sig ℕ) = tallyAt g 1 4 := by
  rw [show Finset.Ico 0 4 = {0, 1, 2, 3} from by decide, Finset.sum_insert (by decide), Finset.sum_insert (by decide), Finset.sum_insert (by decide), Finset.sum_singleton,
    tallyAt_add, tallyAt_add, tallyAt_add]

theorem creds (c : Dev nD) : (Pipeline.launchCred O₀ c : sProp 𝕄) ⊢ Crd c := by
  have h0 : (Pipeline.launchCred O₀ c : sProp 𝕄) ⊢ iprop(((bigSep (Finset.Ico 0 4) fun i => cred (rtal c (.bar i))) ∗ (bigSep (Finset.Ico 0 10) fun j => cred (rtal c (.ring false j)))
      ∗ (bigSep (Finset.Ico 0 10) fun j => cred (rtal c (.ring true j))) ∗ (bigSep (Finset.Ico 0 5) fun j => cred (rtal c (.cr false j)))
      ∗ (bigSep (Finset.Ico 0 5) fun j => cred (rtal c (.cr true j))) ∗ bigSep (Finset.Ico 0 15) fun j => cred (rtal c (.am j))) ∗ bigSep (Finset.Ico 0 10) fun t => cred (rltal c t)) :=
    Entails.of_eq (by rw [launch_cred, dues_split fun u => cred (rtal c u)])
  have hb : (bigSep (Finset.Ico 0 4) fun i => cred (rtal c (.bar i)) : sProp 𝕄) ⊢ cred (tallyAt (cellAt c .bar) 1 4) :=
    Entails.of_eq (by rw [← cred_sum, ← four]; rfl)
  have ha : (bigSep (Finset.Ico 0 15) fun j => cred (rtal c (.am j)) : sProp 𝕄) ⊢ CrQ c (fun j => .arecv (adv c (1 + j % 15))) (fun _ => 300) 15 := by
    refine Entails.of_eq ?_
    unfold CrQ
    rw [rev15]
    refine bigSep_congr fun j hj => ?_
    have hj := (Finset.mem_Ico.mp hj).2
    show cred (tallyAt (cellAt c (.arecv (adv c (15 - (14 - j))))) 300 _) = cred (tallyAt (cellAt c (.arecv (adv c (1 + j % 15)))) 300 _)
    rw [Nat.mod_eq_of_lt hj, show 15 - (14 - j) = 1 + j from by omega]
    rfl
  have hr (d : Bool) : (bigSep (Finset.Ico 0 10) fun j => cred (rtal c (.ring d j)) : sProp 𝕄) ⊢ CrQ c (fun j => .recv d (fm 5 j)) rlv 10 := BIBase.Entails.rfl
  have hc (d : Bool) : (bigSep (Finset.Ico 0 5) fun j => cred (rtal c (.cr d j)) : sProp 𝕄) ⊢ CcQ c d := BIBase.Entails.rfl
  have hl : (bigSep (Finset.Ico 0 10) fun t => cred (rltal c t) : sProp 𝕄) ⊢ CrQ c (fun j => .rrecv (fm 10 j)) llv 10 := BIBase.Entails.rfl
  iintro H
  ihave H := h0 $$ H
  icases H with ⟨⟨H1, H2, H3, H4, H5, H6⟩, H7⟩
  unfold Crd
  isplitl [H1]
  · iapply hb $$ H1
  isplitl [H2]
  · iapply (hr false) $$ H2
  isplitl [H3]
  · iapply (hr true) $$ H3
  isplitl [H4]
  · iapply (hc false) $$ H4
  isplitl [H5]
  · iapply (hc true) $$ H5
  isplitl [H7]
  · iapply hl $$ H7
  iapply ha $$ H6

end Cert.Proof
end
-- ==== Proof.Launch.lean ====
module

public import proofs.«01_k».proof.Proof.Region
public import proofs.«01_k».proof.Proof.Deal
public import proofs.«01_k».proof.Proof.Cred

@[expose] public section

set_option maxRecDepth 20000

noncomputable section

/-!
The launch, and the run of the whole program.
-/

namespace Cert.Proof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S256x4096 .f32) (Wt : Dev nD → Vec F S4096x512 .f32)
variable {α : Type} {Q : α → sProp (MT nD τ sig ℕ (Elt F) ℕ UU ℕ)} {κ : GSem nD τ sig → ℕ} {ιs : Dev nD × Kd → ℕ}

variable (m : (ℓ : Loc nD τ sig) → Buf (Elt F) ℓ) (ρ : Dev nD → PrngReg)

/-! ## The cells and the launch element -/

def barEmb : Dev nD ↪ GSem nD τ sig := ⟨fun c => cellAt c .bar, fun _ _ h => congrArg (fun g : GSem nD τ sig => g.1.1) h⟩
def allEmb : Dev nD × Kd ↪ GSem nD τ sig := ⟨fun x => cellAt x.1 x.2, cell_inj⟩

/-- The barrier cells, funded from their counters; and the kernel's own cells, which the region opens. -/
def barCells : Finset (GSem nD τ sig) := Finset.univ.map barEmb
def ownCells : Finset (GSem nD τ sig) := ((Finset.univ : Finset (Dev nD)) ×ˢ (Finset.univ.erase Kd.bar)).map allEmb

theorem cells_disjoint : Disjoint barCells ownCells := by
  rw [Finset.disjoint_left]
  rintro g h₁ h₂
  obtain ⟨c, -, rfl⟩ := Finset.mem_map.mp h₁
  obtain ⟨x, hx, h⟩ := Finset.mem_map.mp h₂
  have hk := (Finset.mem_erase.mp (Finset.mem_product.mp hx).2).1
  exact hk (semOf_inj (congrArg Prod.snd h))

theorem cell_mem (x : Dev nD × Kd) : cellAt x.1 x.2 ∈ barCells ∪ ownCells := by
  by_cases h : x.2 = Kd.bar
  · rw [h]; exact Finset.mem_union_left _ (Finset.mem_map_of_mem barEmb (Finset.mem_univ x.1))
  · exact Finset.mem_union_right _ (Finset.mem_map_of_mem allEmb (Finset.mem_product.mpr ⟨Finset.mem_univ _, Finset.mem_erase.mpr ⟨h, Finset.mem_univ _⟩⟩))

def u₀ : UU :=
  (initOf (Pipeline.cells (Pipeline.pin (pcfgs (F := F)) adm) cellOf_inj) (Pipeline.launchToks (Pipeline.pin (pcfgs (F := F)) adm) cellOf_inj),
    (launchOf barCells ownCells allToks, (initSlots (Finset.univ : Finset (Dev nD × Kd)) 2, 1)))

theorem own_rows (t : Finset Kd) (Φ : Dev nD × Kd → sProp 𝕄) (s : Finset (Dev nD)) :
    bigSep (s ×ˢ t) Φ = bigSep s fun c => bigSep t fun k => Φ (c, k) := by
  induction s using Finset.induction_on with
  | empty => rw [Finset.empty_product]; rfl
  | insert a s ha ih =>
    have hd : Disjoint (({a} : Finset (Dev nD)) ×ˢ t) (s ×ˢ t) := Finset.disjoint_product.mpr (.inl (Finset.disjoint_singleton_left.mpr ha))
    rw [Finset.insert_eq, Finset.union_product, bigSep_union hd, ih, Finset.singleton_product, bigSep_map, ← Finset.insert_eq, bigSep_insert ha]
    rfl
theorem dist3 (A B C : Dev nD → sProp 𝕄) : bigSep Finset.univ (fun c => iprop(A c ∗ B c ∗ C c)) = iprop(bigSep Finset.univ A ∗ bigSep Finset.univ B ∗ bigSep Finset.univ C) := by
  rw [bigSep_sep', bigSep_sep']
theorem dist5 (A B C D E : Dev nD → sProp 𝕄) : bigSep Finset.univ (fun c => iprop((A c ∗ B c ∗ C c ∗ D c) ∗ E c))
    = iprop((bigSep Finset.univ A ∗ bigSep Finset.univ B ∗ bigSep Finset.univ C ∗ bigSep Finset.univ D) ∗ bigSep Finset.univ E) := by
  rw [bigSep_sep', bigSep_sep', bigSep_sep', bigSep_sep']

/-- A resource that one device keeps for all until the launch deals it. -/
def onDev (c₀ : Dev nD) (P : sProp 𝕄) (c : Dev nD) : sProp 𝕄 := if c = c₀ then P else iprop(emp)
theorem bigSep_onDev (c₀ : Dev nD) (P : sProp 𝕄) : bigSep Finset.univ (onDev c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, bigSep_emp_const]
  unfold onDev; rw [if_pos rfl]
  exact equiv_iff.mp sep_emp

def G : Dev nD → sProp 𝕄 := onDev 0 iprop(BI.own (ER (launchOf barCells ownCells allToks)) ∗ BI.own (ES (initSlots (Finset.univ : Finset (Dev nD × Kd)) 2)))

theorem fund : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ G) := by
  have h1 : (BI.own (embR (launchOf barCells ownCells allToks, (initSlots (Finset.univ : Finset (Dev nD × Kd)) 2, (1 : ExclCount.Counters)))) : sProp 𝕄)
      ⊢ iprop(BI.own (ER (launchOf barCells ownCells allToks)) ∗ BI.own (ES (initSlots (Finset.univ : Finset (Dev nD × Kd)) 2))) := by
    have e1 : (BI.own (embR (launchOf barCells ownCells allToks, (initSlots (Finset.univ : Finset (Dev nD × Kd)) 2, (1 : ExclCount.Counters)))) : sProp 𝕄)
        ⊢ iprop(BI.own (ER (launchOf barCells ownCells allToks))
          ∗ BI.own (((Emb.inr : Emb (UK × ExclCount.Counters) (UC × (UK × ExclCount.Counters))).trans embR) (initSlots (Finset.univ : Finset (Dev nD × Kd)) 2, (1 : ExclCount.Counters)))) :=
      own_pair_emb _ _ _
    have e2 : (BI.own (((Emb.inr : Emb (UK × ExclCount.Counters) (UC × (UK × ExclCount.Counters))).trans embR) (initSlots (Finset.univ : Finset (Dev nD × Kd)) 2, (1 : ExclCount.Counters))) : sProp 𝕄)
        ⊢ iprop(BI.own (ES (initSlots (Finset.univ : Finset (Dev nD × Kd)) 2))
          ∗ BI.own (((Emb.inr : Emb ExclCount.Counters (UK × ExclCount.Counters)).trans (((Emb.inr : Emb (UK × ExclCount.Counters) (UC × (UK × ExclCount.Counters))).trans embR))) (1 : ExclCount.Counters))) :=
      own_pair_emb _ _ _
    iintro H
    ihave H := e1 $$ H
    icases H with ⟨HA, HB⟩
    isplitl [HA]
    · iexact HA
    ihave HB := e2 $$ HB
    icases HB with ⟨HB, -⟩
    iexact HB
  unfold u₀ G
  rw [bigSep_onDev]
  iintro Hu
  ihave H := (ownU_pair _ _) $$ Hu
  icases H with ⟨HP, HX⟩
  imodintro
  isplitl [HP]
  · iexact HP
  iapply h1 $$ HX

/-! ## What a device holds before the kernel -/

theorem Xm_eq (c : Dev nD) : Xm m c = m ((c : Thread nD τ).loc main_arg0) := by
  unfold Xm
  rw [V17_of m c main_arg0 (by decide), V16_of m c main_arg0 (by decide), V15_of m c main_arg0 (by decide), V14_of m c main_arg0 (by decide), V13_of m c main_arg0 (by decide),
    V12_of m c main_arg0 (by decide), V11_of m c main_arg0 (by decide), V10_of m c main_arg0 (by decide), V9_of m c main_arg0 (by decide), V8_of m c main_arg0 (by decide),
    V7_of m c main_arg0 (by decide), V6_of m c main_arg0 (by decide), V5_of m c main_arg0 (by decide), V4_of m c main_arg0 (by decide), V3_of m c main_arg0 (by decide),
    V2_of m c main_arg0 (by decide), V1_of m c main_arg0 (by decide)]
theorem Wm_eq (c : Dev nD) : Wm m c = m ((c : Thread nD τ).loc main_arg1) := by
  unfold Wm
  rw [V17_of m c main_arg1 (by decide), V16_of m c main_arg1 (by decide), V15_of m c main_arg1 (by decide), V14_of m c main_arg1 (by decide), V13_of m c main_arg1 (by decide),
    V12_of m c main_arg1 (by decide), V11_of m c main_arg1 (by decide), V10_of m c main_arg1 (by decide), V9_of m c main_arg1 (by decide), V8_of m c main_arg1 (by decide),
    V7_of m c main_arg1 (by decide), V6_of m c main_arg1 (by decide), V5_of m c main_arg1 (by decide), V4_of m c main_arg1 (by decide), V3_of m c main_arg1 (by decide),
    V2_of m c main_arg1 (by decide), V1_of m c main_arg1 (by decide)]

/-- What is its own, -/
def Lin (c : Dev nD) : sProp 𝕄 := iprop((bigSep (Finset.univ.erase Kd.bar) fun k => openTok ER (cellAt c k)) ∗ AtP c .bar 0 ∗ Rds c ∗ Tks c)
/-- and all that rides beside the buffers until the kernel is entered. -/
def E0 (c : Dev nD) : sProp 𝕄 :=
  iprop((∃ κ ιs, Invs (Xm m) (Wm m) κ ιs) ∗ Lin c ∗ Crd c ∗ (∃ W, owes (c : Thread nD τ) (O₀ c) W) ∗ ∃ r, prngReg c r)

abbrev aRefs : Finset (DevRef τ sig) := Pipeline.arrRefs (τ := τ) (pcfgs (F := F) 0).spec

theorem two_sub : insert (Proc.devRef .tc main_v94_1) (insert (Proc.devRef .tc main_v94_2) (Pipeline.arrRefs (τ := τ) spec0)) ⊆ Pipeline.ucRefs τ sig := by decide +kernel
theorem two_in1 : (Proc.devRef .tc main_v94_1 : DevRef τ sig) ∉ insert (Proc.devRef .tc main_v94_2) (Pipeline.arrRefs (τ := τ) spec0) := by decide +kernel
theorem two_in2 : (Proc.devRef .tc main_v94_2 : DevRef τ sig) ∉ Pipeline.arrRefs (τ := τ) spec0 := by decide +kernel

theorem ref_to {s t : Finset (DevRef τ sig)} {Φ : DevRef τ sig → sProp 𝕄} {R : sProp 𝕄} (h : t ⊆ s) (e : bigSep t Φ = R) : bigSep s Φ ⊢ R := by
  rw [← e]; exact bigSep_subset h

theorem held_take (c : Dev nD) (V : Valuation τ sig (Elt F)) : (StableHlo.held (c : Thread nD τ) (Pipeline.ucRefs τ sig) V : sProp 𝕄)
    ⊢ iprop((∃ V, owns (c : Thread nD τ) sgW fullShare V) ∗ (∃ V, owns (c : Thread nD τ) rlW fullShare V) ∗ StableHlo.held (c : Thread nD τ) (aRefs (F := F)) V) := by
  have h1 : (StableHlo.held (c : Thread nD τ) (Pipeline.ucRefs τ sig) V : sProp 𝕄)
      ⊢ iprop((((c : Thread nD τ).loc main_v94_1) ↦{fullShare} V main_v94_1) ∗ (((c : Thread nD τ).loc main_v94_2) ↦{fullShare} V main_v94_2) ∗ StableHlo.held (c : Thread nD τ) (aRefs (F := F)) V) := by
    unfold StableHlo.held
    refine ref_to two_sub ?_
    rw [bigSep_insert two_in1, bigSep_insert two_in2]
    rfl
  iintro H
  ihave H := h1 $$ H
  icases H with ⟨H1, H2, H⟩
  isplitl [H1]
  · iexists _; iapply (Entails.of_eq (owns_whole c main_v94_1 fullShare _).symm); iexact H1
  isplitl [H2]
  · iexists _; iapply (Entails.of_eq (owns_whole c main_v94_2 fullShare _).symm); iexact H2
  iexact H

theorem reg_pre (c : Dev nD) : iprop(StableHlo.held (c : Thread nD τ) (Pipeline.ucRefs τ sig) (V17 m c) ∗ E0 m c) ⊢ (reg m).pre c := by
  show _ ⊢ iprop(StableHlo.held (c.tc : Thread nD τ) (Pipeline.arrRefs (τ := τ) (pcfgs (F := F) 0).spec) (V17 m c) ∗ (∃ r, prngReg c r)
    ∗ (StableHlo.held (c.tc : Thread nD τ) ∅ (V17 m c) ∗ emp) ∗ Tk m c ∗ ∃ Wd, owes (c : Thread nD τ) (0 + O₀ c) Wd)
  rw [held_nil, zero_add]
  unfold E0 Lin Tk Xr
  iintro ⟨Hh, ⟨%κ, %ιs, #HI⟩, ⟨Ho, Ha, HR, HT⟩, HC, HO, Hp⟩
  ihave Hh := (held_take c (V17 m c)) $$ Hh
  icases Hh with ⟨H1, H2, Hh⟩
  isplitl [Hh]
  · iexact Hh
  isplitl [Hp]
  · iexact Hp
  isplitr
  · isplitr <;> iempintro
  isplitr [HO]
  · iexists κ, ιs
    isplitr
    · iexact HI
    isplitl [Ho]
    · iexact Ho
    isplitl [Ha]
    · iexact Ha
    isplitl [HR]
    · iexact HR
    isplitl [HT]
    · iexact HT
    isplitl [HC]
    · iexact HC
    isplitl [H1]
    · iexact H1
    iexact H2
  iexact HO

abbrev Tₙ (c : Dev nD) : sProp 𝕄 := iprop(StableHlo.held (c : Thread nD τ) (aRefs (F := F)) (V18' m c) ∗ semVal (cellAt c .bar) 0)

theorem reg_post (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) (pcfgs (F := F) 0).spec) (V18' m c) ∗ (∃ r, prngReg c r)
    ∗ (StableHlo.held (c.tc : Thread nD τ) ∅ (V18' m c) ∗ emp) ∗ Yk c ∗ ∃ Wd, owes (c : Thread nD τ) (0 : CellTallies nD τ sig ℕ) Wd) ⊢ _
  unfold Yk
  iintro ⟨Hh, -, -, Hb, HO⟩
  isplitr [HO]
  · isplitl [Hh]
    · iexact Hh
    iexact Hb
  iexact HO

/-! ## The launch -/

theorem sems_eq (c : Dev nD) : (unscopedSems0 c : sProp 𝕄) = semVal (cellAt c .bar) 0 := by
  unfold unscopedSems0
  rw [show (Finset.univ.filter fun sm : SemLoc sig => ¬ sm.isScoped .tc) = {semOf Kd.bar} from by decide, bigSep_singleton]

theorem invs_all (κ : GSem nD τ sig → ℕ) (ιs : Dev nD × Kd → ℕ) :
    iprop((bigSep (barCells ∪ ownCells) fun g => cellInv ER (Rd X Wt) (κ g) g) ∗ (bigSep Finset.univ fun k : Dev nD × Kd => slotInv ES (ιs k) k (place k)) ∗ levAts L lv
      ∗ bigSep barCells fun g => reached ER g 0) ⊢ (Invs X Wt κ ιs : sProp 𝕄) := by
  unfold Invs
  have h1 : (bigSep (barCells ∪ ownCells) fun g => cellInv ER (Rd X Wt) (κ g) g : sProp 𝕄) ⊢ bigSep Finset.univ fun x : Dev nD × Kd => cellInv ER (Rd X Wt) (κ (cellAt x.1 x.2)) (cellAt x.1 x.2) :=
    bigSep_intro_persistent fun x _ => bigSep_elim (Φ := fun g => cellInv ER (Rd X Wt) (κ g) g) (cell_mem x)
  have h2 : (bigSep barCells fun g => reached ER g 0 : sProp 𝕄) ⊢ bigSep Finset.univ fun p : Dev nD => reached ER (cellAt p .bar) 0 :=
    Entails.of_eq (bigSep_map (s := Finset.univ) barEmb (Φ := fun g => reached ER g 0))
  iintro ⟨H1, HS, HL, HR⟩
  ihave H1 := h1 $$ H1
  isplitl [H1 HS]
  · rw [bigSep_sep']
    isplitl [H1]
    · iexact H1
    iexact HS
  isplitl [HL]
  · iexact HL
  iapply h2 $$ HR

theorem launch :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E0 m c) : sProp 𝕄) := by
  let B (c : Dev nD) : sProp 𝕄 := iprop(StableHlo.held (c : Thread nD τ) (Pipeline.ucRefs τ sig) (V0 m c) ∗ Crd c ∗ (∃ W, owes (c : Thread nD τ) (O₀ c) W) ∗ ∃ r, prngReg c r)
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(B c ∗ semVal (cellAt c .bar) 0 ∗ G c) : sProp 𝕄) := by
    rw [show unscopedBufs c (fun b => m ((c : Thread nD τ).loc b)) = StableHlo.held (c : Thread nD τ) (Pipeline.ucRefs τ sig) (V0 m c) from
        Pipeline.unscopedBufs_held (Ix := ℕ) (Name := ℕ) (U := UU) (Lvl := ℕ) c (V0 m c), sems_eq]
    iintro ⟨Hh, Hus, HO, Hcr, Hp, HG⟩
    ihave Hc := (creds (F := F) c) $$ Hcr
    isplitl [Hh Hc HO Hp]
    · isplitl [Hh]
      · iexact Hh
      isplitl [Hc]
      · iexact Hc
      isplitl [HO]
      · iexists ∅; iexact HO
      iexists (ρ c); iexact Hp
    isplitl [Hus]
    · iexact Hus
    iexact HG
  have hsp : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ iprop(bigSep Finset.univ B ∗ (bigSep Finset.univ fun c : Dev nD => semVal (cellAt c .bar) 0) ∗ bigSep Finset.univ G) := by
    exact BIBase.Entails.trans (bigSep_mono fun c _ => hcore c) (Entails.of_eq (dist3 _ _ _))
  have hg : (bigSep Finset.univ G : sProp 𝕄) ⊢ iprop(BI.own (ER (launchOf barCells ownCells allToks)) ∗ BI.own (ES (initSlots (Finset.univ : Finset (Dev nD × Kd)) 2))) :=
    Entails.of_eq (bigSep_onDev 0 _)
  have hv : bigSep Finset.univ (fun c : Dev nD => (semVal (cellAt c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (AtP c .bar 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep (Finset.univ.erase Kd.bar) fun k => openTok ER (cellAt c k)) :=
    Entails.of_eq (by
      unfold ownCells
      rw [bigSep_map, own_rows]
      rfl)
  have hrd : bigSep Finset.univ (fun k : Dev nD × Kd => (readerAt ES k 0 : sProp 𝕄)) ⊢ bigSep Finset.univ (fun c : Dev nD => (Rds c : sProp 𝕄)) :=
    Entails.of_eq (bigSep_univ_prod _)
  have htk : iprop(bigSep allToks (fun x => dutyTok ER x.1 x.2.1 x.2.2) ∗ bigSep ((Finset.univ : Finset (Dev nD × Kd)) ×ˢ Finset.range 2) (fun x => writeTok ES x.1 (x.2 + 1)))
      ⊢ (bigSep Finset.univ fun c : Dev nD => (Tks c : sProp 𝕄)) := by
    have h1 := toks_eq (F := F)
    have h2 := wtoks (F := F) _ w_mem (fun x => writeTok ES x.1 (x.2 + 1))
    have h3 : iprop((bigSep Finset.univ fun c : Dev nD => bigSep (Finset.Ico 0 59) fun n => iprop(dt (tokA c n) ∗ dt (tokB c n)))
        ∗ bigSep Finset.univ fun c : Dev nD => bigSep (Finset.Ico 0 60) fun n => wt (tokW c n)) ⊢ (bigSep Finset.univ fun c : Dev nD => (Tks c : sProp 𝕄)) := by
      rw [← bigSep_sep']
      exact bigSep_mono fun c _ => deal c
    iintro ⟨HA, HB⟩
    iapply h3
    isplitl [HA]
    · iapply (Entails.of_eq h1) $$ HA
    iapply h2 $$ HB
  have hfin (κ : GSem nD τ sig → ℕ) (ιs : Dev nD × Kd → ℕ) (c : Dev nD) : iprop(Invs (Xm m) (Wm m) κ ιs ∗ (((bigSep (Finset.univ.erase Kd.bar) fun k => openTok ER (cellAt c k)) ∗ AtP c .bar 0 ∗ Rds c ∗ Tks c) ∗ B c))
      ⊢ iprop(StableHlo.held (c : Thread nD τ) (Pipeline.ucRefs τ sig) (V0 m c) ∗ E0 m c) := by
    unfold E0 Lin
    iintro ⟨HI, HL, Hh, HC, HO, Hp⟩
    isplitl [Hh]
    · iexact Hh
    isplitl [HI]
    · iexists κ, ιs; iexact HI
    isplitl [HL]
    · iexact HL
    isplitl [HC]
    · iexact HC
    isplitl [HO]
    · iexact HO
    iexact Hp
  iintro ⟨H, #HL⟩
  ihave H := hsp $$ H
  icases H with ⟨HB, Hv, HG⟩
  ihave HG := hg $$ HG
  icases HG with ⟨Hu, Hs⟩
  imod (Rounds.fund_launch ER (Rd (Xm m) (Wm m)) cells_disjoint (fun g _ h => h) allToks) $$ [Hv Hu] with ⟨%κ, -, #Hinv, #Hr, Hat, Hopen, Htok⟩
  · isplitl [Hv]
    · iapply hv $$ Hv
    · iexact Hu
  imod (slots_init ES (Finset.univ : Finset (Dev nD × Kd)) 2 place) $$ Hs with ⟨%ιs, -, #Hsl, Hrd, Hw⟩
  imodintro
  ihave #HI := (invs_all (Xm m) (Wm m) κ ιs) $$ []
  · isplitr
    · iexact Hinv
    isplitr
    · iexact Hsl
    isplitr
    · iexact HL
    iexact Hr
  iapply (bigSep_with_persistent (R := Invs (Xm m) (Wm m) κ ιs) fun c _ => hfin κ ιs c)
  isplitr
  · iexact HI
  iapply (Entails.of_eq (dist5 _ _ _ _ B).symm)
  isplitr [HB]
  · isplitl [Hopen]
    · iapply hopen $$ Hopen
    isplitl [Hat]
    · iapply hat $$ Hat
    isplitl [Hrd]
    · iapply hrd $$ Hrd
    iapply htk
    isplitl [Htok]
    · iexact Htok
    iexact Hw
  iexact HB

/-! ## The whole program -/

theorem unscoped_bar : ∀ sm : SemLoc sig, sm.isScoped .tc = false → sm = semOf Kd.bar := by decide
theorem L_off (g : GSem nD τ sig) (h : g.1.2 ≠ .tc) : L g = ∅ := if_neg h

theorem a0_mem : (Proc.devRef .tc main_arg0 : DevRef τ sig) ∈ Pipeline.arrRefs (τ := τ) spec0 := by decide +kernel
theorem a1_mem : (Proc.devRef .tc main_arg1 : DevRef τ sig) ∈ Pipeline.arrRefs (τ := τ) spec0 := by decide +kernel
theorem a3_mem : (Proc.devRef .tc main_v94_0 : DevRef τ sig) ∈ Pipeline.arrRefs (τ := τ) spec0 := by decide +kernel

theorem V18_arg0 (c : Dev nD) : V18' m c main_arg0 = m ((c : Thread nD τ).loc main_arg0) :=
  (Function.update_of_ne (by decide : (main_arg0 : DevRef τ sig) ≠ main_v94_0) _ _).trans (Xm_eq m c)
theorem V18_arg1 (c : Dev nD) : V18' m c main_arg1 = m ((c : Thread nD τ).loc main_arg1) :=
  (Function.update_of_ne (by decide : (main_arg1 : DevRef τ sig) ≠ main_v94_0) _ _).trans (Wm_eq m c)
theorem V18_out (c : Dev nD) : V18' m c main_v94_0 = outV (Xm m) (Wm m) c :=
  Function.update_self (β := fun b : DevRef τ sig => b.ty.Contents (Elt F)) main_v94_0 (outV (Xm m) (Wm m) c) (V17 m c)

set_option backward.isDefEq.respectTransparency.types false in
/-- From any memory with all counters at zero, every fair execution on the sixteen devices ends, with the arguments as they
    were, each device's result at `outV`, and all counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v94_0) = outV (Xm m) (Wm m) c) ∧ r.2.sem = fun _ => 0) := by
  refine Pipeline.θ_run_regions_kit_dev_sems (pcfgs (F := F)) adm (pdats m) 0 cellOf_inj EP defs₀ 𝒱₀ L lv m ρ main
    (segs m 𝒱₀ L lv (fun _ => E0 m) 0 (pdats m) (reg m))
    (fun c Q => by
      rewrite [main_chain c, Pipeline.Seg.run_eq_chain,
        show (segs m 𝒱₀ L lv (fun _ => E0 m) 0 (pdats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_off G u₀ fund
    (T₀ := fun c => iprop(StableHlo.held (c : Thread nD τ) (Pipeline.ucRefs τ sig) (V0 m c) ∗ E0 m c))
    (Tₙ := Tₙ m)
    (hch := fun c => ⟨.rfl, .rfl, .rfl, .rfl, .rfl, .rfl, .rfl, .rfl, .rfl, .rfl, .rfl, .rfl, .rfl, .rfl, .rfl, .rfl, .rfl, reg_pre m c, reg_post m c⟩)
    (hinit := launch m ρ)
    (QY := fun c s => (∀ b ∈ Pipeline.arrRefs (τ := τ) spec0, s.mem ((c : Thread nD τ).1, b) = V18' m c b) ∧ s.sem (cellAt c .bar) = 0)
    (hfin := fun c s' => ?_) (hQ := fun s h hs => ⟨fun c => ?_, ?_⟩)
  · dsimp only [Tₙ]
    unfold StableHlo.held
    iintro ⟨⟨Hh, Hb⟩, HSI⟩
    icombine HSI Hb gives %hb
    ihave Hr := (pointsTo_read_all (aRefs (F := F)) (fun b => ((c : Thread nD τ).1, b)) (V18' m c) s') $$ [Hh HSI]
    · isplitl [Hh] <;> iassumption
    icases Hr with ⟨%h, HSI⟩
    imodintro
    isplitr
    · ipureintro
      exact ⟨h, by simpa using hb⟩
    · iexact HSI
  · obtain ⟨h, -⟩ := h c
    exact ⟨(h _ a0_mem).trans (V18_arg0 m c), (h _ a1_mem).trans (V18_arg1 m c), (h _ a3_mem).trans (V18_out m c)⟩
  · exact sem_eq_zero hs fun c sm hsm => by
      obtain rfl := unscoped_bar sm hsm
      exact (h c).2

end Cert.Proof
end
-- ==== Proof.SameA.lean ====
module

public import proofs.«01_k».proof.Kernel
public import proofs.«01_k».proof.KernelIdeal

@[expose] public section
set_option maxRecDepth 20000
noncomputable section

/-!
Two programs taken in turn: equal when their steps are.
-/

namespace Cert.Proof

open Idealize.ShloMosaic Idealize.SL.Sem
variable {F : FTy → Type} [FloatOps F] [hK : Cert.Kernel.Facts] [hKI : Cert.KernelIdeal.Facts]

theorem bind_same {E : Type → Type} {α β : Type} {x y : Prog E α} {f g : α → Prog E β} (h : x = y) (hf : ∀ a, f a = g a) : (x >>= f) = (y >>= g) := by
  rw [h, funext hf]

end Cert.Proof
end
-- ==== Proof.Same.lean ====
module

public import proofs.«01_k».proof.Proof.SameA

@[expose] public section
set_option maxRecDepth 20000
noncomputable section

/-!
The idealized program's body has the program's own text: the parts of it are equal.
-/

namespace Cert.Proof

open Idealize.ShloMosaic Idealize.SL.Sem
variable {F : FTy → Type} [FloatOps F] [hK : Kernel.Facts] [hKI : KernelIdeal.Facts]

theorem same_k0_part1 : KernelIdeal.k0_part1 (F := F) = Kernel.k0_part1 (F := F) := rfl
theorem same_k0_part2 : KernelIdeal.k0_part2 (F := F) = Kernel.k0_part2 (F := F) := rfl
theorem same_k0_part3 : KernelIdeal.k0_part3 (F := F) = Kernel.k0_part3 (F := F) := rfl
theorem same_k0_part4 : KernelIdeal.k0_part4 (F := F) = Kernel.k0_part4 (F := F) := rfl
theorem same_k0_part5 : KernelIdeal.k0_part5 (F := F) = Kernel.k0_part5 (F := F) := rfl
theorem same_k0_part6 : KernelIdeal.k0_part6 (F := F) = Kernel.k0_part6 (F := F) := rfl
theorem same_k0_part7 : KernelIdeal.k0_part7 (F := F) = Kernel.k0_part7 (F := F) := rfl
theorem same_k0_part8 : KernelIdeal.k0_part8 (F := F) = Kernel.k0_part8 (F := F) := rfl
theorem same_k0_part9 : KernelIdeal.k0_part9 (F := F) = Kernel.k0_part9 (F := F) := rfl
theorem same_k0_part10 : KernelIdeal.k0_part10 (F := F) = Kernel.k0_part10 (F := F) := rfl
theorem same_k0_part11 : KernelIdeal.k0_part11 (F := F) = Kernel.k0_part11 (F := F) := rfl
theorem same_k0_part12 : KernelIdeal.k0_part12 (F := F) = Kernel.k0_part12 (F := F) := rfl
theorem same_k0_part13 : KernelIdeal.k0_part13 (F := F) = Kernel.k0_part13 (F := F) := rfl
theorem same_k0_part14 : KernelIdeal.k0_part14 (F := F) = Kernel.k0_part14 (F := F) := rfl
theorem same_k0_part15 : KernelIdeal.k0_part15 (F := F) = Kernel.k0_part15 (F := F) := rfl
theorem same_k0_part16 : KernelIdeal.k0_part16 (F := F) = Kernel.k0_part16 (F := F) := rfl
theorem same_k0_part17 : KernelIdeal.k0_part17 (F := F) = Kernel.k0_part17 (F := F) := rfl
theorem same_k0_part18 : KernelIdeal.k0_part18 (F := F) = Kernel.k0_part18 (F := F) := rfl
theorem same_k0_part19 : KernelIdeal.k0_part19 (F := F) = Kernel.k0_part19 (F := F) := rfl
theorem same_k0_part20 : KernelIdeal.k0_part20 (F := F) = Kernel.k0_part20 (F := F) := rfl
theorem same_k0_part21 : KernelIdeal.k0_part21 (F := F) = Kernel.k0_part21 (F := F) := rfl
theorem same_k0_part22 : KernelIdeal.k0_part22 (F := F) = Kernel.k0_part22 (F := F) := by
  unfold KernelIdeal.k0_part22
  rw [same_k0_part1]
  rfl
theorem same_k0_part23 : KernelIdeal.k0_part23 (F := F) = Kernel.k0_part23 (F := F) := by
  unfold KernelIdeal.k0_part23
  rw [same_k0_part2]
  rfl
theorem same_k0_part24 : KernelIdeal.k0_part24 (F := F) = Kernel.k0_part24 (F := F) := rfl
theorem same_k0_part25 : KernelIdeal.k0_part25 (F := F) = Kernel.k0_part25 (F := F) := rfl
theorem same_k0_part26 : KernelIdeal.k0_part26 (F := F) = Kernel.k0_part26 (F := F) := rfl
theorem same_k0_part27 : KernelIdeal.k0_part27 (F := F) = Kernel.k0_part27 (F := F) := by
  unfold KernelIdeal.k0_part27
  rw [same_k0_part3, same_k0_part4]
  rfl
theorem same_k0_part28 : KernelIdeal.k0_part28 (F := F) = Kernel.k0_part28 (F := F) := by
  unfold KernelIdeal.k0_part28
  rw [same_k0_part5, same_k0_part6, same_k0_part7, same_k0_part8]
  rfl
theorem same_k0_part29 : KernelIdeal.k0_part29 (F := F) = Kernel.k0_part29 (F := F) := rfl
theorem same_k0_part30 : KernelIdeal.k0_part30 (F := F) = Kernel.k0_part30 (F := F) := rfl
theorem same_k0_part31 : KernelIdeal.k0_part31 (F := F) = Kernel.k0_part31 (F := F) := rfl
theorem same_k0_part32 : KernelIdeal.k0_part32 (F := F) = Kernel.k0_part32 (F := F) := rfl
theorem same_k0_part33 : KernelIdeal.k0_part33 (F := F) = Kernel.k0_part33 (F := F) := rfl
theorem same_k0_part34 : KernelIdeal.k0_part34 (F := F) = Kernel.k0_part34 (F := F) := by
  unfold KernelIdeal.k0_part34
  rw [same_k0_part9]
  rfl
theorem same_k0_part35 : KernelIdeal.k0_part35 (F := F) = Kernel.k0_part35 (F := F) := by
  unfold KernelIdeal.k0_part35
  rw [same_k0_part10, same_k0_part11, same_k0_part12]
  rfl
theorem same_k0_part36 : KernelIdeal.k0_part36 (F := F) = Kernel.k0_part36 (F := F) := rfl
theorem same_k0_part37 : KernelIdeal.k0_part37 (F := F) = Kernel.k0_part37 (F := F) := rfl
theorem same_k0_part38 : KernelIdeal.k0_part38 (F := F) = Kernel.k0_part38 (F := F) := rfl
theorem same_k0_part39 : KernelIdeal.k0_part39 (F := F) = Kernel.k0_part39 (F := F) := rfl
theorem same_k0_part40 : KernelIdeal.k0_part40 (F := F) = Kernel.k0_part40 (F := F) := rfl
theorem same_k0_part41 : KernelIdeal.k0_part41 (F := F) = Kernel.k0_part41 (F := F) := rfl
theorem same_k0_part42 : KernelIdeal.k0_part42 (F := F) = Kernel.k0_part42 (F := F) := rfl
theorem same_k0_part43 : KernelIdeal.k0_part43 (F := F) = Kernel.k0_part43 (F := F) := by
  unfold KernelIdeal.k0_part43
  rw [same_k0_part13, same_k0_part14, same_k0_part15]
  rfl
theorem same_k0_part44 : KernelIdeal.k0_part44 (F := F) = Kernel.k0_part44 (F := F) := by
  unfold KernelIdeal.k0_part44
  rw [same_k0_part16, same_k0_part17, same_k0_part18]
  rfl
theorem same_k0_part45 : KernelIdeal.k0_part45 (F := F) = Kernel.k0_part45 (F := F) := rfl
theorem same_k0_part46 : KernelIdeal.k0_part46 (F := F) = Kernel.k0_part46 (F := F) := rfl
theorem same_k0_part47 : KernelIdeal.k0_part47 (F := F) = Kernel.k0_part47 (F := F) := rfl
theorem same_k0_part48 : KernelIdeal.k0_part48 (F := F) = Kernel.k0_part48 (F := F) := rfl
theorem same_k0_part49 : KernelIdeal.k0_part49 (F := F) = Kernel.k0_part49 (F := F) := rfl
theorem same_k0_part50 : KernelIdeal.k0_part50 (F := F) = Kernel.k0_part50 (F := F) := rfl
theorem same_k0_part51 : KernelIdeal.k0_part51 (F := F) = Kernel.k0_part51 (F := F) := rfl
theorem same_k0_part52 : KernelIdeal.k0_part52 (F := F) = Kernel.k0_part52 (F := F) := by
  unfold KernelIdeal.k0_part52
  rw [same_k0_part19, same_k0_part20]
  rfl
theorem same_k0_part53 : KernelIdeal.k0_part53 (F := F) = Kernel.k0_part53 (F := F) := rfl
theorem same_k0_part54 : KernelIdeal.k0_part54 (F := F) = Kernel.k0_part54 (F := F) := rfl
theorem same_k0_part55 : KernelIdeal.k0_part55 (F := F) = Kernel.k0_part55 (F := F) := rfl
theorem same_k0_part56 : KernelIdeal.k0_part56 (F := F) = Kernel.k0_part56 (F := F) := rfl
theorem same_k0_part57 : KernelIdeal.k0_part57 (F := F) = Kernel.k0_part57 (F := F) := rfl
theorem same_k0_part58 : KernelIdeal.k0_part58 (F := F) = Kernel.k0_part58 (F := F) := rfl
theorem same_k0_part59 : KernelIdeal.k0_part59 (F := F) = Kernel.k0_part59 (F := F) := rfl
theorem same_k0_part60 : KernelIdeal.k0_part60 (F := F) = Kernel.k0_part60 (F := F) := rfl
theorem same_k0_part61 : KernelIdeal.k0_part61 (F := F) = Kernel.k0_part61 (F := F) := rfl
theorem same_k0_part62 : KernelIdeal.k0_part62 (F := F) = Kernel.k0_part62 (F := F) := rfl
theorem same_k0_part63 : KernelIdeal.k0_part63 (F := F) = Kernel.k0_part63 (F := F) := rfl
theorem same_k0_part64 : KernelIdeal.k0_part64 (F := F) = Kernel.k0_part64 (F := F) := rfl
theorem same_k0_part65 : KernelIdeal.k0_part65 (F := F) = Kernel.k0_part65 (F := F) := rfl
theorem same_k0_part66 : KernelIdeal.k0_part66 (F := F) = Kernel.k0_part66 (F := F) := rfl
theorem same_k0_part67 : KernelIdeal.k0_part67 (F := F) = Kernel.k0_part67 (F := F) := rfl
theorem same_k0_part68 : KernelIdeal.k0_part68 (F := F) = Kernel.k0_part68 (F := F) := rfl
theorem same_k0_part69 : KernelIdeal.k0_part69 (F := F) = Kernel.k0_part69 (F := F) := rfl
theorem same_k0_part70 : KernelIdeal.k0_part70 (F := F) = Kernel.k0_part70 (F := F) := rfl
theorem same_k0_part71 : KernelIdeal.k0_part71 (F := F) = Kernel.k0_part71 (F := F) := rfl
theorem same_k0_part72 : KernelIdeal.k0_part72 (F := F) = Kernel.k0_part72 (F := F) := rfl
theorem same_k0_part73 : KernelIdeal.k0_part73 (F := F) = Kernel.k0_part73 (F := F) := rfl
theorem same_k0_part74 : KernelIdeal.k0_part74 (F := F) = Kernel.k0_part74 (F := F) := rfl
theorem same_k0_part75 : KernelIdeal.k0_part75 (F := F) = Kernel.k0_part75 (F := F) := rfl
theorem same_k0_part76 : KernelIdeal.k0_part76 (F := F) = Kernel.k0_part76 (F := F) := rfl
theorem same_k0_part77 : KernelIdeal.k0_part77 (F := F) = Kernel.k0_part77 (F := F) := rfl
theorem same_k0_part78 : KernelIdeal.k0_part78 (F := F) = Kernel.k0_part78 (F := F) := rfl
theorem same_k0_part79 : KernelIdeal.k0_part79 (F := F) = Kernel.k0_part79 (F := F) := rfl
theorem same_k0_part80 : KernelIdeal.k0_part80 (F := F) = Kernel.k0_part80 (F := F) := rfl
theorem same_k0_part81 : KernelIdeal.k0_part81 (F := F) = Kernel.k0_part81 (F := F) := rfl
theorem same_k0_part82 : KernelIdeal.k0_part82 (F := F) = Kernel.k0_part82 (F := F) := rfl
theorem same_k0_part83 : KernelIdeal.k0_part83 (F := F) = Kernel.k0_part83 (F := F) := rfl
theorem same_k0_part84 : KernelIdeal.k0_part84 (F := F) = Kernel.k0_part84 (F := F) := rfl
theorem same_k0_part85 : KernelIdeal.k0_part85 (F := F) = Kernel.k0_part85 (F := F) := rfl
theorem same_k0_part86 : KernelIdeal.k0_part86 (F := F) = Kernel.k0_part86 (F := F) := rfl

end Cert.Proof
end
-- ==== Proof.SameB.lean ====
module

public import proofs.«01_k».proof.Proof.Same

@[expose] public section
set_option maxRecDepth 20000
noncomputable section

/-!
So is the whole body, and the table of bodies.
-/

namespace Cert.Proof

open Idealize.ShloMosaic Idealize.SL.Sem
variable {F : FTy → Type} [FloatOps F] [hK : Kernel.Facts] [hKI : KernelIdeal.Facts]

set_option maxHeartbeats 4000000 in
theorem same_k0_part87 : KernelIdeal.k0_part87 (F := F) = Kernel.k0_part87 (F := F) := by
  funext arg0 harg0 arg1 harg1 arg2 harg2 arg3 harg3 arg4 harg4 arg5 harg5 arg6 harg6 arg7 arg8 arg9 harg9 arg10 arg11 arg12 arg13 arg14 arg15 arg16 harg16 arg17 harg17 arg18 arg19
  unfold KernelIdeal.k0_part87 Kernel.k0_part87
  refine bind_same (by rw [same_k0_part21]) ?_
  rintro ⟨v0, k0_hw1, v1, k0_hw2, v2, v3, v4, k0_hw5, d5, v7⟩
  refine bind_same (by rw [same_k0_part22]) fun _ => ?_
  refine bind_same (by rw [same_k0_part23]) fun _ => ?_
  refine bind_same (by rw [same_k0_part24]) ?_
  rintro ⟨v95, k0_hw6⟩
  refine bind_same (by rw [same_k0_part25]) fun _ => ?_
  refine bind_same (by rw [same_k0_part26]) fun _ => ?_
  refine bind_same (by rw [same_k0_part27]) fun _ => ?_
  refine bind_same (by rw [same_k0_part28]) ?_
  rintro ⟨v179, k0_hw8⟩
  refine bind_same (by rw [same_k0_part29]) fun _ => ?_
  refine bind_same (by rw [same_k0_part30]) fun _ => ?_
  refine bind_same (by rw [same_k0_part31]) ?_
  rintro ⟨v257, k0_hw10, v259, v261, v263, cst_323⟩
  refine bind_same (by rw [same_k0_part32]) fun _ => ?_
  refine bind_same (by rw [same_k0_part33]) fun _ => ?_
  refine bind_same (by rw [same_k0_part34]) fun _ => ?_
  refine bind_same (by rw [same_k0_part35]) ?_
  rintro ⟨v351, k0_hw12, v353, v355⟩
  refine bind_same (by rw [same_k0_part36]) fun _ => ?_
  refine bind_same (by rw [same_k0_part37]) fun _ => ?_
  refine bind_same (by rw [same_k0_part38]) fun _ => ?_
  refine bind_same (by rw [same_k0_part39]) ?_
  rintro ⟨v463, v464, k0_hw15⟩
  refine bind_same (by rw [same_k0_part40]) fun _ => ?_
  refine bind_same (by rw [same_k0_part41]) fun _ => ?_
  refine bind_same (by rw [same_k0_part42]) fun _ => ?_
  refine bind_same (by rw [same_k0_part43]) fun _ => ?_
  refine bind_same (by rw [same_k0_part44]) ?_
  rintro ⟨v572, k0_hw17⟩
  refine bind_same (by rw [same_k0_part45]) ?_
  rintro ⟨v605, v606⟩
  refine bind_same (by rw [same_k0_part46]) fun _ => ?_
  refine bind_same (by rw [same_k0_part47]) fun _ => ?_
  refine bind_same (by rw [same_k0_part48]) fun _ => ?_
  refine bind_same (by rw [same_k0_part49]) ?_
  rintro ⟨v701, v711⟩
  refine bind_same (by rw [same_k0_part50]) fun _ => ?_
  refine bind_same (by rw [same_k0_part51]) fun _ => ?_
  refine bind_same (by rw [same_k0_part52]) fun _ => ?_
  refine bind_same (by rw [same_k0_part53]) fun _ => ?_
  refine bind_same (by rw [same_k0_part54]) ?_
  rintro ⟨v833, v834, k0_hw25, v843⟩
  refine bind_same (by rw [same_k0_part55]) fun _ => ?_
  refine bind_same (by rw [same_k0_part56]) ?_
  rintro ⟨v889, k0_hw26, v891, v893⟩
  refine bind_same (by rw [same_k0_part57]) ?_
  rintro ⟨v922, v923, k0_hw28, v925, v927⟩
  refine bind_same (by rw [same_k0_part58]) fun _ => ?_
  refine bind_same (by rw [same_k0_part59]) fun _ => ?_
  refine bind_same (by rw [same_k0_part60]) fun _ => ?_
  refine bind_same (by rw [same_k0_part61]) fun _ => ?_
  refine bind_same (by rw [same_k0_part62]) fun _ => ?_
  refine bind_same (by rw [same_k0_part63]) fun _ => ?_
  refine bind_same (by rw [same_k0_part64]) fun _ => ?_
  refine bind_same (by rw [same_k0_part65]) fun _ => ?_
  refine bind_same (by rw [same_k0_part66]) fun _ => ?_
  refine bind_same (by rw [same_k0_part67]) fun _ => ?_
  refine bind_same (by rw [same_k0_part68]) ?_
  rintro ⟨v1219, v1221⟩
  refine bind_same (by rw [same_k0_part69]) ?_
  rintro ⟨v1257, c16_i32_1423, v1258⟩
  refine bind_same (by rw [same_k0_part70]) ?_
  rintro ⟨v1295, c16_i32_1445⟩
  refine bind_same (by rw [same_k0_part71]) fun _ => ?_
  refine bind_same (by rw [same_k0_part72]) fun _ => ?_
  refine bind_same (by rw [same_k0_part73]) fun _ => ?_
  refine bind_same (by rw [same_k0_part74]) fun _ => ?_
  refine bind_same (by rw [same_k0_part75]) fun _ => ?_
  refine bind_same (by rw [same_k0_part76]) fun _ => ?_
  refine bind_same (by rw [same_k0_part77]) fun _ => ?_
  refine bind_same (by rw [same_k0_part78]) fun _ => ?_
  refine bind_same (by rw [same_k0_part79]) fun _ => ?_
  refine bind_same (by rw [same_k0_part80]) fun _ => ?_
  rfl

set_option maxHeartbeats 4000000 in
theorem same_cc0_body : KernelIdeal.cc0_body (F := F) = Kernel.cc0_body (F := F) := by
  funext arg0 harg0 arg1 harg1 arg2 harg2 arg3 harg3 arg4 harg4 arg5 harg5 arg6 harg6 arg7 arg8 arg9 harg9 arg10 arg11 arg12 arg13 arg14 arg15 arg16 harg16 arg17 harg17 arg18 arg19
  unfold KernelIdeal.cc0_body Kernel.cc0_body
  refine bind_same (by rw [same_k0_part87]) ?_
  rintro ⟨d5, v7, c10_i32_1658⟩
  refine bind_same (by rw [same_k0_part81]) ?_
  rintro ⟨v1691, c16_i32_1681⟩
  refine bind_same (by rw [same_k0_part82]) ?_
  rintro ⟨v1725, c16_i32_1703, v1726⟩
  refine bind_same (by rw [same_k0_part83]) fun _ => ?_
  refine bind_same (by rw [same_k0_part84]) fun _ => ?_
  refine bind_same (by rw [same_k0_part85]) fun _ => ?_
  refine bind_same (by rw [same_k0_part86]) fun _ => ?_
  rfl

theorem same_defs₀ : KernelIdeal.defs₀ (F := F) = Kernel.defs₀ (F := F) := by
  unfold KernelIdeal.defs₀ Kernel.defs₀
  rw [same_cc0_body]
  refine congrArg _ (funext fun l => funext fun x => ?_)
  match l, x with
  | 0, (t, s) => rfl
  | ⟨_ + 1, h⟩, _ => exact absurd h (Nat.not_lt.2 (Nat.le_add_left _ _))

theorem same_defs : KernelIdeal.defs (F := F) = Kernel.defs (F := F) := by
  unfold KernelIdeal.defs Kernel.defs
  rw [same_defs₀]
  rfl

end Cert.Proof
end
-- ==== Proof.SameM0.lean ====
module

public import proofs.«01_k».proof.Proof.SameA

@[expose] public section
set_option maxRecDepth 20000
noncomputable section

/-!
The host steps before the kernel are equal.
-/

namespace Cert.Proof

open Idealize.ShloMosaic Idealize.SL.Sem
variable {F : FTy → Type} [FloatOps F] [hK : Kernel.Facts] [hKI : KernelIdeal.Facts]

set_option maxHeartbeats 8000000 in
theorem same_main_part0 : KernelIdeal.main_part0 (F := F) = Kernel.main_part0 (F := F) := by
  unfold KernelIdeal.main_part0 Kernel.main_part0
  funext d
  repeat refine bind_same rfl fun _ => ?_
  rfl

end Cert.Proof
end
-- ==== Proof.SameM1.lean ====
module

public import proofs.«01_k».proof.Proof.SameA

@[expose] public section
set_option maxRecDepth 20000
noncomputable section

/-!
The host steps before the kernel are equal.
-/

namespace Cert.Proof

open Idealize.ShloMosaic Idealize.SL.Sem
variable {F : FTy → Type} [FloatOps F] [hK : Kernel.Facts] [hKI : KernelIdeal.Facts]

set_option maxHeartbeats 8000000 in
theorem same_main_part1 : KernelIdeal.main_part1 (F := F) = Kernel.main_part1 (F := F) := by
  unfold KernelIdeal.main_part1 Kernel.main_part1
  funext d
  repeat refine bind_same rfl fun _ => ?_
  rfl

end Cert.Proof
end
-- ==== Proof.SameM2.lean ====
module

public import proofs.«01_k».proof.Proof.SameA

@[expose] public section
set_option maxRecDepth 20000
noncomputable section

/-!
The host steps before the kernel are equal.
-/

namespace Cert.Proof

open Idealize.ShloMosaic Idealize.SL.Sem
variable {F : FTy → Type} [FloatOps F] [hK : Kernel.Facts] [hKI : KernelIdeal.Facts]

set_option maxHeartbeats 8000000 in
theorem same_main_part2 : KernelIdeal.main_part2 (F := F) = Kernel.main_part2 (F := F) := by
  unfold KernelIdeal.main_part2 Kernel.main_part2
  funext d
  repeat refine bind_same rfl fun _ => ?_
  rfl

end Cert.Proof
end
-- ==== Proof.SameM.lean ====
module

public import proofs.«01_k».proof.Proof.SameM0
public import proofs.«01_k».proof.Proof.SameM1
public import proofs.«01_k».proof.Proof.SameM2

@[expose] public section
set_option maxRecDepth 20000
noncomputable section

/-!
The whole host program is equal.
-/

namespace Cert.Proof

open Idealize.ShloMosaic Idealize.SL.Sem
variable {F : FTy → Type} [FloatOps F] [hK : Kernel.Facts] [hKI : KernelIdeal.Facts]

theorem same_main : KernelIdeal.main (F := F) = Kernel.main (F := F) := by
  funext d
  unfold KernelIdeal.main Kernel.main
  refine bind_same (congrFun same_main_part0 d) fun _ => ?_
  refine bind_same (congrFun same_main_part1 d) fun _ => ?_
  exact congrFun same_main_part2 d

end Cert.Proof
end
-- ==== Proof.RefVal.lean ====
/- What the reference leaves in its result, as one function of its two arguments. -/
module

public import proofs.«01_k».proof.Proof.Gen.ReferenceIdeal.Value

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem

variable {F : FTy → Type} [FloatOps F]

def p0 : S1x1.Idx := fun a => match a with | 0 => ⟨0, by decide⟩ | 1 => ⟨0, by decide⟩

/-- The quantised array, of the array and its maximum. -/
def G (y : Vec F S4096x8192 .f32) (a : Vec F S1x1 .f32) : Vec F S4096x8192 .f32 := k0_pay1 (a p0) y

theorem hz : (![0, 0] : Fin 2 → Nat) = fun _ => 0 := funext fun a => by fin_cases a <;> rfl

theorem out_eq (c : Dev nD) (arg0 : Memref sig .tc .vmem S4096x8192 .f32) (h0 : arg0.IsWhole)
    (arg1 : Memref sig .tc .smem S1x1 .f32) (h1 : arg1.IsWhole) (arg2 : Memref sig .tc .vmem S4096x8192 .f32)
    (h2 : arg2.IsWhole) (x0 : Vec F S4096x8192 .f32) (x1 : Vec F S1x1 .f32) :
    out0_A_2 c arg0 h0 arg1 h1 arg2 h2 x0 x1 = G x0 x1 := by
  unfold out0_A_2
  rw [View.read_writes_junk_eq_canon]
  show View.canon ([⟨Rect.unit ![0, 0] S4096x8192.size inb_S4096x8192_S4096x8192_0_0,
      k0_pay1
        (View.readAt (Elt F) arg1.view (Rect.unit (s := S1x1) ![0, 0] S1x1.size inb_S1x1_S1x1_0_0).toLoadRect (h1.unread x1) _)
        (View.readAt (Elt F) arg0.view (Rect.unit ![0, 0] S4096x8192.size inb_S4096x8192_S4096x8192_0_0).toLoadRect (h0.unread x0))⟩] :
      List (View.Piece (Elt F) S4096x8192 .f32)) = _
  rw [View.canon_unit_zero hz, View.readAt_eq_ld, View.readAt_eq_ld, h1.read_unread, h0.read_unread,
    View.ld_unit_zero hz, View.ld_unit_zero hz]
  exact congrFun (congrArg k0_pay1 (congrArg x1 (funext fun a => by match a with | ⟨0, _⟩ => rfl | ⟨1, _⟩ => rfl))) x0

variable (m : (ℓ : Loc nD τ sig) → Buf (Elt F) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)

theorem emb0 (t : Fin cfg0.N) (j : S4096x8192.Idx) : ((cfg0.win 0).blk t).view.emb j = j := by
  obtain ⟨e0, e1⟩ := idx_zero0 t
  funext a; apply Fin.ext
  match a with
  | ⟨0, _⟩ => show win0_0.index t (0 : Fin 2) * 4096 + 1 * (j 0).val = (j 0).val; omega
  | ⟨1, _⟩ => show win0_0.index t (1 : Fin 2) * 8192 + 1 * (j 1).val = (j 1).val; omega

theorem emb1 (t : Fin cfg0.N) (j : S1x1.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 1 + 1 * (j 1).val = (j 1).val; omega

theorem emb2 (t : Fin cfg0.N) (j : S4096x8192.Idx) : ((cfg0.win 2).blk t).view.emb j = j := by
  obtain ⟨e0, e1⟩ := idx_zero2 t
  funext a; apply Fin.ext
  match a with
  | ⟨0, _⟩ => show win0_2.index t (0 : Fin 2) * 4096 + 1 * (j 0).val = (j 0).val; omega
  | ⟨1, _⟩ => show win0_2.index t (1 : Fin 2) * 8192 + 1 * (j 1).val = (j 1).val; omega

theorem rd0 (t : Fin cfg0.N) (X : Vec F S4096x8192 .f32) : ((cfg0.win 0).blk t).view.read (Elt F) X = X := by
  funext j; show X (((cfg0.win 0).blk t).view.emb j) = X j; rw [emb0]
theorem rd1 (t : Fin cfg0.N) (X : Vec F S1x1 .f32) : ((cfg0.win 1).blk t).view.read (Elt F) X = X := by
  funext j; show X (((cfg0.win 1).blk t).view.emb j) = X j; rw [emb1]

theorem iblk0_eq (c : Dev nD) (t : Fin cfg0.N) : iblk m c 0 t = V m c main_v2 := rd0 t (V m c main_v2)
theorem iblk1_eq (c : Dev nD) (t : Fin cfg0.N) : iblk m c 1 t = V m c main_v5 := rd1 t (V m c main_v5)

theorem cut2_eq (t : Fin cfg0.N) (X : Vec F S4096x8192 .f32) :
    (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) :
    (dats m 0 c).flushed 2 t = ((cfg0.win 2).blk t).view.read (Elt F) (G (V m c main_v2) (V m c main_v5)) := by
  rw [flushed2_A, out_eq, iblk0_eq, iblk1_eq]
  exact cut2_eq t _

theorem covered2 (i : S4096x8192.Idx) :
    ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

theorem final2 (c : Dev nD) : (dats m 0 c).arrAt 2 cfg0.N = G (V m c main_v2) (V m c main_v5) :=
  (dats m 0 c).arrAt_eq_of_cover 2 (G (V m c main_v2) (V m c main_v5)) (fun t _ => flushed2_eq m c t) covered2

/-- The product, no less than zero. -/
def rel (x : Vec F S4096x4096 .f32) (w : Vec F S4096x8192 .f32) : Vec F S4096x8192 .f32 :=
  maximumf (Host.dotGeneral dot_S4096x4096_S4096x8192_S4096x8192_1_0_0_1_n_n none x w)
    (broadcastInDim S4096x8192 ![] bcast_S_S4096x8192 (constant S_ .f32 0x00000000#32))

/-- The largest magnitude in it. -/
def big (x : Vec F S4096x4096 .f32) (w : Vec F S4096x8192 .f32) : Vec F S_ .f32 :=
  Host.reduce FloatOps.maximumf (Host.absf (rel x w)) (constant S_ .f32 0xFF800000#32) reducesTo_S4096x8192_S_d0_1 h_S_

theorem V_v2 (c : Dev nD) : V m c main_v2 = rel (m ((c : Thread nD τ).loc main_arg0)) (m ((c : Thread nD τ).loc main_arg1)) := by
  unfold rel
  unfold_abbrev_sides
  after_results

theorem V_v5 (c : Dev nD) : V m c main_v5 = shapeCast S1x1
    (big (m (c, Proc.devRef .tc main_arg0)) (m (c, Proc.devRef .tc main_arg1))) shapeCasts_S_S1x1 := by
  unfold big rel
  unfold_abbrev_sides
  after_results
  generalize Host.reduce _ _ _ _ _ = z
  rfl

/-- The result as a function of the arguments. -/
def fin (x : Vec F S4096x4096 .f32) (w : Vec F S4096x8192 .f32) : Vec F S4096x8192 .f32 :=
  G (rel x w) (shapeCast S1x1 (big x w) shapeCasts_S_S1x1)

theorem run : θ_run defs (onTc (τ := τ) (main (F := F))) ⟨m, fun _ => 0, ρ⟩ fun r => ∀ c : Dev nD,
      r.2.mem ((c : Thread nD τ).loc main_v6) = fin (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).trans (by rw [V_v2, V_v5]; rfl)), (h c).2⟩) (run_blocks m ρ)

end Cert.Proof.Ref

end
-- ==== Proof.Val.lean ====
/- The kernel's result and the reference's are one function of the arguments. -/
module

public import proofs.«01_k».proof.Proof.Run
public import proofs.«01_k».proof.Proof.RefVal
public import Idealize.ShloMosaic.Lib.Pointwise
public import Idealize.ShloMosaic.PureOps.Ideal.Laws
public import Idealize.ShloMosaic.Lib.Layout

@[expose] public section

set_option maxRecDepth 20000

noncomputable section

namespace Cert.Proof

open Cert.Kernel Cert.Kernel.Gen

open Idealize.ShloMosaic Idealize.ShloMosaic.TcCoe

/-! ## Maxima -/

theorem bot_f32 : (FloatOps.ofBits .f32 0xFF800000#32 : Ideal .f32) = (⊥ : EReal) := by
  show Ideal.ofBits .f32 0xFF800000#32 = ⊥
  simp [Ideal.ofBits, Ideal.ieee]

theorem zero_f32 : (Scalar.ofBits .f32 0x00000000#32 : Ideal .f32) = (0 : EReal) := Ideal.ofBits_zero_f32

/-- A maximum of all entries is at most `b` when they are. -/
theorem mr_le {s : Shape} {axes : List (Fin s.rank)} (src : FVec Ideal s .f32) (h : s.Reduces axes S1) (hφ : FKind.Formats .f32)
    (ha : 0xFF800000#32 = FKind.maximumf.neutral .f32 hφ) (j : S1.Idx) (b : EReal) :
    multiReduction .maximumf axes S1 src 0xFF800000#32 h hφ ha j ≤ b ↔ ∀ i, src i ≤ b := by
  rw [multiReduction_maximumf_eq_fold, bot_f32]
  have hj : ∀ i, h.drop i = j := fun i => funext fun a => by
    fin_cases a; exact Subsingleton.elim (α := Fin 1) _ _
  rw [Finset.filter_true_of_mem fun i _ => hj i]
  refine (Finset.fold_max_le b).trans ?_
  simp

theorem sc_le {s t : Shape} (x : s.Idx → EReal) (h : s.ShapeCasts t) (b : EReal) : (∀ j, shapeCast t x h j ≤ b) ↔ ∀ i, x i ≤ b :=
  ⟨fun H i => by
    have := H ((Shape.reshapeEquiv h).symm i)
    unfold shapeCast at this
    rwa [Equiv.apply_symm_apply] at this, fun H j => H _⟩

theorem tmx_le (V : FVec Ideal S128x512 .f32) (b : EReal) : tmx V ≤ b ↔ ∀ i, V i ≤ b :=
  (mr_le _ _ (.inl rfl) rfl _ b).trans (sc_le _ _ b)

theorem pay3_le (x : Vec Ideal S256x4096 .f32) (w : Vec Ideal S4096x512 .f32) (b : EReal) : k0_pay3 x w ≤ b ↔ ∀ i, k0_pay2 x w i ≤ b :=
  (mr_le _ _ (.inl rfl) rfl _ b).trans (sc_le _ _ b)

theorem pay62_le (v : Vec Ideal S16x8x128 .f32) (j : S1.Idx) (b : EReal) : k0_pay62 v j ≤ b ↔ ∀ i, v i ≤ b :=
  (mr_le _ _ (.inl rfl) rfl _ b).trans (sc_le _ _ b)

theorem rmx_le (X : Dev nD → Vec Ideal S256x4096 .f32) (Wt : Dev nD → Vec Ideal S4096x512 .f32) (c : Dev nD) (b : EReal) : ∀ n, rmx X Wt c n ≤ b ↔
    (∀ i, k0_pay2 (X c) (Wt c) i ≤ b) ∧ ∀ m < n, ∀ i, prd X Wt c m i ≤ b
  | 0 => (pay3_le _ _ b).trans (by simp)
  | n + 1 => by
    refine (max_le_iff (a := (rmx X Wt c n : EReal))).trans ?_
    rw [rmx_le X Wt c b n, tmx_le]
    constructor
    · rintro ⟨⟨h0, h1⟩, h2⟩
      refine ⟨h0, fun m hm => ?_⟩
      rcases Nat.lt_succ_iff_lt_or_eq.mp hm with h | rfl
      · exact h1 m h
      · exact h2
    · rintro ⟨h0, h1⟩
      exact ⟨⟨h0, fun m hm => h1 m (by omega)⟩, h1 n (by omega)⟩

theorem big_le (x : Vec Ideal Cert.ReferenceIdeal.S4096x4096 .f32) (w : Vec Ideal Cert.ReferenceIdeal.S4096x8192 .f32) (j) (b : EReal) : Ref.big x w j ≤ b ↔ ∀ i, max (Ref.rel x w i) (-Ref.rel x w i : EReal) ≤ b := by
  unfold Ref.big
  rw [Host.reduce_eq_fold]
  have hj : ∀ i, Cert.ReferenceIdeal.Gen.reducesTo_S4096x8192_S_d0_1.drop i = j := fun i => funext fun a => a.elim0
  rw [Finset.filter_true_of_mem fun i _ => hj i]
  refine (Finset.fold_max_le b).trans ?_
  rw [show (constant Cert.ReferenceIdeal.S_ .f32 0xFF800000#32 : FVec Ideal _ .f32) _ = (⊥ : EReal) from bot_f32]
  simp only [Finset.mem_univ, bot_le, true_and, true_implies]
  exact Iff.rfl

/-! ## Quantising -/

theorem quant (y a k : EReal) (h0 : k ≠ 0) (h1 : k ≠ ⊤) (h2 : k ≠ ⊥) : min (y * Ideal.div k a) k * Ideal.div a k = min (Ideal.div y (Ideal.div a k)) k * Ideal.div a k := by
  have hd : Ideal.div a k = a * k⁻¹ := if_neg h0
  by_cases ha : a = 0
  · subst ha; rw [hd]; simp
  · have hk : k⁻¹ ≠ 0 := by
      intro h; exact h0 (by rw [← EReal.inv_inv h2 h1, h, EReal.inv_zero])
    have hak : a * k⁻¹ ≠ 0 := mul_ne_zero ha hk
    have e : y * Ideal.div k a = Ideal.div y (Ideal.div a k) := by
      rw [hd]
      unfold Ideal.div
      rw [if_neg ha, if_neg hak, EReal.mul_inv, EReal.inv_inv h2 h1, mul_comm k]
    rw [e]

/-! ## Products -/

theorem rel_at (x : Vec Ideal Cert.ReferenceIdeal.S4096x4096 .f32) (w : Vec Ideal Cert.ReferenceIdeal.S4096x8192 .f32) (j) :
    Ref.rel x w j = max (∑ k : Fin 4096, x (ix2 (j 0) k) * w (ix2 k (j 1)) : EReal) 0 := by
  unfold Ref.rel
  pointwise

theorem pay2_at (x : Vec Ideal S256x4096 .f32) (w : Vec Ideal S4096x512 .f32) (j) :
    k0_pay2 x w j = max (∑ k : Fin 4096, x (ix2 (j 0) k) * w (ix2 k (j 1)) : EReal) 0 := by
  unfold k0_pay2
  pointwise

theorem gm_at (x : Vec Ideal S128x4096 .f32) (w : Vec Ideal S4096x512 .f32) (j) :
    gm x w j = max (∑ k : Fin 4096, x (ix2 (j 0) k) * w (ix2 k (j 1)) : EReal) 0 := by
  unfold gm
  pointwise

variable (xg : Vec Ideal Cert.ReferenceIdeal.S4096x4096 .f32) (wg : Vec Ideal Cert.ReferenceIdeal.S4096x8192 .f32)

/-- A device's rows of x, its columns of the weights, and its columns of the product. -/
def Xb (c : Dev nD) : Vec Ideal S256x4096 .f32 := Layout.block ⟨2, ![256, 4096]⟩ ⟨2, ![4096, 4096]⟩ 0 16 c xg
def Wb (c : Dev nD) : Vec Ideal S4096x512 .f32 := Layout.block ⟨2, ![4096, 512]⟩ ⟨2, ![4096, 8192]⟩ 1 16 c wg
def Pb (c : Dev nD) : Vec Ideal S4096x512 .f32 := Layout.block ⟨2, ![4096, 512]⟩ ⟨2, ![4096, 8192]⟩ 1 16 c (Ref.rel xg wg)

theorem own_b (c : Dev nD) : rowO c (Pb xg wg c) = k0_pay2 (Xb xg c) (Wb wg c) := by
  funext y
  rw [pay2_at]
  unfold rowO VecWindow.window Pb
  rw [Layout.block_apply, rel_at]
  refine congrArg (fun z : EReal => max z 0) (Finset.sum_congr rfl fun k _ => congrArg₂ (fun a b : EReal => a * b)
    (congrArg xg (funext fun a => Fin.ext ?_)) (congrArg wg (funext fun a => Fin.ext ?_)))
  · match a with
    | 0 => show c.val * 256 + 1 * (y 0).val = c.val * 256 + (y 0).val; omega
    | 1 => rfl
  · match a with
    | 0 => rfl
    | 1 => show c.val * 512 + (0 + 1 * (y 1).val) = c.val * 512 + (y 1).val; omega

theorem prd_b (c : Dev nD) (m : ℕ) (h : rowC c m < 32) : rowR (rowC c m) h (Pb xg wg c) = prd (Xb xg) (Wb wg) c m := by
  funext y
  unfold prd
  rw [gm_at]
  unfold rowR VecWindow.window Pb
  rw [Layout.block_apply, rel_at]
  refine congrArg (fun z : EReal => max z 0) (Finset.sum_congr rfl fun k _ => congrArg₂ (fun a b : EReal => a * b)
    (congrArg xg (funext fun a => Fin.ext ?_)) (congrArg wg (funext fun a => Fin.ext ?_)))
  · match a with
    | 0 =>
      show (2 * (srcDev c (srcAt m)).val + (srcHf (srcAt m)).val) * 128 + 1 * (y 0).val
        = (srcDev c (srcAt m)).val * 256 + ((srcHf (srcAt m)).val * 128 + 1 * (y 0).val)
      omega
    | 1 => show k.val = 0 + 1 * k.val; omega
  · match a with
    | 0 => rfl
    | 1 => show c.val * 512 + (0 + 1 * (y 1).val) = c.val * 512 + (y 1).val; omega

theorem good_b (c : Dev nD) : Good (Xb xg) (Wb wg) c 30 (Pb xg wg c) :=
  ⟨own_b xg wg c, fun m hm _ => prd_b xg wg c m _⟩

theorem bl_le (v : Vec Ideal Cert.ReferenceIdeal.S4096x8192 .f32) (b : EReal) (H : ∀ (c : Dev nD) q, (Layout.block S4096x512 ⟨2, ![4096, 8192]⟩ 1 16 c v (by decide) q : EReal) ≤ b) (p) : v p ≤ b := by
  let c : Dev nD := ⟨(p 1).val / 512, by have h := (p 1).isLt; have : (p 1).val < 8192 := h; show _ < 16; omega⟩
  let q : S4096x512.Idx := fun a => match a with
    | 0 => ⟨(p 0).val, (p 0).isLt⟩
    | 1 => ⟨(p 1).val % 512, Nat.mod_lt _ (by decide)⟩
  refine le_trans (le_of_eq (congrArg v (funext fun a => Fin.ext ?_))) (H c q)
  match a with
  | 0 => rfl
  | 1 => show (p 1).val = (p 1).val / 512 * 512 + (p 1).val % 512; omega

theorem rows_le (V : Vec Ideal S4096x512 .f32) (b : EReal) (c : Dev nD) (ho : ∀ y, (rowO c V y : EReal) ≤ b)
    (hr : ∀ m (h : m < 30) y, (rowR (rowC c m) (rowC_lt c ⟨m, h⟩) V y : EReal) ≤ b) (q) : V q ≤ b := by
  have hlt : (q 0).val < 4096 := (q 0).isLt
  rcases rows_cover c ⟨(q 0).val / 128, by omega⟩ with h | ⟨m, h⟩
  · have h' : (q 0).val / 128 / 2 = c.val := h
    refine le_trans (le_of_eq (congrArg V (funext fun a => Fin.ext ?_)))
      (ho (fun a => match a with | 0 => ⟨(q 0).val - c.val * 256, by show _ < 256; omega⟩ | 1 => ⟨(q 1).val, (q 1).isLt⟩))
    match a with
    | 0 => show (q 0).val = c.val * 256 + 1 * ((q 0).val - c.val * 256); omega
    | 1 => show (q 1).val = 0 + 1 * (q 1).val; omega
  · have h' : rowC c m.val = (q 0).val / 128 := h
    refine le_trans (le_of_eq (congrArg V (funext fun a => Fin.ext ?_)))
      (hr m.val m.isLt (fun a => match a with | 0 => ⟨(q 0).val - rowC c m.val * 128, by show _ < 128; omega⟩ | 1 => ⟨(q 1).val, (q 1).isLt⟩))
    match a with
    | 0 => show (q 0).val = rowC c m.val * 128 + 1 * ((q 0).val - rowC c m.val * 128); omega
    | 1 => show (q 1).val = 0 + 1 * (q 1).val; omega

theorem le_rows (V : Vec Ideal S4096x512 .f32) (b : EReal) (c : Dev nD) (H : ∀ q, V q ≤ b) :
    (∀ y, (rowO c V y : EReal) ≤ b) ∧ ∀ m (h : m < 30) y, (rowR (rowC c m) (rowC_lt c ⟨m, h⟩) V y : EReal) ≤ b :=
  ⟨fun _ => H _, fun _ _ _ => H _⟩

theorem le_bl (v : Vec Ideal Cert.ReferenceIdeal.S4096x8192 .f32) (b : EReal) (H : ∀ p, v p ≤ b) (c : Dev nD) (q) :
    (Layout.block S4096x512 ⟨2, ![4096, 8192]⟩ 1 16 c v (by decide) q : EReal) ≤ b := H _

theorem smax_le (a z : Ideal .f32) (b : EReal) : Scalar.maximumf a z ≤ b ↔ (a : EReal) ≤ b ∧ (z : EReal) ≤ b := max_le_iff

theorem amA_le (X : Dev nD → Vec Ideal S256x4096 .f32) (Wt : Dev nD → Vec Ideal S4096x512 .f32) (b : EReal) :
    (∀ i, amA X Wt i ≤ b) ↔ (∀ c, rmx X Wt c 30 ≤ b) ∧ (0 : EReal) ≤ b := by
  have e : ∀ i, amA X Wt i ≤ b ↔ (rmx X Wt ⟨(i 0).val, (i 0).isLt⟩ 30 : EReal) ≤ b ∧ (0 : EReal) ≤ b := fun i => by
    unfold amA
    rw [zero_f32, smax_le]
  refine (forall_congr' e).trans ⟨fun H => ?_, fun H i => ⟨H.1 _, H.2⟩⟩
  have hc := fun c : Dev nD => H (fun a => match a with | 0 => ⟨c.val, c.isLt⟩ | 1 => ⟨0, by decide⟩ | 2 => ⟨0, by decide⟩)
  exact ⟨fun c => (hc c).1, (hc 0).2⟩

/-- The devices' maxima together are the largest entry of the product. -/
theorem amax_b (j : S1.Idx) (i) : k0_pay62 (amA (Xb xg) (Wb wg)) j = Ref.big xg wg i := by
  refine eq_of_forall_ge_iff (α := EReal) fun b => ?_
  rw [pay62_le, big_le, amA_le]
  have h0 : ∀ p, (0 : EReal) ≤ Ref.rel xg wg p := fun p => by rw [rel_at]; exact le_max_right _ _
  constructor
  · intro ⟨H, hb⟩ p
    have hp : (Ref.rel xg wg p : EReal) ≤ b := by
      refine bl_le (Ref.rel xg wg) b (fun c => rows_le _ b c ?_ ?_) p
      · intro y
        have e := ((rmx_le (Xb xg) (Wb wg) c b 30).mp (H c)).1 y
        rw [← own_b] at e
        exact e
      · intro m h y
        have e := ((rmx_le (Xb xg) (Wb wg) c b 30).mp (H c)).2 m h y
        rw [← prd_b xg wg c m (rowC_lt c ⟨m, h⟩)] at e
        exact e
    exact max_le hp (le_trans (EReal.neg_le_neg_iff.mpr (h0 p)) (by rw [neg_zero]; exact hb))
  · intro H
    have hb : ∀ p, (Ref.rel xg wg p : EReal) ≤ b := fun p => le_trans (le_max_left _ _) (H p)
    refine ⟨fun c => (rmx_le (Xb xg) (Wb wg) c b 30).mpr ?_,
      le_trans (h0 (fun a => match a with | 0 => ⟨0, by decide⟩ | 1 => ⟨0, by decide⟩)) (hb _)⟩
    obtain ⟨ho, hr⟩ := le_rows (Pb xg wg c) b c (le_bl (Ref.rel xg wg) b hb c)
    refine ⟨fun i => ?_, fun m hm i => ?_⟩
    · rw [← own_b]; exact ho i
    · rw [← prd_b xg wg c m (rowC_lt c ⟨m, hm⟩)]; exact hr m hm i

theorem pay1_at (a : FVec Ideal S1 .f32) (y : Vec Ideal S4096x512 .f32) (j) (i) : k0_pay1 a y j = min (y j * Ideal.div (Ideal.ofBits .f32 0x43E00000#32) (a i)) (Ideal.ofBits .f32 0x43E00000#32) * Ideal.div (a i) (Ideal.ofBits .f32 0x43E00000#32) := by
  have e : ∀ k : S1.Idx, k = i := fun k => funext fun a => by fin_cases a; exact Subsingleton.elim (α := Fin 1) _ _
  have hs : shapeCast S4096x512 y shapeCasts_S4096x512_S4096x512 j = y j := by pointwise
  rw [← hs, ← e (Shape.reshapeEquiv shapeCasts_S1_S1x1x1x1 fun a => ⟨![0, 0, 0, 0] a, inpos_S1x1x1x1_p0_0_0_0 a⟩)]
  rfl

theorem k448 : Ideal.ofBits .f32 0x43E00000#32 = ((448 : ℝ) : EReal) := by
  simp [Ideal.ofBits, Ideal.ieee]
  rw [← EReal.coe_mul]
  norm_num

/-- The kernel's result on a device is its columns of the reference's. -/
theorem out_b (c : Dev nD) : outV (Xb xg) (Wb wg) c = Layout.block ⟨2, ![4096, 512]⟩ ⟨2, ![4096, 8192]⟩ 1 16 c (Ref.fin xg wg) := by
  funext j
  unfold outV
  rw [resV_eq _ _ c (good_b xg wg c), pay1_at _ _ j (fun a => match a with | 0 => ⟨0, by decide⟩), amax_b xg wg _ (fun a => a.elim0)]
  rw [quant _ _ _ (by rw [k448]; exact_mod_cast (by norm_num : (448 : ℝ) ≠ 0)) (by rw [k448]; exact EReal.coe_ne_top _) (by rw [k448]; exact EReal.coe_ne_bot _)]
  rw [Layout.block_apply]
  unfold Ref.fin Ref.G
  unfold Cert.ReferenceIdeal.Gen.k0_pay1
  pointwise
  rfl

end Cert.Proof

end
-- ==== Proof.lean ====
module

public import proofs.«01_k».proof.Defs
public import proofs.«01_k».proof.Proof.Launch
public import proofs.«01_k».proof.Proof.SameB
public import proofs.«01_k».proof.Proof.SameM
public import proofs.«01_k».proof.Proof.Gen.KernelIdeal
public import proofs.«01_k».proof.Proof.Val

@[expose] public section

noncomputable section

namespace Cert.Proof

open Idealize.ShloMosaic Idealize.SL.Sem

theorem frame_kernel : Cert.quiescent_Kernel (hKernel := Cert.Kernel.Gen.facts) := by
  intro m g _
  exact (θ_run _ _ _).mono (fun _ h => ⟨fun c => ⟨(h.1 c).1, (h.1 c).2.1⟩, h.2⟩) (run_main m g)

theorem frame_ideal : Cert.quiescent_KernelIdeal (hKernelIdeal := Cert.KernelIdeal.Gen.facts) := by
  intro m g _
  rw [same_defs (F := Ideal), same_main (F := Ideal)]
  exact (θ_run _ _ _).mono (fun _ h => ⟨fun c => ⟨(h.1 c).1, (h.1 c).2.1⟩, h.2⟩) (run_main (F := Ideal) m g)

theorem frame_ref : Cert.quiescent_ReferenceIdeal (hReferenceIdeal := Cert.ReferenceIdeal.Gen.facts) := by
  intro m g _
  exact Cert.ReferenceIdeal.Gen.frame m g

theorem value : Cert.algebraic_KernelIdeal_ReferenceIdeal (hKernelIdeal := Cert.KernelIdeal.Gen.facts) (hReferenceIdeal := Cert.ReferenceIdeal.Gen.facts) := by
  intro m g m' g' _ hin
  refine ⟨Ref.fin (F := Ideal) (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · rw [same_defs (F := Ideal), same_main (F := Ideal)]
    refine (θ_run _ _ _).mono (fun r h c => ⟨(h.1 c).2.2.trans ?_, (h.1 c).1, (h.1 c).2.1⟩) (run_main (F := Ideal) m g)
    have hX : Xm (F := Ideal) m = Xb _ := funext fun c => (Xm_eq (F := Ideal) m c).trans (hin c).1
    have hW : Wm (F := Ideal) m = Wb _ := funext fun c => (Wm_eq (F := Ideal) m c).trans (hin c).2
    rw [hX, hW]
    exact out_b _ _ c
  · exact (θ_run _ _ _).mono (fun r h => h 0) (Ref.run m' g')

theorem claim : Cert.Claim :=
  ⟨Cert.Kernel.Gen.facts, Cert.KernelIdeal.Gen.facts, Cert.ReferenceIdeal.Gen.facts, frame_kernel, frame_ideal, frame_ref, trivial, value⟩

end Cert.Proof

end
